-- ==== Defs.lean ====
def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemKernelIdeal_mem_finite [hPre_mem_finite : Cert.Pre_mem_finite.Facts] (m : (ℓ : Loc Cert.MemKernelIdeal.nD Cert.MemKernelIdeal.τ Cert.MemKernelIdeal.sig) → Buf (Elt Ideal) ℓ) : Prop :=
  ∀ c : Dev Cert.MemKernelIdeal.nD,
    (Cert.Pre_mem_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3))).1 = (fun _ => 1#1)
    ∧ (Cert.Pre_mem_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3))).2.1 = (fun _ => 1#1)
    ∧ (Cert.Pre_mem_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3))).2.2.1 = (fun _ => 1#1)
    ∧ (Cert.Pre_mem_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3))).2.2.2 = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_mem_finite [hPre_mem_finite : Cert.Pre_mem_finite.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3))).1 = (fun _ => 1#1)
    ∧ (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3))).2.1 = (fun _ => 1#1)
    ∧ (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3))).2.2.1 = (fun _ => 1#1)
    ∧ (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3))).2.2.2 = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_norm_finite [hPre_norm_finite : Cert.Pre_norm_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3))).1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3))).2.1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3))).2.2.1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3))).2.2.2 = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_norm_finite [hPre_norm_finite : Cert.Pre_norm_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3))).1 = (fun _ => 1#1)
    ∧ (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3))).2.1 = (fun _ => 1#1)
    ∧ (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3))).2.2.1 = (fun _ => 1#1)
    ∧ (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3))).2.2.2 = (fun _ => 1#1)

def Pre_F2dxKernel (m : (ℓ : Loc Cert.F2dxKernel.nD Cert.F2dxKernel.τ Cert.F2dxKernel.sig) → Buf (Elt Bits) ℓ) : Prop :=
  True

def Pre_F2dxKernelIdeal (m : (ℓ : Loc Cert.F2dxKernelIdeal.nD Cert.F2dxKernelIdeal.τ Cert.F2dxKernelIdeal.sig) → Buf (Elt Ideal) ℓ) : Prop :=
  True

def Pre_F2dxReferenceIdeal (m : (ℓ : Loc Cert.F2dxReferenceIdeal.nD Cert.F2dxReferenceIdeal.τ Cert.F2dxReferenceIdeal.sig) → Buf (Elt Ideal) ℓ) : Prop :=
  True

def Pre_F2dwKernel (m : (ℓ : Loc Cert.F2dwKernel.nD Cert.F2dwKernel.τ Cert.F2dwKernel.sig) → Buf (Elt Bits) ℓ) : Prop :=
  True

def Pre_F2dwKernelIdeal (m : (ℓ : Loc Cert.F2dwKernelIdeal.nD Cert.F2dwKernelIdeal.τ Cert.F2dwKernelIdeal.sig) → Buf (Elt Ideal) ℓ) : Prop :=
  True

def Pre_F2dwReferenceIdeal (m : (ℓ : Loc Cert.F2dwReferenceIdeal.nD Cert.F2dwReferenceIdeal.τ Cert.F2dwReferenceIdeal.sig) → Buf (Elt Ideal) ℓ) : Prop :=
  True

def Pre_F1dwKernel (m : (ℓ : Loc Cert.F1dwKernel.nD Cert.F1dwKernel.τ Cert.F1dwKernel.sig) → Buf (Elt Bits) ℓ) : Prop :=
  True

def Pre_F1dwKernelIdeal (m : (ℓ : Loc Cert.F1dwKernelIdeal.nD Cert.F1dwKernelIdeal.τ Cert.F1dwKernelIdeal.sig) → Buf (Elt Ideal) ℓ) : Prop :=
  True

def Pre_F1dwReferenceIdeal (m : (ℓ : Loc Cert.F1dwReferenceIdeal.nD Cert.F1dwReferenceIdeal.τ Cert.F1dwReferenceIdeal.sig) → Buf (Elt Ideal) ℓ) : Prop :=
  True

def Pre_F1dxKernel (m : (ℓ : Loc Cert.F1dxKernel.nD Cert.F1dxKernel.τ Cert.F1dxKernel.sig) → Buf (Elt Bits) ℓ) : Prop :=
  True

def Pre_F1dxKernelIdeal (m : (ℓ : Loc Cert.F1dxKernelIdeal.nD Cert.F1dxKernelIdeal.τ Cert.F1dxKernelIdeal.sig) → Buf (Elt Ideal) ℓ) : Prop :=
  True

def Pre_F1dxReferenceIdeal (m : (ℓ : Loc Cert.F1dxReferenceIdeal.nD Cert.F1dxReferenceIdeal.τ Cert.F1dxReferenceIdeal.sig) → Buf (Elt Ideal) ℓ) : Prop :=
  True

def Pre_OdxKernel (m : (ℓ : Loc Cert.OdxKernel.nD Cert.OdxKernel.τ Cert.OdxKernel.sig) → Buf (Elt Bits) ℓ) : Prop :=
  True

def Pre_OdxKernelIdeal (m : (ℓ : Loc Cert.OdxKernelIdeal.nD Cert.OdxKernelIdeal.τ Cert.OdxKernelIdeal.sig) → Buf (Elt Ideal) ℓ) : Prop :=
  True

def Pre_OdxReferenceIdeal (m : (ℓ : Loc Cert.OdxReferenceIdeal.nD Cert.OdxReferenceIdeal.τ Cert.OdxReferenceIdeal.sig) → Buf (Elt Ideal) ℓ) : Prop :=
  True

def Pre_OdwKernel (m : (ℓ : Loc Cert.OdwKernel.nD Cert.OdwKernel.τ Cert.OdwKernel.sig) → Buf (Elt Bits) ℓ) : Prop :=
  True

def Pre_OdwKernelIdeal (m : (ℓ : Loc Cert.OdwKernelIdeal.nD Cert.OdwKernelIdeal.τ Cert.OdwKernelIdeal.sig) → Buf (Elt Ideal) ℓ) : Prop :=
  True

def Pre_OdwReferenceIdeal (m : (ℓ : Loc Cert.OdwReferenceIdeal.nD Cert.OdwReferenceIdeal.τ Cert.OdwReferenceIdeal.sig) → Buf (Elt Ideal) ℓ) : Prop :=
  True

def Pre_QdwKernel (m : (ℓ : Loc Cert.QdwKernel.nD Cert.QdwKernel.τ Cert.QdwKernel.sig) → Buf (Elt Bits) ℓ) : Prop :=
  True

def Pre_QdwKernelIdeal (m : (ℓ : Loc Cert.QdwKernelIdeal.nD Cert.QdwKernelIdeal.τ Cert.QdwKernelIdeal.sig) → Buf (Elt Ideal) ℓ) : Prop :=
  True

def Pre_QdwReferenceIdeal (m : (ℓ : Loc Cert.QdwReferenceIdeal.nD Cert.QdwReferenceIdeal.τ Cert.QdwReferenceIdeal.sig) → Buf (Elt Ideal) ℓ) : Prop :=
  True

def Pre_QdxKernel (m : (ℓ : Loc Cert.QdxKernel.nD Cert.QdxKernel.τ Cert.QdxKernel.sig) → Buf (Elt Bits) ℓ) : Prop :=
  True

def Pre_QdxKernelIdeal (m : (ℓ : Loc Cert.QdxKernelIdeal.nD Cert.QdxKernelIdeal.τ Cert.QdxKernelIdeal.sig) → Buf (Elt Ideal) ℓ) : Prop :=
  True

def Pre_QdxReferenceIdeal (m : (ℓ : Loc Cert.QdxReferenceIdeal.nD Cert.QdxReferenceIdeal.τ Cert.QdxReferenceIdeal.sig) → Buf (Elt Ideal) ℓ) : Prop :=
  True

def Pre_KdwKernel (m : (ℓ : Loc Cert.KdwKernel.nD Cert.KdwKernel.τ Cert.KdwKernel.sig) → Buf (Elt Bits) ℓ) : Prop :=
  True

def Pre_KdwKernelIdeal (m : (ℓ : Loc Cert.KdwKernelIdeal.nD Cert.KdwKernelIdeal.τ Cert.KdwKernelIdeal.sig) → Buf (Elt Ideal) ℓ) : Prop :=
  True

def Pre_KdwReferenceIdeal (m : (ℓ : Loc Cert.KdwReferenceIdeal.nD Cert.KdwReferenceIdeal.τ Cert.KdwReferenceIdeal.sig) → Buf (Elt Ideal) ℓ) : Prop :=
  True

def Pre_KdxKernel (m : (ℓ : Loc Cert.KdxKernel.nD Cert.KdxKernel.τ Cert.KdxKernel.sig) → Buf (Elt Bits) ℓ) : Prop :=
  True

def Pre_KdxKernelIdeal (m : (ℓ : Loc Cert.KdxKernelIdeal.nD Cert.KdxKernelIdeal.τ Cert.KdxKernelIdeal.sig) → Buf (Elt Ideal) ℓ) : Prop :=
  True

def Pre_KdxReferenceIdeal (m : (ℓ : Loc Cert.KdxReferenceIdeal.nD Cert.KdxReferenceIdeal.τ Cert.KdxReferenceIdeal.sig) → Buf (Elt Ideal) ℓ) : Prop :=
  True

def Pre_VdxKernel (m : (ℓ : Loc Cert.VdxKernel.nD Cert.VdxKernel.τ Cert.VdxKernel.sig) → Buf (Elt Bits) ℓ) : Prop :=
  True

def Pre_VdxKernelIdeal (m : (ℓ : Loc Cert.VdxKernelIdeal.nD Cert.VdxKernelIdeal.τ Cert.VdxKernelIdeal.sig) → Buf (Elt Ideal) ℓ) : Prop :=
  True

def Pre_VdxReferenceIdeal (m : (ℓ : Loc Cert.VdxReferenceIdeal.nD Cert.VdxReferenceIdeal.τ Cert.VdxReferenceIdeal.sig) → Buf (Elt Ideal) ℓ) : Prop :=
  True

def Pre_AbdwKernel (m : (ℓ : Loc Cert.AbdwKernel.nD Cert.AbdwKernel.τ Cert.AbdwKernel.sig) → Buf (Elt Bits) ℓ) : Prop :=
  True

def Pre_AbdwKernelIdeal (m : (ℓ : Loc Cert.AbdwKernelIdeal.nD Cert.AbdwKernelIdeal.τ Cert.AbdwKernelIdeal.sig) → Buf (Elt Ideal) ℓ) : Prop :=
  True

def Pre_AbdwReferenceIdeal (m : (ℓ : Loc Cert.AbdwReferenceIdeal.nD Cert.AbdwReferenceIdeal.τ Cert.AbdwReferenceIdeal.sig) → Buf (Elt Ideal) ℓ) : Prop :=
  True

def Pre_AbdxKernel (m : (ℓ : Loc Cert.AbdxKernel.nD Cert.AbdxKernel.τ Cert.AbdxKernel.sig) → Buf (Elt Bits) ℓ) : Prop :=
  True

def Pre_AbdxKernelIdeal (m : (ℓ : Loc Cert.AbdxKernelIdeal.nD Cert.AbdxKernelIdeal.τ Cert.AbdxKernelIdeal.sig) → Buf (Elt Ideal) ℓ) : Prop :=
  True

def Pre_AbdxReferenceIdeal (m : (ℓ : Loc Cert.AbdxReferenceIdeal.nD Cert.AbdxReferenceIdeal.τ Cert.AbdxReferenceIdeal.sig) → Buf (Elt Ideal) ℓ) : Prop :=
  True

def Pre_CdwKernel (m : (ℓ : Loc Cert.CdwKernel.nD Cert.CdwKernel.τ Cert.CdwKernel.sig) → Buf (Elt Bits) ℓ) : Prop :=
  True

def Pre_CdwKernelIdeal (m : (ℓ : Loc Cert.CdwKernelIdeal.nD Cert.CdwKernelIdeal.τ Cert.CdwKernelIdeal.sig) → Buf (Elt Ideal) ℓ) : Prop :=
  True

def Pre_CdwReferenceIdeal (m : (ℓ : Loc Cert.CdwReferenceIdeal.nD Cert.CdwReferenceIdeal.τ Cert.CdwReferenceIdeal.sig) → Buf (Elt Ideal) ℓ) : Prop :=
  True

def Pre_CdxKernel (m : (ℓ : Loc Cert.CdxKernel.nD Cert.CdxKernel.τ Cert.CdxKernel.sig) → Buf (Elt Bits) ℓ) : Prop :=
  True

def Pre_CdxKernelIdeal (m : (ℓ : Loc Cert.CdxKernelIdeal.nD Cert.CdxKernelIdeal.τ Cert.CdxKernelIdeal.sig) → Buf (Elt Ideal) ℓ) : Prop :=
  True

def Pre_CdxReferenceIdeal (m : (ℓ : Loc Cert.CdxReferenceIdeal.nD Cert.CdxReferenceIdeal.τ Cert.CdxReferenceIdeal.sig) → Buf (Elt Ideal) ℓ) : Prop :=
  True

def Pre_CuqdwKernel (m : (ℓ : Loc Cert.CuqdwKernel.nD Cert.CuqdwKernel.τ Cert.CuqdwKernel.sig) → Buf (Elt Bits) ℓ) : Prop :=
  True

def Pre_CuqdwKernelIdeal (m : (ℓ : Loc Cert.CuqdwKernelIdeal.nD Cert.CuqdwKernelIdeal.τ Cert.CuqdwKernelIdeal.sig) → Buf (Elt Ideal) ℓ) : Prop :=
  True

def Pre_CuqdwReferenceIdeal (m : (ℓ : Loc Cert.CuqdwReferenceIdeal.nD Cert.CuqdwReferenceIdeal.τ Cert.CuqdwReferenceIdeal.sig) → Buf (Elt Ideal) ℓ) : Prop :=
  True

def Pre_CuqdxKernel (m : (ℓ : Loc Cert.CuqdxKernel.nD Cert.CuqdxKernel.τ Cert.CuqdxKernel.sig) → Buf (Elt Bits) ℓ) : Prop :=
  True

def Pre_CuqdxKernelIdeal (m : (ℓ : Loc Cert.CuqdxKernelIdeal.nD Cert.CuqdxKernelIdeal.τ Cert.CuqdxKernelIdeal.sig) → Buf (Elt Ideal) ℓ) : Prop :=
  True

def Pre_CuqdxReferenceIdeal (m : (ℓ : Loc Cert.CuqdxReferenceIdeal.nD Cert.CuqdxReferenceIdeal.τ Cert.CuqdxReferenceIdeal.sig) → Buf (Elt Ideal) ℓ) : Prop :=
  True

def Pre_CukvdwKernel (m : (ℓ : Loc Cert.CukvdwKernel.nD Cert.CukvdwKernel.τ Cert.CukvdwKernel.sig) → Buf (Elt Bits) ℓ) : Prop :=
  True

def Pre_CukvdwKernelIdeal (m : (ℓ : Loc Cert.CukvdwKernelIdeal.nD Cert.CukvdwKernelIdeal.τ Cert.CukvdwKernelIdeal.sig) → Buf (Elt Ideal) ℓ) : Prop :=
  True

def Pre_CukvdwReferenceIdeal (m : (ℓ : Loc Cert.CukvdwReferenceIdeal.nD Cert.CukvdwReferenceIdeal.τ Cert.CukvdwReferenceIdeal.sig) → Buf (Elt Ideal) ℓ) : Prop :=
  True

def Pre_CukvdxKernel (m : (ℓ : Loc Cert.CukvdxKernel.nD Cert.CukvdxKernel.τ Cert.CukvdxKernel.sig) → Buf (Elt Bits) ℓ) : Prop :=
  True

def Pre_CukvdxKernelIdeal (m : (ℓ : Loc Cert.CukvdxKernelIdeal.nD Cert.CukvdxKernelIdeal.τ Cert.CukvdxKernelIdeal.sig) → Buf (Elt Ideal) ℓ) : Prop :=
  True

def Pre_CukvdxReferenceIdeal (m : (ℓ : Loc Cert.CukvdxReferenceIdeal.nD Cert.CukvdxReferenceIdeal.τ Cert.CukvdxReferenceIdeal.sig) → Buf (Elt Ideal) ℓ) : Prop :=
  True

def Pre_F1Kernel (m : (ℓ : Loc Cert.F1Kernel.nD Cert.F1Kernel.τ Cert.F1Kernel.sig) → Buf (Elt Bits) ℓ) : Prop :=
  True

def Pre_F1KernelIdeal (m : (ℓ : Loc Cert.F1KernelIdeal.nD Cert.F1KernelIdeal.τ Cert.F1KernelIdeal.sig) → Buf (Elt Ideal) ℓ) : Prop :=
  True

def Pre_F1ReferenceIdeal (m : (ℓ : Loc Cert.F1ReferenceIdeal.nD Cert.F1ReferenceIdeal.τ Cert.F1ReferenceIdeal.sig) → Buf (Elt Ideal) ℓ) : Prop :=
  True

def Pre_F2Kernel (m : (ℓ : Loc Cert.F2Kernel.nD Cert.F2Kernel.τ Cert.F2Kernel.sig) → Buf (Elt Bits) ℓ) : Prop :=
  True

def Pre_F2KernelIdeal (m : (ℓ : Loc Cert.F2KernelIdeal.nD Cert.F2KernelIdeal.τ Cert.F2KernelIdeal.sig) → Buf (Elt Ideal) ℓ) : Prop :=
  True

def Pre_F2ReferenceIdeal (m : (ℓ : Loc Cert.F2ReferenceIdeal.nD Cert.F2ReferenceIdeal.τ Cert.F2ReferenceIdeal.sig) → Buf (Elt Ideal) ℓ) : Prop :=
  True

def Pre_OKernel (m : (ℓ : Loc Cert.OKernel.nD Cert.OKernel.τ Cert.OKernel.sig) → Buf (Elt Bits) ℓ) : Prop :=
  True

def Pre_OKernelIdeal (m : (ℓ : Loc Cert.OKernelIdeal.nD Cert.OKernelIdeal.τ Cert.OKernelIdeal.sig) → Buf (Elt Ideal) ℓ) : Prop :=
  True

def Pre_OReferenceIdeal (m : (ℓ : Loc Cert.OReferenceIdeal.nD Cert.OReferenceIdeal.τ Cert.OReferenceIdeal.sig) → Buf (Elt Ideal) ℓ) : Prop :=
  True

def Pre_QKernel (m : (ℓ : Loc Cert.QKernel.nD Cert.QKernel.τ Cert.QKernel.sig) → Buf (Elt Bits) ℓ) : Prop :=
  True

def Pre_QKernelIdeal (m : (ℓ : Loc Cert.QKernelIdeal.nD Cert.QKernelIdeal.τ Cert.QKernelIdeal.sig) → Buf (Elt Ideal) ℓ) : Prop :=
  True

def Pre_QReferenceIdeal (m : (ℓ : Loc Cert.QReferenceIdeal.nD Cert.QReferenceIdeal.τ Cert.QReferenceIdeal.sig) → Buf (Elt Ideal) ℓ) : Prop :=
  True

def Pre_KKernel (m : (ℓ : Loc Cert.KKernel.nD Cert.KKernel.τ Cert.KKernel.sig) → Buf (Elt Bits) ℓ) : Prop :=
  True

def Pre_KKernelIdeal (m : (ℓ : Loc Cert.KKernelIdeal.nD Cert.KKernelIdeal.τ Cert.KKernelIdeal.sig) → Buf (Elt Ideal) ℓ) : Prop :=
  True

def Pre_KReferenceIdeal (m : (ℓ : Loc Cert.KReferenceIdeal.nD Cert.KReferenceIdeal.τ Cert.KReferenceIdeal.sig) → Buf (Elt Ideal) ℓ) : Prop :=
  True

def Pre_AbKernel (m : (ℓ : Loc Cert.AbKernel.nD Cert.AbKernel.τ Cert.AbKernel.sig) → Buf (Elt Bits) ℓ) : Prop :=
  True

def Pre_AbKernelIdeal (m : (ℓ : Loc Cert.AbKernelIdeal.nD Cert.AbKernelIdeal.τ Cert.AbKernelIdeal.sig) → Buf (Elt Ideal) ℓ) : Prop :=
  True

def Pre_AbReferenceIdeal (m : (ℓ : Loc Cert.AbReferenceIdeal.nD Cert.AbReferenceIdeal.τ Cert.AbReferenceIdeal.sig) → Buf (Elt Ideal) ℓ) : Prop :=
  True

def Pre_CKernel (m : (ℓ : Loc Cert.CKernel.nD Cert.CKernel.τ Cert.CKernel.sig) → Buf (Elt Bits) ℓ) : Prop :=
  True

def Pre_CKernelIdeal (m : (ℓ : Loc Cert.CKernelIdeal.nD Cert.CKernelIdeal.τ Cert.CKernelIdeal.sig) → Buf (Elt Ideal) ℓ) : Prop :=
  True

def Pre_CReferenceIdeal (m : (ℓ : Loc Cert.CReferenceIdeal.nD Cert.CReferenceIdeal.τ Cert.CReferenceIdeal.sig) → Buf (Elt Ideal) ℓ) : Prop :=
  True

def Pre_CkvKernel (m : (ℓ : Loc Cert.CkvKernel.nD Cert.CkvKernel.τ Cert.CkvKernel.sig) → Buf (Elt Bits) ℓ) : Prop :=
  True

def Pre_CkvKernelIdeal (m : (ℓ : Loc Cert.CkvKernelIdeal.nD Cert.CkvKernelIdeal.τ Cert.CkvKernelIdeal.sig) → Buf (Elt Ideal) ℓ) : Prop :=
  True

def Pre_CkvReferenceIdeal (m : (ℓ : Loc Cert.CkvReferenceIdeal.nD Cert.CkvReferenceIdeal.τ Cert.CkvReferenceIdeal.sig) → Buf (Elt Ideal) ℓ) : Prop :=
  True

def Pre_MemFKernel (m : (ℓ : Loc Cert.MemFKernel.nD Cert.MemFKernel.τ Cert.MemFKernel.sig) → Buf (Elt Bits) ℓ) : Prop :=
  True

def Pre_MemFKernelIdeal (m : (ℓ : Loc Cert.MemFKernelIdeal.nD Cert.MemFKernelIdeal.τ Cert.MemFKernelIdeal.sig) → Buf (Elt Ideal) ℓ) : Prop :=
  True

def Pre_MemFReferenceIdeal (m : (ℓ : Loc Cert.MemFReferenceIdeal.nD Cert.MemFReferenceIdeal.τ Cert.MemFReferenceIdeal.sig) → Buf (Elt Ideal) ℓ) : Prop :=
  True

def Pre_NormFKernel (m : (ℓ : Loc Cert.NormFKernel.nD Cert.NormFKernel.τ Cert.NormFKernel.sig) → Buf (Elt Bits) ℓ) : Prop :=
  True

def Pre_NormFKernelIdeal (m : (ℓ : Loc Cert.NormFKernelIdeal.nD Cert.NormFKernelIdeal.τ Cert.NormFKernelIdeal.sig) → Buf (Elt Ideal) ℓ) : Prop :=
  True

def Pre_NormFReferenceIdeal (m : (ℓ : Loc Cert.NormFReferenceIdeal.nD Cert.NormFReferenceIdeal.τ Cert.NormFReferenceIdeal.sig) → Buf (Elt Ideal) ℓ) : Prop :=
  True

def Pre_MlafKernel (m : (ℓ : Loc Cert.MlafKernel.nD Cert.MlafKernel.τ Cert.MlafKernel.sig) → Buf (Elt Bits) ℓ) : Prop :=
  True

def Pre_MlafKernelIdeal (m : (ℓ : Loc Cert.MlafKernelIdeal.nD Cert.MlafKernelIdeal.τ Cert.MlafKernelIdeal.sig) → Buf (Elt Ideal) ℓ) : Prop :=
  True

def Pre_MlafKernelIdeal_mlaf_finite [hPre_mlaf_finite : Cert.Pre_mlaf_finite.Facts] (m : (ℓ : Loc Cert.MlafKernelIdeal.nD Cert.MlafKernelIdeal.τ Cert.MlafKernelIdeal.sig) → Buf (Elt Ideal) ℓ) : Prop :=
  ∀ c : Dev Cert.MlafKernelIdeal.nD,
    (Cert.Pre_mlaf_finite.fn (F := Ideal) (m ((c.tc : Thread Cert.MlafKernelIdeal.nD Cert.MlafKernelIdeal.τ).loc Cert.MlafKernelIdeal.main_arg0)) (m ((c.tc : Thread Cert.MlafKernelIdeal.nD Cert.MlafKernelIdeal.τ).loc Cert.MlafKernelIdeal.main_arg1)) (m ((c.tc : Thread Cert.MlafKernelIdeal.nD Cert.MlafKernelIdeal.τ).loc Cert.MlafKernelIdeal.main_arg2))).1 = (fun _ => 1#1)
    ∧ (Cert.Pre_mlaf_finite.fn (F := Ideal) (m ((c.tc : Thread Cert.MlafKernelIdeal.nD Cert.MlafKernelIdeal.τ).loc Cert.MlafKernelIdeal.main_arg0)) (m ((c.tc : Thread Cert.MlafKernelIdeal.nD Cert.MlafKernelIdeal.τ).loc Cert.MlafKernelIdeal.main_arg1)) (m ((c.tc : Thread Cert.MlafKernelIdeal.nD Cert.MlafKernelIdeal.τ).loc Cert.MlafKernelIdeal.main_arg2))).2.1 = (fun _ => 1#1)
    ∧ (Cert.Pre_mlaf_finite.fn (F := Ideal) (m ((c.tc : Thread Cert.MlafKernelIdeal.nD Cert.MlafKernelIdeal.τ).loc Cert.MlafKernelIdeal.main_arg0)) (m ((c.tc : Thread Cert.MlafKernelIdeal.nD Cert.MlafKernelIdeal.τ).loc Cert.MlafKernelIdeal.main_arg1)) (m ((c.tc : Thread Cert.MlafKernelIdeal.nD Cert.MlafKernelIdeal.τ).loc Cert.MlafKernelIdeal.main_arg2))).2.2 = (fun _ => 1#1)

def Pre_MlafReferenceIdeal (m : (ℓ : Loc Cert.MlafReferenceIdeal.nD Cert.MlafReferenceIdeal.τ Cert.MlafReferenceIdeal.sig) → Buf (Elt Ideal) ℓ) : Prop :=
  True

def Pre_MlafReferenceIdeal_mlaf_finite [hPre_mlaf_finite : Cert.Pre_mlaf_finite.Facts] (m : (ℓ : Loc Cert.MlafReferenceIdeal.nD Cert.MlafReferenceIdeal.τ Cert.MlafReferenceIdeal.sig) → Buf (Elt Ideal) ℓ) : Prop :=
  ∀ c : Dev Cert.MlafReferenceIdeal.nD,
    (Cert.Pre_mlaf_finite.fn (F := Ideal) (m ((c.tc : Thread Cert.MlafReferenceIdeal.nD Cert.MlafReferenceIdeal.τ).loc Cert.MlafReferenceIdeal.main_arg0)) (m ((c.tc : Thread Cert.MlafReferenceIdeal.nD Cert.MlafReferenceIdeal.τ).loc Cert.MlafReferenceIdeal.main_arg1)) (m ((c.tc : Thread Cert.MlafReferenceIdeal.nD Cert.MlafReferenceIdeal.τ).loc Cert.MlafReferenceIdeal.main_arg2))).1 = (fun _ => 1#1)
    ∧ (Cert.Pre_mlaf_finite.fn (F := Ideal) (m ((c.tc : Thread Cert.MlafReferenceIdeal.nD Cert.MlafReferenceIdeal.τ).loc Cert.MlafReferenceIdeal.main_arg0)) (m ((c.tc : Thread Cert.MlafReferenceIdeal.nD Cert.MlafReferenceIdeal.τ).loc Cert.MlafReferenceIdeal.main_arg1)) (m ((c.tc : Thread Cert.MlafReferenceIdeal.nD Cert.MlafReferenceIdeal.τ).loc Cert.MlafReferenceIdeal.main_arg2))).2.1 = (fun _ => 1#1)
    ∧ (Cert.Pre_mlaf_finite.fn (F := Ideal) (m ((c.tc : Thread Cert.MlafReferenceIdeal.nD Cert.MlafReferenceIdeal.τ).loc Cert.MlafReferenceIdeal.main_arg0)) (m ((c.tc : Thread Cert.MlafReferenceIdeal.nD Cert.MlafReferenceIdeal.τ).loc Cert.MlafReferenceIdeal.main_arg1)) (m ((c.tc : Thread Cert.MlafReferenceIdeal.nD Cert.MlafReferenceIdeal.τ).loc Cert.MlafReferenceIdeal.main_arg2))).2.2 = (fun _ => 1#1)

def Pre_MlabKernel (m : (ℓ : Loc Cert.MlabKernel.nD Cert.MlabKernel.τ Cert.MlabKernel.sig) → Buf (Elt Bits) ℓ) : Prop :=
  True

def Pre_MlabKernelIdeal (m : (ℓ : Loc Cert.MlabKernelIdeal.nD Cert.MlabKernelIdeal.τ Cert.MlabKernelIdeal.sig) → Buf (Elt Ideal) ℓ) : Prop :=
  True

def Pre_MlabKernelIdeal_mlab_finite [hPre_mlab_finite : Cert.Pre_mlab_finite.Facts] (m : (ℓ : Loc Cert.MlabKernelIdeal.nD Cert.MlabKernelIdeal.τ Cert.MlabKernelIdeal.sig) → Buf (Elt Ideal) ℓ) : Prop :=
  ∀ c : Dev Cert.MlabKernelIdeal.nD,
    (Cert.Pre_mlab_finite.fn (F := Ideal) (m ((c.tc : Thread Cert.MlabKernelIdeal.nD Cert.MlabKernelIdeal.τ).loc Cert.MlabKernelIdeal.main_arg0)) (m ((c.tc : Thread Cert.MlabKernelIdeal.nD Cert.MlabKernelIdeal.τ).loc Cert.MlabKernelIdeal.main_arg1)) (m ((c.tc : Thread Cert.MlabKernelIdeal.nD Cert.MlabKernelIdeal.τ).loc Cert.MlabKernelIdeal.main_arg2)) (m ((c.tc : Thread Cert.MlabKernelIdeal.nD Cert.MlabKernelIdeal.τ).loc Cert.MlabKernelIdeal.main_arg3)) (m ((c.tc : Thread Cert.MlabKernelIdeal.nD Cert.MlabKernelIdeal.τ).loc Cert.MlabKernelIdeal.main_arg4)) (m ((c.tc : Thread Cert.MlabKernelIdeal.nD Cert.MlabKernelIdeal.τ).loc Cert.MlabKernelIdeal.main_arg5))).1 = (fun _ => 1#1)
    ∧ (Cert.Pre_mlab_finite.fn (F := Ideal) (m ((c.tc : Thread Cert.MlabKernelIdeal.nD Cert.MlabKernelIdeal.τ).loc Cert.MlabKernelIdeal.main_arg0)) (m ((c.tc : Thread Cert.MlabKernelIdeal.nD Cert.MlabKernelIdeal.τ).loc Cert.MlabKernelIdeal.main_arg1)) (m ((c.tc : Thread Cert.MlabKernelIdeal.nD Cert.MlabKernelIdeal.τ).loc Cert.MlabKernelIdeal.main_arg2)) (m ((c.tc : Thread Cert.MlabKernelIdeal.nD Cert.MlabKernelIdeal.τ).loc Cert.MlabKernelIdeal.main_arg3)) (m ((c.tc : Thread Cert.MlabKernelIdeal.nD Cert.MlabKernelIdeal.τ).loc Cert.MlabKernelIdeal.main_arg4)) (m ((c.tc : Thread Cert.MlabKernelIdeal.nD Cert.MlabKernelIdeal.τ).loc Cert.MlabKernelIdeal.main_arg5))).2.1 = (fun _ => 1#1)
    ∧ (Cert.Pre_mlab_finite.fn (F := Ideal) (m ((c.tc : Thread Cert.MlabKernelIdeal.nD Cert.MlabKernelIdeal.τ).loc Cert.MlabKernelIdeal.main_arg0)) (m ((c.tc : Thread Cert.MlabKernelIdeal.nD Cert.MlabKernelIdeal.τ).loc Cert.MlabKernelIdeal.main_arg1)) (m ((c.tc : Thread Cert.MlabKernelIdeal.nD Cert.MlabKernelIdeal.τ).loc Cert.MlabKernelIdeal.main_arg2)) (m ((c.tc : Thread Cert.MlabKernelIdeal.nD Cert.MlabKernelIdeal.τ).loc Cert.MlabKernelIdeal.main_arg3)) (m ((c.tc : Thread Cert.MlabKernelIdeal.nD Cert.MlabKernelIdeal.τ).loc Cert.MlabKernelIdeal.main_arg4)) (m ((c.tc : Thread Cert.MlabKernelIdeal.nD Cert.MlabKernelIdeal.τ).loc Cert.MlabKernelIdeal.main_arg5))).2.2.1 = (fun _ => 1#1)
    ∧ (Cert.Pre_mlab_finite.fn (F := Ideal) (m ((c.tc : Thread Cert.MlabKernelIdeal.nD Cert.MlabKernelIdeal.τ).loc Cert.MlabKernelIdeal.main_arg0)) (m ((c.tc : Thread Cert.MlabKernelIdeal.nD Cert.MlabKernelIdeal.τ).loc Cert.MlabKernelIdeal.main_arg1)) (m ((c.tc : Thread Cert.MlabKernelIdeal.nD Cert.MlabKernelIdeal.τ).loc Cert.MlabKernelIdeal.main_arg2)) (m ((c.tc : Thread Cert.MlabKernelIdeal.nD Cert.MlabKernelIdeal.τ).loc Cert.MlabKernelIdeal.main_arg3)) (m ((c.tc : Thread Cert.MlabKernelIdeal.nD Cert.MlabKernelIdeal.τ).loc Cert.MlabKernelIdeal.main_arg4)) (m ((c.tc : Thread Cert.MlabKernelIdeal.nD Cert.MlabKernelIdeal.τ).loc Cert.MlabKernelIdeal.main_arg5))).2.2.2 = (fun _ => 1#1)

def Pre_MlabReferenceIdeal (m : (ℓ : Loc Cert.MlabReferenceIdeal.nD Cert.MlabReferenceIdeal.τ Cert.MlabReferenceIdeal.sig) → Buf (Elt Ideal) ℓ) : Prop :=
  True

def Pre_MlabReferenceIdeal_mlab_finite [hPre_mlab_finite : Cert.Pre_mlab_finite.Facts] (m : (ℓ : Loc Cert.MlabReferenceIdeal.nD Cert.MlabReferenceIdeal.τ Cert.MlabReferenceIdeal.sig) → Buf (Elt Ideal) ℓ) : Prop :=
  ∀ c : Dev Cert.MlabReferenceIdeal.nD,
    (Cert.Pre_mlab_finite.fn (F := Ideal) (m ((c.tc : Thread Cert.MlabReferenceIdeal.nD Cert.MlabReferenceIdeal.τ).loc Cert.MlabReferenceIdeal.main_arg0)) (m ((c.tc : Thread Cert.MlabReferenceIdeal.nD Cert.MlabReferenceIdeal.τ).loc Cert.MlabReferenceIdeal.main_arg1)) (m ((c.tc : Thread Cert.MlabReferenceIdeal.nD Cert.MlabReferenceIdeal.τ).loc Cert.MlabReferenceIdeal.main_arg2)) (m ((c.tc : Thread Cert.MlabReferenceIdeal.nD Cert.MlabReferenceIdeal.τ).loc Cert.MlabReferenceIdeal.main_arg3)) (m ((c.tc : Thread Cert.MlabReferenceIdeal.nD Cert.MlabReferenceIdeal.τ).loc Cert.MlabReferenceIdeal.main_arg4)) (m ((c.tc : Thread Cert.MlabReferenceIdeal.nD Cert.MlabReferenceIdeal.τ).loc Cert.MlabReferenceIdeal.main_arg5))).1 = (fun _ => 1#1)
    ∧ (Cert.Pre_mlab_finite.fn (F := Ideal) (m ((c.tc : Thread Cert.MlabReferenceIdeal.nD Cert.MlabReferenceIdeal.τ).loc Cert.MlabReferenceIdeal.main_arg0)) (m ((c.tc : Thread Cert.MlabReferenceIdeal.nD Cert.MlabReferenceIdeal.τ).loc Cert.MlabReferenceIdeal.main_arg1)) (m ((c.tc : Thread Cert.MlabReferenceIdeal.nD Cert.MlabReferenceIdeal.τ).loc Cert.MlabReferenceIdeal.main_arg2)) (m ((c.tc : Thread Cert.MlabReferenceIdeal.nD Cert.MlabReferenceIdeal.τ).loc Cert.MlabReferenceIdeal.main_arg3)) (m ((c.tc : Thread Cert.MlabReferenceIdeal.nD Cert.MlabReferenceIdeal.τ).loc Cert.MlabReferenceIdeal.main_arg4)) (m ((c.tc : Thread Cert.MlabReferenceIdeal.nD Cert.MlabReferenceIdeal.τ).loc Cert.MlabReferenceIdeal.main_arg5))).2.1 = (fun _ => 1#1)
    ∧ (Cert.Pre_mlab_finite.fn (F := Ideal) (m ((c.tc : Thread Cert.MlabReferenceIdeal.nD Cert.MlabReferenceIdeal.τ).loc Cert.MlabReferenceIdeal.main_arg0)) (m ((c.tc : Thread Cert.MlabReferenceIdeal.nD Cert.MlabReferenceIdeal.τ).loc Cert.MlabReferenceIdeal.main_arg1)) (m ((c.tc : Thread Cert.MlabReferenceIdeal.nD Cert.MlabReferenceIdeal.τ).loc Cert.MlabReferenceIdeal.main_arg2)) (m ((c.tc : Thread Cert.MlabReferenceIdeal.nD Cert.MlabReferenceIdeal.τ).loc Cert.MlabReferenceIdeal.main_arg3)) (m ((c.tc : Thread Cert.MlabReferenceIdeal.nD Cert.MlabReferenceIdeal.τ).loc Cert.MlabReferenceIdeal.main_arg4)) (m ((c.tc : Thread Cert.MlabReferenceIdeal.nD Cert.MlabReferenceIdeal.τ).loc Cert.MlabReferenceIdeal.main_arg5))).2.2.1 = (fun _ => 1#1)
    ∧ (Cert.Pre_mlab_finite.fn (F := Ideal) (m ((c.tc : Thread Cert.MlabReferenceIdeal.nD Cert.MlabReferenceIdeal.τ).loc Cert.MlabReferenceIdeal.main_arg0)) (m ((c.tc : Thread Cert.MlabReferenceIdeal.nD Cert.MlabReferenceIdeal.τ).loc Cert.MlabReferenceIdeal.main_arg1)) (m ((c.tc : Thread Cert.MlabReferenceIdeal.nD Cert.MlabReferenceIdeal.τ).loc Cert.MlabReferenceIdeal.main_arg2)) (m ((c.tc : Thread Cert.MlabReferenceIdeal.nD Cert.MlabReferenceIdeal.τ).loc Cert.MlabReferenceIdeal.main_arg3)) (m ((c.tc : Thread Cert.MlabReferenceIdeal.nD Cert.MlabReferenceIdeal.τ).loc Cert.MlabReferenceIdeal.main_arg4)) (m ((c.tc : Thread Cert.MlabReferenceIdeal.nD Cert.MlabReferenceIdeal.τ).loc Cert.MlabReferenceIdeal.main_arg5))).2.2.2 = (fun _ => 1#1)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemKernelIdeal_pre_mem_finite [hMemKernelIdeal : Cert.MemKernelIdeal.Facts] [hPre_mem_finite : Cert.Pre_mem_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal_mem_finite m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_MemReferenceIdeal_pre_mem_finite [hMemReferenceIdeal : Cert.MemReferenceIdeal.Facts] [hPre_mem_finite : Cert.Pre_mem_finite.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_mem_finite m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormKernelIdeal_pre_norm_finite [hNormKernelIdeal : Cert.NormKernelIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_norm_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_NormReferenceIdeal_pre_norm_finite [hNormReferenceIdeal : Cert.NormReferenceIdeal.Facts] [hPre_norm_finite : Cert.Pre_norm_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_norm_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_F2dxKernel [hF2dxKernel : Cert.F2dxKernel.Facts] : Prop :=
  ∀ (m : (ℓ : Loc Cert.F2dxKernel.nD Cert.F2dxKernel.τ Cert.F2dxKernel.sig) → Buf (Elt Bits) ℓ) (g : Dev Cert.F2dxKernel.nD → PrngReg), Pre_F2dxKernel m →
    θ_run (Cert.F2dxKernel.defs (F := Bits)) (onTc (τ := Cert.F2dxKernel.τ) (Cert.F2dxKernel.main (F := Bits))) ⟨m, fun _ => 0, g⟩ (fun r => (∀ c : Dev Cert.F2dxKernel.nD,
      r.2.mem ((c.tc : Thread Cert.F2dxKernel.nD Cert.F2dxKernel.τ).loc Cert.F2dxKernel.main_arg0) = m ((c.tc : Thread Cert.F2dxKernel.nD Cert.F2dxKernel.τ).loc Cert.F2dxKernel.main_arg0)
      ∧ r.2.mem ((c.tc : Thread Cert.F2dxKernel.nD Cert.F2dxKernel.τ).loc Cert.F2dxKernel.main_arg1) = m ((c.tc : Thread Cert.F2dxKernel.nD Cert.F2dxKernel.τ).loc Cert.F2dxKernel.main_arg1)
      ∧ r.2.mem ((c.tc : Thread Cert.F2dxKernel.nD Cert.F2dxKernel.τ).loc Cert.F2dxKernel.main_arg2) = m ((c.tc : Thread Cert.F2dxKernel.nD Cert.F2dxKernel.τ).loc Cert.F2dxKernel.main_arg2)
      ∧ r.2.mem ((c.tc : Thread Cert.F2dxKernel.nD Cert.F2dxKernel.τ).loc Cert.F2dxKernel.main_arg3) = m ((c.tc : Thread Cert.F2dxKernel.nD Cert.F2dxKernel.τ).loc Cert.F2dxKernel.main_arg3))
      ∧ r.2.sem = fun _ => 0)

def quiescent_F2dxKernelIdeal [hF2dxKernelIdeal : Cert.F2dxKernelIdeal.Facts] : Prop :=
  ∀ (m : (ℓ : Loc Cert.F2dxKernelIdeal.nD Cert.F2dxKernelIdeal.τ Cert.F2dxKernelIdeal.sig) → Buf (Elt Ideal) ℓ) (g : Dev Cert.F2dxKernelIdeal.nD → PrngReg), Pre_F2dxKernelIdeal m →
    θ_run (Cert.F2dxKernelIdeal.defs (F := Ideal)) (onTc (τ := Cert.F2dxKernelIdeal.τ) (Cert.F2dxKernelIdeal.main (F := Ideal))) ⟨m, fun _ => 0, g⟩ (fun r => (∀ c : Dev Cert.F2dxKernelIdeal.nD,
      r.2.mem ((c.tc : Thread Cert.F2dxKernelIdeal.nD Cert.F2dxKernelIdeal.τ).loc Cert.F2dxKernelIdeal.main_arg0) = m ((c.tc : Thread Cert.F2dxKernelIdeal.nD Cert.F2dxKernelIdeal.τ).loc Cert.F2dxKernelIdeal.main_arg0)
      ∧ r.2.mem ((c.tc : Thread Cert.F2dxKernelIdeal.nD Cert.F2dxKernelIdeal.τ).loc Cert.F2dxKernelIdeal.main_arg1) = m ((c.tc : Thread Cert.F2dxKernelIdeal.nD Cert.F2dxKernelIdeal.τ).loc Cert.F2dxKernelIdeal.main_arg1)
      ∧ r.2.mem ((c.tc : Thread Cert.F2dxKernelIdeal.nD Cert.F2dxKernelIdeal.τ).loc Cert.F2dxKernelIdeal.main_arg2) = m ((c.tc : Thread Cert.F2dxKernelIdeal.nD Cert.F2dxKernelIdeal.τ).loc Cert.F2dxKernelIdeal.main_arg2)
      ∧ r.2.mem ((c.tc : Thread Cert.F2dxKernelIdeal.nD Cert.F2dxKernelIdeal.τ).loc Cert.F2dxKernelIdeal.main_arg3) = m ((c.tc : Thread Cert.F2dxKernelIdeal.nD Cert.F2dxKernelIdeal.τ).loc Cert.F2dxKernelIdeal.main_arg3))
      ∧ r.2.sem = fun _ => 0)

def quiescent_F2dxReferenceIdeal [hF2dxReferenceIdeal : Cert.F2dxReferenceIdeal.Facts] : Prop :=
  ∀ (m : (ℓ : Loc Cert.F2dxReferenceIdeal.nD Cert.F2dxReferenceIdeal.τ Cert.F2dxReferenceIdeal.sig) → Buf (Elt Ideal) ℓ) (g : Dev Cert.F2dxReferenceIdeal.nD → PrngReg), Pre_F2dxReferenceIdeal m →
    θ_run (Cert.F2dxReferenceIdeal.defs (F := Ideal)) (onTc (τ := Cert.F2dxReferenceIdeal.τ) (Cert.F2dxReferenceIdeal.main (F := Ideal))) ⟨m, fun _ => 0, g⟩ (fun r => (∀ c : Dev Cert.F2dxReferenceIdeal.nD,
      r.2.mem ((c.tc : Thread Cert.F2dxReferenceIdeal.nD Cert.F2dxReferenceIdeal.τ).loc Cert.F2dxReferenceIdeal.main_arg0) = m ((c.tc : Thread Cert.F2dxReferenceIdeal.nD Cert.F2dxReferenceIdeal.τ).loc Cert.F2dxReferenceIdeal.main_arg0)
      ∧ r.2.mem ((c.tc : Thread Cert.F2dxReferenceIdeal.nD Cert.F2dxReferenceIdeal.τ).loc Cert.F2dxReferenceIdeal.main_arg1) = m ((c.tc : Thread Cert.F2dxReferenceIdeal.nD Cert.F2dxReferenceIdeal.τ).loc Cert.F2dxReferenceIdeal.main_arg1)
      ∧ r.2.mem ((c.tc : Thread Cert.F2dxReferenceIdeal.nD Cert.F2dxReferenceIdeal.τ).loc Cert.F2dxReferenceIdeal.main_arg2) = m ((c.tc : Thread Cert.F2dxReferenceIdeal.nD Cert.F2dxReferenceIdeal.τ).loc Cert.F2dxReferenceIdeal.main_arg2)
      ∧ r.2.mem ((c.tc : Thread Cert.F2dxReferenceIdeal.nD Cert.F2dxReferenceIdeal.τ).loc Cert.F2dxReferenceIdeal.main_arg3) = m ((c.tc : Thread Cert.F2dxReferenceIdeal.nD Cert.F2dxReferenceIdeal.τ).loc Cert.F2dxReferenceIdeal.main_arg3))
      ∧ r.2.sem = fun _ => 0)

def quiescent_F2dwKernel [hF2dwKernel : Cert.F2dwKernel.Facts] : Prop :=
  ∀ (m : (ℓ : Loc Cert.F2dwKernel.nD Cert.F2dwKernel.τ Cert.F2dwKernel.sig) → Buf (Elt Bits) ℓ) (g : Dev Cert.F2dwKernel.nD → PrngReg), Pre_F2dwKernel m →
    θ_run (Cert.F2dwKernel.defs (F := Bits)) (onTc (τ := Cert.F2dwKernel.τ) (Cert.F2dwKernel.main (F := Bits))) ⟨m, fun _ => 0, g⟩ (fun r => (∀ c : Dev Cert.F2dwKernel.nD,
      r.2.mem ((c.tc : Thread Cert.F2dwKernel.nD Cert.F2dwKernel.τ).loc Cert.F2dwKernel.main_arg0) = m ((c.tc : Thread Cert.F2dwKernel.nD Cert.F2dwKernel.τ).loc Cert.F2dwKernel.main_arg0)
      ∧ r.2.mem ((c.tc : Thread Cert.F2dwKernel.nD Cert.F2dwKernel.τ).loc Cert.F2dwKernel.main_arg1) = m ((c.tc : Thread Cert.F2dwKernel.nD Cert.F2dwKernel.τ).loc Cert.F2dwKernel.main_arg1))
      ∧ r.2.sem = fun _ => 0)

def quiescent_F2dwKernelIdeal [hF2dwKernelIdeal : Cert.F2dwKernelIdeal.Facts] : Prop :=
  ∀ (m : (ℓ : Loc Cert.F2dwKernelIdeal.nD Cert.F2dwKernelIdeal.τ Cert.F2dwKernelIdeal.sig) → Buf (Elt Ideal) ℓ) (g : Dev Cert.F2dwKernelIdeal.nD → PrngReg), Pre_F2dwKernelIdeal m →
    θ_run (Cert.F2dwKernelIdeal.defs (F := Ideal)) (onTc (τ := Cert.F2dwKernelIdeal.τ) (Cert.F2dwKernelIdeal.main (F := Ideal))) ⟨m, fun _ => 0, g⟩ (fun r => (∀ c : Dev Cert.F2dwKernelIdeal.nD,
      r.2.mem ((c.tc : Thread Cert.F2dwKernelIdeal.nD Cert.F2dwKernelIdeal.τ).loc Cert.F2dwKernelIdeal.main_arg0) = m ((c.tc : Thread Cert.F2dwKernelIdeal.nD Cert.F2dwKernelIdeal.τ).loc Cert.F2dwKernelIdeal.main_arg0)
      ∧ r.2.mem ((c.tc : Thread Cert.F2dwKernelIdeal.nD Cert.F2dwKernelIdeal.τ).loc Cert.F2dwKernelIdeal.main_arg1) = m ((c.tc : Thread Cert.F2dwKernelIdeal.nD Cert.F2dwKernelIdeal.τ).loc Cert.F2dwKernelIdeal.main_arg1))
      ∧ r.2.sem = fun _ => 0)

def quiescent_F2dwReferenceIdeal [hF2dwReferenceIdeal : Cert.F2dwReferenceIdeal.Facts] : Prop :=
  ∀ (m : (ℓ : Loc Cert.F2dwReferenceIdeal.nD Cert.F2dwReferenceIdeal.τ Cert.F2dwReferenceIdeal.sig) → Buf (Elt Ideal) ℓ) (g : Dev Cert.F2dwReferenceIdeal.nD → PrngReg), Pre_F2dwReferenceIdeal m →
    θ_run (Cert.F2dwReferenceIdeal.defs (F := Ideal)) (onTc (τ := Cert.F2dwReferenceIdeal.τ) (Cert.F2dwReferenceIdeal.main (F := Ideal))) ⟨m, fun _ => 0, g⟩ (fun r => (∀ c : Dev Cert.F2dwReferenceIdeal.nD,
      r.2.mem ((c.tc : Thread Cert.F2dwReferenceIdeal.nD Cert.F2dwReferenceIdeal.τ).loc Cert.F2dwReferenceIdeal.main_arg0) = m ((c.tc : Thread Cert.F2dwReferenceIdeal.nD Cert.F2dwReferenceIdeal.τ).loc Cert.F2dwReferenceIdeal.main_arg0)
      ∧ r.2.mem ((c.tc : Thread Cert.F2dwReferenceIdeal.nD Cert.F2dwReferenceIdeal.τ).loc Cert.F2dwReferenceIdeal.main_arg1) = m ((c.tc : Thread Cert.F2dwReferenceIdeal.nD Cert.F2dwReferenceIdeal.τ).loc Cert.F2dwReferenceIdeal.main_arg1))
      ∧ r.2.sem = fun _ => 0)

def quiescent_F1dwKernel [hF1dwKernel : Cert.F1dwKernel.Facts] : Prop :=
  ∀ (m : (ℓ : Loc Cert.F1dwKernel.nD Cert.F1dwKernel.τ Cert.F1dwKernel.sig) → Buf (Elt Bits) ℓ) (g : Dev Cert.F1dwKernel.nD → PrngReg), Pre_F1dwKernel m →
    θ_run (Cert.F1dwKernel.defs (F := Bits)) (onTc (τ := Cert.F1dwKernel.τ) (Cert.F1dwKernel.main (F := Bits))) ⟨m, fun _ => 0, g⟩ (fun r => (∀ c : Dev Cert.F1dwKernel.nD,
      r.2.mem ((c.tc : Thread Cert.F1dwKernel.nD Cert.F1dwKernel.τ).loc Cert.F1dwKernel.main_arg0) = m ((c.tc : Thread Cert.F1dwKernel.nD Cert.F1dwKernel.τ).loc Cert.F1dwKernel.main_arg0)
      ∧ r.2.mem ((c.tc : Thread Cert.F1dwKernel.nD Cert.F1dwKernel.τ).loc Cert.F1dwKernel.main_arg1) = m ((c.tc : Thread Cert.F1dwKernel.nD Cert.F1dwKernel.τ).loc Cert.F1dwKernel.main_arg1))
      ∧ r.2.sem = fun _ => 0)

def quiescent_F1dwKernelIdeal [hF1dwKernelIdeal : Cert.F1dwKernelIdeal.Facts] : Prop :=
  ∀ (m : (ℓ : Loc Cert.F1dwKernelIdeal.nD Cert.F1dwKernelIdeal.τ Cert.F1dwKernelIdeal.sig) → Buf (Elt Ideal) ℓ) (g : Dev Cert.F1dwKernelIdeal.nD → PrngReg), Pre_F1dwKernelIdeal m →
    θ_run (Cert.F1dwKernelIdeal.defs (F := Ideal)) (onTc (τ := Cert.F1dwKernelIdeal.τ) (Cert.F1dwKernelIdeal.main (F := Ideal))) ⟨m, fun _ => 0, g⟩ (fun r => (∀ c : Dev Cert.F1dwKernelIdeal.nD,
      r.2.mem ((c.tc : Thread Cert.F1dwKernelIdeal.nD Cert.F1dwKernelIdeal.τ).loc Cert.F1dwKernelIdeal.main_arg0) = m ((c.tc : Thread Cert.F1dwKernelIdeal.nD Cert.F1dwKernelIdeal.τ).loc Cert.F1dwKernelIdeal.main_arg0)
      ∧ r.2.mem ((c.tc : Thread Cert.F1dwKernelIdeal.nD Cert.F1dwKernelIdeal.τ).loc Cert.F1dwKernelIdeal.main_arg1) = m ((c.tc : Thread Cert.F1dwKernelIdeal.nD Cert.F1dwKernelIdeal.τ).loc Cert.F1dwKernelIdeal.main_arg1))
      ∧ r.2.sem = fun _ => 0)

def quiescent_F1dwReferenceIdeal [hF1dwReferenceIdeal : Cert.F1dwReferenceIdeal.Facts] : Prop :=
  ∀ (m : (ℓ : Loc Cert.F1dwReferenceIdeal.nD Cert.F1dwReferenceIdeal.τ Cert.F1dwReferenceIdeal.sig) → Buf (Elt Ideal) ℓ) (g : Dev Cert.F1dwReferenceIdeal.nD → PrngReg), Pre_F1dwReferenceIdeal m →
    θ_run (Cert.F1dwReferenceIdeal.defs (F := Ideal)) (onTc (τ := Cert.F1dwReferenceIdeal.τ) (Cert.F1dwReferenceIdeal.main (F := Ideal))) ⟨m, fun _ => 0, g⟩ (fun r => (∀ c : Dev Cert.F1dwReferenceIdeal.nD,
      r.2.mem ((c.tc : Thread Cert.F1dwReferenceIdeal.nD Cert.F1dwReferenceIdeal.τ).loc Cert.F1dwReferenceIdeal.main_arg0) = m ((c.tc : Thread Cert.F1dwReferenceIdeal.nD Cert.F1dwReferenceIdeal.τ).loc Cert.F1dwReferenceIdeal.main_arg0)
      ∧ r.2.mem ((c.tc : Thread Cert.F1dwReferenceIdeal.nD Cert.F1dwReferenceIdeal.τ).loc Cert.F1dwReferenceIdeal.main_arg1) = m ((c.tc : Thread Cert.F1dwReferenceIdeal.nD Cert.F1dwReferenceIdeal.τ).loc Cert.F1dwReferenceIdeal.main_arg1))
      ∧ r.2.sem = fun _ => 0)

def quiescent_F1dxKernel [hF1dxKernel : Cert.F1dxKernel.Facts] : Prop :=
  ∀ (m : (ℓ : Loc Cert.F1dxKernel.nD Cert.F1dxKernel.τ Cert.F1dxKernel.sig) → Buf (Elt Bits) ℓ) (g : Dev Cert.F1dxKernel.nD → PrngReg), Pre_F1dxKernel m →
    θ_run (Cert.F1dxKernel.defs (F := Bits)) (onTc (τ := Cert.F1dxKernel.τ) (Cert.F1dxKernel.main (F := Bits))) ⟨m, fun _ => 0, g⟩ (fun r => (∀ c : Dev Cert.F1dxKernel.nD,
      r.2.mem ((c.tc : Thread Cert.F1dxKernel.nD Cert.F1dxKernel.τ).loc Cert.F1dxKernel.main_arg0) = m ((c.tc : Thread Cert.F1dxKernel.nD Cert.F1dxKernel.τ).loc Cert.F1dxKernel.main_arg0)
      ∧ r.2.mem ((c.tc : Thread Cert.F1dxKernel.nD Cert.F1dxKernel.τ).loc Cert.F1dxKernel.main_arg1) = m ((c.tc : Thread Cert.F1dxKernel.nD Cert.F1dxKernel.τ).loc Cert.F1dxKernel.main_arg1))
      ∧ r.2.sem = fun _ => 0)

def quiescent_F1dxKernelIdeal [hF1dxKernelIdeal : Cert.F1dxKernelIdeal.Facts] : Prop :=
  ∀ (m : (ℓ : Loc Cert.F1dxKernelIdeal.nD Cert.F1dxKernelIdeal.τ Cert.F1dxKernelIdeal.sig) → Buf (Elt Ideal) ℓ) (g : Dev Cert.F1dxKernelIdeal.nD → PrngReg), Pre_F1dxKernelIdeal m →
    θ_run (Cert.F1dxKernelIdeal.defs (F := Ideal)) (onTc (τ := Cert.F1dxKernelIdeal.τ) (Cert.F1dxKernelIdeal.main (F := Ideal))) ⟨m, fun _ => 0, g⟩ (fun r => (∀ c : Dev Cert.F1dxKernelIdeal.nD,
      r.2.mem ((c.tc : Thread Cert.F1dxKernelIdeal.nD Cert.F1dxKernelIdeal.τ).loc Cert.F1dxKernelIdeal.main_arg0) = m ((c.tc : Thread Cert.F1dxKernelIdeal.nD Cert.F1dxKernelIdeal.τ).loc Cert.F1dxKernelIdeal.main_arg0)
      ∧ r.2.mem ((c.tc : Thread Cert.F1dxKernelIdeal.nD Cert.F1dxKernelIdeal.τ).loc Cert.F1dxKernelIdeal.main_arg1) = m ((c.tc : Thread Cert.F1dxKernelIdeal.nD Cert.F1dxKernelIdeal.τ).loc Cert.F1dxKernelIdeal.main_arg1))
      ∧ r.2.sem = fun _ => 0)

def quiescent_F1dxReferenceIdeal [hF1dxReferenceIdeal : Cert.F1dxReferenceIdeal.Facts] : Prop :=
  ∀ (m : (ℓ : Loc Cert.F1dxReferenceIdeal.nD Cert.F1dxReferenceIdeal.τ Cert.F1dxReferenceIdeal.sig) → Buf (Elt Ideal) ℓ) (g : Dev Cert.F1dxReferenceIdeal.nD → PrngReg), Pre_F1dxReferenceIdeal m →
    θ_run (Cert.F1dxReferenceIdeal.defs (F := Ideal)) (onTc (τ := Cert.F1dxReferenceIdeal.τ) (Cert.F1dxReferenceIdeal.main (F := Ideal))) ⟨m, fun _ => 0, g⟩ (fun r => (∀ c : Dev Cert.F1dxReferenceIdeal.nD,
      r.2.mem ((c.tc : Thread Cert.F1dxReferenceIdeal.nD Cert.F1dxReferenceIdeal.τ).loc Cert.F1dxReferenceIdeal.main_arg0) = m ((c.tc : Thread Cert.F1dxReferenceIdeal.nD Cert.F1dxReferenceIdeal.τ).loc Cert.F1dxReferenceIdeal.main_arg0)
      ∧ r.2.mem ((c.tc : Thread Cert.F1dxReferenceIdeal.nD Cert.F1dxReferenceIdeal.τ).loc Cert.F1dxReferenceIdeal.main_arg1) = m ((c.tc : Thread Cert.F1dxReferenceIdeal.nD Cert.F1dxReferenceIdeal.τ).loc Cert.F1dxReferenceIdeal.main_arg1))
      ∧ r.2.sem = fun _ => 0)

def quiescent_OdxKernel [hOdxKernel : Cert.OdxKernel.Facts] : Prop :=
  ∀ (m : (ℓ : Loc Cert.OdxKernel.nD Cert.OdxKernel.τ Cert.OdxKernel.sig) → Buf (Elt Bits) ℓ) (g : Dev Cert.OdxKernel.nD → PrngReg), Pre_OdxKernel m →
    θ_run (Cert.OdxKernel.defs (F := Bits)) (onTc (τ := Cert.OdxKernel.τ) (Cert.OdxKernel.main (F := Bits))) ⟨m, fun _ => 0, g⟩ (fun r => (∀ c : Dev Cert.OdxKernel.nD,
      r.2.mem ((c.tc : Thread Cert.OdxKernel.nD Cert.OdxKernel.τ).loc Cert.OdxKernel.main_arg0) = m ((c.tc : Thread Cert.OdxKernel.nD Cert.OdxKernel.τ).loc Cert.OdxKernel.main_arg0)
      ∧ r.2.mem ((c.tc : Thread Cert.OdxKernel.nD Cert.OdxKernel.τ).loc Cert.OdxKernel.main_arg1) = m ((c.tc : Thread Cert.OdxKernel.nD Cert.OdxKernel.τ).loc Cert.OdxKernel.main_arg1)
      ∧ r.2.mem ((c.tc : Thread Cert.OdxKernel.nD Cert.OdxKernel.τ).loc Cert.OdxKernel.main_arg2) = m ((c.tc : Thread Cert.OdxKernel.nD Cert.OdxKernel.τ).loc Cert.OdxKernel.main_arg2))
      ∧ r.2.sem = fun _ => 0)

def quiescent_OdxKernelIdeal [hOdxKernelIdeal : Cert.OdxKernelIdeal.Facts] : Prop :=
  ∀ (m : (ℓ : Loc Cert.OdxKernelIdeal.nD Cert.OdxKernelIdeal.τ Cert.OdxKernelIdeal.sig) → Buf (Elt Ideal) ℓ) (g : Dev Cert.OdxKernelIdeal.nD → PrngReg), Pre_OdxKernelIdeal m →
    θ_run (Cert.OdxKernelIdeal.defs (F := Ideal)) (onTc (τ := Cert.OdxKernelIdeal.τ) (Cert.OdxKernelIdeal.main (F := Ideal))) ⟨m, fun _ => 0, g⟩ (fun r => (∀ c : Dev Cert.OdxKernelIdeal.nD,
      r.2.mem ((c.tc : Thread Cert.OdxKernelIdeal.nD Cert.OdxKernelIdeal.τ).loc Cert.OdxKernelIdeal.main_arg0) = m ((c.tc : Thread Cert.OdxKernelIdeal.nD Cert.OdxKernelIdeal.τ).loc Cert.OdxKernelIdeal.main_arg0)
      ∧ r.2.mem ((c.tc : Thread Cert.OdxKernelIdeal.nD Cert.OdxKernelIdeal.τ).loc Cert.OdxKernelIdeal.main_arg1) = m ((c.tc : Thread Cert.OdxKernelIdeal.nD Cert.OdxKernelIdeal.τ).loc Cert.OdxKernelIdeal.main_arg1)
      ∧ r.2.mem ((c.tc : Thread Cert.OdxKernelIdeal.nD Cert.OdxKernelIdeal.τ).loc Cert.OdxKernelIdeal.main_arg2) = m ((c.tc : Thread Cert.OdxKernelIdeal.nD Cert.OdxKernelIdeal.τ).loc Cert.OdxKernelIdeal.main_arg2))
      ∧ r.2.sem = fun _ => 0)

def quiescent_OdxReferenceIdeal [hOdxReferenceIdeal : Cert.OdxReferenceIdeal.Facts] : Prop :=
  ∀ (m : (ℓ : Loc Cert.OdxReferenceIdeal.nD Cert.OdxReferenceIdeal.τ Cert.OdxReferenceIdeal.sig) → Buf (Elt Ideal) ℓ) (g : Dev Cert.OdxReferenceIdeal.nD → PrngReg), Pre_OdxReferenceIdeal m →
    θ_run (Cert.OdxReferenceIdeal.defs (F := Ideal)) (onTc (τ := Cert.OdxReferenceIdeal.τ) (Cert.OdxReferenceIdeal.main (F := Ideal))) ⟨m, fun _ => 0, g⟩ (fun r => (∀ c : Dev Cert.OdxReferenceIdeal.nD,
      r.2.mem ((c.tc : Thread Cert.OdxReferenceIdeal.nD Cert.OdxReferenceIdeal.τ).loc Cert.OdxReferenceIdeal.main_arg0) = m ((c.tc : Thread Cert.OdxReferenceIdeal.nD Cert.OdxReferenceIdeal.τ).loc Cert.OdxReferenceIdeal.main_arg0)
      ∧ r.2.mem ((c.tc : Thread Cert.OdxReferenceIdeal.nD Cert.OdxReferenceIdeal.τ).loc Cert.OdxReferenceIdeal.main_arg1) = m ((c.tc : Thread Cert.OdxReferenceIdeal.nD Cert.OdxReferenceIdeal.τ).loc Cert.OdxReferenceIdeal.main_arg1)
      ∧ r.2.mem ((c.tc : Thread Cert.OdxReferenceIdeal.nD Cert.OdxReferenceIdeal.τ).loc Cert.OdxReferenceIdeal.main_arg2) = m ((c.tc : Thread Cert.OdxReferenceIdeal.nD Cert.OdxReferenceIdeal.τ).loc Cert.OdxReferenceIdeal.main_arg2))
      ∧ r.2.sem = fun _ => 0)

def quiescent_OdwKernel [hOdwKernel : Cert.OdwKernel.Facts] : Prop :=
  ∀ (m : (ℓ : Loc Cert.OdwKernel.nD Cert.OdwKernel.τ Cert.OdwKernel.sig) → Buf (Elt Bits) ℓ) (g : Dev Cert.OdwKernel.nD → PrngReg), Pre_OdwKernel m →
    θ_run (Cert.OdwKernel.defs (F := Bits)) (onTc (τ := Cert.OdwKernel.τ) (Cert.OdwKernel.main (F := Bits))) ⟨m, fun _ => 0, g⟩ (fun r => (∀ c : Dev Cert.OdwKernel.nD,
      r.2.mem ((c.tc : Thread Cert.OdwKernel.nD Cert.OdwKernel.τ).loc Cert.OdwKernel.main_arg0) = m ((c.tc : Thread Cert.OdwKernel.nD Cert.OdwKernel.τ).loc Cert.OdwKernel.main_arg0)
      ∧ r.2.mem ((c.tc : Thread Cert.OdwKernel.nD Cert.OdwKernel.τ).loc Cert.OdwKernel.main_arg1) = m ((c.tc : Thread Cert.OdwKernel.nD Cert.OdwKernel.τ).loc Cert.OdwKernel.main_arg1))
      ∧ r.2.sem = fun _ => 0)

def quiescent_OdwKernelIdeal [hOdwKernelIdeal : Cert.OdwKernelIdeal.Facts] : Prop :=
  ∀ (m : (ℓ : Loc Cert.OdwKernelIdeal.nD Cert.OdwKernelIdeal.τ Cert.OdwKernelIdeal.sig) → Buf (Elt Ideal) ℓ) (g : Dev Cert.OdwKernelIdeal.nD → PrngReg), Pre_OdwKernelIdeal m →
    θ_run (Cert.OdwKernelIdeal.defs (F := Ideal)) (onTc (τ := Cert.OdwKernelIdeal.τ) (Cert.OdwKernelIdeal.main (F := Ideal))) ⟨m, fun _ => 0, g⟩ (fun r => (∀ c : Dev Cert.OdwKernelIdeal.nD,
      r.2.mem ((c.tc : Thread Cert.OdwKernelIdeal.nD Cert.OdwKernelIdeal.τ).loc Cert.OdwKernelIdeal.main_arg0) = m ((c.tc : Thread Cert.OdwKernelIdeal.nD Cert.OdwKernelIdeal.τ).loc Cert.OdwKernelIdeal.main_arg0)
      ∧ r.2.mem ((c.tc : Thread Cert.OdwKernelIdeal.nD Cert.OdwKernelIdeal.τ).loc Cert.OdwKernelIdeal.main_arg1) = m ((c.tc : Thread Cert.OdwKernelIdeal.nD Cert.OdwKernelIdeal.τ).loc Cert.OdwKernelIdeal.main_arg1))
      ∧ r.2.sem = fun _ => 0)

def quiescent_OdwReferenceIdeal [hOdwReferenceIdeal : Cert.OdwReferenceIdeal.Facts] : Prop :=
  ∀ (m : (ℓ : Loc Cert.OdwReferenceIdeal.nD Cert.OdwReferenceIdeal.τ Cert.OdwReferenceIdeal.sig) → Buf (Elt Ideal) ℓ) (g : Dev Cert.OdwReferenceIdeal.nD → PrngReg), Pre_OdwReferenceIdeal m →
    θ_run (Cert.OdwReferenceIdeal.defs (F := Ideal)) (onTc (τ := Cert.OdwReferenceIdeal.τ) (Cert.OdwReferenceIdeal.main (F := Ideal))) ⟨m, fun _ => 0, g⟩ (fun r => (∀ c : Dev Cert.OdwReferenceIdeal.nD,
      r.2.mem ((c.tc : Thread Cert.OdwReferenceIdeal.nD Cert.OdwReferenceIdeal.τ).loc Cert.OdwReferenceIdeal.main_arg0) = m ((c.tc : Thread Cert.OdwReferenceIdeal.nD Cert.OdwReferenceIdeal.τ).loc Cert.OdwReferenceIdeal.main_arg0)
      ∧ r.2.mem ((c.tc : Thread Cert.OdwReferenceIdeal.nD Cert.OdwReferenceIdeal.τ).loc Cert.OdwReferenceIdeal.main_arg1) = m ((c.tc : Thread Cert.OdwReferenceIdeal.nD Cert.OdwReferenceIdeal.τ).loc Cert.OdwReferenceIdeal.main_arg1))
      ∧ r.2.sem = fun _ => 0)

def quiescent_QdwKernel [hQdwKernel : Cert.QdwKernel.Facts] : Prop :=
  ∀ (m : (ℓ : Loc Cert.QdwKernel.nD Cert.QdwKernel.τ Cert.QdwKernel.sig) → Buf (Elt Bits) ℓ) (g : Dev Cert.QdwKernel.nD → PrngReg), Pre_QdwKernel m →
    θ_run (Cert.QdwKernel.defs (F := Bits)) (onTc (τ := Cert.QdwKernel.τ) (Cert.QdwKernel.main (F := Bits))) ⟨m, fun _ => 0, g⟩ (fun r => (∀ c : Dev Cert.QdwKernel.nD,
      r.2.mem ((c.tc : Thread Cert.QdwKernel.nD Cert.QdwKernel.τ).loc Cert.QdwKernel.main_arg0) = m ((c.tc : Thread Cert.QdwKernel.nD Cert.QdwKernel.τ).loc Cert.QdwKernel.main_arg0)
      ∧ r.2.mem ((c.tc : Thread Cert.QdwKernel.nD Cert.QdwKernel.τ).loc Cert.QdwKernel.main_arg1) = m ((c.tc : Thread Cert.QdwKernel.nD Cert.QdwKernel.τ).loc Cert.QdwKernel.main_arg1))
      ∧ r.2.sem = fun _ => 0)

def quiescent_QdwKernelIdeal [hQdwKernelIdeal : Cert.QdwKernelIdeal.Facts] : Prop :=
  ∀ (m : (ℓ : Loc Cert.QdwKernelIdeal.nD Cert.QdwKernelIdeal.τ Cert.QdwKernelIdeal.sig) → Buf (Elt Ideal) ℓ) (g : Dev Cert.QdwKernelIdeal.nD → PrngReg), Pre_QdwKernelIdeal m →
    θ_run (Cert.QdwKernelIdeal.defs (F := Ideal)) (onTc (τ := Cert.QdwKernelIdeal.τ) (Cert.QdwKernelIdeal.main (F := Ideal))) ⟨m, fun _ => 0, g⟩ (fun r => (∀ c : Dev Cert.QdwKernelIdeal.nD,
      r.2.mem ((c.tc : Thread Cert.QdwKernelIdeal.nD Cert.QdwKernelIdeal.τ).loc Cert.QdwKernelIdeal.main_arg0) = m ((c.tc : Thread Cert.QdwKernelIdeal.nD Cert.QdwKernelIdeal.τ).loc Cert.QdwKernelIdeal.main_arg0)
      ∧ r.2.mem ((c.tc : Thread Cert.QdwKernelIdeal.nD Cert.QdwKernelIdeal.τ).loc Cert.QdwKernelIdeal.main_arg1) = m ((c.tc : Thread Cert.QdwKernelIdeal.nD Cert.QdwKernelIdeal.τ).loc Cert.QdwKernelIdeal.main_arg1))
      ∧ r.2.sem = fun _ => 0)

def quiescent_QdwReferenceIdeal [hQdwReferenceIdeal : Cert.QdwReferenceIdeal.Facts] : Prop :=
  ∀ (m : (ℓ : Loc Cert.QdwReferenceIdeal.nD Cert.QdwReferenceIdeal.τ Cert.QdwReferenceIdeal.sig) → Buf (Elt Ideal) ℓ) (g : Dev Cert.QdwReferenceIdeal.nD → PrngReg), Pre_QdwReferenceIdeal m →
    θ_run (Cert.QdwReferenceIdeal.defs (F := Ideal)) (onTc (τ := Cert.QdwReferenceIdeal.τ) (Cert.QdwReferenceIdeal.main (F := Ideal))) ⟨m, fun _ => 0, g⟩ (fun r => (∀ c : Dev Cert.QdwReferenceIdeal.nD,
      r.2.mem ((c.tc : Thread Cert.QdwReferenceIdeal.nD Cert.QdwReferenceIdeal.τ).loc Cert.QdwReferenceIdeal.main_arg0) = m ((c.tc : Thread Cert.QdwReferenceIdeal.nD Cert.QdwReferenceIdeal.τ).loc Cert.QdwReferenceIdeal.main_arg0)
      ∧ r.2.mem ((c.tc : Thread Cert.QdwReferenceIdeal.nD Cert.QdwReferenceIdeal.τ).loc Cert.QdwReferenceIdeal.main_arg1) = m ((c.tc : Thread Cert.QdwReferenceIdeal.nD Cert.QdwReferenceIdeal.τ).loc Cert.QdwReferenceIdeal.main_arg1))
      ∧ r.2.sem = fun _ => 0)

def quiescent_QdxKernel [hQdxKernel : Cert.QdxKernel.Facts] : Prop :=
  ∀ (m : (ℓ : Loc Cert.QdxKernel.nD Cert.QdxKernel.τ Cert.QdxKernel.sig) → Buf (Elt Bits) ℓ) (g : Dev Cert.QdxKernel.nD → PrngReg), Pre_QdxKernel m →
    θ_run (Cert.QdxKernel.defs (F := Bits)) (onTc (τ := Cert.QdxKernel.τ) (Cert.QdxKernel.main (F := Bits))) ⟨m, fun _ => 0, g⟩ (fun r => (∀ c : Dev Cert.QdxKernel.nD,
      r.2.mem ((c.tc : Thread Cert.QdxKernel.nD Cert.QdxKernel.τ).loc Cert.QdxKernel.main_arg0) = m ((c.tc : Thread Cert.QdxKernel.nD Cert.QdxKernel.τ).loc Cert.QdxKernel.main_arg0)
      ∧ r.2.mem ((c.tc : Thread Cert.QdxKernel.nD Cert.QdxKernel.τ).loc Cert.QdxKernel.main_arg1) = m ((c.tc : Thread Cert.QdxKernel.nD Cert.QdxKernel.τ).loc Cert.QdxKernel.main_arg1))
      ∧ r.2.sem = fun _ => 0)

def quiescent_QdxKernelIdeal [hQdxKernelIdeal : Cert.QdxKernelIdeal.Facts] : Prop :=
  ∀ (m : (ℓ : Loc Cert.QdxKernelIdeal.nD Cert.QdxKernelIdeal.τ Cert.QdxKernelIdeal.sig) → Buf (Elt Ideal) ℓ) (g : Dev Cert.QdxKernelIdeal.nD → PrngReg), Pre_QdxKernelIdeal m →
    θ_run (Cert.QdxKernelIdeal.defs (F := Ideal)) (onTc (τ := Cert.QdxKernelIdeal.τ) (Cert.QdxKernelIdeal.main (F := Ideal))) ⟨m, fun _ => 0, g⟩ (fun r => (∀ c : Dev Cert.QdxKernelIdeal.nD,
      r.2.mem ((c.tc : Thread Cert.QdxKernelIdeal.nD Cert.QdxKernelIdeal.τ).loc Cert.QdxKernelIdeal.main_arg0) = m ((c.tc : Thread Cert.QdxKernelIdeal.nD Cert.QdxKernelIdeal.τ).loc Cert.QdxKernelIdeal.main_arg0)
      ∧ r.2.mem ((c.tc : Thread Cert.QdxKernelIdeal.nD Cert.QdxKernelIdeal.τ).loc Cert.QdxKernelIdeal.main_arg1) = m ((c.tc : Thread Cert.QdxKernelIdeal.nD Cert.QdxKernelIdeal.τ).loc Cert.QdxKernelIdeal.main_arg1))
      ∧ r.2.sem = fun _ => 0)

def quiescent_QdxReferenceIdeal [hQdxReferenceIdeal : Cert.QdxReferenceIdeal.Facts] : Prop :=
  ∀ (m : (ℓ : Loc Cert.QdxReferenceIdeal.nD Cert.QdxReferenceIdeal.τ Cert.QdxReferenceIdeal.sig) → Buf (Elt Ideal) ℓ) (g : Dev Cert.QdxReferenceIdeal.nD → PrngReg), Pre_QdxReferenceIdeal m →
    θ_run (Cert.QdxReferenceIdeal.defs (F := Ideal)) (onTc (τ := Cert.QdxReferenceIdeal.τ) (Cert.QdxReferenceIdeal.main (F := Ideal))) ⟨m, fun _ => 0, g⟩ (fun r => (∀ c : Dev Cert.QdxReferenceIdeal.nD,
      r.2.mem ((c.tc : Thread Cert.QdxReferenceIdeal.nD Cert.QdxReferenceIdeal.τ).loc Cert.QdxReferenceIdeal.main_arg0) = m ((c.tc : Thread Cert.QdxReferenceIdeal.nD Cert.QdxReferenceIdeal.τ).loc Cert.QdxReferenceIdeal.main_arg0)
      ∧ r.2.mem ((c.tc : Thread Cert.QdxReferenceIdeal.nD Cert.QdxReferenceIdeal.τ).loc Cert.QdxReferenceIdeal.main_arg1) = m ((c.tc : Thread Cert.QdxReferenceIdeal.nD Cert.QdxReferenceIdeal.τ).loc Cert.QdxReferenceIdeal.main_arg1))
      ∧ r.2.sem = fun _ => 0)

def quiescent_KdwKernel [hKdwKernel : Cert.KdwKernel.Facts] : Prop :=
  ∀ (m : (ℓ : Loc Cert.KdwKernel.nD Cert.KdwKernel.τ Cert.KdwKernel.sig) → Buf (Elt Bits) ℓ) (g : Dev Cert.KdwKernel.nD → PrngReg), Pre_KdwKernel m →
    θ_run (Cert.KdwKernel.defs (F := Bits)) (onTc (τ := Cert.KdwKernel.τ) (Cert.KdwKernel.main (F := Bits))) ⟨m, fun _ => 0, g⟩ (fun r => (∀ c : Dev Cert.KdwKernel.nD,
      r.2.mem ((c.tc : Thread Cert.KdwKernel.nD Cert.KdwKernel.τ).loc Cert.KdwKernel.main_arg0) = m ((c.tc : Thread Cert.KdwKernel.nD Cert.KdwKernel.τ).loc Cert.KdwKernel.main_arg0)
      ∧ r.2.mem ((c.tc : Thread Cert.KdwKernel.nD Cert.KdwKernel.τ).loc Cert.KdwKernel.main_arg1) = m ((c.tc : Thread Cert.KdwKernel.nD Cert.KdwKernel.τ).loc Cert.KdwKernel.main_arg1))
      ∧ r.2.sem = fun _ => 0)

def quiescent_KdwKernelIdeal [hKdwKernelIdeal : Cert.KdwKernelIdeal.Facts] : Prop :=
  ∀ (m : (ℓ : Loc Cert.KdwKernelIdeal.nD Cert.KdwKernelIdeal.τ Cert.KdwKernelIdeal.sig) → Buf (Elt Ideal) ℓ) (g : Dev Cert.KdwKernelIdeal.nD → PrngReg), Pre_KdwKernelIdeal m →
    θ_run (Cert.KdwKernelIdeal.defs (F := Ideal)) (onTc (τ := Cert.KdwKernelIdeal.τ) (Cert.KdwKernelIdeal.main (F := Ideal))) ⟨m, fun _ => 0, g⟩ (fun r => (∀ c : Dev Cert.KdwKernelIdeal.nD,
      r.2.mem ((c.tc : Thread Cert.KdwKernelIdeal.nD Cert.KdwKernelIdeal.τ).loc Cert.KdwKernelIdeal.main_arg0) = m ((c.tc : Thread Cert.KdwKernelIdeal.nD Cert.KdwKernelIdeal.τ).loc Cert.KdwKernelIdeal.main_arg0)
      ∧ r.2.mem ((c.tc : Thread Cert.KdwKernelIdeal.nD Cert.KdwKernelIdeal.τ).loc Cert.KdwKernelIdeal.main_arg1) = m ((c.tc : Thread Cert.KdwKernelIdeal.nD Cert.KdwKernelIdeal.τ).loc Cert.KdwKernelIdeal.main_arg1))
      ∧ r.2.sem = fun _ => 0)

def quiescent_KdwReferenceIdeal [hKdwReferenceIdeal : Cert.KdwReferenceIdeal.Facts] : Prop :=
  ∀ (m : (ℓ : Loc Cert.KdwReferenceIdeal.nD Cert.KdwReferenceIdeal.τ Cert.KdwReferenceIdeal.sig) → Buf (Elt Ideal) ℓ) (g : Dev Cert.KdwReferenceIdeal.nD → PrngReg), Pre_KdwReferenceIdeal m →
    θ_run (Cert.KdwReferenceIdeal.defs (F := Ideal)) (onTc (τ := Cert.KdwReferenceIdeal.τ) (Cert.KdwReferenceIdeal.main (F := Ideal))) ⟨m, fun _ => 0, g⟩ (fun r => (∀ c : Dev Cert.KdwReferenceIdeal.nD,
      r.2.mem ((c.tc : Thread Cert.KdwReferenceIdeal.nD Cert.KdwReferenceIdeal.τ).loc Cert.KdwReferenceIdeal.main_arg0) = m ((c.tc : Thread Cert.KdwReferenceIdeal.nD Cert.KdwReferenceIdeal.τ).loc Cert.KdwReferenceIdeal.main_arg0)
      ∧ r.2.mem ((c.tc : Thread Cert.KdwReferenceIdeal.nD Cert.KdwReferenceIdeal.τ).loc Cert.KdwReferenceIdeal.main_arg1) = m ((c.tc : Thread Cert.KdwReferenceIdeal.nD Cert.KdwReferenceIdeal.τ).loc Cert.KdwReferenceIdeal.main_arg1))
      ∧ r.2.sem = fun _ => 0)

def quiescent_KdxKernel [hKdxKernel : Cert.KdxKernel.Facts] : Prop :=
  ∀ (m : (ℓ : Loc Cert.KdxKernel.nD Cert.KdxKernel.τ Cert.KdxKernel.sig) → Buf (Elt Bits) ℓ) (g : Dev Cert.KdxKernel.nD → PrngReg), Pre_KdxKernel m →
    θ_run (Cert.KdxKernel.defs (F := Bits)) (onTc (τ := Cert.KdxKernel.τ) (Cert.KdxKernel.main (F := Bits))) ⟨m, fun _ => 0, g⟩ (fun r => (∀ c : Dev Cert.KdxKernel.nD,
      r.2.mem ((c.tc : Thread Cert.KdxKernel.nD Cert.KdxKernel.τ).loc Cert.KdxKernel.main_arg0) = m ((c.tc : Thread Cert.KdxKernel.nD Cert.KdxKernel.τ).loc Cert.KdxKernel.main_arg0)
      ∧ r.2.mem ((c.tc : Thread Cert.KdxKernel.nD Cert.KdxKernel.τ).loc Cert.KdxKernel.main_arg1) = m ((c.tc : Thread Cert.KdxKernel.nD Cert.KdxKernel.τ).loc Cert.KdxKernel.main_arg1))
      ∧ r.2.sem = fun _ => 0)

def quiescent_KdxKernelIdeal [hKdxKernelIdeal : Cert.KdxKernelIdeal.Facts] : Prop :=
  ∀ (m : (ℓ : Loc Cert.KdxKernelIdeal.nD Cert.KdxKernelIdeal.τ Cert.KdxKernelIdeal.sig) → Buf (Elt Ideal) ℓ) (g : Dev Cert.KdxKernelIdeal.nD → PrngReg), Pre_KdxKernelIdeal m →
    θ_run (Cert.KdxKernelIdeal.defs (F := Ideal)) (onTc (τ := Cert.KdxKernelIdeal.τ) (Cert.KdxKernelIdeal.main (F := Ideal))) ⟨m, fun _ => 0, g⟩ (fun r => (∀ c : Dev Cert.KdxKernelIdeal.nD,
      r.2.mem ((c.tc : Thread Cert.KdxKernelIdeal.nD Cert.KdxKernelIdeal.τ).loc Cert.KdxKernelIdeal.main_arg0) = m ((c.tc : Thread Cert.KdxKernelIdeal.nD Cert.KdxKernelIdeal.τ).loc Cert.KdxKernelIdeal.main_arg0)
      ∧ r.2.mem ((c.tc : Thread Cert.KdxKernelIdeal.nD Cert.KdxKernelIdeal.τ).loc Cert.KdxKernelIdeal.main_arg1) = m ((c.tc : Thread Cert.KdxKernelIdeal.nD Cert.KdxKernelIdeal.τ).loc Cert.KdxKernelIdeal.main_arg1))
      ∧ r.2.sem = fun _ => 0)

def quiescent_KdxReferenceIdeal [hKdxReferenceIdeal : Cert.KdxReferenceIdeal.Facts] : Prop :=
  ∀ (m : (ℓ : Loc Cert.KdxReferenceIdeal.nD Cert.KdxReferenceIdeal.τ Cert.KdxReferenceIdeal.sig) → Buf (Elt Ideal) ℓ) (g : Dev Cert.KdxReferenceIdeal.nD → PrngReg), Pre_KdxReferenceIdeal m →
    θ_run (Cert.KdxReferenceIdeal.defs (F := Ideal)) (onTc (τ := Cert.KdxReferenceIdeal.τ) (Cert.KdxReferenceIdeal.main (F := Ideal))) ⟨m, fun _ => 0, g⟩ (fun r => (∀ c : Dev Cert.KdxReferenceIdeal.nD,
      r.2.mem ((c.tc : Thread Cert.KdxReferenceIdeal.nD Cert.KdxReferenceIdeal.τ).loc Cert.KdxReferenceIdeal.main_arg0) = m ((c.tc : Thread Cert.KdxReferenceIdeal.nD Cert.KdxReferenceIdeal.τ).loc Cert.KdxReferenceIdeal.main_arg0)
      ∧ r.2.mem ((c.tc : Thread Cert.KdxReferenceIdeal.nD Cert.KdxReferenceIdeal.τ).loc Cert.KdxReferenceIdeal.main_arg1) = m ((c.tc : Thread Cert.KdxReferenceIdeal.nD Cert.KdxReferenceIdeal.τ).loc Cert.KdxReferenceIdeal.main_arg1))
      ∧ r.2.sem = fun _ => 0)

def quiescent_VdxKernel [hVdxKernel : Cert.VdxKernel.Facts] : Prop :=
  ∀ (m : (ℓ : Loc Cert.VdxKernel.nD Cert.VdxKernel.τ Cert.VdxKernel.sig) → Buf (Elt Bits) ℓ) (g : Dev Cert.VdxKernel.nD → PrngReg), Pre_VdxKernel m →
    θ_run (Cert.VdxKernel.defs (F := Bits)) (onTc (τ := Cert.VdxKernel.τ) (Cert.VdxKernel.main (F := Bits))) ⟨m, fun _ => 0, g⟩ (fun r => (∀ c : Dev Cert.VdxKernel.nD,
      r.2.mem ((c.tc : Thread Cert.VdxKernel.nD Cert.VdxKernel.τ).loc Cert.VdxKernel.main_arg0) = m ((c.tc : Thread Cert.VdxKernel.nD Cert.VdxKernel.τ).loc Cert.VdxKernel.main_arg0)
      ∧ r.2.mem ((c.tc : Thread Cert.VdxKernel.nD Cert.VdxKernel.τ).loc Cert.VdxKernel.main_arg1) = m ((c.tc : Thread Cert.VdxKernel.nD Cert.VdxKernel.τ).loc Cert.VdxKernel.main_arg1)
      ∧ r.2.mem ((c.tc : Thread Cert.VdxKernel.nD Cert.VdxKernel.τ).loc Cert.VdxKernel.main_arg2) = m ((c.tc : Thread Cert.VdxKernel.nD Cert.VdxKernel.τ).loc Cert.VdxKernel.main_arg2))
      ∧ r.2.sem = fun _ => 0)

def quiescent_VdxKernelIdeal [hVdxKernelIdeal : Cert.VdxKernelIdeal.Facts] : Prop :=
  ∀ (m : (ℓ : Loc Cert.VdxKernelIdeal.nD Cert.VdxKernelIdeal.τ Cert.VdxKernelIdeal.sig) → Buf (Elt Ideal) ℓ) (g : Dev Cert.VdxKernelIdeal.nD → PrngReg), Pre_VdxKernelIdeal m →
    θ_run (Cert.VdxKernelIdeal.defs (F := Ideal)) (onTc (τ := Cert.VdxKernelIdeal.τ) (Cert.VdxKernelIdeal.main (F := Ideal))) ⟨m, fun _ => 0, g⟩ (fun r => (∀ c : Dev Cert.VdxKernelIdeal.nD,
      r.2.mem ((c.tc : Thread Cert.VdxKernelIdeal.nD Cert.VdxKernelIdeal.τ).loc Cert.VdxKernelIdeal.main_arg0) = m ((c.tc : Thread Cert.VdxKernelIdeal.nD Cert.VdxKernelIdeal.τ).loc Cert.VdxKernelIdeal.main_arg0)
      ∧ r.2.mem ((c.tc : Thread Cert.VdxKernelIdeal.nD Cert.VdxKernelIdeal.τ).loc Cert.VdxKernelIdeal.main_arg1) = m ((c.tc : Thread Cert.VdxKernelIdeal.nD Cert.VdxKernelIdeal.τ).loc Cert.VdxKernelIdeal.main_arg1)
      ∧ r.2.mem ((c.tc : Thread Cert.VdxKernelIdeal.nD Cert.VdxKernelIdeal.τ).loc Cert.VdxKernelIdeal.main_arg2) = m ((c.tc : Thread Cert.VdxKernelIdeal.nD Cert.VdxKernelIdeal.τ).loc Cert.VdxKernelIdeal.main_arg2))
      ∧ r.2.sem = fun _ => 0)

def quiescent_VdxReferenceIdeal [hVdxReferenceIdeal : Cert.VdxReferenceIdeal.Facts] : Prop :=
  ∀ (m : (ℓ : Loc Cert.VdxReferenceIdeal.nD Cert.VdxReferenceIdeal.τ Cert.VdxReferenceIdeal.sig) → Buf (Elt Ideal) ℓ) (g : Dev Cert.VdxReferenceIdeal.nD → PrngReg), Pre_VdxReferenceIdeal m →
    θ_run (Cert.VdxReferenceIdeal.defs (F := Ideal)) (onTc (τ := Cert.VdxReferenceIdeal.τ) (Cert.VdxReferenceIdeal.main (F := Ideal))) ⟨m, fun _ => 0, g⟩ (fun r => (∀ c : Dev Cert.VdxReferenceIdeal.nD,
      r.2.mem ((c.tc : Thread Cert.VdxReferenceIdeal.nD Cert.VdxReferenceIdeal.τ).loc Cert.VdxReferenceIdeal.main_arg0) = m ((c.tc : Thread Cert.VdxReferenceIdeal.nD Cert.VdxReferenceIdeal.τ).loc Cert.VdxReferenceIdeal.main_arg0)
      ∧ r.2.mem ((c.tc : Thread Cert.VdxReferenceIdeal.nD Cert.VdxReferenceIdeal.τ).loc Cert.VdxReferenceIdeal.main_arg1) = m ((c.tc : Thread Cert.VdxReferenceIdeal.nD Cert.VdxReferenceIdeal.τ).loc Cert.VdxReferenceIdeal.main_arg1)
      ∧ r.2.mem ((c.tc : Thread Cert.VdxReferenceIdeal.nD Cert.VdxReferenceIdeal.τ).loc Cert.VdxReferenceIdeal.main_arg2) = m ((c.tc : Thread Cert.VdxReferenceIdeal.nD Cert.VdxReferenceIdeal.τ).loc Cert.VdxReferenceIdeal.main_arg2))
      ∧ r.2.sem = fun _ => 0)

def quiescent_AbdwKernel [hAbdwKernel : Cert.AbdwKernel.Facts] : Prop :=
  ∀ (m : (ℓ : Loc Cert.AbdwKernel.nD Cert.AbdwKernel.τ Cert.AbdwKernel.sig) → Buf (Elt Bits) ℓ) (g : Dev Cert.AbdwKernel.nD → PrngReg), Pre_AbdwKernel m →
    θ_run (Cert.AbdwKernel.defs (F := Bits)) (onTc (τ := Cert.AbdwKernel.τ) (Cert.AbdwKernel.main (F := Bits))) ⟨m, fun _ => 0, g⟩ (fun r => (∀ c : Dev Cert.AbdwKernel.nD,
      r.2.mem ((c.tc : Thread Cert.AbdwKernel.nD Cert.AbdwKernel.τ).loc Cert.AbdwKernel.main_arg0) = m ((c.tc : Thread Cert.AbdwKernel.nD Cert.AbdwKernel.τ).loc Cert.AbdwKernel.main_arg0)
      ∧ r.2.mem ((c.tc : Thread Cert.AbdwKernel.nD Cert.AbdwKernel.τ).loc Cert.AbdwKernel.main_arg1) = m ((c.tc : Thread Cert.AbdwKernel.nD Cert.AbdwKernel.τ).loc Cert.AbdwKernel.main_arg1))
      ∧ r.2.sem = fun _ => 0)

def quiescent_AbdwKernelIdeal [hAbdwKernelIdeal : Cert.AbdwKernelIdeal.Facts] : Prop :=
  ∀ (m : (ℓ : Loc Cert.AbdwKernelIdeal.nD Cert.AbdwKernelIdeal.τ Cert.AbdwKernelIdeal.sig) → Buf (Elt Ideal) ℓ) (g : Dev Cert.AbdwKernelIdeal.nD → PrngReg), Pre_AbdwKernelIdeal m →
    θ_run (Cert.AbdwKernelIdeal.defs (F := Ideal)) (onTc (τ := Cert.AbdwKernelIdeal.τ) (Cert.AbdwKernelIdeal.main (F := Ideal))) ⟨m, fun _ => 0, g⟩ (fun r => (∀ c : Dev Cert.AbdwKernelIdeal.nD,
      r.2.mem ((c.tc : Thread Cert.AbdwKernelIdeal.nD Cert.AbdwKernelIdeal.τ).loc Cert.AbdwKernelIdeal.main_arg0) = m ((c.tc : Thread Cert.AbdwKernelIdeal.nD Cert.AbdwKernelIdeal.τ).loc Cert.AbdwKernelIdeal.main_arg0)
      ∧ r.2.mem ((c.tc : Thread Cert.AbdwKernelIdeal.nD Cert.AbdwKernelIdeal.τ).loc Cert.AbdwKernelIdeal.main_arg1) = m ((c.tc : Thread Cert.AbdwKernelIdeal.nD Cert.AbdwKernelIdeal.τ).loc Cert.AbdwKernelIdeal.main_arg1))
      ∧ r.2.sem = fun _ => 0)

def quiescent_AbdwReferenceIdeal [hAbdwReferenceIdeal : Cert.AbdwReferenceIdeal.Facts] : Prop :=
  ∀ (m : (ℓ : Loc Cert.AbdwReferenceIdeal.nD Cert.AbdwReferenceIdeal.τ Cert.AbdwReferenceIdeal.sig) → Buf (Elt Ideal) ℓ) (g : Dev Cert.AbdwReferenceIdeal.nD → PrngReg), Pre_AbdwReferenceIdeal m →
    θ_run (Cert.AbdwReferenceIdeal.defs (F := Ideal)) (onTc (τ := Cert.AbdwReferenceIdeal.τ) (Cert.AbdwReferenceIdeal.main (F := Ideal))) ⟨m, fun _ => 0, g⟩ (fun r => (∀ c : Dev Cert.AbdwReferenceIdeal.nD,
      r.2.mem ((c.tc : Thread Cert.AbdwReferenceIdeal.nD Cert.AbdwReferenceIdeal.τ).loc Cert.AbdwReferenceIdeal.main_arg0) = m ((c.tc : Thread Cert.AbdwReferenceIdeal.nD Cert.AbdwReferenceIdeal.τ).loc Cert.AbdwReferenceIdeal.main_arg0)
      ∧ r.2.mem ((c.tc : Thread Cert.AbdwReferenceIdeal.nD Cert.AbdwReferenceIdeal.τ).loc Cert.AbdwReferenceIdeal.main_arg1) = m ((c.tc : Thread Cert.AbdwReferenceIdeal.nD Cert.AbdwReferenceIdeal.τ).loc Cert.AbdwReferenceIdeal.main_arg1))
      ∧ r.2.sem = fun _ => 0)

def quiescent_AbdxKernel [hAbdxKernel : Cert.AbdxKernel.Facts] : Prop :=
  ∀ (m : (ℓ : Loc Cert.AbdxKernel.nD Cert.AbdxKernel.τ Cert.AbdxKernel.sig) → Buf (Elt Bits) ℓ) (g : Dev Cert.AbdxKernel.nD → PrngReg), Pre_AbdxKernel m →
    θ_run (Cert.AbdxKernel.defs (F := Bits)) (onTc (τ := Cert.AbdxKernel.τ) (Cert.AbdxKernel.main (F := Bits))) ⟨m, fun _ => 0, g⟩ (fun r => (∀ c : Dev Cert.AbdxKernel.nD,
      r.2.mem ((c.tc : Thread Cert.AbdxKernel.nD Cert.AbdxKernel.τ).loc Cert.AbdxKernel.main_arg0) = m ((c.tc : Thread Cert.AbdxKernel.nD Cert.AbdxKernel.τ).loc Cert.AbdxKernel.main_arg0)
      ∧ r.2.mem ((c.tc : Thread Cert.AbdxKernel.nD Cert.AbdxKernel.τ).loc Cert.AbdxKernel.main_arg1) = m ((c.tc : Thread Cert.AbdxKernel.nD Cert.AbdxKernel.τ).loc Cert.AbdxKernel.main_arg1))
      ∧ r.2.sem = fun _ => 0)

def quiescent_AbdxKernelIdeal [hAbdxKernelIdeal : Cert.AbdxKernelIdeal.Facts] : Prop :=
  ∀ (m : (ℓ : Loc Cert.AbdxKernelIdeal.nD Cert.AbdxKernelIdeal.τ Cert.AbdxKernelIdeal.sig) → Buf (Elt Ideal) ℓ) (g : Dev Cert.AbdxKernelIdeal.nD → PrngReg), Pre_AbdxKernelIdeal m →
    θ_run (Cert.AbdxKernelIdeal.defs (F := Ideal)) (onTc (τ := Cert.AbdxKernelIdeal.τ) (Cert.AbdxKernelIdeal.main (F := Ideal))) ⟨m, fun _ => 0, g⟩ (fun r => (∀ c : Dev Cert.AbdxKernelIdeal.nD,
      r.2.mem ((c.tc : Thread Cert.AbdxKernelIdeal.nD Cert.AbdxKernelIdeal.τ).loc Cert.AbdxKernelIdeal.main_arg0) = m ((c.tc : Thread Cert.AbdxKernelIdeal.nD Cert.AbdxKernelIdeal.τ).loc Cert.AbdxKernelIdeal.main_arg0)
      ∧ r.2.mem ((c.tc : Thread Cert.AbdxKernelIdeal.nD Cert.AbdxKernelIdeal.τ).loc Cert.AbdxKernelIdeal.main_arg1) = m ((c.tc : Thread Cert.AbdxKernelIdeal.nD Cert.AbdxKernelIdeal.τ).loc Cert.AbdxKernelIdeal.main_arg1))
      ∧ r.2.sem = fun _ => 0)

def quiescent_AbdxReferenceIdeal [hAbdxReferenceIdeal : Cert.AbdxReferenceIdeal.Facts] : Prop :=
  ∀ (m : (ℓ : Loc Cert.AbdxReferenceIdeal.nD Cert.AbdxReferenceIdeal.τ Cert.AbdxReferenceIdeal.sig) → Buf (Elt Ideal) ℓ) (g : Dev Cert.AbdxReferenceIdeal.nD → PrngReg), Pre_AbdxReferenceIdeal m →
    θ_run (Cert.AbdxReferenceIdeal.defs (F := Ideal)) (onTc (τ := Cert.AbdxReferenceIdeal.τ) (Cert.AbdxReferenceIdeal.main (F := Ideal))) ⟨m, fun _ => 0, g⟩ (fun r => (∀ c : Dev Cert.AbdxReferenceIdeal.nD,
      r.2.mem ((c.tc : Thread Cert.AbdxReferenceIdeal.nD Cert.AbdxReferenceIdeal.τ).loc Cert.AbdxReferenceIdeal.main_arg0) = m ((c.tc : Thread Cert.AbdxReferenceIdeal.nD Cert.AbdxReferenceIdeal.τ).loc Cert.AbdxReferenceIdeal.main_arg0)
      ∧ r.2.mem ((c.tc : Thread Cert.AbdxReferenceIdeal.nD Cert.AbdxReferenceIdeal.τ).loc Cert.AbdxReferenceIdeal.main_arg1) = m ((c.tc : Thread Cert.AbdxReferenceIdeal.nD Cert.AbdxReferenceIdeal.τ).loc Cert.AbdxReferenceIdeal.main_arg1))
      ∧ r.2.sem = fun _ => 0)

def quiescent_CdwKernel [hCdwKernel : Cert.CdwKernel.Facts] : Prop :=
  ∀ (m : (ℓ : Loc Cert.CdwKernel.nD Cert.CdwKernel.τ Cert.CdwKernel.sig) → Buf (Elt Bits) ℓ) (g : Dev Cert.CdwKernel.nD → PrngReg), Pre_CdwKernel m →
    θ_run (Cert.CdwKernel.defs (F := Bits)) (onTc (τ := Cert.CdwKernel.τ) (Cert.CdwKernel.main (F := Bits))) ⟨m, fun _ => 0, g⟩ (fun r => (∀ c : Dev Cert.CdwKernel.nD,
      r.2.mem ((c.tc : Thread Cert.CdwKernel.nD Cert.CdwKernel.τ).loc Cert.CdwKernel.main_arg0) = m ((c.tc : Thread Cert.CdwKernel.nD Cert.CdwKernel.τ).loc Cert.CdwKernel.main_arg0)
      ∧ r.2.mem ((c.tc : Thread Cert.CdwKernel.nD Cert.CdwKernel.τ).loc Cert.CdwKernel.main_arg1) = m ((c.tc : Thread Cert.CdwKernel.nD Cert.CdwKernel.τ).loc Cert.CdwKernel.main_arg1))
      ∧ r.2.sem = fun _ => 0)

def quiescent_CdwKernelIdeal [hCdwKernelIdeal : Cert.CdwKernelIdeal.Facts] : Prop :=
  ∀ (m : (ℓ : Loc Cert.CdwKernelIdeal.nD Cert.CdwKernelIdeal.τ Cert.CdwKernelIdeal.sig) → Buf (Elt Ideal) ℓ) (g : Dev Cert.CdwKernelIdeal.nD → PrngReg), Pre_CdwKernelIdeal m →
    θ_run (Cert.CdwKernelIdeal.defs (F := Ideal)) (onTc (τ := Cert.CdwKernelIdeal.τ) (Cert.CdwKernelIdeal.main (F := Ideal))) ⟨m, fun _ => 0, g⟩ (fun r => (∀ c : Dev Cert.CdwKernelIdeal.nD,
      r.2.mem ((c.tc : Thread Cert.CdwKernelIdeal.nD Cert.CdwKernelIdeal.τ).loc Cert.CdwKernelIdeal.main_arg0) = m ((c.tc : Thread Cert.CdwKernelIdeal.nD Cert.CdwKernelIdeal.τ).loc Cert.CdwKernelIdeal.main_arg0)
      ∧ r.2.mem ((c.tc : Thread Cert.CdwKernelIdeal.nD Cert.CdwKernelIdeal.τ).loc Cert.CdwKernelIdeal.main_arg1) = m ((c.tc : Thread Cert.CdwKernelIdeal.nD Cert.CdwKernelIdeal.τ).loc Cert.CdwKernelIdeal.main_arg1))
      ∧ r.2.sem = fun _ => 0)

def quiescent_CdwReferenceIdeal [hCdwReferenceIdeal : Cert.CdwReferenceIdeal.Facts] : Prop :=
  ∀ (m : (ℓ : Loc Cert.CdwReferenceIdeal.nD Cert.CdwReferenceIdeal.τ Cert.CdwReferenceIdeal.sig) → Buf (Elt Ideal) ℓ) (g : Dev Cert.CdwReferenceIdeal.nD → PrngReg), Pre_CdwReferenceIdeal m →
    θ_run (Cert.CdwReferenceIdeal.defs (F := Ideal)) (onTc (τ := Cert.CdwReferenceIdeal.τ) (Cert.CdwReferenceIdeal.main (F := Ideal))) ⟨m, fun _ => 0, g⟩ (fun r => (∀ c : Dev Cert.CdwReferenceIdeal.nD,
      r.2.mem ((c.tc : Thread Cert.CdwReferenceIdeal.nD Cert.CdwReferenceIdeal.τ).loc Cert.CdwReferenceIdeal.main_arg0) = m ((c.tc : Thread Cert.CdwReferenceIdeal.nD Cert.CdwReferenceIdeal.τ).loc Cert.CdwReferenceIdeal.main_arg0)
      ∧ r.2.mem ((c.tc : Thread Cert.CdwReferenceIdeal.nD Cert.CdwReferenceIdeal.τ).loc Cert.CdwReferenceIdeal.main_arg1) = m ((c.tc : Thread Cert.CdwReferenceIdeal.nD Cert.CdwReferenceIdeal.τ).loc Cert.CdwReferenceIdeal.main_arg1))
      ∧ r.2.sem = fun _ => 0)

def quiescent_CdxKernel [hCdxKernel : Cert.CdxKernel.Facts] : Prop :=
  ∀ (m : (ℓ : Loc Cert.CdxKernel.nD Cert.CdxKernel.τ Cert.CdxKernel.sig) → Buf (Elt Bits) ℓ) (g : Dev Cert.CdxKernel.nD → PrngReg), Pre_CdxKernel m →
    θ_run (Cert.CdxKernel.defs (F := Bits)) (onTc (τ := Cert.CdxKernel.τ) (Cert.CdxKernel.main (F := Bits))) ⟨m, fun _ => 0, g⟩ (fun r => (∀ c : Dev Cert.CdxKernel.nD,
      r.2.mem ((c.tc : Thread Cert.CdxKernel.nD Cert.CdxKernel.τ).loc Cert.CdxKernel.main_arg0) = m ((c.tc : Thread Cert.CdxKernel.nD Cert.CdxKernel.τ).loc Cert.CdxKernel.main_arg0)
      ∧ r.2.mem ((c.tc : Thread Cert.CdxKernel.nD Cert.CdxKernel.τ).loc Cert.CdxKernel.main_arg1) = m ((c.tc : Thread Cert.CdxKernel.nD Cert.CdxKernel.τ).loc Cert.CdxKernel.main_arg1))
      ∧ r.2.sem = fun _ => 0)

def quiescent_CdxKernelIdeal [hCdxKernelIdeal : Cert.CdxKernelIdeal.Facts] : Prop :=
  ∀ (m : (ℓ : Loc Cert.CdxKernelIdeal.nD Cert.CdxKernelIdeal.τ Cert.CdxKernelIdeal.sig) → Buf (Elt Ideal) ℓ) (g : Dev Cert.CdxKernelIdeal.nD → PrngReg), Pre_CdxKernelIdeal m →
    θ_run (Cert.CdxKernelIdeal.defs (F := Ideal)) (onTc (τ := Cert.CdxKernelIdeal.τ) (Cert.CdxKernelIdeal.main (F := Ideal))) ⟨m, fun _ => 0, g⟩ (fun r => (∀ c : Dev Cert.CdxKernelIdeal.nD,
      r.2.mem ((c.tc : Thread Cert.CdxKernelIdeal.nD Cert.CdxKernelIdeal.τ).loc Cert.CdxKernelIdeal.main_arg0) = m ((c.tc : Thread Cert.CdxKernelIdeal.nD Cert.CdxKernelIdeal.τ).loc Cert.CdxKernelIdeal.main_arg0)
      ∧ r.2.mem ((c.tc : Thread Cert.CdxKernelIdeal.nD Cert.CdxKernelIdeal.τ).loc Cert.CdxKernelIdeal.main_arg1) = m ((c.tc : Thread Cert.CdxKernelIdeal.nD Cert.CdxKernelIdeal.τ).loc Cert.CdxKernelIdeal.main_arg1))
      ∧ r.2.sem = fun _ => 0)

def quiescent_CdxReferenceIdeal [hCdxReferenceIdeal : Cert.CdxReferenceIdeal.Facts] : Prop :=
  ∀ (m : (ℓ : Loc Cert.CdxReferenceIdeal.nD Cert.CdxReferenceIdeal.τ Cert.CdxReferenceIdeal.sig) → Buf (Elt Ideal) ℓ) (g : Dev Cert.CdxReferenceIdeal.nD → PrngReg), Pre_CdxReferenceIdeal m →
    θ_run (Cert.CdxReferenceIdeal.defs (F := Ideal)) (onTc (τ := Cert.CdxReferenceIdeal.τ) (Cert.CdxReferenceIdeal.main (F := Ideal))) ⟨m, fun _ => 0, g⟩ (fun r => (∀ c : Dev Cert.CdxReferenceIdeal.nD,
      r.2.mem ((c.tc : Thread Cert.CdxReferenceIdeal.nD Cert.CdxReferenceIdeal.τ).loc Cert.CdxReferenceIdeal.main_arg0) = m ((c.tc : Thread Cert.CdxReferenceIdeal.nD Cert.CdxReferenceIdeal.τ).loc Cert.CdxReferenceIdeal.main_arg0)
      ∧ r.2.mem ((c.tc : Thread Cert.CdxReferenceIdeal.nD Cert.CdxReferenceIdeal.τ).loc Cert.CdxReferenceIdeal.main_arg1) = m ((c.tc : Thread Cert.CdxReferenceIdeal.nD Cert.CdxReferenceIdeal.τ).loc Cert.CdxReferenceIdeal.main_arg1))
      ∧ r.2.sem = fun _ => 0)

def quiescent_CuqdwKernel [hCuqdwKernel : Cert.CuqdwKernel.Facts] : Prop :=
  ∀ (m : (ℓ : Loc Cert.CuqdwKernel.nD Cert.CuqdwKernel.τ Cert.CuqdwKernel.sig) → Buf (Elt Bits) ℓ) (g : Dev Cert.CuqdwKernel.nD → PrngReg), Pre_CuqdwKernel m →
    θ_run (Cert.CuqdwKernel.defs (F := Bits)) (onTc (τ := Cert.CuqdwKernel.τ) (Cert.CuqdwKernel.main (F := Bits))) ⟨m, fun _ => 0, g⟩ (fun r => (∀ c : Dev Cert.CuqdwKernel.nD,
      r.2.mem ((c.tc : Thread Cert.CuqdwKernel.nD Cert.CuqdwKernel.τ).loc Cert.CuqdwKernel.main_arg0) = m ((c.tc : Thread Cert.CuqdwKernel.nD Cert.CuqdwKernel.τ).loc Cert.CuqdwKernel.main_arg0)
      ∧ r.2.mem ((c.tc : Thread Cert.CuqdwKernel.nD Cert.CuqdwKernel.τ).loc Cert.CuqdwKernel.main_arg1) = m ((c.tc : Thread Cert.CuqdwKernel.nD Cert.CuqdwKernel.τ).loc Cert.CuqdwKernel.main_arg1))
      ∧ r.2.sem = fun _ => 0)

def quiescent_CuqdwKernelIdeal [hCuqdwKernelIdeal : Cert.CuqdwKernelIdeal.Facts] : Prop :=
  ∀ (m : (ℓ : Loc Cert.CuqdwKernelIdeal.nD Cert.CuqdwKernelIdeal.τ Cert.CuqdwKernelIdeal.sig) → Buf (Elt Ideal) ℓ) (g : Dev Cert.CuqdwKernelIdeal.nD → PrngReg), Pre_CuqdwKernelIdeal m →
    θ_run (Cert.CuqdwKernelIdeal.defs (F := Ideal)) (onTc (τ := Cert.CuqdwKernelIdeal.τ) (Cert.CuqdwKernelIdeal.main (F := Ideal))) ⟨m, fun _ => 0, g⟩ (fun r => (∀ c : Dev Cert.CuqdwKernelIdeal.nD,
      r.2.mem ((c.tc : Thread Cert.CuqdwKernelIdeal.nD Cert.CuqdwKernelIdeal.τ).loc Cert.CuqdwKernelIdeal.main_arg0) = m ((c.tc : Thread Cert.CuqdwKernelIdeal.nD Cert.CuqdwKernelIdeal.τ).loc Cert.CuqdwKernelIdeal.main_arg0)
      ∧ r.2.mem ((c.tc : Thread Cert.CuqdwKernelIdeal.nD Cert.CuqdwKernelIdeal.τ).loc Cert.CuqdwKernelIdeal.main_arg1) = m ((c.tc : Thread Cert.CuqdwKernelIdeal.nD Cert.CuqdwKernelIdeal.τ).loc Cert.CuqdwKernelIdeal.main_arg1))
      ∧ r.2.sem = fun _ => 0)

def quiescent_CuqdwReferenceIdeal [hCuqdwReferenceIdeal : Cert.CuqdwReferenceIdeal.Facts] : Prop :=
  ∀ (m : (ℓ : Loc Cert.CuqdwReferenceIdeal.nD Cert.CuqdwReferenceIdeal.τ Cert.CuqdwReferenceIdeal.sig) → Buf (Elt Ideal) ℓ) (g : Dev Cert.CuqdwReferenceIdeal.nD → PrngReg), Pre_CuqdwReferenceIdeal m →
    θ_run (Cert.CuqdwReferenceIdeal.defs (F := Ideal)) (onTc (τ := Cert.CuqdwReferenceIdeal.τ) (Cert.CuqdwReferenceIdeal.main (F := Ideal))) ⟨m, fun _ => 0, g⟩ (fun r => (∀ c : Dev Cert.CuqdwReferenceIdeal.nD,
      r.2.mem ((c.tc : Thread Cert.CuqdwReferenceIdeal.nD Cert.CuqdwReferenceIdeal.τ).loc Cert.CuqdwReferenceIdeal.main_arg0) = m ((c.tc : Thread Cert.CuqdwReferenceIdeal.nD Cert.CuqdwReferenceIdeal.τ).loc Cert.CuqdwReferenceIdeal.main_arg0)
      ∧ r.2.mem ((c.tc : Thread Cert.CuqdwReferenceIdeal.nD Cert.CuqdwReferenceIdeal.τ).loc Cert.CuqdwReferenceIdeal.main_arg1) = m ((c.tc : Thread Cert.CuqdwReferenceIdeal.nD Cert.CuqdwReferenceIdeal.τ).loc Cert.CuqdwReferenceIdeal.main_arg1))
      ∧ r.2.sem = fun _ => 0)

def quiescent_CuqdxKernel [hCuqdxKernel : Cert.CuqdxKernel.Facts] : Prop :=
  ∀ (m : (ℓ : Loc Cert.CuqdxKernel.nD Cert.CuqdxKernel.τ Cert.CuqdxKernel.sig) → Buf (Elt Bits) ℓ) (g : Dev Cert.CuqdxKernel.nD → PrngReg), Pre_CuqdxKernel m →
    θ_run (Cert.CuqdxKernel.defs (F := Bits)) (onTc (τ := Cert.CuqdxKernel.τ) (Cert.CuqdxKernel.main (F := Bits))) ⟨m, fun _ => 0, g⟩ (fun r => (∀ c : Dev Cert.CuqdxKernel.nD,
      r.2.mem ((c.tc : Thread Cert.CuqdxKernel.nD Cert.CuqdxKernel.τ).loc Cert.CuqdxKernel.main_arg0) = m ((c.tc : Thread Cert.CuqdxKernel.nD Cert.CuqdxKernel.τ).loc Cert.CuqdxKernel.main_arg0)
      ∧ r.2.mem ((c.tc : Thread Cert.CuqdxKernel.nD Cert.CuqdxKernel.τ).loc Cert.CuqdxKernel.main_arg1) = m ((c.tc : Thread Cert.CuqdxKernel.nD Cert.CuqdxKernel.τ).loc Cert.CuqdxKernel.main_arg1))
      ∧ r.2.sem = fun _ => 0)

def quiescent_CuqdxKernelIdeal [hCuqdxKernelIdeal : Cert.CuqdxKernelIdeal.Facts] : Prop :=
  ∀ (m : (ℓ : Loc Cert.CuqdxKernelIdeal.nD Cert.CuqdxKernelIdeal.τ Cert.CuqdxKernelIdeal.sig) → Buf (Elt Ideal) ℓ) (g : Dev Cert.CuqdxKernelIdeal.nD → PrngReg), Pre_CuqdxKernelIdeal m →
    θ_run (Cert.CuqdxKernelIdeal.defs (F := Ideal)) (onTc (τ := Cert.CuqdxKernelIdeal.τ) (Cert.CuqdxKernelIdeal.main (F := Ideal))) ⟨m, fun _ => 0, g⟩ (fun r => (∀ c : Dev Cert.CuqdxKernelIdeal.nD,
      r.2.mem ((c.tc : Thread Cert.CuqdxKernelIdeal.nD Cert.CuqdxKernelIdeal.τ).loc Cert.CuqdxKernelIdeal.main_arg0) = m ((c.tc : Thread Cert.CuqdxKernelIdeal.nD Cert.CuqdxKernelIdeal.τ).loc Cert.CuqdxKernelIdeal.main_arg0)
      ∧ r.2.mem ((c.tc : Thread Cert.CuqdxKernelIdeal.nD Cert.CuqdxKernelIdeal.τ).loc Cert.CuqdxKernelIdeal.main_arg1) = m ((c.tc : Thread Cert.CuqdxKernelIdeal.nD Cert.CuqdxKernelIdeal.τ).loc Cert.CuqdxKernelIdeal.main_arg1))
      ∧ r.2.sem = fun _ => 0)

def quiescent_CuqdxReferenceIdeal [hCuqdxReferenceIdeal : Cert.CuqdxReferenceIdeal.Facts] : Prop :=
  ∀ (m : (ℓ : Loc Cert.CuqdxReferenceIdeal.nD Cert.CuqdxReferenceIdeal.τ Cert.CuqdxReferenceIdeal.sig) → Buf (Elt Ideal) ℓ) (g : Dev Cert.CuqdxReferenceIdeal.nD → PrngReg), Pre_CuqdxReferenceIdeal m →
    θ_run (Cert.CuqdxReferenceIdeal.defs (F := Ideal)) (onTc (τ := Cert.CuqdxReferenceIdeal.τ) (Cert.CuqdxReferenceIdeal.main (F := Ideal))) ⟨m, fun _ => 0, g⟩ (fun r => (∀ c : Dev Cert.CuqdxReferenceIdeal.nD,
      r.2.mem ((c.tc : Thread Cert.CuqdxReferenceIdeal.nD Cert.CuqdxReferenceIdeal.τ).loc Cert.CuqdxReferenceIdeal.main_arg0) = m ((c.tc : Thread Cert.CuqdxReferenceIdeal.nD Cert.CuqdxReferenceIdeal.τ).loc Cert.CuqdxReferenceIdeal.main_arg0)
      ∧ r.2.mem ((c.tc : Thread Cert.CuqdxReferenceIdeal.nD Cert.CuqdxReferenceIdeal.τ).loc Cert.CuqdxReferenceIdeal.main_arg1) = m ((c.tc : Thread Cert.CuqdxReferenceIdeal.nD Cert.CuqdxReferenceIdeal.τ).loc Cert.CuqdxReferenceIdeal.main_arg1))
      ∧ r.2.sem = fun _ => 0)

def quiescent_CukvdwKernel [hCukvdwKernel : Cert.CukvdwKernel.Facts] : Prop :=
  ∀ (m : (ℓ : Loc Cert.CukvdwKernel.nD Cert.CukvdwKernel.τ Cert.CukvdwKernel.sig) → Buf (Elt Bits) ℓ) (g : Dev Cert.CukvdwKernel.nD → PrngReg), Pre_CukvdwKernel m →
    θ_run (Cert.CukvdwKernel.defs (F := Bits)) (onTc (τ := Cert.CukvdwKernel.τ) (Cert.CukvdwKernel.main (F := Bits))) ⟨m, fun _ => 0, g⟩ (fun r => (∀ c : Dev Cert.CukvdwKernel.nD,
      r.2.mem ((c.tc : Thread Cert.CukvdwKernel.nD Cert.CukvdwKernel.τ).loc Cert.CukvdwKernel.main_arg0) = m ((c.tc : Thread Cert.CukvdwKernel.nD Cert.CukvdwKernel.τ).loc Cert.CukvdwKernel.main_arg0)
      ∧ r.2.mem ((c.tc : Thread Cert.CukvdwKernel.nD Cert.CukvdwKernel.τ).loc Cert.CukvdwKernel.main_arg1) = m ((c.tc : Thread Cert.CukvdwKernel.nD Cert.CukvdwKernel.τ).loc Cert.CukvdwKernel.main_arg1))
      ∧ r.2.sem = fun _ => 0)

def quiescent_CukvdwKernelIdeal [hCukvdwKernelIdeal : Cert.CukvdwKernelIdeal.Facts] : Prop :=
  ∀ (m : (ℓ : Loc Cert.CukvdwKernelIdeal.nD Cert.CukvdwKernelIdeal.τ Cert.CukvdwKernelIdeal.sig) → Buf (Elt Ideal) ℓ) (g : Dev Cert.CukvdwKernelIdeal.nD → PrngReg), Pre_CukvdwKernelIdeal m →
    θ_run (Cert.CukvdwKernelIdeal.defs (F := Ideal)) (onTc (τ := Cert.CukvdwKernelIdeal.τ) (Cert.CukvdwKernelIdeal.main (F := Ideal))) ⟨m, fun _ => 0, g⟩ (fun r => (∀ c : Dev Cert.CukvdwKernelIdeal.nD,
      r.2.mem ((c.tc : Thread Cert.CukvdwKernelIdeal.nD Cert.CukvdwKernelIdeal.τ).loc Cert.CukvdwKernelIdeal.main_arg0) = m ((c.tc : Thread Cert.CukvdwKernelIdeal.nD Cert.CukvdwKernelIdeal.τ).loc Cert.CukvdwKernelIdeal.main_arg0)
      ∧ r.2.mem ((c.tc : Thread Cert.CukvdwKernelIdeal.nD Cert.CukvdwKernelIdeal.τ).loc Cert.CukvdwKernelIdeal.main_arg1) = m ((c.tc : Thread Cert.CukvdwKernelIdeal.nD Cert.CukvdwKernelIdeal.τ).loc Cert.CukvdwKernelIdeal.main_arg1))
      ∧ r.2.sem = fun _ => 0)

def quiescent_CukvdwReferenceIdeal [hCukvdwReferenceIdeal : Cert.CukvdwReferenceIdeal.Facts] : Prop :=
  ∀ (m : (ℓ : Loc Cert.CukvdwReferenceIdeal.nD Cert.CukvdwReferenceIdeal.τ Cert.CukvdwReferenceIdeal.sig) → Buf (Elt Ideal) ℓ) (g : Dev Cert.CukvdwReferenceIdeal.nD → PrngReg), Pre_CukvdwReferenceIdeal m →
    θ_run (Cert.CukvdwReferenceIdeal.defs (F := Ideal)) (onTc (τ := Cert.CukvdwReferenceIdeal.τ) (Cert.CukvdwReferenceIdeal.main (F := Ideal))) ⟨m, fun _ => 0, g⟩ (fun r => (∀ c : Dev Cert.CukvdwReferenceIdeal.nD,
      r.2.mem ((c.tc : Thread Cert.CukvdwReferenceIdeal.nD Cert.CukvdwReferenceIdeal.τ).loc Cert.CukvdwReferenceIdeal.main_arg0) = m ((c.tc : Thread Cert.CukvdwReferenceIdeal.nD Cert.CukvdwReferenceIdeal.τ).loc Cert.CukvdwReferenceIdeal.main_arg0)
      ∧ r.2.mem ((c.tc : Thread Cert.CukvdwReferenceIdeal.nD Cert.CukvdwReferenceIdeal.τ).loc Cert.CukvdwReferenceIdeal.main_arg1) = m ((c.tc : Thread Cert.CukvdwReferenceIdeal.nD Cert.CukvdwReferenceIdeal.τ).loc Cert.CukvdwReferenceIdeal.main_arg1))
      ∧ r.2.sem = fun _ => 0)

def quiescent_CukvdxKernel [hCukvdxKernel : Cert.CukvdxKernel.Facts] : Prop :=
  ∀ (m : (ℓ : Loc Cert.CukvdxKernel.nD Cert.CukvdxKernel.τ Cert.CukvdxKernel.sig) → Buf (Elt Bits) ℓ) (g : Dev Cert.CukvdxKernel.nD → PrngReg), Pre_CukvdxKernel m →
    θ_run (Cert.CukvdxKernel.defs (F := Bits)) (onTc (τ := Cert.CukvdxKernel.τ) (Cert.CukvdxKernel.main (F := Bits))) ⟨m, fun _ => 0, g⟩ (fun r => (∀ c : Dev Cert.CukvdxKernel.nD,
      r.2.mem ((c.tc : Thread Cert.CukvdxKernel.nD Cert.CukvdxKernel.τ).loc Cert.CukvdxKernel.main_arg0) = m ((c.tc : Thread Cert.CukvdxKernel.nD Cert.CukvdxKernel.τ).loc Cert.CukvdxKernel.main_arg0)
      ∧ r.2.mem ((c.tc : Thread Cert.CukvdxKernel.nD Cert.CukvdxKernel.τ).loc Cert.CukvdxKernel.main_arg1) = m ((c.tc : Thread Cert.CukvdxKernel.nD Cert.CukvdxKernel.τ).loc Cert.CukvdxKernel.main_arg1))
      ∧ r.2.sem = fun _ => 0)

def quiescent_CukvdxKernelIdeal [hCukvdxKernelIdeal : Cert.CukvdxKernelIdeal.Facts] : Prop :=
  ∀ (m : (ℓ : Loc Cert.CukvdxKernelIdeal.nD Cert.CukvdxKernelIdeal.τ Cert.CukvdxKernelIdeal.sig) → Buf (Elt Ideal) ℓ) (g : Dev Cert.CukvdxKernelIdeal.nD → PrngReg), Pre_CukvdxKernelIdeal m →
    θ_run (Cert.CukvdxKernelIdeal.defs (F := Ideal)) (onTc (τ := Cert.CukvdxKernelIdeal.τ) (Cert.CukvdxKernelIdeal.main (F := Ideal))) ⟨m, fun _ => 0, g⟩ (fun r => (∀ c : Dev Cert.CukvdxKernelIdeal.nD,
      r.2.mem ((c.tc : Thread Cert.CukvdxKernelIdeal.nD Cert.CukvdxKernelIdeal.τ).loc Cert.CukvdxKernelIdeal.main_arg0) = m ((c.tc : Thread Cert.CukvdxKernelIdeal.nD Cert.CukvdxKernelIdeal.τ).loc Cert.CukvdxKernelIdeal.main_arg0)
      ∧ r.2.mem ((c.tc : Thread Cert.CukvdxKernelIdeal.nD Cert.CukvdxKernelIdeal.τ).loc Cert.CukvdxKernelIdeal.main_arg1) = m ((c.tc : Thread Cert.CukvdxKernelIdeal.nD Cert.CukvdxKernelIdeal.τ).loc Cert.CukvdxKernelIdeal.main_arg1))
      ∧ r.2.sem = fun _ => 0)

def quiescent_CukvdxReferenceIdeal [hCukvdxReferenceIdeal : Cert.CukvdxReferenceIdeal.Facts] : Prop :=
  ∀ (m : (ℓ : Loc Cert.CukvdxReferenceIdeal.nD Cert.CukvdxReferenceIdeal.τ Cert.CukvdxReferenceIdeal.sig) → Buf (Elt Ideal) ℓ) (g : Dev Cert.CukvdxReferenceIdeal.nD → PrngReg), Pre_CukvdxReferenceIdeal m →
    θ_run (Cert.CukvdxReferenceIdeal.defs (F := Ideal)) (onTc (τ := Cert.CukvdxReferenceIdeal.τ) (Cert.CukvdxReferenceIdeal.main (F := Ideal))) ⟨m, fun _ => 0, g⟩ (fun r => (∀ c : Dev Cert.CukvdxReferenceIdeal.nD,
      r.2.mem ((c.tc : Thread Cert.CukvdxReferenceIdeal.nD Cert.CukvdxReferenceIdeal.τ).loc Cert.CukvdxReferenceIdeal.main_arg0) = m ((c.tc : Thread Cert.CukvdxReferenceIdeal.nD Cert.CukvdxReferenceIdeal.τ).loc Cert.CukvdxReferenceIdeal.main_arg0)
      ∧ r.2.mem ((c.tc : Thread Cert.CukvdxReferenceIdeal.nD Cert.CukvdxReferenceIdeal.τ).loc Cert.CukvdxReferenceIdeal.main_arg1) = m ((c.tc : Thread Cert.CukvdxReferenceIdeal.nD Cert.CukvdxReferenceIdeal.τ).loc Cert.CukvdxReferenceIdeal.main_arg1))
      ∧ r.2.sem = fun _ => 0)

def quiescent_F1Kernel [hF1Kernel : Cert.F1Kernel.Facts] : Prop :=
  ∀ (m : (ℓ : Loc Cert.F1Kernel.nD Cert.F1Kernel.τ Cert.F1Kernel.sig) → Buf (Elt Bits) ℓ) (g : Dev Cert.F1Kernel.nD → PrngReg), Pre_F1Kernel m →
    θ_run (Cert.F1Kernel.defs (F := Bits)) (onTc (τ := Cert.F1Kernel.τ) (Cert.F1Kernel.main (F := Bits))) ⟨m, fun _ => 0, g⟩ (fun r => (∀ c : Dev Cert.F1Kernel.nD,
      r.2.mem ((c.tc : Thread Cert.F1Kernel.nD Cert.F1Kernel.τ).loc Cert.F1Kernel.main_arg0) = m ((c.tc : Thread Cert.F1Kernel.nD Cert.F1Kernel.τ).loc Cert.F1Kernel.main_arg0)
      ∧ r.2.mem ((c.tc : Thread Cert.F1Kernel.nD Cert.F1Kernel.τ).loc Cert.F1Kernel.main_arg1) = m ((c.tc : Thread Cert.F1Kernel.nD Cert.F1Kernel.τ).loc Cert.F1Kernel.main_arg1)
      ∧ r.2.mem ((c.tc : Thread Cert.F1Kernel.nD Cert.F1Kernel.τ).loc Cert.F1Kernel.main_arg2) = m ((c.tc : Thread Cert.F1Kernel.nD Cert.F1Kernel.τ).loc Cert.F1Kernel.main_arg2))
      ∧ r.2.sem = fun _ => 0)

def quiescent_F1KernelIdeal [hF1KernelIdeal : Cert.F1KernelIdeal.Facts] : Prop :=
  ∀ (m : (ℓ : Loc Cert.F1KernelIdeal.nD Cert.F1KernelIdeal.τ Cert.F1KernelIdeal.sig) → Buf (Elt Ideal) ℓ) (g : Dev Cert.F1KernelIdeal.nD → PrngReg), Pre_F1KernelIdeal m →
    θ_run (Cert.F1KernelIdeal.defs (F := Ideal)) (onTc (τ := Cert.F1KernelIdeal.τ) (Cert.F1KernelIdeal.main (F := Ideal))) ⟨m, fun _ => 0, g⟩ (fun r => (∀ c : Dev Cert.F1KernelIdeal.nD,
      r.2.mem ((c.tc : Thread Cert.F1KernelIdeal.nD Cert.F1KernelIdeal.τ).loc Cert.F1KernelIdeal.main_arg0) = m ((c.tc : Thread Cert.F1KernelIdeal.nD Cert.F1KernelIdeal.τ).loc Cert.F1KernelIdeal.main_arg0)
      ∧ r.2.mem ((c.tc : Thread Cert.F1KernelIdeal.nD Cert.F1KernelIdeal.τ).loc Cert.F1KernelIdeal.main_arg1) = m ((c.tc : Thread Cert.F1KernelIdeal.nD Cert.F1KernelIdeal.τ).loc Cert.F1KernelIdeal.main_arg1)
      ∧ r.2.mem ((c.tc : Thread Cert.F1KernelIdeal.nD Cert.F1KernelIdeal.τ).loc Cert.F1KernelIdeal.main_arg2) = m ((c.tc : Thread Cert.F1KernelIdeal.nD Cert.F1KernelIdeal.τ).loc Cert.F1KernelIdeal.main_arg2))
      ∧ r.2.sem = fun _ => 0)

def quiescent_F1ReferenceIdeal [hF1ReferenceIdeal : Cert.F1ReferenceIdeal.Facts] : Prop :=
  ∀ (m : (ℓ : Loc Cert.F1ReferenceIdeal.nD Cert.F1ReferenceIdeal.τ Cert.F1ReferenceIdeal.sig) → Buf (Elt Ideal) ℓ) (g : Dev Cert.F1ReferenceIdeal.nD → PrngReg), Pre_F1ReferenceIdeal m →
    θ_run (Cert.F1ReferenceIdeal.defs (F := Ideal)) (onTc (τ := Cert.F1ReferenceIdeal.τ) (Cert.F1ReferenceIdeal.main (F := Ideal))) ⟨m, fun _ => 0, g⟩ (fun r => (∀ c : Dev Cert.F1ReferenceIdeal.nD,
      r.2.mem ((c.tc : Thread Cert.F1ReferenceIdeal.nD Cert.F1ReferenceIdeal.τ).loc Cert.F1ReferenceIdeal.main_arg0) = m ((c.tc : Thread Cert.F1ReferenceIdeal.nD Cert.F1ReferenceIdeal.τ).loc Cert.F1ReferenceIdeal.main_arg0)
      ∧ r.2.mem ((c.tc : Thread Cert.F1ReferenceIdeal.nD Cert.F1ReferenceIdeal.τ).loc Cert.F1ReferenceIdeal.main_arg1) = m ((c.tc : Thread Cert.F1ReferenceIdeal.nD Cert.F1ReferenceIdeal.τ).loc Cert.F1ReferenceIdeal.main_arg1)
      ∧ r.2.mem ((c.tc : Thread Cert.F1ReferenceIdeal.nD Cert.F1ReferenceIdeal.τ).loc Cert.F1ReferenceIdeal.main_arg2) = m ((c.tc : Thread Cert.F1ReferenceIdeal.nD Cert.F1ReferenceIdeal.τ).loc Cert.F1ReferenceIdeal.main_arg2))
      ∧ r.2.sem = fun _ => 0)

def quiescent_F2Kernel [hF2Kernel : Cert.F2Kernel.Facts] : Prop :=
  ∀ (m : (ℓ : Loc Cert.F2Kernel.nD Cert.F2Kernel.τ Cert.F2Kernel.sig) → Buf (Elt Bits) ℓ) (g : Dev Cert.F2Kernel.nD → PrngReg), Pre_F2Kernel m →
    θ_run (Cert.F2Kernel.defs (F := Bits)) (onTc (τ := Cert.F2Kernel.τ) (Cert.F2Kernel.main (F := Bits))) ⟨m, fun _ => 0, g⟩ (fun r => (∀ c : Dev Cert.F2Kernel.nD,
      r.2.mem ((c.tc : Thread Cert.F2Kernel.nD Cert.F2Kernel.τ).loc Cert.F2Kernel.main_arg0) = m ((c.tc : Thread Cert.F2Kernel.nD Cert.F2Kernel.τ).loc Cert.F2Kernel.main_arg0)
      ∧ r.2.mem ((c.tc : Thread Cert.F2Kernel.nD Cert.F2Kernel.τ).loc Cert.F2Kernel.main_arg1) = m ((c.tc : Thread Cert.F2Kernel.nD Cert.F2Kernel.τ).loc Cert.F2Kernel.main_arg1)
      ∧ r.2.mem ((c.tc : Thread Cert.F2Kernel.nD Cert.F2Kernel.τ).loc Cert.F2Kernel.main_arg2) = m ((c.tc : Thread Cert.F2Kernel.nD Cert.F2Kernel.τ).loc Cert.F2Kernel.main_arg2))
      ∧ r.2.sem = fun _ => 0)

def quiescent_F2KernelIdeal [hF2KernelIdeal : Cert.F2KernelIdeal.Facts] : Prop :=
  ∀ (m : (ℓ : Loc Cert.F2KernelIdeal.nD Cert.F2KernelIdeal.τ Cert.F2KernelIdeal.sig) → Buf (Elt Ideal) ℓ) (g : Dev Cert.F2KernelIdeal.nD → PrngReg), Pre_F2KernelIdeal m →
    θ_run (Cert.F2KernelIdeal.defs (F := Ideal)) (onTc (τ := Cert.F2KernelIdeal.τ) (Cert.F2KernelIdeal.main (F := Ideal))) ⟨m, fun _ => 0, g⟩ (fun r => (∀ c : Dev Cert.F2KernelIdeal.nD,
      r.2.mem ((c.tc : Thread Cert.F2KernelIdeal.nD Cert.F2KernelIdeal.τ).loc Cert.F2KernelIdeal.main_arg0) = m ((c.tc : Thread Cert.F2KernelIdeal.nD Cert.F2KernelIdeal.τ).loc Cert.F2KernelIdeal.main_arg0)
      ∧ r.2.mem ((c.tc : Thread Cert.F2KernelIdeal.nD Cert.F2KernelIdeal.τ).loc Cert.F2KernelIdeal.main_arg1) = m ((c.tc : Thread Cert.F2KernelIdeal.nD Cert.F2KernelIdeal.τ).loc Cert.F2KernelIdeal.main_arg1)
      ∧ r.2.mem ((c.tc : Thread Cert.F2KernelIdeal.nD Cert.F2KernelIdeal.τ).loc Cert.F2KernelIdeal.main_arg2) = m ((c.tc : Thread Cert.F2KernelIdeal.nD Cert.F2KernelIdeal.τ).loc Cert.F2KernelIdeal.main_arg2))
      ∧ r.2.sem = fun _ => 0)

def quiescent_F2ReferenceIdeal [hF2ReferenceIdeal : Cert.F2ReferenceIdeal.Facts] : Prop :=
  ∀ (m : (ℓ : Loc Cert.F2ReferenceIdeal.nD Cert.F2ReferenceIdeal.τ Cert.F2ReferenceIdeal.sig) → Buf (Elt Ideal) ℓ) (g : Dev Cert.F2ReferenceIdeal.nD → PrngReg), Pre_F2ReferenceIdeal m →
    θ_run (Cert.F2ReferenceIdeal.defs (F := Ideal)) (onTc (τ := Cert.F2ReferenceIdeal.τ) (Cert.F2ReferenceIdeal.main (F := Ideal))) ⟨m, fun _ => 0, g⟩ (fun r => (∀ c : Dev Cert.F2ReferenceIdeal.nD,
      r.2.mem ((c.tc : Thread Cert.F2ReferenceIdeal.nD Cert.F2ReferenceIdeal.τ).loc Cert.F2ReferenceIdeal.main_arg0) = m ((c.tc : Thread Cert.F2ReferenceIdeal.nD Cert.F2ReferenceIdeal.τ).loc Cert.F2ReferenceIdeal.main_arg0)
      ∧ r.2.mem ((c.tc : Thread Cert.F2ReferenceIdeal.nD Cert.F2ReferenceIdeal.τ).loc Cert.F2ReferenceIdeal.main_arg1) = m ((c.tc : Thread Cert.F2ReferenceIdeal.nD Cert.F2ReferenceIdeal.τ).loc Cert.F2ReferenceIdeal.main_arg1)
      ∧ r.2.mem ((c.tc : Thread Cert.F2ReferenceIdeal.nD Cert.F2ReferenceIdeal.τ).loc Cert.F2ReferenceIdeal.main_arg2) = m ((c.tc : Thread Cert.F2ReferenceIdeal.nD Cert.F2ReferenceIdeal.τ).loc Cert.F2ReferenceIdeal.main_arg2))
      ∧ r.2.sem = fun _ => 0)

def quiescent_OKernel [hOKernel : Cert.OKernel.Facts] : Prop :=
  ∀ (m : (ℓ : Loc Cert.OKernel.nD Cert.OKernel.τ Cert.OKernel.sig) → Buf (Elt Bits) ℓ) (g : Dev Cert.OKernel.nD → PrngReg), Pre_OKernel m →
    θ_run (Cert.OKernel.defs (F := Bits)) (onTc (τ := Cert.OKernel.τ) (Cert.OKernel.main (F := Bits))) ⟨m, fun _ => 0, g⟩ (fun r => (∀ c : Dev Cert.OKernel.nD,
      r.2.mem ((c.tc : Thread Cert.OKernel.nD Cert.OKernel.τ).loc Cert.OKernel.main_arg0) = m ((c.tc : Thread Cert.OKernel.nD Cert.OKernel.τ).loc Cert.OKernel.main_arg0)
      ∧ r.2.mem ((c.tc : Thread Cert.OKernel.nD Cert.OKernel.τ).loc Cert.OKernel.main_arg1) = m ((c.tc : Thread Cert.OKernel.nD Cert.OKernel.τ).loc Cert.OKernel.main_arg1)
      ∧ r.2.mem ((c.tc : Thread Cert.OKernel.nD Cert.OKernel.τ).loc Cert.OKernel.main_arg2) = m ((c.tc : Thread Cert.OKernel.nD Cert.OKernel.τ).loc Cert.OKernel.main_arg2))
      ∧ r.2.sem = fun _ => 0)

def quiescent_OKernelIdeal [hOKernelIdeal : Cert.OKernelIdeal.Facts] : Prop :=
  ∀ (m : (ℓ : Loc Cert.OKernelIdeal.nD Cert.OKernelIdeal.τ Cert.OKernelIdeal.sig) → Buf (Elt Ideal) ℓ) (g : Dev Cert.OKernelIdeal.nD → PrngReg), Pre_OKernelIdeal m →
    θ_run (Cert.OKernelIdeal.defs (F := Ideal)) (onTc (τ := Cert.OKernelIdeal.τ) (Cert.OKernelIdeal.main (F := Ideal))) ⟨m, fun _ => 0, g⟩ (fun r => (∀ c : Dev Cert.OKernelIdeal.nD,
      r.2.mem ((c.tc : Thread Cert.OKernelIdeal.nD Cert.OKernelIdeal.τ).loc Cert.OKernelIdeal.main_arg0) = m ((c.tc : Thread Cert.OKernelIdeal.nD Cert.OKernelIdeal.τ).loc Cert.OKernelIdeal.main_arg0)
      ∧ r.2.mem ((c.tc : Thread Cert.OKernelIdeal.nD Cert.OKernelIdeal.τ).loc Cert.OKernelIdeal.main_arg1) = m ((c.tc : Thread Cert.OKernelIdeal.nD Cert.OKernelIdeal.τ).loc Cert.OKernelIdeal.main_arg1)
      ∧ r.2.mem ((c.tc : Thread Cert.OKernelIdeal.nD Cert.OKernelIdeal.τ).loc Cert.OKernelIdeal.main_arg2) = m ((c.tc : Thread Cert.OKernelIdeal.nD Cert.OKernelIdeal.τ).loc Cert.OKernelIdeal.main_arg2))
      ∧ r.2.sem = fun _ => 0)

def quiescent_OReferenceIdeal [hOReferenceIdeal : Cert.OReferenceIdeal.Facts] : Prop :=
  ∀ (m : (ℓ : Loc Cert.OReferenceIdeal.nD Cert.OReferenceIdeal.τ Cert.OReferenceIdeal.sig) → Buf (Elt Ideal) ℓ) (g : Dev Cert.OReferenceIdeal.nD → PrngReg), Pre_OReferenceIdeal m →
    θ_run (Cert.OReferenceIdeal.defs (F := Ideal)) (onTc (τ := Cert.OReferenceIdeal.τ) (Cert.OReferenceIdeal.main (F := Ideal))) ⟨m, fun _ => 0, g⟩ (fun r => (∀ c : Dev Cert.OReferenceIdeal.nD,
      r.2.mem ((c.tc : Thread Cert.OReferenceIdeal.nD Cert.OReferenceIdeal.τ).loc Cert.OReferenceIdeal.main_arg0) = m ((c.tc : Thread Cert.OReferenceIdeal.nD Cert.OReferenceIdeal.τ).loc Cert.OReferenceIdeal.main_arg0)
      ∧ r.2.mem ((c.tc : Thread Cert.OReferenceIdeal.nD Cert.OReferenceIdeal.τ).loc Cert.OReferenceIdeal.main_arg1) = m ((c.tc : Thread Cert.OReferenceIdeal.nD Cert.OReferenceIdeal.τ).loc Cert.OReferenceIdeal.main_arg1)
      ∧ r.2.mem ((c.tc : Thread Cert.OReferenceIdeal.nD Cert.OReferenceIdeal.τ).loc Cert.OReferenceIdeal.main_arg2) = m ((c.tc : Thread Cert.OReferenceIdeal.nD Cert.OReferenceIdeal.τ).loc Cert.OReferenceIdeal.main_arg2))
      ∧ r.2.sem = fun _ => 0)

def quiescent_QKernel [hQKernel : Cert.QKernel.Facts] : Prop :=
  ∀ (m : (ℓ : Loc Cert.QKernel.nD Cert.QKernel.τ Cert.QKernel.sig) → Buf (Elt Bits) ℓ) (g : Dev Cert.QKernel.nD → PrngReg), Pre_QKernel m →
    θ_run (Cert.QKernel.defs (F := Bits)) (onTc (τ := Cert.QKernel.τ) (Cert.QKernel.main (F := Bits))) ⟨m, fun _ => 0, g⟩ (fun r => (∀ c : Dev Cert.QKernel.nD,
      r.2.mem ((c.tc : Thread Cert.QKernel.nD Cert.QKernel.τ).loc Cert.QKernel.main_arg0) = m ((c.tc : Thread Cert.QKernel.nD Cert.QKernel.τ).loc Cert.QKernel.main_arg0)
      ∧ r.2.mem ((c.tc : Thread Cert.QKernel.nD Cert.QKernel.τ).loc Cert.QKernel.main_arg1) = m ((c.tc : Thread Cert.QKernel.nD Cert.QKernel.τ).loc Cert.QKernel.main_arg1)
      ∧ r.2.mem ((c.tc : Thread Cert.QKernel.nD Cert.QKernel.τ).loc Cert.QKernel.main_arg2) = m ((c.tc : Thread Cert.QKernel.nD Cert.QKernel.τ).loc Cert.QKernel.main_arg2))
      ∧ r.2.sem = fun _ => 0)

def quiescent_QKernelIdeal [hQKernelIdeal : Cert.QKernelIdeal.Facts] : Prop :=
  ∀ (m : (ℓ : Loc Cert.QKernelIdeal.nD Cert.QKernelIdeal.τ Cert.QKernelIdeal.sig) → Buf (Elt Ideal) ℓ) (g : Dev Cert.QKernelIdeal.nD → PrngReg), Pre_QKernelIdeal m →
    θ_run (Cert.QKernelIdeal.defs (F := Ideal)) (onTc (τ := Cert.QKernelIdeal.τ) (Cert.QKernelIdeal.main (F := Ideal))) ⟨m, fun _ => 0, g⟩ (fun r => (∀ c : Dev Cert.QKernelIdeal.nD,
      r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
      ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
      ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1)
      ∧ r.2.mem ((c.tc : Thread Cert.QReferenceIdeal.nD Cert.QReferenceIdeal.τ).loc Cert.QReferenceIdeal.main_arg2) = m ((c.tc : Thread Cert.QReferenceIdeal.nD Cert.QReferenceIdeal.τ).loc Cert.QReferenceIdeal.main_arg2))
      ∧ r.2.sem = fun _ => 0)

def quiescent_KKernel [hKKernel : Cert.KKernel.Facts] : Prop :=
  ∀ (m : (ℓ : Loc Cert.KKernel.nD Cert.KKernel.τ Cert.KKernel.sig) → Buf (Elt Bits) ℓ) (g : Dev Cert.KKernel.nD → PrngReg), Pre_KKernel m →
    θ_run (Cert.KKernel.defs (F := Bits)) (onTc (τ := Cert.KKernel.τ) (Cert.KKernel.main (F := Bits))) ⟨m, fun _ => 0, g⟩ (fun r => (∀ c : Dev Cert.KKernel.nD,
      r.2.mem ((c.tc : Thread Cert.KKernel.nD Cert.KKernel.τ).loc Cert.KKernel.main_arg0) = m ((c.tc : Thread Cert.KKernel.nD Cert.KKernel.τ).loc Cert.KKernel.main_arg0)
      ∧ r.2.mem ((c.tc : Thread Cert.KKernel.nD Cert.KKernel.τ).loc Cert.KKernel.main_arg1) = m ((c.tc : Thread Cert.KKernel.nD Cert.KKernel.τ).loc Cert.KKernel.main_arg1))
      ∧ r.2.sem = fun _ => 0)

def quiescent_KKernelIdeal [hKKernelIdeal : Cert.KKernelIdeal.Facts] : Prop :=
  ∀ (m : (ℓ : Loc Cert.KKernelIdeal.nD Cert.KKernelIdeal.τ Cert.KKernelIdeal.sig) → Buf (Elt Ideal) ℓ) (g : Dev Cert.KKernelIdeal.nD → PrngReg), Pre_KKernelIdeal m →
    θ_run (Cert.KKernelIdeal.defs (F := Ideal)) (onTc (τ := Cert.KKernelIdeal.τ) (Cert.KKernelIdeal.main (F := Ideal))) ⟨m, fun _ => 0, g⟩ (fun r => (∀ c : Dev Cert.KKernelIdeal.nD,
      r.2.mem ((c.tc : Thread Cert.KKernelIdeal.nD Cert.KKernelIdeal.τ).loc Cert.KKernelIdeal.main_arg0) = m ((c.tc : Thread Cert.KKernelIdeal.nD Cert.KKernelIdeal.τ).loc Cert.KKernelIdeal.main_arg0)
      ∧ r.2.mem ((c.tc : Thread Cert.KKernelIdeal.nD Cert.KKernelIdeal.τ).loc Cert.KKernelIdeal.main_arg1) = m ((c.tc : Thread Cert.KKernelIdeal.nD Cert.KKernelIdeal.τ).loc Cert.KKernelIdeal.main_arg1))
      ∧ r.2.sem = fun _ => 0)

def quiescent_KReferenceIdeal [hKReferenceIdeal : Cert.KReferenceIdeal.Facts] : Prop :=
  ∀ (m : (ℓ : Loc Cert.KReferenceIdeal.nD Cert.KReferenceIdeal.τ Cert.KReferenceIdeal.sig) → Buf (Elt Ideal) ℓ) (g : Dev Cert.KReferenceIdeal.nD → PrngReg), Pre_KReferenceIdeal m →
    θ_run (Cert.KReferenceIdeal.defs (F := Ideal)) (onTc (τ := Cert.KReferenceIdeal.τ) (Cert.KReferenceIdeal.main (F := Ideal))) ⟨m, fun _ => 0, g⟩ (fun r => (∀ c : Dev Cert.KReferenceIdeal.nD,
      r.2.mem ((c.tc : Thread Cert.KReferenceIdeal.nD Cert.KReferenceIdeal.τ).loc Cert.KReferenceIdeal.main_arg0) = m ((c.tc : Thread Cert.KReferenceIdeal.nD Cert.KReferenceIdeal.τ).loc Cert.KReferenceIdeal.main_arg0)
      ∧ r.2.mem ((c.tc : Thread Cert.KReferenceIdeal.nD Cert.KReferenceIdeal.τ).loc Cert.KReferenceIdeal.main_arg1) = m ((c.tc : Thread Cert.KReferenceIdeal.nD Cert.KReferenceIdeal.τ).loc Cert.KReferenceIdeal.main_arg1))
      ∧ r.2.sem = fun _ => 0)

def quiescent_AbKernel [hAbKernel : Cert.AbKernel.Facts] : Prop :=
  ∀ (m : (ℓ : Loc Cert.AbKernel.nD Cert.AbKernel.τ Cert.AbKernel.sig) → Buf (Elt Bits) ℓ) (g : Dev Cert.AbKernel.nD → PrngReg), Pre_AbKernel m →
    θ_run (Cert.AbKernel.defs (F := Bits)) (onTc (τ := Cert.AbKernel.τ) (Cert.AbKernel.main (F := Bits))) ⟨m, fun _ => 0, g⟩ (fun r => (∀ c : Dev Cert.AbKernel.nD,
      r.2.mem ((c.tc : Thread Cert.AbKernel.nD Cert.AbKernel.τ).loc Cert.AbKernel.main_arg0) = m ((c.tc : Thread Cert.AbKernel.nD Cert.AbKernel.τ).loc Cert.AbKernel.main_arg0)
      ∧ r.2.mem ((c.tc : Thread Cert.AbKernel.nD Cert.AbKernel.τ).loc Cert.AbKernel.main_arg1) = m ((c.tc : Thread Cert.AbKernel.nD Cert.AbKernel.τ).loc Cert.AbKernel.main_arg1)
      ∧ r.2.mem ((c.tc : Thread Cert.AbKernel.nD Cert.AbKernel.τ).loc Cert.AbKernel.main_arg2) = m ((c.tc : Thread Cert.AbKernel.nD Cert.AbKernel.τ).loc Cert.AbKernel.main_arg2))
      ∧ r.2.sem = fun _ => 0)

def quiescent_AbKernelIdeal [hAbKernelIdeal : Cert.AbKernelIdeal.Facts] : Prop :=
  ∀ (m : (ℓ : Loc Cert.AbKernelIdeal.nD Cert.AbKernelIdeal.τ Cert.AbKernelIdeal.sig) → Buf (Elt Ideal) ℓ) (g : Dev Cert.AbKernelIdeal.nD → PrngReg), Pre_AbKernelIdeal m →
    θ_run (Cert.AbKernelIdeal.defs (F := Ideal)) (onTc (τ := Cert.AbKernelIdeal.τ) (Cert.AbKernelIdeal.main (F := Ideal))) ⟨m, fun _ => 0, g⟩ (fun r => (∀ c : Dev Cert.AbKernelIdeal.nD,
      r.2.mem ((c.tc : Thread Cert.AbKernelIdeal.nD Cert.AbKernelIdeal.τ).loc Cert.AbKernelIdeal.main_arg0) = m ((c.tc : Thread Cert.AbKernelIdeal.nD Cert.AbKernelIdeal.τ).loc Cert.AbKernelIdeal.main_arg0)
      ∧ r.2.mem ((c.tc : Thread Cert.AbKernelIdeal.nD Cert.AbKernelIdeal.τ).loc Cert.AbKernelIdeal.main_arg1) = m ((c.tc : Thread Cert.AbKernelIdeal.nD Cert.AbKernelIdeal.τ).loc Cert.AbKernelIdeal.main_arg1)
      ∧ r.2.mem ((c.tc : Thread Cert.AbKernelIdeal.nD Cert.AbKernelIdeal.τ).loc Cert.AbKernelIdeal.main_arg2) = m ((c.tc : Thread Cert.AbKernelIdeal.nD Cert.AbKernelIdeal.τ).loc Cert.AbKernelIdeal.main_arg2))
      ∧ r.2.sem = fun _ => 0)

def quiescent_AbReferenceIdeal [hAbReferenceIdeal : Cert.AbReferenceIdeal.Facts] : Prop :=
  ∀ (m : (ℓ : Loc Cert.AbReferenceIdeal.nD Cert.AbReferenceIdeal.τ Cert.AbReferenceIdeal.sig) → Buf (Elt Ideal) ℓ) (g : Dev Cert.AbReferenceIdeal.nD → PrngReg), Pre_AbReferenceIdeal m →
    θ_run (Cert.AbReferenceIdeal.defs (F := Ideal)) (onTc (τ := Cert.AbReferenceIdeal.τ) (Cert.AbReferenceIdeal.main (F := Ideal))) ⟨m, fun _ => 0, g⟩ (fun r => (∀ c : Dev Cert.AbReferenceIdeal.nD,
      r.2.mem ((c.tc : Thread Cert.AbReferenceIdeal.nD Cert.AbReferenceIdeal.τ).loc Cert.AbReferenceIdeal.main_arg0) = m ((c.tc : Thread Cert.AbReferenceIdeal.nD Cert.AbReferenceIdeal.τ).loc Cert.AbReferenceIdeal.main_arg0)
      ∧ r.2.mem ((c.tc : Thread Cert.AbReferenceIdeal.nD Cert.AbReferenceIdeal.τ).loc Cert.AbReferenceIdeal.main_arg1) = m ((c.tc : Thread Cert.AbReferenceIdeal.nD Cert.AbReferenceIdeal.τ).loc Cert.AbReferenceIdeal.main_arg1)
      ∧ r.2.mem ((c.tc : Thread Cert.AbReferenceIdeal.nD Cert.AbReferenceIdeal.τ).loc Cert.AbReferenceIdeal.main_arg2) = m ((c.tc : Thread Cert.AbReferenceIdeal.nD Cert.AbReferenceIdeal.τ).loc Cert.AbReferenceIdeal.main_arg2))
      ∧ r.2.sem = fun _ => 0)

def quiescent_CKernel [hCKernel : Cert.CKernel.Facts] : Prop :=
  ∀ (m : (ℓ : Loc Cert.CKernel.nD Cert.CKernel.τ Cert.CKernel.sig) → Buf (Elt Bits) ℓ) (g : Dev Cert.CKernel.nD → PrngReg), Pre_CKernel m →
    θ_run (Cert.CKernel.defs (F := Bits)) (onTc (τ := Cert.CKernel.τ) (Cert.CKernel.main (F := Bits))) ⟨m, fun _ => 0, g⟩ (fun r => (∀ c : Dev Cert.CKernel.nD,
      r.2.mem ((c.tc : Thread Cert.CKernel.nD Cert.CKernel.τ).loc Cert.CKernel.main_arg0) = m ((c.tc : Thread Cert.CKernel.nD Cert.CKernel.τ).loc Cert.CKernel.main_arg0)
      ∧ r.2.mem ((c.tc : Thread Cert.CKernel.nD Cert.CKernel.τ).loc Cert.CKernel.main_arg1) = m ((c.tc : Thread Cert.CKernel.nD Cert.CKernel.τ).loc Cert.CKernel.main_arg1)
      ∧ r.2.mem ((c.tc : Thread Cert.CKernel.nD Cert.CKernel.τ).loc Cert.CKernel.main_arg2) = m ((c.tc : Thread Cert.CKernel.nD Cert.CKernel.τ).loc Cert.CKernel.main_arg2))
      ∧ r.2.sem = fun _ => 0)

def quiescent_CKernelIdeal [hCKernelIdeal : Cert.CKernelIdeal.Facts] : Prop :=
  ∀ (m : (ℓ : Loc Cert.CKernelIdeal.nD Cert.CKernelIdeal.τ Cert.CKernelIdeal.sig) → Buf (Elt Ideal) ℓ) (g : Dev Cert.CKernelIdeal.nD → PrngReg), Pre_CKernelIdeal m →
    θ_run (Cert.CKernelIdeal.defs (F := Ideal)) (onTc (τ := Cert.CKernelIdeal.τ) (Cert.CKernelIdeal.main (F := Ideal))) ⟨m, fun _ => 0, g⟩ (fun r => (∀ c : Dev Cert.CKernelIdeal.nD,
      r.2.mem ((c.tc : Thread Cert.CKernelIdeal.nD Cert.CKernelIdeal.τ).loc Cert.CKernelIdeal.main_arg0) = m ((c.tc : Thread Cert.CKernelIdeal.nD Cert.CKernelIdeal.τ).loc Cert.CKernelIdeal.main_arg0)
      ∧ r.2.mem ((c.tc : Thread Cert.CKernelIdeal.nD Cert.CKernelIdeal.τ).loc Cert.CKernelIdeal.main_arg1) = m ((c.tc : Thread Cert.CKernelIdeal.nD Cert.CKernelIdeal.τ).loc Cert.CKernelIdeal.main_arg1)
      ∧ r.2.mem ((c.tc : Thread Cert.CKernelIdeal.nD Cert.CKernelIdeal.τ).loc Cert.CKernelIdeal.main_arg2) = m ((c.tc : Thread Cert.CKernelIdeal.nD Cert.CKernelIdeal.τ).loc Cert.CKernelIdeal.main_arg2))
      ∧ r.2.sem = fun _ => 0)

def quiescent_CReferenceIdeal [hCReferenceIdeal : Cert.CReferenceIdeal.Facts] : Prop :=
  ∀ (m : (ℓ : Loc Cert.CReferenceIdeal.nD Cert.CReferenceIdeal.τ Cert.CReferenceIdeal.sig) → Buf (Elt Ideal) ℓ) (g : Dev Cert.CReferenceIdeal.nD → PrngReg), Pre_CReferenceIdeal m →
    θ_run (Cert.CReferenceIdeal.defs (F := Ideal)) (onTc (τ := Cert.CReferenceIdeal.τ) (Cert.CReferenceIdeal.main (F := Ideal))) ⟨m, fun _ => 0, g⟩ (fun r => (∀ c : Dev Cert.CReferenceIdeal.nD,
      r.2.mem ((c.tc : Thread Cert.CReferenceIdeal.nD Cert.CReferenceIdeal.τ).loc Cert.CReferenceIdeal.main_arg0) = m ((c.tc : Thread Cert.CReferenceIdeal.nD Cert.CReferenceIdeal.τ).loc Cert.CReferenceIdeal.main_arg0)
      ∧ r.2.mem ((c.tc : Thread Cert.CReferenceIdeal.nD Cert.CReferenceIdeal.τ).loc Cert.CReferenceIdeal.main_arg1) = m ((c.tc : Thread Cert.CReferenceIdeal.nD Cert.CReferenceIdeal.τ).loc Cert.CReferenceIdeal.main_arg1)
      ∧ r.2.mem ((c.tc : Thread Cert.CReferenceIdeal.nD Cert.CReferenceIdeal.τ).loc Cert.CReferenceIdeal.main_arg2) = m ((c.tc : Thread Cert.CReferenceIdeal.nD Cert.CReferenceIdeal.τ).loc Cert.CReferenceIdeal.main_arg2))
      ∧ r.2.sem = fun _ => 0)

def quiescent_CkvKernel [hCkvKernel : Cert.CkvKernel.Facts] : Prop :=
  ∀ (m : (ℓ : Loc Cert.CkvKernel.nD Cert.CkvKernel.τ Cert.CkvKernel.sig) → Buf (Elt Bits) ℓ) (g : Dev Cert.CkvKernel.nD → PrngReg), Pre_CkvKernel m →
    θ_run (Cert.CkvKernel.defs (F := Bits)) (onTc (τ := Cert.CkvKernel.τ) (Cert.CkvKernel.main (F := Bits))) ⟨m, fun _ => 0, g⟩ (fun r => (∀ c : Dev Cert.CkvKernel.nD,
      r.2.mem ((c.tc : Thread Cert.CkvKernel.nD Cert.CkvKernel.τ).loc Cert.CkvKernel.main_arg0) = m ((c.tc : Thread Cert.CkvKernel.nD Cert.CkvKernel.τ).loc Cert.CkvKernel.main_arg0)
      ∧ r.2.mem ((c.tc : Thread Cert.CkvKernel.nD Cert.CkvKernel.τ).loc Cert.CkvKernel.main_arg1) = m ((c.tc : Thread Cert.CkvKernel.nD Cert.CkvKernel.τ).loc Cert.CkvKernel.main_arg1))
      ∧ r.2.sem = fun _ => 0)

def quiescent_CkvKernelIdeal [hCkvKernelIdeal : Cert.CkvKernelIdeal.Facts] : Prop :=
  ∀ (m : (ℓ : Loc Cert.CkvKernelIdeal.nD Cert.CkvKernelIdeal.τ Cert.CkvKernelIdeal.sig) → Buf (Elt Ideal) ℓ) (g : Dev Cert.CkvKernelIdeal.nD → PrngReg), Pre_CkvKernelIdeal m →
    θ_run (Cert.CkvKernelIdeal.defs (F := Ideal)) (onTc (τ := Cert.CkvKernelIdeal.τ) (Cert.CkvKernelIdeal.main (F := Ideal))) ⟨m, fun _ => 0, g⟩ (fun r => (∀ c : Dev Cert.CkvKernelIdeal.nD,
      r.2.mem ((c.tc : Thread Cert.CkvKernelIdeal.nD Cert.CkvKernelIdeal.τ).loc Cert.CkvKernelIdeal.main_arg0) = m ((c.tc : Thread Cert.CkvKernelIdeal.nD Cert.CkvKernelIdeal.τ).loc Cert.CkvKernelIdeal.main_arg0)
      ∧ r.2.mem ((c.tc : Thread Cert.CkvKernelIdeal.nD Cert.CkvKernelIdeal.τ).loc Cert.CkvKernelIdeal.main_arg1) = m ((c.tc : Thread Cert.CkvKernelIdeal.nD Cert.CkvKernelIdeal.τ).loc Cert.CkvKernelIdeal.main_arg1))
      ∧ r.2.sem = fun _ => 0)

def quiescent_CkvReferenceIdeal [hCkvReferenceIdeal : Cert.CkvReferenceIdeal.Facts] : Prop :=
  ∀ (m : (ℓ : Loc Cert.CkvReferenceIdeal.nD Cert.CkvReferenceIdeal.τ Cert.CkvReferenceIdeal.sig) → Buf (Elt Ideal) ℓ) (g : Dev Cert.CkvReferenceIdeal.nD → PrngReg), Pre_CkvReferenceIdeal m →
    θ_run (Cert.CkvReferenceIdeal.defs (F := Ideal)) (onTc (τ := Cert.CkvReferenceIdeal.τ) (Cert.CkvReferenceIdeal.main (F := Ideal))) ⟨m, fun _ => 0, g⟩ (fun r => (∀ c : Dev Cert.CkvReferenceIdeal.nD,
      r.2.mem ((c.tc : Thread Cert.CkvReferenceIdeal.nD Cert.CkvReferenceIdeal.τ).loc Cert.CkvReferenceIdeal.main_arg0) = m ((c.tc : Thread Cert.CkvReferenceIdeal.nD Cert.CkvReferenceIdeal.τ).loc Cert.CkvReferenceIdeal.main_arg0)
      ∧ r.2.mem ((c.tc : Thread Cert.CkvReferenceIdeal.nD Cert.CkvReferenceIdeal.τ).loc Cert.CkvReferenceIdeal.main_arg1) = m ((c.tc : Thread Cert.CkvReferenceIdeal.nD Cert.CkvReferenceIdeal.τ).loc Cert.CkvReferenceIdeal.main_arg1))
      ∧ r.2.sem = fun _ => 0)

def quiescent_MemFKernel [hMemFKernel : Cert.MemFKernel.Facts] : Prop :=
  ∀ (m : (ℓ : Loc Cert.MemFKernel.nD Cert.MemFKernel.τ Cert.MemFKernel.sig) → Buf (Elt Bits) ℓ) (g : Dev Cert.MemFKernel.nD → PrngReg), Pre_MemFKernel m →
    θ_run (Cert.MemFKernel.defs (F := Bits)) (onTc (τ := Cert.MemFKernel.τ) (Cert.MemFKernel.main (F := Bits))) ⟨m, fun _ => 0, g⟩ (fun r => (∀ c : Dev Cert.MemFKernel.nD,
      r.2.mem ((c.tc : Thread Cert.MemFKernel.nD Cert.MemFKernel.τ).loc Cert.MemFKernel.main_arg0) = m ((c.tc : Thread Cert.MemFKernel.nD Cert.MemFKernel.τ).loc Cert.MemFKernel.main_arg0)
      ∧ r.2.mem ((c.tc : Thread Cert.MemFKernel.nD Cert.MemFKernel.τ).loc Cert.MemFKernel.main_arg1) = m ((c.tc : Thread Cert.MemFKernel.nD Cert.MemFKernel.τ).loc Cert.MemFKernel.main_arg1)
      ∧ r.2.mem ((c.tc : Thread Cert.MemFKernel.nD Cert.MemFKernel.τ).loc Cert.MemFKernel.main_arg2) = m ((c.tc : Thread Cert.MemFKernel.nD Cert.MemFKernel.τ).loc Cert.MemFKernel.main_arg2))
      ∧ r.2.sem = fun _ => 0)

def quiescent_MemFKernelIdeal [hMemFKernelIdeal : Cert.MemFKernelIdeal.Facts] : Prop :=
  ∀ (m : (ℓ : Loc Cert.MemFKernelIdeal.nD Cert.MemFKernelIdeal.τ Cert.MemFKernelIdeal.sig) → Buf (Elt Ideal) ℓ) (g : Dev Cert.MemFKernelIdeal.nD → PrngReg), Pre_MemFKernelIdeal m →
    θ_run (Cert.MemFKernelIdeal.defs (F := Ideal)) (onTc (τ := Cert.MemFKernelIdeal.τ) (Cert.MemFKernelIdeal.main (F := Ideal))) ⟨m, fun _ => 0, g⟩ (fun r => (∀ c : Dev Cert.MemFKernelIdeal.nD,
      r.2.mem ((c.tc : Thread Cert.MemFKernelIdeal.nD Cert.MemFKernelIdeal.τ).loc Cert.MemFKernelIdeal.main_arg0) = m ((c.tc : Thread Cert.MemFKernelIdeal.nD Cert.MemFKernelIdeal.τ).loc Cert.MemFKernelIdeal.main_arg0)
      ∧ r.2.mem ((c.tc : Thread Cert.MemFKernelIdeal.nD Cert.MemFKernelIdeal.τ).loc Cert.MemFKernelIdeal.main_arg1) = m ((c.tc : Thread Cert.MemFKernelIdeal.nD Cert.MemFKernelIdeal.τ).loc Cert.MemFKernelIdeal.main_arg1)
      ∧ r.2.mem ((c.tc : Thread Cert.MemFKernelIdeal.nD Cert.MemFKernelIdeal.τ).loc Cert.MemFKernelIdeal.main_arg2) = m ((c.tc : Thread Cert.MemFKernelIdeal.nD Cert.MemFKernelIdeal.τ).loc Cert.MemFKernelIdeal.main_arg2))
      ∧ r.2.sem = fun _ => 0)

def quiescent_MemFReferenceIdeal [hMemFReferenceIdeal : Cert.MemFReferenceIdeal.Facts] : Prop :=
  ∀ (m : (ℓ : Loc Cert.MemFReferenceIdeal.nD Cert.MemFReferenceIdeal.τ Cert.MemFReferenceIdeal.sig) → Buf (Elt Ideal) ℓ) (g : Dev Cert.MemFReferenceIdeal.nD → PrngReg), Pre_MemFReferenceIdeal m →
    θ_run (Cert.MemFReferenceIdeal.defs (F := Ideal)) (onTc (τ := Cert.MemFReferenceIdeal.τ) (Cert.MemFReferenceIdeal.main (F := Ideal))) ⟨m, fun _ => 0, g⟩ (fun r => (∀ c : Dev Cert.MemFReferenceIdeal.nD,
      r.2.mem ((c.tc : Thread Cert.MemFReferenceIdeal.nD Cert.MemFReferenceIdeal.τ).loc Cert.MemFReferenceIdeal.main_arg0) = m ((c.tc : Thread Cert.MemFReferenceIdeal.nD Cert.MemFReferenceIdeal.τ).loc Cert.MemFReferenceIdeal.main_arg0)
      ∧ r.2.mem ((c.tc : Thread Cert.MemFReferenceIdeal.nD Cert.MemFReferenceIdeal.τ).loc Cert.MemFReferenceIdeal.main_arg1) = m ((c.tc : Thread Cert.MemFReferenceIdeal.nD Cert.MemFReferenceIdeal.τ).loc Cert.MemFReferenceIdeal.main_arg1)
      ∧ r.2.mem ((c.tc : Thread Cert.MemFReferenceIdeal.nD Cert.MemFReferenceIdeal.τ).loc Cert.MemFReferenceIdeal.main_arg2) = m ((c.tc : Thread Cert.MemFReferenceIdeal.nD Cert.MemFReferenceIdeal.τ).loc Cert.MemFReferenceIdeal.main_arg2))
      ∧ r.2.sem = fun _ => 0)

def quiescent_NormFKernel [hNormFKernel : Cert.NormFKernel.Facts] : Prop :=
  ∀ (m : (ℓ : Loc Cert.NormFKernel.nD Cert.NormFKernel.τ Cert.NormFKernel.sig) → Buf (Elt Bits) ℓ) (g : Dev Cert.NormFKernel.nD → PrngReg), Pre_NormFKernel m →
    θ_run (Cert.NormFKernel.defs (F := Bits)) (onTc (τ := Cert.NormFKernel.τ) (Cert.NormFKernel.main (F := Bits))) ⟨m, fun _ => 0, g⟩ (fun r => (∀ c : Dev Cert.NormFKernel.nD,
      r.2.mem ((c.tc : Thread Cert.NormFKernel.nD Cert.NormFKernel.τ).loc Cert.NormFKernel.main_arg0) = m ((c.tc : Thread Cert.NormFKernel.nD Cert.NormFKernel.τ).loc Cert.NormFKernel.main_arg0)
      ∧ r.2.mem ((c.tc : Thread Cert.NormFKernel.nD Cert.NormFKernel.τ).loc Cert.NormFKernel.main_arg1) = m ((c.tc : Thread Cert.NormFKernel.nD Cert.NormFKernel.τ).loc Cert.NormFKernel.main_arg1))
      ∧ r.2.sem = fun _ => 0)

def quiescent_NormFKernelIdeal [hNormFKernelIdeal : Cert.NormFKernelIdeal.Facts] : Prop :=
  ∀ (m : (ℓ : Loc Cert.NormFKernelIdeal.nD Cert.NormFKernelIdeal.τ Cert.NormFKernelIdeal.sig) → Buf (Elt Ideal) ℓ) (g : Dev Cert.NormFKernelIdeal.nD → PrngReg), Pre_NormFKernelIdeal m →
    θ_run (Cert.NormFKernelIdeal.defs (F := Ideal)) (onTc (τ := Cert.NormFKernelIdeal.τ) (Cert.NormFKernelIdeal.main (F := Ideal))) ⟨m, fun _ => 0, g⟩ (fun r => (∀ c : Dev Cert.NormFKernelIdeal.nD,
      r.2.mem ((c.tc : Thread Cert.NormFKernelIdeal.nD Cert.NormFKernelIdeal.τ).loc Cert.NormFKernelIdeal.main_arg0) = m ((c.tc : Thread Cert.NormFKernelIdeal.nD Cert.NormFKernelIdeal.τ).loc Cert.NormFKernelIdeal.main_arg0)
      ∧ r.2.mem ((c.tc : Thread Cert.NormFKernelIdeal.nD Cert.NormFKernelIdeal.τ).loc Cert.NormFKernelIdeal.main_arg1) = m ((c.tc : Thread Cert.NormFKernelIdeal.nD Cert.NormFKernelIdeal.τ).loc Cert.NormFKernelIdeal.main_arg1))
      ∧ r.2.sem = fun _ => 0)

def quiescent_NormFReferenceIdeal [hNormFReferenceIdeal : Cert.NormFReferenceIdeal.Facts] : Prop :=
  ∀ (m : (ℓ : Loc Cert.NormFReferenceIdeal.nD Cert.NormFReferenceIdeal.τ Cert.NormFReferenceIdeal.sig) → Buf (Elt Ideal) ℓ) (g : Dev Cert.NormFReferenceIdeal.nD → PrngReg), Pre_NormFReferenceIdeal m →
    θ_run (Cert.NormFReferenceIdeal.defs (F := Ideal)) (onTc (τ := Cert.NormFReferenceIdeal.τ) (Cert.NormFReferenceIdeal.main (F := Ideal))) ⟨m, fun _ => 0, g⟩ (fun r => (∀ c : Dev Cert.NormFReferenceIdeal.nD,
      r.2.mem ((c.tc : Thread Cert.NormFReferenceIdeal.nD Cert.NormFReferenceIdeal.τ).loc Cert.NormFReferenceIdeal.main_arg0) = m ((c.tc : Thread Cert.NormFReferenceIdeal.nD Cert.NormFReferenceIdeal.τ).loc Cert.NormFReferenceIdeal.main_arg0)
      ∧ r.2.mem ((c.tc : Thread Cert.NormFReferenceIdeal.nD Cert.NormFReferenceIdeal.τ).loc Cert.NormFReferenceIdeal.main_arg1) = m ((c.tc : Thread Cert.NormFReferenceIdeal.nD Cert.NormFReferenceIdeal.τ).loc Cert.NormFReferenceIdeal.main_arg1))
      ∧ r.2.sem = fun _ => 0)

def quiescent_MlafKernel [hMlafKernel : Cert.MlafKernel.Facts] : Prop :=
  ∀ (m : (ℓ : Loc Cert.MlafKernel.nD Cert.MlafKernel.τ Cert.MlafKernel.sig) → Buf (Elt Bits) ℓ) (g : Dev Cert.MlafKernel.nD → PrngReg), Pre_MlafKernel m →
    θ_run (Cert.MlafKernel.defs (F := Bits)) (onTc (τ := Cert.MlafKernel.τ) (Cert.MlafKernel.main (F := Bits))) ⟨m, fun _ => 0, g⟩ (fun r => (∀ c : Dev Cert.MlafKernel.nD,
      r.2.mem ((c.tc : Thread Cert.MlafKernel.nD Cert.MlafKernel.τ).loc Cert.MlafKernel.main_arg0) = m ((c.tc : Thread Cert.MlafKernel.nD Cert.MlafKernel.τ).loc Cert.MlafKernel.main_arg0)
      ∧ r.2.mem ((c.tc : Thread Cert.MlafKernel.nD Cert.MlafKernel.τ).loc Cert.MlafKernel.main_arg1) = m ((c.tc : Thread Cert.MlafKernel.nD Cert.MlafKernel.τ).loc Cert.MlafKernel.main_arg1)
      ∧ r.2.mem ((c.tc : Thread Cert.MlafKernel.nD Cert.MlafKernel.τ).loc Cert.MlafKernel.main_arg2) = m ((c.tc : Thread Cert.MlafKernel.nD Cert.MlafKernel.τ).loc Cert.MlafKernel.main_arg2))
      ∧ r.2.sem = fun _ => 0)

def quiescent_MlafKernelIdeal [hMlafKernelIdeal : Cert.MlafKernelIdeal.Facts] : Prop :=
  ∀ (m : (ℓ : Loc Cert.MlafKernelIdeal.nD Cert.MlafKernelIdeal.τ Cert.MlafKernelIdeal.sig) → Buf (Elt Ideal) ℓ) (g : Dev Cert.MlafKernelIdeal.nD → PrngReg), Pre_MlafKernelIdeal m →
    θ_run (Cert.MlafKernelIdeal.defs (F := Ideal)) (onTc (τ := Cert.MlafKernelIdeal.τ) (Cert.MlafKernelIdeal.main (F := Ideal))) ⟨m, fun _ => 0, g⟩ (fun r => (∀ c : Dev Cert.MlafKernelIdeal.nD,
      r.2.mem ((c.tc : Thread Cert.MlafKernelIdeal.nD Cert.MlafKernelIdeal.τ).loc Cert.MlafKernelIdeal.main_arg0) = m ((c.tc : Thread Cert.MlafKernelIdeal.nD Cert.MlafKernelIdeal.τ).loc Cert.MlafKernelIdeal.main_arg0)
      ∧ r.2.mem ((c.tc : Thread Cert.MlafKernelIdeal.nD Cert.MlafKernelIdeal.τ).loc Cert.MlafKernelIdeal.main_arg1) = m ((c.tc : Thread Cert.MlafKernelIdeal.nD Cert.MlafKernelIdeal.τ).loc Cert.MlafKernelIdeal.main_arg1)
      ∧ r.2.mem ((c.tc : Thread Cert.MlafKernelIdeal.nD Cert.MlafKernelIdeal.τ).loc Cert.MlafKernelIdeal.main_arg2) = m ((c.tc : Thread Cert.MlafKernelIdeal.nD Cert.MlafKernelIdeal.τ).loc Cert.MlafKernelIdeal.main_arg2))
      ∧ r.2.sem = fun _ => 0)

def quiescent_MlafKernelIdeal_pre_mlaf_finite [hMlafKernelIdeal : Cert.MlafKernelIdeal.Facts] [hPre_mlaf_finite : Cert.Pre_mlaf_finite.Facts] : Prop :=
  ∀ (m : (ℓ : Loc Cert.MlafKernelIdeal.nD Cert.MlafKernelIdeal.τ Cert.MlafKernelIdeal.sig) → Buf (Elt Ideal) ℓ) (g : Dev Cert.MlafKernelIdeal.nD → PrngReg), Pre_MlafKernelIdeal_mlaf_finite m →
    θ_run (Cert.MlafKernelIdeal.defs (F := Ideal)) (onTc (τ := Cert.MlafKernelIdeal.τ) (Cert.MlafKernelIdeal.main (F := Ideal))) ⟨m, fun _ => 0, g⟩ (fun r => (∀ c : Dev Cert.MlafKernelIdeal.nD,
      r.2.mem ((c.tc : Thread Cert.MlafKernelIdeal.nD Cert.MlafKernelIdeal.τ).loc Cert.MlafKernelIdeal.main_arg0) = m ((c.tc : Thread Cert.MlafKernelIdeal.nD Cert.MlafKernelIdeal.τ).loc Cert.MlafKernelIdeal.main_arg0)
      ∧ r.2.mem ((c.tc : Thread Cert.MlafKernelIdeal.nD Cert.MlafKernelIdeal.τ).loc Cert.MlafKernelIdeal.main_arg1) = m ((c.tc : Thread Cert.MlafKernelIdeal.nD Cert.MlafKernelIdeal.τ).loc Cert.MlafKernelIdeal.main_arg1)
      ∧ r.2.mem ((c.tc : Thread Cert.MlafKernelIdeal.nD Cert.MlafKernelIdeal.τ).loc Cert.MlafKernelIdeal.main_arg2) = m ((c.tc : Thread Cert.MlafKernelIdeal.nD Cert.MlafKernelIdeal.τ).loc Cert.MlafKernelIdeal.main_arg2))
      ∧ r.2.sem = fun _ => 0)

def quiescent_MlafReferenceIdeal [hMlafReferenceIdeal : Cert.MlafReferenceIdeal.Facts] : Prop :=
  ∀ (m : (ℓ : Loc Cert.MlafReferenceIdeal.nD Cert.MlafReferenceIdeal.τ Cert.MlafReferenceIdeal.sig) → Buf (Elt Ideal) ℓ) (g : Dev Cert.MlafReferenceIdeal.nD → PrngReg), Pre_MlafReferenceIdeal m →
    θ_run (Cert.MlafReferenceIdeal.defs (F := Ideal)) (onTc (τ := Cert.MlafReferenceIdeal.τ) (Cert.MlafReferenceIdeal.main (F := Ideal))) ⟨m, fun _ => 0, g⟩ (fun r => (∀ c : Dev Cert.MlafReferenceIdeal.nD,
      r.2.mem ((c.tc : Thread Cert.MlafReferenceIdeal.nD Cert.MlafReferenceIdeal.τ).loc Cert.MlafReferenceIdeal.main_arg0) = m ((c.tc : Thread Cert.MlafReferenceIdeal.nD Cert.MlafReferenceIdeal.τ).loc Cert.MlafReferenceIdeal.main_arg0)
      ∧ r.2.mem ((c.tc : Thread Cert.MlafReferenceIdeal.nD Cert.MlafReferenceIdeal.τ).loc Cert.MlafReferenceIdeal.main_arg1) = m ((c.tc : Thread Cert.MlafReferenceIdeal.nD Cert.MlafReferenceIdeal.τ).loc Cert.MlafReferenceIdeal.main_arg1)
      ∧ r.2.mem ((c.tc : Thread Cert.MlafReferenceIdeal.nD Cert.MlafReferenceIdeal.τ).loc Cert.MlafReferenceIdeal.main_arg2) = m ((c.tc : Thread Cert.MlafReferenceIdeal.nD Cert.MlafReferenceIdeal.τ).loc Cert.MlafReferenceIdeal.main_arg2))
      ∧ r.2.sem = fun _ => 0)

def quiescent_MlafReferenceIdeal_pre_mlaf_finite [hMlafReferenceIdeal : Cert.MlafReferenceIdeal.Facts] [hPre_mlaf_finite : Cert.Pre_mlaf_finite.Facts] : Prop :=
  ∀ (m : (ℓ : Loc Cert.MlafReferenceIdeal.nD Cert.MlafReferenceIdeal.τ Cert.MlafReferenceIdeal.sig) → Buf (Elt Ideal) ℓ) (g : Dev Cert.MlafReferenceIdeal.nD → PrngReg), Pre_MlafReferenceIdeal_mlaf_finite m →
    θ_run (Cert.MlafReferenceIdeal.defs (F := Ideal)) (onTc (τ := Cert.MlafReferenceIdeal.τ) (Cert.MlafReferenceIdeal.main (F := Ideal))) ⟨m, fun _ => 0, g⟩ (fun r => (∀ c : Dev Cert.MlafReferenceIdeal.nD,
      r.2.mem ((c.tc : Thread Cert.MlafReferenceIdeal.nD Cert.MlafReferenceIdeal.τ).loc Cert.MlafReferenceIdeal.main_arg0) = m ((c.tc : Thread Cert.MlafReferenceIdeal.nD Cert.MlafReferenceIdeal.τ).loc Cert.MlafReferenceIdeal.main_arg0)
      ∧ r.2.mem ((c.tc : Thread Cert.MlafReferenceIdeal.nD Cert.MlafReferenceIdeal.τ).loc Cert.MlafReferenceIdeal.main_arg1) = m ((c.tc : Thread Cert.MlafReferenceIdeal.nD Cert.MlafReferenceIdeal.τ).loc Cert.MlafReferenceIdeal.main_arg1)
      ∧ r.2.mem ((c.tc : Thread Cert.MlafReferenceIdeal.nD Cert.MlafReferenceIdeal.τ).loc Cert.MlafReferenceIdeal.main_arg2) = m ((c.tc : Thread Cert.MlafReferenceIdeal.nD Cert.MlafReferenceIdeal.τ).loc Cert.MlafReferenceIdeal.main_arg2))
      ∧ r.2.sem = fun _ => 0)

def quiescent_MlabKernel [hMlabKernel : Cert.MlabKernel.Facts] : Prop :=
  ∀ (m : (ℓ : Loc Cert.MlabKernel.nD Cert.MlabKernel.τ Cert.MlabKernel.sig) → Buf (Elt Bits) ℓ) (g : Dev Cert.MlabKernel.nD → PrngReg), Pre_MlabKernel m →
    θ_run (Cert.MlabKernel.defs (F := Bits)) (onTc (τ := Cert.MlabKernel.τ) (Cert.MlabKernel.main (F := Bits))) ⟨m, fun _ => 0, g⟩ (fun r => (∀ c : Dev Cert.MlabKernel.nD,
      r.2.mem ((c.tc : Thread Cert.MlabKernel.nD Cert.MlabKernel.τ).loc Cert.MlabKernel.main_arg0) = m ((c.tc : Thread Cert.MlabKernel.nD Cert.MlabKernel.τ).loc Cert.MlabKernel.main_arg0)
      ∧ r.2.mem ((c.tc : Thread Cert.MlabKernel.nD Cert.MlabKernel.τ).loc Cert.MlabKernel.main_arg1) = m ((c.tc : Thread Cert.MlabKernel.nD Cert.MlabKernel.τ).loc Cert.MlabKernel.main_arg1)
      ∧ r.2.mem ((c.tc : Thread Cert.MlabKernel.nD Cert.MlabKernel.τ).loc Cert.MlabKernel.main_arg2) = m ((c.tc : Thread Cert.MlabKernel.nD Cert.MlabKernel.τ).loc Cert.MlabKernel.main_arg2)
      ∧ r.2.mem ((c.tc : Thread Cert.MlabKernel.nD Cert.MlabKernel.τ).loc Cert.MlabKernel.main_arg3) = m ((c.tc : Thread Cert.MlabKernel.nD Cert.MlabKernel.τ).loc Cert.MlabKernel.main_arg3)
      ∧ r.2.mem ((c.tc : Thread Cert.MlabKernel.nD Cert.MlabKernel.τ).loc Cert.MlabKernel.main_arg4) = m ((c.tc : Thread Cert.MlabKernel.nD Cert.MlabKernel.τ).loc Cert.MlabKernel.main_arg4)
      ∧ r.2.mem ((c.tc : Thread Cert.MlabKernel.nD Cert.MlabKernel.τ).loc Cert.MlabKernel.main_arg5) = m ((c.tc : Thread Cert.MlabKernel.nD Cert.MlabKernel.τ).loc Cert.MlabKernel.main_arg5))
      ∧ r.2.sem = fun _ => 0)

def quiescent_MlabKernelIdeal [hMlabKernelIdeal : Cert.MlabKernelIdeal.Facts] : Prop :=
  ∀ (m : (ℓ : Loc Cert.MlabKernelIdeal.nD Cert.MlabKernelIdeal.τ Cert.MlabKernelIdeal.sig) → Buf (Elt Ideal) ℓ) (g : Dev Cert.MlabKernelIdeal.nD → PrngReg), Pre_MlabKernelIdeal m →
    θ_run (Cert.MlabKernelIdeal.defs (F := Ideal)) (onTc (τ := Cert.MlabKernelIdeal.τ) (Cert.MlabKernelIdeal.main (F := Ideal))) ⟨m, fun _ => 0, g⟩ (fun r => (∀ c : Dev Cert.MlabKernelIdeal.nD,
      r.2.mem ((c.tc : Thread Cert.MlabKernelIdeal.nD Cert.MlabKernelIdeal.τ).loc Cert.MlabKernelIdeal.main_arg0) = m ((c.tc : Thread Cert.MlabKernelIdeal.nD Cert.MlabKernelIdeal.τ).loc Cert.MlabKernelIdeal.main_arg0)
      ∧ r.2.mem ((c.tc : Thread Cert.MlabKernelIdeal.nD Cert.MlabKernelIdeal.τ).loc Cert.MlabKernelIdeal.main_arg1) = m ((c.tc : Thread Cert.MlabKernelIdeal.nD Cert.MlabKernelIdeal.τ).loc Cert.MlabKernelIdeal.main_arg1)
      ∧ r.2.mem ((c.tc : Thread Cert.MlabKernelIdeal.nD Cert.MlabKernelIdeal.τ).loc Cert.MlabKernelIdeal.main_arg2) = m ((c.tc : Thread Cert.MlabKernelIdeal.nD Cert.MlabKernelIdeal.τ).loc Cert.MlabKernelIdeal.main_arg2)
      ∧ r.2.mem ((c.tc : Thread Cert.MlabKernelIdeal.nD Cert.MlabKernelIdeal.τ).loc Cert.MlabKernelIdeal.main_arg3) = m ((c.tc : Thread Cert.MlabKernelIdeal.nD Cert.MlabKernelIdeal.τ).loc Cert.MlabKernelIdeal.main_arg3)
      ∧ r.2.mem ((c.tc : Thread Cert.MlabKernelIdeal.nD Cert.MlabKernelIdeal.τ).loc Cert.MlabKernelIdeal.main_arg4) = m ((c.tc : Thread Cert.MlabKernelIdeal.nD Cert.MlabKernelIdeal.τ).loc Cert.MlabKernelIdeal.main_arg4)
      ∧ r.2.mem ((c.tc : Thread Cert.MlabKernelIdeal.nD Cert.MlabKernelIdeal.τ).loc Cert.MlabKernelIdeal.main_arg5) = m ((c.tc : Thread Cert.MlabKernelIdeal.nD Cert.MlabKernelIdeal.τ).loc Cert.MlabKernelIdeal.main_arg5))
      ∧ r.2.sem = fun _ => 0)

def quiescent_MlabKernelIdeal_pre_mlab_finite [hMlabKernelIdeal : Cert.MlabKernelIdeal.Facts] [hPre_mlab_finite : Cert.Pre_mlab_finite.Facts] : Prop :=
  ∀ (m : (ℓ : Loc Cert.MlabKernelIdeal.nD Cert.MlabKernelIdeal.τ Cert.MlabKernelIdeal.sig) → Buf (Elt Ideal) ℓ) (g : Dev Cert.MlabKernelIdeal.nD → PrngReg), Pre_MlabKernelIdeal_mlab_finite m →
    θ_run (Cert.MlabKernelIdeal.defs (F := Ideal)) (onTc (τ := Cert.MlabKernelIdeal.τ) (Cert.MlabKernelIdeal.main (F := Ideal))) ⟨m, fun _ => 0, g⟩ (fun r => (∀ c : Dev Cert.MlabKernelIdeal.nD,
      r.2.mem ((c.tc : Thread Cert.MlabKernelIdeal.nD Cert.MlabKernelIdeal.τ).loc Cert.MlabKernelIdeal.main_arg0) = m ((c.tc : Thread Cert.MlabKernelIdeal.nD Cert.MlabKernelIdeal.τ).loc Cert.MlabKernelIdeal.main_arg0)
      ∧ r.2.mem ((c.tc : Thread Cert.MlabKernelIdeal.nD Cert.MlabKernelIdeal.τ).loc Cert.MlabKernelIdeal.main_arg1) = m ((c.tc : Thread Cert.MlabKernelIdeal.nD Cert.MlabKernelIdeal.τ).loc Cert.MlabKernelIdeal.main_arg1)
      ∧ r.2.mem ((c.tc : Thread Cert.MlabKernelIdeal.nD Cert.MlabKernelIdeal.τ).loc Cert.MlabKernelIdeal.main_arg2) = m ((c.tc : Thread Cert.MlabKernelIdeal.nD Cert.MlabKernelIdeal.τ).loc Cert.MlabKernelIdeal.main_arg2)
      ∧ r.2.mem ((c.tc : Thread Cert.MlabKernelIdeal.nD Cert.MlabKernelIdeal.τ).loc Cert.MlabKernelIdeal.main_arg3) = m ((c.tc : Thread Cert.MlabKernelIdeal.nD Cert.MlabKernelIdeal.τ).loc Cert.MlabKernelIdeal.main_arg3)
      ∧ r.2.mem ((c.tc : Thread Cert.MlabKernelIdeal.nD Cert.MlabKernelIdeal.τ).loc Cert.MlabKernelIdeal.main_arg4) = m ((c.tc : Thread Cert.MlabKernelIdeal.nD Cert.MlabKernelIdeal.τ).loc Cert.MlabKernelIdeal.main_arg4)
      ∧ r.2.mem ((c.tc : Thread Cert.MlabKernelIdeal.nD Cert.MlabKernelIdeal.τ).loc Cert.MlabKernelIdeal.main_arg5) = m ((c.tc : Thread Cert.MlabKernelIdeal.nD Cert.MlabKernelIdeal.τ).loc Cert.MlabKernelIdeal.main_arg5))
      ∧ r.2.sem = fun _ => 0)

def quiescent_MlabReferenceIdeal [hMlabReferenceIdeal : Cert.MlabReferenceIdeal.Facts] : Prop :=
  ∀ (m : (ℓ : Loc Cert.MlabReferenceIdeal.nD Cert.MlabReferenceIdeal.τ Cert.MlabReferenceIdeal.sig) → Buf (Elt Ideal) ℓ) (g : Dev Cert.MlabReferenceIdeal.nD → PrngReg), Pre_MlabReferenceIdeal m →
    θ_run (Cert.MlabReferenceIdeal.defs (F := Ideal)) (onTc (τ := Cert.MlabReferenceIdeal.τ) (Cert.MlabReferenceIdeal.main (F := Ideal))) ⟨m, fun _ => 0, g⟩ (fun r => (∀ c : Dev Cert.MlabReferenceIdeal.nD,
      r.2.mem ((c.tc : Thread Cert.MlabReferenceIdeal.nD Cert.MlabReferenceIdeal.τ).loc Cert.MlabReferenceIdeal.main_arg0) = m ((c.tc : Thread Cert.MlabReferenceIdeal.nD Cert.MlabReferenceIdeal.τ).loc Cert.MlabReferenceIdeal.main_arg0)
      ∧ r.2.mem ((c.tc : Thread Cert.MlabReferenceIdeal.nD Cert.MlabReferenceIdeal.τ).loc Cert.MlabReferenceIdeal.main_arg1) = m ((c.tc : Thread Cert.MlabReferenceIdeal.nD Cert.MlabReferenceIdeal.τ).loc Cert.MlabReferenceIdeal.main_arg1)
      ∧ r.2.mem ((c.tc : Thread Cert.MlabReferenceIdeal.nD Cert.MlabReferenceIdeal.τ).loc Cert.MlabReferenceIdeal.main_arg2) = m ((c.tc : Thread Cert.MlabReferenceIdeal.nD Cert.MlabReferenceIdeal.τ).loc Cert.MlabReferenceIdeal.main_arg2)
      ∧ r.2.mem ((c.tc : Thread Cert.MlabReferenceIdeal.nD Cert.MlabReferenceIdeal.τ).loc Cert.MlabReferenceIdeal.main_arg3) = m ((c.tc : Thread Cert.MlabReferenceIdeal.nD Cert.MlabReferenceIdeal.τ).loc Cert.MlabReferenceIdeal.main_arg3)
      ∧ r.2.mem ((c.tc : Thread Cert.MlabReferenceIdeal.nD Cert.MlabReferenceIdeal.τ).loc Cert.MlabReferenceIdeal.main_arg4) = m ((c.tc : Thread Cert.MlabReferenceIdeal.nD Cert.MlabReferenceIdeal.τ).loc Cert.MlabReferenceIdeal.main_arg4)
      ∧ r.2.mem ((c.tc : Thread Cert.MlabReferenceIdeal.nD Cert.MlabReferenceIdeal.τ).loc Cert.MlabReferenceIdeal.main_arg5) = m ((c.tc : Thread Cert.MlabReferenceIdeal.nD Cert.MlabReferenceIdeal.τ).loc Cert.MlabReferenceIdeal.main_arg5))
      ∧ r.2.sem = fun _ => 0)

def quiescent_MlabReferenceIdeal_pre_mlab_finite [hMlabReferenceIdeal : Cert.MlabReferenceIdeal.Facts] [hPre_mlab_finite : Cert.Pre_mlab_finite.Facts] : Prop :=
  ∀ (m : (ℓ : Loc Cert.MlabReferenceIdeal.nD Cert.MlabReferenceIdeal.τ Cert.MlabReferenceIdeal.sig) → Buf (Elt Ideal) ℓ) (g : Dev Cert.MlabReferenceIdeal.nD → PrngReg), Pre_MlabReferenceIdeal_mlab_finite m →
    θ_run (Cert.MlabReferenceIdeal.defs (F := Ideal)) (onTc (τ := Cert.MlabReferenceIdeal.τ) (Cert.MlabReferenceIdeal.main (F := Ideal))) ⟨m, fun _ => 0, g⟩ (fun r => (∀ c : Dev Cert.MlabReferenceIdeal.nD,
      r.2.mem ((c.tc : Thread Cert.MlabReferenceIdeal.nD Cert.MlabReferenceIdeal.τ).loc Cert.MlabReferenceIdeal.main_arg0) = m ((c.tc : Thread Cert.MlabReferenceIdeal.nD Cert.MlabReferenceIdeal.τ).loc Cert.MlabReferenceIdeal.main_arg0)
      ∧ r.2.mem ((c.tc : Thread Cert.MlabReferenceIdeal.nD Cert.MlabReferenceIdeal.τ).loc Cert.MlabReferenceIdeal.main_arg1) = m ((c.tc : Thread Cert.MlabReferenceIdeal.nD Cert.MlabReferenceIdeal.τ).loc Cert.MlabReferenceIdeal.main_arg1)
      ∧ r.2.mem ((c.tc : Thread Cert.MlabReferenceIdeal.nD Cert.MlabReferenceIdeal.τ).loc Cert.MlabReferenceIdeal.main_arg2) = m ((c.tc : Thread Cert.MlabReferenceIdeal.nD Cert.MlabReferenceIdeal.τ).loc Cert.MlabReferenceIdeal.main_arg2)
      ∧ r.2.mem ((c.tc : Thread Cert.MlabReferenceIdeal.nD Cert.MlabReferenceIdeal.τ).loc Cert.MlabReferenceIdeal.main_arg3) = m ((c.tc : Thread Cert.MlabReferenceIdeal.nD Cert.MlabReferenceIdeal.τ).loc Cert.MlabReferenceIdeal.main_arg3)
      ∧ r.2.mem ((c.tc : Thread Cert.MlabReferenceIdeal.nD Cert.MlabReferenceIdeal.τ).loc Cert.MlabReferenceIdeal.main_arg4) = m ((c.tc : Thread Cert.MlabReferenceIdeal.nD Cert.MlabReferenceIdeal.τ).loc Cert.MlabReferenceIdeal.main_arg4)
      ∧ r.2.mem ((c.tc : Thread Cert.MlabReferenceIdeal.nD Cert.MlabReferenceIdeal.τ).loc Cert.MlabReferenceIdeal.main_arg5) = m ((c.tc : Thread Cert.MlabReferenceIdeal.nD Cert.MlabReferenceIdeal.τ).loc Cert.MlabReferenceIdeal.main_arg5))
      ∧ r.2.sem = fun _ => 0)

def preserves_MemKernel_MemKernelIdeal : Prop :=
  True

def algebraic_MemKernelIdeal_MemReferenceIdeal_pre_mem_finite [hMemKernelIdeal : Cert.MemKernelIdeal.Facts] [hMemReferenceIdeal : Cert.MemReferenceIdeal.Facts] [hPre_mem_finite : Cert.Pre_mem_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal_mem_finite m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)) →
    ∃ (v0 : (c : Dev Cert.MemKernelIdeal.nD) → Buf (Elt Ideal) ((c.tc : Thread Cert.MemKernelIdeal.nD Cert.MemKernelIdeal.τ).loc Cert.MemKernelIdeal.main_v0_0)) (v1 : (c : Dev Cert.MemKernelIdeal.nD) → Buf (Elt Ideal) ((c.tc : Thread Cert.MemKernelIdeal.nD Cert.MemKernelIdeal.τ).loc Cert.MemKernelIdeal.main_v0_1)) (v2 : (c : Dev Cert.MemKernelIdeal.nD) → Buf (Elt Ideal) ((c.tc : Thread Cert.MemKernelIdeal.nD Cert.MemKernelIdeal.τ).loc Cert.MemKernelIdeal.main_v0_2)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v0_0) = v0 c
          ∧ r.2.mem ((c.tc : Thread Cert.MemKernelIdeal.nD Cert.MemKernelIdeal.τ).loc Cert.MemKernelIdeal.main_v0_1) = v1 c
          ∧ r.2.mem ((c.tc : Thread Cert.MemKernelIdeal.nD Cert.MemKernelIdeal.τ).loc Cert.MemKernelIdeal.main_v0_2) = v2 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v67) = v0 c
          ∧ r.2.mem ((c.tc : Thread Cert.MemReferenceIdeal.nD Cert.MemReferenceIdeal.τ).loc Cert.MemReferenceIdeal.main_v65) = v1 c
          ∧ r.2.mem ((c.tc : Thread Cert.MemReferenceIdeal.nD Cert.MemReferenceIdeal.τ).loc Cert.MemReferenceIdeal.main_v64) = v2 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_NormKernel_NormKernelIdeal : Prop :=
  True

def algebraic_NormKernelIdeal_NormReferenceIdeal_pre_norm_finite [hNormKernelIdeal : Cert.NormKernelIdeal.Facts] [hNormReferenceIdeal : Cert.NormReferenceIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_norm_finite m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v1_0)) (v1 : (c : Dev Cert.NormKernelIdeal.nD) → Buf (Elt Ideal) ((c.tc : Thread Cert.NormKernelIdeal.nD Cert.NormKernelIdeal.τ).loc Cert.NormKernelIdeal.main_v1_1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1_0) = v0 c
          ∧ r.2.mem ((c.tc : Thread Cert.NormKernelIdeal.nD Cert.NormKernelIdeal.τ).loc Cert.NormKernelIdeal.main_v1_1) = v1 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v37) = v0 c
          ∧ r.2.mem ((c.tc : Thread Cert.NormReferenceIdeal.nD Cert.NormReferenceIdeal.τ).loc Cert.NormReferenceIdeal.main_v38) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_F2dxKernel_F2dxKernelIdeal : Prop :=
  True

def algebraic_F2dxKernelIdeal_F2dxReferenceIdeal [hF2dxKernelIdeal : Cert.F2dxKernelIdeal.Facts] [hF2dxReferenceIdeal : Cert.F2dxReferenceIdeal.Facts] : Prop :=
  ∀ (m : (ℓ : Loc Cert.F2dxKernelIdeal.nD Cert.F2dxKernelIdeal.τ Cert.F2dxKernelIdeal.sig) → Buf (Elt Ideal) ℓ) (g : Dev Cert.F2dxKernelIdeal.nD → PrngReg)
    (m' : (ℓ : Loc Cert.F2dxReferenceIdeal.nD Cert.F2dxReferenceIdeal.τ Cert.F2dxReferenceIdeal.sig) → Buf (Elt Ideal) ℓ) (g' : Dev Cert.F2dxReferenceIdeal.nD → PrngReg), Pre_F2dxKernelIdeal m →
    (∀ c : Dev Cert.F2dxKernelIdeal.nD,
      m' ((c.tc : Thread Cert.F2dxReferenceIdeal.nD Cert.F2dxReferenceIdeal.τ).loc Cert.F2dxReferenceIdeal.main_arg0) = m ((c.tc : Thread Cert.F2dxKernelIdeal.nD Cert.F2dxKernelIdeal.τ).loc Cert.F2dxKernelIdeal.main_arg0)
      ∧ m' ((c.tc : Thread Cert.F2dxReferenceIdeal.nD Cert.F2dxReferenceIdeal.τ).loc Cert.F2dxReferenceIdeal.main_arg1) = m ((c.tc : Thread Cert.F2dxKernelIdeal.nD Cert.F2dxKernelIdeal.τ).loc Cert.F2dxKernelIdeal.main_arg1)
      ∧ m' ((c.tc : Thread Cert.F2dxReferenceIdeal.nD Cert.F2dxReferenceIdeal.τ).loc Cert.F2dxReferenceIdeal.main_arg2) = m ((c.tc : Thread Cert.F2dxKernelIdeal.nD Cert.F2dxKernelIdeal.τ).loc Cert.F2dxKernelIdeal.main_arg2)
      ∧ m' ((c.tc : Thread Cert.F2dxReferenceIdeal.nD Cert.F2dxReferenceIdeal.τ).loc Cert.F2dxReferenceIdeal.main_arg3) = m ((c.tc : Thread Cert.F2dxKernelIdeal.nD Cert.F2dxKernelIdeal.τ).loc Cert.F2dxKernelIdeal.main_arg3)) →
    ∃ (v0 : (c : Dev Cert.F2dxKernelIdeal.nD) → Buf (Elt Ideal) ((c.tc : Thread Cert.F2dxKernelIdeal.nD Cert.F2dxKernelIdeal.τ).loc Cert.F2dxKernelIdeal.main_v0)),
      θ_run (Cert.F2dxKernelIdeal.defs (F := Ideal)) (onTc (τ := Cert.F2dxKernelIdeal.τ) (Cert.F2dxKernelIdeal.main (F := Ideal))) ⟨m, fun _ => 0, g⟩ (fun r => ∀ c : Dev Cert.F2dxKernelIdeal.nD,
          r.2.mem ((c.tc : Thread Cert.F2dxKernelIdeal.nD Cert.F2dxKernelIdeal.τ).loc Cert.F2dxKernelIdeal.main_v0) = v0 c
          ∧ r.2.mem ((c.tc : Thread Cert.F2dxKernelIdeal.nD Cert.F2dxKernelIdeal.τ).loc Cert.F2dxKernelIdeal.main_arg0) = m ((c.tc : Thread Cert.F2dxKernelIdeal.nD Cert.F2dxKernelIdeal.τ).loc Cert.F2dxKernelIdeal.main_arg0)
          ∧ r.2.mem ((c.tc : Thread Cert.F2dxKernelIdeal.nD Cert.F2dxKernelIdeal.τ).loc Cert.F2dxKernelIdeal.main_arg1) = m ((c.tc : Thread Cert.F2dxKernelIdeal.nD Cert.F2dxKernelIdeal.τ).loc Cert.F2dxKernelIdeal.main_arg1)
          ∧ r.2.mem ((c.tc : Thread Cert.F2dxKernelIdeal.nD Cert.F2dxKernelIdeal.τ).loc Cert.F2dxKernelIdeal.main_arg2) = m ((c.tc : Thread Cert.F2dxKernelIdeal.nD Cert.F2dxKernelIdeal.τ).loc Cert.F2dxKernelIdeal.main_arg2)
          ∧ r.2.mem ((c.tc : Thread Cert.F2dxKernelIdeal.nD Cert.F2dxKernelIdeal.τ).loc Cert.F2dxKernelIdeal.main_arg3) = m ((c.tc : Thread Cert.F2dxKernelIdeal.nD Cert.F2dxKernelIdeal.τ).loc Cert.F2dxKernelIdeal.main_arg3))
      ∧ θ_run (Cert.F2dxReferenceIdeal.defs (F := Ideal)) (onTc (τ := Cert.F2dxReferenceIdeal.τ) (Cert.F2dxReferenceIdeal.main (F := Ideal))) ⟨m', fun _ => 0, g'⟩ (fun r => ∀ c : Dev Cert.F2dxReferenceIdeal.nD,
          r.2.mem ((c.tc : Thread Cert.F2dxReferenceIdeal.nD Cert.F2dxReferenceIdeal.τ).loc Cert.F2dxReferenceIdeal.main_v14) = v0 c
          ∧ r.2.mem ((c.tc : Thread Cert.F2dxReferenceIdeal.nD Cert.F2dxReferenceIdeal.τ).loc Cert.F2dxReferenceIdeal.main_arg0) = m' ((c.tc : Thread Cert.F2dxReferenceIdeal.nD Cert.F2dxReferenceIdeal.τ).loc Cert.F2dxReferenceIdeal.main_arg0)
          ∧ r.2.mem ((c.tc : Thread Cert.F2dxReferenceIdeal.nD Cert.F2dxReferenceIdeal.τ).loc Cert.F2dxReferenceIdeal.main_arg1) = m' ((c.tc : Thread Cert.F2dxReferenceIdeal.nD Cert.F2dxReferenceIdeal.τ).loc Cert.F2dxReferenceIdeal.main_arg1)
          ∧ r.2.mem ((c.tc : Thread Cert.F2dxReferenceIdeal.nD Cert.F2dxReferenceIdeal.τ).loc Cert.F2dxReferenceIdeal.main_arg2) = m' ((c.tc : Thread Cert.F2dxReferenceIdeal.nD Cert.F2dxReferenceIdeal.τ).loc Cert.F2dxReferenceIdeal.main_arg2)
          ∧ r.2.mem ((c.tc : Thread Cert.F2dxReferenceIdeal.nD Cert.F2dxReferenceIdeal.τ).loc Cert.F2dxReferenceIdeal.main_arg3) = m' ((c.tc : Thread Cert.F2dxReferenceIdeal.nD Cert.F2dxReferenceIdeal.τ).loc Cert.F2dxReferenceIdeal.main_arg3))

def preserves_F2dwKernel_F2dwKernelIdeal : Prop :=
  True

def algebraic_F2dwKernelIdeal_F2dwReferenceIdeal [hF2dwKernelIdeal : Cert.F2dwKernelIdeal.Facts] [hF2dwReferenceIdeal : Cert.F2dwReferenceIdeal.Facts] : Prop :=
  ∀ (m : (ℓ : Loc Cert.F2dwKernelIdeal.nD Cert.F2dwKernelIdeal.τ Cert.F2dwKernelIdeal.sig) → Buf (Elt Ideal) ℓ) (g : Dev Cert.F2dwKernelIdeal.nD → PrngReg)
    (m' : (ℓ : Loc Cert.F2dwReferenceIdeal.nD Cert.F2dwReferenceIdeal.τ Cert.F2dwReferenceIdeal.sig) → Buf (Elt Ideal) ℓ) (g' : Dev Cert.F2dwReferenceIdeal.nD → PrngReg), Pre_F2dwKernelIdeal m →
    (∀ c : Dev Cert.F2dwKernelIdeal.nD,
      m' ((c.tc : Thread Cert.F2dwReferenceIdeal.nD Cert.F2dwReferenceIdeal.τ).loc Cert.F2dwReferenceIdeal.main_arg0) = m ((c.tc : Thread Cert.F2dwKernelIdeal.nD Cert.F2dwKernelIdeal.τ).loc Cert.F2dwKernelIdeal.main_arg0)
      ∧ m' ((c.tc : Thread Cert.F2dwReferenceIdeal.nD Cert.F2dwReferenceIdeal.τ).loc Cert.F2dwReferenceIdeal.main_arg1) = m ((c.tc : Thread Cert.F2dwKernelIdeal.nD Cert.F2dwKernelIdeal.τ).loc Cert.F2dwKernelIdeal.main_arg1)) →
    ∃ (v0 : (c : Dev Cert.F2dwKernelIdeal.nD) → Buf (Elt Ideal) ((c.tc : Thread Cert.F2dwKernelIdeal.nD Cert.F2dwKernelIdeal.τ).loc Cert.F2dwKernelIdeal.main_v0)),
      θ_run (Cert.F2dwKernelIdeal.defs (F := Ideal)) (onTc (τ := Cert.F2dwKernelIdeal.τ) (Cert.F2dwKernelIdeal.main (F := Ideal))) ⟨m, fun _ => 0, g⟩ (fun r => ∀ c : Dev Cert.F2dwKernelIdeal.nD,
          r.2.mem ((c.tc : Thread Cert.F2dwKernelIdeal.nD Cert.F2dwKernelIdeal.τ).loc Cert.F2dwKernelIdeal.main_v0) = v0 c
          ∧ r.2.mem ((c.tc : Thread Cert.F2dwKernelIdeal.nD Cert.F2dwKernelIdeal.τ).loc Cert.F2dwKernelIdeal.main_arg0) = m ((c.tc : Thread Cert.F2dwKernelIdeal.nD Cert.F2dwKernelIdeal.τ).loc Cert.F2dwKernelIdeal.main_arg0)
          ∧ r.2.mem ((c.tc : Thread Cert.F2dwKernelIdeal.nD Cert.F2dwKernelIdeal.τ).loc Cert.F2dwKernelIdeal.main_arg1) = m ((c.tc : Thread Cert.F2dwKernelIdeal.nD Cert.F2dwKernelIdeal.τ).loc Cert.F2dwKernelIdeal.main_arg1))
      ∧ θ_run (Cert.F2dwReferenceIdeal.defs (F := Ideal)) (onTc (τ := Cert.F2dwReferenceIdeal.τ) (Cert.F2dwReferenceIdeal.main (F := Ideal))) ⟨m', fun _ => 0, g'⟩ (fun r => ∀ c : Dev Cert.F2dwReferenceIdeal.nD,
          r.2.mem ((c.tc : Thread Cert.F2dwReferenceIdeal.nD Cert.F2dwReferenceIdeal.τ).loc Cert.F2dwReferenceIdeal.main_v5) = v0 c
          ∧ r.2.mem ((c.tc : Thread Cert.F2dwReferenceIdeal.nD Cert.F2dwReferenceIdeal.τ).loc Cert.F2dwReferenceIdeal.main_arg0) = m' ((c.tc : Thread Cert.F2dwReferenceIdeal.nD Cert.F2dwReferenceIdeal.τ).loc Cert.F2dwReferenceIdeal.main_arg0)
          ∧ r.2.mem ((c.tc : Thread Cert.F2dwReferenceIdeal.nD Cert.F2dwReferenceIdeal.τ).loc Cert.F2dwReferenceIdeal.main_arg1) = m' ((c.tc : Thread Cert.F2dwReferenceIdeal.nD Cert.F2dwReferenceIdeal.τ).loc Cert.F2dwReferenceIdeal.main_arg1))

def preserves_F1dwKernel_F1dwKernelIdeal : Prop :=
  True

def algebraic_F1dwKernelIdeal_F1dwReferenceIdeal [hF1dwKernelIdeal : Cert.F1dwKernelIdeal.Facts] [hF1dwReferenceIdeal : Cert.F1dwReferenceIdeal.Facts] : Prop :=
  ∀ (m : (ℓ : Loc Cert.F1dwKernelIdeal.nD Cert.F1dwKernelIdeal.τ Cert.F1dwKernelIdeal.sig) → Buf (Elt Ideal) ℓ) (g : Dev Cert.F1dwKernelIdeal.nD → PrngReg)
    (m' : (ℓ : Loc Cert.F1dwReferenceIdeal.nD Cert.F1dwReferenceIdeal.τ Cert.F1dwReferenceIdeal.sig) → Buf (Elt Ideal) ℓ) (g' : Dev Cert.F1dwReferenceIdeal.nD → PrngReg), Pre_F1dwKernelIdeal m →
    (∀ c : Dev Cert.F1dwKernelIdeal.nD,
      m' ((c.tc : Thread Cert.F1dwReferenceIdeal.nD Cert.F1dwReferenceIdeal.τ).loc Cert.F1dwReferenceIdeal.main_arg0) = m ((c.tc : Thread Cert.F1dwKernelIdeal.nD Cert.F1dwKernelIdeal.τ).loc Cert.F1dwKernelIdeal.main_arg0)
      ∧ m' ((c.tc : Thread Cert.F1dwReferenceIdeal.nD Cert.F1dwReferenceIdeal.τ).loc Cert.F1dwReferenceIdeal.main_arg1) = m ((c.tc : Thread Cert.F1dwKernelIdeal.nD Cert.F1dwKernelIdeal.τ).loc Cert.F1dwKernelIdeal.main_arg1)) →
    ∃ (v0 : (c : Dev Cert.F1dwKernelIdeal.nD) → Buf (Elt Ideal) ((c.tc : Thread Cert.F1dwKernelIdeal.nD Cert.F1dwKernelIdeal.τ).loc Cert.F1dwKernelIdeal.main_v0)),
      θ_run (Cert.F1dwKernelIdeal.defs (F := Ideal)) (onTc (τ := Cert.F1dwKernelIdeal.τ) (Cert.F1dwKernelIdeal.main (F := Ideal))) ⟨m, fun _ => 0, g⟩ (fun r => ∀ c : Dev Cert.F1dwKernelIdeal.nD,
          r.2.mem ((c.tc : Thread Cert.F1dwKernelIdeal.nD Cert.F1dwKernelIdeal.τ).loc Cert.F1dwKernelIdeal.main_v0) = v0 c
          ∧ r.2.mem ((c.tc : Thread Cert.F1dwKernelIdeal.nD Cert.F1dwKernelIdeal.τ).loc Cert.F1dwKernelIdeal.main_arg0) = m ((c.tc : Thread Cert.F1dwKernelIdeal.nD Cert.F1dwKernelIdeal.τ).loc Cert.F1dwKernelIdeal.main_arg0)
          ∧ r.2.mem ((c.tc : Thread Cert.F1dwKernelIdeal.nD Cert.F1dwKernelIdeal.τ).loc Cert.F1dwKernelIdeal.main_arg1) = m ((c.tc : Thread Cert.F1dwKernelIdeal.nD Cert.F1dwKernelIdeal.τ).loc Cert.F1dwKernelIdeal.main_arg1))
      ∧ θ_run (Cert.F1dwReferenceIdeal.defs (F := Ideal)) (onTc (τ := Cert.F1dwReferenceIdeal.τ) (Cert.F1dwReferenceIdeal.main (F := Ideal))) ⟨m', fun _ => 0, g'⟩ (fun r => ∀ c : Dev Cert.F1dwReferenceIdeal.nD,
          r.2.mem ((c.tc : Thread Cert.F1dwReferenceIdeal.nD Cert.F1dwReferenceIdeal.τ).loc Cert.F1dwReferenceIdeal.main_v6) = v0 c
          ∧ r.2.mem ((c.tc : Thread Cert.F1dwReferenceIdeal.nD Cert.F1dwReferenceIdeal.τ).loc Cert.F1dwReferenceIdeal.main_arg0) = m' ((c.tc : Thread Cert.F1dwReferenceIdeal.nD Cert.F1dwReferenceIdeal.τ).loc Cert.F1dwReferenceIdeal.main_arg0)
          ∧ r.2.mem ((c.tc : Thread Cert.F1dwReferenceIdeal.nD Cert.F1dwReferenceIdeal.τ).loc Cert.F1dwReferenceIdeal.main_arg1) = m' ((c.tc : Thread Cert.F1dwReferenceIdeal.nD Cert.F1dwReferenceIdeal.τ).loc Cert.F1dwReferenceIdeal.main_arg1))

def preserves_F1dxKernel_F1dxKernelIdeal : Prop :=
  True

def algebraic_F1dxKernelIdeal_F1dxReferenceIdeal [hF1dxKernelIdeal : Cert.F1dxKernelIdeal.Facts] [hF1dxReferenceIdeal : Cert.F1dxReferenceIdeal.Facts] : Prop :=
  ∀ (m : (ℓ : Loc Cert.F1dxKernelIdeal.nD Cert.F1dxKernelIdeal.τ Cert.F1dxKernelIdeal.sig) → Buf (Elt Ideal) ℓ) (g : Dev Cert.F1dxKernelIdeal.nD → PrngReg)
    (m' : (ℓ : Loc Cert.F1dxReferenceIdeal.nD Cert.F1dxReferenceIdeal.τ Cert.F1dxReferenceIdeal.sig) → Buf (Elt Ideal) ℓ) (g' : Dev Cert.F1dxReferenceIdeal.nD → PrngReg), Pre_F1dxKernelIdeal m →
    (∀ c : Dev Cert.F1dxKernelIdeal.nD,
      m' ((c.tc : Thread Cert.F1dxReferenceIdeal.nD Cert.F1dxReferenceIdeal.τ).loc Cert.F1dxReferenceIdeal.main_arg0) = m ((c.tc : Thread Cert.F1dxKernelIdeal.nD Cert.F1dxKernelIdeal.τ).loc Cert.F1dxKernelIdeal.main_arg0)
      ∧ m' ((c.tc : Thread Cert.F1dxReferenceIdeal.nD Cert.F1dxReferenceIdeal.τ).loc Cert.F1dxReferenceIdeal.main_arg1) = m ((c.tc : Thread Cert.F1dxKernelIdeal.nD Cert.F1dxKernelIdeal.τ).loc Cert.F1dxKernelIdeal.main_arg1)) →
    ∃ (v0 : (c : Dev Cert.F1dxKernelIdeal.nD) → Buf (Elt Ideal) ((c.tc : Thread Cert.F1dxKernelIdeal.nD Cert.F1dxKernelIdeal.τ).loc Cert.F1dxKernelIdeal.main_v0)),
      θ_run (Cert.F1dxKernelIdeal.defs (F := Ideal)) (onTc (τ := Cert.F1dxKernelIdeal.τ) (Cert.F1dxKernelIdeal.main (F := Ideal))) ⟨m, fun _ => 0, g⟩ (fun r => ∀ c : Dev Cert.F1dxKernelIdeal.nD,
          r.2.mem ((c.tc : Thread Cert.F1dxKernelIdeal.nD Cert.F1dxKernelIdeal.τ).loc Cert.F1dxKernelIdeal.main_v0) = v0 c
          ∧ r.2.mem ((c.tc : Thread Cert.F1dxKernelIdeal.nD Cert.F1dxKernelIdeal.τ).loc Cert.F1dxKernelIdeal.main_arg0) = m ((c.tc : Thread Cert.F1dxKernelIdeal.nD Cert.F1dxKernelIdeal.τ).loc Cert.F1dxKernelIdeal.main_arg0)
          ∧ r.2.mem ((c.tc : Thread Cert.F1dxKernelIdeal.nD Cert.F1dxKernelIdeal.τ).loc Cert.F1dxKernelIdeal.main_arg1) = m ((c.tc : Thread Cert.F1dxKernelIdeal.nD Cert.F1dxKernelIdeal.τ).loc Cert.F1dxKernelIdeal.main_arg1))
      ∧ θ_run (Cert.F1dxReferenceIdeal.defs (F := Ideal)) (onTc (τ := Cert.F1dxReferenceIdeal.τ) (Cert.F1dxReferenceIdeal.main (F := Ideal))) ⟨m', fun _ => 0, g'⟩ (fun r => ∀ c : Dev Cert.F1dxReferenceIdeal.nD,
          r.2.mem ((c.tc : Thread Cert.F1dxReferenceIdeal.nD Cert.F1dxReferenceIdeal.τ).loc Cert.F1dxReferenceIdeal.main_v5) = v0 c
          ∧ r.2.mem ((c.tc : Thread Cert.F1dxReferenceIdeal.nD Cert.F1dxReferenceIdeal.τ).loc Cert.F1dxReferenceIdeal.main_arg0) = m' ((c.tc : Thread Cert.F1dxReferenceIdeal.nD Cert.F1dxReferenceIdeal.τ).loc Cert.F1dxReferenceIdeal.main_arg0)
          ∧ r.2.mem ((c.tc : Thread Cert.F1dxReferenceIdeal.nD Cert.F1dxReferenceIdeal.τ).loc Cert.F1dxReferenceIdeal.main_arg1) = m' ((c.tc : Thread Cert.F1dxReferenceIdeal.nD Cert.F1dxReferenceIdeal.τ).loc Cert.F1dxReferenceIdeal.main_arg1))

def preserves_OdxKernel_OdxKernelIdeal : Prop :=
  True

def algebraic_OdxKernelIdeal_OdxReferenceIdeal [hOdxKernelIdeal : Cert.OdxKernelIdeal.Facts] [hOdxReferenceIdeal : Cert.OdxReferenceIdeal.Facts] : Prop :=
  ∀ (m : (ℓ : Loc Cert.OdxKernelIdeal.nD Cert.OdxKernelIdeal.τ Cert.OdxKernelIdeal.sig) → Buf (Elt Ideal) ℓ) (g : Dev Cert.OdxKernelIdeal.nD → PrngReg)
    (m' : (ℓ : Loc Cert.OdxReferenceIdeal.nD Cert.OdxReferenceIdeal.τ Cert.OdxReferenceIdeal.sig) → Buf (Elt Ideal) ℓ) (g' : Dev Cert.OdxReferenceIdeal.nD → PrngReg), Pre_OdxKernelIdeal m →
    (∀ c : Dev Cert.OdxKernelIdeal.nD,
      m' ((c.tc : Thread Cert.OdxReferenceIdeal.nD Cert.OdxReferenceIdeal.τ).loc Cert.OdxReferenceIdeal.main_arg0) = m ((c.tc : Thread Cert.OdxKernelIdeal.nD Cert.OdxKernelIdeal.τ).loc Cert.OdxKernelIdeal.main_arg0)
      ∧ m' ((c.tc : Thread Cert.OdxReferenceIdeal.nD Cert.OdxReferenceIdeal.τ).loc Cert.OdxReferenceIdeal.main_arg1) = m ((c.tc : Thread Cert.OdxKernelIdeal.nD Cert.OdxKernelIdeal.τ).loc Cert.OdxKernelIdeal.main_arg1)
      ∧ m' ((c.tc : Thread Cert.OdxReferenceIdeal.nD Cert.OdxReferenceIdeal.τ).loc Cert.OdxReferenceIdeal.main_arg2) = m ((c.tc : Thread Cert.OdxKernelIdeal.nD Cert.OdxKernelIdeal.τ).loc Cert.OdxKernelIdeal.main_arg2)) →
    ∃ (v0 : (c : Dev Cert.OdxKernelIdeal.nD) → Buf (Elt Ideal) ((c.tc : Thread Cert.OdxKernelIdeal.nD Cert.OdxKernelIdeal.τ).loc Cert.OdxKernelIdeal.main_v0)),
      θ_run (Cert.OdxKernelIdeal.defs (F := Ideal)) (onTc (τ := Cert.OdxKernelIdeal.τ) (Cert.OdxKernelIdeal.main (F := Ideal))) ⟨m, fun _ => 0, g⟩ (fun r => ∀ c : Dev Cert.OdxKernelIdeal.nD,
          r.2.mem ((c.tc : Thread Cert.OdxKernelIdeal.nD Cert.OdxKernelIdeal.τ).loc Cert.OdxKernelIdeal.main_v0) = v0 c
          ∧ r.2.mem ((c.tc : Thread Cert.OdxKernelIdeal.nD Cert.OdxKernelIdeal.τ).loc Cert.OdxKernelIdeal.main_arg0) = m ((c.tc : Thread Cert.OdxKernelIdeal.nD Cert.OdxKernelIdeal.τ).loc Cert.OdxKernelIdeal.main_arg0)
          ∧ r.2.mem ((c.tc : Thread Cert.OdxKernelIdeal.nD Cert.OdxKernelIdeal.τ).loc Cert.OdxKernelIdeal.main_arg1) = m ((c.tc : Thread Cert.OdxKernelIdeal.nD Cert.OdxKernelIdeal.τ).loc Cert.OdxKernelIdeal.main_arg1)
          ∧ r.2.mem ((c.tc : Thread Cert.OdxKernelIdeal.nD Cert.OdxKernelIdeal.τ).loc Cert.OdxKernelIdeal.main_arg2) = m ((c.tc : Thread Cert.OdxKernelIdeal.nD Cert.OdxKernelIdeal.τ).loc Cert.OdxKernelIdeal.main_arg2))
      ∧ θ_run (Cert.OdxReferenceIdeal.defs (F := Ideal)) (onTc (τ := Cert.OdxReferenceIdeal.τ) (Cert.OdxReferenceIdeal.main (F := Ideal))) ⟨m', fun _ => 0, g'⟩ (fun r => ∀ c : Dev Cert.OdxReferenceIdeal.nD,
          r.2.mem ((c.tc : Thread Cert.OdxReferenceIdeal.nD Cert.OdxReferenceIdeal.τ).loc Cert.OdxReferenceIdeal.main_v4) = v0 c
          ∧ r.2.mem ((c.tc : Thread Cert.OdxReferenceIdeal.nD Cert.OdxReferenceIdeal.τ).loc Cert.OdxReferenceIdeal.main_arg0) = m' ((c.tc : Thread Cert.OdxReferenceIdeal.nD Cert.OdxReferenceIdeal.τ).loc Cert.OdxReferenceIdeal.main_arg0)
          ∧ r.2.mem ((c.tc : Thread Cert.OdxReferenceIdeal.nD Cert.OdxReferenceIdeal.τ).loc Cert.OdxReferenceIdeal.main_arg1) = m' ((c.tc : Thread Cert.OdxReferenceIdeal.nD Cert.OdxReferenceIdeal.τ).loc Cert.OdxReferenceIdeal.main_arg1)
          ∧ r.2.mem ((c.tc : Thread Cert.OdxReferenceIdeal.nD Cert.OdxReferenceIdeal.τ).loc Cert.OdxReferenceIdeal.main_arg2) = m' ((c.tc : Thread Cert.OdxReferenceIdeal.nD Cert.OdxReferenceIdeal.τ).loc Cert.OdxReferenceIdeal.main_arg2))

def preserves_OdwKernel_OdwKernelIdeal : Prop :=
  True

def algebraic_OdwKernelIdeal_OdwReferenceIdeal [hOdwKernelIdeal : Cert.OdwKernelIdeal.Facts] [hOdwReferenceIdeal : Cert.OdwReferenceIdeal.Facts] : Prop :=
  ∀ (m : (ℓ : Loc Cert.OdwKernelIdeal.nD Cert.OdwKernelIdeal.τ Cert.OdwKernelIdeal.sig) → Buf (Elt Ideal) ℓ) (g : Dev Cert.OdwKernelIdeal.nD → PrngReg)
    (m' : (ℓ : Loc Cert.OdwReferenceIdeal.nD Cert.OdwReferenceIdeal.τ Cert.OdwReferenceIdeal.sig) → Buf (Elt Ideal) ℓ) (g' : Dev Cert.OdwReferenceIdeal.nD → PrngReg), Pre_OdwKernelIdeal m →
    (∀ c : Dev Cert.OdwKernelIdeal.nD,
      m' ((c.tc : Thread Cert.OdwReferenceIdeal.nD Cert.OdwReferenceIdeal.τ).loc Cert.OdwReferenceIdeal.main_arg0) = m ((c.tc : Thread Cert.OdwKernelIdeal.nD Cert.OdwKernelIdeal.τ).loc Cert.OdwKernelIdeal.main_arg0)
      ∧ m' ((c.tc : Thread Cert.OdwReferenceIdeal.nD Cert.OdwReferenceIdeal.τ).loc Cert.OdwReferenceIdeal.main_arg1) = m ((c.tc : Thread Cert.OdwKernelIdeal.nD Cert.OdwKernelIdeal.τ).loc Cert.OdwKernelIdeal.main_arg1)) →
    ∃ (v0 : (c : Dev Cert.OdwKernelIdeal.nD) → Buf (Elt Ideal) ((c.tc : Thread Cert.OdwKernelIdeal.nD Cert.OdwKernelIdeal.τ).loc Cert.OdwKernelIdeal.main_v0)),
      θ_run (Cert.OdwKernelIdeal.defs (F := Ideal)) (onTc (τ := Cert.OdwKernelIdeal.τ) (Cert.OdwKernelIdeal.main (F := Ideal))) ⟨m, fun _ => 0, g⟩ (fun r => ∀ c : Dev Cert.OdwKernelIdeal.nD,
          r.2.mem ((c.tc : Thread Cert.OdwKernelIdeal.nD Cert.OdwKernelIdeal.τ).loc Cert.OdwKernelIdeal.main_v0) = v0 c
          ∧ r.2.mem ((c.tc : Thread Cert.OdwKernelIdeal.nD Cert.OdwKernelIdeal.τ).loc Cert.OdwKernelIdeal.main_arg0) = m ((c.tc : Thread Cert.OdwKernelIdeal.nD Cert.OdwKernelIdeal.τ).loc Cert.OdwKernelIdeal.main_arg0)
          ∧ r.2.mem ((c.tc : Thread Cert.OdwKernelIdeal.nD Cert.OdwKernelIdeal.τ).loc Cert.OdwKernelIdeal.main_arg1) = m ((c.tc : Thread Cert.OdwKernelIdeal.nD Cert.OdwKernelIdeal.τ).loc Cert.OdwKernelIdeal.main_arg1))
      ∧ θ_run (Cert.OdwReferenceIdeal.defs (F := Ideal)) (onTc (τ := Cert.OdwReferenceIdeal.τ) (Cert.OdwReferenceIdeal.main (F := Ideal))) ⟨m', fun _ => 0, g'⟩ (fun r => ∀ c : Dev Cert.OdwReferenceIdeal.nD,
          r.2.mem ((c.tc : Thread Cert.OdwReferenceIdeal.nD Cert.OdwReferenceIdeal.τ).loc Cert.OdwReferenceIdeal.main_v5) = v0 c
          ∧ r.2.mem ((c.tc : Thread Cert.OdwReferenceIdeal.nD Cert.OdwReferenceIdeal.τ).loc Cert.OdwReferenceIdeal.main_arg0) = m' ((c.tc : Thread Cert.OdwReferenceIdeal.nD Cert.OdwReferenceIdeal.τ).loc Cert.OdwReferenceIdeal.main_arg0)
          ∧ r.2.mem ((c.tc : Thread Cert.OdwReferenceIdeal.nD Cert.OdwReferenceIdeal.τ).loc Cert.OdwReferenceIdeal.main_arg1) = m' ((c.tc : Thread Cert.OdwReferenceIdeal.nD Cert.OdwReferenceIdeal.τ).loc Cert.OdwReferenceIdeal.main_arg1))

def preserves_QdwKernel_QdwKernelIdeal : Prop :=
  True

def algebraic_QdwKernelIdeal_QdwReferenceIdeal [hQdwKernelIdeal : Cert.QdwKernelIdeal.Facts] [hQdwReferenceIdeal : Cert.QdwReferenceIdeal.Facts] : Prop :=
  ∀ (m : (ℓ : Loc Cert.QdwKernelIdeal.nD Cert.QdwKernelIdeal.τ Cert.QdwKernelIdeal.sig) → Buf (Elt Ideal) ℓ) (g : Dev Cert.QdwKernelIdeal.nD → PrngReg)
    (m' : (ℓ : Loc Cert.QdwReferenceIdeal.nD Cert.QdwReferenceIdeal.τ Cert.QdwReferenceIdeal.sig) → Buf (Elt Ideal) ℓ) (g' : Dev Cert.QdwReferenceIdeal.nD → PrngReg), Pre_QdwKernelIdeal m →
    (∀ c : Dev Cert.QdwKernelIdeal.nD,
      m' ((c.tc : Thread Cert.QdwReferenceIdeal.nD Cert.QdwReferenceIdeal.τ).loc Cert.QdwReferenceIdeal.main_arg0) = m ((c.tc : Thread Cert.QdwKernelIdeal.nD Cert.QdwKernelIdeal.τ).loc Cert.QdwKernelIdeal.main_arg0)
      ∧ m' ((c.tc : Thread Cert.QdwReferenceIdeal.nD Cert.QdwReferenceIdeal.τ).loc Cert.QdwReferenceIdeal.main_arg1) = m ((c.tc : Thread Cert.QdwKernelIdeal.nD Cert.QdwKernelIdeal.τ).loc Cert.QdwKernelIdeal.main_arg1)) →
    ∃ (v0 : (c : Dev Cert.QdwKernelIdeal.nD) → Buf (Elt Ideal) ((c.tc : Thread Cert.QdwKernelIdeal.nD Cert.QdwKernelIdeal.τ).loc Cert.QdwKernelIdeal.main_v0)),
      θ_run (Cert.QdwKernelIdeal.defs (F := Ideal)) (onTc (τ := Cert.QdwKernelIdeal.τ) (Cert.QdwKernelIdeal.main (F := Ideal))) ⟨m, fun _ => 0, g⟩ (fun r => ∀ c : Dev Cert.QdwKernelIdeal.nD,
          r.2.mem ((c.tc : Thread Cert.QdwKernelIdeal.nD Cert.QdwKernelIdeal.τ).loc Cert.QdwKernelIdeal.main_v0) = v0 c
          ∧ r.2.mem ((c.tc : Thread Cert.QdwKernelIdeal.nD Cert.QdwKernelIdeal.τ).loc Cert.QdwKernelIdeal.main_arg0) = m ((c.tc : Thread Cert.QdwKernelIdeal.nD Cert.QdwKernelIdeal.τ).loc Cert.QdwKernelIdeal.main_arg0)
          ∧ r.2.mem ((c.tc : Thread Cert.QdwKernelIdeal.nD Cert.QdwKernelIdeal.τ).loc Cert.QdwKernelIdeal.main_arg1) = m ((c.tc : Thread Cert.QdwKernelIdeal.nD Cert.QdwKernelIdeal.τ).loc Cert.QdwKernelIdeal.main_arg1))
      ∧ θ_run (Cert.QdwReferenceIdeal.defs (F := Ideal)) (onTc (τ := Cert.QdwReferenceIdeal.τ) (Cert.QdwReferenceIdeal.main (F := Ideal))) ⟨m', fun _ => 0, g'⟩ (fun r => ∀ c : Dev Cert.QdwReferenceIdeal.nD,
          r.2.mem ((c.tc : Thread Cert.QdwReferenceIdeal.nD Cert.QdwReferenceIdeal.τ).loc Cert.QdwReferenceIdeal.main_v6) = v0 c
          ∧ r.2.mem ((c.tc : Thread Cert.QdwReferenceIdeal.nD Cert.QdwReferenceIdeal.τ).loc Cert.QdwReferenceIdeal.main_arg0) = m' ((c.tc : Thread Cert.QdwReferenceIdeal.nD Cert.QdwReferenceIdeal.τ).loc Cert.QdwReferenceIdeal.main_arg0)
          ∧ r.2.mem ((c.tc : Thread Cert.QdwReferenceIdeal.nD Cert.QdwReferenceIdeal.τ).loc Cert.QdwReferenceIdeal.main_arg1) = m' ((c.tc : Thread Cert.QdwReferenceIdeal.nD Cert.QdwReferenceIdeal.τ).loc Cert.QdwReferenceIdeal.main_arg1))

def preserves_QdxKernel_QdxKernelIdeal : Prop :=
  True

def algebraic_QdxKernelIdeal_QdxReferenceIdeal [hQdxKernelIdeal : Cert.QdxKernelIdeal.Facts] [hQdxReferenceIdeal : Cert.QdxReferenceIdeal.Facts] : Prop :=
  ∀ (m : (ℓ : Loc Cert.QdxKernelIdeal.nD Cert.QdxKernelIdeal.τ Cert.QdxKernelIdeal.sig) → Buf (Elt Ideal) ℓ) (g : Dev Cert.QdxKernelIdeal.nD → PrngReg)
    (m' : (ℓ : Loc Cert.QdxReferenceIdeal.nD Cert.QdxReferenceIdeal.τ Cert.QdxReferenceIdeal.sig) → Buf (Elt Ideal) ℓ) (g' : Dev Cert.QdxReferenceIdeal.nD → PrngReg), Pre_QdxKernelIdeal m →
    (∀ c : Dev Cert.QdxKernelIdeal.nD,
      m' ((c.tc : Thread Cert.QdxReferenceIdeal.nD Cert.QdxReferenceIdeal.τ).loc Cert.QdxReferenceIdeal.main_arg0) = m ((c.tc : Thread Cert.QdxKernelIdeal.nD Cert.QdxKernelIdeal.τ).loc Cert.QdxKernelIdeal.main_arg0)
      ∧ m' ((c.tc : Thread Cert.QdxReferenceIdeal.nD Cert.QdxReferenceIdeal.τ).loc Cert.QdxReferenceIdeal.main_arg1) = m ((c.tc : Thread Cert.QdxKernelIdeal.nD Cert.QdxKernelIdeal.τ).loc Cert.QdxKernelIdeal.main_arg1)) →
    ∃ (v0 : (c : Dev Cert.QdxKernelIdeal.nD) → Buf (Elt Ideal) ((c.tc : Thread Cert.QdxKernelIdeal.nD Cert.QdxKernelIdeal.τ).loc Cert.QdxKernelIdeal.main_v0)),
      θ_run (Cert.QdxKernelIdeal.defs (F := Ideal)) (onTc (τ := Cert.QdxKernelIdeal.τ) (Cert.QdxKernelIdeal.main (F := Ideal))) ⟨m, fun _ => 0, g⟩ (fun r => ∀ c : Dev Cert.QdxKernelIdeal.nD,
          r.2.mem ((c.tc : Thread Cert.QdxKernelIdeal.nD Cert.QdxKernelIdeal.τ).loc Cert.QdxKernelIdeal.main_v0) = v0 c
          ∧ r.2.mem ((c.tc : Thread Cert.QdxKernelIdeal.nD Cert.QdxKernelIdeal.τ).loc Cert.QdxKernelIdeal.main_arg0) = m ((c.tc : Thread Cert.QdxKernelIdeal.nD Cert.QdxKernelIdeal.τ).loc Cert.QdxKernelIdeal.main_arg0)
          ∧ r.2.mem ((c.tc : Thread Cert.QdxKernelIdeal.nD Cert.QdxKernelIdeal.τ).loc Cert.QdxKernelIdeal.main_arg1) = m ((c.tc : Thread Cert.QdxKernelIdeal.nD Cert.QdxKernelIdeal.τ).loc Cert.QdxKernelIdeal.main_arg1))
      ∧ θ_run (Cert.QdxReferenceIdeal.defs (F := Ideal)) (onTc (τ := Cert.QdxReferenceIdeal.τ) (Cert.QdxReferenceIdeal.main (F := Ideal))) ⟨m', fun _ => 0, g'⟩ (fun r => ∀ c : Dev Cert.QdxReferenceIdeal.nD,
          r.2.mem ((c.tc : Thread Cert.QdxReferenceIdeal.nD Cert.QdxReferenceIdeal.τ).loc Cert.QdxReferenceIdeal.main_v5) = v0 c
          ∧ r.2.mem ((c.tc : Thread Cert.QdxReferenceIdeal.nD Cert.QdxReferenceIdeal.τ).loc Cert.QdxReferenceIdeal.main_arg0) = m' ((c.tc : Thread Cert.QdxReferenceIdeal.nD Cert.QdxReferenceIdeal.τ).loc Cert.QdxReferenceIdeal.main_arg0)
          ∧ r.2.mem ((c.tc : Thread Cert.QdxReferenceIdeal.nD Cert.QdxReferenceIdeal.τ).loc Cert.QdxReferenceIdeal.main_arg1) = m' ((c.tc : Thread Cert.QdxReferenceIdeal.nD Cert.QdxReferenceIdeal.τ).loc Cert.QdxReferenceIdeal.main_arg1))

def preserves_KdwKernel_KdwKernelIdeal : Prop :=
  True

def algebraic_KdwKernelIdeal_KdwReferenceIdeal [hKdwKernelIdeal : Cert.KdwKernelIdeal.Facts] [hKdwReferenceIdeal : Cert.KdwReferenceIdeal.Facts] : Prop :=
  ∀ (m : (ℓ : Loc Cert.KdwKernelIdeal.nD Cert.KdwKernelIdeal.τ Cert.KdwKernelIdeal.sig) → Buf (Elt Ideal) ℓ) (g : Dev Cert.KdwKernelIdeal.nD → PrngReg)
    (m' : (ℓ : Loc Cert.KdwReferenceIdeal.nD Cert.KdwReferenceIdeal.τ Cert.KdwReferenceIdeal.sig) → Buf (Elt Ideal) ℓ) (g' : Dev Cert.KdwReferenceIdeal.nD → PrngReg), Pre_KdwKernelIdeal m →
    (∀ c : Dev Cert.KdwKernelIdeal.nD,
      m' ((c.tc : Thread Cert.KdwReferenceIdeal.nD Cert.KdwReferenceIdeal.τ).loc Cert.KdwReferenceIdeal.main_arg0) = m ((c.tc : Thread Cert.KdwKernelIdeal.nD Cert.KdwKernelIdeal.τ).loc Cert.KdwKernelIdeal.main_arg0)
      ∧ m' ((c.tc : Thread Cert.KdwReferenceIdeal.nD Cert.KdwReferenceIdeal.τ).loc Cert.KdwReferenceIdeal.main_arg1) = m ((c.tc : Thread Cert.KdwKernelIdeal.nD Cert.KdwKernelIdeal.τ).loc Cert.KdwKernelIdeal.main_arg1)) →
    ∃ (v0 : (c : Dev Cert.KdwKernelIdeal.nD) → Buf (Elt Ideal) ((c.tc : Thread Cert.KdwKernelIdeal.nD Cert.KdwKernelIdeal.τ).loc Cert.KdwKernelIdeal.main_v0)),
      θ_run (Cert.KdwKernelIdeal.defs (F := Ideal)) (onTc (τ := Cert.KdwKernelIdeal.τ) (Cert.KdwKernelIdeal.main (F := Ideal))) ⟨m, fun _ => 0, g⟩ (fun r => ∀ c : Dev Cert.KdwKernelIdeal.nD,
          r.2.mem ((c.tc : Thread Cert.KdwKernelIdeal.nD Cert.KdwKernelIdeal.τ).loc Cert.KdwKernelIdeal.main_v0) = v0 c
          ∧ r.2.mem ((c.tc : Thread Cert.KdwKernelIdeal.nD Cert.KdwKernelIdeal.τ).loc Cert.KdwKernelIdeal.main_arg0) = m ((c.tc : Thread Cert.KdwKernelIdeal.nD Cert.KdwKernelIdeal.τ).loc Cert.KdwKernelIdeal.main_arg0)
          ∧ r.2.mem ((c.tc : Thread Cert.KdwKernelIdeal.nD Cert.KdwKernelIdeal.τ).loc Cert.KdwKernelIdeal.main_arg1) = m ((c.tc : Thread Cert.KdwKernelIdeal.nD Cert.KdwKernelIdeal.τ).loc Cert.KdwKernelIdeal.main_arg1))
      ∧ θ_run (Cert.KdwReferenceIdeal.defs (F := Ideal)) (onTc (τ := Cert.KdwReferenceIdeal.τ) (Cert.KdwReferenceIdeal.main (F := Ideal))) ⟨m', fun _ => 0, g'⟩ (fun r => ∀ c : Dev Cert.KdwReferenceIdeal.nD,
          r.2.mem ((c.tc : Thread Cert.KdwReferenceIdeal.nD Cert.KdwReferenceIdeal.τ).loc Cert.KdwReferenceIdeal.main_v5) = v0 c
          ∧ r.2.mem ((c.tc : Thread Cert.KdwReferenceIdeal.nD Cert.KdwReferenceIdeal.τ).loc Cert.KdwReferenceIdeal.main_arg0) = m' ((c.tc : Thread Cert.KdwReferenceIdeal.nD Cert.KdwReferenceIdeal.τ).loc Cert.KdwReferenceIdeal.main_arg0)
          ∧ r.2.mem ((c.tc : Thread Cert.KdwReferenceIdeal.nD Cert.KdwReferenceIdeal.τ).loc Cert.KdwReferenceIdeal.main_arg1) = m' ((c.tc : Thread Cert.KdwReferenceIdeal.nD Cert.KdwReferenceIdeal.τ).loc Cert.KdwReferenceIdeal.main_arg1))

def preserves_KdxKernel_KdxKernelIdeal : Prop :=
  True

def algebraic_KdxKernelIdeal_KdxReferenceIdeal [hKdxKernelIdeal : Cert.KdxKernelIdeal.Facts] [hKdxReferenceIdeal : Cert.KdxReferenceIdeal.Facts] : Prop :=
  ∀ (m : (ℓ : Loc Cert.KdxKernelIdeal.nD Cert.KdxKernelIdeal.τ Cert.KdxKernelIdeal.sig) → Buf (Elt Ideal) ℓ) (g : Dev Cert.KdxKernelIdeal.nD → PrngReg)
    (m' : (ℓ : Loc Cert.KdxReferenceIdeal.nD Cert.KdxReferenceIdeal.τ Cert.KdxReferenceIdeal.sig) → Buf (Elt Ideal) ℓ) (g' : Dev Cert.KdxReferenceIdeal.nD → PrngReg), Pre_KdxKernelIdeal m →
    (∀ c : Dev Cert.KdxKernelIdeal.nD,
      m' ((c.tc : Thread Cert.KdxReferenceIdeal.nD Cert.KdxReferenceIdeal.τ).loc Cert.KdxReferenceIdeal.main_arg0) = m ((c.tc : Thread Cert.KdxKernelIdeal.nD Cert.KdxKernelIdeal.τ).loc Cert.KdxKernelIdeal.main_arg0)
      ∧ m' ((c.tc : Thread Cert.KdxReferenceIdeal.nD Cert.KdxReferenceIdeal.τ).loc Cert.KdxReferenceIdeal.main_arg1) = m ((c.tc : Thread Cert.KdxKernelIdeal.nD Cert.KdxKernelIdeal.τ).loc Cert.KdxKernelIdeal.main_arg1)) →
    ∃ (v0 : (c : Dev Cert.KdxKernelIdeal.nD) → Buf (Elt Ideal) ((c.tc : Thread Cert.KdxKernelIdeal.nD Cert.KdxKernelIdeal.τ).loc Cert.KdxKernelIdeal.main_v0)),
      θ_run (Cert.KdxKernelIdeal.defs (F := Ideal)) (onTc (τ := Cert.KdxKernelIdeal.τ) (Cert.KdxKernelIdeal.main (F := Ideal))) ⟨m, fun _ => 0, g⟩ (fun r => ∀ c : Dev Cert.KdxKernelIdeal.nD,
          r.2.mem ((c.tc : Thread Cert.KdxKernelIdeal.nD Cert.KdxKernelIdeal.τ).loc Cert.KdxKernelIdeal.main_v0) = v0 c
          ∧ r.2.mem ((c.tc : Thread Cert.KdxKernelIdeal.nD Cert.KdxKernelIdeal.τ).loc Cert.KdxKernelIdeal.main_arg0) = m ((c.tc : Thread Cert.KdxKernelIdeal.nD Cert.KdxKernelIdeal.τ).loc Cert.KdxKernelIdeal.main_arg0)
          ∧ r.2.mem ((c.tc : Thread Cert.KdxKernelIdeal.nD Cert.KdxKernelIdeal.τ).loc Cert.KdxKernelIdeal.main_arg1) = m ((c.tc : Thread Cert.KdxKernelIdeal.nD Cert.KdxKernelIdeal.τ).loc Cert.KdxKernelIdeal.main_arg1))
      ∧ θ_run (Cert.KdxReferenceIdeal.defs (F := Ideal)) (onTc (τ := Cert.KdxReferenceIdeal.τ) (Cert.KdxReferenceIdeal.main (F := Ideal))) ⟨m', fun _ => 0, g'⟩ (fun r => ∀ c : Dev Cert.KdxReferenceIdeal.nD,
          r.2.mem ((c.tc : Thread Cert.KdxReferenceIdeal.nD Cert.KdxReferenceIdeal.τ).loc Cert.KdxReferenceIdeal.main_v3) = v0 c
          ∧ r.2.mem ((c.tc : Thread Cert.KdxReferenceIdeal.nD Cert.KdxReferenceIdeal.τ).loc Cert.KdxReferenceIdeal.main_arg0) = m' ((c.tc : Thread Cert.KdxReferenceIdeal.nD Cert.KdxReferenceIdeal.τ).loc Cert.KdxReferenceIdeal.main_arg0)
          ∧ r.2.mem ((c.tc : Thread Cert.KdxReferenceIdeal.nD Cert.KdxReferenceIdeal.τ).loc Cert.KdxReferenceIdeal.main_arg1) = m' ((c.tc : Thread Cert.KdxReferenceIdeal.nD Cert.KdxReferenceIdeal.τ).loc Cert.KdxReferenceIdeal.main_arg1))

def preserves_VdxKernel_VdxKernelIdeal : Prop :=
  True

def algebraic_VdxKernelIdeal_VdxReferenceIdeal [hVdxKernelIdeal : Cert.VdxKernelIdeal.Facts] [hVdxReferenceIdeal : Cert.VdxReferenceIdeal.Facts] : Prop :=
  ∀ (m : (ℓ : Loc Cert.VdxKernelIdeal.nD Cert.VdxKernelIdeal.τ Cert.VdxKernelIdeal.sig) → Buf (Elt Ideal) ℓ) (g : Dev Cert.VdxKernelIdeal.nD → PrngReg)
    (m' : (ℓ : Loc Cert.VdxReferenceIdeal.nD Cert.VdxReferenceIdeal.τ Cert.VdxReferenceIdeal.sig) → Buf (Elt Ideal) ℓ) (g' : Dev Cert.VdxReferenceIdeal.nD → PrngReg), Pre_VdxKernelIdeal m →
    (∀ c : Dev Cert.VdxKernelIdeal.nD,
      m' ((c.tc : Thread Cert.VdxReferenceIdeal.nD Cert.VdxReferenceIdeal.τ).loc Cert.VdxReferenceIdeal.main_arg0) = m ((c.tc : Thread Cert.VdxKernelIdeal.nD Cert.VdxKernelIdeal.τ).loc Cert.VdxKernelIdeal.main_arg0)
      ∧ m' ((c.tc : Thread Cert.VdxReferenceIdeal.nD Cert.VdxReferenceIdeal.τ).loc Cert.VdxReferenceIdeal.main_arg1) = m ((c.tc : Thread Cert.VdxKernelIdeal.nD Cert.VdxKernelIdeal.τ).loc Cert.VdxKernelIdeal.main_arg1)
      ∧ m' ((c.tc : Thread Cert.VdxReferenceIdeal.nD Cert.VdxReferenceIdeal.τ).loc Cert.VdxReferenceIdeal.main_arg2) = m ((c.tc : Thread Cert.VdxKernelIdeal.nD Cert.VdxKernelIdeal.τ).loc Cert.VdxKernelIdeal.main_arg2)) →
    ∃ (v0 : (c : Dev Cert.VdxKernelIdeal.nD) → Buf (Elt Ideal) ((c.tc : Thread Cert.VdxKernelIdeal.nD Cert.VdxKernelIdeal.τ).loc Cert.VdxKernelIdeal.main_v0)),
      θ_run (Cert.VdxKernelIdeal.defs (F := Ideal)) (onTc (τ := Cert.VdxKernelIdeal.τ) (Cert.VdxKernelIdeal.main (F := Ideal))) ⟨m, fun _ => 0, g⟩ (fun r => ∀ c : Dev Cert.VdxKernelIdeal.nD,
          r.2.mem ((c.tc : Thread Cert.VdxKernelIdeal.nD Cert.VdxKernelIdeal.τ).loc Cert.VdxKernelIdeal.main_v0) = v0 c
          ∧ r.2.mem ((c.tc : Thread Cert.VdxKernelIdeal.nD Cert.VdxKernelIdeal.τ).loc Cert.VdxKernelIdeal.main_arg0) = m ((c.tc : Thread Cert.VdxKernelIdeal.nD Cert.VdxKernelIdeal.τ).loc Cert.VdxKernelIdeal.main_arg0)
          ∧ r.2.mem ((c.tc : Thread Cert.VdxKernelIdeal.nD Cert.VdxKernelIdeal.τ).loc Cert.VdxKernelIdeal.main_arg1) = m ((c.tc : Thread Cert.VdxKernelIdeal.nD Cert.VdxKernelIdeal.τ).loc Cert.VdxKernelIdeal.main_arg1)
          ∧ r.2.mem ((c.tc : Thread Cert.VdxKernelIdeal.nD Cert.VdxKernelIdeal.τ).loc Cert.VdxKernelIdeal.main_arg2) = m ((c.tc : Thread Cert.VdxKernelIdeal.nD Cert.VdxKernelIdeal.τ).loc Cert.VdxKernelIdeal.main_arg2))
      ∧ θ_run (Cert.VdxReferenceIdeal.defs (F := Ideal)) (onTc (τ := Cert.VdxReferenceIdeal.τ) (Cert.VdxReferenceIdeal.main (F := Ideal))) ⟨m', fun _ => 0, g'⟩ (fun r => ∀ c : Dev Cert.VdxReferenceIdeal.nD,
          r.2.mem ((c.tc : Thread Cert.VdxReferenceIdeal.nD Cert.VdxReferenceIdeal.τ).loc Cert.VdxReferenceIdeal.main_v4) = v0 c
          ∧ r.2.mem ((c.tc : Thread Cert.VdxReferenceIdeal.nD Cert.VdxReferenceIdeal.τ).loc Cert.VdxReferenceIdeal.main_arg0) = m' ((c.tc : Thread Cert.VdxReferenceIdeal.nD Cert.VdxReferenceIdeal.τ).loc Cert.VdxReferenceIdeal.main_arg0)
          ∧ r.2.mem ((c.tc : Thread Cert.VdxReferenceIdeal.nD Cert.VdxReferenceIdeal.τ).loc Cert.VdxReferenceIdeal.main_arg1) = m' ((c.tc : Thread Cert.VdxReferenceIdeal.nD Cert.VdxReferenceIdeal.τ).loc Cert.VdxReferenceIdeal.main_arg1)
          ∧ r.2.mem ((c.tc : Thread Cert.VdxReferenceIdeal.nD Cert.VdxReferenceIdeal.τ).loc Cert.VdxReferenceIdeal.main_arg2) = m' ((c.tc : Thread Cert.VdxReferenceIdeal.nD Cert.VdxReferenceIdeal.τ).loc Cert.VdxReferenceIdeal.main_arg2))

def preserves_AbdwKernel_AbdwKernelIdeal : Prop :=
  True

def algebraic_AbdwKernelIdeal_AbdwReferenceIdeal [hAbdwKernelIdeal : Cert.AbdwKernelIdeal.Facts] [hAbdwReferenceIdeal : Cert.AbdwReferenceIdeal.Facts] : Prop :=
  ∀ (m : (ℓ : Loc Cert.AbdwKernelIdeal.nD Cert.AbdwKernelIdeal.τ Cert.AbdwKernelIdeal.sig) → Buf (Elt Ideal) ℓ) (g : Dev Cert.AbdwKernelIdeal.nD → PrngReg)
    (m' : (ℓ : Loc Cert.AbdwReferenceIdeal.nD Cert.AbdwReferenceIdeal.τ Cert.AbdwReferenceIdeal.sig) → Buf (Elt Ideal) ℓ) (g' : Dev Cert.AbdwReferenceIdeal.nD → PrngReg), Pre_AbdwKernelIdeal m →
    (∀ c : Dev Cert.AbdwKernelIdeal.nD,
      m' ((c.tc : Thread Cert.AbdwReferenceIdeal.nD Cert.AbdwReferenceIdeal.τ).loc Cert.AbdwReferenceIdeal.main_arg0) = m ((c.tc : Thread Cert.AbdwKernelIdeal.nD Cert.AbdwKernelIdeal.τ).loc Cert.AbdwKernelIdeal.main_arg0)
      ∧ m' ((c.tc : Thread Cert.AbdwReferenceIdeal.nD Cert.AbdwReferenceIdeal.τ).loc Cert.AbdwReferenceIdeal.main_arg1) = m ((c.tc : Thread Cert.AbdwKernelIdeal.nD Cert.AbdwKernelIdeal.τ).loc Cert.AbdwKernelIdeal.main_arg1)) →
    ∃ (v0 : (c : Dev Cert.AbdwKernelIdeal.nD) → Buf (Elt Ideal) ((c.tc : Thread Cert.AbdwKernelIdeal.nD Cert.AbdwKernelIdeal.τ).loc Cert.AbdwKernelIdeal.main_v0)),
      θ_run (Cert.AbdwKernelIdeal.defs (F := Ideal)) (onTc (τ := Cert.AbdwKernelIdeal.τ) (Cert.AbdwKernelIdeal.main (F := Ideal))) ⟨m, fun _ => 0, g⟩ (fun r => ∀ c : Dev Cert.AbdwKernelIdeal.nD,
          r.2.mem ((c.tc : Thread Cert.AbdwKernelIdeal.nD Cert.AbdwKernelIdeal.τ).loc Cert.AbdwKernelIdeal.main_v0) = v0 c
          ∧ r.2.mem ((c.tc : Thread Cert.AbdwKernelIdeal.nD Cert.AbdwKernelIdeal.τ).loc Cert.AbdwKernelIdeal.main_arg0) = m ((c.tc : Thread Cert.AbdwKernelIdeal.nD Cert.AbdwKernelIdeal.τ).loc Cert.AbdwKernelIdeal.main_arg0)
          ∧ r.2.mem ((c.tc : Thread Cert.AbdwKernelIdeal.nD Cert.AbdwKernelIdeal.τ).loc Cert.AbdwKernelIdeal.main_arg1) = m ((c.tc : Thread Cert.AbdwKernelIdeal.nD Cert.AbdwKernelIdeal.τ).loc Cert.AbdwKernelIdeal.main_arg1))
      ∧ θ_run (Cert.AbdwReferenceIdeal.defs (F := Ideal)) (onTc (τ := Cert.AbdwReferenceIdeal.τ) (Cert.AbdwReferenceIdeal.main (F := Ideal))) ⟨m', fun _ => 0, g'⟩ (fun r => ∀ c : Dev Cert.AbdwReferenceIdeal.nD,
          r.2.mem ((c.tc : Thread Cert.AbdwReferenceIdeal.nD Cert.AbdwReferenceIdeal.τ).loc Cert.AbdwReferenceIdeal.main_v6) = v0 c
          ∧ r.2.mem ((c.tc : Thread Cert.AbdwReferenceIdeal.nD Cert.AbdwReferenceIdeal.τ).loc Cert.AbdwReferenceIdeal.main_arg0) = m' ((c.tc : Thread Cert.AbdwReferenceIdeal.nD Cert.AbdwReferenceIdeal.τ).loc Cert.AbdwReferenceIdeal.main_arg0)
          ∧ r.2.mem ((c.tc : Thread Cert.AbdwReferenceIdeal.nD Cert.AbdwReferenceIdeal.τ).loc Cert.AbdwReferenceIdeal.main_arg1) = m' ((c.tc : Thread Cert.AbdwReferenceIdeal.nD Cert.AbdwReferenceIdeal.τ).loc Cert.AbdwReferenceIdeal.main_arg1))

def preserves_AbdxKernel_AbdxKernelIdeal : Prop :=
  True

def algebraic_AbdxKernelIdeal_AbdxReferenceIdeal [hAbdxKernelIdeal : Cert.AbdxKernelIdeal.Facts] [hAbdxReferenceIdeal : Cert.AbdxReferenceIdeal.Facts] : Prop :=
  ∀ (m : (ℓ : Loc Cert.AbdxKernelIdeal.nD Cert.AbdxKernelIdeal.τ Cert.AbdxKernelIdeal.sig) → Buf (Elt Ideal) ℓ) (g : Dev Cert.AbdxKernelIdeal.nD → PrngReg)
    (m' : (ℓ : Loc Cert.AbdxReferenceIdeal.nD Cert.AbdxReferenceIdeal.τ Cert.AbdxReferenceIdeal.sig) → Buf (Elt Ideal) ℓ) (g' : Dev Cert.AbdxReferenceIdeal.nD → PrngReg), Pre_AbdxKernelIdeal m →
    (∀ c : Dev Cert.AbdxKernelIdeal.nD,
      m' ((c.tc : Thread Cert.AbdxReferenceIdeal.nD Cert.AbdxReferenceIdeal.τ).loc Cert.AbdxReferenceIdeal.main_arg0) = m ((c.tc : Thread Cert.AbdxKernelIdeal.nD Cert.AbdxKernelIdeal.τ).loc Cert.AbdxKernelIdeal.main_arg0)
      ∧ m' ((c.tc : Thread Cert.AbdxReferenceIdeal.nD Cert.AbdxReferenceIdeal.τ).loc Cert.AbdxReferenceIdeal.main_arg1) = m ((c.tc : Thread Cert.AbdxKernelIdeal.nD Cert.AbdxKernelIdeal.τ).loc Cert.AbdxKernelIdeal.main_arg1)) →
    ∃ (v0 : (c : Dev Cert.AbdxKernelIdeal.nD) → Buf (Elt Ideal) ((c.tc : Thread Cert.AbdxKernelIdeal.nD Cert.AbdxKernelIdeal.τ).loc Cert.AbdxKernelIdeal.main_v0)),
      θ_run (Cert.AbdxKernelIdeal.defs (F := Ideal)) (onTc (τ := Cert.AbdxKernelIdeal.τ) (Cert.AbdxKernelIdeal.main (F := Ideal))) ⟨m, fun _ => 0, g⟩ (fun r => ∀ c : Dev Cert.AbdxKernelIdeal.nD,
          r.2.mem ((c.tc : Thread Cert.AbdxKernelIdeal.nD Cert.AbdxKernelIdeal.τ).loc Cert.AbdxKernelIdeal.main_v0) = v0 c
          ∧ r.2.mem ((c.tc : Thread Cert.AbdxKernelIdeal.nD Cert.AbdxKernelIdeal.τ).loc Cert.AbdxKernelIdeal.main_arg0) = m ((c.tc : Thread Cert.AbdxKernelIdeal.nD Cert.AbdxKernelIdeal.τ).loc Cert.AbdxKernelIdeal.main_arg0)
          ∧ r.2.mem ((c.tc : Thread Cert.AbdxKernelIdeal.nD Cert.AbdxKernelIdeal.τ).loc Cert.AbdxKernelIdeal.main_arg1) = m ((c.tc : Thread Cert.AbdxKernelIdeal.nD Cert.AbdxKernelIdeal.τ).loc Cert.AbdxKernelIdeal.main_arg1))
      ∧ θ_run (Cert.AbdxReferenceIdeal.defs (F := Ideal)) (onTc (τ := Cert.AbdxReferenceIdeal.τ) (Cert.AbdxReferenceIdeal.main (F := Ideal))) ⟨m', fun _ => 0, g'⟩ (fun r => ∀ c : Dev Cert.AbdxReferenceIdeal.nD,
          r.2.mem ((c.tc : Thread Cert.AbdxReferenceIdeal.nD Cert.AbdxReferenceIdeal.τ).loc Cert.AbdxReferenceIdeal.main_v5) = v0 c
          ∧ r.2.mem ((c.tc : Thread Cert.AbdxReferenceIdeal.nD Cert.AbdxReferenceIdeal.τ).loc Cert.AbdxReferenceIdeal.main_arg0) = m' ((c.tc : Thread Cert.AbdxReferenceIdeal.nD Cert.AbdxReferenceIdeal.τ).loc Cert.AbdxReferenceIdeal.main_arg0)
          ∧ r.2.mem ((c.tc : Thread Cert.AbdxReferenceIdeal.nD Cert.AbdxReferenceIdeal.τ).loc Cert.AbdxReferenceIdeal.main_arg1) = m' ((c.tc : Thread Cert.AbdxReferenceIdeal.nD Cert.AbdxReferenceIdeal.τ).loc Cert.AbdxReferenceIdeal.main_arg1))

def preserves_CdwKernel_CdwKernelIdeal : Prop :=
  True

def algebraic_CdwKernelIdeal_CdwReferenceIdeal [hCdwKernelIdeal : Cert.CdwKernelIdeal.Facts] [hCdwReferenceIdeal : Cert.CdwReferenceIdeal.Facts] : Prop :=
  ∀ (m : (ℓ : Loc Cert.CdwKernelIdeal.nD Cert.CdwKernelIdeal.τ Cert.CdwKernelIdeal.sig) → Buf (Elt Ideal) ℓ) (g : Dev Cert.CdwKernelIdeal.nD → PrngReg)
    (m' : (ℓ : Loc Cert.CdwReferenceIdeal.nD Cert.CdwReferenceIdeal.τ Cert.CdwReferenceIdeal.sig) → Buf (Elt Ideal) ℓ) (g' : Dev Cert.CdwReferenceIdeal.nD → PrngReg), Pre_CdwKernelIdeal m →
    (∀ c : Dev Cert.CdwKernelIdeal.nD,
      m' ((c.tc : Thread Cert.CdwReferenceIdeal.nD Cert.CdwReferenceIdeal.τ).loc Cert.CdwReferenceIdeal.main_arg0) = m ((c.tc : Thread Cert.CdwKernelIdeal.nD Cert.CdwKernelIdeal.τ).loc Cert.CdwKernelIdeal.main_arg0)
      ∧ m' ((c.tc : Thread Cert.CdwReferenceIdeal.nD Cert.CdwReferenceIdeal.τ).loc Cert.CdwReferenceIdeal.main_arg1) = m ((c.tc : Thread Cert.CdwKernelIdeal.nD Cert.CdwKernelIdeal.τ).loc Cert.CdwKernelIdeal.main_arg1)) →
    ∃ (v0 : (c : Dev Cert.CdwKernelIdeal.nD) → Buf (Elt Ideal) ((c.tc : Thread Cert.CdwKernelIdeal.nD Cert.CdwKernelIdeal.τ).loc Cert.CdwKernelIdeal.main_v0)),
      θ_run (Cert.CdwKernelIdeal.defs (F := Ideal)) (onTc (τ := Cert.CdwKernelIdeal.τ) (Cert.CdwKernelIdeal.main (F := Ideal))) ⟨m, fun _ => 0, g⟩ (fun r => ∀ c : Dev Cert.CdwKernelIdeal.nD,
          r.2.mem ((c.tc : Thread Cert.CdwKernelIdeal.nD Cert.CdwKernelIdeal.τ).loc Cert.CdwKernelIdeal.main_v0) = v0 c
          ∧ r.2.mem ((c.tc : Thread Cert.CdwKernelIdeal.nD Cert.CdwKernelIdeal.τ).loc Cert.CdwKernelIdeal.main_arg0) = m ((c.tc : Thread Cert.CdwKernelIdeal.nD Cert.CdwKernelIdeal.τ).loc Cert.CdwKernelIdeal.main_arg0)
          ∧ r.2.mem ((c.tc : Thread Cert.CdwKernelIdeal.nD Cert.CdwKernelIdeal.τ).loc Cert.CdwKernelIdeal.main_arg1) = m ((c.tc : Thread Cert.CdwKernelIdeal.nD Cert.CdwKernelIdeal.τ).loc Cert.CdwKernelIdeal.main_arg1))
      ∧ θ_run (Cert.CdwReferenceIdeal.defs (F := Ideal)) (onTc (τ := Cert.CdwReferenceIdeal.τ) (Cert.CdwReferenceIdeal.main (F := Ideal))) ⟨m', fun _ => 0, g'⟩ (fun r => ∀ c : Dev Cert.CdwReferenceIdeal.nD,
          r.2.mem ((c.tc : Thread Cert.CdwReferenceIdeal.nD Cert.CdwReferenceIdeal.τ).loc Cert.CdwReferenceIdeal.main_v5) = v0 c
          ∧ r.2.mem ((c.tc : Thread Cert.CdwReferenceIdeal.nD Cert.CdwReferenceIdeal.τ).loc Cert.CdwReferenceIdeal.main_arg0) = m' ((c.tc : Thread Cert.CdwReferenceIdeal.nD Cert.CdwReferenceIdeal.τ).loc Cert.CdwReferenceIdeal.main_arg0)
          ∧ r.2.mem ((c.tc : Thread Cert.CdwReferenceIdeal.nD Cert.CdwReferenceIdeal.τ).loc Cert.CdwReferenceIdeal.main_arg1) = m' ((c.tc : Thread Cert.CdwReferenceIdeal.nD Cert.CdwReferenceIdeal.τ).loc Cert.CdwReferenceIdeal.main_arg1))

def preserves_CdxKernel_CdxKernelIdeal : Prop :=
  True

def algebraic_CdxKernelIdeal_CdxReferenceIdeal [hCdxKernelIdeal : Cert.CdxKernelIdeal.Facts] [hCdxReferenceIdeal : Cert.CdxReferenceIdeal.Facts] : Prop :=
  ∀ (m : (ℓ : Loc Cert.CdxKernelIdeal.nD Cert.CdxKernelIdeal.τ Cert.CdxKernelIdeal.sig) → Buf (Elt Ideal) ℓ) (g : Dev Cert.CdxKernelIdeal.nD → PrngReg)
    (m' : (ℓ : Loc Cert.CdxReferenceIdeal.nD Cert.CdxReferenceIdeal.τ Cert.CdxReferenceIdeal.sig) → Buf (Elt Ideal) ℓ) (g' : Dev Cert.CdxReferenceIdeal.nD → PrngReg), Pre_CdxKernelIdeal m →
    (∀ c : Dev Cert.CdxKernelIdeal.nD,
      m' ((c.tc : Thread Cert.CdxReferenceIdeal.nD Cert.CdxReferenceIdeal.τ).loc Cert.CdxReferenceIdeal.main_arg0) = m ((c.tc : Thread Cert.CdxKernelIdeal.nD Cert.CdxKernelIdeal.τ).loc Cert.CdxKernelIdeal.main_arg0)
      ∧ m' ((c.tc : Thread Cert.CdxReferenceIdeal.nD Cert.CdxReferenceIdeal.τ).loc Cert.CdxReferenceIdeal.main_arg1) = m ((c.tc : Thread Cert.CdxKernelIdeal.nD Cert.CdxKernelIdeal.τ).loc Cert.CdxKernelIdeal.main_arg1)) →
    ∃ (v0 : (c : Dev Cert.CdxKernelIdeal.nD) → Buf (Elt Ideal) ((c.tc : Thread Cert.CdxKernelIdeal.nD Cert.CdxKernelIdeal.τ).loc Cert.CdxKernelIdeal.main_v0)),
      θ_run (Cert.CdxKernelIdeal.defs (F := Ideal)) (onTc (τ := Cert.CdxKernelIdeal.τ) (Cert.CdxKernelIdeal.main (F := Ideal))) ⟨m, fun _ => 0, g⟩ (fun r => ∀ c : Dev Cert.CdxKernelIdeal.nD,
          r.2.mem ((c.tc : Thread Cert.CdxKernelIdeal.nD Cert.CdxKernelIdeal.τ).loc Cert.CdxKernelIdeal.main_v0) = v0 c
          ∧ r.2.mem ((c.tc : Thread Cert.CdxKernelIdeal.nD Cert.CdxKernelIdeal.τ).loc Cert.CdxKernelIdeal.main_arg0) = m ((c.tc : Thread Cert.CdxKernelIdeal.nD Cert.CdxKernelIdeal.τ).loc Cert.CdxKernelIdeal.main_arg0)
          ∧ r.2.mem ((c.tc : Thread Cert.CdxKernelIdeal.nD Cert.CdxKernelIdeal.τ).loc Cert.CdxKernelIdeal.main_arg1) = m ((c.tc : Thread Cert.CdxKernelIdeal.nD Cert.CdxKernelIdeal.τ).loc Cert.CdxKernelIdeal.main_arg1))
      ∧ θ_run (Cert.CdxReferenceIdeal.defs (F := Ideal)) (onTc (τ := Cert.CdxReferenceIdeal.τ) (Cert.CdxReferenceIdeal.main (F := Ideal))) ⟨m', fun _ => 0, g'⟩ (fun r => ∀ c : Dev Cert.CdxReferenceIdeal.nD,
          r.2.mem ((c.tc : Thread Cert.CdxReferenceIdeal.nD Cert.CdxReferenceIdeal.τ).loc Cert.CdxReferenceIdeal.main_v4) = v0 c
          ∧ r.2.mem ((c.tc : Thread Cert.CdxReferenceIdeal.nD Cert.CdxReferenceIdeal.τ).loc Cert.CdxReferenceIdeal.main_arg0) = m' ((c.tc : Thread Cert.CdxReferenceIdeal.nD Cert.CdxReferenceIdeal.τ).loc Cert.CdxReferenceIdeal.main_arg0)
          ∧ r.2.mem ((c.tc : Thread Cert.CdxReferenceIdeal.nD Cert.CdxReferenceIdeal.τ).loc Cert.CdxReferenceIdeal.main_arg1) = m' ((c.tc : Thread Cert.CdxReferenceIdeal.nD Cert.CdxReferenceIdeal.τ).loc Cert.CdxReferenceIdeal.main_arg1))

def preserves_CuqdwKernel_CuqdwKernelIdeal : Prop :=
  True

def algebraic_CuqdwKernelIdeal_CuqdwReferenceIdeal [hCuqdwKernelIdeal : Cert.CuqdwKernelIdeal.Facts] [hCuqdwReferenceIdeal : Cert.CuqdwReferenceIdeal.Facts] : Prop :=
  ∀ (m : (ℓ : Loc Cert.CuqdwKernelIdeal.nD Cert.CuqdwKernelIdeal.τ Cert.CuqdwKernelIdeal.sig) → Buf (Elt Ideal) ℓ) (g : Dev Cert.CuqdwKernelIdeal.nD → PrngReg)
    (m' : (ℓ : Loc Cert.CuqdwReferenceIdeal.nD Cert.CuqdwReferenceIdeal.τ Cert.CuqdwReferenceIdeal.sig) → Buf (Elt Ideal) ℓ) (g' : Dev Cert.CuqdwReferenceIdeal.nD → PrngReg), Pre_CuqdwKernelIdeal m →
    (∀ c : Dev Cert.CuqdwKernelIdeal.nD,
      m' ((c.tc : Thread Cert.CuqdwReferenceIdeal.nD Cert.CuqdwReferenceIdeal.τ).loc Cert.CuqdwReferenceIdeal.main_arg0) = m ((c.tc : Thread Cert.CuqdwKernelIdeal.nD Cert.CuqdwKernelIdeal.τ).loc Cert.CuqdwKernelIdeal.main_arg0)
      ∧ m' ((c.tc : Thread Cert.CuqdwReferenceIdeal.nD Cert.CuqdwReferenceIdeal.τ).loc Cert.CuqdwReferenceIdeal.main_arg1) = m ((c.tc : Thread Cert.CuqdwKernelIdeal.nD Cert.CuqdwKernelIdeal.τ).loc Cert.CuqdwKernelIdeal.main_arg1)) →
    ∃ (v0 : (c : Dev Cert.CuqdwKernelIdeal.nD) → Buf (Elt Ideal) ((c.tc : Thread Cert.CuqdwKernelIdeal.nD Cert.CuqdwKernelIdeal.τ).loc Cert.CuqdwKernelIdeal.main_v0)),
      θ_run (Cert.CuqdwKernelIdeal.defs (F := Ideal)) (onTc (τ := Cert.CuqdwKernelIdeal.τ) (Cert.CuqdwKernelIdeal.main (F := Ideal))) ⟨m, fun _ => 0, g⟩ (fun r => ∀ c : Dev Cert.CuqdwKernelIdeal.nD,
          r.2.mem ((c.tc : Thread Cert.CuqdwKernelIdeal.nD Cert.CuqdwKernelIdeal.τ).loc Cert.CuqdwKernelIdeal.main_v0) = v0 c
          ∧ r.2.mem ((c.tc : Thread Cert.CuqdwKernelIdeal.nD Cert.CuqdwKernelIdeal.τ).loc Cert.CuqdwKernelIdeal.main_arg0) = m ((c.tc : Thread Cert.CuqdwKernelIdeal.nD Cert.CuqdwKernelIdeal.τ).loc Cert.CuqdwKernelIdeal.main_arg0)
          ∧ r.2.mem ((c.tc : Thread Cert.CuqdwKernelIdeal.nD Cert.CuqdwKernelIdeal.τ).loc Cert.CuqdwKernelIdeal.main_arg1) = m ((c.tc : Thread Cert.CuqdwKernelIdeal.nD Cert.CuqdwKernelIdeal.τ).loc Cert.CuqdwKernelIdeal.main_arg1))
      ∧ θ_run (Cert.CuqdwReferenceIdeal.defs (F := Ideal)) (onTc (τ := Cert.CuqdwReferenceIdeal.τ) (Cert.CuqdwReferenceIdeal.main (F := Ideal))) ⟨m', fun _ => 0, g'⟩ (fun r => ∀ c : Dev Cert.CuqdwReferenceIdeal.nD,
          r.2.mem ((c.tc : Thread Cert.CuqdwReferenceIdeal.nD Cert.CuqdwReferenceIdeal.τ).loc Cert.CuqdwReferenceIdeal.main_v6) = v0 c
          ∧ r.2.mem ((c.tc : Thread Cert.CuqdwReferenceIdeal.nD Cert.CuqdwReferenceIdeal.τ).loc Cert.CuqdwReferenceIdeal.main_arg0) = m' ((c.tc : Thread Cert.CuqdwReferenceIdeal.nD Cert.CuqdwReferenceIdeal.τ).loc Cert.CuqdwReferenceIdeal.main_arg0)
          ∧ r.2.mem ((c.tc : Thread Cert.CuqdwReferenceIdeal.nD Cert.CuqdwReferenceIdeal.τ).loc Cert.CuqdwReferenceIdeal.main_arg1) = m' ((c.tc : Thread Cert.CuqdwReferenceIdeal.nD Cert.CuqdwReferenceIdeal.τ).loc Cert.CuqdwReferenceIdeal.main_arg1))

def preserves_CuqdxKernel_CuqdxKernelIdeal : Prop :=
  True

def algebraic_CuqdxKernelIdeal_CuqdxReferenceIdeal [hCuqdxKernelIdeal : Cert.CuqdxKernelIdeal.Facts] [hCuqdxReferenceIdeal : Cert.CuqdxReferenceIdeal.Facts] : Prop :=
  ∀ (m : (ℓ : Loc Cert.CuqdxKernelIdeal.nD Cert.CuqdxKernelIdeal.τ Cert.CuqdxKernelIdeal.sig) → Buf (Elt Ideal) ℓ) (g : Dev Cert.CuqdxKernelIdeal.nD → PrngReg)
    (m' : (ℓ : Loc Cert.CuqdxReferenceIdeal.nD Cert.CuqdxReferenceIdeal.τ Cert.CuqdxReferenceIdeal.sig) → Buf (Elt Ideal) ℓ) (g' : Dev Cert.CuqdxReferenceIdeal.nD → PrngReg), Pre_CuqdxKernelIdeal m →
    (∀ c : Dev Cert.CuqdxKernelIdeal.nD,
      m' ((c.tc : Thread Cert.CuqdxReferenceIdeal.nD Cert.CuqdxReferenceIdeal.τ).loc Cert.CuqdxReferenceIdeal.main_arg0) = m ((c.tc : Thread Cert.CuqdxKernelIdeal.nD Cert.CuqdxKernelIdeal.τ).loc Cert.CuqdxKernelIdeal.main_arg0)
      ∧ m' ((c.tc : Thread Cert.CuqdxReferenceIdeal.nD Cert.CuqdxReferenceIdeal.τ).loc Cert.CuqdxReferenceIdeal.main_arg1) = m ((c.tc : Thread Cert.CuqdxKernelIdeal.nD Cert.CuqdxKernelIdeal.τ).loc Cert.CuqdxKernelIdeal.main_arg1)) →
    ∃ (v0 : (c : Dev Cert.CuqdxKernelIdeal.nD) → Buf (Elt Ideal) ((c.tc : Thread Cert.CuqdxKernelIdeal.nD Cert.CuqdxKernelIdeal.τ).loc Cert.CuqdxKernelIdeal.main_v0)),
      θ_run (Cert.CuqdxKernelIdeal.defs (F := Ideal)) (onTc (τ := Cert.CuqdxKernelIdeal.τ) (Cert.CuqdxKernelIdeal.main (F := Ideal))) ⟨m, fun _ => 0, g⟩ (fun r => ∀ c : Dev Cert.CuqdxKernelIdeal.nD,
          r.2.mem ((c.tc : Thread Cert.CuqdxKernelIdeal.nD Cert.CuqdxKernelIdeal.τ).loc Cert.CuqdxKernelIdeal.main_v0) = v0 c
          ∧ r.2.mem ((c.tc : Thread Cert.CuqdxKernelIdeal.nD Cert.CuqdxKernelIdeal.τ).loc Cert.CuqdxKernelIdeal.main_arg0) = m ((c.tc : Thread Cert.CuqdxKernelIdeal.nD Cert.CuqdxKernelIdeal.τ).loc Cert.CuqdxKernelIdeal.main_arg0)
          ∧ r.2.mem ((c.tc : Thread Cert.CuqdxKernelIdeal.nD Cert.CuqdxKernelIdeal.τ).loc Cert.CuqdxKernelIdeal.main_arg1) = m ((c.tc : Thread Cert.CuqdxKernelIdeal.nD Cert.CuqdxKernelIdeal.τ).loc Cert.CuqdxKernelIdeal.main_arg1))
      ∧ θ_run (Cert.CuqdxReferenceIdeal.defs (F := Ideal)) (onTc (τ := Cert.CuqdxReferenceIdeal.τ) (Cert.CuqdxReferenceIdeal.main (F := Ideal))) ⟨m', fun _ => 0, g'⟩ (fun r => ∀ c : Dev Cert.CuqdxReferenceIdeal.nD,
          r.2.mem ((c.tc : Thread Cert.CuqdxReferenceIdeal.nD Cert.CuqdxReferenceIdeal.τ).loc Cert.CuqdxReferenceIdeal.main_v5) = v0 c
          ∧ r.2.mem ((c.tc : Thread Cert.CuqdxReferenceIdeal.nD Cert.CuqdxReferenceIdeal.τ).loc Cert.CuqdxReferenceIdeal.main_arg0) = m' ((c.tc : Thread Cert.CuqdxReferenceIdeal.nD Cert.CuqdxReferenceIdeal.τ).loc Cert.CuqdxReferenceIdeal.main_arg0)
          ∧ r.2.mem ((c.tc : Thread Cert.CuqdxReferenceIdeal.nD Cert.CuqdxReferenceIdeal.τ).loc Cert.CuqdxReferenceIdeal.main_arg1) = m' ((c.tc : Thread Cert.CuqdxReferenceIdeal.nD Cert.CuqdxReferenceIdeal.τ).loc Cert.CuqdxReferenceIdeal.main_arg1))

def preserves_CukvdwKernel_CukvdwKernelIdeal : Prop :=
  True

def algebraic_CukvdwKernelIdeal_CukvdwReferenceIdeal [hCukvdwKernelIdeal : Cert.CukvdwKernelIdeal.Facts] [hCukvdwReferenceIdeal : Cert.CukvdwReferenceIdeal.Facts] : Prop :=
  ∀ (m : (ℓ : Loc Cert.CukvdwKernelIdeal.nD Cert.CukvdwKernelIdeal.τ Cert.CukvdwKernelIdeal.sig) → Buf (Elt Ideal) ℓ) (g : Dev Cert.CukvdwKernelIdeal.nD → PrngReg)
    (m' : (ℓ : Loc Cert.CukvdwReferenceIdeal.nD Cert.CukvdwReferenceIdeal.τ Cert.CukvdwReferenceIdeal.sig) → Buf (Elt Ideal) ℓ) (g' : Dev Cert.CukvdwReferenceIdeal.nD → PrngReg), Pre_CukvdwKernelIdeal m →
    (∀ c : Dev Cert.CukvdwKernelIdeal.nD,
      m' ((c.tc : Thread Cert.CukvdwReferenceIdeal.nD Cert.CukvdwReferenceIdeal.τ).loc Cert.CukvdwReferenceIdeal.main_arg0) = m ((c.tc : Thread Cert.CukvdwKernelIdeal.nD Cert.CukvdwKernelIdeal.τ).loc Cert.CukvdwKernelIdeal.main_arg0)
      ∧ m' ((c.tc : Thread Cert.CukvdwReferenceIdeal.nD Cert.CukvdwReferenceIdeal.τ).loc Cert.CukvdwReferenceIdeal.main_arg1) = m ((c.tc : Thread Cert.CukvdwKernelIdeal.nD Cert.CukvdwKernelIdeal.τ).loc Cert.CukvdwKernelIdeal.main_arg1)) →
    ∃ (v0 : (c : Dev Cert.CukvdwKernelIdeal.nD) → Buf (Elt Ideal) ((c.tc : Thread Cert.CukvdwKernelIdeal.nD Cert.CukvdwKernelIdeal.τ).loc Cert.CukvdwKernelIdeal.main_v0)),
      θ_run (Cert.CukvdwKernelIdeal.defs (F := Ideal)) (onTc (τ := Cert.CukvdwKernelIdeal.τ) (Cert.CukvdwKernelIdeal.main (F := Ideal))) ⟨m, fun _ => 0, g⟩ (fun r => ∀ c : Dev Cert.CukvdwKernelIdeal.nD,
          r.2.mem ((c.tc : Thread Cert.CukvdwKernelIdeal.nD Cert.CukvdwKernelIdeal.τ).loc Cert.CukvdwKernelIdeal.main_v0) = v0 c
          ∧ r.2.mem ((c.tc : Thread Cert.CukvdwKernelIdeal.nD Cert.CukvdwKernelIdeal.τ).loc Cert.CukvdwKernelIdeal.main_arg0) = m ((c.tc : Thread Cert.CukvdwKernelIdeal.nD Cert.CukvdwKernelIdeal.τ).loc Cert.CukvdwKernelIdeal.main_arg0)
          ∧ r.2.mem ((c.tc : Thread Cert.CukvdwKernelIdeal.nD Cert.CukvdwKernelIdeal.τ).loc Cert.CukvdwKernelIdeal.main_arg1) = m ((c.tc : Thread Cert.CukvdwKernelIdeal.nD Cert.CukvdwKernelIdeal.τ).loc Cert.CukvdwKernelIdeal.main_arg1))
      ∧ θ_run (Cert.CukvdwReferenceIdeal.defs (F := Ideal)) (onTc (τ := Cert.CukvdwReferenceIdeal.τ) (Cert.CukvdwReferenceIdeal.main (F := Ideal))) ⟨m', fun _ => 0, g'⟩ (fun r => ∀ c : Dev Cert.CukvdwReferenceIdeal.nD,
          r.2.mem ((c.tc : Thread Cert.CukvdwReferenceIdeal.nD Cert.CukvdwReferenceIdeal.τ).loc Cert.CukvdwReferenceIdeal.main_v6) = v0 c
          ∧ r.2.mem ((c.tc : Thread Cert.CukvdwReferenceIdeal.nD Cert.CukvdwReferenceIdeal.τ).loc Cert.CukvdwReferenceIdeal.main_arg0) = m' ((c.tc : Thread Cert.CukvdwReferenceIdeal.nD Cert.CukvdwReferenceIdeal.τ).loc Cert.CukvdwReferenceIdeal.main_arg0)
          ∧ r.2.mem ((c.tc : Thread Cert.CukvdwReferenceIdeal.nD Cert.CukvdwReferenceIdeal.τ).loc Cert.CukvdwReferenceIdeal.main_arg1) = m' ((c.tc : Thread Cert.CukvdwReferenceIdeal.nD Cert.CukvdwReferenceIdeal.τ).loc Cert.CukvdwReferenceIdeal.main_arg1))

def preserves_CukvdxKernel_CukvdxKernelIdeal : Prop :=
  True

def algebraic_CukvdxKernelIdeal_CukvdxReferenceIdeal [hCukvdxKernelIdeal : Cert.CukvdxKernelIdeal.Facts] [hCukvdxReferenceIdeal : Cert.CukvdxReferenceIdeal.Facts] : Prop :=
  ∀ (m : (ℓ : Loc Cert.CukvdxKernelIdeal.nD Cert.CukvdxKernelIdeal.τ Cert.CukvdxKernelIdeal.sig) → Buf (Elt Ideal) ℓ) (g : Dev Cert.CukvdxKernelIdeal.nD → PrngReg)
    (m' : (ℓ : Loc Cert.CukvdxReferenceIdeal.nD Cert.CukvdxReferenceIdeal.τ Cert.CukvdxReferenceIdeal.sig) → Buf (Elt Ideal) ℓ) (g' : Dev Cert.CukvdxReferenceIdeal.nD → PrngReg), Pre_CukvdxKernelIdeal m →
    (∀ c : Dev Cert.CukvdxKernelIdeal.nD,
      m' ((c.tc : Thread Cert.CukvdxReferenceIdeal.nD Cert.CukvdxReferenceIdeal.τ).loc Cert.CukvdxReferenceIdeal.main_arg0) = m ((c.tc : Thread Cert.CukvdxKernelIdeal.nD Cert.CukvdxKernelIdeal.τ).loc Cert.CukvdxKernelIdeal.main_arg0)
      ∧ m' ((c.tc : Thread Cert.CukvdxReferenceIdeal.nD Cert.CukvdxReferenceIdeal.τ).loc Cert.CukvdxReferenceIdeal.main_arg1) = m ((c.tc : Thread Cert.CukvdxKernelIdeal.nD Cert.CukvdxKernelIdeal.τ).loc Cert.CukvdxKernelIdeal.main_arg1)) →
    ∃ (v0 : (c : Dev Cert.CukvdxKernelIdeal.nD) → Buf (Elt Ideal) ((c.tc : Thread Cert.CukvdxKernelIdeal.nD Cert.CukvdxKernelIdeal.τ).loc Cert.CukvdxKernelIdeal.main_v0)),
      θ_run (Cert.CukvdxKernelIdeal.defs (F := Ideal)) (onTc (τ := Cert.CukvdxKernelIdeal.τ) (Cert.CukvdxKernelIdeal.main (F := Ideal))) ⟨m, fun _ => 0, g⟩ (fun r => ∀ c : Dev Cert.CukvdxKernelIdeal.nD,
          r.2.mem ((c.tc : Thread Cert.CukvdxKernelIdeal.nD Cert.CukvdxKernelIdeal.τ).loc Cert.CukvdxKernelIdeal.main_v0) = v0 c
          ∧ r.2.mem ((c.tc : Thread Cert.CukvdxKernelIdeal.nD Cert.CukvdxKernelIdeal.τ).loc Cert.CukvdxKernelIdeal.main_arg0) = m ((c.tc : Thread Cert.CukvdxKernelIdeal.nD Cert.CukvdxKernelIdeal.τ).loc Cert.CukvdxKernelIdeal.main_arg0)
          ∧ r.2.mem ((c.tc : Thread Cert.CukvdxKernelIdeal.nD Cert.CukvdxKernelIdeal.τ).loc Cert.CukvdxKernelIdeal.main_arg1) = m ((c.tc : Thread Cert.CukvdxKernelIdeal.nD Cert.CukvdxKernelIdeal.τ).loc Cert.CukvdxKernelIdeal.main_arg1))
      ∧ θ_run (Cert.CukvdxReferenceIdeal.defs (F := Ideal)) (onTc (τ := Cert.CukvdxReferenceIdeal.τ) (Cert.CukvdxReferenceIdeal.main (F := Ideal))) ⟨m', fun _ => 0, g'⟩ (fun r => ∀ c : Dev Cert.CukvdxReferenceIdeal.nD,
          r.2.mem ((c.tc : Thread Cert.CukvdxReferenceIdeal.nD Cert.CukvdxReferenceIdeal.τ).loc Cert.CukvdxReferenceIdeal.main_v5) = v0 c
          ∧ r.2.mem ((c.tc : Thread Cert.CukvdxReferenceIdeal.nD Cert.CukvdxReferenceIdeal.τ).loc Cert.CukvdxReferenceIdeal.main_arg0) = m' ((c.tc : Thread Cert.CukvdxReferenceIdeal.nD Cert.CukvdxReferenceIdeal.τ).loc Cert.CukvdxReferenceIdeal.main_arg0)
          ∧ r.2.mem ((c.tc : Thread Cert.CukvdxReferenceIdeal.nD Cert.CukvdxReferenceIdeal.τ).loc Cert.CukvdxReferenceIdeal.main_arg1) = m' ((c.tc : Thread Cert.CukvdxReferenceIdeal.nD Cert.CukvdxReferenceIdeal.τ).loc Cert.CukvdxReferenceIdeal.main_arg1))

def preserves_F1Kernel_F1KernelIdeal : Prop :=
  True

def algebraic_F1KernelIdeal_F1ReferenceIdeal [hF1KernelIdeal : Cert.F1KernelIdeal.Facts] [hF1ReferenceIdeal : Cert.F1ReferenceIdeal.Facts] : Prop :=
  ∀ (m : (ℓ : Loc Cert.F1KernelIdeal.nD Cert.F1KernelIdeal.τ Cert.F1KernelIdeal.sig) → Buf (Elt Ideal) ℓ) (g : Dev Cert.F1KernelIdeal.nD → PrngReg)
    (m' : (ℓ : Loc Cert.F1ReferenceIdeal.nD Cert.F1ReferenceIdeal.τ Cert.F1ReferenceIdeal.sig) → Buf (Elt Ideal) ℓ) (g' : Dev Cert.F1ReferenceIdeal.nD → PrngReg), Pre_F1KernelIdeal m →
    (∀ c : Dev Cert.F1KernelIdeal.nD,
      m' ((c.tc : Thread Cert.F1ReferenceIdeal.nD Cert.F1ReferenceIdeal.τ).loc Cert.F1ReferenceIdeal.main_arg0) = m ((c.tc : Thread Cert.F1KernelIdeal.nD Cert.F1KernelIdeal.τ).loc Cert.F1KernelIdeal.main_arg0)
      ∧ m' ((c.tc : Thread Cert.F1ReferenceIdeal.nD Cert.F1ReferenceIdeal.τ).loc Cert.F1ReferenceIdeal.main_arg1) = m ((c.tc : Thread Cert.F1KernelIdeal.nD Cert.F1KernelIdeal.τ).loc Cert.F1KernelIdeal.main_arg1)
      ∧ m' ((c.tc : Thread Cert.F1ReferenceIdeal.nD Cert.F1ReferenceIdeal.τ).loc Cert.F1ReferenceIdeal.main_arg2) = m ((c.tc : Thread Cert.F1KernelIdeal.nD Cert.F1KernelIdeal.τ).loc Cert.F1KernelIdeal.main_arg2)) →
    ∃ (v0 : (c : Dev Cert.F1KernelIdeal.nD) → Buf (Elt Ideal) ((c.tc : Thread Cert.F1KernelIdeal.nD Cert.F1KernelIdeal.τ).loc Cert.F1KernelIdeal.main_v0_0)) (v1 : (c : Dev Cert.F1KernelIdeal.nD) → Buf (Elt Ideal) ((c.tc : Thread Cert.F1KernelIdeal.nD Cert.F1KernelIdeal.τ).loc Cert.F1KernelIdeal.main_v0_1)),
      θ_run (Cert.F1KernelIdeal.defs (F := Ideal)) (onTc (τ := Cert.F1KernelIdeal.τ) (Cert.F1KernelIdeal.main (F := Ideal))) ⟨m, fun _ => 0, g⟩ (fun r => ∀ c : Dev Cert.F1KernelIdeal.nD,
          r.2.mem ((c.tc : Thread Cert.F1KernelIdeal.nD Cert.F1KernelIdeal.τ).loc Cert.F1KernelIdeal.main_v0_0) = v0 c
          ∧ r.2.mem ((c.tc : Thread Cert.F1KernelIdeal.nD Cert.F1KernelIdeal.τ).loc Cert.F1KernelIdeal.main_v0_1) = v1 c
          ∧ r.2.mem ((c.tc : Thread Cert.F1KernelIdeal.nD Cert.F1KernelIdeal.τ).loc Cert.F1KernelIdeal.main_arg0) = m ((c.tc : Thread Cert.F1KernelIdeal.nD Cert.F1KernelIdeal.τ).loc Cert.F1KernelIdeal.main_arg0)
          ∧ r.2.mem ((c.tc : Thread Cert.F1KernelIdeal.nD Cert.F1KernelIdeal.τ).loc Cert.F1KernelIdeal.main_arg1) = m ((c.tc : Thread Cert.F1KernelIdeal.nD Cert.F1KernelIdeal.τ).loc Cert.F1KernelIdeal.main_arg1)
          ∧ r.2.mem ((c.tc : Thread Cert.F1KernelIdeal.nD Cert.F1KernelIdeal.τ).loc Cert.F1KernelIdeal.main_arg2) = m ((c.tc : Thread Cert.F1KernelIdeal.nD Cert.F1KernelIdeal.τ).loc Cert.F1KernelIdeal.main_arg2))
      ∧ θ_run (Cert.F1ReferenceIdeal.defs (F := Ideal)) (onTc (τ := Cert.F1ReferenceIdeal.τ) (Cert.F1ReferenceIdeal.main (F := Ideal))) ⟨m', fun _ => 0, g'⟩ (fun r => ∀ c : Dev Cert.F1ReferenceIdeal.nD,
          r.2.mem ((c.tc : Thread Cert.F1ReferenceIdeal.nD Cert.F1ReferenceIdeal.τ).loc Cert.F1ReferenceIdeal.main_v4) = v0 c
          ∧ r.2.mem ((c.tc : Thread Cert.F1ReferenceIdeal.nD Cert.F1ReferenceIdeal.τ).loc Cert.F1ReferenceIdeal.main_v6) = v1 c
          ∧ r.2.mem ((c.tc : Thread Cert.F1ReferenceIdeal.nD Cert.F1ReferenceIdeal.τ).loc Cert.F1ReferenceIdeal.main_arg0) = m' ((c.tc : Thread Cert.F1ReferenceIdeal.nD Cert.F1ReferenceIdeal.τ).loc Cert.F1ReferenceIdeal.main_arg0)
          ∧ r.2.mem ((c.tc : Thread Cert.F1ReferenceIdeal.nD Cert.F1ReferenceIdeal.τ).loc Cert.F1ReferenceIdeal.main_arg1) = m' ((c.tc : Thread Cert.F1ReferenceIdeal.nD Cert.F1ReferenceIdeal.τ).loc Cert.F1ReferenceIdeal.main_arg1)
          ∧ r.2.mem ((c.tc : Thread Cert.F1ReferenceIdeal.nD Cert.F1ReferenceIdeal.τ).loc Cert.F1ReferenceIdeal.main_arg2) = m' ((c.tc : Thread Cert.F1ReferenceIdeal.nD Cert.F1ReferenceIdeal.τ).loc Cert.F1ReferenceIdeal.main_arg2))

def preserves_F2Kernel_F2KernelIdeal : Prop :=
  True

def algebraic_F2KernelIdeal_F2ReferenceIdeal [hF2KernelIdeal : Cert.F2KernelIdeal.Facts] [hF2ReferenceIdeal : Cert.F2ReferenceIdeal.Facts] : Prop :=
  ∀ (m : (ℓ : Loc Cert.F2KernelIdeal.nD Cert.F2KernelIdeal.τ Cert.F2KernelIdeal.sig) → Buf (Elt Ideal) ℓ) (g : Dev Cert.F2KernelIdeal.nD → PrngReg)
    (m' : (ℓ : Loc Cert.F2ReferenceIdeal.nD Cert.F2ReferenceIdeal.τ Cert.F2ReferenceIdeal.sig) → Buf (Elt Ideal) ℓ) (g' : Dev Cert.F2ReferenceIdeal.nD → PrngReg), Pre_F2KernelIdeal m →
    (∀ c : Dev Cert.F2KernelIdeal.nD,
      m' ((c.tc : Thread Cert.F2ReferenceIdeal.nD Cert.F2ReferenceIdeal.τ).loc Cert.F2ReferenceIdeal.main_arg0) = m ((c.tc : Thread Cert.F2KernelIdeal.nD Cert.F2KernelIdeal.τ).loc Cert.F2KernelIdeal.main_arg0)
      ∧ m' ((c.tc : Thread Cert.F2ReferenceIdeal.nD Cert.F2ReferenceIdeal.τ).loc Cert.F2ReferenceIdeal.main_arg1) = m ((c.tc : Thread Cert.F2KernelIdeal.nD Cert.F2KernelIdeal.τ).loc Cert.F2KernelIdeal.main_arg1)
      ∧ m' ((c.tc : Thread Cert.F2ReferenceIdeal.nD Cert.F2ReferenceIdeal.τ).loc Cert.F2ReferenceIdeal.main_arg2) = m ((c.tc : Thread Cert.F2KernelIdeal.nD Cert.F2KernelIdeal.τ).loc Cert.F2KernelIdeal.main_arg2)) →
    ∃ (v0 : (c : Dev Cert.F2KernelIdeal.nD) → Buf (Elt Ideal) ((c.tc : Thread Cert.F2KernelIdeal.nD Cert.F2KernelIdeal.τ).loc Cert.F2KernelIdeal.main_v0)),
      θ_run (Cert.F2KernelIdeal.defs (F := Ideal)) (onTc (τ := Cert.F2KernelIdeal.τ) (Cert.F2KernelIdeal.main (F := Ideal))) ⟨m, fun _ => 0, g⟩ (fun r => ∀ c : Dev Cert.F2KernelIdeal.nD,
          r.2.mem ((c.tc : Thread Cert.F2KernelIdeal.nD Cert.F2KernelIdeal.τ).loc Cert.F2KernelIdeal.main_v0) = v0 c
          ∧ r.2.mem ((c.tc : Thread Cert.F2KernelIdeal.nD Cert.F2KernelIdeal.τ).loc Cert.F2KernelIdeal.main_arg0) = m ((c.tc : Thread Cert.F2KernelIdeal.nD Cert.F2KernelIdeal.τ).loc Cert.F2KernelIdeal.main_arg0)
          ∧ r.2.mem ((c.tc : Thread Cert.F2KernelIdeal.nD Cert.F2KernelIdeal.τ).loc Cert.F2KernelIdeal.main_arg1) = m ((c.tc : Thread Cert.F2KernelIdeal.nD Cert.F2KernelIdeal.τ).loc Cert.F2KernelIdeal.main_arg1)
          ∧ r.2.mem ((c.tc : Thread Cert.F2KernelIdeal.nD Cert.F2KernelIdeal.τ).loc Cert.F2KernelIdeal.main_arg2) = m ((c.tc : Thread Cert.F2KernelIdeal.nD Cert.F2KernelIdeal.τ).loc Cert.F2KernelIdeal.main_arg2))
      ∧ θ_run (Cert.F2ReferenceIdeal.defs (F := Ideal)) (onTc (τ := Cert.F2ReferenceIdeal.τ) (Cert.F2ReferenceIdeal.main (F := Ideal))) ⟨m', fun _ => 0, g'⟩ (fun r => ∀ c : Dev Cert.F2ReferenceIdeal.nD,
          r.2.mem ((c.tc : Thread Cert.F2ReferenceIdeal.nD Cert.F2ReferenceIdeal.τ).loc Cert.F2ReferenceIdeal.main_v3) = v0 c
          ∧ r.2.mem ((c.tc : Thread Cert.F2ReferenceIdeal.nD Cert.F2ReferenceIdeal.τ).loc Cert.F2ReferenceIdeal.main_arg0) = m' ((c.tc : Thread Cert.F2ReferenceIdeal.nD Cert.F2ReferenceIdeal.τ).loc Cert.F2ReferenceIdeal.main_arg0)
          ∧ r.2.mem ((c.tc : Thread Cert.F2ReferenceIdeal.nD Cert.F2ReferenceIdeal.τ).loc Cert.F2ReferenceIdeal.main_arg1) = m' ((c.tc : Thread Cert.F2ReferenceIdeal.nD Cert.F2ReferenceIdeal.τ).loc Cert.F2ReferenceIdeal.main_arg1)
          ∧ r.2.mem ((c.tc : Thread Cert.F2ReferenceIdeal.nD Cert.F2ReferenceIdeal.τ).loc Cert.F2ReferenceIdeal.main_arg2) = m' ((c.tc : Thread Cert.F2ReferenceIdeal.nD Cert.F2ReferenceIdeal.τ).loc Cert.F2ReferenceIdeal.main_arg2))

def preserves_OKernel_OKernelIdeal : Prop :=
  True

def algebraic_OKernelIdeal_OReferenceIdeal [hOKernelIdeal : Cert.OKernelIdeal.Facts] [hOReferenceIdeal : Cert.OReferenceIdeal.Facts] : Prop :=
  ∀ (m : (ℓ : Loc Cert.OKernelIdeal.nD Cert.OKernelIdeal.τ Cert.OKernelIdeal.sig) → Buf (Elt Ideal) ℓ) (g : Dev Cert.OKernelIdeal.nD → PrngReg)
    (m' : (ℓ : Loc Cert.OReferenceIdeal.nD Cert.OReferenceIdeal.τ Cert.OReferenceIdeal.sig) → Buf (Elt Ideal) ℓ) (g' : Dev Cert.OReferenceIdeal.nD → PrngReg), Pre_OKernelIdeal m →
    (∀ c : Dev Cert.OKernelIdeal.nD,
      m' ((c.tc : Thread Cert.OReferenceIdeal.nD Cert.OReferenceIdeal.τ).loc Cert.OReferenceIdeal.main_arg0) = m ((c.tc : Thread Cert.OKernelIdeal.nD Cert.OKernelIdeal.τ).loc Cert.OKernelIdeal.main_arg0)
      ∧ m' ((c.tc : Thread Cert.OReferenceIdeal.nD Cert.OReferenceIdeal.τ).loc Cert.OReferenceIdeal.main_arg1) = m ((c.tc : Thread Cert.OKernelIdeal.nD Cert.OKernelIdeal.τ).loc Cert.OKernelIdeal.main_arg1)
      ∧ m' ((c.tc : Thread Cert.OReferenceIdeal.nD Cert.OReferenceIdeal.τ).loc Cert.OReferenceIdeal.main_arg2) = m ((c.tc : Thread Cert.OKernelIdeal.nD Cert.OKernelIdeal.τ).loc Cert.OKernelIdeal.main_arg2)) →
    ∃ (v0 : (c : Dev Cert.OKernelIdeal.nD) → Buf (Elt Ideal) ((c.tc : Thread Cert.OKernelIdeal.nD Cert.OKernelIdeal.τ).loc Cert.OKernelIdeal.main_v0)),
      θ_run (Cert.OKernelIdeal.defs (F := Ideal)) (onTc (τ := Cert.OKernelIdeal.τ) (Cert.OKernelIdeal.main (F := Ideal))) ⟨m, fun _ => 0, g⟩ (fun r => ∀ c : Dev Cert.OKernelIdeal.nD,
          r.2.mem ((c.tc : Thread Cert.OKernelIdeal.nD Cert.OKernelIdeal.τ).loc Cert.OKernelIdeal.main_v0) = v0 c
          ∧ r.2.mem ((c.tc : Thread Cert.OKernelIdeal.nD Cert.OKernelIdeal.τ).loc Cert.OKernelIdeal.main_arg0) = m ((c.tc : Thread Cert.OKernelIdeal.nD Cert.OKernelIdeal.τ).loc Cert.OKernelIdeal.main_arg0)
          ∧ r.2.mem ((c.tc : Thread Cert.OKernelIdeal.nD Cert.OKernelIdeal.τ).loc Cert.OKernelIdeal.main_arg1) = m ((c.tc : Thread Cert.OKernelIdeal.nD Cert.OKernelIdeal.τ).loc Cert.OKernelIdeal.main_arg1)
          ∧ r.2.mem ((c.tc : Thread Cert.OKernelIdeal.nD Cert.OKernelIdeal.τ).loc Cert.OKernelIdeal.main_arg2) = m ((c.tc : Thread Cert.OKernelIdeal.nD Cert.OKernelIdeal.τ).loc Cert.OKernelIdeal.main_arg2))
      ∧ θ_run (Cert.OReferenceIdeal.defs (F := Ideal)) (onTc (τ := Cert.OReferenceIdeal.τ) (Cert.OReferenceIdeal.main (F := Ideal))) ⟨m', fun _ => 0, g'⟩ (fun r => ∀ c : Dev Cert.OReferenceIdeal.nD,
          r.2.mem ((c.tc : Thread Cert.OReferenceIdeal.nD Cert.OReferenceIdeal.τ).loc Cert.OReferenceIdeal.main_v3) = v0 c
          ∧ r.2.mem ((c.tc : Thread Cert.OReferenceIdeal.nD Cert.OReferenceIdeal.τ).loc Cert.OReferenceIdeal.main_arg0) = m' ((c.tc : Thread Cert.OReferenceIdeal.nD Cert.OReferenceIdeal.τ).loc Cert.OReferenceIdeal.main_arg0)
          ∧ r.2.mem ((c.tc : Thread Cert.OReferenceIdeal.nD Cert.OReferenceIdeal.τ).loc Cert.OReferenceIdeal.main_arg1) = m' ((c.tc : Thread Cert.OReferenceIdeal.nD Cert.OReferenceIdeal.τ).loc Cert.OReferenceIdeal.main_arg1)
          ∧ r.2.mem ((c.tc : Thread Cert.OReferenceIdeal.nD Cert.OReferenceIdeal.τ).loc Cert.OReferenceIdeal.main_arg2) = m' ((c.tc : Thread Cert.OReferenceIdeal.nD Cert.OReferenceIdeal.τ).loc Cert.OReferenceIdeal.main_arg2))

def preserves_QKernel_QKernelIdeal : Prop :=
  True

def algebraic_QKernelIdeal_QReferenceIdeal [hQKernelIdeal : Cert.QKernelIdeal.Facts] [hQReferenceIdeal : Cert.QReferenceIdeal.Facts] : Prop :=
  ∀ (m : (ℓ : Loc Cert.QKernelIdeal.nD Cert.QKernelIdeal.τ Cert.QKernelIdeal.sig) → Buf (Elt Ideal) ℓ) (g : Dev Cert.QKernelIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QKernelIdeal m →
    (∀ c : Dev Cert.QKernelIdeal.nD,
      m' ((c.tc : Thread Cert.QReferenceIdeal.nD Cert.QReferenceIdeal.τ).loc Cert.QReferenceIdeal.main_arg0) = m ((c.tc : Thread Cert.QKernelIdeal.nD Cert.QKernelIdeal.τ).loc Cert.QKernelIdeal.main_arg0)
      ∧ m' ((c.tc : Thread Cert.QReferenceIdeal.nD Cert.QReferenceIdeal.τ).loc Cert.QReferenceIdeal.main_arg1) = m ((c.tc : Thread Cert.QKernelIdeal.nD Cert.QKernelIdeal.τ).loc Cert.QKernelIdeal.main_arg1)
      ∧ m' ((c.tc : Thread Cert.QReferenceIdeal.nD Cert.QReferenceIdeal.τ).loc Cert.QReferenceIdeal.main_arg2) = m ((c.tc : Thread Cert.QKernelIdeal.nD Cert.QKernelIdeal.τ).loc Cert.QKernelIdeal.main_arg2)) →
    ∃ (v0 : (c : Dev Cert.QKernelIdeal.nD) → Buf (Elt Ideal) ((c.tc : Thread Cert.QKernelIdeal.nD Cert.QKernelIdeal.τ).loc Cert.QKernelIdeal.main_v0)),
      θ_run (Cert.QKernelIdeal.defs (F := Ideal)) (onTc (τ := Cert.QKernelIdeal.τ) (Cert.QKernelIdeal.main (F := Ideal))) ⟨m, fun _ => 0, g⟩ (fun r => ∀ c : Dev Cert.QKernelIdeal.nD,
          r.2.mem ((c.tc : Thread Cert.QKernelIdeal.nD Cert.QKernelIdeal.τ).loc Cert.QKernelIdeal.main_v0) = v0 c
          ∧ r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
          ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
          ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v3) = v0 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1)
          ∧ r.2.mem ((c.tc : Thread Cert.QReferenceIdeal.nD Cert.QReferenceIdeal.τ).loc Cert.QReferenceIdeal.main_arg2) = m' ((c.tc : Thread Cert.QReferenceIdeal.nD Cert.QReferenceIdeal.τ).loc Cert.QReferenceIdeal.main_arg2))

def preserves_KKernel_KKernelIdeal : Prop :=
  True

def algebraic_KKernelIdeal_KReferenceIdeal [hKKernelIdeal : Cert.KKernelIdeal.Facts] [hKReferenceIdeal : Cert.KReferenceIdeal.Facts] : Prop :=
  ∀ (m : (ℓ : Loc Cert.KKernelIdeal.nD Cert.KKernelIdeal.τ Cert.KKernelIdeal.sig) → Buf (Elt Ideal) ℓ) (g : Dev Cert.KKernelIdeal.nD → PrngReg)
    (m' : (ℓ : Loc Cert.KReferenceIdeal.nD Cert.KReferenceIdeal.τ Cert.KReferenceIdeal.sig) → Buf (Elt Ideal) ℓ) (g' : Dev Cert.KReferenceIdeal.nD → PrngReg), Pre_KKernelIdeal m →
    (∀ c : Dev Cert.KKernelIdeal.nD,
      m' ((c.tc : Thread Cert.KReferenceIdeal.nD Cert.KReferenceIdeal.τ).loc Cert.KReferenceIdeal.main_arg0) = m ((c.tc : Thread Cert.KKernelIdeal.nD Cert.KKernelIdeal.τ).loc Cert.KKernelIdeal.main_arg0)
      ∧ m' ((c.tc : Thread Cert.KReferenceIdeal.nD Cert.KReferenceIdeal.τ).loc Cert.KReferenceIdeal.main_arg1) = m ((c.tc : Thread Cert.KKernelIdeal.nD Cert.KKernelIdeal.τ).loc Cert.KKernelIdeal.main_arg1)) →
    ∃ (v0 : (c : Dev Cert.KKernelIdeal.nD) → Buf (Elt Ideal) ((c.tc : Thread Cert.KKernelIdeal.nD Cert.KKernelIdeal.τ).loc Cert.KKernelIdeal.main_v0)),
      θ_run (Cert.KKernelIdeal.defs (F := Ideal)) (onTc (τ := Cert.KKernelIdeal.τ) (Cert.KKernelIdeal.main (F := Ideal))) ⟨m, fun _ => 0, g⟩ (fun r => ∀ c : Dev Cert.KKernelIdeal.nD,
          r.2.mem ((c.tc : Thread Cert.KKernelIdeal.nD Cert.KKernelIdeal.τ).loc Cert.KKernelIdeal.main_v0) = v0 c
          ∧ r.2.mem ((c.tc : Thread Cert.KKernelIdeal.nD Cert.KKernelIdeal.τ).loc Cert.KKernelIdeal.main_arg0) = m ((c.tc : Thread Cert.KKernelIdeal.nD Cert.KKernelIdeal.τ).loc Cert.KKernelIdeal.main_arg0)
          ∧ r.2.mem ((c.tc : Thread Cert.KKernelIdeal.nD Cert.KKernelIdeal.τ).loc Cert.KKernelIdeal.main_arg1) = m ((c.tc : Thread Cert.KKernelIdeal.nD Cert.KKernelIdeal.τ).loc Cert.KKernelIdeal.main_arg1))
      ∧ θ_run (Cert.KReferenceIdeal.defs (F := Ideal)) (onTc (τ := Cert.KReferenceIdeal.τ) (Cert.KReferenceIdeal.main (F := Ideal))) ⟨m', fun _ => 0, g'⟩ (fun r => ∀ c : Dev Cert.KReferenceIdeal.nD,
          r.2.mem ((c.tc : Thread Cert.KReferenceIdeal.nD Cert.KReferenceIdeal.τ).loc Cert.KReferenceIdeal.main_v3) = v0 c
          ∧ r.2.mem ((c.tc : Thread Cert.KReferenceIdeal.nD Cert.KReferenceIdeal.τ).loc Cert.KReferenceIdeal.main_arg0) = m' ((c.tc : Thread Cert.KReferenceIdeal.nD Cert.KReferenceIdeal.τ).loc Cert.KReferenceIdeal.main_arg0)
          ∧ r.2.mem ((c.tc : Thread Cert.KReferenceIdeal.nD Cert.KReferenceIdeal.τ).loc Cert.KReferenceIdeal.main_arg1) = m' ((c.tc : Thread Cert.KReferenceIdeal.nD Cert.KReferenceIdeal.τ).loc Cert.KReferenceIdeal.main_arg1))

def preserves_AbKernel_AbKernelIdeal : Prop :=
  True

def algebraic_AbKernelIdeal_AbReferenceIdeal [hAbKernelIdeal : Cert.AbKernelIdeal.Facts] [hAbReferenceIdeal : Cert.AbReferenceIdeal.Facts] : Prop :=
  ∀ (m : (ℓ : Loc Cert.AbKernelIdeal.nD Cert.AbKernelIdeal.τ Cert.AbKernelIdeal.sig) → Buf (Elt Ideal) ℓ) (g : Dev Cert.AbKernelIdeal.nD → PrngReg)
    (m' : (ℓ : Loc Cert.AbReferenceIdeal.nD Cert.AbReferenceIdeal.τ Cert.AbReferenceIdeal.sig) → Buf (Elt Ideal) ℓ) (g' : Dev Cert.AbReferenceIdeal.nD → PrngReg), Pre_AbKernelIdeal m →
    (∀ c : Dev Cert.AbKernelIdeal.nD,
      m' ((c.tc : Thread Cert.AbReferenceIdeal.nD Cert.AbReferenceIdeal.τ).loc Cert.AbReferenceIdeal.main_arg0) = m ((c.tc : Thread Cert.AbKernelIdeal.nD Cert.AbKernelIdeal.τ).loc Cert.AbKernelIdeal.main_arg0)
      ∧ m' ((c.tc : Thread Cert.AbReferenceIdeal.nD Cert.AbReferenceIdeal.τ).loc Cert.AbReferenceIdeal.main_arg1) = m ((c.tc : Thread Cert.AbKernelIdeal.nD Cert.AbKernelIdeal.τ).loc Cert.AbKernelIdeal.main_arg1)
      ∧ m' ((c.tc : Thread Cert.AbReferenceIdeal.nD Cert.AbReferenceIdeal.τ).loc Cert.AbReferenceIdeal.main_arg2) = m ((c.tc : Thread Cert.AbKernelIdeal.nD Cert.AbKernelIdeal.τ).loc Cert.AbKernelIdeal.main_arg2)) →
    ∃ (v0 : (c : Dev Cert.AbKernelIdeal.nD) → Buf (Elt Ideal) ((c.tc : Thread Cert.AbKernelIdeal.nD Cert.AbKernelIdeal.τ).loc Cert.AbKernelIdeal.main_v0)),
      θ_run (Cert.AbKernelIdeal.defs (F := Ideal)) (onTc (τ := Cert.AbKernelIdeal.τ) (Cert.AbKernelIdeal.main (F := Ideal))) ⟨m, fun _ => 0, g⟩ (fun r => ∀ c : Dev Cert.AbKernelIdeal.nD,
          r.2.mem ((c.tc : Thread Cert.AbKernelIdeal.nD Cert.AbKernelIdeal.τ).loc Cert.AbKernelIdeal.main_v0) = v0 c
          ∧ r.2.mem ((c.tc : Thread Cert.AbKernelIdeal.nD Cert.AbKernelIdeal.τ).loc Cert.AbKernelIdeal.main_arg0) = m ((c.tc : Thread Cert.AbKernelIdeal.nD Cert.AbKernelIdeal.τ).loc Cert.AbKernelIdeal.main_arg0)
          ∧ r.2.mem ((c.tc : Thread Cert.AbKernelIdeal.nD Cert.AbKernelIdeal.τ).loc Cert.AbKernelIdeal.main_arg1) = m ((c.tc : Thread Cert.AbKernelIdeal.nD Cert.AbKernelIdeal.τ).loc Cert.AbKernelIdeal.main_arg1)
          ∧ r.2.mem ((c.tc : Thread Cert.AbKernelIdeal.nD Cert.AbKernelIdeal.τ).loc Cert.AbKernelIdeal.main_arg2) = m ((c.tc : Thread Cert.AbKernelIdeal.nD Cert.AbKernelIdeal.τ).loc Cert.AbKernelIdeal.main_arg2))
      ∧ θ_run (Cert.AbReferenceIdeal.defs (F := Ideal)) (onTc (τ := Cert.AbReferenceIdeal.τ) (Cert.AbReferenceIdeal.main (F := Ideal))) ⟨m', fun _ => 0, g'⟩ (fun r => ∀ c : Dev Cert.AbReferenceIdeal.nD,
          r.2.mem ((c.tc : Thread Cert.AbReferenceIdeal.nD Cert.AbReferenceIdeal.τ).loc Cert.AbReferenceIdeal.main_v2) = v0 c
          ∧ r.2.mem ((c.tc : Thread Cert.AbReferenceIdeal.nD Cert.AbReferenceIdeal.τ).loc Cert.AbReferenceIdeal.main_arg0) = m' ((c.tc : Thread Cert.AbReferenceIdeal.nD Cert.AbReferenceIdeal.τ).loc Cert.AbReferenceIdeal.main_arg0)
          ∧ r.2.mem ((c.tc : Thread Cert.AbReferenceIdeal.nD Cert.AbReferenceIdeal.τ).loc Cert.AbReferenceIdeal.main_arg1) = m' ((c.tc : Thread Cert.AbReferenceIdeal.nD Cert.AbReferenceIdeal.τ).loc Cert.AbReferenceIdeal.main_arg1)
          ∧ r.2.mem ((c.tc : Thread Cert.AbReferenceIdeal.nD Cert.AbReferenceIdeal.τ).loc Cert.AbReferenceIdeal.main_arg2) = m' ((c.tc : Thread Cert.AbReferenceIdeal.nD Cert.AbReferenceIdeal.τ).loc Cert.AbReferenceIdeal.main_arg2))

def preserves_CKernel_CKernelIdeal : Prop :=
  True

def algebraic_CKernelIdeal_CReferenceIdeal [hCKernelIdeal : Cert.CKernelIdeal.Facts] [hCReferenceIdeal : Cert.CReferenceIdeal.Facts] : Prop :=
  ∀ (m : (ℓ : Loc Cert.CKernelIdeal.nD Cert.CKernelIdeal.τ Cert.CKernelIdeal.sig) → Buf (Elt Ideal) ℓ) (g : Dev Cert.CKernelIdeal.nD → PrngReg)
    (m' : (ℓ : Loc Cert.CReferenceIdeal.nD Cert.CReferenceIdeal.τ Cert.CReferenceIdeal.sig) → Buf (Elt Ideal) ℓ) (g' : Dev Cert.CReferenceIdeal.nD → PrngReg), Pre_CKernelIdeal m →
    (∀ c : Dev Cert.CKernelIdeal.nD,
      m' ((c.tc : Thread Cert.CReferenceIdeal.nD Cert.CReferenceIdeal.τ).loc Cert.CReferenceIdeal.main_arg0) = m ((c.tc : Thread Cert.CKernelIdeal.nD Cert.CKernelIdeal.τ).loc Cert.CKernelIdeal.main_arg0)
      ∧ m' ((c.tc : Thread Cert.CReferenceIdeal.nD Cert.CReferenceIdeal.τ).loc Cert.CReferenceIdeal.main_arg1) = m ((c.tc : Thread Cert.CKernelIdeal.nD Cert.CKernelIdeal.τ).loc Cert.CKernelIdeal.main_arg1)
      ∧ m' ((c.tc : Thread Cert.CReferenceIdeal.nD Cert.CReferenceIdeal.τ).loc Cert.CReferenceIdeal.main_arg2) = m ((c.tc : Thread Cert.CKernelIdeal.nD Cert.CKernelIdeal.τ).loc Cert.CKernelIdeal.main_arg2)) →
    ∃ (v0 : (c : Dev Cert.CKernelIdeal.nD) → Buf (Elt Ideal) ((c.tc : Thread Cert.CKernelIdeal.nD Cert.CKernelIdeal.τ).loc Cert.CKernelIdeal.main_v0)),
      θ_run (Cert.CKernelIdeal.defs (F := Ideal)) (onTc (τ := Cert.CKernelIdeal.τ) (Cert.CKernelIdeal.main (F := Ideal))) ⟨m, fun _ => 0, g⟩ (fun r => ∀ c : Dev Cert.CKernelIdeal.nD,
          r.2.mem ((c.tc : Thread Cert.CKernelIdeal.nD Cert.CKernelIdeal.τ).loc Cert.CKernelIdeal.main_v0) = v0 c
          ∧ r.2.mem ((c.tc : Thread Cert.CKernelIdeal.nD Cert.CKernelIdeal.τ).loc Cert.CKernelIdeal.main_arg0) = m ((c.tc : Thread Cert.CKernelIdeal.nD Cert.CKernelIdeal.τ).loc Cert.CKernelIdeal.main_arg0)
          ∧ r.2.mem ((c.tc : Thread Cert.CKernelIdeal.nD Cert.CKernelIdeal.τ).loc Cert.CKernelIdeal.main_arg1) = m ((c.tc : Thread Cert.CKernelIdeal.nD Cert.CKernelIdeal.τ).loc Cert.CKernelIdeal.main_arg1)
          ∧ r.2.mem ((c.tc : Thread Cert.CKernelIdeal.nD Cert.CKernelIdeal.τ).loc Cert.CKernelIdeal.main_arg2) = m ((c.tc : Thread Cert.CKernelIdeal.nD Cert.CKernelIdeal.τ).loc Cert.CKernelIdeal.main_arg2))
      ∧ θ_run (Cert.CReferenceIdeal.defs (F := Ideal)) (onTc (τ := Cert.CReferenceIdeal.τ) (Cert.CReferenceIdeal.main (F := Ideal))) ⟨m', fun _ => 0, g'⟩ (fun r => ∀ c : Dev Cert.CReferenceIdeal.nD,
          r.2.mem ((c.tc : Thread Cert.CReferenceIdeal.nD Cert.CReferenceIdeal.τ).loc Cert.CReferenceIdeal.main_v2) = v0 c
          ∧ r.2.mem ((c.tc : Thread Cert.CReferenceIdeal.nD Cert.CReferenceIdeal.τ).loc Cert.CReferenceIdeal.main_arg0) = m' ((c.tc : Thread Cert.CReferenceIdeal.nD Cert.CReferenceIdeal.τ).loc Cert.CReferenceIdeal.main_arg0)
          ∧ r.2.mem ((c.tc : Thread Cert.CReferenceIdeal.nD Cert.CReferenceIdeal.τ).loc Cert.CReferenceIdeal.main_arg1) = m' ((c.tc : Thread Cert.CReferenceIdeal.nD Cert.CReferenceIdeal.τ).loc Cert.CReferenceIdeal.main_arg1)
          ∧ r.2.mem ((c.tc : Thread Cert.CReferenceIdeal.nD Cert.CReferenceIdeal.τ).loc Cert.CReferenceIdeal.main_arg2) = m' ((c.tc : Thread Cert.CReferenceIdeal.nD Cert.CReferenceIdeal.τ).loc Cert.CReferenceIdeal.main_arg2))

def preserves_CkvKernel_CkvKernelIdeal : Prop :=
  True

def algebraic_CkvKernelIdeal_CkvReferenceIdeal [hCkvKernelIdeal : Cert.CkvKernelIdeal.Facts] [hCkvReferenceIdeal : Cert.CkvReferenceIdeal.Facts] : Prop :=
  ∀ (m : (ℓ : Loc Cert.CkvKernelIdeal.nD Cert.CkvKernelIdeal.τ Cert.CkvKernelIdeal.sig) → Buf (Elt Ideal) ℓ) (g : Dev Cert.CkvKernelIdeal.nD → PrngReg)
    (m' : (ℓ : Loc Cert.CkvReferenceIdeal.nD Cert.CkvReferenceIdeal.τ Cert.CkvReferenceIdeal.sig) → Buf (Elt Ideal) ℓ) (g' : Dev Cert.CkvReferenceIdeal.nD → PrngReg), Pre_CkvKernelIdeal m →
    (∀ c : Dev Cert.CkvKernelIdeal.nD,
      m' ((c.tc : Thread Cert.CkvReferenceIdeal.nD Cert.CkvReferenceIdeal.τ).loc Cert.CkvReferenceIdeal.main_arg0) = m ((c.tc : Thread Cert.CkvKernelIdeal.nD Cert.CkvKernelIdeal.τ).loc Cert.CkvKernelIdeal.main_arg0)
      ∧ m' ((c.tc : Thread Cert.CkvReferenceIdeal.nD Cert.CkvReferenceIdeal.τ).loc Cert.CkvReferenceIdeal.main_arg1) = m ((c.tc : Thread Cert.CkvKernelIdeal.nD Cert.CkvKernelIdeal.τ).loc Cert.CkvKernelIdeal.main_arg1)) →
    ∃ (v0 : (c : Dev Cert.CkvKernelIdeal.nD) → Buf (Elt Ideal) ((c.tc : Thread Cert.CkvKernelIdeal.nD Cert.CkvKernelIdeal.τ).loc Cert.CkvKernelIdeal.main_v0)),
      θ_run (Cert.CkvKernelIdeal.defs (F := Ideal)) (onTc (τ := Cert.CkvKernelIdeal.τ) (Cert.CkvKernelIdeal.main (F := Ideal))) ⟨m, fun _ => 0, g⟩ (fun r => ∀ c : Dev Cert.CkvKernelIdeal.nD,
          r.2.mem ((c.tc : Thread Cert.CkvKernelIdeal.nD Cert.CkvKernelIdeal.τ).loc Cert.CkvKernelIdeal.main_v0) = v0 c
          ∧ r.2.mem ((c.tc : Thread Cert.CkvKernelIdeal.nD Cert.CkvKernelIdeal.τ).loc Cert.CkvKernelIdeal.main_arg0) = m ((c.tc : Thread Cert.CkvKernelIdeal.nD Cert.CkvKernelIdeal.τ).loc Cert.CkvKernelIdeal.main_arg0)
          ∧ r.2.mem ((c.tc : Thread Cert.CkvKernelIdeal.nD Cert.CkvKernelIdeal.τ).loc Cert.CkvKernelIdeal.main_arg1) = m ((c.tc : Thread Cert.CkvKernelIdeal.nD Cert.CkvKernelIdeal.τ).loc Cert.CkvKernelIdeal.main_arg1))
      ∧ θ_run (Cert.CkvReferenceIdeal.defs (F := Ideal)) (onTc (τ := Cert.CkvReferenceIdeal.τ) (Cert.CkvReferenceIdeal.main (F := Ideal))) ⟨m', fun _ => 0, g'⟩ (fun r => ∀ c : Dev Cert.CkvReferenceIdeal.nD,
          r.2.mem ((c.tc : Thread Cert.CkvReferenceIdeal.nD Cert.CkvReferenceIdeal.τ).loc Cert.CkvReferenceIdeal.main_v3) = v0 c
          ∧ r.2.mem ((c.tc : Thread Cert.CkvReferenceIdeal.nD Cert.CkvReferenceIdeal.τ).loc Cert.CkvReferenceIdeal.main_arg0) = m' ((c.tc : Thread Cert.CkvReferenceIdeal.nD Cert.CkvReferenceIdeal.τ).loc Cert.CkvReferenceIdeal.main_arg0)
          ∧ r.2.mem ((c.tc : Thread Cert.CkvReferenceIdeal.nD Cert.CkvReferenceIdeal.τ).loc Cert.CkvReferenceIdeal.main_arg1) = m' ((c.tc : Thread Cert.CkvReferenceIdeal.nD Cert.CkvReferenceIdeal.τ).loc Cert.CkvReferenceIdeal.main_arg1))

def preserves_MemFKernel_MemFKernelIdeal : Prop :=
  True

def algebraic_MemFKernelIdeal_MemFReferenceIdeal [hMemFKernelIdeal : Cert.MemFKernelIdeal.Facts] [hMemFReferenceIdeal : Cert.MemFReferenceIdeal.Facts] : Prop :=
  ∀ (m : (ℓ : Loc Cert.MemFKernelIdeal.nD Cert.MemFKernelIdeal.τ Cert.MemFKernelIdeal.sig) → Buf (Elt Ideal) ℓ) (g : Dev Cert.MemFKernelIdeal.nD → PrngReg)
    (m' : (ℓ : Loc Cert.MemFReferenceIdeal.nD Cert.MemFReferenceIdeal.τ Cert.MemFReferenceIdeal.sig) → Buf (Elt Ideal) ℓ) (g' : Dev Cert.MemFReferenceIdeal.nD → PrngReg), Pre_MemFKernelIdeal m →
    (∀ c : Dev Cert.MemFKernelIdeal.nD,
      m' ((c.tc : Thread Cert.MemFReferenceIdeal.nD Cert.MemFReferenceIdeal.τ).loc Cert.MemFReferenceIdeal.main_arg0) = m ((c.tc : Thread Cert.MemFKernelIdeal.nD Cert.MemFKernelIdeal.τ).loc Cert.MemFKernelIdeal.main_arg0)
      ∧ m' ((c.tc : Thread Cert.MemFReferenceIdeal.nD Cert.MemFReferenceIdeal.τ).loc Cert.MemFReferenceIdeal.main_arg1) = m ((c.tc : Thread Cert.MemFKernelIdeal.nD Cert.MemFKernelIdeal.τ).loc Cert.MemFKernelIdeal.main_arg1)
      ∧ m' ((c.tc : Thread Cert.MemFReferenceIdeal.nD Cert.MemFReferenceIdeal.τ).loc Cert.MemFReferenceIdeal.main_arg2) = m ((c.tc : Thread Cert.MemFKernelIdeal.nD Cert.MemFKernelIdeal.τ).loc Cert.MemFKernelIdeal.main_arg2)) →
    ∃ (v0 : (c : Dev Cert.MemFKernelIdeal.nD) → Buf (Elt Ideal) ((c.tc : Thread Cert.MemFKernelIdeal.nD Cert.MemFKernelIdeal.τ).loc Cert.MemFKernelIdeal.main_v0)),
      θ_run (Cert.MemFKernelIdeal.defs (F := Ideal)) (onTc (τ := Cert.MemFKernelIdeal.τ) (Cert.MemFKernelIdeal.main (F := Ideal))) ⟨m, fun _ => 0, g⟩ (fun r => ∀ c : Dev Cert.MemFKernelIdeal.nD,
          r.2.mem ((c.tc : Thread Cert.MemFKernelIdeal.nD Cert.MemFKernelIdeal.τ).loc Cert.MemFKernelIdeal.main_v0) = v0 c
          ∧ r.2.mem ((c.tc : Thread Cert.MemFKernelIdeal.nD Cert.MemFKernelIdeal.τ).loc Cert.MemFKernelIdeal.main_arg0) = m ((c.tc : Thread Cert.MemFKernelIdeal.nD Cert.MemFKernelIdeal.τ).loc Cert.MemFKernelIdeal.main_arg0)
          ∧ r.2.mem ((c.tc : Thread Cert.MemFKernelIdeal.nD Cert.MemFKernelIdeal.τ).loc Cert.MemFKernelIdeal.main_arg1) = m ((c.tc : Thread Cert.MemFKernelIdeal.nD Cert.MemFKernelIdeal.τ).loc Cert.MemFKernelIdeal.main_arg1)
          ∧ r.2.mem ((c.tc : Thread Cert.MemFKernelIdeal.nD Cert.MemFKernelIdeal.τ).loc Cert.MemFKernelIdeal.main_arg2) = m ((c.tc : Thread Cert.MemFKernelIdeal.nD Cert.MemFKernelIdeal.τ).loc Cert.MemFKernelIdeal.main_arg2))
      ∧ θ_run (Cert.MemFReferenceIdeal.defs (F := Ideal)) (onTc (τ := Cert.MemFReferenceIdeal.τ) (Cert.MemFReferenceIdeal.main (F := Ideal))) ⟨m', fun _ => 0, g'⟩ (fun r => ∀ c : Dev Cert.MemFReferenceIdeal.nD,
          r.2.mem ((c.tc : Thread Cert.MemFReferenceIdeal.nD Cert.MemFReferenceIdeal.τ).loc Cert.MemFReferenceIdeal.main_v23) = v0 c
          ∧ r.2.mem ((c.tc : Thread Cert.MemFReferenceIdeal.nD Cert.MemFReferenceIdeal.τ).loc Cert.MemFReferenceIdeal.main_arg0) = m' ((c.tc : Thread Cert.MemFReferenceIdeal.nD Cert.MemFReferenceIdeal.τ).loc Cert.MemFReferenceIdeal.main_arg0)
          ∧ r.2.mem ((c.tc : Thread Cert.MemFReferenceIdeal.nD Cert.MemFReferenceIdeal.τ).loc Cert.MemFReferenceIdeal.main_arg1) = m' ((c.tc : Thread Cert.MemFReferenceIdeal.nD Cert.MemFReferenceIdeal.τ).loc Cert.MemFReferenceIdeal.main_arg1)
          ∧ r.2.mem ((c.tc : Thread Cert.MemFReferenceIdeal.nD Cert.MemFReferenceIdeal.τ).loc Cert.MemFReferenceIdeal.main_arg2) = m' ((c.tc : Thread Cert.MemFReferenceIdeal.nD Cert.MemFReferenceIdeal.τ).loc Cert.MemFReferenceIdeal.main_arg2))

def preserves_NormFKernel_NormFKernelIdeal : Prop :=
  True

def algebraic_NormFKernelIdeal_NormFReferenceIdeal [hNormFKernelIdeal : Cert.NormFKernelIdeal.Facts] [hNormFReferenceIdeal : Cert.NormFReferenceIdeal.Facts] : Prop :=
  ∀ (m : (ℓ : Loc Cert.NormFKernelIdeal.nD Cert.NormFKernelIdeal.τ Cert.NormFKernelIdeal.sig) → Buf (Elt Ideal) ℓ) (g : Dev Cert.NormFKernelIdeal.nD → PrngReg)
    (m' : (ℓ : Loc Cert.NormFReferenceIdeal.nD Cert.NormFReferenceIdeal.τ Cert.NormFReferenceIdeal.sig) → Buf (Elt Ideal) ℓ) (g' : Dev Cert.NormFReferenceIdeal.nD → PrngReg), Pre_NormFKernelIdeal m →
    (∀ c : Dev Cert.NormFKernelIdeal.nD,
      m' ((c.tc : Thread Cert.NormFReferenceIdeal.nD Cert.NormFReferenceIdeal.τ).loc Cert.NormFReferenceIdeal.main_arg0) = m ((c.tc : Thread Cert.NormFKernelIdeal.nD Cert.NormFKernelIdeal.τ).loc Cert.NormFKernelIdeal.main_arg0)
      ∧ m' ((c.tc : Thread Cert.NormFReferenceIdeal.nD Cert.NormFReferenceIdeal.τ).loc Cert.NormFReferenceIdeal.main_arg1) = m ((c.tc : Thread Cert.NormFKernelIdeal.nD Cert.NormFKernelIdeal.τ).loc Cert.NormFKernelIdeal.main_arg1)) →
    ∃ (v0 : (c : Dev Cert.NormFKernelIdeal.nD) → Buf (Elt Ideal) ((c.tc : Thread Cert.NormFKernelIdeal.nD Cert.NormFKernelIdeal.τ).loc Cert.NormFKernelIdeal.main_v1)),
      θ_run (Cert.NormFKernelIdeal.defs (F := Ideal)) (onTc (τ := Cert.NormFKernelIdeal.τ) (Cert.NormFKernelIdeal.main (F := Ideal))) ⟨m, fun _ => 0, g⟩ (fun r => ∀ c : Dev Cert.NormFKernelIdeal.nD,
          r.2.mem ((c.tc : Thread Cert.NormFKernelIdeal.nD Cert.NormFKernelIdeal.τ).loc Cert.NormFKernelIdeal.main_v1) = v0 c
          ∧ r.2.mem ((c.tc : Thread Cert.NormFKernelIdeal.nD Cert.NormFKernelIdeal.τ).loc Cert.NormFKernelIdeal.main_arg0) = m ((c.tc : Thread Cert.NormFKernelIdeal.nD Cert.NormFKernelIdeal.τ).loc Cert.NormFKernelIdeal.main_arg0)
          ∧ r.2.mem ((c.tc : Thread Cert.NormFKernelIdeal.nD Cert.NormFKernelIdeal.τ).loc Cert.NormFKernelIdeal.main_arg1) = m ((c.tc : Thread Cert.NormFKernelIdeal.nD Cert.NormFKernelIdeal.τ).loc Cert.NormFKernelIdeal.main_arg1))
      ∧ θ_run (Cert.NormFReferenceIdeal.defs (F := Ideal)) (onTc (τ := Cert.NormFReferenceIdeal.τ) (Cert.NormFReferenceIdeal.main (F := Ideal))) ⟨m', fun _ => 0, g'⟩ (fun r => ∀ c : Dev Cert.NormFReferenceIdeal.nD,
          r.2.mem ((c.tc : Thread Cert.NormFReferenceIdeal.nD Cert.NormFReferenceIdeal.τ).loc Cert.NormFReferenceIdeal.main_v13) = v0 c
          ∧ r.2.mem ((c.tc : Thread Cert.NormFReferenceIdeal.nD Cert.NormFReferenceIdeal.τ).loc Cert.NormFReferenceIdeal.main_arg0) = m' ((c.tc : Thread Cert.NormFReferenceIdeal.nD Cert.NormFReferenceIdeal.τ).loc Cert.NormFReferenceIdeal.main_arg0)
          ∧ r.2.mem ((c.tc : Thread Cert.NormFReferenceIdeal.nD Cert.NormFReferenceIdeal.τ).loc Cert.NormFReferenceIdeal.main_arg1) = m' ((c.tc : Thread Cert.NormFReferenceIdeal.nD Cert.NormFReferenceIdeal.τ).loc Cert.NormFReferenceIdeal.main_arg1))

def preserves_MlafKernel_MlafKernelIdeal : Prop :=
  IdealRules.named_const.Statement Cert.MlafKernelIdeal.κ "mask" .f32 0xF149F2CA#32 ⊥

def algebraic_MlafKernelIdeal_MlafReferenceIdeal_pre_mlaf_finite [hMlafKernelIdeal : Cert.MlafKernelIdeal.Facts] [hMlafReferenceIdeal : Cert.MlafReferenceIdeal.Facts] [hPre_mlaf_finite : Cert.Pre_mlaf_finite.Facts] : Prop :=
  ∀ (m : (ℓ : Loc Cert.MlafKernelIdeal.nD Cert.MlafKernelIdeal.τ Cert.MlafKernelIdeal.sig) → Buf (Elt Ideal) ℓ) (g : Dev Cert.MlafKernelIdeal.nD → PrngReg)
    (m' : (ℓ : Loc Cert.MlafReferenceIdeal.nD Cert.MlafReferenceIdeal.τ Cert.MlafReferenceIdeal.sig) → Buf (Elt Ideal) ℓ) (g' : Dev Cert.MlafReferenceIdeal.nD → PrngReg), Pre_MlafKernelIdeal_mlaf_finite m →
    (∀ c : Dev Cert.MlafKernelIdeal.nD,
      m' ((c.tc : Thread Cert.MlafReferenceIdeal.nD Cert.MlafReferenceIdeal.τ).loc Cert.MlafReferenceIdeal.main_arg0) = m ((c.tc : Thread Cert.MlafKernelIdeal.nD Cert.MlafKernelIdeal.τ).loc Cert.MlafKernelIdeal.main_arg0)
      ∧ m' ((c.tc : Thread Cert.MlafReferenceIdeal.nD Cert.MlafReferenceIdeal.τ).loc Cert.MlafReferenceIdeal.main_arg1) = m ((c.tc : Thread Cert.MlafKernelIdeal.nD Cert.MlafKernelIdeal.τ).loc Cert.MlafKernelIdeal.main_arg1)
      ∧ m' ((c.tc : Thread Cert.MlafReferenceIdeal.nD Cert.MlafReferenceIdeal.τ).loc Cert.MlafReferenceIdeal.main_arg2) = m ((c.tc : Thread Cert.MlafKernelIdeal.nD Cert.MlafKernelIdeal.τ).loc Cert.MlafKernelIdeal.main_arg2)) →
    ∃ (v0 : (c : Dev Cert.MlafKernelIdeal.nD) → Buf (Elt Ideal) ((c.tc : Thread Cert.MlafKernelIdeal.nD Cert.MlafKernelIdeal.τ).loc Cert.MlafKernelIdeal.main_v0_0)) (v1 : (c : Dev Cert.MlafKernelIdeal.nD) → Buf (Elt Ideal) ((c.tc : Thread Cert.MlafKernelIdeal.nD Cert.MlafKernelIdeal.τ).loc Cert.MlafKernelIdeal.main_v0_1)),
      θ_run (Cert.MlafKernelIdeal.defs (F := Ideal)) (onTc (τ := Cert.MlafKernelIdeal.τ) (Cert.MlafKernelIdeal.main (F := Ideal))) ⟨m, fun _ => 0, g⟩ (fun r => ∀ c : Dev Cert.MlafKernelIdeal.nD,
          r.2.mem ((c.tc : Thread Cert.MlafKernelIdeal.nD Cert.MlafKernelIdeal.τ).loc Cert.MlafKernelIdeal.main_v0_0) = v0 c
          ∧ r.2.mem ((c.tc : Thread Cert.MlafKernelIdeal.nD Cert.MlafKernelIdeal.τ).loc Cert.MlafKernelIdeal.main_v0_1) = v1 c
          ∧ r.2.mem ((c.tc : Thread Cert.MlafKernelIdeal.nD Cert.MlafKernelIdeal.τ).loc Cert.MlafKernelIdeal.main_arg0) = m ((c.tc : Thread Cert.MlafKernelIdeal.nD Cert.MlafKernelIdeal.τ).loc Cert.MlafKernelIdeal.main_arg0)
          ∧ r.2.mem ((c.tc : Thread Cert.MlafKernelIdeal.nD Cert.MlafKernelIdeal.τ).loc Cert.MlafKernelIdeal.main_arg1) = m ((c.tc : Thread Cert.MlafKernelIdeal.nD Cert.MlafKernelIdeal.τ).loc Cert.MlafKernelIdeal.main_arg1)
          ∧ r.2.mem ((c.tc : Thread Cert.MlafKernelIdeal.nD Cert.MlafKernelIdeal.τ).loc Cert.MlafKernelIdeal.main_arg2) = m ((c.tc : Thread Cert.MlafKernelIdeal.nD Cert.MlafKernelIdeal.τ).loc Cert.MlafKernelIdeal.main_arg2))
      ∧ θ_run (Cert.MlafReferenceIdeal.defs (F := Ideal)) (onTc (τ := Cert.MlafReferenceIdeal.τ) (Cert.MlafReferenceIdeal.main (F := Ideal))) ⟨m', fun _ => 0, g'⟩ (fun r => ∀ c : Dev Cert.MlafReferenceIdeal.nD,
          r.2.mem ((c.tc : Thread Cert.MlafReferenceIdeal.nD Cert.MlafReferenceIdeal.τ).loc Cert.MlafReferenceIdeal.main_v49) = v0 c
          ∧ r.2.mem ((c.tc : Thread Cert.MlafReferenceIdeal.nD Cert.MlafReferenceIdeal.τ).loc Cert.MlafReferenceIdeal.main_v51) = v1 c
          ∧ r.2.mem ((c.tc : Thread Cert.MlafReferenceIdeal.nD Cert.MlafReferenceIdeal.τ).loc Cert.MlafReferenceIdeal.main_arg0) = m' ((c.tc : Thread Cert.MlafReferenceIdeal.nD Cert.MlafReferenceIdeal.τ).loc Cert.MlafReferenceIdeal.main_arg0)
          ∧ r.2.mem ((c.tc : Thread Cert.MlafReferenceIdeal.nD Cert.MlafReferenceIdeal.τ).loc Cert.MlafReferenceIdeal.main_arg1) = m' ((c.tc : Thread Cert.MlafReferenceIdeal.nD Cert.MlafReferenceIdeal.τ).loc Cert.MlafReferenceIdeal.main_arg1)
          ∧ r.2.mem ((c.tc : Thread Cert.MlafReferenceIdeal.nD Cert.MlafReferenceIdeal.τ).loc Cert.MlafReferenceIdeal.main_arg2) = m' ((c.tc : Thread Cert.MlafReferenceIdeal.nD Cert.MlafReferenceIdeal.τ).loc Cert.MlafReferenceIdeal.main_arg2))

def preserves_MlabKernel_MlabKernelIdeal : Prop :=
  IdealRules.named_const.Statement Cert.MlabKernelIdeal.κ "mask" .f32 0xF149F2CA#32 ⊥

def algebraic_MlabKernelIdeal_MlabReferenceIdeal_pre_mlab_finite [hMlabKernelIdeal : Cert.MlabKernelIdeal.Facts] [hMlabReferenceIdeal : Cert.MlabReferenceIdeal.Facts] [hPre_mlab_finite : Cert.Pre_mlab_finite.Facts] : Prop :=
  ∀ (m : (ℓ : Loc Cert.MlabKernelIdeal.nD Cert.MlabKernelIdeal.τ Cert.MlabKernelIdeal.sig) → Buf (Elt Ideal) ℓ) (g : Dev Cert.MlabKernelIdeal.nD → PrngReg)
    (m' : (ℓ : Loc Cert.MlabReferenceIdeal.nD Cert.MlabReferenceIdeal.τ Cert.MlabReferenceIdeal.sig) → Buf (Elt Ideal) ℓ) (g' : Dev Cert.MlabReferenceIdeal.nD → PrngReg), Pre_MlabKernelIdeal_mlab_finite m →
    (∀ c : Dev Cert.MlabKernelIdeal.nD,
      m' ((c.tc : Thread Cert.MlabReferenceIdeal.nD Cert.MlabReferenceIdeal.τ).loc Cert.MlabReferenceIdeal.main_arg0) = m ((c.tc : Thread Cert.MlabKernelIdeal.nD Cert.MlabKernelIdeal.τ).loc Cert.MlabKernelIdeal.main_arg0)
      ∧ m' ((c.tc : Thread Cert.MlabReferenceIdeal.nD Cert.MlabReferenceIdeal.τ).loc Cert.MlabReferenceIdeal.main_arg1) = m ((c.tc : Thread Cert.MlabKernelIdeal.nD Cert.MlabKernelIdeal.τ).loc Cert.MlabKernelIdeal.main_arg1)
      ∧ m' ((c.tc : Thread Cert.MlabReferenceIdeal.nD Cert.MlabReferenceIdeal.τ).loc Cert.MlabReferenceIdeal.main_arg2) = m ((c.tc : Thread Cert.MlabKernelIdeal.nD Cert.MlabKernelIdeal.τ).loc Cert.MlabKernelIdeal.main_arg2)
      ∧ m' ((c.tc : Thread Cert.MlabReferenceIdeal.nD Cert.MlabReferenceIdeal.τ).loc Cert.MlabReferenceIdeal.main_arg3) = m ((c.tc : Thread Cert.MlabKernelIdeal.nD Cert.MlabKernelIdeal.τ).loc Cert.MlabKernelIdeal.main_arg3)
      ∧ m' ((c.tc : Thread Cert.MlabReferenceIdeal.nD Cert.MlabReferenceIdeal.τ).loc Cert.MlabReferenceIdeal.main_arg4) = m ((c.tc : Thread Cert.MlabKernelIdeal.nD Cert.MlabKernelIdeal.τ).loc Cert.MlabKernelIdeal.main_arg4)
      ∧ m' ((c.tc : Thread Cert.MlabReferenceIdeal.nD Cert.MlabReferenceIdeal.τ).loc Cert.MlabReferenceIdeal.main_arg5) = m ((c.tc : Thread Cert.MlabKernelIdeal.nD Cert.MlabKernelIdeal.τ).loc Cert.MlabKernelIdeal.main_arg5)) →
    ∃ (v0 : (c : Dev Cert.MlabKernelIdeal.nD) → Buf (Elt Ideal) ((c.tc : Thread Cert.MlabKernelIdeal.nD Cert.MlabKernelIdeal.τ).loc Cert.MlabKernelIdeal.main_v57_0)),
      θ_run (Cert.MlabKernelIdeal.defs (F := Ideal)) (onTc (τ := Cert.MlabKernelIdeal.τ) (Cert.MlabKernelIdeal.main (F := Ideal))) ⟨m, fun _ => 0, g⟩ (fun r => ∀ c : Dev Cert.MlabKernelIdeal.nD,
          r.2.mem ((c.tc : Thread Cert.MlabKernelIdeal.nD Cert.MlabKernelIdeal.τ).loc Cert.MlabKernelIdeal.main_v57_0) = v0 c
          ∧ r.2.mem ((c.tc : Thread Cert.MlabKernelIdeal.nD Cert.MlabKernelIdeal.τ).loc Cert.MlabKernelIdeal.main_arg0) = m ((c.tc : Thread Cert.MlabKernelIdeal.nD Cert.MlabKernelIdeal.τ).loc Cert.MlabKernelIdeal.main_arg0)
          ∧ r.2.mem ((c.tc : Thread Cert.MlabKernelIdeal.nD Cert.MlabKernelIdeal.τ).loc Cert.MlabKernelIdeal.main_arg1) = m ((c.tc : Thread Cert.MlabKernelIdeal.nD Cert.MlabKernelIdeal.τ).loc Cert.MlabKernelIdeal.main_arg1)
          ∧ r.2.mem ((c.tc : Thread Cert.MlabKernelIdeal.nD Cert.MlabKernelIdeal.τ).loc Cert.MlabKernelIdeal.main_arg2) = m ((c.tc : Thread Cert.MlabKernelIdeal.nD Cert.MlabKernelIdeal.τ).loc Cert.MlabKernelIdeal.main_arg2)
          ∧ r.2.mem ((c.tc : Thread Cert.MlabKernelIdeal.nD Cert.MlabKernelIdeal.τ).loc Cert.MlabKernelIdeal.main_arg3) = m ((c.tc : Thread Cert.MlabKernelIdeal.nD Cert.MlabKernelIdeal.τ).loc Cert.MlabKernelIdeal.main_arg3)
          ∧ r.2.mem ((c.tc : Thread Cert.MlabKernelIdeal.nD Cert.MlabKernelIdeal.τ).loc Cert.MlabKernelIdeal.main_arg4) = m ((c.tc : Thread Cert.MlabKernelIdeal.nD Cert.MlabKernelIdeal.τ).loc Cert.MlabKernelIdeal.main_arg4)
          ∧ r.2.mem ((c.tc : Thread Cert.MlabKernelIdeal.nD Cert.MlabKernelIdeal.τ).loc Cert.MlabKernelIdeal.main_arg5) = m ((c.tc : Thread Cert.MlabKernelIdeal.nD Cert.MlabKernelIdeal.τ).loc Cert.MlabKernelIdeal.main_arg5))
      ∧ θ_run (Cert.MlabReferenceIdeal.defs (F := Ideal)) (onTc (τ := Cert.MlabReferenceIdeal.τ) (Cert.MlabReferenceIdeal.main (F := Ideal))) ⟨m', fun _ => 0, g'⟩ (fun r => ∀ c : Dev Cert.MlabReferenceIdeal.nD,
          r.2.mem ((c.tc : Thread Cert.MlabReferenceIdeal.nD Cert.MlabReferenceIdeal.τ).loc Cert.MlabReferenceIdeal.main_v141) = v0 c
          ∧ r.2.mem ((c.tc : Thread Cert.MlabReferenceIdeal.nD Cert.MlabReferenceIdeal.τ).loc Cert.MlabReferenceIdeal.main_arg0) = m' ((c.tc : Thread Cert.MlabReferenceIdeal.nD Cert.MlabReferenceIdeal.τ).loc Cert.MlabReferenceIdeal.main_arg0)
          ∧ r.2.mem ((c.tc : Thread Cert.MlabReferenceIdeal.nD Cert.MlabReferenceIdeal.τ).loc Cert.MlabReferenceIdeal.main_arg1) = m' ((c.tc : Thread Cert.MlabReferenceIdeal.nD Cert.MlabReferenceIdeal.τ).loc Cert.MlabReferenceIdeal.main_arg1)
          ∧ r.2.mem ((c.tc : Thread Cert.MlabReferenceIdeal.nD Cert.MlabReferenceIdeal.τ).loc Cert.MlabReferenceIdeal.main_arg2) = m' ((c.tc : Thread Cert.MlabReferenceIdeal.nD Cert.MlabReferenceIdeal.τ).loc Cert.MlabReferenceIdeal.main_arg2)
          ∧ r.2.mem ((c.tc : Thread Cert.MlabReferenceIdeal.nD Cert.MlabReferenceIdeal.τ).loc Cert.MlabReferenceIdeal.main_arg3) = m' ((c.tc : Thread Cert.MlabReferenceIdeal.nD Cert.MlabReferenceIdeal.τ).loc Cert.MlabReferenceIdeal.main_arg3)
          ∧ r.2.mem ((c.tc : Thread Cert.MlabReferenceIdeal.nD Cert.MlabReferenceIdeal.τ).loc Cert.MlabReferenceIdeal.main_arg4) = m' ((c.tc : Thread Cert.MlabReferenceIdeal.nD Cert.MlabReferenceIdeal.τ).loc Cert.MlabReferenceIdeal.main_arg4)
          ∧ r.2.mem ((c.tc : Thread Cert.MlabReferenceIdeal.nD Cert.MlabReferenceIdeal.τ).loc Cert.MlabReferenceIdeal.main_arg5) = m' ((c.tc : Thread Cert.MlabReferenceIdeal.nD Cert.MlabReferenceIdeal.τ).loc Cert.MlabReferenceIdeal.main_arg5))

def Claim : Prop :=
  ∃ (hMemKernel : Cert.MemKernel.Facts) (hMemKernelIdeal : Cert.MemKernelIdeal.Facts) (hMemReferenceIdeal : Cert.MemReferenceIdeal.Facts) (hNormKernel : Cert.NormKernel.Facts) (hNormKernelIdeal : Cert.NormKernelIdeal.Facts) (hNormReferenceIdeal : Cert.NormReferenceIdeal.Facts) (hF2dxKernel : Cert.F2dxKernel.Facts) (hF2dxKernelIdeal : Cert.F2dxKernelIdeal.Facts) (hF2dxReferenceIdeal : Cert.F2dxReferenceIdeal.Facts) (hF2dwKernel : Cert.F2dwKernel.Facts) (hF2dwKernelIdeal : Cert.F2dwKernelIdeal.Facts) (hF2dwReferenceIdeal : Cert.F2dwReferenceIdeal.Facts) (hF1dwKernel : Cert.F1dwKernel.Facts) (hF1dwKernelIdeal : Cert.F1dwKernelIdeal.Facts) (hF1dwReferenceIdeal : Cert.F1dwReferenceIdeal.Facts) (hF1dxKernel : Cert.F1dxKernel.Facts) (hF1dxKernelIdeal : Cert.F1dxKernelIdeal.Facts) (hF1dxReferenceIdeal : Cert.F1dxReferenceIdeal.Facts) (hOdxKernel : Cert.OdxKernel.Facts) (hOdxKernelIdeal : Cert.OdxKernelIdeal.Facts) (hOdxReferenceIdeal : Cert.OdxReferenceIdeal.Facts) (hOdwKernel : Cert.OdwKernel.Facts) (hOdwKernelIdeal : Cert.OdwKernelIdeal.Facts) (hOdwReferenceIdeal : Cert.OdwReferenceIdeal.Facts) (hQdwKernel : Cert.QdwKernel.Facts) (hQdwKernelIdeal : Cert.QdwKernelIdeal.Facts) (hQdwReferenceIdeal : Cert.QdwReferenceIdeal.Facts) (hQdxKernel : Cert.QdxKernel.Facts) (hQdxKernelIdeal : Cert.QdxKernelIdeal.Facts) (hQdxReferenceIdeal : Cert.QdxReferenceIdeal.Facts) (hKdwKernel : Cert.KdwKernel.Facts) (hKdwKernelIdeal : Cert.KdwKernelIdeal.Facts) (hKdwReferenceIdeal : Cert.KdwReferenceIdeal.Facts) (hKdxKernel : Cert.KdxKernel.Facts) (hKdxKernelIdeal : Cert.KdxKernelIdeal.Facts) (hKdxReferenceIdeal : Cert.KdxReferenceIdeal.Facts) (hVdxKernel : Cert.VdxKernel.Facts) (hVdxKernelIdeal : Cert.VdxKernelIdeal.Facts) (hVdxReferenceIdeal : Cert.VdxReferenceIdeal.Facts) (hAbdwKernel : Cert.AbdwKernel.Facts) (hAbdwKernelIdeal : Cert.AbdwKernelIdeal.Facts) (hAbdwReferenceIdeal : Cert.AbdwReferenceIdeal.Facts) (hAbdxKernel : Cert.AbdxKernel.Facts) (hAbdxKernelIdeal : Cert.AbdxKernelIdeal.Facts) (hAbdxReferenceIdeal : Cert.AbdxReferenceIdeal.Facts) (hCdwKernel : Cert.CdwKernel.Facts) (hCdwKernelIdeal : Cert.CdwKernelIdeal.Facts) (hCdwReferenceIdeal : Cert.CdwReferenceIdeal.Facts) (hCdxKernel : Cert.CdxKernel.Facts) (hCdxKernelIdeal : Cert.CdxKernelIdeal.Facts) (hCdxReferenceIdeal : Cert.CdxReferenceIdeal.Facts) (hCuqdwKernel : Cert.CuqdwKernel.Facts) (hCuqdwKernelIdeal : Cert.CuqdwKernelIdeal.Facts) (hCuqdwReferenceIdeal : Cert.CuqdwReferenceIdeal.Facts) (hCuqdxKernel : Cert.CuqdxKernel.Facts) (hCuqdxKernelIdeal : Cert.CuqdxKernelIdeal.Facts) (hCuqdxReferenceIdeal : Cert.CuqdxReferenceIdeal.Facts) (hCukvdwKernel : Cert.CukvdwKernel.Facts) (hCukvdwKernelIdeal : Cert.CukvdwKernelIdeal.Facts) (hCukvdwReferenceIdeal : Cert.CukvdwReferenceIdeal.Facts) (hCukvdxKernel : Cert.CukvdxKernel.Facts) (hCukvdxKernelIdeal : Cert.CukvdxKernelIdeal.Facts) (hCukvdxReferenceIdeal : Cert.CukvdxReferenceIdeal.Facts) (hF1Kernel : Cert.F1Kernel.Facts) (hF1KernelIdeal : Cert.F1KernelIdeal.Facts) (hF1ReferenceIdeal : Cert.F1ReferenceIdeal.Facts) (hF2Kernel : Cert.F2Kernel.Facts) (hF2KernelIdeal : Cert.F2KernelIdeal.Facts) (hF2ReferenceIdeal : Cert.F2ReferenceIdeal.Facts) (hOKernel : Cert.OKernel.Facts) (hOKernelIdeal : Cert.OKernelIdeal.Facts) (hOReferenceIdeal : Cert.OReferenceIdeal.Facts) (hQKernel : Cert.QKernel.Facts) (hQKernelIdeal : Cert.QKernelIdeal.Facts) (hQReferenceIdeal : Cert.QReferenceIdeal.Facts) (hKKernel : Cert.KKernel.Facts) (hKKernelIdeal : Cert.KKernelIdeal.Facts) (hKReferenceIdeal : Cert.KReferenceIdeal.Facts) (hAbKernel : Cert.AbKernel.Facts) (hAbKernelIdeal : Cert.AbKernelIdeal.Facts) (hAbReferenceIdeal : Cert.AbReferenceIdeal.Facts) (hCKernel : Cert.CKernel.Facts) (hCKernelIdeal : Cert.CKernelIdeal.Facts) (hCReferenceIdeal : Cert.CReferenceIdeal.Facts) (hCkvKernel : Cert.CkvKernel.Facts) (hCkvKernelIdeal : Cert.CkvKernelIdeal.Facts) (hCkvReferenceIdeal : Cert.CkvReferenceIdeal.Facts) (hMemFKernel : Cert.MemFKernel.Facts) (hMemFKernelIdeal : Cert.MemFKernelIdeal.Facts) (hMemFReferenceIdeal : Cert.MemFReferenceIdeal.Facts) (hNormFKernel : Cert.NormFKernel.Facts) (hNormFKernelIdeal : Cert.NormFKernelIdeal.Facts) (hNormFReferenceIdeal : Cert.NormFReferenceIdeal.Facts) (hMlafKernel : Cert.MlafKernel.Facts) (hMlafKernelIdeal : Cert.MlafKernelIdeal.Facts) (hMlafReferenceIdeal : Cert.MlafReferenceIdeal.Facts) (hMlabKernel : Cert.MlabKernel.Facts) (hMlabKernelIdeal : Cert.MlabKernelIdeal.Facts) (hMlabReferenceIdeal : Cert.MlabReferenceIdeal.Facts) (hPre_mem_finite : Cert.Pre_mem_finite.Facts) (hPre_norm_finite : Cert.Pre_norm_finite.Facts) (hPre_mlaf_finite : Cert.Pre_mlaf_finite.Facts) (hPre_mlab_finite : Cert.Pre_mlab_finite.Facts),
    quiescent_MemKernel (hMemKernel := hMemKernel)
    ∧ quiescent_MemKernelIdeal (hMemKernelIdeal := hMemKernelIdeal)
    ∧ quiescent_MemKernelIdeal_pre_mem_finite (hMemKernelIdeal := hMemKernelIdeal) (hPre_mem_finite := hPre_mem_finite)
    ∧ quiescent_MemReferenceIdeal (hMemReferenceIdeal := hMemReferenceIdeal)
    ∧ quiescent_MemReferenceIdeal_pre_mem_finite (hMemReferenceIdeal := hMemReferenceIdeal) (hPre_mem_finite := hPre_mem_finite)
    ∧ quiescent_NormKernel (hNormKernel := hNormKernel)
    ∧ quiescent_NormKernelIdeal (hNormKernelIdeal := hNormKernelIdeal)
    ∧ quiescent_NormKernelIdeal_pre_norm_finite (hNormKernelIdeal := hNormKernelIdeal) (hPre_norm_finite := hPre_norm_finite)
    ∧ quiescent_NormReferenceIdeal (hNormReferenceIdeal := hNormReferenceIdeal)
    ∧ quiescent_NormReferenceIdeal_pre_norm_finite (hNormReferenceIdeal := hNormReferenceIdeal) (hPre_norm_finite := hPre_norm_finite)
    ∧ quiescent_F2dxKernel (hF2dxKernel := hF2dxKernel)
    ∧ quiescent_F2dxKernelIdeal (hF2dxKernelIdeal := hF2dxKernelIdeal)
    ∧ quiescent_F2dxReferenceIdeal (hF2dxReferenceIdeal := hF2dxReferenceIdeal)
    ∧ quiescent_F2dwKernel (hF2dwKernel := hF2dwKernel)
    ∧ quiescent_F2dwKernelIdeal (hF2dwKernelIdeal := hF2dwKernelIdeal)
    ∧ quiescent_F2dwReferenceIdeal (hF2dwReferenceIdeal := hF2dwReferenceIdeal)
    ∧ quiescent_F1dwKernel (hF1dwKernel := hF1dwKernel)
    ∧ quiescent_F1dwKernelIdeal (hF1dwKernelIdeal := hF1dwKernelIdeal)
    ∧ quiescent_F1dwReferenceIdeal (hF1dwReferenceIdeal := hF1dwReferenceIdeal)
    ∧ quiescent_F1dxKernel (hF1dxKernel := hF1dxKernel)
    ∧ quiescent_F1dxKernelIdeal (hF1dxKernelIdeal := hF1dxKernelIdeal)
    ∧ quiescent_F1dxReferenceIdeal (hF1dxReferenceIdeal := hF1dxReferenceIdeal)
    ∧ quiescent_OdxKernel (hOdxKernel := hOdxKernel)
    ∧ quiescent_OdxKernelIdeal (hOdxKernelIdeal := hOdxKernelIdeal)
    ∧ quiescent_OdxReferenceIdeal (hOdxReferenceIdeal := hOdxReferenceIdeal)
    ∧ quiescent_OdwKernel (hOdwKernel := hOdwKernel)
    ∧ quiescent_OdwKernelIdeal (hOdwKernelIdeal := hOdwKernelIdeal)
    ∧ quiescent_OdwReferenceIdeal (hOdwReferenceIdeal := hOdwReferenceIdeal)
    ∧ quiescent_QdwKernel (hQdwKernel := hQdwKernel)
    ∧ quiescent_QdwKernelIdeal (hQdwKernelIdeal := hQdwKernelIdeal)
    ∧ quiescent_QdwReferenceIdeal (hQdwReferenceIdeal := hQdwReferenceIdeal)
    ∧ quiescent_QdxKernel (hQdxKernel := hQdxKernel)
    ∧ quiescent_QdxKernelIdeal (hQdxKernelIdeal := hQdxKernelIdeal)
    ∧ quiescent_QdxReferenceIdeal (hQdxReferenceIdeal := hQdxReferenceIdeal)
    ∧ quiescent_KdwKernel (hKdwKernel := hKdwKernel)
    ∧ quiescent_KdwKernelIdeal (hKdwKernelIdeal := hKdwKernelIdeal)
    ∧ quiescent_KdwReferenceIdeal (hKdwReferenceIdeal := hKdwReferenceIdeal)
    ∧ quiescent_KdxKernel (hKdxKernel := hKdxKernel)
    ∧ quiescent_KdxKernelIdeal (hKdxKernelIdeal := hKdxKernelIdeal)
    ∧ quiescent_KdxReferenceIdeal (hKdxReferenceIdeal := hKdxReferenceIdeal)
    ∧ quiescent_VdxKernel (hVdxKernel := hVdxKernel)
    ∧ quiescent_VdxKernelIdeal (hVdxKernelIdeal := hVdxKernelIdeal)
    ∧ quiescent_VdxReferenceIdeal (hVdxReferenceIdeal := hVdxReferenceIdeal)
    ∧ quiescent_AbdwKernel (hAbdwKernel := hAbdwKernel)
    ∧ quiescent_AbdwKernelIdeal (hAbdwKernelIdeal := hAbdwKernelIdeal)
    ∧ quiescent_AbdwReferenceIdeal (hAbdwReferenceIdeal := hAbdwReferenceIdeal)
    ∧ quiescent_AbdxKernel (hAbdxKernel := hAbdxKernel)
    ∧ quiescent_AbdxKernelIdeal (hAbdxKernelIdeal := hAbdxKernelIdeal)
    ∧ quiescent_AbdxReferenceIdeal (hAbdxReferenceIdeal := hAbdxReferenceIdeal)
    ∧ quiescent_CdwKernel (hCdwKernel := hCdwKernel)
    ∧ quiescent_CdwKernelIdeal (hCdwKernelIdeal := hCdwKernelIdeal)
    ∧ quiescent_CdwReferenceIdeal (hCdwReferenceIdeal := hCdwReferenceIdeal)
    ∧ quiescent_CdxKernel (hCdxKernel := hCdxKernel)
    ∧ quiescent_CdxKernelIdeal (hCdxKernelIdeal := hCdxKernelIdeal)
    ∧ quiescent_CdxReferenceIdeal (hCdxReferenceIdeal := hCdxReferenceIdeal)
    ∧ quiescent_CuqdwKernel (hCuqdwKernel := hCuqdwKernel)
    ∧ quiescent_CuqdwKernelIdeal (hCuqdwKernelIdeal := hCuqdwKernelIdeal)
    ∧ quiescent_CuqdwReferenceIdeal (hCuqdwReferenceIdeal := hCuqdwReferenceIdeal)
    ∧ quiescent_CuqdxKernel (hCuqdxKernel := hCuqdxKernel)
    ∧ quiescent_CuqdxKernelIdeal (hCuqdxKernelIdeal := hCuqdxKernelIdeal)
    ∧ quiescent_CuqdxReferenceIdeal (hCuqdxReferenceIdeal := hCuqdxReferenceIdeal)
    ∧ quiescent_CukvdwKernel (hCukvdwKernel := hCukvdwKernel)
    ∧ quiescent_CukvdwKernelIdeal (hCukvdwKernelIdeal := hCukvdwKernelIdeal)
    ∧ quiescent_CukvdwReferenceIdeal (hCukvdwReferenceIdeal := hCukvdwReferenceIdeal)
    ∧ quiescent_CukvdxKernel (hCukvdxKernel := hCukvdxKernel)
    ∧ quiescent_CukvdxKernelIdeal (hCukvdxKernelIdeal := hCukvdxKernelIdeal)
    ∧ quiescent_CukvdxReferenceIdeal (hCukvdxReferenceIdeal := hCukvdxReferenceIdeal)
    ∧ quiescent_F1Kernel (hF1Kernel := hF1Kernel)
    ∧ quiescent_F1KernelIdeal (hF1KernelIdeal := hF1KernelIdeal)
    ∧ quiescent_F1ReferenceIdeal (hF1ReferenceIdeal := hF1ReferenceIdeal)
    ∧ quiescent_F2Kernel (hF2Kernel := hF2Kernel)
    ∧ quiescent_F2KernelIdeal (hF2KernelIdeal := hF2KernelIdeal)
    ∧ quiescent_F2ReferenceIdeal (hF2ReferenceIdeal := hF2ReferenceIdeal)
    ∧ quiescent_OKernel (hOKernel := hOKernel)
    ∧ quiescent_OKernelIdeal (hOKernelIdeal := hOKernelIdeal)
    ∧ quiescent_OReferenceIdeal (hOReferenceIdeal := hOReferenceIdeal)
    ∧ quiescent_QKernel (hQKernel := hQKernel)
    ∧ quiescent_QKernelIdeal (hQKernelIdeal := hQKernelIdeal)
    ∧ quiescent_QReferenceIdeal (hQReferenceIdeal := hQReferenceIdeal)
    ∧ quiescent_KKernel (hKKernel := hKKernel)
    ∧ quiescent_KKernelIdeal (hKKernelIdeal := hKKernelIdeal)
    ∧ quiescent_KReferenceIdeal (hKReferenceIdeal := hKReferenceIdeal)
    ∧ quiescent_AbKernel (hAbKernel := hAbKernel)
    ∧ quiescent_AbKernelIdeal (hAbKernelIdeal := hAbKernelIdeal)
    ∧ quiescent_AbReferenceIdeal (hAbReferenceIdeal := hAbReferenceIdeal)
    ∧ quiescent_CKernel (hCKernel := hCKernel)
    ∧ quiescent_CKernelIdeal (hCKernelIdeal := hCKernelIdeal)
    ∧ quiescent_CReferenceIdeal (hCReferenceIdeal := hCReferenceIdeal)
    ∧ quiescent_CkvKernel (hCkvKernel := hCkvKernel)
    ∧ quiescent_CkvKernelIdeal (hCkvKernelIdeal := hCkvKernelIdeal)
    ∧ quiescent_CkvReferenceIdeal (hCkvReferenceIdeal := hCkvReferenceIdeal)
    ∧ quiescent_MemFKernel (hMemFKernel := hMemFKernel)
    ∧ quiescent_MemFKernelIdeal (hMemFKernelIdeal := hMemFKernelIdeal)
    ∧ quiescent_MemFReferenceIdeal (hMemFReferenceIdeal := hMemFReferenceIdeal)
    ∧ quiescent_NormFKernel (hNormFKernel := hNormFKernel)
    ∧ quiescent_NormFKernelIdeal (hNormFKernelIdeal := hNormFKernelIdeal)
    ∧ quiescent_NormFReferenceIdeal (hNormFReferenceIdeal := hNormFReferenceIdeal)
    ∧ quiescent_MlafKernel (hMlafKernel := hMlafKernel)
    ∧ quiescent_MlafKernelIdeal (hMlafKernelIdeal := hMlafKernelIdeal)
    ∧ quiescent_MlafKernelIdeal_pre_mlaf_finite (hMlafKernelIdeal := hMlafKernelIdeal) (hPre_mlaf_finite := hPre_mlaf_finite)
    ∧ quiescent_MlafReferenceIdeal (hMlafReferenceIdeal := hMlafReferenceIdeal)
    ∧ quiescent_MlafReferenceIdeal_pre_mlaf_finite (hMlafReferenceIdeal := hMlafReferenceIdeal) (hPre_mlaf_finite := hPre_mlaf_finite)
    ∧ quiescent_MlabKernel (hMlabKernel := hMlabKernel)
    ∧ quiescent_MlabKernelIdeal (hMlabKernelIdeal := hMlabKernelIdeal)
    ∧ quiescent_MlabKernelIdeal_pre_mlab_finite (hMlabKernelIdeal := hMlabKernelIdeal) (hPre_mlab_finite := hPre_mlab_finite)
    ∧ quiescent_MlabReferenceIdeal (hMlabReferenceIdeal := hMlabReferenceIdeal)
    ∧ quiescent_MlabReferenceIdeal_pre_mlab_finite (hMlabReferenceIdeal := hMlabReferenceIdeal) (hPre_mlab_finite := hPre_mlab_finite)
    ∧ preserves_MemKernel_MemKernelIdeal
    ∧ algebraic_MemKernelIdeal_MemReferenceIdeal_pre_mem_finite (hMemKernelIdeal := hMemKernelIdeal) (hMemReferenceIdeal := hMemReferenceIdeal) (hPre_mem_finite := hPre_mem_finite)
    ∧ preserves_NormKernel_NormKernelIdeal
    ∧ algebraic_NormKernelIdeal_NormReferenceIdeal_pre_norm_finite (hNormKernelIdeal := hNormKernelIdeal) (hNormReferenceIdeal := hNormReferenceIdeal) (hPre_norm_finite := hPre_norm_finite)
    ∧ preserves_F2dxKernel_F2dxKernelIdeal
    ∧ algebraic_F2dxKernelIdeal_F2dxReferenceIdeal (hF2dxKernelIdeal := hF2dxKernelIdeal) (hF2dxReferenceIdeal := hF2dxReferenceIdeal)
    ∧ preserves_F2dwKernel_F2dwKernelIdeal
    ∧ algebraic_F2dwKernelIdeal_F2dwReferenceIdeal (hF2dwKernelIdeal := hF2dwKernelIdeal) (hF2dwReferenceIdeal := hF2dwReferenceIdeal)
    ∧ preserves_F1dwKernel_F1dwKernelIdeal
    ∧ algebraic_F1dwKernelIdeal_F1dwReferenceIdeal (hF1dwKernelIdeal := hF1dwKernelIdeal) (hF1dwReferenceIdeal := hF1dwReferenceIdeal)
    ∧ preserves_F1dxKernel_F1dxKernelIdeal
    ∧ algebraic_F1dxKernelIdeal_F1dxReferenceIdeal (hF1dxKernelIdeal := hF1dxKernelIdeal) (hF1dxReferenceIdeal := hF1dxReferenceIdeal)
    ∧ preserves_OdxKernel_OdxKernelIdeal
    ∧ algebraic_OdxKernelIdeal_OdxReferenceIdeal (hOdxKernelIdeal := hOdxKernelIdeal) (hOdxReferenceIdeal := hOdxReferenceIdeal)
    ∧ preserves_OdwKernel_OdwKernelIdeal
    ∧ algebraic_OdwKernelIdeal_OdwReferenceIdeal (hOdwKernelIdeal := hOdwKernelIdeal) (hOdwReferenceIdeal := hOdwReferenceIdeal)
    ∧ preserves_QdwKernel_QdwKernelIdeal
    ∧ algebraic_QdwKernelIdeal_QdwReferenceIdeal (hQdwKernelIdeal := hQdwKernelIdeal) (hQdwReferenceIdeal := hQdwReferenceIdeal)
    ∧ preserves_QdxKernel_QdxKernelIdeal
    ∧ algebraic_QdxKernelIdeal_QdxReferenceIdeal (hQdxKernelIdeal := hQdxKernelIdeal) (hQdxReferenceIdeal := hQdxReferenceIdeal)
    ∧ preserves_KdwKernel_KdwKernelIdeal
    ∧ algebraic_KdwKernelIdeal_KdwReferenceIdeal (hKdwKernelIdeal := hKdwKernelIdeal) (hKdwReferenceIdeal := hKdwReferenceIdeal)
    ∧ preserves_KdxKernel_KdxKernelIdeal
    ∧ algebraic_KdxKernelIdeal_KdxReferenceIdeal (hKdxKernelIdeal := hKdxKernelIdeal) (hKdxReferenceIdeal := hKdxReferenceIdeal)
    ∧ preserves_VdxKernel_VdxKernelIdeal
    ∧ algebraic_VdxKernelIdeal_VdxReferenceIdeal (hVdxKernelIdeal := hVdxKernelIdeal) (hVdxReferenceIdeal := hVdxReferenceIdeal)
    ∧ preserves_AbdwKernel_AbdwKernelIdeal
    ∧ algebraic_AbdwKernelIdeal_AbdwReferenceIdeal (hAbdwKernelIdeal := hAbdwKernelIdeal) (hAbdwReferenceIdeal := hAbdwReferenceIdeal)
    ∧ preserves_AbdxKernel_AbdxKernelIdeal
    ∧ algebraic_AbdxKernelIdeal_AbdxReferenceIdeal (hAbdxKernelIdeal := hAbdxKernelIdeal) (hAbdxReferenceIdeal := hAbdxReferenceIdeal)
    ∧ preserves_CdwKernel_CdwKernelIdeal
    ∧ algebraic_CdwKernelIdeal_CdwReferenceIdeal (hCdwKernelIdeal := hCdwKernelIdeal) (hCdwReferenceIdeal := hCdwReferenceIdeal)
    ∧ preserves_CdxKernel_CdxKernelIdeal
    ∧ algebraic_CdxKernelIdeal_CdxReferenceIdeal (hCdxKernelIdeal := hCdxKernelIdeal) (hCdxReferenceIdeal := hCdxReferenceIdeal)
    ∧ preserves_CuqdwKernel_CuqdwKernelIdeal
    ∧ algebraic_CuqdwKernelIdeal_CuqdwReferenceIdeal (hCuqdwKernelIdeal := hCuqdwKernelIdeal) (hCuqdwReferenceIdeal := hCuqdwReferenceIdeal)
    ∧ preserves_CuqdxKernel_CuqdxKernelIdeal
    ∧ algebraic_CuqdxKernelIdeal_CuqdxReferenceIdeal (hCuqdxKernelIdeal := hCuqdxKernelIdeal) (hCuqdxReferenceIdeal := hCuqdxReferenceIdeal)
    ∧ preserves_CukvdwKernel_CukvdwKernelIdeal
    ∧ algebraic_CukvdwKernelIdeal_CukvdwReferenceIdeal (hCukvdwKernelIdeal := hCukvdwKernelIdeal) (hCukvdwReferenceIdeal := hCukvdwReferenceIdeal)
    ∧ preserves_CukvdxKernel_CukvdxKernelIdeal
    ∧ algebraic_CukvdxKernelIdeal_CukvdxReferenceIdeal (hCukvdxKernelIdeal := hCukvdxKernelIdeal) (hCukvdxReferenceIdeal := hCukvdxReferenceIdeal)
    ∧ preserves_F1Kernel_F1KernelIdeal
    ∧ algebraic_F1KernelIdeal_F1ReferenceIdeal (hF1KernelIdeal := hF1KernelIdeal) (hF1ReferenceIdeal := hF1ReferenceIdeal)
    ∧ preserves_F2Kernel_F2KernelIdeal
    ∧ algebraic_F2KernelIdeal_F2ReferenceIdeal (hF2KernelIdeal := hF2KernelIdeal) (hF2ReferenceIdeal := hF2ReferenceIdeal)
    ∧ preserves_OKernel_OKernelIdeal
    ∧ algebraic_OKernelIdeal_OReferenceIdeal (hOKernelIdeal := hOKernelIdeal) (hOReferenceIdeal := hOReferenceIdeal)
    ∧ preserves_QKernel_QKernelIdeal
    ∧ algebraic_QKernelIdeal_QReferenceIdeal (hQKernelIdeal := hQKernelIdeal) (hQReferenceIdeal := hQReferenceIdeal)
    ∧ preserves_KKernel_KKernelIdeal
    ∧ algebraic_KKernelIdeal_KReferenceIdeal (hKKernelIdeal := hKKernelIdeal) (hKReferenceIdeal := hKReferenceIdeal)
    ∧ preserves_AbKernel_AbKernelIdeal
    ∧ algebraic_AbKernelIdeal_AbReferenceIdeal (hAbKernelIdeal := hAbKernelIdeal) (hAbReferenceIdeal := hAbReferenceIdeal)
    ∧ preserves_CKernel_CKernelIdeal
    ∧ algebraic_CKernelIdeal_CReferenceIdeal (hCKernelIdeal := hCKernelIdeal) (hCReferenceIdeal := hCReferenceIdeal)
    ∧ preserves_CkvKernel_CkvKernelIdeal
    ∧ algebraic_CkvKernelIdeal_CkvReferenceIdeal (hCkvKernelIdeal := hCkvKernelIdeal) (hCkvReferenceIdeal := hCkvReferenceIdeal)
    ∧ preserves_MemFKernel_MemFKernelIdeal
    ∧ algebraic_MemFKernelIdeal_MemFReferenceIdeal (hMemFKernelIdeal := hMemFKernelIdeal) (hMemFReferenceIdeal := hMemFReferenceIdeal)
    ∧ preserves_NormFKernel_NormFKernelIdeal
    ∧ algebraic_NormFKernelIdeal_NormFReferenceIdeal (hNormFKernelIdeal := hNormFKernelIdeal) (hNormFReferenceIdeal := hNormFReferenceIdeal)
    ∧ preserves_MlafKernel_MlafKernelIdeal
    ∧ algebraic_MlafKernelIdeal_MlafReferenceIdeal_pre_mlaf_finite (hMlafKernelIdeal := hMlafKernelIdeal) (hMlafReferenceIdeal := hMlafReferenceIdeal) (hPre_mlaf_finite := hPre_mlaf_finite)
    ∧ preserves_MlabKernel_MlabKernelIdeal
    ∧ algebraic_MlabKernelIdeal_MlabReferenceIdeal_pre_mlab_finite (hMlabKernelIdeal := hMlabKernelIdeal) (hMlabReferenceIdeal := hMlabReferenceIdeal) (hPre_mlab_finite := hPre_mlab_finite)
-- ==== Pre_mem_finite.lean ====
abbrev S4096x2048 : Shape := ⟨2, ![4096, 2048]⟩
abbrev S512x2048 : Shape := ⟨2, ![512, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S512x2048 : S_.BroadcastsInDim S512x2048 (![] : Fin 0 → Fin S512x2048.rank)

variable [Facts]

def fn {F : FTy → Type} [FloatOps F] (main_arg0 : FVec F S4096x2048 .bf16) (main_arg1 : FVec F S512x2048 .bf16) (main_arg2 : FVec F S512x2048 .bf16) (main_arg3 : FVec F S4096x2048 .bf16) : IVec S4096x2048 1 × IVec S512x2048 1 × IVec S512x2048 1 × IVec S4096x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S512x2048 .f32 := (extf .f32 · bitsLt_bf16_f32) main_arg1
  let main_v5 : FVec F S512x2048 .f32 := Host.absf main_v4
  let main_cst_0 : FVec F S_ .f32 := constant S_ .f32 0x7F800000#32
  let main_v6 : FVec F S512x2048 .f32 := broadcastInDim S512x2048 ![] bcast_S_S512x2048 main_cst_0
  let main_v7 : IVec S512x2048 1 := cmpf .olt main_v5 main_v6
  let main_v8 : FVec F S512x2048 .f32 := (extf .f32 · bitsLt_bf16_f32) main_arg2
  let main_v9 : FVec F S512x2048 .f32 := Host.absf main_v8
  let main_cst_1 : FVec F S_ .f32 := constant S_ .f32 0x7F800000#32
  let main_v10 : FVec F S512x2048 .f32 := broadcastInDim S512x2048 ![] bcast_S_S512x2048 main_cst_1
  let main_v11 : IVec S512x2048 1 := cmpf .olt main_v9 main_v10
  let main_v12 : FVec F S4096x2048 .f32 := (extf .f32 · bitsLt_bf16_f32) main_arg3
  let main_v13 : FVec F S4096x2048 .f32 := Host.absf main_v12
  let main_cst_2 : FVec F S_ .f32 := constant S_ .f32 0x7F800000#32
  let main_v14 : FVec F S4096x2048 .f32 := broadcastInDim S4096x2048 ![] bcast_S_S4096x2048 main_cst_2
  let main_v15 : IVec S4096x2048 1 := cmpf .olt main_v13 main_v14
  (main_v3, main_v7, main_v11, main_v15)
-- ==== Pre_mlab_finite.lean ====
abbrev S4096x4096 : Shape := ⟨2, ![4096, 4096]⟩
abbrev S4096x128 : Shape := ⟨2, ![4096, 128]⟩
abbrev S4096x2048 : Shape := ⟨2, ![4096, 2048]⟩
abbrev S4096x32 : Shape := ⟨2, ![4096, 32]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  bcast_S_S4096x128 : S_.BroadcastsInDim S4096x128 (![] : Fin 0 → Fin S4096x128.rank)
  bcast_S_S4096x2048 : S_.BroadcastsInDim S4096x2048 (![] : Fin 0 → Fin S4096x2048.rank)

variable [Facts]

def fn {F : FTy → Type} [FloatOps F] (main_arg0 : FVec F S4096x4096 .bf16) (main_arg1 : FVec F S4096x4096 .bf16) (main_arg2 : FVec F S4096x128 .bf16) (main_arg3 : FVec F S4096x2048 .bf16) (main_arg4 : FVec F S4096x32 .f32) (main_arg5 : FVec F S4096x32 .f32) : IVec S4096x4096 1 × IVec S4096x4096 1 × IVec S4096x128 1 × IVec S4096x2048 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_v4 : FVec F S4096x4096 .f32 := (extf .f32 · bitsLt_bf16_f32) main_arg1
  let main_v5 : FVec F S4096x4096 .f32 := Host.absf main_v4
  let main_cst_0 : FVec F S_ .f32 := constant S_ .f32 0x7F800000#32
  let main_v6 : FVec F S4096x4096 .f32 := broadcastInDim S4096x4096 ![] bcast_S_S4096x4096 main_cst_0
  let main_v7 : IVec S4096x4096 1 := cmpf .olt main_v5 main_v6
  let main_v8 : FVec F S4096x128 .f32 := (extf .f32 · bitsLt_bf16_f32) main_arg2
  let main_v9 : FVec F S4096x128 .f32 := Host.absf main_v8
  let main_cst_1 : FVec F S_ .f32 := constant S_ .f32 0x7F800000#32
  let main_v10 : FVec F S4096x128 .f32 := broadcastInDim S4096x128 ![] bcast_S_S4096x128 main_cst_1
  let main_v11 : IVec S4096x128 1 := cmpf .olt main_v9 main_v10
  let main_v12 : FVec F S4096x2048 .f32 := (extf .f32 · bitsLt_bf16_f32) main_arg3
  let main_v13 : FVec F S4096x2048 .f32 := Host.absf main_v12
  let main_cst_2 : FVec F S_ .f32 := constant S_ .f32 0x7F800000#32
  let main_v14 : FVec F S4096x2048 .f32 := broadcastInDim S4096x2048 ![] bcast_S_S4096x2048 main_cst_2
  let main_v15 : IVec S4096x2048 1 := cmpf .olt main_v13 main_v14
  (main_v3, main_v7, main_v11, main_v15)
-- ==== Pre_mlaf_finite.lean ====
abbrev S4096x4096 : Shape := ⟨2, ![4096, 4096]⟩
abbrev S4096x128 : Shape := ⟨2, ![4096, 128]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  bcast_S_S4096x128 : S_.BroadcastsInDim S4096x128 (![] : Fin 0 → Fin S4096x128.rank)

variable [Facts]

def fn {F : FTy → Type} [FloatOps F] (main_arg0 : FVec F S4096x4096 .bf16) (main_arg1 : FVec F S4096x4096 .bf16) (main_arg2 : FVec F S4096x128 .bf16) : IVec S4096x4096 1 × IVec S4096x4096 1 × IVec S4096x128 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_v4 : FVec F S4096x4096 .f32 := (extf .f32 · bitsLt_bf16_f32) main_arg1
  let main_v5 : FVec F S4096x4096 .f32 := Host.absf main_v4
  let main_cst_0 : FVec F S_ .f32 := constant S_ .f32 0x7F800000#32
  let main_v6 : FVec F S4096x4096 .f32 := broadcastInDim S4096x4096 ![] bcast_S_S4096x4096 main_cst_0
  let main_v7 : IVec S4096x4096 1 := cmpf .olt main_v5 main_v6
  let main_v8 : FVec F S4096x128 .f32 := (extf .f32 · bitsLt_bf16_f32) main_arg2
  let main_v9 : FVec F S4096x128 .f32 := Host.absf main_v8
  let main_cst_1 : FVec F S_ .f32 := constant S_ .f32 0x7F800000#32
  let main_v10 : FVec F S4096x128 .f32 := broadcastInDim S4096x128 ![] bcast_S_S4096x128 main_cst_1
  let main_v11 : IVec S4096x128 1 := cmpf .olt main_v9 main_v10
  (main_v3, main_v7, main_v11)
-- ==== Pre_norm_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)
  bitsLt_bf16_f32 : FTy.bits .bf16 < FTy.bits .f32

variable [Facts]

def fn {F : FTy → Type} [FloatOps F] (main_arg0 : FVec F S4096x2048 .f32) (main_arg1 : FVec F S2048 .f32) (main_arg2 : FVec F S4096x2048 .bf16) (main_arg3 : FVec F S4096x2048 .f32) : IVec S4096x2048 1 × IVec S2048 1 × IVec S4096x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S4096x2048 .f32 := (extf .f32 · bitsLt_bf16_f32) main_arg2
  let main_v7 : FVec F S4096x2048 .f32 := Host.absf main_v6
  let main_cst_1 : FVec F S_ .f32 := constant S_ .f32 0x7F800000#32
  let main_v8 : FVec F S4096x2048 .f32 := broadcastInDim S4096x2048 ![] bcast_S_S4096x2048 main_cst_1
  let main_v9 : IVec S4096x2048 1 := cmpf .olt main_v7 main_v8
  let main_v10 : FVec F S4096x2048 .f32 := Host.absf main_arg3
  let main_cst_2 : FVec F S_ .f32 := constant S_ .f32 0x7F800000#32
  let main_v11 : FVec F S4096x2048 .f32 := broadcastInDim S4096x2048 ![] bcast_S_S4096x2048 main_cst_2
  let main_v12 : IVec S4096x2048 1 := cmpf .olt main_v10 main_v11
  (main_v2, main_v5, main_v9, main_v12)
-- ==== MemKernel.lean ====
abbrev S4096x2048 : Shape := ⟨2, ![4096, 2048]⟩
abbrev S512x2048 : Shape := ⟨2, ![512, 2048]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S512x2048, .bf16⟩
  | .hbm, ⟨3, _⟩ => ⟨S4096x2048, .bf16⟩
  | .hbm, ⟨4, _⟩ => ⟨S4096x2048, .bf16⟩
  | .hbm, ⟨5, _⟩ => ⟨S512x2048, .f32⟩
  | .hbm, ⟨6, _⟩ => ⟨S512x2048, .f32⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MemReferenceIdeal.lean ====
abbrev S4096x2048 : Shape := ⟨2, ![4096, 2048]⟩
abbrev S512x2048 : Shape := ⟨2, ![512, 2048]⟩
abbrev S2x2048x4x512 : Shape := ⟨4, ![2, 2048, 4, 512]⟩
abbrev S2x256x4x512 : Shape := ⟨4, ![2, 256, 4, 512]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x512x2048 : Shape := ⟨4, ![2, 4, 512, 2048]⟩
abbrev S2x4x512x256 : Shape := ⟨4, ![2, 4, 512, 256]⟩
abbrev S2x4x256x512 : Shape := ⟨4, ![2, 4, 256, 512]⟩
abbrev S2x4x2048x512 : Shape := ⟨4, ![2, 4, 2048, 512]⟩

abbrev nBuf : Space → Nat
  | .hbm => 86
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S512x2048, .bf16⟩
  | .hbm, ⟨3, _⟩ => ⟨S4096x2048, .bf16⟩
  | .hbm, ⟨4, _⟩ => ⟨S4096x2048, .f32⟩
  | .hbm, ⟨5, _⟩ => ⟨S512x2048, .f32⟩
  | .hbm, ⟨6, _⟩ => ⟨S512x2048, .f32⟩
  | .hbm, ⟨7, _⟩ => ⟨S4096x2048, .f32⟩
  | .hbm, ⟨8, _⟩ => ⟨S2x2048x4x512, .f32⟩
  | .hbm, ⟨9, _⟩ => ⟨S2x256x4x512, .f32⟩
  | .hbm, ⟨10, _⟩ => ⟨S2x256x4x512, .f32⟩
  | .hbm, ⟨11, _⟩ => ⟨S2x4x2048x256, .f32⟩
  | .hbm, ⟨12, _⟩ => ⟨S_, .f32⟩
  | .hbm, ⟨13, _⟩ => ⟨S2x4x2048x256, .f32⟩
  | .hbm, ⟨14, _⟩ => ⟨S2x4x2048x256, .f32⟩
  | .hbm, ⟨15, _⟩ => ⟨S_, .f32⟩
  | .hbm, ⟨16, _⟩ => ⟨S2x4x2048, .f32⟩
  | .hbm, ⟨17, _⟩ => ⟨S2x4x2048x1, .f32⟩
  | .hbm, ⟨18, _⟩ => ⟨S2x4x2048x256, .f32⟩
  | .hbm, ⟨19, _⟩ => ⟨S2x4x2048x256, .i1⟩
  | .hbm, ⟨20, _⟩ => ⟨S2x4x2048x256, .f32⟩
  | .hbm, ⟨21, _⟩ => ⟨S_, .f32⟩
  | .hbm, ⟨22, _⟩ => ⟨S2x4x2048, .f32⟩
  | .hbm, ⟨23, _⟩ => ⟨S_, .f32⟩
  | .hbm, ⟨24, _⟩ => ⟨S2x4x2048, .f32⟩
  | .hbm, ⟨25, _⟩ => ⟨S2x4x2048, .f32⟩
  | .hbm, ⟨26, _⟩ => ⟨S_, .f32⟩
  | .hbm, ⟨27, _⟩ => ⟨S2x4x2048, .f32⟩
  | .hbm, ⟨28, _⟩ => ⟨S2x4x2048, .i1⟩
  | .hbm, ⟨29, _⟩ => ⟨S_, .f32⟩
  | .hbm, ⟨30, _⟩ => ⟨S2x4x2048, .f32⟩
  | .hbm, ⟨31, _⟩ => ⟨S2x4x2048, .i1⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S_, .f32⟩
  | .hbm, ⟨37, _⟩ => ⟨S2x4x2048, .f32⟩
  | .hbm, ⟨38, _⟩ => ⟨S2x4x2048, .f32⟩
  | .hbm, ⟨39, _⟩ => ⟨S2x4x2048, .f32⟩
  | .hbm, ⟨40, _⟩ => ⟨S2x4x2048x1, .f32⟩
  | .hbm, ⟨41, _⟩ => ⟨S2x4x2048x256, .f32⟩
  | .hbm, ⟨42, _⟩ => ⟨S2x4x2048x256, .f32⟩
  | .hbm, ⟨43, _⟩ => ⟨S2x4x2048x256, .f32⟩
  | .hbm, ⟨44, _⟩ => ⟨S_, .f32⟩
  | .hbm, ⟨45, _⟩ => ⟨S2x4x2048, .f32⟩
  | .hbm, ⟨46, _⟩ => ⟨S2x4x2048x1, .f32⟩
  | .hbm, ⟨47, _⟩ => ⟨S2x4x2048x256, .f32⟩
  | .hbm, ⟨48, _⟩ => ⟨S2x4x2048x256, .f32⟩
  | .hbm, ⟨49, _⟩ => ⟨S2x4x2048x1, .f32⟩
  | .hbm, ⟨50, _⟩ => ⟨S_, .f32⟩
  | .hbm, ⟨51, _⟩ => ⟨S2x4x2048x1, .f32⟩
  | .hbm, ⟨52, _⟩ => ⟨S2x4x2048x1, .f32⟩
  | .hbm, ⟨53, _⟩ => ⟨S2x4x512x2048, .f32⟩
  | .hbm, ⟨54, _⟩ => ⟨S2x2048x4x512, .f32⟩
  | .hbm, ⟨55, _⟩ => ⟨S4096x2048, .f32⟩
  | .hbm, ⟨56, _⟩ => ⟨S2x2048x4x512, .f32⟩
  | .hbm, ⟨57, _⟩ => ⟨S2x4x512x2048, .f32⟩
  | .hbm, ⟨58, _⟩ => ⟨S2x4x2048x256, .f32⟩
  | .hbm, ⟨59, _⟩ => ⟨S2x4x512x256, .f32⟩
  | .hbm, ⟨60, _⟩ => ⟨S2x256x4x512, .f32⟩
  | .hbm, ⟨61, _⟩ => ⟨S2x4x2048x256, .f32⟩
  | .hbm, ⟨62, _⟩ => ⟨S2x4x2048x256, .f32⟩
  | .hbm, ⟨63, _⟩ => ⟨S2x4x2048x256, .f32⟩
  | .hbm, ⟨64, _⟩ => ⟨S_, .f32⟩
  | .hbm, ⟨65, _⟩ => ⟨S2x4x2048, .f32⟩
  | .hbm, ⟨66, _⟩ => ⟨S2x4x2048x1, .f32⟩
  | .hbm, ⟨67, _⟩ => ⟨S2x4x2048x1, .f32⟩
  | .hbm, ⟨68, _⟩ => ⟨S2x4x2048x256, .f32⟩
  | .hbm, ⟨69, _⟩ => ⟨S2x4x2048x256, .f32⟩
  | .hbm, ⟨70, _⟩ => ⟨S_, .f32⟩
  | .hbm, ⟨71, _⟩ => ⟨S2x4x2048, .f32⟩
  | .hbm, ⟨72, _⟩ => ⟨S2x4x2048x256, .f32⟩
  | .hbm, ⟨73, _⟩ => ⟨S2x4x2048x256, .f32⟩
  | .hbm, ⟨74, _⟩ => ⟨S2x4x2048x256, .f32⟩
  | .hbm, ⟨75, _⟩ => ⟨S_, .f32⟩
  | .hbm, ⟨76, _⟩ => ⟨S2x4x2048x256, .f32⟩
  | .hbm, ⟨77, _⟩ => ⟨S2x4x2048x256, .f32⟩
  | .hbm, ⟨78, _⟩ => ⟨S2x4x256x512, .f32⟩
  | .hbm, ⟨79, _⟩ => ⟨S2x256x4x512, .f32⟩
  | .hbm, ⟨80, _⟩ => ⟨S2x4x2048x512, .f32⟩
  | .hbm, ⟨81, _⟩ => ⟨S2x2048x4x512, .f32⟩
  | .hbm, ⟨82, _⟩ => ⟨S512x2048, .f32⟩
  | .hbm, ⟨83, _⟩ => ⟨S512x2048, .f32⟩
  | .hbm, ⟨84, _⟩ => ⟨S4096x2048, .f32⟩
  | .hbm, ⟨85, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== NormKernel.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== F2dxKernel.lean ====
abbrev S4096x2048 : Shape := ⟨2, ![4096, 2048]⟩
abbrev S8192x2048 : Shape := ⟨2, ![8192, 2048]⟩
abbrev S4096x8192 : Shape := ⟨2, ![4096, 8192]⟩
abbrev S8x128 : Shape := ⟨2, ![8, 128]⟩
abbrev S1024x2048 : Shape := ⟨2, ![1024, 2048]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S8192x2048, .bf16⟩
  | .hbm, ⟨2, _⟩ => ⟨S4096x8192, .bf16⟩
  | .hbm, ⟨3, _⟩ => ⟨S8x128, .f32⟩
  | .hbm, ⟨4, _⟩ => ⟨S4096x8192, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | .local _ .vmem, ⟨7, _⟩ => ⟨S1024x1024, .bf16⟩
  | .local _ .vmem, ⟨8, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== F2dxReferenceIdeal.lean ====
abbrev S4096x2048 : Shape := ⟨2, ![4096, 2048]⟩
abbrev S8192x2048 : Shape := ⟨2, ![8192, 2048]⟩
abbrev S4096x8192 : Shape := ⟨2, ![4096, 8192]⟩
abbrev S8x128 : Shape := ⟨2, ![8, 128]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .bf16⟩
  | .hbm, ⟨2, _⟩ => ⟨S4096x8192, .bf16⟩
  | .hbm, ⟨3, _⟩ => ⟨S8x128, .f32⟩
  | .hbm, ⟨4, _⟩ => ⟨S8192x2048, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .i1⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== F2dwKernel.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .f32⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== F2dwReferenceIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .f32⟩
  | .hbm, ⟨2, _⟩ => ⟨S4096x8192, .f32⟩
  | .hbm, ⟨3, _⟩ => ⟨S_, .f32⟩
  | .hbm, ⟨4, _⟩ => ⟨S8192x2048, .f32⟩
  | .hbm, ⟨5, _⟩ => ⟨S4096x2048, .f32⟩
  | .hbm, ⟨6, _⟩ => ⟨S2048x8192, .f32⟩
  | .hbm, ⟨7, _⟩ => ⟨S8192x2048, .f32⟩
  | .hbm, ⟨8, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== F1dwKernel.lean ====
abbrev S4096x2048 : Shape := ⟨2, ![4096, 2048]⟩
abbrev S4096x8192 : Shape := ⟨2, ![4096, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== F1dwReferenceIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== F1dxKernel.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== F1dxReferenceIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S2048x8192, .f32⟩
  | .hbm, ⟨3, _⟩ => ⟨S4096x8192, .f32⟩
  | .hbm, ⟨4, _⟩ => ⟨S_, .f32⟩
  | .hbm, ⟨5, _⟩ => ⟨S4096x2048, .f32⟩
  | .hbm, ⟨6, _⟩ => ⟨S4096x8192, .f32⟩
  | .hbm, ⟨7, _⟩ => ⟨S4096x2048, .f32⟩
  | .hbm, ⟨8, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OdxKernel.lean ====
abbrev S4096x2048 : Shape := ⟨2, ![4096, 2048]⟩
abbrev S2048x2048 : Shape := ⟨2, ![2048, 2048]⟩
abbrev S8x128 : Shape := ⟨2, ![8, 128]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S8x128, .f32⟩
  | .hbm, ⟨3, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1024x1024, .bf16⟩
  | .local _ .vmem, ⟨6, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OdxReferenceIdeal.lean ====
abbrev S4096x2048 : Shape := ⟨2, ![4096, 2048]⟩
abbrev S2048x2048 : Shape := ⟨2, ![2048, 2048]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S8x128, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OdwKernel.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QdwKernel.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QdwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QdxKernel.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QdxReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KdwKernel.lean ====
abbrev S512x2048 : Shape := ⟨2, ![512, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S512x2048, .f32⟩
  | .hbm, ⟨2, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KdwReferenceIdeal.lean ====
abbrev S512x2048 : Shape := ⟨2, ![512, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S512x2048, .f32⟩
  | .hbm, ⟨2, _⟩ => ⟨S512x2048, .f32⟩
  | .hbm, ⟨3, _⟩ => ⟨S_, .f32⟩
  | .hbm, ⟨4, _⟩ => ⟨S2048x2048, .f32⟩
  | .hbm, ⟨5, _⟩ => ⟨S512x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KdxKernel.lean ====
abbrev S512x2048 : Shape := ⟨2, ![512, 2048]⟩
abbrev S2048x2048 : Shape := ⟨2, ![2048, 2048]⟩
abbrev S1024x2048 : Shape := ⟨2, ![1024, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2048x2048, .bf16⟩
  | .hbm, ⟨2, _⟩ => ⟨S512x2048, .f32⟩
  | .local _ .vmem, ⟨0, _⟩ => ⟨S512x2048, .f32⟩
  | .local _ .vmem, ⟨1, _⟩ => ⟨S1024x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KdxReferenceIdeal.lean ====
abbrev S512x2048 : Shape := ⟨2, ![512, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S512x2048, .f32⟩
  | .hbm, ⟨5, _⟩ => ⟨S512x2048, .f32⟩
  | .hbm, ⟨6, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== VdxKernel.lean ====
abbrev S512x2048 : Shape := ⟨2, ![512, 2048]⟩
abbrev S2048x2048 : Shape := ⟨2, ![2048, 2048]⟩
abbrev S1024x2048 : Shape := ⟨2, ![1024, 2048]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048x2048, .bf16⟩
  | .hbm, ⟨2, _⟩ => ⟨S512x2048, .f32⟩
  | .hbm, ⟨3, _⟩ => ⟨S512x2048, .f32⟩
  | .local _ .vmem, ⟨0, _⟩ => ⟨S512x2048, .f32⟩
  | .local _ .vmem, ⟨1, _⟩ => ⟨S1024x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== VdxReferenceIdeal.lean ====
abbrev S512x2048 : Shape := ⟨2, ![512, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x2048, .bf16⟩
  | .hbm, ⟨2, _⟩ => ⟨S512x2048, .f32⟩
  | .hbm, ⟨3, _⟩ => ⟨S2048x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== AbdwKernel.lean ====
abbrev S4096x2048 : Shape := ⟨2, ![4096, 2048]⟩
abbrev S4096x5120 : Shape := ⟨2, ![4096, 5120]⟩
abbrev S2048x5120 : Shape := ⟨2, ![2048, 5120]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S2048x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbdwReferenceIdeal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S4096x2048, .f32⟩
  | .hbm, ⟨3, _⟩ => ⟨S4096x5120, .f32⟩
  | .hbm, ⟨4, _⟩ => ⟨S_, .f32⟩
  | .hbm, ⟨5, _⟩ => ⟨S2048x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AbdxKernel.lean ====
abbrev S4096x5120 : Shape := ⟨2, ![4096, 5120]⟩
abbrev S2048x5120 : Shape := ⟨2, ![2048, 5120]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 5], ![false, false, false]⟩

def k0_cond3 (i : grid0.Coords) : BitVec 1 :=
  let arg2 : BitVec 32 := BitVec.ofNat 32 (i 2).val
  let c4_i32_6 : BitVec 32 := 4#32
  let v11 : BitVec 1 := Scalar.cmpi .eq arg2 c4_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbdxReferenceIdeal.lean ====
abbrev S4096x5120 : Shape := ⟨2, ![4096, 5120]⟩
abbrev S2048x5120 : Shape := ⟨2, ![2048, 5120]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S2048x5120, .f32⟩
  | .hbm, ⟨3, _⟩ => ⟨S4096x5120, .f32⟩
  | .hbm, ⟨4, _⟩ => ⟨S_, .f32⟩
  | .hbm, ⟨5, _⟩ => ⟨S4096x2048, .f32⟩
  | .hbm, ⟨6, _⟩ => ⟨S4096x5120, .f32⟩
  | .hbm, ⟨7, _⟩ => ⟨S4096x2048, .f32⟩
  | .hbm, ⟨8, _⟩ => ⟨S4096x2048, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== CdwKernel.lean ====
abbrev S4096x2048 : Shape := ⟨2, ![4096, 2048]⟩
abbrev S4096x832 : Shape := ⟨2, ![4096, 832]⟩
abbrev S2048x832 : Shape := ⟨2, ![2048, 832]⟩
abbrev S2048x1024 : Shape := ⟨2, ![2048, 1024]⟩
abbrev S1024x832 : Shape := ⟨2, ![1024, 832]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x832, .f32⟩
  | .hbm, ⟨2, _⟩ => ⟨S2048x832, .bf16⟩
  | .local _ .vmem, ⟨0, _⟩ => ⟨S2048x1024, .bf16⟩
  | .local _ .vmem, ⟨1, _⟩ => ⟨S2048x1024, .bf16⟩
  | .local _ .vmem, ⟨2, _⟩ => ⟨S2048x832, .f32⟩
  | .local _ .vmem, ⟨3, _⟩ => ⟨S2048x832, .f32⟩
  | .local _ .vmem, ⟨4, _⟩ => ⟨S1024x832, .bf16⟩
  | .local _ .vmem, ⟨5, _⟩ => ⟨S1024x832, .bf16⟩
  | .local _ .vmem, ⟨6, _⟩ => ⟨S1024x832, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x832 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CdwReferenceIdeal.lean ====
abbrev S4096x2048 : Shape := ⟨2, ![4096, 2048]⟩
abbrev S4096x832 : Shape := ⟨2, ![4096, 832]⟩
abbrev S_ : Shape := ⟨0, ![]⟩
abbrev S2048x832 : Shape := ⟨2, ![2048, 832]⟩
abbrev S832x2048 : Shape := ⟨2, ![832, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x832, .f32⟩
  | .hbm, ⟨2, _⟩ => ⟨S4096x2048, .f32⟩
  | .hbm, ⟨3, _⟩ => ⟨S_, .f32⟩
  | .hbm, ⟨4, _⟩ => ⟨S2048x832, .f32⟩
  | .hbm, ⟨5, _⟩ => ⟨S4096x832, .f32⟩
  | .hbm, ⟨6, _⟩ => ⟨S832x2048, .f32⟩
  | .hbm, ⟨7, _⟩ => ⟨S2048x832, .f32⟩
  | .hbm, ⟨8, _⟩ => ⟨S2048x832, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== CdxKernel.lean ====
abbrev S4096x832 : Shape := ⟨2, ![4096, 832]⟩
abbrev S2048x832 : Shape := ⟨2, ![2048, 832]⟩
abbrev S4096x2048 : Shape := ⟨2, ![4096, 2048]⟩
abbrev S1024x832 : Shape := ⟨2, ![1024, 832]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x832, .f32⟩
  | .hbm, ⟨1, _⟩ => ⟨S2048x832, .bf16⟩
  | .hbm, ⟨2, _⟩ => ⟨S4096x2048, .bf16⟩
  | .local _ .vmem, ⟨0, _⟩ => ⟨S1024x832, .f32⟩
  | .local _ .vmem, ⟨1, _⟩ => ⟨S1024x832, .f32⟩
  | .local _ .vmem, ⟨2, _⟩ => ⟨S1024x832, .bf16⟩
  | .local _ .vmem, ⟨3, _⟩ => ⟨S1024x832, .bf16⟩
  | .local _ .vmem, ⟨4, _⟩ => ⟨S1024x1024, .bf16⟩
  | .local _ .vmem, ⟨5, _⟩ => ⟨S1024x1024, .bf16⟩
  | _, _ => ⟨S4096x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x832 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CdxReferenceIdeal.lean ====
abbrev S4096x832 : Shape := ⟨2, ![4096, 832]⟩
abbrev S2048x832 : Shape := ⟨2, ![2048, 832]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x832, .f32⟩
  | .hbm, ⟨1, _⟩ => ⟨S2048x832, .bf16⟩
  | .hbm, ⟨2, _⟩ => ⟨S2048x832, .f32⟩
  | .hbm, ⟨3, _⟩ => ⟨S_, .f32⟩
  | .hbm, ⟨4, _⟩ => ⟨S4096x2048, .f32⟩
  | .hbm, ⟨5, _⟩ => ⟨S4096x832, .f32⟩
  | .hbm, ⟨6, _⟩ => ⟨S4096x2048, .f32⟩
  | .hbm, ⟨7, _⟩ => ⟨S4096x2048, .bf16⟩
  | _, _ => ⟨S4096x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== CuqdwKernel.lean ====
abbrev S4096x512 : Shape := ⟨2, ![4096, 512]⟩
abbrev S4096x4096 : Shape := ⟨2, ![4096, 4096]⟩
abbrev S512x4096 : Shape := ⟨2, ![512, 4096]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CuqdwReferenceIdeal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S4096x512, .f32⟩
  | .hbm, ⟨3, _⟩ => ⟨S4096x4096, .f32⟩
  | .hbm, ⟨4, _⟩ => ⟨S_, .f32⟩
  | .hbm, ⟨5, _⟩ => ⟨S512x4096, .f32⟩
  | .hbm, ⟨6, _⟩ => ⟨S4096x4096, .f32⟩
  | .hbm, ⟨7, _⟩ => ⟨S4096x512, .f32⟩
  | .hbm, ⟨8, _⟩ => ⟨S512x4096, .f32⟩
  | .hbm, ⟨9, _⟩ => ⟨S512x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== CuqdxKernel.lean ====
abbrev S4096x4096 : Shape := ⟨2, ![4096, 4096]⟩
abbrev S512x4096 : Shape := ⟨2, ![512, 4096]⟩
abbrev S4096x512 : Shape := ⟨2, ![4096, 512]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CuqdxReferenceIdeal.lean ====
abbrev S4096x4096 : Shape := ⟨2, ![4096, 4096]⟩
abbrev S512x4096 : Shape := ⟨2, ![512, 4096]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S512x4096, .f32⟩
  | .hbm, ⟨3, _⟩ => ⟨S4096x4096, .f32⟩
  | .hbm, ⟨4, _⟩ => ⟨S_, .f32⟩
  | .hbm, ⟨5, _⟩ => ⟨S4096x512, .f32⟩
  | .hbm, ⟨6, _⟩ => ⟨S4096x4096, .f32⟩
  | .hbm, ⟨7, _⟩ => ⟨S4096x512, .f32⟩
  | .hbm, ⟨8, _⟩ => ⟨S4096x512, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== CukvdwKernel.lean ====
abbrev S4096x256 : Shape := ⟨2, ![4096, 256]⟩
abbrev S4096x4096 : Shape := ⟨2, ![4096, 4096]⟩
abbrev S256x4096 : Shape := ⟨2, ![256, 4096]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x4096, .bf16⟩
  | .hbm, ⟨2, _⟩ => ⟨S256x4096, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CukvdwReferenceIdeal.lean ====
abbrev S4096x256 : Shape := ⟨2, ![4096, 256]⟩
abbrev S4096x4096 : Shape := ⟨2, ![4096, 4096]⟩
abbrev S_ : Shape := ⟨0, ![]⟩
abbrev S256x4096 : Shape := ⟨2, ![256, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x4096, .bf16⟩
  | .hbm, ⟨2, _⟩ => ⟨S4096x256, .f32⟩
  | .hbm, ⟨3, _⟩ => ⟨S4096x4096, .f32⟩
  | .hbm, ⟨4, _⟩ => ⟨S_, .f32⟩
  | .hbm, ⟨5, _⟩ => ⟨S256x4096, .f32⟩
  | .hbm, ⟨6, _⟩ => ⟨S4096x4096, .f32⟩
  | .hbm, ⟨7, _⟩ => ⟨S4096x256, .f32⟩
  | .hbm, ⟨8, _⟩ => ⟨S256x4096, .f32⟩
  | .hbm, ⟨9, _⟩ => ⟨S256x4096, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== CukvdxKernel.lean ====
abbrev S4096x4096 : Shape := ⟨2, ![4096, 4096]⟩
abbrev S256x4096 : Shape := ⟨2, ![256, 4096]⟩
abbrev S4096x256 : Shape := ⟨2, ![4096, 256]⟩
abbrev S1024x2048 : Shape := ⟨2, ![1024, 2048]⟩
abbrev S256x2048 : Shape := ⟨2, ![256, 2048]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S256x4096, .bf16⟩
  | .hbm, ⟨2, _⟩ => ⟨S4096x256, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CukvdxReferenceIdeal.lean ====
abbrev S4096x4096 : Shape := ⟨2, ![4096, 4096]⟩
abbrev S256x4096 : Shape := ⟨2, ![256, 4096]⟩
abbrev S_ : Shape := ⟨0, ![]⟩
abbrev S4096x256 : Shape := ⟨2, ![4096, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S256x4096, .bf16⟩
  | .hbm, ⟨2, _⟩ => ⟨S256x4096, .f32⟩
  | .hbm, ⟨3, _⟩ => ⟨S4096x4096, .f32⟩
  | .hbm, ⟨4, _⟩ => ⟨S_, .f32⟩
  | .hbm, ⟨5, _⟩ => ⟨S4096x256, .f32⟩
  | .hbm, ⟨6, _⟩ => ⟨S4096x4096, .f32⟩
  | .hbm, ⟨7, _⟩ => ⟨S4096x256, .f32⟩
  | .hbm, ⟨8, _⟩ => ⟨S4096x256, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== F1Kernel.lean ====
abbrev S4096x2048 : Shape := ⟨2, ![4096, 2048]⟩
abbrev S2048x8192 : Shape := ⟨2, ![2048, 8192]⟩
abbrev S8x128 : Shape := ⟨2, ![8, 128]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8x128, .f32⟩
  | .hbm, ⟨3, _⟩ => ⟨S4096x8192, .bf16⟩
  | .hbm, ⟨4, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== F1ReferenceIdeal.lean ====
abbrev S4096x2048 : Shape := ⟨2, ![4096, 2048]⟩
abbrev S2048x8192 : Shape := ⟨2, ![2048, 8192]⟩
abbrev S8x128 : Shape := ⟨2, ![8, 128]⟩
abbrev S4096x8192 : Shape := ⟨2, ![4096, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8x128, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S4096x8192, .f32⟩
  | .hbm, ⟨11, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== F2Kernel.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== F2ReferenceIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OKernel.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OReferenceIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QKernel.lean ====
abbrev S4096x2048 : Shape := ⟨2, ![4096, 2048]⟩
abbrev S2048x2048 : Shape := ⟨2, ![2048, 2048]⟩
abbrev S8x128 : Shape := ⟨2, ![8, 128]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S8x128, .f32⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S1024x1024, .bf16⟩
  | .local _ .vmem, ⟨6, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QReferenceIdeal.lean ====
abbrev S4096x2048 : Shape := ⟨2, ![4096, 2048]⟩
abbrev S2048x2048 : Shape := ⟨2, ![2048, 2048]⟩
abbrev S8x128 : Shape := ⟨2, ![8, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S8x128, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KKernel.lean ====
abbrev S512x2048 : Shape := ⟨2, ![512, 2048]⟩
abbrev S2048x2048 : Shape := ⟨2, ![2048, 2048]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S2048x2048, .bf16⟩
  | .hbm, ⟨2, _⟩ => ⟨S512x2048, .bf16⟩
  | .local _ .vmem, ⟨0, _⟩ => ⟨S512x2048, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KReferenceIdeal.lean ====
abbrev S512x2048 : Shape := ⟨2, ![512, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x2048, .bf16⟩
  | .hbm, ⟨2, _⟩ => ⟨S512x2048, .f32⟩
  | .hbm, ⟨3, _⟩ => ⟨S2048x2048, .f32⟩
  | .hbm, ⟨4, _⟩ => ⟨S512x2048, .f32⟩
  | .hbm, ⟨5, _⟩ => ⟨S512x2048, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AbKernel.lean ====
abbrev S4096x2048 : Shape := ⟨2, ![4096, 2048]⟩
abbrev S2048x5120 : Shape := ⟨2, ![2048, 5120]⟩
abbrev S8x128 : Shape := ⟨2, ![8, 128]⟩
abbrev S4096x5120 : Shape := ⟨2, ![4096, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S8x128, .f32⟩
  | .hbm, ⟨3, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AbReferenceIdeal.lean ====
abbrev S4096x2048 : Shape := ⟨2, ![4096, 2048]⟩
abbrev S2048x5120 : Shape := ⟨2, ![2048, 5120]⟩
abbrev S8x128 : Shape := ⟨2, ![8, 128]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S8x128, .f32⟩
  | .hbm, ⟨3, _⟩ => ⟨S4096x2048, .f32⟩
  | .hbm, ⟨4, _⟩ => ⟨S2048x5120, .f32⟩
  | .hbm, ⟨5, _⟩ => ⟨S4096x5120, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== CKernel.lean ====
abbrev S4096x2048 : Shape := ⟨2, ![4096, 2048]⟩
abbrev S2048x832 : Shape := ⟨2, ![2048, 832]⟩
abbrev S8x128 : Shape := ⟨2, ![8, 128]⟩
abbrev S4096x832 : Shape := ⟨2, ![4096, 832]⟩
abbrev S1024x2048 : Shape := ⟨2, ![1024, 2048]⟩
abbrev S1024x832 : Shape := ⟨2, ![1024, 832]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x832, .bf16⟩
  | .hbm, ⟨2, _⟩ => ⟨S8x128, .f32⟩
  | .hbm, ⟨3, _⟩ => ⟨S4096x832, .f32⟩
  | .local _ .vmem, ⟨0, _⟩ => ⟨S1024x2048, .bf16⟩
  | .local _ .vmem, ⟨1, _⟩ => ⟨S1024x2048, .bf16⟩
  | .local _ .vmem, ⟨2, _⟩ => ⟨S2048x832, .bf16⟩
  | .local _ .vmem, ⟨3, _⟩ => ⟨S8x128, .f32⟩
  | .local _ .vmem, ⟨4, _⟩ => ⟨S1024x832, .f32⟩
  | .local _ .vmem, ⟨5, _⟩ => ⟨S1024x832, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x832 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CReferenceIdeal.lean ====
abbrev S4096x2048 : Shape := ⟨2, ![4096, 2048]⟩
abbrev S2048x832 : Shape := ⟨2, ![2048, 832]⟩
abbrev S8x128 : Shape := ⟨2, ![8, 128]⟩
abbrev S4096x832 : Shape := ⟨2, ![4096, 832]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x832, .bf16⟩
  | .hbm, ⟨2, _⟩ => ⟨S8x128, .f32⟩
  | .hbm, ⟨3, _⟩ => ⟨S4096x2048, .f32⟩
  | .hbm, ⟨4, _⟩ => ⟨S2048x832, .f32⟩
  | .hbm, ⟨5, _⟩ => ⟨S4096x832, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== CkvKernel.lean ====
abbrev S4096x256 : Shape := ⟨2, ![4096, 256]⟩
abbrev S256x4096 : Shape := ⟨2, ![256, 4096]⟩
abbrev S4096x4096 : Shape := ⟨2, ![4096, 4096]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x4096, .bf16⟩
  | .hbm, ⟨2, _⟩ => ⟨S4096x4096, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CkvReferenceIdeal.lean ====
abbrev S4096x256 : Shape := ⟨2, ![4096, 256]⟩
abbrev S256x4096 : Shape := ⟨2, ![256, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x4096, .bf16⟩
  | .hbm, ⟨2, _⟩ => ⟨S4096x256, .f32⟩
  | .hbm, ⟨3, _⟩ => ⟨S256x4096, .f32⟩
  | .hbm, ⟨4, _⟩ => ⟨S4096x4096, .f32⟩
  | .hbm, ⟨5, _⟩ => ⟨S4096x4096, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MemFKernel.lean ====
abbrev S4096x2048 : Shape := ⟨2, ![4096, 2048]⟩
abbrev S512x2048 : Shape := ⟨2, ![512, 2048]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S512x2048, .bf16⟩
  | .hbm, ⟨3, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x512, .bf16⟩
  | .local _ .vmem, ⟨7, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MemFReferenceIdeal.lean ====
abbrev S4096x2048 : Shape := ⟨2, ![4096, 2048]⟩
abbrev S512x2048 : Shape := ⟨2, ![512, 2048]⟩
abbrev S2x2048x4x512 : Shape := ⟨4, ![2, 2048, 4, 512]⟩
abbrev S2x256x4x512 : Shape := ⟨4, ![2, 256, 4, 512]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x512x2048 : Shape := ⟨4, ![2, 4, 512, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S512x2048, .bf16⟩
  | .hbm, ⟨3, _⟩ => ⟨S4096x2048, .f32⟩
  | .hbm, ⟨4, _⟩ => ⟨S512x2048, .f32⟩
  | .hbm, ⟨5, _⟩ => ⟨S512x2048, .f32⟩
  | .hbm, ⟨6, _⟩ => ⟨S2x2048x4x512, .f32⟩
  | .hbm, ⟨7, _⟩ => ⟨S2x256x4x512, .f32⟩
  | .hbm, ⟨8, _⟩ => ⟨S2x256x4x512, .f32⟩
  | .hbm, ⟨9, _⟩ => ⟨S2x4x2048x256, .f32⟩
  | .hbm, ⟨10, _⟩ => ⟨S_, .f32⟩
  | .hbm, ⟨11, _⟩ => ⟨S2x4x2048x256, .f32⟩
  | .hbm, ⟨12, _⟩ => ⟨S2x4x2048x256, .f32⟩
  | .hbm, ⟨13, _⟩ => ⟨S_, .f32⟩
  | .hbm, ⟨14, _⟩ => ⟨S2x4x2048, .f32⟩
  | .hbm, ⟨15, _⟩ => ⟨S_, .f32⟩
  | .hbm, ⟨16, _⟩ => ⟨S2x4x2048, .f32⟩
  | .hbm, ⟨17, _⟩ => ⟨S2x4x2048, .f32⟩
  | .hbm, ⟨18, _⟩ => ⟨S2x4x2048x1, .f32⟩
  | .hbm, ⟨19, _⟩ => ⟨S2x4x2048x256, .f32⟩
  | .hbm, ⟨20, _⟩ => ⟨S2x4x2048x256, .f32⟩
  | .hbm, ⟨21, _⟩ => ⟨S2x4x2048x256, .f32⟩
  | .hbm, ⟨22, _⟩ => ⟨S_, .f32⟩
  | .hbm, ⟨23, _⟩ => ⟨S2x4x2048, .f32⟩
  | .hbm, ⟨24, _⟩ => ⟨S2x4x2048x1, .f32⟩
  | .hbm, ⟨25, _⟩ => ⟨S2x4x2048x256, .f32⟩
  | .hbm, ⟨26, _⟩ => ⟨S2x4x2048x256, .f32⟩
  | .hbm, ⟨27, _⟩ => ⟨S2x4x512x2048, .f32⟩
  | .hbm, ⟨28, _⟩ => ⟨S2x2048x4x512, .f32⟩
  | .hbm, ⟨29, _⟩ => ⟨S4096x2048, .f32⟩
  | .hbm, ⟨30, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== NormFKernel.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MlafKernel.lean ====
abbrev S4096x4096 : Shape := ⟨2, ![4096, 4096]⟩
abbrev S4096x128 : Shape := ⟨2, ![4096, 128]⟩
abbrev S4096x2048 : Shape := ⟨2, ![4096, 2048]⟩
abbrev S16x4096x1 : Shape := ⟨3, ![16, 4096, 1]⟩
abbrev S1024x256 : Shape := ⟨2, ![1024, 256]⟩
abbrev S2048x256 : Shape := ⟨2, ![2048, 256]⟩
abbrev S2048x128 : Shape := ⟨2, ![2048, 128]⟩
abbrev S1024x128 : Shape := ⟨2, ![1024, 128]⟩
abbrev S1x1024x1 : Shape := ⟨3, ![1, 1024, 1]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x128, .bf16⟩
  | .hbm, ⟨3, _⟩ => ⟨S4096x2048, .bf16⟩
  | .hbm, ⟨4, _⟩ => ⟨S16x4096x1, .f32⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S2048x256, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 2], ![false, false, false]⟩

@[reducible] def k0_t1_loop (i : grid0.Coords) : Scf.Loop 32 :=
  let c0_i32_4 : BitVec 32 := 0#32
  let arg2 : BitVec 32 := BitVec.ofNat 32 (i 2).val
  let v7 : BitVec 32 := Scalar.subi arg2 c0_i32_4
  let c1_i32 : BitVec 32 := 1#32
  let v9 : BitVec 32 := Scalar.divsi v7 c1_i32
  let v10 : BitVec 32 := Scalar.muli v9 c1_i32
  let v11 : BitVec 32 := Scalar.addi c0_i32_4 v10
  let c1_i32_5 : BitVec 32 := 1#32
  ⟨c0_i32_4, v11, c1_i32_5⟩
def k0_mult1 (i : grid0.Coords) (k0_t1 : Fin (k0_t1_loop i).trips) : BitVec 32 :=
  let c0_i32_4 : BitVec 32 := 0#32
  let c1_i32_5 : BitVec 32 := 1#32
  let arg9 : BitVec 32 := Scf.iv c0_i32_4 c1_i32_5 k0_t1
  let c1024_i32_32 : BitVec 32 := 1024#32
  let v102 : BitVec 32 := Scalar.muli arg9 c1024_i32_32
  v102
def k0_off1 (i : grid0.Coords) (k0_t1 : Fin (k0_t1_loop i).trips) : Fin 2 → Nat :=
  let c0_i32_4 : BitVec 32 := 0#32
  let c1_i32_5 : BitVec 32 := 1#32
  let arg9 : BitVec 32 := Scf.iv c0_i32_4 c1_i32_5 k0_t1
  let c1024_i32_32 : BitVec 32 := 1024#32
  let v102 : BitVec 32 := Scalar.muli arg9 c1024_i32_32
  let v103 : BitVec 32 := v102
  let v104 : Index := Scalar.indexCast v103
  let c0_33 : Index := 0#32
  ![v104.toNat, 0]
def k0_off2 (i : grid0.Coords) (k0_t1 : Fin (k0_t1_loop i).trips) : Fin 2 → Nat :=
  let c0_i32_4 : BitVec 32 := 0#32
  let c1_i32_5 : BitVec 32 := 1#32
  let arg9 : BitVec 32 := Scf.iv c0_i32_4 c1_i32_5 k0_t1
  let c1024_i32_32 : BitVec 32 := 1024#32
  let v102 : BitVec 32 := Scalar.muli arg9 c1024_i32_32
  let v103 : BitVec 32 := v102
  let v124 : Index := Scalar.indexCast v103
  let c128_38 : Index := 128#32
  ![v124.toNat, 128]
@[reducible] def k0_t2_loop (i : grid0.Coords) : Scf.Loop 32 :=
  let c0_i32_4 : BitVec 32 := 0#32
  let arg2 : BitVec 32 := BitVec.ofNat 32 (i 2).val
  let v7 : BitVec 32 := Scalar.subi arg2 c0_i32_4
  let c1_i32 : BitVec 32 := 1#32
  let v9 : BitVec 32 := Scalar.divsi v7 c1_i32
  let v10 : BitVec 32 := Scalar.muli v9 c1_i32
  let v11 : BitVec 32 := Scalar.addi c0_i32_4 v10
  let v8 : BitVec 32 := Scalar.addi c0_i32_4 v7
  let c1_i32_6 : BitVec 32 := 1#32
  ⟨v11, v8, c1_i32_6⟩
def k0_mult2 (i : grid0.Coords) (k0_t2 : Fin (k0_t2_loop i).trips) : BitVec 32 :=
  let c0_i32_4 : BitVec 32 := 0#32
  let arg2 : BitVec 32 := BitVec.ofNat 32 (i 2).val
  let v7 : BitVec 32 := Scalar.subi arg2 c0_i32_4
  let c1_i32 : BitVec 32 := 1#32
  let v9 : BitVec 32 := Scalar.divsi v7 c1_i32
  let v10 : BitVec 32 := Scalar.muli v9 c1_i32
  let v11 : BitVec 32 := Scalar.addi c0_i32_4 v10
  let c1_i32_6 : BitVec 32 := 1#32
  let arg9 : BitVec 32 := Scf.iv v11 c1_i32_6 k0_t2
  let c1024_i32_32 : BitVec 32 := 1024#32
  let v102 : BitVec 32 := Scalar.muli arg9 c1024_i32_32
  v102
def k0_off3 (i : grid0.Coords) (k0_t2 : Fin (k0_t2_loop i).trips) : Fin 2 → Nat :=
  let c0_i32_4 : BitVec 32 := 0#32
  let arg2 : BitVec 32 := BitVec.ofNat 32 (i 2).val
  let v7 : BitVec 32 := Scalar.subi arg2 c0_i32_4
  let c1_i32 : BitVec 32 := 1#32
  let v9 : BitVec 32 := Scalar.divsi v7 c1_i32
  let v10 : BitVec 32 := Scalar.muli v9 c1_i32
  let v11 : BitVec 32 := Scalar.addi c0_i32_4 v10
  let c1_i32_6 : BitVec 32 := 1#32
  let arg9 : BitVec 32 := Scf.iv v11 c1_i32_6 k0_t2
  let c1024_i32_32 : BitVec 32 := 1024#32
  let v102 : BitVec 32 := Scalar.muli arg9 c1024_i32_32
  let v103 : BitVec 32 := v102
  let v104 : Index := Scalar.indexCast v103
  let c0_33 : Index := 0#32
  ![v104.toNat, 0]
def k0_off4 (i : grid0.Coords) (k0_t2 : Fin (k0_t2_loop i).trips) : Fin 2 → Nat :=
  let c0_i32_4 : BitVec 32 := 0#32
  let arg2 : BitVec 32 := BitVec.ofNat 32 (i 2).val
  let v7 : BitVec 32 := Scalar.subi arg2 c0_i32_4
  let c1_i32 : BitVec 32 := 1#32
  let v9 : BitVec 32 := Scalar.divsi v7 c1_i32
  let v10 : BitVec 32 := Scalar.muli v9 c1_i32
  let v11 : BitVec 32 := Scalar.addi c0_i32_4 v10
  let c1_i32_6 : BitVec 32 := 1#32
  let arg9 : BitVec 32 := Scf.iv v11 c1_i32_6 k0_t2
  let c1024_i32_32 : BitVec 32 := 1024#32
  let v102 : BitVec 32 := Scalar.muli arg9 c1024_i32_32
  let v103 : BitVec 32 := v102
  let v124 : Index := Scalar.indexCast v103
  let c128_38 : Index := 128#32
  ![v124.toNat, 128]
def k0_mult3 (i : grid0.Coords) : BitVec 32 :=
  let arg2 : BitVec 32 := BitVec.ofNat 32 (i 2).val
  let c1024_i32 : BitVec 32 := 1024#32
  let v14 : BitVec 32 := Scalar.muli arg2 c1024_i32
  v14
def k0_off5 (i : grid0.Coords) : Fin 2 → Nat :=
  let arg2 : BitVec 32 := BitVec.ofNat 32 (i 2).val
  let c1024_i32 : BitVec 32 := 1024#32
  let v14 : BitVec 32 := Scalar.muli arg2 c1024_i32
  let v15 : BitVec 32 := v14
  let v16 : Index := Scalar.indexCast v15
  let c0_7 : Index := 0#32
  ![v16.toNat, 0]
def k0_off6 (i : grid0.Coords) : Fin 2 → Nat :=
  let arg2 : BitVec 32 := BitVec.ofNat 32 (i 2).val
  let c1024_i32 : BitVec 32 := 1024#32
  let v14 : BitVec 32 := Scalar.muli arg2 c1024_i32
  let v15 : BitVec 32 := v14
  let v89 : Index := Scalar.indexCast v15
  let c128 : Index := 128#32
  ![v89.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MlafKernelIdeal.lean ====
variable {F : FTy → Type} [FloatOps F] [Named F]
def κ : String → Option EReal := fun
  | "mask" => some ⊥
  | _ => none
-- ==== MlafReferenceIdeal.lean ====
abbrev S4096x4096 : Shape := ⟨2, ![4096, 4096]⟩
abbrev S4096x128 : Shape := ⟨2, ![4096, 128]⟩
abbrev S2x2048x16x256 : Shape := ⟨4, ![2, 2048, 16, 256]⟩
abbrev S2x2048x16x128 : Shape := ⟨4, ![2, 2048, 16, 128]⟩
abbrev S2x2048x128 : Shape := ⟨3, ![2, 2048, 128]⟩
abbrev S2x16x2048x2048 : Shape := ⟨4, ![2, 16, 2048, 2048]⟩
abbrev S2x2048x2048x16 : Shape := ⟨4, ![2, 2048, 2048, 16]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x16x128x2048 : Shape := ⟨4, ![2, 16, 128, 2048]⟩
abbrev S4096x2048 : Shape := ⟨2, ![4096, 2048]⟩
abbrev S16x2x2048 : Shape := ⟨3, ![16, 2, 2048]⟩
abbrev S16x4096x1 : Shape := ⟨3, ![16, 4096, 1]⟩

abbrev nBuf : Space → Nat
  | .hbm => 82
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x128, .bf16⟩
  | .hbm, ⟨3, _⟩ => ⟨S4096x4096, .f32⟩
  | .hbm, ⟨4, _⟩ => ⟨S2x2048x16x256, .f32⟩
  | .hbm, ⟨5, _⟩ => ⟨S4096x4096, .f32⟩
  | .hbm, ⟨6, _⟩ => ⟨S2x2048x16x256, .f32⟩
  | .hbm, ⟨7, _⟩ => ⟨S2x2048x16x128, .f32⟩
  | .hbm, ⟨8, _⟩ => ⟨S4096x128, .f32⟩
  | .hbm, ⟨9, _⟩ => ⟨S2x2048x128, .f32⟩
  | .hbm, ⟨10, _⟩ => ⟨S2x2048x16x128, .f32⟩
  | .hbm, ⟨11, _⟩ => ⟨S2x16x2048x2048, .f32⟩
  | .hbm, ⟨12, _⟩ => ⟨S2x2048x16x128, .f32⟩
  | .hbm, ⟨13, _⟩ => ⟨S2x2048x2048x16, .f32⟩
  | .hbm, ⟨14, _⟩ => ⟨S2x16x2048x2048, .f32⟩
  | .hbm, ⟨15, _⟩ => ⟨S2x16x2048x2048, .f32⟩
  | .hbm, ⟨16, _⟩ => ⟨S2048, .i32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S1x2048, .i32⟩
  | .hbm, ⟨36, _⟩ => ⟨S2048x1, .i32⟩
  | .hbm, ⟨37, _⟩ => ⟨S2048x2048, .i32⟩
  | .hbm, ⟨38, _⟩ => ⟨S2048x2048, .i32⟩
  | .hbm, ⟨39, _⟩ => ⟨S2048x2048, .i1⟩
  | .hbm, ⟨40, _⟩ => ⟨S1x1x2048x2048, .i1⟩
  | .hbm, ⟨41, _⟩ => ⟨S_, .f32⟩
  | .hbm, ⟨42, _⟩ => ⟨S2x16x2048x2048, .f32⟩
  | .hbm, ⟨43, _⟩ => ⟨S2x16x2048x2048, .f32⟩
  | .hbm, ⟨44, _⟩ => ⟨S_, .f32⟩
  | .hbm, ⟨45, _⟩ => ⟨S_, .f32⟩
  | .hbm, ⟨46, _⟩ => ⟨S2x16x2048x2048, .i1⟩
  | .hbm, ⟨47, _⟩ => ⟨S2x16x2048x2048, .f32⟩
  | .hbm, ⟨48, _⟩ => ⟨S2x16x2048x2048, .f32⟩
  | .hbm, ⟨49, _⟩ => ⟨S_, .f32⟩
  | .hbm, ⟨50, _⟩ => ⟨S2x16x2048, .f32⟩
  | .hbm, ⟨51, _⟩ => ⟨S_, .f32⟩
  | .hbm, ⟨52, _⟩ => ⟨S2x16x2048, .f32⟩
  | .hbm, ⟨53, _⟩ => ⟨S2x16x2048, .f32⟩
  | .hbm, ⟨54, _⟩ => ⟨S2x16x2048x1, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S_, .f32⟩
  | .hbm, ⟨59, _⟩ => ⟨S2x16x2048, .f32⟩
  | .hbm, ⟨60, _⟩ => ⟨S2x16x2048x1, .f32⟩
  | .hbm, ⟨61, _⟩ => ⟨S2x16x2048x2048, .f32⟩
  | .hbm, ⟨62, _⟩ => ⟨S2x16x2048x2048, .f32⟩
  | .hbm, ⟨63, _⟩ => ⟨S4096x4096, .f32⟩
  | .hbm, ⟨64, _⟩ => ⟨S2x2048x16x256, .f32⟩
  | .hbm, ⟨65, _⟩ => ⟨S2x2048x16x128, .f32⟩
  | .hbm, ⟨66, _⟩ => ⟨S2x16x128x2048, .f32⟩
  | .hbm, ⟨67, _⟩ => ⟨S2x2048x16x128, .f32⟩
  | .hbm, ⟨68, _⟩ => ⟨S4096x2048, .f32⟩
  | .hbm, ⟨69, _⟩ => ⟨S_, .f32⟩
  | .hbm, ⟨70, _⟩ => ⟨S2x16x2048, .f32⟩
  | .hbm, ⟨71, _⟩ => ⟨S2x16x2048x1, .f32⟩
  | .hbm, ⟨72, _⟩ => ⟨S2x16x2048x2048, .f32⟩
  | .hbm, ⟨73, _⟩ => ⟨S2x16x2048x2048, .f32⟩
  | .hbm, ⟨74, _⟩ => ⟨S2x16x2048x2048, .f32⟩
  | .hbm, ⟨75, _⟩ => ⟨S_, .f32⟩
  | .hbm, ⟨76, _⟩ => ⟨S2x16x2048, .f32⟩
  | .hbm, ⟨77, _⟩ => ⟨S2x16x2048, .f32⟩
  | .hbm, ⟨78, _⟩ => ⟨S2x16x2048, .f32⟩
  | .hbm, ⟨79, _⟩ => ⟨S4096x2048, .bf16⟩
  | .hbm, ⟨80, _⟩ => ⟨S16x2x2048, .f32⟩
  | .hbm, ⟨81, _⟩ => ⟨S16x4096x1, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_cst_1 : Ref sig .tc := ⟨.hbm, 49, rfl⟩
abbrev main_v24 : Ref sig .tc := ⟨.hbm, 50, rfl⟩
abbrev main_cst_2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_3 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_4 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]
-- ==== MlabKernel.lean ====
abbrev S4096x4096 : Shape := ⟨2, ![4096, 4096]⟩
abbrev S4096x128 : Shape := ⟨2, ![4096, 128]⟩
abbrev S4096x2048 : Shape := ⟨2, ![4096, 2048]⟩
abbrev S4096x32 : Shape := ⟨2, ![4096, 32]⟩
abbrev S2x2048x16x256 : Shape := ⟨4, ![2, 2048, 16, 256]⟩
abbrev S2x2048x16x128 : Shape := ⟨4, ![2, 2048, 16, 128]⟩
abbrev S2x2048x128 : Shape := ⟨3, ![2, 2048, 128]⟩
abbrev S2x16x2048x2048 : Shape := ⟨4, ![2, 16, 2048, 2048]⟩
abbrev S2x2048x2048x16 : Shape := ⟨4, ![2, 2048, 2048, 16]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x16x128x2048 : Shape := ⟨4, ![2, 16, 128, 2048]⟩
abbrev S16x2x2048 : Shape := ⟨3, ![16, 2, 2048]⟩
abbrev S16x4096x1 : Shape := ⟨3, ![16, 4096, 1]⟩
abbrev S1024x256 : Shape := ⟨2, ![1024, 256]⟩
abbrev S2048x256 : Shape := ⟨2, ![2048, 256]⟩
abbrev S2048x128 : Shape := ⟨2, ![2048, 128]⟩
abbrev S1024x128 : Shape := ⟨2, ![1024, 128]⟩
abbrev S1x1024x1 : Shape := ⟨3, ![1, 1024, 1]⟩
abbrev S1024x1 : Shape := ⟨2, ![1024, 1]⟩
abbrev S1024 : Shape := ⟨1, ![1024]⟩
abbrev S1024x1024 : Shape := ⟨2, ![1024, 1024]⟩

abbrev nBuf : Space → Nat
  | .hbm => 94
  | .vmem => 27
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x128, .bf16⟩
  | .hbm, ⟨3, _⟩ => ⟨S4096x2048, .bf16⟩
  | .hbm, ⟨4, _⟩ => ⟨S4096x32, .f32⟩
  | .hbm, ⟨5, _⟩ => ⟨S4096x32, .f32⟩
  | .hbm, ⟨6, _⟩ => ⟨S4096x4096, .f32⟩
  | .hbm, ⟨7, _⟩ => ⟨S2x2048x16x256, .f32⟩
  | .hbm, ⟨8, _⟩ => ⟨S4096x4096, .f32⟩
  | .hbm, ⟨9, _⟩ => ⟨S2x2048x16x256, .f32⟩
  | .hbm, ⟨10, _⟩ => ⟨S2x2048x16x128, .f32⟩
  | .hbm, ⟨11, _⟩ => ⟨S4096x128, .f32⟩
  | .hbm, ⟨12, _⟩ => ⟨S2x2048x128, .f32⟩
  | .hbm, ⟨13, _⟩ => ⟨S2x2048x16x128, .f32⟩
  | .hbm, ⟨14, _⟩ => ⟨S2x16x2048x2048, .f32⟩
  | .hbm, ⟨15, _⟩ => ⟨S2x2048x16x128, .f32⟩
  | .hbm, ⟨16, _⟩ => ⟨S2x2048x2048x16, .f32⟩
  | .hbm, ⟨17, _⟩ => ⟨S2x16x2048x2048, .f32⟩
  | .hbm, ⟨18, _⟩ => ⟨S2x16x2048x2048, .f32⟩
  | .hbm, ⟨19, _⟩ => ⟨S2048, .i32⟩
  | .hbm, ⟨20, _⟩ => ⟨S_, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S1x2048, .i32⟩
  | .hbm, ⟨39, _⟩ => ⟨S2048x1, .i32⟩
  | .hbm, ⟨40, _⟩ => ⟨S2048x2048, .i32⟩
  | .hbm, ⟨41, _⟩ => ⟨S2048x2048, .i32⟩
  | .hbm, ⟨42, _⟩ => ⟨S2048x2048, .i1⟩
  | .hbm, ⟨43, _⟩ => ⟨S1x1x2048x2048, .i1⟩
  | .hbm, ⟨44, _⟩ => ⟨S_, .f32⟩
  | .hbm, ⟨45, _⟩ => ⟨S2x16x2048x2048, .f32⟩
  | .hbm, ⟨46, _⟩ => ⟨S2x16x2048x2048, .f32⟩
  | .hbm, ⟨47, _⟩ => ⟨S_, .f32⟩
  | .hbm, ⟨48, _⟩ => ⟨S_, .f32⟩
  | .hbm, ⟨49, _⟩ => ⟨S2x16x2048x2048, .i1⟩
  | .hbm, ⟨50, _⟩ => ⟨S2x16x2048x2048, .f32⟩
  | .hbm, ⟨51, _⟩ => ⟨S2x16x2048x2048, .f32⟩
  | .hbm, ⟨52, _⟩ => ⟨S_, .f32⟩
  | .hbm, ⟨53, _⟩ => ⟨S2x16x2048, .f32⟩
  | .hbm, ⟨54, _⟩ => ⟨S_, .f32⟩
  | .hbm, ⟨55, _⟩ => ⟨S2x16x2048, .f32⟩
  | .hbm, ⟨56, _⟩ => ⟨S2x16x2048, .f32⟩
  | .hbm, ⟨57, _⟩ => ⟨S2x16x2048x1, .f32⟩
  | .hbm, ⟨58, _⟩ => ⟨S2x16x2048x2048, .f32⟩
  | .hbm, ⟨59, _⟩ => ⟨S2x16x2048x2048, .f32⟩
  | .hbm, ⟨60, _⟩ => ⟨S2x16x2048x2048, .f32⟩
  | .hbm, ⟨61, _⟩ => ⟨S_, .f32⟩
  | .hbm, ⟨62, _⟩ => ⟨S2x16x2048, .f32⟩
  | .hbm, ⟨63, _⟩ => ⟨S2x16x2048x1, .f32⟩
  | .hbm, ⟨64, _⟩ => ⟨S2x16x2048x2048, .f32⟩
  | .hbm, ⟨65, _⟩ => ⟨S2x16x2048x2048, .f32⟩
  | .hbm, ⟨66, _⟩ => ⟨S4096x4096, .f32⟩
  | .hbm, ⟨67, _⟩ => ⟨S2x2048x16x256, .f32⟩
  | .hbm, ⟨68, _⟩ => ⟨S2x2048x16x128, .f32⟩
  | .hbm, ⟨69, _⟩ => ⟨S2x16x128x2048, .f32⟩
  | .hbm, ⟨70, _⟩ => ⟨S2x2048x16x128, .f32⟩
  | .hbm, ⟨71, _⟩ => ⟨S4096x2048, .f32⟩
  | .hbm, ⟨72, _⟩ => ⟨S_, .f32⟩
  | .hbm, ⟨73, _⟩ => ⟨S2x16x2048, .f32⟩
  | .hbm, ⟨74, _⟩ => ⟨S2x16x2048x1, .f32⟩
  | .hbm, ⟨75, _⟩ => ⟨S2x16x2048x2048, .f32⟩
  | .hbm, ⟨76, _⟩ => ⟨S2x16x2048x2048, .f32⟩
  | .hbm, ⟨77, _⟩ => ⟨S2x16x2048x2048, .f32⟩
  | .hbm, ⟨78, _⟩ => ⟨S_, .f32⟩
  | .hbm, ⟨79, _⟩ => ⟨S2x16x2048, .f32⟩
  | .hbm, ⟨80, _⟩ => ⟨S2x16x2048, .f32⟩
  | .hbm, ⟨81, _⟩ => ⟨S2x16x2048, .f32⟩
  | .hbm, ⟨82, _⟩ => ⟨S4096x2048, .bf16⟩
  | .hbm, ⟨83, _⟩ => ⟨S16x2x2048, .f32⟩
  | .hbm, ⟨84, _⟩ => ⟨S16x4096x1, .f32⟩
  | .hbm, ⟨85, _⟩ => ⟨S_, .f32⟩
  | .hbm, ⟨86, _⟩ => ⟨S4096x32, .f32⟩
  | .hbm, ⟨87, _⟩ => ⟨S4096x128, .f32⟩
  | .hbm, ⟨88, _⟩ => ⟨S4096x32, .f32⟩
  | .hbm, ⟨89, _⟩ => ⟨S4096x128, .f32⟩
  | .hbm, ⟨90, _⟩ => ⟨S4096x128, .f32⟩
  | .hbm, ⟨91, _⟩ => ⟨S4096x4096, .bf16⟩
  | .hbm, ⟨92, _⟩ => ⟨S4096x4096, .bf16⟩
  | .hbm, ⟨93, _⟩ => ⟨S4096x128, .f32⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1024x1, .f32⟩
  | .local _ .vmem, ⟨11, _⟩ => ⟨S1x1024x1, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x256, .bf16⟩
  | .local _ .vmem, ⟨19, _⟩ => ⟨S1024x256, .bf16⟩
  | .local _ .vmem, ⟨20, _⟩ => ⟨S2048x256, .bf16⟩
  | .local _ .vmem, ⟨21, _⟩ => ⟨S2048x256, .bf16⟩
  | .local _ .vmem, ⟨22, _⟩ => ⟨S2048x128, .f32⟩
  | .local _ .vmem, ⟨23, _⟩ => ⟨S2048x128, .f32⟩
  | .local _ .vmem, ⟨24, _⟩ => ⟨S2048x256, .bf16⟩
  | .local _ .vmem, ⟨25, _⟩ => ⟨S2048x256, .f32⟩
  | .local _ .vmem, ⟨26, _⟩ => ⟨S2048x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_cst_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v23 : Ref sig .tc := ⟨.hbm, 51, rfl⟩
abbrev main_cst_1 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_3 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_4 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_5 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_6 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57_0 : Ref sig .tc := ⟨.hbm, 91, rfl⟩
abbrev main_v57_1 : Ref sig .tc := ⟨.hbm, 92, rfl⟩
abbrev main_v57_2 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 16, 2], ![false, false, false]⟩

@[reducible] def k0_t1_loop (i : grid0.Coords) : Scf.Loop 32 :=
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let c1_i32_14 : BitVec 32 := 1#32
  ⟨c0_i32_13, v24, c1_i32_14⟩
def k0_mult1 (i : grid0.Coords) (k0_t1 : Fin (k0_t1_loop i).trips) : BitVec 32 :=
  let c0_i32_13 : BitVec 32 := 0#32
  let c1_i32_14 : BitVec 32 := 1#32
  let arg18 : BitVec 32 := Scf.iv c0_i32_13 c1_i32_14 k0_t1
  let c1024_i32_54 : BitVec 32 := 1024#32
  let v140 : BitVec 32 := Scalar.muli arg18 c1024_i32_54
  v140
def k0_off1 (i : grid0.Coords) (k0_t1 : Fin (k0_t1_loop i).trips) : Fin 2 → Nat :=
  let c0_i32_13 : BitVec 32 := 0#32
  let c1_i32_14 : BitVec 32 := 1#32
  let arg18 : BitVec 32 := Scf.iv c0_i32_13 c1_i32_14 k0_t1
  let c1024_i32_54 : BitVec 32 := 1024#32
  let v140 : BitVec 32 := Scalar.muli arg18 c1024_i32_54
  let v141 : BitVec 32 := v140
  let v142 : Index := Scalar.indexCast v141
  let c0_55 : Index := 0#32
  ![v142.toNat, 0]
def k0_off2 (i : grid0.Coords) (k0_t1 : Fin (k0_t1_loop i).trips) : Fin 2 → Nat :=
  let c0_i32_13 : BitVec 32 := 0#32
  let c1_i32_14 : BitVec 32 := 1#32
  let arg18 : BitVec 32 := Scf.iv c0_i32_13 c1_i32_14 k0_t1
  let c1024_i32_54 : BitVec 32 := 1024#32
  let v140 : BitVec 32 := Scalar.muli arg18 c1024_i32_54
  let v141 : BitVec 32 := v140
  let v150 : Index := Scalar.indexCast v141
  let c128_58 : Index := 128#32
  ![v150.toNat, 128]
def k0_off3 (i : grid0.Coords) (k0_t1 : Fin (k0_t1_loop i).trips) : Fin 2 → Nat :=
  let c0_i32_13 : BitVec 32 := 0#32
  let c1_i32_14 : BitVec 32 := 1#32
  let arg18 : BitVec 32 := Scf.iv c0_i32_13 c1_i32_14 k0_t1
  let c1024_i32_54 : BitVec 32 := 1024#32
  let v140 : BitVec 32 := Scalar.muli arg18 c1024_i32_54
  let v141 : BitVec 32 := v140
  let v167 : Index := Scalar.indexCast v141
  let c0_64 : Index := 0#32
  ![v167.toNat, 0]
@[reducible] def k0_t2_loop (i : grid0.Coords) : Scf.Loop 32 :=
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let v21 : BitVec 32 := Scalar.addi c0_i32_13 v20
  let c1_i32_15 : BitVec 32 := 1#32
  ⟨v24, v21, c1_i32_15⟩
def k0_mult2 (i : grid0.Coords) (k0_t2 : Fin (k0_t2_loop i).trips) : BitVec 32 :=
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let c1_i32_15 : BitVec 32 := 1#32
  let arg18 : BitVec 32 := Scf.iv v24 c1_i32_15 k0_t2
  let c1024_i32_54 : BitVec 32 := 1024#32
  let v140 : BitVec 32 := Scalar.muli arg18 c1024_i32_54
  v140
def k0_off4 (i : grid0.Coords) (k0_t2 : Fin (k0_t2_loop i).trips) : Fin 2 → Nat :=
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let c1_i32_15 : BitVec 32 := 1#32
  let arg18 : BitVec 32 := Scf.iv v24 c1_i32_15 k0_t2
  let c1024_i32_54 : BitVec 32 := 1024#32
  let v140 : BitVec 32 := Scalar.muli arg18 c1024_i32_54
  let v141 : BitVec 32 := v140
  let v142 : Index := Scalar.indexCast v141
  let c0_55 : Index := 0#32
  ![v142.toNat, 0]
def k0_off5 (i : grid0.Coords) (k0_t2 : Fin (k0_t2_loop i).trips) : Fin 2 → Nat :=
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let c1_i32_15 : BitVec 32 := 1#32
  let arg18 : BitVec 32 := Scf.iv v24 c1_i32_15 k0_t2
  let c1024_i32_54 : BitVec 32 := 1024#32
  let v140 : BitVec 32 := Scalar.muli arg18 c1024_i32_54
  let v141 : BitVec 32 := v140
  let v150 : Index := Scalar.indexCast v141
  let c128_58 : Index := 128#32
  ![v150.toNat, 128]
def k0_off6 (i : grid0.Coords) (k0_t2 : Fin (k0_t2_loop i).trips) : Fin 2 → Nat :=
  let c0_i32_13 : BitVec 32 := 0#32
  let arg2 : BitVec 32 := BitVec.ofNat 32 (i 2).val
  let v20 : BitVec 32 := Scalar.subi arg2 c0_i32_13
  let c1_i32 : BitVec 32 := 1#32
  let v22 : BitVec 32 := Scalar.divsi v20 c1_i32
  let v23 : BitVec 32 := Scalar.muli v22 c1_i32
  let v24 : BitVec 32 := Scalar.addi c0_i32_13 v23
  let c1_i32_15 : BitVec 32 := 1#32
  let arg18 : BitVec 32 := Scf.iv v24 c1_i32_15 k0_t2
  let c1024_i32_54 : BitVec 32 := 1024#32
  let v140 : BitVec 32 := Scalar.muli arg18 c1024_i32_54
  let v141 : BitVec 32 := v140
  let v167 : Index := Scalar.indexCast v141
  let c0_64 : Index := 0#32
  ![v167.toNat, 0]
def k0_mult3 (i : grid0.Coords) : BitVec 32 :=
  let arg2 : BitVec 32 := BitVec.ofNat 32 (i 2).val
  let c1024_i32 : BitVec 32 := 1024#32
  let v27 : BitVec 32 := Scalar.muli arg2 c1024_i32
  v27
def k0_off7 (i : grid0.Coords) : Fin 2 → Nat :=
  let arg2 : BitVec 32 := BitVec.ofNat 32 (i 2).val
  let c1024_i32 : BitVec 32 := 1024#32
  let v27 : BitVec 32 := Scalar.muli arg2 c1024_i32
  let v28 : BitVec 32 := v27
  let v29 : Index := Scalar.indexCast v28
  let c0_16 : Index := 0#32
  ![v29.toNat, 0]
def k0_off8 (i : grid0.Coords) : Fin 2 → Nat :=
  let arg2 : BitVec 32 := BitVec.ofNat 32 (i 2).val
  let c1024_i32 : BitVec 32 := 1024#32
  let v27 : BitVec 32 := Scalar.muli arg2 c1024_i32
  let v28 : BitVec 32 := v27
  let v90 : Index := Scalar.indexCast v28
  let c128 : Index := 128#32
  ![v90.toNat, 128]
def k0_off9 (i : grid0.Coords) : Fin 2 → Nat :=
  let arg2 : BitVec 32 := BitVec.ofNat 32 (i 2).val
  let c1024_i32 : BitVec 32 := 1024#32
  let v27 : BitVec 32 := Scalar.muli arg2 c1024_i32
  let v28 : BitVec 32 := v27
  let v107 : Index := Scalar.indexCast v28
  let c0_38 : Index := 0#32
  ![v107.toNat, 0]
def k0_cond3 (i : grid0.Coords) : BitVec 1 :=
  let arg2 : BitVec 32 := BitVec.ofNat 32 (i 2).val
  let c1_i32_52 : BitVec 32 := 1#32
  let v137 : BitVec 1 := Scalar.cmpi .eq arg2 c1_i32_52
  let v138 : BitVec 32 := Scalar.extui v137
  let c0_i32_53 : BitVec 32 := 0#32
  let v139 : BitVec 1 := Scalar.cmpi .ne v138 c0_i32_53
  v139

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== MlabKernelIdeal.lean ====
variable {F : FTy → Type} [FloatOps F] [Named F]
def κ : String → Option EReal := fun
  | "mask" => some ⊥
  | _ => none
-- ==== MlabReferenceIdeal.lean ====
abbrev S4096x4096 : Shape := ⟨2, ![4096, 4096]⟩
abbrev S4096x128 : Shape := ⟨2, ![4096, 128]⟩
abbrev S4096x2048 : Shape := ⟨2, ![4096, 2048]⟩
abbrev S4096x32 : Shape := ⟨2, ![4096, 32]⟩
abbrev S2x2048x16x256 : Shape := ⟨4, ![2, 2048, 16, 256]⟩
abbrev S2x2048x16x128 : Shape := ⟨4, ![2, 2048, 16, 128]⟩
abbrev S2x2048x128 : Shape := ⟨3, ![2, 2048, 128]⟩
abbrev S2x16x2048x2048 : Shape := ⟨4, ![2, 16, 2048, 2048]⟩
abbrev S2x2048x2048x16 : Shape := ⟨4, ![2, 2048, 2048, 16]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x16x128x2048 : Shape := ⟨4, ![2, 16, 128, 2048]⟩
abbrev S2x16x2048x128 : Shape := ⟨4, ![2, 16, 2048, 128]⟩
abbrev S4096x16x256 : Shape := ⟨3, ![4096, 16, 256]⟩
abbrev S4096x16x64 : Shape := ⟨3, ![4096, 16, 64]⟩
abbrev S4096x1x32 : Shape := ⟨3, ![4096, 1, 32]⟩
abbrev S4096x16x32 : Shape := ⟨3, ![4096, 16, 32]⟩
abbrev S4096x16x128 : Shape := ⟨3, ![4096, 16, 128]⟩

abbrev nBuf : Space → Nat
  | .hbm => 197
  | .vmem => 0
  | .smem => 0
  | _ => 0

abbrev hbmTy0_0 (i : Nat) : BufTy := match i % 128 with
  | 0 => ⟨S4096x4096, .bf16⟩
  | 1 => ⟨S4096x4096, .bf16⟩
  | 2 => ⟨S4096x128, .bf16⟩
  | 3 => ⟨S4096x2048, .bf16⟩
  | 4 => ⟨S4096x32, .f32⟩
  | 5 => ⟨S4096x32, .f32⟩
  | 6 => ⟨S4096x4096, .f32⟩
  | 7 => ⟨S4096x4096, .f32⟩
  | 8 => ⟨S4096x128, .f32⟩
  | 9 => ⟨S4096x2048, .f32⟩
  | 10 => ⟨S2x2048x16x256, .f32⟩
  | 11 => ⟨S2x2048x16x256, .f32⟩
  | 12 => ⟨S2x2048x16x128, .f32⟩
  | 13 => ⟨S2x2048x128, .f32⟩
  | 14 => ⟨S2x2048x16x128, .f32⟩
  | 15 => ⟨S2x16x2048x2048, .f32⟩
  | 16 => ⟨S2x2048x16x128, .f32⟩
  | 17 => ⟨S2x2048x2048x16, .f32⟩
  | 18 => ⟨S2x16x2048x2048, .f32⟩
  | 19 => ⟨S2x16x2048x2048, .f32⟩
  | 20 => ⟨S2048, .i32⟩
  | 21 => ⟨S_, .i32⟩
  | 22 => ⟨S_, .i32⟩
  | 23 => ⟨S2048, .i32⟩
  | 24 => ⟨S2048, .i32⟩
  | 25 => ⟨S2048, .i32⟩
  | 26 => ⟨S_, .i32⟩
  | 27 => ⟨S2048, .i32⟩
  | 28 => ⟨S2048, .i1⟩
  | 29 => ⟨S2048, .i32⟩
  | 30 => ⟨S2048, .i32⟩
  | 31 => ⟨S_, .i32⟩
  | 32 => ⟨S2048, .i32⟩
  | 33 => ⟨S2048, .i1⟩
  | 34 => ⟨S2048, .i1⟩
  | 35 => ⟨S_, .i32⟩
  | 36 => ⟨S2048, .i32⟩
  | 37 => ⟨S2048, .i32⟩
  | 38 => ⟨S2048, .i32⟩
  | 39 => ⟨S1x2048, .i32⟩
  | 40 => ⟨S2048x1, .i32⟩
  | 41 => ⟨S2048x2048, .i32⟩
  | 42 => ⟨S2048x2048, .i32⟩
  | 43 => ⟨S2048x2048, .i1⟩
  | 44 => ⟨S1x1x2048x2048, .i1⟩
  | 45 => ⟨S_, .f32⟩
  | 46 => ⟨S2x16x2048x2048, .f32⟩
  | 47 => ⟨S2x16x2048x2048, .f32⟩
  | 48 => ⟨S_, .f32⟩
  | 49 => ⟨S_, .f32⟩
  | 50 => ⟨S2x16x2048x2048, .i1⟩
  | 51 => ⟨S2x16x2048x2048, .f32⟩
  | 52 => ⟨S2x16x2048x2048, .f32⟩
  | 53 => ⟨S_, .f32⟩
  | 54 => ⟨S2x16x2048x2048, .f32⟩
  | 55 => ⟨S_, .f32⟩
  | 56 => ⟨S2x16x2048, .f32⟩
  | 57 => ⟨S2x16x2048x1, .f32⟩
  | 58 => ⟨S2x16x2048x2048, .f32⟩
  | 59 => ⟨S2x16x2048x2048, .i1⟩
  | 60 => ⟨S2x16x2048x2048, .f32⟩
  | 61 => ⟨S_, .f32⟩
  | 62 => ⟨S2x16x2048, .f32⟩
  | 63 => ⟨S_, .f32⟩
  | 64 => ⟨S2x16x2048, .f32⟩
  | 65 => ⟨S2x16x2048, .f32⟩
  | 66 => ⟨S_, .f32⟩
  | 67 => ⟨S2x16x2048, .f32⟩
  | 68 => ⟨S2x16x2048, .i1⟩
  | 69 => ⟨S_, .f32⟩
  | 70 => ⟨S2x16x2048, .f32⟩
  | 71 => ⟨S2x16x2048, .i1⟩
  | 72 => ⟨S_, .f32⟩
  | 73 => ⟨S2x16x2048, .f32⟩
  | 74 => ⟨S_, .f32⟩
  | 75 => ⟨S2x16x2048, .f32⟩
  | 76 => ⟨S_, .f32⟩
  | 77 => ⟨S2x16x2048, .f32⟩
  | 78 => ⟨S2x16x2048, .f32⟩
  | 79 => ⟨S2x16x2048, .f32⟩
  | 80 => ⟨S2x16x2048x1, .f32⟩
  | 81 => ⟨S2x16x2048x2048, .f32⟩
  | 82 => ⟨S2x16x2048x2048, .f32⟩
  | 83 => ⟨S2x16x2048x2048, .f32⟩
  | 84 => ⟨S_, .f32⟩
  | 85 => ⟨S2x16x2048, .f32⟩
  | 86 => ⟨S2x16x2048x1, .f32⟩
  | 87 => ⟨S2x16x2048x2048, .f32⟩
  | 88 => ⟨S2x16x2048x2048, .f32⟩
  | 89 => ⟨S2x16x2048x1, .f32⟩
  | 90 => ⟨S_, .f32⟩
  | 91 => ⟨S2x16x2048x1, .f32⟩
  | 92 => ⟨S2x16x2048x1, .f32⟩
  | 93 => ⟨S2x2048x16x256, .f32⟩
  | 94 => ⟨S2x2048x16x128, .f32⟩
  | 95 => ⟨S2x16x128x2048, .f32⟩
  | 96 => ⟨S2x2048x16x128, .f32⟩
  | 97 => ⟨S4096x2048, .f32⟩
  | 98 => ⟨S2x2048x16x128, .f32⟩
  | 99 => ⟨S2x16x128x2048, .f32⟩
  | 100 => ⟨S2x16x2048x2048, .f32⟩
  | 101 => ⟨S2x16x128x2048, .f32⟩
  | 102 => ⟨S2x2048x16x128, .f32⟩
  | 103 => ⟨S_, .f32⟩
  | 104 => ⟨S2x2048x16x256, .f32⟩
  | 105 => ⟨S4096x4096, .f32⟩
  | 106 => ⟨S2x16x2048x2048, .f32⟩
  | 107 => ⟨S2x16x2048x2048, .f32⟩
  | 108 => ⟨S2x16x2048x2048, .f32⟩
  | 109 => ⟨S_, .f32⟩
  | 110 => ⟨S2x16x2048, .f32⟩
  | 111 => ⟨S2x16x2048x1, .f32⟩
  | 112 => ⟨S2x16x2048x1, .f32⟩
  | 113 => ⟨S2x16x2048x2048, .f32⟩
  | 114 => ⟨S2x16x2048x2048, .f32⟩
  | 115 => ⟨S_, .f32⟩
  | 116 => ⟨S2x16x2048, .f32⟩
  | 117 => ⟨S2x16x2048x2048, .f32⟩
  | 118 => ⟨S2x16x2048x2048, .f32⟩
  | 119 => ⟨S2x16x2048x2048, .f32⟩
  | 120 => ⟨S_, .f32⟩
  | 121 => ⟨S2x16x2048x2048, .f32⟩
  | 122 => ⟨S2x16x2048x2048, .f32⟩
  | 123 => ⟨S_, .f32⟩
  | 124 => ⟨S2x16x2048x2048, .f32⟩
  | 125 => ⟨S2x16x2048x2048, .f32⟩
  | 126 => ⟨S2x2048x2048x16, .f32⟩
  | 127 => ⟨S2x2048x16x128, .f32⟩
  | _ => ⟨S4096x4096, .bf16⟩

abbrev hbmTy0_1 (i : Nat) : BufTy := match i % 128 with
  | 0 => ⟨S2x2048x128, .f32⟩
  | 1 => ⟨S_, .f32⟩
  | 2 => ⟨S2x2048x16x256, .f32⟩
  | 3 => ⟨S2x16x2048x128, .f32⟩
  | 4 => ⟨S2x2048x16x128, .f32⟩
  | 5 => ⟨S2x16x2048x128, .f32⟩
  | 6 => ⟨S2x2048x16x128, .f32⟩
  | 7 => ⟨S_, .f32⟩
  | 8 => ⟨S2x2048x16x256, .f32⟩
  | 9 => ⟨S2x2048x16x256, .f32⟩
  | 10 => ⟨S4096x128, .f32⟩
  | 11 => ⟨S_, .f32⟩
  | 12 => ⟨S2x2048x16x256, .f32⟩
  | 13 => ⟨S4096x4096, .f32⟩
  | 14 => ⟨S4096x4096, .f32⟩
  | 15 => ⟨S4096x4096, .f32⟩
  | 16 => ⟨S4096x16x256, .f32⟩
  | 17 => ⟨S4096x16x64, .f32⟩
  | 18 => ⟨S4096x1x32, .f32⟩
  | 19 => ⟨S4096x1x32, .f32⟩
  | 20 => ⟨S4096x16x32, .f32⟩
  | 21 => ⟨S4096x16x32, .f32⟩
  | 22 => ⟨S4096x16x32, .f32⟩
  | 23 => ⟨S4096x16x32, .f32⟩
  | 24 => ⟨S4096x16x32, .f32⟩
  | 25 => ⟨S4096x16x32, .f32⟩
  | 26 => ⟨S4096x16x32, .f32⟩
  | 27 => ⟨S4096x16x32, .f32⟩
  | 28 => ⟨S4096x16x32, .f32⟩
  | 29 => ⟨S4096x16x32, .f32⟩
  | 30 => ⟨S4096x16x32, .f32⟩
  | 31 => ⟨S4096x16x32, .f32⟩
  | 32 => ⟨S4096x16x64, .f32⟩
  | 33 => ⟨S4096x16x128, .f32⟩
  | 34 => ⟨S_, .f32⟩
  | 35 => ⟨S4096x16x64, .f32⟩
  | 36 => ⟨S4096x16x256, .f32⟩
  | 37 => ⟨S_, .f32⟩
  | 38 => ⟨S4096x16x64, .f32⟩
  | 39 => ⟨S4096x4096, .f32⟩
  | 40 => ⟨S4096x16x256, .f32⟩
  | 41 => ⟨S4096x16x128, .f32⟩
  | 42 => ⟨S4096x16x64, .f32⟩
  | 43 => ⟨S4096x16x64, .f32⟩
  | 44 => ⟨S_, .f32⟩
  | 45 => ⟨S4096x16x256, .f32⟩
  | 46 => ⟨S4096x16x32, .f32⟩
  | 47 => ⟨S4096x16x32, .f32⟩
  | 48 => ⟨S4096x16x32, .f32⟩
  | 49 => ⟨S4096x16x32, .f32⟩
  | 50 => ⟨S4096x16x32, .f32⟩
  | 51 => ⟨S4096x16x32, .f32⟩
  | 52 => ⟨S4096x16x32, .f32⟩
  | 53 => ⟨S4096x16x32, .f32⟩
  | 54 => ⟨S4096x16x32, .f32⟩
  | 55 => ⟨S4096x16x32, .f32⟩
  | 56 => ⟨S4096x16x32, .f32⟩
  | 57 => ⟨S4096x16x32, .f32⟩
  | 58 => ⟨S4096x16x32, .f32⟩
  | 59 => ⟨S_, .f32⟩
  | 60 => ⟨S4096x16x64, .f32⟩
  | 61 => ⟨S_, .f32⟩
  | 62 => ⟨S4096x16x64, .f32⟩
  | 63 => ⟨S4096x16x64, .f32⟩
  | 64 => ⟨S_, .f32⟩
  | 65 => ⟨S4096x16x256, .f32⟩
  | 66 => ⟨S4096x16x256, .f32⟩
  | 67 => ⟨S4096x4096, .f32⟩
  | 68 => ⟨S4096x4096, .bf16⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst : Ref sig .tc := ⟨.hbm, 45, rfl⟩
abbrev main_v22 : Ref sig .tc := ⟨.hbm, 46, rfl⟩
abbrev main_v23 : Ref sig .tc := ⟨.hbm, 47, rfl⟩
abbrev main_cst_0 : Ref sig .tc := ⟨.hbm, 48, rfl⟩
abbrev main_call1_v0 : Ref sig .tc := ⟨.hbm, 49, rfl⟩
abbrev main_v24_1 : Ref sig .tc := ⟨.hbm, 50, rfl⟩
abbrev main_call1_v2 : Ref sig .tc := ⟨.hbm, 51, rfl⟩
abbrev main_v24_0 : Ref sig .tc := ⟨.hbm, 52, rfl⟩
abbrev main_call1_cst : Ref sig .tc := ⟨.hbm, 53, rfl⟩
abbrev main_v24_2 : Ref sig .tc := ⟨.hbm, 54, rfl⟩
abbrev main_cst_1 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_2 : Ref sig .tc := ⟨.hbm, 61, rfl⟩
abbrev main_v30 : Ref sig .tc := ⟨.hbm, 62, rfl⟩
abbrev main_cst_3 : Ref sig .tc := ⟨.hbm, 63, rfl⟩
abbrev main_v31 : Ref sig .tc := ⟨.hbm, 64, rfl⟩
abbrev main_v32 : Ref sig .tc := ⟨.hbm, 65, rfl⟩
abbrev main_cst_4 : Ref sig .tc := ⟨.hbm, 66, rfl⟩
abbrev main_v33 : Ref sig .tc := ⟨.hbm, 67, rfl⟩
abbrev main_v34 : Ref sig .tc := ⟨.hbm, 68, rfl⟩
abbrev main_cst_5 : Ref sig .tc := ⟨.hbm, 69, rfl⟩
abbrev main_v35 : Ref sig .tc := ⟨.hbm, 70, rfl⟩
abbrev main_v36 : Ref sig .tc := ⟨.hbm, 71, rfl⟩
abbrev main_cst_6 : Ref sig .tc := ⟨.hbm, 72, rfl⟩
abbrev main_v37 : Ref sig .tc := ⟨.hbm, 73, rfl⟩
abbrev main_cst_7 : Ref sig .tc := ⟨.hbm, 74, rfl⟩
abbrev main_v38 : Ref sig .tc := ⟨.hbm, 75, rfl⟩
abbrev main_cst_8 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_9 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_10 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_11 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_12 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_13 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_call2_cst : Ref sig .tc := ⟨.hbm, 120, rfl⟩
abbrev main_call2_v0 : Ref sig .tc := ⟨.hbm, 121, rfl⟩
abbrev main_v77 : Ref sig .tc := ⟨.hbm, 122, rfl⟩
abbrev main_cst_14 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_15 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_16 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_17 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_18 : Ref sig .tc := ⟨.hbm, 162, rfl⟩
abbrev main_v113 : Ref sig .tc := ⟨.hbm, 163, rfl⟩
abbrev main_v114 : Ref sig .tc := ⟨.hbm, 164, rfl⟩
abbrev main_cst_19 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_20 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_21 : Ref sig .tc := ⟨.hbm, 187, rfl⟩
abbrev main_v135 : Ref sig .tc := ⟨.hbm, 188, rfl⟩
abbrev main_cst_22 : Ref sig .tc := ⟨.hbm, 189, rfl⟩
abbrev main_v136 : Ref sig .tc := ⟨.hbm, 190, rfl⟩
abbrev main_v137 : Ref sig .tc := ⟨.hbm, 191, rfl⟩
abbrev main_cst_23 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩

abbrev nD : Nat := 1
abbrev τ : Topo := Topo.v7x

variable {F : FTy → Type} [FloatOps F]
-- ==== Proof.Lib.HostMax.lean ====
/- The host's maximum along the last of four axes, read at an index: the fold of `max` along that axis, over free sizes. -/
module

public import Idealize.ShloMosaic.Lib.Pointwise

@[expose] public section

namespace Cert.HostMax

open Idealize.ShloMosaic

theorem apply_r4 {n0 n1 n2 n3 : ℕ} {φ : FTy} (h : (⟨4, ![n0, n1, n2, n3]⟩ : Shape).ReducesTo [3] (⟨3, ![n0, n1, n2]⟩ : Shape))
    (hu : 0 < (⟨0, ![]⟩ : Shape).numel) (v : (⟨4, ![n0, n1, n2, n3]⟩ : Shape).Idx → EReal) (init : (⟨0, ![]⟩ : Shape).Idx → EReal)
    (i : Fin n0) (j : Fin n1) (k : Fin n2) :
    Host.reduce (FloatOps.maximumf (F := Ideal) (φ := φ)) v init h hu (ix3 i j k)
      = (Finset.univ : Finset (Fin n3)).fold max (init ix0) (fun x => v (ix4 i j k x)) := by
  pointwise
  rw [show Shape.Idx.first hu = ix0 from funext fun a => a.elim0]

end Cert.HostMax
end
-- ==== Proof.Mem.Outs.lean ====
/- What the body of the memory-attention gradient leaves in its three output blocks at a grid point, as the payloads
   of the point's input blocks: in the first point of a pair the sums over the query rows start from zero, in the second they
   continue from what the first left. -/
module

public import proofs.«01_k».proof.Proof.Gen.MemKernelIdeal.Value
public import Idealize.ShloMosaic.Lib.Tactic

@[expose] public section

noncomputable section

namespace Cert.MemValue

open Cert.MemKernelIdeal Cert.MemKernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The query gradient of a first point. -/
theorem out0_A_4_eq (c : Dev nD) (i : grid0.Coords) (arg3 : Memref sig .tc .vmem S1024x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S256x512 .f32) (harg8 : arg8.IsWhole) (arg9 : Memref sig .tc .vmem S256x512 .f32) (harg9 : arg9.IsWhole) (hc0 : cond0_0 i)
    (x0 : Vec F S1024x512 .bf16) (x1 : Vec F S256x512 .bf16) (x2 : Vec F S256x512 .bf16) (x3 : Vec F S1024x512 .bf16) :
    out0_A_4 c i arg3 harg3 arg4 harg4 arg5 harg5 arg6 harg6 arg7 harg7 arg8 harg8 arg9 harg9 hc0 x0 x1 x2 x3 = k0_pay7 x0 x1 x2 x3 := by
  unfold out0_A_4
  rw [View.read_writes_eq_canon _ _ _ (cover0_A_4 c i arg3 harg3 arg4 harg4 arg5 harg5 arg6 harg6 arg7 harg7 arg8 harg8 arg9 harg9 hc0 x0 x1 x2 x3)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, harg7.read_unread, harg8.read_unread, harg9.read_unread, View.ld_unit_zero (S := S1024x512) hz, View.readCov_unit_zero (S := S1024x512) _ hz, View.ld_unit_zero (S := S256x512) hz, View.readCov_unit_zero (S := S256x512) _ hz]

/-- The key gradient of a first point: its rows' sum on zero. -/
theorem out0_A_5_eq (c : Dev nD) (i : grid0.Coords) (arg3 : Memref sig .tc .vmem S1024x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S256x512 .f32) (harg8 : arg8.IsWhole) (arg9 : Memref sig .tc .vmem S256x512 .f32) (harg9 : arg9.IsWhole) (hc0 : cond0_0 i)
    (x0 : Vec F S1024x512 .bf16) (x1 : Vec F S256x512 .bf16) (x2 : Vec F S256x512 .bf16) (x3 : Vec F S1024x512 .bf16) :
    out0_A_5 c i arg3 harg3 arg4 harg4 arg5 harg5 arg6 harg6 arg7 harg7 arg8 harg8 arg9 harg9 hc0 x0 x1 x2 x3 = k0_pay1 x0 (k0_pay6 x0 x1 x2 x3) k0_pay3 := by
  unfold out0_A_5
  rw [View.read_writes_eq_canon _ _ _ (cover0_A_5 c i arg3 harg3 arg4 harg4 arg5 harg5 arg6 harg6 arg7 harg7 arg8 harg8 arg9 harg9 hc0 x0 x1 x2 x3)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, harg7.read_unread, harg8.read_unread, harg9.read_unread, View.ld_unit_zero (S := S1024x512) hz, View.readCov_unit_zero (S := S1024x512) _ hz, View.ld_unit_zero (S := S256x512) hz, View.readCov_unit_zero (S := S256x512) _ hz]

/-- The value gradient of a first point: its rows' sum on zero. -/
theorem out0_A_6_eq (c : Dev nD) (i : grid0.Coords) (arg3 : Memref sig .tc .vmem S1024x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S256x512 .f32) (harg8 : arg8.IsWhole) (arg9 : Memref sig .tc .vmem S256x512 .f32) (harg9 : arg9.IsWhole) (hc0 : cond0_0 i)
    (x0 : Vec F S1024x512 .bf16) (x1 : Vec F S256x512 .bf16) (x2 : Vec F S256x512 .bf16) (x3 : Vec F S1024x512 .bf16) :
    out0_A_6 c i arg3 harg3 arg4 harg4 arg5 harg5 arg6 harg6 arg7 harg7 arg8 harg8 arg9 harg9 hc0 x0 x1 x2 x3 = k0_pay2 x3 (k0_pay5 x0 x1) k0_pay4 := by
  unfold out0_A_6
  rw [View.read_writes_eq_canon _ _ _ (cover0_A_6 c i arg3 harg3 arg4 harg4 arg5 harg5 arg6 harg6 arg7 harg7 arg8 harg8 arg9 harg9 hc0 x0 x1 x2 x3)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, harg7.read_unread, harg8.read_unread, harg9.read_unread, View.ld_unit_zero (S := S1024x512) hz, View.readCov_unit_zero (S := S1024x512) _ hz, View.ld_unit_zero (S := S256x512) hz, View.readCov_unit_zero (S := S256x512) _ hz]

/-- The query gradient of a second point. -/
theorem out0_B_4_eq (c : Dev nD) (i : grid0.Coords) (arg3 : Memref sig .tc .vmem S1024x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S256x512 .f32) (harg8 : arg8.IsWhole) (arg9 : Memref sig .tc .vmem S256x512 .f32) (harg9 : arg9.IsWhole) (hc0 : ¬cond0_0 i)
    (x0 : Vec F S1024x512 .bf16) (x1 : Vec F S256x512 .bf16) (x2 : Vec F S256x512 .bf16) (x3 : Vec F S1024x512 .bf16) (xo5 : Vec F S256x512 .f32) (xo6 : Vec F S256x512 .f32) :
    out0_B_4 c i arg3 harg3 arg4 harg4 arg5 harg5 arg6 harg6 arg7 harg7 arg8 harg8 arg9 harg9 hc0 x0 x1 x2 x3 xo5 xo6 = k0_pay7 x0 x1 x2 x3 := by
  unfold out0_B_4
  rw [View.read_writes_eq_canon _ _ _ (cover0_B_4 c i arg3 harg3 arg4 harg4 arg5 harg5 arg6 harg6 arg7 harg7 arg8 harg8 arg9 harg9 hc0 x0 x1 x2 x3 xo5 xo6)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, harg7.read_unread, harg8.read_unread, harg9.read_unread, View.ld_unit_zero (S := S1024x512) hz, View.readCov_unit_zero (S := S1024x512) _ hz, View.ld_unit_zero (S := S256x512) hz, View.readCov_unit_zero (S := S256x512) _ hz]

/-- The key gradient of a second point: its rows' sum on what the first left. -/
theorem out0_B_5_eq (c : Dev nD) (i : grid0.Coords) (arg3 : Memref sig .tc .vmem S1024x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S256x512 .f32) (harg8 : arg8.IsWhole) (arg9 : Memref sig .tc .vmem S256x512 .f32) (harg9 : arg9.IsWhole) (hc0 : ¬cond0_0 i)
    (x0 : Vec F S1024x512 .bf16) (x1 : Vec F S256x512 .bf16) (x2 : Vec F S256x512 .bf16) (x3 : Vec F S1024x512 .bf16) (xo5 : Vec F S256x512 .f32) (xo6 : Vec F S256x512 .f32) :
    out0_B_5 c i arg3 harg3 arg4 harg4 arg5 harg5 arg6 harg6 arg7 harg7 arg8 harg8 arg9 harg9 hc0 x0 x1 x2 x3 xo5 xo6 = k0_pay1 x0 (k0_pay6 x0 x1 x2 x3) xo5 := by
  unfold out0_B_5
  rw [View.read_writes_eq_canon _ _ _ (cover0_B_5 c i arg3 harg3 arg4 harg4 arg5 harg5 arg6 harg6 arg7 harg7 arg8 harg8 arg9 harg9 hc0 x0 x1 x2 x3 xo5 xo6)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, harg7.read_unread, harg8.read_unread, harg9.read_unread, View.ld_unit_zero (S := S1024x512) hz, View.readCov_unit_zero (S := S1024x512) _ hz, View.ld_unit_zero (S := S256x512) hz, View.readCov_unit_zero (S := S256x512) _ hz]

/-- The value gradient of a second point: its rows' sum on what the first left. -/
theorem out0_B_6_eq (c : Dev nD) (i : grid0.Coords) (arg3 : Memref sig .tc .vmem S1024x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S256x512 .f32) (harg8 : arg8.IsWhole) (arg9 : Memref sig .tc .vmem S256x512 .f32) (harg9 : arg9.IsWhole) (hc0 : ¬cond0_0 i)
    (x0 : Vec F S1024x512 .bf16) (x1 : Vec F S256x512 .bf16) (x2 : Vec F S256x512 .bf16) (x3 : Vec F S1024x512 .bf16) (xo5 : Vec F S256x512 .f32) (xo6 : Vec F S256x512 .f32) :
    out0_B_6 c i arg3 harg3 arg4 harg4 arg5 harg5 arg6 harg6 arg7 harg7 arg8 harg8 arg9 harg9 hc0 x0 x1 x2 x3 xo5 xo6 = k0_pay2 x3 (k0_pay5 x0 x1) xo6 := by
  unfold out0_B_6
  rw [View.read_writes_eq_canon _ _ _ (cover0_B_6 c i arg3 harg3 arg4 harg4 arg5 harg5 arg6 harg6 arg7 harg7 arg8 harg8 arg9 harg9 hc0 x0 x1 x2 x3 xo5 xo6)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, harg7.read_unread, harg8.read_unread, harg9.read_unread, View.ld_unit_zero (S := S1024x512) hz, View.readCov_unit_zero (S := S1024x512) _ hz, View.ld_unit_zero (S := S256x512) hz, View.readCov_unit_zero (S := S256x512) _ hz]

end Cert.MemValue

end
-- ==== Proof.Mem.Spec.lean ====
/- The memory cross-attention gradient of one query row, in extended reals, with no program in it: the form the
   kernel computes (the softmax row times the centred cotangent), the form that differentiating the softmax
   quotient gives (the quotient rule over the unnormalised exponentials), and their equality for finite inputs. -/
module

public import Idealize.ShloMosaic.PureOps.Ideal
public import Idealize.ShloMosaic.PureOps.Ideal.Laws

@[expose] public section

noncomputable section

namespace Cert.MemSpec

open Idealize.ShloMosaic
open scoped BigOperators

/-- The scale of the scores, `512 ** -0.5` as the float word both programs hold. -/
abbrev sc : EReal := Ideal.ofBits .f32 0x3D3504F3#32

/-- The scale is a real number. -/
theorem sc_real : ∃ r : ℝ, sc = (r : EReal) :=
  ⟨_, by simp only [sc, Ideal.ofBits, Ideal.ieee]; simp [-EReal.coe_mul]; rfl⟩

variable {n : ℕ}

/-- The largest entry of a row of scores. -/
def rowMax (s : Fin n → EReal) : EReal := (Finset.univ : Finset (Fin n)).fold max ⊥ s

/-- The exponential of a score less the row's largest. -/
def ex (s : Fin n → EReal) (m : Fin n) : EReal := Ideal.exp (s m - rowMax s)

/-- The row's sum of exponentials. -/
def den (s : Fin n → EReal) : EReal := ∑ m : Fin n, ex s m

/-- The softmax of the row. -/
def prob (s : Fin n → EReal) (m : Fin n) : EReal := Ideal.div (ex s m) (den s)

/-- The scores' gradient as the kernel writes it: the softmax times the centred cotangent, times the scale. -/
def dscore (s dp : Fin n → EReal) (m : Fin n) : EReal :=
  prob s m * (dp m - ∑ k : Fin n, dp k * prob s k) * sc

/-- The scores' gradient as the quotient rule writes it. -/
def dscoreQ (s dp : Fin n → EReal) (m : Fin n) : EReal :=
  (Ideal.div (dp m) (den s) + -(∑ k : Fin n, dp k * Ideal.div 1 (den s * den s) * ex s k)) * ex s m * sc

/-- A finite sum of reals, read in the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- A maximum over finitely many reals, at least one, is one of them. -/
theorem fold_max_real (h : 0 < n) (s : Fin n → ℝ) :
    ∃ M : ℝ, (Finset.univ : Finset (Fin n)).fold max ⊥ (fun m => (s m : EReal)) = (M : EReal) := by
  obtain ⟨i, -, h⟩ := Finset.exists_mem_eq_sup (Finset.univ : Finset (Fin n)) ⟨⟨0, h⟩, Finset.mem_univ _⟩ (fun m => (s m : EReal))
  exact ⟨s i, h⟩

/-- For finite scores and cotangents the two forms of the scores' gradient agree. -/
theorem dscoreQ_eq (hn : 0 < n) (s dp : Fin n → ℝ) (m : Fin n) :
    dscoreQ (fun k => (s k : EReal)) (fun k => (dp k : EReal)) m
      = dscore (fun k => (s k : EReal)) (fun k => (dp k : EReal)) m := by
  obtain ⟨M, hM⟩ := fold_max_real hn s
  have hex : ∀ k, ex (fun k => (s k : EReal)) k = ((Real.exp (s k - M) : ℝ) : EReal) := fun k => by
    unfold ex rowMax; rw [hM, ← EReal.coe_sub]; rfl
  have hden : den (fun k => (s k : EReal)) = ((∑ k : Fin n, Real.exp (s k - M) : ℝ) : EReal) := by
    unfold den; simp only [hex]; exact (coe_sum _ _).symm
  have hL : (∑ k : Fin n, Real.exp (s k - M)) ≠ 0 :=
    (Finset.sum_pos (fun k _ => Real.exp_pos _) ⟨⟨0, hn⟩, Finset.mem_univ _⟩).ne'
  generalize hLdef : (∑ k : Fin n, Real.exp (s k - M)) = L at hden hL
  obtain ⟨c, hc⟩ := sc_real
  unfold dscoreQ dscore prob
  rw [hc, hden, ← EReal.coe_mul]
  simp only [hex, Ideal.div_coe hL, Ideal.div_coe (mul_ne_zero hL hL)]
  have e1 : ∀ k, (dp k : EReal) * (1 * ((1 / (L * L) : ℝ) : EReal)) * ((Real.exp (s k - M) : ℝ) : EReal)
      = ((dp k * (1 / (L * L)) * Real.exp (s k - M) : ℝ) : EReal) := fun k => by push_cast; rw [one_mul]
  have e2 : ∀ k, (dp k : EReal) * (((Real.exp (s k - M) : ℝ) : EReal) * ((1 / L : ℝ) : EReal))
      = ((dp k * (Real.exp (s k - M) * (1 / L)) : ℝ) : EReal) := fun k => by push_cast; rfl
  simp only [e1, e2]
  rw [← coe_sum, ← coe_sum]
  have s1 : (∑ k : Fin n, dp k * (1 / (L * L)) * Real.exp (s k - M)) = (∑ k : Fin n, dp k * Real.exp (s k - M)) / (L * L) := by
    rw [Finset.sum_div]; exact Finset.sum_congr rfl fun k _ => by ring
  have s2 : (∑ k : Fin n, dp k * (Real.exp (s k - M) * (1 / L))) = (∑ k : Fin n, dp k * Real.exp (s k - M)) / L := by
    rw [Finset.sum_div]; exact Finset.sum_congr rfl fun k _ => by ring
  rw [s1, s2]
  generalize (∑ k : Fin n, dp k * Real.exp (s k - M)) = D
  norm_cast
  field_simp
  ring

end Cert.MemSpec

end
-- ==== Proof.Mem.Point.lean ====
/- The payloads of the memory-attention gradient read at an index, over the extended reals: the softmax row, the
   scores' gradient, and the three products. -/
module

public import proofs.«01_k».proof.Proof.Gen.MemKernelIdeal.Value
public import proofs.«01_k».proof.Proof.Mem.Spec
public import Idealize.ShloMosaic.Lib.Pointwise

@[expose] public section

noncomputable section

namespace Cert.MemValue

open Cert.MemKernelIdeal Cert.MemKernelIdeal.Gen Cert.MemSpec Idealize.ShloMosaic
open scoped BigOperators

/-- The word of the maximum's start is minus infinity. -/
theorem negInf_word : Ideal.ofBits .f32 0xFF800000#32 = ⊥ := by simp [Ideal.ofBits, Ideal.ieee]

/-- The scores of query row `r` against the block's keys. -/
def scoreRow (q : Vec Ideal S1024x512 .bf16) (k : Vec Ideal S256x512 .bf16) (r : Fin 1024) (j : Fin 256) : EReal :=
  (∑ d : Fin 512, q (ix2 r d) * k (ix2 j d)) * sc

/-- The cotangent of the softmax of row `r`. -/
def cotRow (g : Vec Ideal S1024x512 .bf16) (v : Vec Ideal S256x512 .bf16) (r : Fin 1024) (j : Fin 256) : EReal :=
  ∑ d : Fin 512, g (ix2 r d) * v (ix2 j d)

theorem pay5_apply (q : Vec Ideal S1024x512 .bf16) (k : Vec Ideal S256x512 .bf16) (r : Fin 1024) (j : Fin 256) :
    k0_pay5 (F := Ideal) q k (ix2 r j) = prob (scoreRow q k r) j := by
  unfold k0_pay5
  pointwise
  rw [negInf_word]
  rfl

theorem pay6_apply (q : Vec Ideal S1024x512 .bf16) (k v : Vec Ideal S256x512 .bf16) (g : Vec Ideal S1024x512 .bf16)
    (r : Fin 1024) (j : Fin 256) :
    k0_pay6 (F := Ideal) q k v g (ix2 r j) = dscore (scoreRow q k r) (cotRow g v r) j := by
  unfold k0_pay6
  pointwise
  simp only [pay5_apply]
  rfl

theorem pay7_apply (q : Vec Ideal S1024x512 .bf16) (k v : Vec Ideal S256x512 .bf16) (g : Vec Ideal S1024x512 .bf16)
    (r : Fin 1024) (d : Fin 512) :
    k0_pay7 (F := Ideal) q k v g (ix2 r d) = ∑ j : Fin 256, dscore (scoreRow q k r) (cotRow g v r) j * k (ix2 j d) := by
  unfold k0_pay7
  pointwise
  simp only [pay6_apply]

theorem pay1_apply (q : Vec Ideal S1024x512 .bf16) (ds : FVec Ideal S1024x256 .bf16) (acc : Vec Ideal S256x512 .f32)
    (j : Fin 256) (d : Fin 512) :
    k0_pay1 (F := Ideal) q ds acc (ix2 j d) = acc (ix2 j d) + ∑ r : Fin 1024, ds (ix2 r j) * q (ix2 r d) := by
  unfold k0_pay1
  pointwise

theorem pay2_apply (g : Vec Ideal S1024x512 .bf16) (p : FVec Ideal S1024x256 .f32) (acc : Vec Ideal S256x512 .f32)
    (j : Fin 256) (d : Fin 512) :
    k0_pay2 (F := Ideal) g p acc (ix2 j d) = acc (ix2 j d) + ∑ r : Fin 1024, p (ix2 r j) * g (ix2 r d) := by
  unfold k0_pay2
  pointwise

theorem pay3_apply (i : S256x512.Idx) : k0_pay3 (F := Ideal) i = 0 := by
  unfold k0_pay3; simp [broadcast, Scalar.ofBits, Ideal.ofBits, Ideal.ieee]

theorem pay4_apply (i : S256x512.Idx) : k0_pay4 (F := Ideal) i = 0 := by
  unfold k0_pay4; simp [broadcast, Scalar.ofBits, Ideal.ofBits, Ideal.ieee]

end Cert.MemValue

end
-- ==== Proof.Mem.Arrays.lean ====
/- What the three result arrays of the memory-attention gradient hold after the run, entry by entry, as sums over the
   argument arrays: the query gradient block by block, the key and value gradients each as the sum of the two grid
   points that share a block, which is one sum over the sequence's 2048 query rows. -/
module

public import proofs.«01_k».proof.Proof.Mem.Outs
public import proofs.«01_k».proof.Proof.Mem.Point

@[expose] public section

noncomputable section

namespace Cert.MemValue

open Cert.MemKernelIdeal Cert.MemKernelIdeal.Gen Cert.MemSpec Idealize.ShloMosaic Idealize.ShloMosaic.TcCoe Idealize.SL.Sem
open Idealize.ShloMosaic.Pipeline (Dat)
open scoped BigOperators

/-! ## The gradients as sums over the argument arrays -/

/-- The array row of query row `r` of sequence `b`, of memory row `j` of sequence `b`, and the column of lane `d` of head `h`. -/
def qr (b : Fin 2) (r : Fin 2048) : Fin 4096 := ⟨b.val * 2048 + r.val, by omega⟩
def kr (b : Fin 2) (j : Fin 256) : Fin 512 := ⟨b.val * 256 + j.val, by omega⟩
def cc (h : Fin 4) (d : Fin 512) : Fin 2048 := ⟨h.val * 512 + d.val, by omega⟩

section
variable (q : S4096x2048.Idx → EReal) (k v : S512x2048.Idx → EReal) (g : S4096x2048.Idx → EReal)

/-- The scores of one query row against the memory rows, -/
def scoreA (b : Fin 2) (h : Fin 4) (r : Fin 2048) (j : Fin 256) : EReal :=
  (∑ d : Fin 512, q (ix2 (qr b r) (cc h d)) * k (ix2 (kr b j) (cc h d))) * sc
/-- and the cotangent of its softmax. -/
def cotA (b : Fin 2) (h : Fin 4) (r : Fin 2048) (j : Fin 256) : EReal :=
  ∑ d : Fin 512, g (ix2 (qr b r) (cc h d)) * v (ix2 (kr b j) (cc h d))
/-- The query gradient, -/
def dqA (b : Fin 2) (h : Fin 4) (r : Fin 2048) (d : Fin 512) : EReal :=
  ∑ j : Fin 256, dscore (scoreA q k b h r) (cotA v g b h r) j * k (ix2 (kr b j) (cc h d))
/-- the key gradient -/
def dkA (b : Fin 2) (h : Fin 4) (j : Fin 256) (d : Fin 512) : EReal :=
  ∑ r : Fin 2048, dscore (scoreA q k b h r) (cotA v g b h r) j * q (ix2 (qr b r) (cc h d))
/-- and the value gradient. -/
def dvA (b : Fin 2) (h : Fin 4) (j : Fin 256) (d : Fin 512) : EReal :=
  ∑ r : Fin 2048, prob (scoreA q k b h r) j * g (ix2 (qr b r) (cc h d))
end

/-! ## The blocks -/

variable (m : (ℓ : Loc nD τ sig) → Buf (Elt Ideal) ℓ) (c : Dev nD)

/-- The four argument arrays. -/
abbrev argQ : S4096x2048.Idx → EReal := m ((c : Thread nD τ).loc main_arg0)
abbrev argK : S512x2048.Idx → EReal := m ((c : Thread nD τ).loc main_arg1)
abbrev argV : S512x2048.Idx → EReal := m ((c : Thread nD τ).loc main_arg2)
abbrev argG : S4096x2048.Idx → EReal := m ((c : Thread nD τ).loc main_arg3)

/-- The grid point of sequence `b`, head `h` and half `i` of the query rows. -/
def pt (b : Fin 2) (h : Fin 4) (i : Fin 2) : Fin cfg0.N :=
  ⟨(b.val * 4 + h.val) * 2 + i.val, lt_of_lt_of_eq (by omega : _ < 16) N_0.symm⟩

/-- The row `r` of half `i`, as a row of the sequence. -/
def half (i : Fin 2) (r : Fin 1024) : Fin 2048 := ⟨i.val * 1024 + r.val, by omega⟩

theorem idx_q : ∀ (b : Fin 2) (h : Fin 4) (i : Fin 2), win0_0.index (pt b h i) = ![b.val * 2 + i.val, h.val]
    ∧ win0_1.index (pt b h i) = ![b.val, h.val] ∧ win0_2.index (pt b h i) = ![b.val, h.val]
    ∧ win0_3.index (pt b h i) = ![b.val * 2 + i.val, h.val] ∧ win0_4.index (pt b h i) = ![b.val * 2 + i.val, h.val]
    ∧ win0_5.index (pt b h i) = ![b.val, h.val] ∧ win0_6.index (pt b h i) = ![b.val, h.val] := by decide +kernel

theorem emb4 (b : Fin 2) (h : Fin 4) (i : Fin 2) (r : Fin 1024) (d : Fin 512) :
    ((cfg0.win 4).blk (pt b h i)).view.emb (ix2 r d) = ix2 (qr b (half i r)) (cc h d) := by
  have e := (idx_q b h i).2.2.2.2.1
  funext a
  apply Fin.ext
  match a with
  | ⟨0, _⟩ =>
    show win0_4.index (pt b h i) (0 : Fin 2) * 1024 + 1 * r.val = b.val * 2048 + (i.val * 1024 + r.val)
    rw [e]; show (b.val * 2 + i.val) * 1024 + 1 * r.val = _; omega
  | ⟨1, _⟩ =>
    show win0_4.index (pt b h i) (1 : Fin 2) * 512 + 1 * d.val = h.val * 512 + d.val
    rw [e]; show h.val * 512 + 1 * d.val = _; omega

theorem emb5 (b : Fin 2) (h : Fin 4) (i : Fin 2) (j : Fin 256) (d : Fin 512) :
    ((cfg0.win 5).blk (pt b h i)).view.emb (ix2 j d) = ix2 (kr b j) (cc h d) := by
  have e := (idx_q b h i).2.2.2.2.2.1
  funext a
  apply Fin.ext
  match a with
  | ⟨0, _⟩ =>
    show win0_5.index (pt b h i) (0 : Fin 2) * 256 + 1 * j.val = b.val * 256 + j.val
    rw [e]; show b.val * 256 + 1 * j.val = _; omega
  | ⟨1, _⟩ =>
    show win0_5.index (pt b h i) (1 : Fin 2) * 512 + 1 * d.val = h.val * 512 + d.val
    rw [e]; show h.val * 512 + 1 * d.val = _; omega

theorem emb6 (b : Fin 2) (h : Fin 4) (i : Fin 2) (j : Fin 256) (d : Fin 512) :
    ((cfg0.win 6).blk (pt b h i)).view.emb (ix2 j d) = ix2 (kr b j) (cc h d) := by
  have e := (idx_q b h i).2.2.2.2.2.2
  funext a
  apply Fin.ext
  match a with
  | ⟨0, _⟩ =>
    show win0_6.index (pt b h i) (0 : Fin 2) * 256 + 1 * j.val = b.val * 256 + j.val
    rw [e]; show b.val * 256 + 1 * j.val = _; omega
  | ⟨1, _⟩ =>
    show win0_6.index (pt b h i) (1 : Fin 2) * 512 + 1 * d.val = h.val * 512 + d.val
    rw [e]; show h.val * 512 + 1 * d.val = _; omega

theorem blk0 (b : Fin 2) (h : Fin 4) (i : Fin 2) (r : Fin 1024) (d : Fin 512) :
    (iblk m c 0 (pt b h i) : Vec Ideal S1024x512 .bf16) (ix2 r d) = argQ m c (ix2 (qr b (half i r)) (cc h d)) := by
  have e := (idx_q b h i).1
  show (V m c (Pipeline.arrRef spec0 0)) (((cfg0.win 0).blk (pt b h i)).view.emb (ix2 r d)) = _
  refine Eq.trans (congrFun (V_main_arg0 m c) _) (congrArg (argQ m c) ?_)
  funext a
  apply Fin.ext
  match a with
  | ⟨0, _⟩ =>
    show win0_0.index (pt b h i) (0 : Fin 2) * 1024 + 1 * r.val = b.val * 2048 + (i.val * 1024 + r.val)
    rw [e]; show (b.val * 2 + i.val) * 1024 + 1 * r.val = _; omega
  | ⟨1, _⟩ =>
    show win0_0.index (pt b h i) (1 : Fin 2) * 512 + 1 * d.val = h.val * 512 + d.val
    rw [e]; show h.val * 512 + 1 * d.val = _; omega

theorem blk3 (b : Fin 2) (h : Fin 4) (i : Fin 2) (r : Fin 1024) (d : Fin 512) :
    (iblk m c 3 (pt b h i) : Vec Ideal S1024x512 .bf16) (ix2 r d) = argG m c (ix2 (qr b (half i r)) (cc h d)) := by
  have e := (idx_q b h i).2.2.2.1
  show (V m c (Pipeline.arrRef spec0 3)) (((cfg0.win 3).blk (pt b h i)).view.emb (ix2 r d)) = _
  refine Eq.trans (congrFun (V_main_arg3 m c) _) (congrArg (argG m c) ?_)
  funext a
  apply Fin.ext
  match a with
  | ⟨0, _⟩ =>
    show win0_3.index (pt b h i) (0 : Fin 2) * 1024 + 1 * r.val = b.val * 2048 + (i.val * 1024 + r.val)
    rw [e]; show (b.val * 2 + i.val) * 1024 + 1 * r.val = _; omega
  | ⟨1, _⟩ =>
    show win0_3.index (pt b h i) (1 : Fin 2) * 512 + 1 * d.val = h.val * 512 + d.val
    rw [e]; show h.val * 512 + 1 * d.val = _; omega

theorem blk1 (b : Fin 2) (h : Fin 4) (i : Fin 2) (j : Fin 256) (d : Fin 512) :
    (iblk m c 1 (pt b h i) : Vec Ideal S256x512 .bf16) (ix2 j d) = argK m c (ix2 (kr b j) (cc h d)) := by
  have e := (idx_q b h i).2.1
  show (V m c (Pipeline.arrRef spec0 1)) (((cfg0.win 1).blk (pt b h i)).view.emb (ix2 j d)) = _
  refine Eq.trans (congrFun (V_main_arg1 m c) _) (congrArg (argK m c) ?_)
  funext a
  apply Fin.ext
  match a with
  | ⟨0, _⟩ =>
    show win0_1.index (pt b h i) (0 : Fin 2) * 256 + 1 * j.val = b.val * 256 + j.val
    rw [e]; show b.val * 256 + 1 * j.val = _; omega
  | ⟨1, _⟩ =>
    show win0_1.index (pt b h i) (1 : Fin 2) * 512 + 1 * d.val = h.val * 512 + d.val
    rw [e]; show h.val * 512 + 1 * d.val = _; omega

theorem blk2 (b : Fin 2) (h : Fin 4) (i : Fin 2) (j : Fin 256) (d : Fin 512) :
    (iblk m c 2 (pt b h i) : Vec Ideal S256x512 .bf16) (ix2 j d) = argV m c (ix2 (kr b j) (cc h d)) := by
  have e := (idx_q b h i).2.2.1
  show (V m c (Pipeline.arrRef spec0 2)) (((cfg0.win 2).blk (pt b h i)).view.emb (ix2 j d)) = _
  refine Eq.trans (congrFun (V_main_arg2 m c) _) (congrArg (argV m c) ?_)
  funext a
  apply Fin.ext
  match a with
  | ⟨0, _⟩ =>
    show win0_2.index (pt b h i) (0 : Fin 2) * 256 + 1 * j.val = b.val * 256 + j.val
    rw [e]; show b.val * 256 + 1 * j.val = _; omega
  | ⟨1, _⟩ =>
    show win0_2.index (pt b h i) (1 : Fin 2) * 512 + 1 * d.val = h.val * 512 + d.val
    rw [e]; show h.val * 512 + 1 * d.val = _; omega

/-- The scores and the cotangents of a block's rows are those of the arrays' rows. -/
theorem scoreRow_blk (b : Fin 2) (h : Fin 4) (i : Fin 2) (r : Fin 1024) :
    scoreRow (iblk m c 0 (pt b h i)) (iblk m c 1 (pt b h i)) r = scoreA (argQ m c) (argK m c) b h (half i r) := by
  funext j; unfold scoreRow scoreA; simp only [blk0, blk1]
theorem cotRow_blk (b : Fin 2) (h : Fin 4) (i : Fin 2) (r : Fin 1024) :
    cotRow (iblk m c 3 (pt b h i)) (iblk m c 2 (pt b h i)) r = cotA (argV m c) (argG m c) b h (half i r) := by
  funext j; unfold cotRow cotA; simp only [blk3, blk2]

/-! ## The query gradient's array -/

theorem out4 (t : Fin cfg0.N) : (outsAt0 m c t.val t.isLt).1
    = k0_pay7 (F := Ideal) (iblk m c 0 t) (iblk m c 1 t) (iblk m c 2 t) (iblk m c 3 t) := by
  by_cases h : t.val % 2 = 0
  · rw [outsAt0_A m c t h]; dsimp only; rw [out0_A_4_eq]
  · rw [outsAt0_B m c t h]; dsimp only; rw [out0_B_4_eq]

theorem final4 (b : Fin 2) (h : Fin 4) (i : Fin 2) (r : Fin 1024) (d : Fin 512) :
    (dats m 0 c).arrAt 4 cfg0.N (ix2 (qr b (half i r)) (cc h d))
      = dqA (argQ m c) (argK m c) (argV m c) (argG m c) b h (half i r) d := by
  rw [← emb4 b h i r d]
  refine Eq.trans ((dats m 0 c).arrAt_emb_eq_flushed 4 Value.disjoint4 (pt b h i) (flush0_4 _) (ix2 r d)) ?_
  refine Eq.trans (cast_eq _ _) ?_
  rw [Value.flushed4, out4]
  show k0_pay7 (F := Ideal) (iblk m c 0 (pt b h i)) (iblk m c 1 (pt b h i)) (iblk m c 2 (pt b h i)) (iblk m c 3 (pt b h i)) (ix2 r d) = _
  rw [pay7_apply, scoreRow_blk, cotRow_blk]
  simp only [blk1]
  rfl

/-! ## The key and value gradients' arrays -/

theorem odd_of_pt (b : Fin 2) (h : Fin 4) : (pt b h 1).val % 2 = 1 := by show ((b.val * 4 + h.val) * 2 + 1) % 2 = 1; omega

theorem disjoint5 : ∀ t t' : Fin cfg0.N, (cfg0.win 5).flush t = true → (cfg0.win 5).flush t' = true → t ≠ t' →
    Disjoint ((cfg0.win 5).blk t).view.set ((cfg0.win 5).blk t').view.set :=
  fun t t' f f' hne => (cfg0.win 5).disjoint_blk fun h => hne
    ((by decide +kernel : ∀ t t' : Fin grid0.N, t.val % 2 = 1 → t'.val % 2 = 1 → win0_5.index t = win0_5.index t' → t = t') t t'
      ((flush0_5 t).mp f) ((flush0_5 t').mp f') h)

theorem disjoint6 : ∀ t t' : Fin cfg0.N, (cfg0.win 6).flush t = true → (cfg0.win 6).flush t' = true → t ≠ t' →
    Disjoint ((cfg0.win 6).blk t).view.set ((cfg0.win 6).blk t').view.set :=
  fun t t' f f' hne => (cfg0.win 6).disjoint_blk fun h => hne
    ((by decide +kernel : ∀ t t' : Fin grid0.N, t.val % 2 = 1 → t'.val % 2 = 1 → win0_6.index t = win0_6.index t' → t = t') t t'
      ((flush0_6 t).mp f) ((flush0_6 t').mp f') h)

/-- What the two points of a pair leave: the first's rows' sum on zero, then the second's on it. -/
theorem outs_pair (b : Fin 2) (h : Fin 4) : (outsAt0 m c (pt b h 1).val (pt b h 1).isLt).2
    = (k0_pay1 (F := Ideal) (iblk m c 0 (pt b h 1)) (k0_pay6 (iblk m c 0 (pt b h 1)) (iblk m c 1 (pt b h 1)) (iblk m c 2 (pt b h 1)) (iblk m c 3 (pt b h 1)))
        (k0_pay1 (iblk m c 0 (pt b h 0)) (k0_pay6 (iblk m c 0 (pt b h 0)) (iblk m c 1 (pt b h 0)) (iblk m c 2 (pt b h 0)) (iblk m c 3 (pt b h 0))) (k0_pay3 (F := Ideal))),
      k0_pay2 (F := Ideal) (iblk m c 3 (pt b h 1)) (k0_pay5 (iblk m c 0 (pt b h 1)) (iblk m c 1 (pt b h 1)))
        (k0_pay2 (iblk m c 3 (pt b h 0)) (k0_pay5 (iblk m c 0 (pt b h 0)) (iblk m c 1 (pt b h 0))) (k0_pay4 (F := Ideal)))) := by
  have e0 : (pt b h 0).val % 2 = 0 := by show ((b.val * 4 + h.val) * 2 + 0) % 2 = 0; omega
  have e1 : ¬ (pt b h 1).val % 2 = 0 := by rw [odd_of_pt]; decide
  have hp : outsAt0 m c ((pt b h 1).val - 1) (Nat.lt_of_le_of_lt (Nat.sub_le _ _) (pt b h 1).isLt) = outsAt0 m c (pt b h 0).val (pt b h 0).isLt := rfl
  rw [outsAt0_B m c (pt b h 1) e1, hp, outsAt0_A m c (pt b h 0) e0]
  dsimp only
  rw [out0_B_5_eq, out0_B_6_eq, out0_A_5_eq, out0_A_6_eq]

/-- The rows of a sequence are its two halves' rows. -/
theorem sum_halves (f : Fin 2048 → EReal) : ∑ r : Fin 2048, f r = ∑ r : Fin 1024, f (half 0 r) + ∑ r : Fin 1024, f (half 1 r) := by
  have e := Fin.sum_univ_add (M := EReal) (a := 1024) (b := 1024) f
  refine e.trans (congrArg₂ (· + ·) (Finset.sum_congr rfl fun r _ => congrArg f (Fin.ext ?_)) (Finset.sum_congr rfl fun r _ => congrArg f (Fin.ext ?_)))
  · show r.val = 0 * 1024 + r.val; omega
  · show 1024 + r.val = 1 * 1024 + r.val; omega

theorem final5 (b : Fin 2) (h : Fin 4) (j : Fin 256) (d : Fin 512) :
    (dats m 0 c).arrAt 5 cfg0.N (ix2 (kr b j) (cc h d))
      = dkA (argQ m c) (argK m c) (argV m c) (argG m c) b h j d := by
  rw [← emb5 b h 1 j d]
  refine Eq.trans ((dats m 0 c).arrAt_emb_eq_flushed 5 disjoint5 (pt b h 1) ((flush0_5 _).mpr (odd_of_pt b h)) (ix2 j d)) ?_
  refine Eq.trans (cast_eq _ _) ?_
  rw [Value.flushed5]
  show (outsAt0 m c (pt b h 1).val (pt b h 1).isLt).2.1 (ix2 j d) = _
  rw [outs_pair]
  dsimp only
  rw [pay1_apply, pay1_apply, pay3_apply, zero_add]
  simp only [pay6_apply, scoreRow_blk, cotRow_blk, blk0]
  unfold dkA
  rw [sum_halves]

theorem final6 (b : Fin 2) (h : Fin 4) (j : Fin 256) (d : Fin 512) :
    (dats m 0 c).arrAt 6 cfg0.N (ix2 (kr b j) (cc h d)) = dvA (argQ m c) (argK m c) (argG m c) b h j d := by
  rw [← emb6 b h 1 j d]
  refine Eq.trans ((dats m 0 c).arrAt_emb_eq_flushed 6 disjoint6 (pt b h 1) ((flush0_6 _).mpr (odd_of_pt b h)) (ix2 j d)) ?_
  refine Eq.trans (cast_eq _ _) ?_
  rw [Value.flushed6]
  show (outsAt0 m c (pt b h 1).val (pt b h 1).isLt).2.2 (ix2 j d) = _
  rw [outs_pair]
  dsimp only
  rw [pay2_apply, pay2_apply, pay4_apply, zero_add]
  simp only [pay5_apply, scoreRow_blk, blk3]
  unfold dvA
  rw [sum_halves]

end Cert.MemValue

end
-- ==== Proof.Mem.Ref.lean ====
/- The reference's stages read at an index, over the extended reals: the scores, their softmax, its differentiated
   quotient, and the three gradients as sums over the argument arrays. -/
module

public import proofs.«01_k».proof.Proof.Gen.MemReferenceIdeal.Read
public import proofs.«01_k».proof.Proof.Lib.HostMax
public import proofs.«01_k».proof.Proof.Mem.Arrays

@[expose] public section

noncomputable section

namespace Cert.MemRef

open Cert.MemReferenceIdeal Cert.MemReferenceIdeal.Gen Cert.MemReferenceIdeal.Read Cert.MemSpec Cert.MemValue Idealize.ShloMosaic
open scoped BigOperators

variable (x0 : (⟨S4096x2048, .bf16⟩ : BufTy).Contents (Elt Ideal)) (x1 x2 : (⟨S512x2048, .bf16⟩ : BufTy).Contents (Elt Ideal))
  (x3 : (⟨S4096x2048, .bf16⟩ : BufTy).Contents (Elt Ideal)) (b : Fin 2) (h : Fin 4) (r : Fin 2048) (j : Fin 256)

/-- The scores. -/
theorem score_apply : val_main_v9 x0 x1 (ix4 b h r j) = scoreA x0 x1 b h r j := by
  pointwise [val_main_v9, val_main_v7, val_main_v4, val_main_v5, val_main_v0, val_main_v1, val_main_v8, val_main_cst]
  rfl

/-- The cotangent of the softmax. -/
theorem cot_apply : val_main_v43 x2 x3 (ix4 b h r j) = cotA x2 x3 b h r j := by
  pointwise [val_main_v43, val_main_v42, val_main_v41, val_main_v3, val_main_v6, val_main_v2]
  rfl

/-- The largest score of a row. -/
theorem max_apply : val_main_v10 x0 x1 (ix3 b h r) = rowMax (scoreA x0 x1 b h r) := by
  refine Eq.trans (HostMax.apply_r4 _ _ (val_main_v9 x0 x1) _ b h r) ?_
  simp only [score_apply]
  show Finset.fold max (Ideal.ofBits .f32 0xFF800000#32) _ _ = _
  rw [negInf_word]
  rfl

/-- The largest score once more against −∞ changes nothing. -/
theorem max17_apply : val_main_v17 x0 x1 (ix3 b h r) = rowMax (scoreA x0 x1 b h r) := by
  rw [val_main_v17_apply, max_apply, val_main_v16_apply, Ideal.maximumf_eq_max]
  show max (Ideal.ofBits .f32 0xFF800000#32) _ = _
  rw [negInf_word, max_eq_right bot_le]

/-- The exponentials. -/
theorem exp_apply : val_main_v30 x0 x1 (ix4 b h r j) = ex (scoreA x0 x1 b h r) j := by
  have hM := max17_apply x0 x1 b h r
  have hS := score_apply x0 x1 b h r j
  unfold val_main_v30 val_main_v29 val_main_v28 val_main_v27
  generalize val_main_v17 x0 x1 = M at hM
  generalize val_main_v9 x0 x1 = S at hS
  pointwise []
  rw [hM, hS]
  rfl

/-- The softmax. -/
theorem prob_apply : val_main_v34 x0 x1 (ix4 b h r j) = prob (scoreA x0 x1 b h r) j := by
  have hE := exp_apply x0 x1 b h r
  unfold val_main_v34 val_main_v33 val_main_v32 val_main_v31
  generalize val_main_v30 x0 x1 = E at hE
  pointwise [val_main_cst_8]
  simp only [hE]
  rfl

/-- The scores' gradient, as differentiating the quotient writes it. -/
theorem dscore_apply : val_main_v59 x0 x1 x2 x3 (ix4 b h r j) = dscoreQ (scoreA x0 x1 b h r) (cotA x2 x3 b h r) j := by
  have hE := exp_apply x0 x1 b h r
  have hC := cot_apply x2 x3 b h r
  unfold val_main_v59 val_main_v57 val_main_v56 val_main_v55 val_main_v54 val_main_v53 val_main_v52 val_main_v51
    val_main_v50 val_main_v49 val_main_v48 val_main_v47 val_main_v46 val_main_v37 val_main_v35 val_main_v32 val_main_v31
  generalize val_main_v30 x0 x1 = E at hE
  generalize val_main_v43 x2 x3 = C at hC
  pointwise [val_main_v58, val_main_v36, val_main_cst_8, val_main_cst_9, val_main_cst_10, val_main_cst_11, val_main_cst_12]
  simp only [hE, hC, Finset.univ_unique, Finset.sum_singleton]
  rfl

/-! ## Rows and columns taken apart again -/

theorem qr_div (p) : (⟨(qr b r).val / 2048, p⟩ : Fin 2) = b := Fin.ext (by show (b.val * 2048 + r.val) / 2048 = b.val; omega)
theorem qr_mod (p) : (⟨(qr b r).val % 2048, p⟩ : Fin 2048) = r := Fin.ext (by show (b.val * 2048 + r.val) % 2048 = r.val; omega)
theorem kr_div (p) : (⟨(kr b j).val / 256, p⟩ : Fin 2) = b := Fin.ext (by show (b.val * 256 + j.val) / 256 = b.val; omega)
theorem kr_mod (p) : (⟨(kr b j).val % 256, p⟩ : Fin 256) = j := Fin.ext (by show (b.val * 256 + j.val) % 256 = j.val; omega)
theorem cc_div (d : Fin 512) (p) : (⟨(cc h d).val / 512, p⟩ : Fin 4) = h := Fin.ext (by show (h.val * 512 + d.val) / 512 = h.val; omega)
theorem qr_kr (x : Fin 256) (p) : (⟨(qr b r).val / 2048 * 256 + x.val, p⟩ : Fin 512) = kr b x :=
  Fin.ext (by show (b.val * 2048 + r.val) / 2048 * 256 + x.val = b.val * 256 + x.val; omega)
theorem kr_qr (x : Fin 2048) (p) : (⟨(kr b j).val / 256 * 2048 + x.val, p⟩ : Fin 4096) = qr b x :=
  Fin.ext (by show (b.val * 256 + j.val) / 256 * 2048 + x.val = b.val * 2048 + x.val; omega)

/-- The query gradient, -/
theorem dq_apply (d : Fin 512) : val_main_v67 x0 x1 x2 x3 (ix2 (qr b r) (cc h d))
    = ∑ j : Fin 256, dscoreQ (scoreA x0 x1 b h r) (cotA x2 x3 b h r) j * x1 (ix2 (kr b j) (cc h d)) := by
  have hD := dscore_apply x0 x1 x2 x3 b h r
  unfold val_main_v67 val_main_v66 val_main_v63 val_main_v62
  generalize val_main_v59 x0 x1 x2 x3 = D at hD
  pointwise [val_main_v5, val_main_v1]
  simp only [qr_div, qr_mod, cc_div, qr_kr, hD]

/-- the key gradient -/
theorem dk_apply (d : Fin 512) : val_main_v65 x0 x1 x2 x3 (ix2 (kr b j) (cc h d))
    = ∑ r : Fin 2048, dscoreQ (scoreA x0 x1 b h r) (cotA x2 x3 b h r) j * x0 (ix2 (qr b r) (cc h d)) := by
  have hD := fun r => dscore_apply x0 x1 x2 x3 b h r j
  unfold val_main_v65 val_main_v61 val_main_v60
  generalize val_main_v59 x0 x1 x2 x3 = D at hD
  pointwise [val_main_v4, val_main_v0]
  simp only [kr_div, kr_mod, cc_div, kr_qr, hD]

/-- and the value gradient. -/
theorem dv_apply (d : Fin 512) : val_main_v64 x0 x1 x3 (ix2 (kr b j) (cc h d))
    = ∑ r : Fin 2048, prob (scoreA x0 x1 b h r) j * x3 (ix2 (qr b r) (cc h d)) := by
  have hP := fun r => prob_apply x0 x1 b h r j
  unfold val_main_v64 val_main_v45 val_main_v44
  generalize val_main_v34 x0 x1 = P at hP
  pointwise [val_main_v42, val_main_v41, val_main_v3]
  simp only [kr_div, kr_mod, cc_div, kr_qr, hP]
  exact Finset.sum_congr rfl fun r _ => mul_comm _ _

end Cert.MemRef
end
-- ==== Proof.Lib.Finite.lean ====
/- Reals among the extended reals: what a finiteness precondition says of an entry, and that sums and products of reals
   are reals. -/
module

public import Idealize.ShloMosaic.Lib.Pointwise

@[expose] public section

noncomputable section

namespace Cert.Finite

open Idealize.ShloMosaic
open scoped BigOperators

/-- An extended real that is a real. -/
def Fin' (x : EReal) : Prop := ∃ r : ℝ, x = (r : EReal)

theorem inf_word : Ideal.ofBits .f32 0x7F800000#32 = ⊤ := by simp [Ideal.ofBits, Ideal.ieee]

/-- An entry whose absolute value is less than +∞ is a real. -/
theorem of_abs_lt {x : EReal} (h : Ideal.cmp .olt (max x (-x)) (Ideal.ofBits .f32 0x7F800000#32) = 1#1) : Fin' x := by
  rw [inf_word] at h
  unfold Ideal.cmp at h
  have h' : max x (-x) < ⊤ := by
    by_contra hn
    simp only [decide_eq_false hn] at h
    exact absurd h (by decide)
  induction x with
  | bot => simp at h'
  | top => simp at h'
  | coe r => exact ⟨r, rfl⟩

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.zero : Fin' 0 := ⟨0, rfl⟩

theorem Fin'.sum {ι : Type} (S : Finset ι) {f : ι → EReal} (h : ∀ i, Fin' (f i)) : Fin' (∑ i ∈ S, f i) := by
  classical
  induction S using Finset.induction_on with
  | empty => simpa using Fin'.zero
  | insert a S ha ih => rw [Finset.sum_insert ha]; exact (h a).add ih

/-- A row of reals, as a row read from the reals. -/
theorem row {ι : Type} {f : ι → EReal} (h : ∀ i, Fin' (f i)) : ∃ g : ι → ℝ, f = fun i => (g i : EReal) :=
  ⟨fun i => (h i).choose, funext fun i => (h i).choose_spec⟩

end Cert.Finite

end
-- ==== Proof.Mem.Claims.lean ====
/- The claims of the memory-attention gradient: the frames, and that the kernel's three result arrays are the
   reference's, for finite arguments. -/
module

public import proofs.«01_k».proof.Proof.Mem.Ref
public import proofs.«01_k».proof.Proof.Lib.Finite
public import proofs.«01_k».proof.Proof.Gen.MemKernel.Frame
public import proofs.«01_k».proof.Proof.Gen.Pre_mem_finite
public import proofs.«01_k».proof.Defs

@[expose] public section

noncomputable section

namespace Cert.MemClaims

open Cert.MemSpec Cert.MemValue Cert.Finite Idealize.ShloMosaic Idealize.SL.Sem
open scoped BigOperators

/-! ## Frames -/

theorem frame_kernel : Cert.quiescent_MemKernel := fun m ρ _ => Cert.MemKernel.Gen.frame m ρ
theorem frame_ideal : Cert.quiescent_MemKernelIdeal := fun m ρ _ => Cert.MemKernelIdeal.Gen.frame m ρ
theorem frame_ideal_pre : Cert.quiescent_MemKernelIdeal_pre_mem_finite := fun m ρ _ => Cert.MemKernelIdeal.Gen.frame m ρ
theorem frame_reference : Cert.quiescent_MemReferenceIdeal := fun m ρ _ =>
  (θ_run Cert.MemReferenceIdeal.defs _ _).mono (fun r h => ⟨fun c => (h c).2.2.2, sem_eq_zero_of_no_sems (by decide) r.2⟩)
    (Cert.MemReferenceIdeal.Value.run (F := Ideal) m ρ)
theorem frame_reference_pre : Cert.quiescent_MemReferenceIdeal_pre_mem_finite := fun m ρ _ => frame_reference m ρ trivial

/-! ## Values -/

section
variable {q : Cert.MemKernelIdeal.S4096x2048.Idx → EReal} {k v : Cert.MemKernelIdeal.S512x2048.Idx → EReal}
  {g : Cert.MemKernelIdeal.S4096x2048.Idx → EReal}

/-- For finite arguments the quotient rule's form of the scores' gradient is the kernel's. -/
theorem dscore_form (hq : ∀ i, Fin' (q i)) (hk : ∀ i, Fin' (k i)) (hv : ∀ i, Fin' (v i)) (hg : ∀ i, Fin' (g i))
    (b : Fin 2) (h : Fin 4) (r : Fin 2048) (j : Fin 256) :
    dscoreQ (scoreA q k b h r) (cotA v g b h r) j = dscore (scoreA q k b h r) (cotA v g b h r) j := by
  obtain ⟨s, hs⟩ := row (f := scoreA q k b h r) fun j =>
    (Fin'.sum _ fun d => (hq _).mul (hk _)).mul (sc_real)
  obtain ⟨p, hp⟩ := row (f := cotA v g b h r) fun j => Fin'.sum _ fun d => (hg _).mul (hv _)
  rw [hs, hp]
  exact dscoreQ_eq (by decide) s p j

end

/-- An index of the query-shaped arrays is a sequence, a half and row of it, a head and a lane; -/
theorem split_q (x : Cert.MemKernelIdeal.S4096x2048.Idx) :
    ∃ (b : Fin 2) (h : Fin 4) (i : Fin 2) (r : Fin 1024) (d : Fin 512), x = ix2 (qr b (half i r)) (cc h d) := by
  refine ⟨⟨(x 0).val / 2048, by have := (x 0).isLt; change (x 0).val < 4096 at this; omega⟩, ⟨(x 1).val / 512, by have := (x 1).isLt; change (x 1).val < 2048 at this; omega⟩,
    ⟨(x 0).val % 2048 / 1024, by omega⟩, ⟨(x 0).val % 1024, by omega⟩, ⟨(x 1).val % 512, by omega⟩, ?_⟩
  funext a
  apply Fin.ext
  match a with
  | ⟨0, _⟩ => show (x 0).val = (x 0).val / 2048 * 2048 + ((x 0).val % 2048 / 1024 * 1024 + (x 0).val % 1024); omega
  | ⟨1, _⟩ => show (x 1).val = (x 1).val / 512 * 512 + (x 1).val % 512; omega
/-- one of the memory-shaped arrays is a sequence, a memory row, a head and a lane. -/
theorem split_k (x : Cert.MemKernelIdeal.S512x2048.Idx) :
    ∃ (b : Fin 2) (h : Fin 4) (j : Fin 256) (d : Fin 512), x = ix2 (kr b j) (cc h d) := by
  refine ⟨⟨(x 0).val / 256, by have := (x 0).isLt; change (x 0).val < 512 at this; omega⟩, ⟨(x 1).val / 512, by have := (x 1).isLt; change (x 1).val < 2048 at this; omega⟩,
    ⟨(x 0).val % 256, by omega⟩, ⟨(x 1).val % 512, by omega⟩, ?_⟩
  funext a
  apply Fin.ext
  match a with
  | ⟨0, _⟩ => show (x 0).val = (x 0).val / 256 * 256 + (x 0).val % 256; omega
  | ⟨1, _⟩ => show (x 1).val = (x 1).val / 512 * 512 + (x 1).val % 512; omega

/-- The kernel's three gradients are the reference's, for finite arguments. -/
theorem algebraic : Cert.algebraic_MemKernelIdeal_MemReferenceIdeal_pre_mem_finite := by
  intro m ρ m' ρ' hpre hagree
  refine ⟨_, _, _, Cert.MemKernelIdeal.Value.run_blocks (F := Ideal) m ρ, ?_⟩
  refine (θ_run Cert.MemReferenceIdeal.defs _ _).mono (fun _ h c => ?_) (Cert.MemReferenceIdeal.Value.run (F := Ideal) m' ρ')
  obtain ⟨h0, h1, h2, hrest⟩ := h c
  obtain ⟨e0, e1, e2, e3⟩ := hagree c
  obtain ⟨p0, p1, p2, p3⟩ := hpre c
  have hq : ∀ i, Fin' (argQ m c i) := fun i => of_abs_lt (congrFun p0 i)
  have hk : ∀ i, Fin' (argK m c i) := fun i => of_abs_lt (congrFun p1 i)
  have hv : ∀ i, Fin' (argV m c i) := fun i => of_abs_lt (congrFun p2 i)
  have hg : ∀ i, Fin' (argG m c i) := fun i => of_abs_lt (congrFun p3 i)
  refine ⟨?_, ?_, ?_, hrest⟩
  · refine h0.trans ?_
    rw [Cert.MemReferenceIdeal.Read.val_main_v67_eq, e0, e1, e2, e3]
    funext x
    obtain ⟨b, h, i, r, d, rfl⟩ := split_q x
    refine (Cert.MemRef.dq_apply _ _ _ _ b h (half i r) d).trans (Eq.trans ?_ (final4 m c b h i r d).symm)
    exact Finset.sum_congr rfl fun j _ => congrArg (· * _) (dscore_form hq hk hv hg b h (half i r) j)
  · refine h1.trans ?_
    rw [Cert.MemReferenceIdeal.Read.val_main_v65_eq, e0, e1, e2, e3]
    funext x
    obtain ⟨b, h, j, d, rfl⟩ := split_k x
    refine (Cert.MemRef.dk_apply _ _ _ _ b h j d).trans (Eq.trans ?_ (final5 m c b h j d).symm)
    exact Finset.sum_congr rfl fun r _ => congrArg (· * _) (dscore_form hq hk hv hg b h r j)
  · refine h2.trans ?_
    rw [e0, e1, e3]
    refine Eq.trans (Cert.MemReferenceIdeal.Read.val_main_v64_eq _ _ _) ?_
    funext x
    obtain ⟨b, h, j, d, rfl⟩ := split_k x
    exact (Cert.MemRef.dv_apply _ _ _ b h j d).trans (final6 m c b h j d).symm

end Cert.MemClaims

end
-- ==== Proof.Mem.Forward.lean ====
/- The memory cross-attention, forward: what each grid point computes, what the result array holds after the run, what the
   reference computes, and the claims. The rows, columns and scores are those of the gradient's modules. -/
module

public import proofs.«01_k».proof.Proof.Mem.Ref
public import proofs.«01_k».proof.Proof.Mem.Claims
public import proofs.«01_k».proof.Proof.Gen.MemFKernelIdeal.Value
public import proofs.«01_k».proof.Proof.Gen.MemFKernel.Frame
public import proofs.«01_k».proof.Proof.Gen.MemFReferenceIdeal.Read

@[expose] public section

noncomputable section

namespace Cert.MemFValue

open Cert.MemFKernelIdeal Cert.MemFKernelIdeal.Gen Cert.MemSpec Idealize.ShloMosaic Idealize.ShloMosaic.TcCoe Idealize.SL.Sem
open Cert.MemValue (scoreRow scoreA qr kr cc half)
open Idealize.ShloMosaic.Pipeline (Dat)
open scoped BigOperators

/-- The attention of one query row: the softmax of its scores against the values. -/
def attA (q : S4096x2048.Idx → EReal) (k v : S512x2048.Idx → EReal) (b : Fin 2) (h : Fin 4) (r : Fin 2048) (d : Fin 512) : EReal :=
  ∑ j : Fin 256, prob (scoreA q k b h r) j * v (ix2 (kr b j) (cc h d))

theorem out0_3_eq {F : FTy → Type} [FloatOps F] (x0 : Vec F S1024x512 .bf16) (x1 x2 : Vec F S256x512 .bf16) :
    out0_3 x0 x1 x2 = k0_pay1 x0 x1 x2 := by
  unfold out0_3
  rw [View.canon_unit_zero Cert.MemValue.hz]
  simp only [View.ld_unit_zero (S := S1024x512) Cert.MemValue.hz, View.ld_unit_zero (S := S256x512) Cert.MemValue.hz]

theorem pay_apply (q : Vec Ideal S1024x512 .bf16) (k v : Vec Ideal S256x512 .bf16) (r : Fin 1024) (d : Fin 512) :
    k0_pay1 (F := Ideal) q k v (ix2 r d) = ∑ j : Fin 256, prob (scoreRow q k r) j * v (ix2 j d) := by
  unfold k0_pay1
  pointwise
  rw [Cert.MemValue.negInf_word]
  rfl

variable (m : (ℓ : Loc nD τ sig) → Buf (Elt Ideal) ℓ) (c : Dev nD)

abbrev argQ : S4096x2048.Idx → EReal := m ((c : Thread nD τ).loc main_arg0)
abbrev argK : S512x2048.Idx → EReal := m ((c : Thread nD τ).loc main_arg1)
abbrev argV : S512x2048.Idx → EReal := m ((c : Thread nD τ).loc main_arg2)

/-- The grid point of sequence `b`, head `h` and half `i` of the query rows. -/
def pt (b : Fin 2) (h : Fin 4) (i : Fin 2) : Fin cfg0.N :=
  ⟨(b.val * 4 + h.val) * 2 + i.val, lt_of_lt_of_eq (by omega : _ < 16) N_0.symm⟩

theorem idx : ∀ (b : Fin 2) (h : Fin 4) (i : Fin 2), win0_0.index (pt b h i) = ![b.val * 2 + i.val, h.val]
    ∧ win0_1.index (pt b h i) = ![b.val, h.val] ∧ win0_2.index (pt b h i) = ![b.val, h.val]
    ∧ win0_3.index (pt b h i) = ![b.val * 2 + i.val, h.val] := by decide +kernel

/-- The index of a query block's entry, and of a memory block's. -/
theorem idx_qr {x : S4096x2048.Idx} {b : Fin 2} {h : Fin 4} {i : Fin 2} {r : Fin 1024} {d : Fin 512}
    (e0 : (x 0).val = (b.val * 2 + i.val) * 1024 + 1 * r.val) (e1 : (x 1).val = h.val * 512 + 1 * d.val) :
    x = ix2 (qr b (half i r)) (cc h d) := by
  funext a
  apply Fin.ext
  match a with
  | ⟨0, _⟩ => refine e0.trans ?_; show _ = b.val * 2048 + (i.val * 1024 + r.val); omega
  | ⟨1, _⟩ => refine e1.trans ?_; show _ = h.val * 512 + d.val; omega
theorem idx_kr {x : S512x2048.Idx} {b : Fin 2} {h : Fin 4} {j : Fin 256} {d : Fin 512}
    (e0 : (x 0).val = b.val * 256 + 1 * j.val) (e1 : (x 1).val = h.val * 512 + 1 * d.val) : x = ix2 (kr b j) (cc h d) := by
  funext a
  apply Fin.ext
  match a with
  | ⟨0, _⟩ => refine e0.trans ?_; show _ = b.val * 256 + j.val; omega
  | ⟨1, _⟩ => refine e1.trans ?_; show _ = h.val * 512 + d.val; omega

theorem blk0 (b : Fin 2) (h : Fin 4) (i : Fin 2) (r : Fin 1024) (d : Fin 512) :
    (iblk m c 0 (pt b h i) : Vec Ideal S1024x512 .bf16) (ix2 r d) = argQ m c (ix2 (qr b (half i r)) (cc h d)) := by
  have e := (idx b h i).1
  show (V m c (Pipeline.arrRef spec0 0)) (((cfg0.win 0).blk (pt b h i)).view.emb (ix2 r d)) = _
  refine Eq.trans (congrFun (V_main_arg0 m c) _) (congrArg (argQ m c) (idx_qr ?_ ?_))
  · show win0_0.index (pt b h i) 0 * 1024 + 1 * r.val = _; rw [e]; rfl
  · show win0_0.index (pt b h i) 1 * 512 + 1 * d.val = _; rw [e]; rfl

theorem blk1 (b : Fin 2) (h : Fin 4) (i : Fin 2) (j : Fin 256) (d : Fin 512) :
    (iblk m c 1 (pt b h i) : Vec Ideal S256x512 .bf16) (ix2 j d) = argK m c (ix2 (kr b j) (cc h d)) := by
  have e := (idx b h i).2.1
  show (V m c (Pipeline.arrRef spec0 1)) (((cfg0.win 1).blk (pt b h i)).view.emb (ix2 j d)) = _
  refine Eq.trans (congrFun (V_main_arg1 m c) _) (congrArg (argK m c) (idx_kr ?_ ?_))
  · show win0_1.index (pt b h i) 0 * 256 + 1 * j.val = _; rw [e]; rfl
  · show win0_1.index (pt b h i) 1 * 512 + 1 * d.val = _; rw [e]; rfl

theorem blk2 (b : Fin 2) (h : Fin 4) (i : Fin 2) (j : Fin 256) (d : Fin 512) :
    (iblk m c 2 (pt b h i) : Vec Ideal S256x512 .bf16) (ix2 j d) = argV m c (ix2 (kr b j) (cc h d)) := by
  have e := (idx b h i).2.2.1
  show (V m c (Pipeline.arrRef spec0 2)) (((cfg0.win 2).blk (pt b h i)).view.emb (ix2 j d)) = _
  refine Eq.trans (congrFun (V_main_arg2 m c) _) (congrArg (argV m c) (idx_kr ?_ ?_))
  · show win0_2.index (pt b h i) 0 * 256 + 1 * j.val = _; rw [e]; rfl
  · show win0_2.index (pt b h i) 1 * 512 + 1 * d.val = _; rw [e]; rfl

theorem emb3 (b : Fin 2) (h : Fin 4) (i : Fin 2) (r : Fin 1024) (d : Fin 512) :
    ((cfg0.win 3).blk (pt b h i)).view.emb (ix2 r d) = ix2 (qr b (half i r)) (cc h d) := by
  have e := (idx b h i).2.2.2
  refine idx_qr ?_ ?_
  · show win0_3.index (pt b h i) 0 * 1024 + 1 * r.val = _; rw [e]; rfl
  · show win0_3.index (pt b h i) 1 * 512 + 1 * d.val = _; rw [e]; rfl

theorem scoreRow_blk (b : Fin 2) (h : Fin 4) (i : Fin 2) (r : Fin 1024) :
    scoreRow (iblk m c 0 (pt b h i)) (iblk m c 1 (pt b h i)) r = scoreA (argQ m c) (argK m c) b h (half i r) := by
  funext j; unfold scoreRow scoreA; simp only [blk0, blk1]

/-- The result array after the run. -/
theorem final3 (b : Fin 2) (h : Fin 4) (i : Fin 2) (r : Fin 1024) (d : Fin 512) :
    (dats m 0 c).arrAt 3 cfg0.N (ix2 (qr b (half i r)) (cc h d)) = attA (argQ m c) (argK m c) (argV m c) b h (half i r) d := by
  refine Eq.trans (congrArg ((dats m 0 c).arrAt 3 cfg0.N) (emb3 b h i r d).symm) ?_
  refine Eq.trans ((dats m 0 c).arrAt_emb_eq_flushed 3 Value.disjoint3 (pt b h i) (flush0_3 _) (ix2 r d)) ?_
  refine Eq.trans (cast_eq _ _) ?_
  rw [Value.flushed3, out0_3_eq]
  show k0_pay1 (F := Ideal) (iblk m c 0 (pt b h i)) (iblk m c 1 (pt b h i)) (iblk m c 2 (pt b h i)) (ix2 r d) = _
  rw [pay_apply, scoreRow_blk]
  simp only [blk2]
  rfl

end Cert.MemFValue

/-! ## The reference -/

namespace Cert.MemFRef

open Cert.MemFReferenceIdeal Cert.MemFReferenceIdeal.Gen Cert.MemFReferenceIdeal.Read Cert.MemSpec Cert.MemFValue Idealize.ShloMosaic
open Cert.MemValue (scoreA qr kr cc)
open Cert.MemRef (qr_div qr_mod cc_div qr_kr)
open scoped BigOperators

variable (x0 : (⟨S4096x2048, .bf16⟩ : BufTy).Contents (Elt Ideal)) (x1 x2 : (⟨S512x2048, .bf16⟩ : BufTy).Contents (Elt Ideal))
  (b : Fin 2) (h : Fin 4) (r : Fin 2048) (j : Fin 256)

theorem score_apply : val_main_v8 x0 x1 (ix4 b h r j) = scoreA x0 x1 b h r j := by
  pointwise [val_main_v8, val_main_v6, val_main_v3, val_main_v4, val_main_v0, val_main_v1, val_main_v7, val_main_cst]
  rfl

theorem max_apply : val_main_v9 x0 x1 (ix3 b h r) = rowMax (scoreA x0 x1 b h r) := by
  refine Eq.trans (HostMax.apply_r4 _ _ (val_main_v8 x0 x1) _ b h r) ?_
  simp only [score_apply]
  show Finset.fold max (Ideal.ofBits .f32 0xFF800000#32) _ _ = _
  rw [Cert.MemValue.negInf_word]
  rfl

theorem max11_apply : val_main_v11 x0 x1 (ix3 b h r) = rowMax (scoreA x0 x1 b h r) := by
  rw [val_main_v11_apply, max_apply, val_main_v10_apply, Ideal.maximumf_eq_max]
  show max (Ideal.ofBits .f32 0xFF800000#32) _ = _
  rw [Cert.MemValue.negInf_word, max_eq_right bot_le]

theorem exp_apply : val_main_v15 x0 x1 (ix4 b h r j) = ex (scoreA x0 x1 b h r) j := by
  have hM := max11_apply x0 x1 b h r
  have hS := score_apply x0 x1 b h r j
  unfold val_main_v15 val_main_v14 val_main_v13 val_main_v12
  generalize val_main_v11 x0 x1 = M at hM
  generalize val_main_v8 x0 x1 = S at hS
  pointwise []
  rw [hM, hS]
  rfl

theorem prob_apply : val_main_v19 x0 x1 (ix4 b h r j) = prob (scoreA x0 x1 b h r) j := by
  have hE := exp_apply x0 x1 b h r
  unfold val_main_v19 val_main_v18 val_main_v17 val_main_v16
  generalize val_main_v15 x0 x1 = E at hE
  pointwise [val_main_cst_2]
  simp only [hE]
  rfl

theorem att_apply (d : Fin 512) : val_main_v23 x0 x1 x2 (ix2 (qr b r) (cc h d)) = attA x0 x1 x2 b h r d := by
  have hP := prob_apply x0 x1 b h r
  unfold val_main_v23 val_main_v22 val_main_v21 val_main_v20
  generalize val_main_v19 x0 x1 = P at hP
  pointwise [val_main_v5, val_main_v2]
  simp only [qr_div, qr_mod, cc_div, qr_kr, hP]
  exact Finset.sum_congr rfl fun r _ => mul_comm _ _

end Cert.MemFRef

namespace Cert.MemFClaims

open Cert.MemFValue Idealize.ShloMosaic Idealize.SL.Sem

theorem frame_kernel : Cert.quiescent_MemFKernel := fun m ρ _ => Cert.MemFKernel.Gen.frame m ρ
theorem frame_ideal : Cert.quiescent_MemFKernelIdeal := fun m ρ _ => Cert.MemFKernelIdeal.Gen.frame m ρ
theorem frame_reference : Cert.quiescent_MemFReferenceIdeal := fun m ρ _ =>
  (θ_run Cert.MemFReferenceIdeal.defs _ _).mono (fun r h => ⟨fun c => (h c).2, sem_eq_zero_of_no_sems (by decide) r.2⟩)
    (Cert.MemFReferenceIdeal.Value.run (F := Ideal) m ρ)

/-- The kernel's result is the reference's, on all extended reals. -/
theorem algebraic : Cert.algebraic_MemFKernelIdeal_MemFReferenceIdeal := by
  intro m ρ m' ρ' _ hagree
  refine ⟨_, Cert.MemFKernelIdeal.Value.run_blocks (F := Ideal) m ρ, ?_⟩
  refine (θ_run Cert.MemFReferenceIdeal.defs _ _).mono (fun _ h c => ?_) (Cert.MemFReferenceIdeal.Value.run (F := Ideal) m' ρ')
  obtain ⟨h0, hrest⟩ := h c
  obtain ⟨e0, e1, e2⟩ := hagree c
  refine ⟨?_, hrest⟩
  refine h0.trans ?_
  rw [e0, e1, e2]
  refine Eq.trans (Cert.MemFReferenceIdeal.Read.val_main_v23_eq _ _ _) ?_
  funext x
  obtain ⟨b, h, i, r, d, rfl⟩ := Cert.MemClaims.split_q x
  exact (Cert.MemFRef.att_apply _ _ _ b h _ d).trans (final3 m c b h i r d).symm

end Cert.MemFClaims

end
-- ==== Proof.Lib.Norm.lean ====
/- The gradient of scaling a row by its reciprocal root mean square, as the kernel writes it and as differentiating
   writes it: two forms that agree for rows of reals. -/
module

public import proofs.«01_k».proof.Proof.Lib.Finite

@[expose] public section

noncomputable section

namespace Cert.Norm

open Idealize.ShloMosaic Cert.Finite
open scoped BigOperators

/-- The small constant under the root. -/
def eps : EReal := Ideal.ofBits .f32 0x358637BD#32

theorem eps_pos : ∃ e : ℝ, 0 < e ∧ eps = (e : EReal) :=
  ⟨8796093 * 2 ^ (-43 : ℤ), by positivity, by simp only [eps, Ideal.ofBits, Ideal.ieee]; simp [-EReal.coe_mul]⟩

theorem minus_half : Ideal.ofBits .f32 0xBF000000#32 = ((-(1 / 2) : ℝ) : EReal) := by
  simp only [Ideal.ofBits, Ideal.ieee]; simp [-EReal.coe_mul, -EReal.coe_neg]; norm_num

variable {n : ℕ}

/-- The mean square of a row, plus the small constant. -/
def ms (c : EReal) (x : Fin n → EReal) : EReal := Ideal.div (∑ k : Fin n, x k * x k) c + eps

/-- Its reciprocal root. -/
def rr (c : EReal) (x : Fin n → EReal) : EReal := Ideal.rsqrt (ms c x)

/-- The row's gradient as the kernel writes it, `a` the cotangent of the scaled row. -/
def grad (c : EReal) (x a : Fin n → EReal) (j : Fin n) : EReal :=
  rr c x * (a j - x j * rr c x * Ideal.div (∑ k : Fin n, a k * (x k * rr c x)) c)

/-- What reaches an entry of the row through the root. -/
def through (c : EReal) (x a : Fin n → EReal) : EReal :=
  Ideal.div ((∑ k : Fin n, x k * a k) * (Ideal.ofBits .f32 0xBF000000#32 * Ideal.div (rr c x) (ms c x))) c

/-- The row's gradient as differentiating writes it. -/
def gradD (c : EReal) (x a : Fin n → EReal) (j : Fin n) : EReal :=
  a j * rr c x + x j * through c x a + through c x a * x j

/-- A finite sum of reals, read in the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The mean square of a row of reals is a positive real and its reciprocal root a real whose square inverts it. -/
theorem ms_real {c : ℝ} (hc : 0 < c) (x : Fin n → ℝ) : ∃ M R : ℝ, 0 < M ∧ R * R * M = 1 ∧
    ms (c : EReal) (fun k => (x k : EReal)) = (M : EReal) ∧ rr (c : EReal) (fun k => (x k : EReal)) = (R : EReal) := by
  obtain ⟨e, he, hE⟩ := eps_pos
  have hS : 0 ≤ ∑ k : Fin n, x k * x k := Finset.sum_nonneg fun k _ => mul_self_nonneg _
  have hM : 0 < (∑ k : Fin n, x k * x k) * (1 / c) + e := by positivity
  have hms : ms (c : EReal) (fun k => (x k : EReal)) = (((∑ k : Fin n, x k * x k) * (1 / c) + e : ℝ) : EReal) := by
    unfold ms
    rw [hE, Ideal.div_coe hc.ne', EReal.coe_add, EReal.coe_mul, coe_sum]
    simp only [EReal.coe_mul]
  refine ⟨_, (Real.sqrt ((∑ k : Fin n, x k * x k) * (1 / c) + e))⁻¹, hM, ?_, hms, ?_⟩
  · generalize (∑ k : Fin n, x k * x k) * (1 / c) + e = M at hM
    have h := Real.mul_self_sqrt hM.le
    have h0 : Real.sqrt M ≠ 0 := (Real.sqrt_pos.mpr hM).ne'
    calc (Real.sqrt M)⁻¹ * (Real.sqrt M)⁻¹ * M = (Real.sqrt M)⁻¹ * (Real.sqrt M)⁻¹ * (Real.sqrt M * Real.sqrt M) := by rw [h]
      _ = 1 := by field_simp
  · unfold rr
    rw [hms, Ideal.rsqrt_coe, if_neg (not_lt.mpr hM.le), if_neg hM.ne']

/-- For rows of reals the two forms of the gradient agree. -/
theorem gradD_eq {c : ℝ} (hc : 0 < c) (x a : Fin n → ℝ) (j : Fin n) :
    gradD (c : EReal) (fun k => (x k : EReal)) (fun k => (a k : EReal)) j
      = grad (c : EReal) (fun k => (x k : EReal)) (fun k => (a k : EReal)) j := by
  obtain ⟨M, R, hM, hRM, eM, eR⟩ := ms_real hc x
  unfold gradD grad through
  rw [eM, eR, minus_half]
  simp only [Ideal.div_coe hc.ne', Ideal.div_coe hM.ne', ← EReal.coe_mul, ← coe_sum, ← EReal.coe_add, ← EReal.coe_sub]
  have s1 : (∑ k : Fin n, a k * (x k * R)) = (∑ k : Fin n, x k * a k) * R := by
    rw [Finset.sum_mul]; exact Finset.sum_congr rfl fun k _ => by ring
  have s2 : 1 / M = R * R := by field_simp; linarith
  rw [s1, s2]
  refine congrArg _ ?_
  ring

/-- The same for rows of extended reals that are real. -/
theorem gradD_eq_of {c : EReal} {c' : ℝ} (hc : 0 < c') (hcc : c = (c' : EReal)) {x a : Fin n → EReal}
    (hx : ∀ k, Fin' (x k)) (ha : ∀ k, Fin' (a k)) (j : Fin n) : gradD c x a j = grad c x a j := by
  obtain ⟨x', rfl⟩ := row hx
  obtain ⟨a', rfl⟩ := row ha
  rw [hcc]
  exact gradD_eq hc x' a' j

end Cert.Norm

end
-- ==== Proof.Lib.Mm.lean ====
/- Tiles of an axis, and a sum over the contracted axis of a matrix product taken tile by tile. -/
module

public import Idealize.ShloMosaic.Lib.Pointwise

@[expose] public section

noncomputable section

namespace Cert.Mm

open Idealize.ShloMosaic
open scoped BigOperators

theorem tile_lt {n a t i p : Nat} (h : n = a * t) (hi : i < a) (hp : p < t) : i * t + p < n := by
  subst h
  calc i * t + p < i * t + t := Nat.add_lt_add_left hp _
    _ = (i + 1) * t := by rw [Nat.succ_mul]
    _ ≤ a * t := Nat.mul_le_mul_right _ hi

/-- Place `p` of tile `i`, of an axis of `n` places cut into `a` tiles of `t`. -/
def tile {n a t : Nat} (h : n = a * t) (i : Fin a) (p : Fin t) : Fin n := ⟨i.val * t + p.val, tile_lt h i.isLt p.isLt⟩

/-- A single tile is the whole axis. -/
theorem tile_one {n : Nat} (h : n = 1 * n) (p : Fin n) : tile h 0 p = p := Fin.ext (by show 0 * n + p.val = p.val; omega)

theorem exists_tile {n a t : Nat} (h : n = a * t) (x : Fin n) : ∃ (i : Fin a) (p : Fin t), x = tile h i p := by
  have ht : 0 < t := by
    rcases Nat.eq_zero_or_pos t with h0 | h0
    · exact absurd (Nat.lt_of_lt_of_eq x.isLt (h.trans (by rw [h0, Nat.mul_zero]))) (Nat.not_lt_zero _)
    · exact h0
  exact ⟨⟨x.val / t, (Nat.div_lt_iff_lt_mul ht).mpr (h ▸ x.isLt)⟩, ⟨x.val % t, Nat.mod_lt _ ht⟩,
    Fin.ext (Nat.div_add_mod' x.val t).symm⟩

/-- The index whose coordinates are places of tiles. -/
theorem idx_tile {n0 n1 a0 a1 t0 t1 : Nat} {h0 : n0 = a0 * t0} {h1 : n1 = a1 * t1} {x : (⟨2, ![n0, n1]⟩ : Shape).Idx}
    {i : Fin a0} {p : Fin t0} {j : Fin a1} {q : Fin t1} (e0 : (x 0).val = i.val * t0 + 1 * p.val)
    (e1 : (x 1).val = j.val * t1 + 1 * q.val) : x = ix2 (tile h0 i p) (tile h1 j q) := by
  funext a
  apply Fin.ext
  match a with
  | ⟨0, _⟩ => exact e0.trans (by rw [Nat.one_mul]; rfl)
  | ⟨1, _⟩ => exact e1.trans (by rw [Nat.one_mul]; rfl)

/-- Every index of a matrix is a place of a row tile and a place of a column tile. -/
theorem exists_idx_tile {n0 n1 a0 a1 t0 t1 : Nat} (h0 : n0 = a0 * t0) (h1 : n1 = a1 * t1) (x : (⟨2, ![n0, n1]⟩ : Shape).Idx) :
    ∃ (i : Fin a0) (j : Fin a1) (p : Fin t0) (q : Fin t1), x = ix2 (tile h0 i p) (tile h1 j q) := by
  obtain ⟨i, p, hp⟩ := exists_tile h0 (x 0)
  obtain ⟨j, q, hq⟩ := exists_tile h1 (x 1)
  refine ⟨i, j, p, q, ?_⟩
  funext a
  match a with
  | ⟨0, _⟩ => exact hp
  | ⟨1, _⟩ => exact hq

/-- The sum over an axis is the sum over its tiles of the sums over their places. -/
theorem sum_tiles {n a t : Nat} (h : n = a * t) (f : Fin n → EReal) : ∑ k : Fin n, f k = ∑ i : Fin a, ∑ x : Fin t, f (tile h i x) := by
  subst h
  refine (finProdFinEquiv.sum_comp f).symm.trans ((Fintype.sum_prod_type _).trans ?_)
  exact Finset.sum_congr rfl fun i _ => Finset.sum_congr rfl fun x _ =>
    congrArg f (Fin.ext (by show x.val + t * i.val = i.val * t + x.val; rw [Nat.mul_comm t, Nat.add_comm]))

theorem sum_two_tiles {n t : Nat} (h : n = 2 * t) (f : Fin n → EReal) :
    ∑ k : Fin n, f k = ∑ x : Fin t, f (tile h 0 x) + ∑ x : Fin t, f (tile h 1 x) :=
  (sum_tiles h f).trans (Fin.sum_univ_two _)

theorem sum_four_tiles {n t : Nat} (h : n = 4 * t) (f : Fin n → EReal) :
    ∑ k : Fin n, f k = ∑ x : Fin t, f (tile h 0 x) + ∑ x : Fin t, f (tile h 1 x) + ∑ x : Fin t, f (tile h 2 x)
      + ∑ x : Fin t, f (tile h 3 x) :=
  (sum_tiles h f).trans (Fin.sum_univ_four _)

theorem sum_five_tiles {n t : Nat} (h : n = 5 * t) (f : Fin n → EReal) :
    ∑ k : Fin n, f k = ∑ x : Fin t, f (tile h 0 x) + ∑ x : Fin t, f (tile h 1 x) + ∑ x : Fin t, f (tile h 2 x)
      + ∑ x : Fin t, f (tile h 3 x) + ∑ x : Fin t, f (tile h 4 x) :=
  (sum_tiles h f).trans (Fin.sum_univ_five _)

end Cert.Mm

end
-- ==== Proof.Lib.EReal.lean ====
/- Small facts of the extended reals: words of the float constants used, and the derivative of the squared positive part. -/
module

public import Idealize.ShloMosaic.Lib.Pointwise

@[expose] public section

noncomputable section

namespace Cert.EReals

open Idealize.ShloMosaic

theorem zero_word : Ideal.ofBits .f32 0x00000000#32 = 0 := by simp [Ideal.ofBits, Ideal.ieee]
theorem two_word : Ideal.ofBits .f32 0x40000000#32 = 2 := by
  simp only [Ideal.ofBits, Ideal.ieee]
  refine Eq.trans (b := ((2 : ℝ) : EReal)) ?_ rfl
  simp
  rw [← EReal.coe_mul]
  norm_num

/-- An extended real added to itself is its double. -/
theorem add_self_eq (x : EReal) : x + x = 2 * x := by
  induction x with
  | bot => exact (EReal.mul_bot_of_pos (by norm_num)).symm
  | top => exact (EReal.mul_top_of_pos (by norm_num)).symm
  | coe r =>
    show _ = ((2 : ℝ) : EReal) * (r : EReal)
    rw [← EReal.coe_add, ← EReal.coe_mul, two_mul]

/-- The derivative of the squared positive part, as the kernel writes it. -/
def drelu2 (acc h : EReal) : EReal := acc * (2 * max h 0)

/-- Where the argument is positive the quotient-free form is the sum of the product's two terms, elsewhere zero. -/
theorem drelu2_eq (acc h : EReal) (h0 : 0 < h) : max h 0 * acc + acc * max h 0 = drelu2 acc h := by
  unfold drelu2
  rw [mul_comm (max h 0) acc, add_self_eq, ← mul_assoc, ← mul_assoc, mul_comm 2 acc]
theorem drelu2_zero (acc h : EReal) (h0 : ¬ 0 < h) : (0 : EReal) = drelu2 acc h := by
  unfold drelu2
  rw [max_eq_right (not_lt.mp h0), mul_zero, mul_zero]

end Cert.EReals

end
-- ==== Proof.Norm.Kernel.lean ====
/- The gradient of the scaled norm before the feed-forward block: what the body leaves in its two output blocks at a grid
   point, and what the two result arrays hold after the run. -/
module

public import proofs.«01_k».proof.Proof.Gen.NormKernelIdeal.Value
public import proofs.«01_k».proof.Proof.Lib.Norm
public import proofs.«01_k».proof.Proof.Lib.Mm
public import proofs.«01_k».proof.Proof.Lib.EReal
public import Idealize.ShloMosaic.Lib.Tactic

@[expose] public section

noncomputable section

namespace Cert.NormValue

open Cert.NormKernelIdeal Cert.NormKernelIdeal.Gen Cert.Norm Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The row gradients of a first point; -/
theorem out0_A_4_eq (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .f32) (harg6 : arg6.IsWhole) (hc0 : cond0_0 i)
    (x0 : Vec F S512x2048 .f32) (x1 : Vec F S1x2048 .f32) (x2 : Vec F S512x2048 .bf16) (x3 : Vec F S512x2048 .f32) :
    out0_A_4 c i arg1 harg1 arg2 harg2 arg3 harg3 arg4 harg4 arg5 harg5 arg6 harg6 hc0 x0 x1 x2 x3 = k0_pay5 x0 x2 x1 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  first | rw [View.canon_unit_zero hz] | rw [View.canon_cons_unit_zero hz]
  simp only [View.readAt_eq_ld, harg1.read_unread, harg2.read_unread, harg3.read_unread, harg4.read_unread, harg5.read_unread, harg6.read_unread, View.ld_unit_zero (S := S1x2048) hz, View.readCov_unit_zero (S := S1x2048) _ hz, View.ld_unit_zero (S := S512x2048) hz, View.readCov_unit_zero (S := S512x2048) _ hz]

/-- of a later point; -/
theorem out0_B_4_eq (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .f32) (harg6 : arg6.IsWhole) (hc0 : ¬cond0_0 i)
    (x0 : Vec F S512x2048 .f32) (x1 : Vec F S1x2048 .f32) (x2 : Vec F S512x2048 .bf16) (x3 : Vec F S512x2048 .f32) (xo5 : Vec F S1x2048 .f32) :
    out0_B_4 c i arg1 harg1 arg2 harg2 arg3 harg3 arg4 harg4 arg5 harg5 arg6 harg6 hc0 x0 x1 x2 x3 xo5 = k0_pay5 x0 x2 x1 x3 := by
  unfold out0_B_4
  rw [View.read_writes_eq_canon _ _ _ (cover0_B_4 c i arg1 harg1 arg2 harg2 arg3 harg3 arg4 harg4 arg5 harg5 arg6 harg6 hc0 x0 x1 x2 x3 xo5)]
  unfold kernelRun0_B
  dsimp only
  sl_unfold_words
  first | rw [View.canon_unit_zero hz] | rw [View.canon_cons_unit_zero hz]
  simp only [View.readAt_eq_ld, harg1.read_unread, harg2.read_unread, harg3.read_unread, harg4.read_unread, harg5.read_unread, harg6.read_unread, View.ld_unit_zero (S := S1x2048) hz, View.readCov_unit_zero (S := S1x2048) _ hz, View.ld_unit_zero (S := S512x2048) hz, View.readCov_unit_zero (S := S512x2048) _ hz]

/-- the gain gradient of a first point, on zero; -/
theorem out0_A_5_eq (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .f32) (harg6 : arg6.IsWhole) (hc0 : cond0_0 i)
    (x0 : Vec F S512x2048 .f32) (x1 : Vec F S1x2048 .f32) (x2 : Vec F S512x2048 .bf16) (x3 : Vec F S512x2048 .f32) :
    out0_A_5 c i arg1 harg1 arg2 harg2 arg3 harg3 arg4 harg4 arg5 harg5 arg6 harg6 hc0 x0 x1 x2 x3 = k0_pay1 (k0_pay7 k0_pay6) (k0_pay8 x0 x2) := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_words
  first | rw [View.canon_unit_zero hz] | rw [View.canon_cons_unit_zero hz]
  simp only [View.readAt_eq_ld, harg1.read_unread, harg2.read_unread, harg3.read_unread, harg4.read_unread, harg5.read_unread, harg6.read_unread, View.ld_unit_zero (S := S1x2048) hz, View.readCov_unit_zero (S := S1x2048) _ hz, View.ld_unit_zero (S := S512x2048) hz, View.readCov_unit_zero (S := S512x2048) _ hz]

/-- of a later point, on what the point before left. -/
theorem out0_B_5_eq (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .f32) (harg6 : arg6.IsWhole) (hc0 : ¬cond0_0 i)
    (x0 : Vec F S512x2048 .f32) (x1 : Vec F S1x2048 .f32) (x2 : Vec F S512x2048 .bf16) (x3 : Vec F S512x2048 .f32) (xo5 : Vec F S1x2048 .f32) :
    out0_B_5 c i arg1 harg1 arg2 harg2 arg3 harg3 arg4 harg4 arg5 harg5 arg6 harg6 hc0 x0 x1 x2 x3 xo5 = k0_pay1 (k0_pay7 xo5) (k0_pay8 x0 x2) := by
  unfold out0_B_5
  rw [View.read_writes_eq_canon _ _ _ (cover0_B_5 c i arg1 harg1 arg2 harg2 arg3 harg3 arg4 harg4 arg5 harg5 arg6 harg6 hc0 x0 x1 x2 x3 xo5)]
  unfold kernelRun0_B
  dsimp only
  sl_unfold_words
  first | rw [View.canon_unit_zero hz] | rw [View.canon_cons_unit_zero hz]
  simp only [View.readAt_eq_ld, harg1.read_unread, harg2.read_unread, harg3.read_unread, harg4.read_unread, harg5.read_unread, harg6.read_unread, View.ld_unit_zero (S := S1x2048) hz, View.readCov_unit_zero (S := S1x2048) _ hz, View.ld_unit_zero (S := S512x2048) hz, View.readCov_unit_zero (S := S512x2048) _ hz]

end

/-- The length of a row, as the division's constant. -/
abbrev len : EReal := Ideal.ofBits .f32 0x45000000#32

theorem len_real : len = ((2048 : ℝ) : EReal) := by
  simp only [len, Ideal.ofBits, Ideal.ieee]; simp [-EReal.coe_mul]; norm_num

section
variable (x0 : Vec Ideal S512x2048 .f32) (x2 : Vec Ideal S512x2048 .bf16) (x1 : Vec Ideal S1x2048 .f32)
  (x3 : Vec Ideal S512x2048 .f32) (p : Fin 512) (q : Fin 2048)

theorem root_apply : k0_pay2 x0 (ix2 p (0 : Fin 1)) = rr len (fun k => x0 (ix2 p k)) := by
  pointwise [k0_pay2]
  rfl

theorem scaled_apply : k0_pay3 x0 (ix2 p q) = x0 (ix2 p q) * rr len (fun k => x0 (ix2 p k)) := by
  have h := root_apply x0 p
  unfold k0_pay3
  generalize k0_pay2 x0 = R at h
  pointwise []
  rw [← h]

theorem row_apply : k0_pay5 x0 x2 x1 x3 (ix2 p q)
    = grad len (fun k => x0 (ix2 p k)) (fun k => x2 (ix2 p k) * x1 (ix2 (0 : Fin 1) k)) q + x3 (ix2 p q) := by
  have h := root_apply x0 p
  have hs := scaled_apply x0 p
  unfold k0_pay5
  generalize k0_pay2 x0 = R at h
  generalize k0_pay3 x0 = S at hs
  pointwise [k0_pay4]
  simp only [hs, h]
  rfl

theorem gain_apply : k0_pay8 x0 x2 (ix1 q) = ∑ p : Fin 512, x2 (ix2 p q) * (x0 (ix2 p q) * rr len (fun k => x0 (ix2 p k))) := by
  have hs := fun p => scaled_apply x0 p q
  unfold k0_pay8
  generalize k0_pay3 x0 = S at hs
  pointwise [k0_pay4]
  simp only [hs]

theorem add_apply (a : Vec Ideal S1x2048 .f32) (b : FVec Ideal S2048 .f32) :
    k0_pay1 (k0_pay7 a) b (ix2 (0 : Fin 1) q) = a (ix2 (0 : Fin 1) q) + b (ix1 q) := by
  pointwise [k0_pay1, k0_pay7]

theorem zero_apply : k0_pay6 (F := Ideal) (ix2 (0 : Fin 1) q) = 0 := by
  pointwise [k0_pay6]

end

/-! ## The arrays -/

abbrev row (i : Fin 8) (p : Fin 512) : Fin 4096 := Cert.Mm.tile (by decide) i p
abbrev lane (q : Fin 2048) : Fin 2048 := q

/-- The grid point of a row tile. -/
def pt (i : Fin 8) : Fin cfg0.N := ⟨i.val, lt_of_lt_of_eq i.isLt N_0.symm⟩

theorem idx : ∀ i : Fin 8, win0_0.index (pt i) = ![i.val, 0] ∧ win0_1.index (pt i) = ![0, 0] ∧ win0_2.index (pt i) = ![i.val, 0]
    ∧ win0_3.index (pt i) = ![i.val, 0] ∧ win0_4.index (pt i) = ![i.val, 0] ∧ win0_5.index (pt i) = ![0, 0] := by
  decide +kernel

variable (m : (ℓ : Loc nD τ sig) → Buf (Elt Ideal) ℓ) (c : Dev nD)

abbrev argX : S4096x2048.Idx → EReal := m ((c : Thread nD τ).loc main_arg0)
abbrev argG : S2048.Idx → EReal := m ((c : Thread nD τ).loc main_arg1)
abbrev argDy : S4096x2048.Idx → EReal := m ((c : Thread nD τ).loc main_arg2)
abbrev argRes : S4096x2048.Idx → EReal := m ((c : Thread nD τ).loc main_arg3)

/-- A row of the argument, and the cotangent of its scaled form. -/
abbrev rowX (r : Fin 4096) : Fin 2048 → EReal := fun k => argX m c (ix2 r k)
abbrev rowA (r : Fin 4096) : Fin 2048 → EReal := fun k => argDy m c (ix2 r k) * argG m c (ix1 k)

/-- The index of a row tile's entry. -/
theorem idx_row {x : S4096x2048.Idx} {i : Fin 8} {p : Fin 512} {q : Fin 2048} (e0 : (x 0).val = i.val * 512 + 1 * p.val)
    (e1 : (x 1).val = 0 * 2048 + 1 * q.val) : x = ix2 (row i p) q := by
  funext a
  apply Fin.ext
  match a with
  | ⟨0, _⟩ => exact e0.trans (by rw [Nat.one_mul]; rfl)
  | ⟨1, _⟩ => exact e1.trans (by rw [Nat.zero_mul, Nat.zero_add, Nat.one_mul]; rfl)

theorem blk0 (i : Fin 8) (p : Fin 512) (q : Fin 2048) :
    (iblk m c 0 (pt i) : Vec Ideal S512x2048 .f32) (ix2 p q) = argX m c (ix2 (row i p) q) := by
  have e := (idx i).1
  show (V m c (Pipeline.arrRef spec0 0)) (((cfg0.win 0).blk (pt i)).view.emb (ix2 p q)) = _
  refine Eq.trans (congrFun (V_main_arg0 m c) _) (congrArg (argX m c) (idx_row ?_ ?_))
  · show win0_0.index (pt i) 0 * 512 + 1 * p.val = _; rw [e]; rfl
  · show win0_0.index (pt i) 1 * 2048 + 1 * q.val = _; rw [e]; rfl

theorem blk2 (i : Fin 8) (p : Fin 512) (q : Fin 2048) :
    (iblk m c 2 (pt i) : Vec Ideal S512x2048 .bf16) (ix2 p q) = argDy m c (ix2 (row i p) q) := by
  have e := (idx i).2.2.1
  show (V m c (Pipeline.arrRef spec0 2)) (((cfg0.win 2).blk (pt i)).view.emb (ix2 p q)) = _
  refine Eq.trans (congrFun (V_main_arg2 m c) _) (congrArg (argDy m c) (idx_row ?_ ?_))
  · show win0_2.index (pt i) 0 * 512 + 1 * p.val = _; rw [e]; rfl
  · show win0_2.index (pt i) 1 * 2048 + 1 * q.val = _; rw [e]; rfl

theorem blk3 (i : Fin 8) (p : Fin 512) (q : Fin 2048) :
    (iblk m c 3 (pt i) : Vec Ideal S512x2048 .f32) (ix2 p q) = argRes m c (ix2 (row i p) q) := by
  have e := (idx i).2.2.2.1
  show (V m c (Pipeline.arrRef spec0 3)) (((cfg0.win 3).blk (pt i)).view.emb (ix2 p q)) = _
  refine Eq.trans (congrFun (V_main_arg3 m c) _) (congrArg (argRes m c) (idx_row ?_ ?_))
  · show win0_3.index (pt i) 0 * 512 + 1 * p.val = _; rw [e]; rfl
  · show win0_3.index (pt i) 1 * 2048 + 1 * q.val = _; rw [e]; rfl

/-- The gain as one row: the host's cast of it. -/
theorem V_gain : V m c main_v0 = shapeCast S1x2048 (argG m c) shapeCasts_S2048_S1x2048 := by
  show StableHlo.after hostOps0 (fun b => m (c, b)) (Proc.devRef .tc main_v0) = _
  rw [hostOps0, StableHlo.after_cons, StableHlo.after_nil]
  rw [StableHlo.reshape_result]
  rfl

theorem blk1 (i : Fin 8) (q : Fin 2048) :
    (iblk m c 1 (pt i) : Vec Ideal S1x2048 .f32) (ix2 (0 : Fin 1) q) = argG m c (ix1 q) := by
  have e := (idx i).2.1
  show (V m c (Pipeline.arrRef spec0 1)) (((cfg0.win 1).blk (pt i)).view.emb (ix2 (0 : Fin 1) q)) = _
  have e1 : ((cfg0.win 1).blk (pt i)).view.emb (ix2 (0 : Fin 1) q) = ix2 (0 : Fin 1) q := by
    funext a
    apply Fin.ext
    match a with
    | ⟨0, _⟩ => show win0_1.index (pt i) 0 * 1 + 1 * 0 = 0; rw [e]; rfl
    | ⟨1, _⟩ => show win0_1.index (pt i) 1 * 2048 + 1 * q.val = q.val; rw [e]; show 0 * 2048 + 1 * q.val = q.val; omega
  rw [e1]
  refine Eq.trans (congrFun (V_gain m c) _) ?_
  generalize argG m c = G
  pointwise []

theorem emb4 (i : Fin 8) (p : Fin 512) (q : Fin 2048) :
    ((cfg0.win 4).blk (pt i)).view.emb (ix2 p q) = ix2 (row i p) q := by
  have e := (idx i).2.2.2.2.1
  refine idx_row ?_ ?_
  · show win0_4.index (pt i) 0 * 512 + 1 * p.val = _; rw [e]; rfl
  · show win0_4.index (pt i) 1 * 2048 + 1 * q.val = _; rw [e]; rfl

theorem emb5 (i : Fin 8) (q : Fin 2048) : ((cfg0.win 5).blk (pt i)).view.emb (ix2 (0 : Fin 1) q) = ix2 (0 : Fin 1) q := by
  have e := (idx i).2.2.2.2.2
  funext a
  apply Fin.ext
  match a with
  | ⟨0, _⟩ => show win0_5.index (pt i) 0 * 1 + 1 * 0 = 0; rw [e]; rfl
  | ⟨1, _⟩ => show win0_5.index (pt i) 1 * 2048 + 1 * q.val = q.val; rw [e]; show 0 * 2048 + 1 * q.val = q.val; omega

/-- The row gradients a point leaves. -/
theorem rows (i : Fin 8) : (outsAt0 m c (pt i).val (pt i).isLt).1
    = k0_pay5 (F := Ideal) (iblk m c 0 (pt i)) (iblk m c 2 (pt i)) (iblk m c 1 (pt i)) (iblk m c 3 (pt i)) := by
  by_cases h : (pt i).val % 8 = 0
  · rw [outsAt0_A m c (pt i) h]
    dsimp only
    rw [out0_A_4_eq]
  · rw [outsAt0_B m c (pt i) h]
    dsimp only
    rw [out0_B_4_eq]

/-- The row gradients after the run. -/
theorem final4 (i : Fin 8) (p : Fin 512) (q : Fin 2048) : (dats m 0 c).arrAt 4 cfg0.N (ix2 (row i p) q)
    = grad len (rowX m c (row i p)) (rowA m c (row i p)) q + argRes m c (ix2 (row i p) q) := by
  refine Eq.trans (congrArg ((dats m 0 c).arrAt 4 cfg0.N) (emb4 i p q).symm) ?_
  refine Eq.trans ((dats m 0 c).arrAt_emb_eq_flushed 4 Value.disjoint4 (pt i) (flush0_4 _) (ix2 p q)) ?_
  refine Eq.trans (cast_eq _ _) ?_
  rw [Value.flushed4]
  show (outsAt0 m c (pt i).val (pt i).isLt).1 (ix2 p q) = _
  rw [rows, row_apply]
  simp only [blk0, blk1, blk2, blk3]

/-- The part of the gain's gradient that a row tile gives. -/
def part (i : Fin 8) (q : Fin 2048) : EReal :=
  ∑ p : Fin 512, argDy m c (ix2 (row i p) q) * (argX m c (ix2 (row i p) q) * rr len (rowX m c (row i p)))

theorem part_eq (i : Fin 8) (q : Fin 2048) :
    k0_pay8 (F := Ideal) (iblk m c 0 (pt i)) (iblk m c 2 (pt i)) (ix1 q) = part m c i q := by
  rw [gain_apply]
  simp only [blk0, blk2]
  rfl

/-- What a point leaves in the gain's block. -/
def leaves (i : Fin 8) (q : Fin 2048) : EReal := (outsAt0 m c (pt i).val (pt i).isLt).2 (ix2 (0 : Fin 1) q)

theorem gain0 (q : Fin 2048) : leaves m c 0 q = part m c 0 q := by
  unfold leaves
  rw [outsAt0_A m c (pt 0) rfl]
  dsimp only
  rw [out0_A_5_eq, add_apply, zero_apply, zero_add, part_eq]

theorem gainS (i : Fin 7) (q : Fin 2048) : leaves m c i.succ q = leaves m c i.castSucc q + part m c i.succ q := by
  have hv : ¬(pt i.succ).val % 8 = 0 := by show ¬(i.val + 1) % 8 = 0; omega
  have hp : outsAt0 m c ((pt i.succ).val - 1) (Nat.lt_of_le_of_lt (Nat.sub_le _ _) (pt i.succ).isLt)
      = outsAt0 m c (pt i.castSucc).val (pt i.castSucc).isLt := rfl
  unfold leaves
  rw [outsAt0_B m c (pt i.succ) hv, hp]
  dsimp only
  rw [out0_B_5_eq, add_apply, part_eq]

/-- A value that starts at one term and grows by one term at a time ends at the sum of the eight. -/
theorem run_eight {f g : Fin 8 → EReal} (h0 : f 0 = g 0) (hS : ∀ i : Fin 7, f i.succ = f i.castSucc + g i.succ) :
    f 7 = ∑ i : Fin 8, g i := by
  have h1 : f 1 = f 0 + g 1 := hS 0
  have h2 : f 2 = f 1 + g 2 := hS 1
  have h3 : f 3 = f 2 + g 3 := hS 2
  have h4 : f 4 = f 3 + g 4 := hS 3
  have h5 : f 5 = f 4 + g 5 := hS 4
  have h6 : f 6 = f 5 + g 6 := hS 5
  have h7 : f 7 = f 6 + g 7 := hS 6
  rw [h7, h6, h5, h4, h3, h2, h1, h0, Fin.sum_univ_eight]

theorem disjoint5 : ∀ t t' : Fin cfg0.N, (cfg0.win 5).flush t = true → (cfg0.win 5).flush t' = true → t ≠ t' →
    Disjoint ((cfg0.win 5).blk t).view.set ((cfg0.win 5).blk t').view.set :=
  fun t t' f f' hne => absurd (Fin.ext (by
    have h := (flush0_5 t).mp f; have h' := (flush0_5 t').mp f'
    have b : t.val < 8 := lt_of_lt_of_eq t.isLt N_0; have b' : t'.val < 8 := lt_of_lt_of_eq t'.isLt N_0
    omega)) hne

/-- The gain's gradient after the run. -/
theorem final5 (q : Fin 2048) : (dats m 0 c).arrAt 5 cfg0.N (ix2 (0 : Fin 1) q)
    = ∑ r : Fin 4096, argDy m c (ix2 r q) * (argX m c (ix2 r q) * rr len (rowX m c r)) := by
  refine Eq.trans (congrArg ((dats m 0 c).arrAt 5 cfg0.N) (emb5 7 q).symm) ?_
  refine Eq.trans ((dats m 0 c).arrAt_emb_eq_flushed 5 disjoint5 (pt 7) ((flush0_5 _).mpr rfl) (ix2 (0 : Fin 1) q)) ?_
  refine Eq.trans (cast_eq _ _) ?_
  rw [Value.flushed5]
  show leaves m c 7 q = _
  refine Eq.trans (run_eight (f := fun i => leaves m c i q) (g := fun i => part m c i q) (gain0 m c q) (fun i => gainS m c i q)) ?_
  rw [Cert.Mm.sum_tiles (n := 4096) (a := 8) (t := 512) (by decide)]
  rfl

end Cert.NormValue

end
-- ==== Proof.Norm.Claims.lean ====
/- The reference's gradient of the scaled norm read at an index, and the claims: the frames, and that the kernel's two
   result arrays are the reference's, for finite arguments. -/
module

public import proofs.«01_k».proof.Proof.Norm.Kernel
public import proofs.«01_k».proof.Proof.Lib.Finite
public import proofs.«01_k».proof.Proof.Gen.NormKernel.Frame
public import proofs.«01_k».proof.Proof.Gen.NormReferenceIdeal.Read
public import proofs.«01_k».proof.Proof.Gen.Pre_norm_finite
public import proofs.«01_k».proof.Defs

@[expose] public section

noncomputable section

namespace Cert.NormRef

open Cert.NormReferenceIdeal Cert.NormReferenceIdeal.Gen Cert.NormReferenceIdeal.Read Cert.Norm Cert.NormValue Idealize.ShloMosaic
open scoped BigOperators

variable (x0 : (⟨S4096x2048, .f32⟩ : BufTy).Contents (Elt Ideal)) (x1 : (⟨S2048, .f32⟩ : BufTy).Contents (Elt Ideal))
  (x2 : (⟨S4096x2048, .bf16⟩ : BufTy).Contents (Elt Ideal)) (x3 : (⟨S4096x2048, .f32⟩ : BufTy).Contents (Elt Ideal))
  (r : Fin 4096) (q : Fin 2048)

theorem ms_apply : val_main_v6 x0 (ix2 r (0 : Fin 1)) = ms len (fun k => x0 (ix2 r k)) := by
  pointwise [val_main_v6, val_main_v5, val_main_v4, val_main_v3, val_main_v2, val_main_v1, val_main_v0, val_main_cst,
    val_main_cst_0, val_main_cst_1]
  rfl

theorem root_apply : val_main_v7 x0 (ix2 r (0 : Fin 1)) = rr len (fun k => x0 (ix2 r k)) := by
  have h := ms_apply x0 r
  unfold val_main_v7
  generalize val_main_v6 x0 = M at h
  pointwise []
  rw [h]
  rfl

/-- The cotangent of the scaled row. -/
theorem cot_apply : val_main_v21 x1 x2 (ix2 r q) = x2 (ix2 r q) * x1 (ix1 q) := by
  pointwise [val_main_v21, val_main_v20, val_main_v16, val_main_v13, val_main_v14]

/-- What reaches the row's entries through the root. -/
theorem through_apply : val_main_v30 x0 x1 x2 (ix2 r (0 : Fin 1))
    = through len (fun k => x0 (ix2 r k)) (fun k => x2 (ix2 r k) * x1 (ix1 k)) := by
  have hm := ms_apply x0 r
  have hr := root_apply x0 r
  have ha := fun k => cot_apply x1 x2 r k
  unfold val_main_v30 val_main_v28 val_main_v25 val_main_v24 val_main_v23 val_main_v10 val_main_v8
  generalize val_main_v6 x0 = M at hm
  generalize val_main_v7 x0 = R at hr
  generalize val_main_v21 x1 x2 = A at ha
  pointwise [val_main_v29, val_main_v9, val_main_cst_2, val_main_cst_5, val_main_cst_6]
  simp only [hm, hr, ha]
  rfl

/-- The row's gradient. -/
theorem row_apply : val_main_v37 x0 x1 x2 x3 (ix2 r q)
    = gradD len (fun k => x0 (ix2 r k)) (fun k => x2 (ix2 r k) * x1 (ix1 k)) q + x3 (ix2 r q) := by
  have hr := root_apply x0 r
  have ha := fun k => cot_apply x1 x2 r k
  have ht := through_apply x0 x1 x2 r
  unfold val_main_v37 val_main_v36 val_main_v35 val_main_v34 val_main_v33 val_main_v32 val_main_v31 val_main_v27 val_main_v26
  generalize val_main_v7 x0 = R at hr
  generalize val_main_v21 x1 x2 = A at ha
  generalize val_main_v30 x0 x1 x2 = T at ht
  pointwise [val_main_cst_7]
  have hd : (default : Fin 1) = 0 := rfl
  simp only [Finset.univ_unique, Finset.sum_singleton, hd, hr, ha, ht]
  rfl

/-- The gain's gradient. -/
theorem gain_apply : val_main_v38 x0 x2 (ix2 (0 : Fin 1) q)
    = ∑ r : Fin 4096, x2 (ix2 r q) * (x0 (ix2 r q) * rr len (fun k => x0 (ix2 r k))) := by
  have hr := fun r => root_apply x0 r
  unfold val_main_v38 val_main_v22 val_main_v19 val_main_v18 val_main_v17 val_main_v12 val_main_v11
  generalize val_main_v7 x0 = R at hr
  pointwise [val_main_v16, val_main_cst_3, val_main_cst_4]
  simp only [hr, Finset.univ_unique, Finset.sum_singleton]
  exact Finset.sum_congr rfl fun r _ => mul_comm _ _

end Cert.NormRef

namespace Cert.NormClaims

open Cert.Norm Cert.NormValue Cert.Finite Idealize.ShloMosaic Idealize.SL.Sem
open scoped BigOperators

theorem frame_kernel : Cert.quiescent_NormKernel := fun m ρ _ => Cert.NormKernel.Gen.frame m ρ
theorem frame_ideal : Cert.quiescent_NormKernelIdeal := fun m ρ _ => Cert.NormKernelIdeal.Gen.frame m ρ
theorem frame_ideal_pre : Cert.quiescent_NormKernelIdeal_pre_norm_finite := fun m ρ _ => Cert.NormKernelIdeal.Gen.frame m ρ
theorem frame_reference : Cert.quiescent_NormReferenceIdeal := fun m ρ _ =>
  (θ_run Cert.NormReferenceIdeal.defs _ _).mono (fun r h => ⟨fun c => (h c).2.2, sem_eq_zero_of_no_sems (by decide) r.2⟩)
    (Cert.NormReferenceIdeal.Value.run (F := Ideal) m ρ)
theorem frame_reference_pre : Cert.quiescent_NormReferenceIdeal_pre_norm_finite := fun m ρ _ => frame_reference m ρ trivial

/-- The kernel's two results are the reference's, for finite arguments. -/
theorem algebraic : Cert.algebraic_NormKernelIdeal_NormReferenceIdeal_pre_norm_finite := by
  intro m ρ m' ρ' hpre hagree
  refine ⟨_, _, Cert.NormKernelIdeal.Value.run_blocks (F := Ideal) m ρ, ?_⟩
  refine (θ_run Cert.NormReferenceIdeal.defs _ _).mono (fun _ h c => ?_) (Cert.NormReferenceIdeal.Value.run (F := Ideal) m' ρ')
  obtain ⟨h0, h1, hrest⟩ := h c
  obtain ⟨e0, e1, e2, e3⟩ := hagree c
  obtain ⟨p0, p1, p2, -⟩ := hpre c
  have hx : ∀ i, Fin' (argX m c i) := fun i => of_abs_lt (congrFun p0 i)
  have hg : ∀ i, Fin' (argG m c i) := fun i => of_abs_lt (congrFun p1 i)
  have hd : ∀ i, Fin' (argDy m c i) := fun i => of_abs_lt (congrFun p2 i)
  refine ⟨?_, ?_, hrest⟩
  · refine h0.trans ?_
    rw [e0, e1, e2, e3]
    refine Eq.trans (Cert.NormReferenceIdeal.Read.val_main_v37_eq _ _ _ _) ?_
    funext x
    obtain ⟨i, j, p, q, rfl⟩ := Cert.Mm.exists_idx_tile (a0 := 8) (a1 := 1) (t0 := 512) (t1 := 2048) (by decide) (by decide) x
    obtain rfl : j = 0 := Subsingleton.elim _ _
    rw [Cert.Mm.tile_one]
    refine (Cert.NormRef.row_apply _ _ _ _ (row i p) q).trans (Eq.trans ?_ (final4 m c i p q).symm)
    exact congrArg (· + _) (gradD_eq_of (by norm_num) len_real (fun k => hx _) (fun k => (hd _).mul (hg _)) q)
  · refine h1.trans ?_
    rw [e0, e2]
    refine Eq.trans (Cert.NormReferenceIdeal.Read.val_main_v38_eq _ _) ?_
    funext x
    obtain ⟨i, j, p, q, rfl⟩ := Cert.Mm.exists_idx_tile (a0 := 1) (a1 := 1) (t0 := 1) (t1 := 2048) (by decide) (by decide) x
    obtain rfl : j = 0 := Subsingleton.elim _ _
    obtain rfl : i = 0 := Subsingleton.elim _ _
    obtain rfl : p = 0 := Subsingleton.elim _ _
    rw [Cert.Mm.tile_one, Cert.Mm.tile_one]
    exact (Cert.NormRef.gain_apply _ _ q).trans (final5 m c q).symm

end Cert.NormClaims

end
-- ==== Proof.Norm.Forward.lean ====
/- The scaled norm, forward: what each grid point computes, what the result array holds after the run, what the reference
   computes, and the claims. -/
module

public import proofs.«01_k».proof.Proof.Norm.Kernel
public import proofs.«01_k».proof.Proof.Gen.NormFKernelIdeal.Value
public import proofs.«01_k».proof.Proof.Gen.NormFKernel.Frame
public import proofs.«01_k».proof.Proof.Gen.NormFReferenceIdeal.Read
public import proofs.«01_k».proof.Defs

@[expose] public section

noncomputable section

namespace Cert.NormFValue

open Cert.NormFKernelIdeal Cert.NormFKernelIdeal.Gen Cert.Norm Idealize.ShloMosaic Idealize.ShloMosaic.TcCoe Idealize.SL.Sem
open Cert.NormValue (hz len row idx_row)
open Idealize.ShloMosaic.Pipeline (Dat)
open scoped BigOperators

theorem out0_2_eq {F : FTy → Type} [FloatOps F] (x0 : Vec F S512x2048 .f32) (x1 : Vec F S1x2048 .f32) :
    out0_2 x0 x1 = k0_pay1 x0 x1 := by
  unfold out0_2
  rw [View.canon_unit_zero hz]
  simp only [View.ld_unit_zero (S := S512x2048) hz, View.ld_unit_zero (S := S1x2048) hz]

theorem pay_apply (x : Vec Ideal S512x2048 .f32) (g : Vec Ideal S1x2048 .f32) (p : Fin 512) (q : Fin 2048) :
    k0_pay1 x g (ix2 p q) = x (ix2 p q) * rr len (fun k => x (ix2 p k)) * g (ix2 (0 : Fin 1) q) := by
  pointwise [k0_pay1]
  rfl

variable (m : (ℓ : Loc nD τ sig) → Buf (Elt Ideal) ℓ) (c : Dev nD)

abbrev argX : S4096x2048.Idx → EReal := m ((c : Thread nD τ).loc main_arg0)
abbrev argG : S2048.Idx → EReal := m ((c : Thread nD τ).loc main_arg1)

/-- The grid point of a row tile. -/
def pt (i : Fin 8) : Fin cfg0.N := ⟨i.val, lt_of_lt_of_eq i.isLt N_0.symm⟩

theorem idx : ∀ i : Fin 8, win0_0.index (pt i) = ![i.val, 0] ∧ win0_1.index (pt i) = ![0, 0] ∧ win0_2.index (pt i) = ![i.val, 0] := by
  decide +kernel

theorem blk0 (i : Fin 8) (p : Fin 512) (q : Fin 2048) :
    (iblk m c 0 (pt i) : Vec Ideal S512x2048 .f32) (ix2 p q) = argX m c (ix2 (row i p) q) := by
  have e := (idx i).1
  show (V m c (Pipeline.arrRef spec0 0)) (((cfg0.win 0).blk (pt i)).view.emb (ix2 p q)) = _
  refine Eq.trans (congrFun (V_main_arg0 m c) _) (congrArg (argX m c) (idx_row ?_ ?_))
  · show win0_0.index (pt i) 0 * 512 + 1 * p.val = _; rw [e]; rfl
  · show win0_0.index (pt i) 1 * 2048 + 1 * q.val = _; rw [e]; rfl

/-- The gain as one row: the host's cast of it. -/
theorem V_gain : V m c main_v0 = shapeCast S1x2048 (argG m c) shapeCasts_S2048_S1x2048 := by
  show StableHlo.after hostOps0 (fun b => m (c, b)) (Proc.devRef .tc main_v0) = _
  rw [hostOps0, StableHlo.after_cons, StableHlo.after_nil]
  rw [StableHlo.reshape_result]
  rfl

theorem blk1 (i : Fin 8) (q : Fin 2048) :
    (iblk m c 1 (pt i) : Vec Ideal S1x2048 .f32) (ix2 (0 : Fin 1) q) = argG m c (ix1 q) := by
  have e := (idx i).2.1
  show (V m c (Pipeline.arrRef spec0 1)) (((cfg0.win 1).blk (pt i)).view.emb (ix2 (0 : Fin 1) q)) = _
  have e1 : ((cfg0.win 1).blk (pt i)).view.emb (ix2 (0 : Fin 1) q) = ix2 (0 : Fin 1) q := by
    funext a
    apply Fin.ext
    match a with
    | ⟨0, _⟩ => show win0_1.index (pt i) 0 * 1 + 1 * 0 = 0; rw [e]; rfl
    | ⟨1, _⟩ => show win0_1.index (pt i) 1 * 2048 + 1 * q.val = q.val; rw [e]; show 0 * 2048 + 1 * q.val = q.val; omega
  rw [e1]
  refine Eq.trans (congrFun (V_gain m c) _) ?_
  generalize argG m c = G
  pointwise []

theorem emb2 (i : Fin 8) (p : Fin 512) (q : Fin 2048) : ((cfg0.win 2).blk (pt i)).view.emb (ix2 p q) = ix2 (row i p) q := by
  have e := (idx i).2.2
  refine idx_row ?_ ?_
  · show win0_2.index (pt i) 0 * 512 + 1 * p.val = _; rw [e]; rfl
  · show win0_2.index (pt i) 1 * 2048 + 1 * q.val = _; rw [e]; rfl

/-- The result array after the run. -/
theorem final2 (i : Fin 8) (p : Fin 512) (q : Fin 2048) : (dats m 0 c).arrAt 2 cfg0.N (ix2 (row i p) q)
    = argX m c (ix2 (row i p) q) * rr len (fun k => argX m c (ix2 (row i p) k)) * argG m c (ix1 q) := by
  refine Eq.trans (congrArg ((dats m 0 c).arrAt 2 cfg0.N) (emb2 i p q).symm) ?_
  refine Eq.trans ((dats m 0 c).arrAt_emb_eq_flushed 2 Value.disjoint2 (pt i) (flush0_2 _) (ix2 p q)) ?_
  refine Eq.trans (cast_eq _ _) ?_
  rw [Value.flushed2, out0_2_eq]
  show k0_pay1 (F := Ideal) (iblk m c 0 (pt i)) (iblk m c 1 (pt i)) (ix2 p q) = _
  rw [pay_apply]
  simp only [blk0, blk1]

end Cert.NormFValue

namespace Cert.NormFRef

open Cert.NormFReferenceIdeal Cert.NormFReferenceIdeal.Gen Cert.NormFReferenceIdeal.Read Cert.Norm Idealize.ShloMosaic
open Cert.NormValue (len)
open scoped BigOperators

theorem norm_apply (x : (⟨S4096x2048, .f32⟩ : BufTy).Contents (Elt Ideal)) (g : (⟨S2048, .f32⟩ : BufTy).Contents (Elt Ideal))
    (r : Fin 4096) (q : Fin 2048) :
    val_main_v13 x g (ix2 r q) = x (ix2 r q) * rr len (fun k => x (ix2 r k)) * g (ix1 q) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

end Cert.NormFRef

namespace Cert.NormFClaims

open Cert.NormFValue Idealize.ShloMosaic Idealize.SL.Sem
open Cert.NormValue (row)

theorem frame_kernel : Cert.quiescent_NormFKernel := fun m ρ _ => Cert.NormFKernel.Gen.frame m ρ
theorem frame_ideal : Cert.quiescent_NormFKernelIdeal := fun m ρ _ => Cert.NormFKernelIdeal.Gen.frame m ρ
theorem frame_reference : Cert.quiescent_NormFReferenceIdeal := fun m ρ _ =>
  (θ_run Cert.NormFReferenceIdeal.defs _ _).mono (fun r h => ⟨fun c => (h c).2, sem_eq_zero_of_no_sems (by decide) r.2⟩)
    (Cert.NormFReferenceIdeal.Value.run (F := Ideal) m ρ)

/-- The kernel's result is the reference's, on all extended reals. -/
theorem algebraic : Cert.algebraic_NormFKernelIdeal_NormFReferenceIdeal := by
  intro m ρ m' ρ' _ hagree
  refine ⟨_, Cert.NormFKernelIdeal.Value.run_blocks (F := Ideal) m ρ, ?_⟩
  refine (θ_run Cert.NormFReferenceIdeal.defs _ _).mono (fun _ h c => ?_) (Cert.NormFReferenceIdeal.Value.run (F := Ideal) m' ρ')
  obtain ⟨h0, hrest⟩ := h c
  obtain ⟨e0, e1⟩ := hagree c
  refine ⟨?_, hrest⟩
  refine h0.trans ?_
  rw [e0, e1]
  refine Eq.trans (Cert.NormFReferenceIdeal.Read.val_main_v13_eq _ _) ?_
  funext x
  obtain ⟨i, j, p, q, rfl⟩ := Cert.Mm.exists_idx_tile (a0 := 8) (a1 := 1) (t0 := 512) (t1 := 2048) (by decide) (by decide) x
  obtain rfl : j = 0 := Subsingleton.elim _ _
  rw [Cert.Mm.tile_one]
  exact (Cert.NormFRef.norm_apply _ _ (row i p) q).trans (final2 m c i p q).symm

end Cert.NormFClaims

end
-- ==== Proof.Lib.Softmax.lean ====
/- A masked softmax row over the extended reals, met whole or a block at a time. Scores are reals where the mask lets them
   through and minus infinity elsewhere. A running triple -- a largest score, a sum of weights and a sum of weighted values --
   is related to the two real sums it stands for, whatever the real that serves as the largest score; from this both ways of
   computing the row's average and normaliser give the same two real numbers. -/
module

public import Idealize.ShloMosaic.PureOps.Ideal
public import Idealize.ShloMosaic.PureOps.Ideal.Laws

@[expose] public section

noncomputable section

namespace Cert.Softmax

open Idealize.ShloMosaic
open scoped BigOperators

variable {n : ℕ}

/-- The largest entry of a row, and the largest of a running value and a row. -/
def top (M : Fin n → EReal) : EReal := (Finset.univ : Finset (Fin n)).fold max ⊥ M
def nmax (m : EReal) (M : Fin n → EReal) : EReal := max m (top M)
/-- The running sum of weights after a further row of scores, -/
def nsum (m l : EReal) (M : Fin n → EReal) : EReal :=
  Ideal.exp (m - nmax m M) * l + ∑ j : Fin n, Ideal.exp (M j - nmax m M)
/-- and the running sum of weighted values. -/
def nacc (m a : EReal) (M v : Fin n → EReal) : EReal :=
  Ideal.exp (m - nmax m M) * a + ∑ j : Fin n, Ideal.exp (M j - nmax m M) * v j

/-- A masked row of real scores, and the weight of each. -/
def masked (ok : Fin n → Prop) [DecidablePred ok] (s : Fin n → ℝ) (j : Fin n) : EReal := if ok j then (s j : EReal) else ⊥
def wt (ok : Fin n → Prop) [DecidablePred ok] (s : Fin n → ℝ) (j : Fin n) : ℝ := if ok j then Real.exp (s j) else 0

/-- A finite sum of reals, read in the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

section
variable (ok : Fin n → Prop) [DecidablePred ok] (s v : Fin n → ℝ)

theorem exp_sub (μ : ℝ) (j : Fin n) : Ideal.exp (masked ok s j - (μ : EReal)) = ((wt ok s j * Real.exp (-μ) : ℝ) : EReal) := by
  unfold masked wt
  split
  · rw [← EReal.coe_sub, Ideal.exp_coe, ← Real.exp_add, sub_eq_add_neg]
  · rw [EReal.bot_sub, Ideal.exp_bot, zero_mul]; rfl

/-- The largest entry is minus infinity or a real; a real as soon as one score comes through. -/
theorem top_or : top (masked ok s) = ⊥ ∨ ∃ μ : ℝ, top (masked ok s) = (μ : EReal) := by
  rcases Nat.eq_zero_or_pos n with rfl | hn
  · exact Or.inl rfl
  · obtain ⟨i, -, h⟩ := Finset.exists_mem_eq_sup (Finset.univ : Finset (Fin n)) ⟨⟨0, hn⟩, Finset.mem_univ _⟩ (masked ok s)
    have h' : top (masked ok s) = masked ok s i := h
    rw [h']; unfold masked
    split
    · exact Or.inr ⟨_, rfl⟩
    · exact Or.inl rfl
theorem top_real (j : Fin n) (hj : ok j) : ∃ μ : ℝ, top (masked ok s) = (μ : EReal) := by
  rcases top_or ok s with h | h
  · have hle : masked ok s j ≤ top (masked ok s) := Finset.le_sup (f := masked ok s) (Finset.mem_univ j)
    rw [h, le_bot_iff] at hle
    unfold masked at hle
    rw [if_pos hj] at hle
    exact absurd hle (EReal.coe_ne_bot _)
  · exact h

theorem sum_exp (μ : ℝ) : (∑ j : Fin n, Ideal.exp (masked ok s j - (μ : EReal))) = (((∑ j : Fin n, wt ok s j) * Real.exp (-μ) : ℝ) : EReal) := by
  simp only [exp_sub]
  rw [← coe_sum, Finset.sum_mul]
theorem sum_exp_mul (μ : ℝ) : (∑ j : Fin n, Ideal.exp (masked ok s j - (μ : EReal)) * (v j : EReal))
    = (((∑ j : Fin n, wt ok s j * v j) * Real.exp (-μ) : ℝ) : EReal) := by
  simp only [exp_sub, ← EReal.coe_mul]
  rw [← coe_sum, Finset.sum_mul]
  exact congrArg _ (Finset.sum_congr rfl fun j _ => by ring)

theorem wt_nonneg (j : Fin n) : 0 ≤ wt ok s j := by
  unfold wt; split
  · exact (Real.exp_pos _).le
  · exact le_rfl
theorem sum_pos (j : Fin n) (hj : ok j) : 0 < ∑ j : Fin n, wt ok s j :=
  Finset.sum_pos' (fun k _ => wt_nonneg ok s k) ⟨j, Finset.mem_univ j, by unfold wt; rw [if_pos hj]; exact Real.exp_pos _⟩
end

/-- The running triple stands for the two real sums. -/
def Carry (m l a : EReal) (L A : ℝ) : Prop :=
  ∃ μ : ℝ, m = (μ : EReal) ∧ l = ((L * Real.exp (-μ) : ℝ) : EReal) ∧ a = ((A * Real.exp (-μ) : ℝ) : EReal)

section
variable (ok : Fin n → Prop) [DecidablePred ok] (s v : Fin n → ℝ)

/-- The first row, from nothing. -/
theorem Carry.start (j : Fin n) (hj : ok j) :
    Carry (nmax ⊥ (masked ok s)) (nsum ⊥ 0 (masked ok s)) (nacc ⊥ 0 (masked ok s) (fun j => (v j : EReal)))
      (∑ j : Fin n, wt ok s j) (∑ j : Fin n, wt ok s j * v j) := by
  obtain ⟨μ, hμ⟩ := top_real ok s j hj
  have hm : nmax ⊥ (masked ok s) = (μ : EReal) := by unfold nmax; rw [hμ]; exact max_eq_right bot_le
  refine ⟨μ, hm, ?_, ?_⟩
  · unfold nsum; rw [hm, sum_exp, EReal.bot_sub, mul_zero, zero_add]
  · unfold nacc; rw [hm, sum_exp_mul, EReal.bot_sub, mul_zero, zero_add]

/-- A further row. -/
theorem Carry.step {m l a : EReal} {L A : ℝ} (h : Carry m l a L A) :
    Carry (nmax m (masked ok s)) (nsum m l (masked ok s)) (nacc m a (masked ok s) (fun j => (v j : EReal)))
      (L + ∑ j : Fin n, wt ok s j) (A + ∑ j : Fin n, wt ok s j * v j) := by
  obtain ⟨μ, rfl, rfl, rfl⟩ := h
  obtain ⟨ν, hm⟩ : ∃ ν : ℝ, nmax (μ : EReal) (masked ok s) = (ν : EReal) := by
    unfold nmax
    rcases top_or ok s with h | ⟨κ, h⟩
    · exact ⟨μ, by rw [h]; exact max_eq_left bot_le⟩
    · exact ⟨max μ κ, by rw [h]; exact (EReal.coe_strictMono.monotone.map_max).symm⟩
  have e : Real.exp (μ - ν) * Real.exp (-μ) = Real.exp (-ν) := by rw [← Real.exp_add]; congr 1; ring
  refine ⟨ν, hm, ?_, ?_⟩
  · unfold nsum; rw [hm, sum_exp, ← EReal.coe_sub, Ideal.exp_coe, ← EReal.coe_mul, ← EReal.coe_add]
    refine congrArg _ ?_
    rw [add_mul, ← e]; ring
  · unfold nacc; rw [hm, sum_exp_mul, ← EReal.coe_sub, Ideal.exp_coe, ← EReal.coe_mul, ← EReal.coe_add]
    refine congrArg _ ?_
    rw [add_mul, ← e]; ring
end

/-- The average, -/
theorem Carry.avg {m l a : EReal} {L A : ℝ} (h : Carry m l a L A) (hL : 0 < L) : Ideal.div a l = ((A / L : ℝ) : EReal) := by
  obtain ⟨μ, -, rfl, rfl⟩ := h
  have hμ := Real.exp_pos (-μ)
  rw [Ideal.div_coe (mul_pos hL hμ).ne', ← EReal.coe_mul]
  refine congrArg _ ?_
  field_simp
/-- and the normaliser. -/
theorem Carry.norm {m l a : EReal} {L A : ℝ} (h : Carry m l a L A) (hL : 0 < L) : m + Ideal.log l = ((Real.log L : ℝ) : EReal) := by
  obtain ⟨μ, rfl, rfl, -⟩ := h
  have hμ := Real.exp_pos (-μ)
  rw [Ideal.log_coe, if_neg (not_le.mpr (mul_pos hL hμ)), ← EReal.coe_add, Real.log_mul hL.ne' hμ.ne', Real.log_exp]
  refine congrArg _ ?_
  ring

section
variable (ok : Fin n → Prop) [DecidablePred ok] (s v : Fin n → ℝ)

/-- The row met whole: the average of the values under the softmax, -/
theorem whole_avg (j : Fin n) (hj : ok j) :
    (∑ k : Fin n, Ideal.div (Ideal.exp (masked ok s k - top (masked ok s))) (∑ i : Fin n, Ideal.exp (masked ok s i - top (masked ok s))) * (v k : EReal))
      = (((∑ k : Fin n, wt ok s k * v k) / ∑ k : Fin n, wt ok s k : ℝ) : EReal) := by
  obtain ⟨μ, hμ⟩ := top_real ok s j hj
  have hL := sum_pos ok s j hj
  have hp := Real.exp_pos (-μ)
  rw [hμ, sum_exp]
  simp only [exp_sub, Ideal.div_coe (mul_pos hL hp).ne', ← EReal.coe_mul]
  rw [← coe_sum]
  refine congrArg _ ?_
  rw [Finset.sum_div]
  refine Finset.sum_congr rfl fun k _ => ?_
  field_simp
/-- and the normaliser. -/
theorem whole_norm (j : Fin n) (hj : ok j) :
    top (masked ok s) + Ideal.log (∑ i : Fin n, Ideal.exp (masked ok s i - top (masked ok s)))
      = ((Real.log (∑ k : Fin n, wt ok s k) : ℝ) : EReal) := by
  obtain ⟨μ, hμ⟩ := top_real ok s j hj
  exact Carry.norm (a := 0) (A := 0) ⟨μ, hμ, by rw [hμ, sum_exp], by rw [zero_mul]; rfl⟩ (sum_pos ok s j hj)
end

end Cert.Softmax

end
-- ==== Proof.Mlaf.Rows.lean ====
/- The forward attention's rows over the argument arrays: the scores of a query against all keys of its sequence, which keys
   its mask lets through, the average and normaliser as real numbers, and how the two halves of the keys make up the whole. -/
module

public import proofs.«01_k».proof.Proof.Lib.Softmax
public import Idealize.ShloMosaic.Lib.Pointwise

@[expose] public section

noncomputable section

namespace Cert.MlafRows

open Cert.Softmax Idealize.ShloMosaic
open scoped BigOperators

/-- The scale of the scores, `192 ** -0.5` as the float word both programs hold. -/
abbrev sc : EReal := Ideal.ofBits .f32 0x3D93CD3A#32

/-- The scale is a real number. -/
theorem sc_real : ∃ r : ℝ, sc = (r : EReal) :=
  ⟨_, by simp only [sc, Ideal.ofBits, Ideal.ieee]; simp [-EReal.coe_mul]; rfl⟩

/-- The array row of row `r` of sequence `b`; the column of lane `d` of head `h` of the queries and keys, and of the results;
    the lanes of a head's own half and of the other; the row `r` of half `i` of a sequence. -/
def qr (b : Fin 2) (r : Fin 2048) : Fin 4096 := ⟨b.val * 2048 + r.val, by omega⟩
def cc (h : Fin 16) (d : Fin 256) : Fin 4096 := ⟨h.val * 256 + d.val, by omega⟩
def oc (h : Fin 16) (d : Fin 128) : Fin 2048 := ⟨h.val * 128 + d.val, by omega⟩
def lo (d : Fin 128) : Fin 256 := ⟨d.val, by omega⟩
def hi (d : Fin 128) : Fin 256 := ⟨128 + d.val, by omega⟩
def half (i : Fin 2) (r : Fin 1024) : Fin 2048 := ⟨i.val * 1024 + r.val, by omega⟩

abbrev Wide := (⟨2, ![4096, 4096]⟩ : Shape).Idx → EReal
abbrev Slim := (⟨2, ![4096, 128]⟩ : Shape).Idx → EReal

/-- The scores of one query against one key: the head's own lanes, and those all heads share. -/
def scoreA (q kv : Wide) (kr : Slim) (b : Fin 2) (h : Fin 16) (r k : Fin 2048) : EReal :=
  ((∑ d : Fin 128, q (ix2 (qr b r) (cc h (lo d))) * kv (ix2 (qr b k) (cc h (lo d))))
    + ∑ d : Fin 128, q (ix2 (qr b r) (cc h (hi d))) * kr (ix2 (qr b k) d)) * sc

/-- A key comes through when its chunk is not later than the query's. -/
abbrev ok (r k : Fin 2048) : Prop := k.val / 64 ≤ r.val / 64

section
variable (s : Fin 2048 → Fin 2048 → ℝ) (v : Fin 2048 → ℝ) (r : Fin 2048)

def total : ℝ := ∑ k : Fin 2048, wt (ok r) (s r) k
def weighted : ℝ := ∑ k : Fin 2048, wt (ok r) (s r) k * v k
theorem total_pos : 0 < total s r := sum_pos (ok r) (s r) r le_rfl
end

/-- The lanes of a head are its two halves. -/
theorem sum_lanes {M : Type} [AddCommMonoid M] (f : Fin 256 → M) : ∑ d : Fin 256, f d = ∑ d : Fin 128, f (lo d) + ∑ d : Fin 128, f (hi d) :=
  Fin.sum_univ_add (M := M) (a := 128) (b := 128) f
/-- The rows of a sequence are its two halves' rows. -/
theorem sum_halves {M : Type} [AddCommMonoid M] (f : Fin 2048 → M) : ∑ r : Fin 2048, f r = ∑ r : Fin 1024, f (half 0 r) + ∑ r : Fin 1024, f (half 1 r) := by
  have e := Fin.sum_univ_add (M := M) (a := 1024) (b := 1024) f
  refine e.trans (congrArg₂ (· + ·) (Finset.sum_congr rfl fun r _ => congrArg f (Fin.ext ?_)) (Finset.sum_congr rfl fun r _ => congrArg f (Fin.ext ?_)))
  · show r.val = 0 * 1024 + r.val; omega
  · show 1024 + r.val = 1 * 1024 + r.val; omega

section
variable (s : Fin 2048 → Fin 2048 → ℝ) (v : Fin 2048 → ℝ) (r : Fin 1024)

/-- The scores of row `r` of half `i` against the keys of the same half, and of the other half, as masked rows of reals. -/
abbrev diag (i : Fin 2) : Fin 1024 → EReal := masked (fun j : Fin 1024 => j.val / 64 ≤ r.val / 64) (fun j => s (half i r) (half i j))
abbrev left : Fin 1024 → EReal := masked (fun _ : Fin 1024 => True) (fun j => s (half 1 r) (half 0 j))

theorem wt_diag (i : Fin 2) (j : Fin 1024) : wt (ok (half i r)) (s (half i r)) (half i j)
    = wt (fun j : Fin 1024 => j.val / 64 ≤ r.val / 64) (fun j => s (half i r) (half i j)) j := by
  unfold wt
  refine if_congr ?_ rfl rfl
  show (i.val * 1024 + j.val) / 64 ≤ (i.val * 1024 + r.val) / 64 ↔ _
  omega
theorem wt_left (j : Fin 1024) : wt (ok (half 1 r)) (s (half 1 r)) (half 0 j)
    = wt (fun _ : Fin 1024 => True) (fun j => s (half 1 r) (half 0 j)) j := by
  unfold wt
  refine if_congr ?_ rfl rfl
  refine iff_of_true ?_ trivial
  show (0 * 1024 + j.val) / 64 ≤ (1 * 1024 + r.val) / 64
  omega
theorem wt_right (j : Fin 1024) : wt (ok (half 0 r)) (s (half 0 r)) (half 1 j) = 0 := by
  unfold wt
  refine if_neg ?_
  show ¬ (1 * 1024 + j.val) / 64 ≤ (0 * 1024 + r.val) / 64
  omega

/-- A first half's rows are done after the block on the diagonal; -/
theorem carry_first : Carry (nmax ⊥ (diag s r 0)) (nsum ⊥ 0 (diag s r 0)) (nacc ⊥ 0 (diag s r 0) (fun j => (v (half 0 j) : EReal)))
    (total s (half 0 r)) (weighted s v (half 0 r)) := by
  have h := Carry.start (fun j : Fin 1024 => j.val / 64 ≤ r.val / 64) (fun j => s (half 0 r) (half 0 j)) (fun j => v (half 0 j)) r le_rfl
  unfold total weighted
  rw [sum_halves, sum_halves]
  simp only [wt_diag, wt_right, zero_mul, Finset.sum_const_zero, add_zero]
  exact h

/-- a second half's after the block before it and the block on the diagonal. -/
theorem carry_second : Carry (nmax (nmax ⊥ (left s r)) (diag s r 1)) (nsum (nmax ⊥ (left s r)) (nsum ⊥ 0 (left s r)) (diag s r 1))
    (nacc (nmax ⊥ (left s r)) (nacc ⊥ 0 (left s r) (fun j => (v (half 0 j) : EReal))) (diag s r 1) (fun j => (v (half 1 j) : EReal)))
    (total s (half 1 r)) (weighted s v (half 1 r)) := by
  have h := (Carry.start (fun _ : Fin 1024 => True) (fun j => s (half 1 r) (half 0 j)) (fun j => v (half 0 j)) r trivial).step
    (fun j : Fin 1024 => j.val / 64 ≤ r.val / 64) (fun j => s (half 1 r) (half 1 j)) (fun j => v (half 1 j))
  unfold total weighted
  rw [sum_halves, sum_halves]
  simp only [wt_diag, wt_left]
  exact h
end

end Cert.MlafRows

end
-- ==== Proof.Mlaf.Ref.lean ====
/- The forward attention's reference read at an index, over the extended reals: the masked scores, their softmax, the averages
   and the normalisers. -/
module

public import proofs.«01_k».proof.Proof.Gen.MlafReferenceIdeal.Read
public import proofs.«01_k».proof.Proof.Lib.HostMax
public import proofs.«01_k».proof.Proof.Mlaf.Rows

@[expose] public section

noncomputable section

namespace Cert.MlafRef

open Cert.MlafReferenceIdeal Cert.MlafReferenceIdeal.Gen Cert.MlafReferenceIdeal.Read Cert.Softmax Cert.MlafRows Idealize.ShloMosaic
open scoped BigOperators

theorem negInf_word : Ideal.ofBits .f32 0xFF800000#32 = ⊥ := by simp [Ideal.ofBits, Ideal.ieee]

/-! ## The mask -/

/-- The chunk of a row, as the quotient rounding down is computed. -/
def chunkWord (x : BitVec 32) : BitVec 32 :=
  Scalar.select
    (IntOp.andi (IntOp.cmpi .ne (signi (s := S_) (fun _ => x) ix0) (signi (s := S_) (fun _ => 64#32) ix0))
      (IntOp.cmpi .ne (IntOp.remsi .host x 64#32) 0#32))
    (IntOp.subi (IntOp.divsi .host x 64#32) 1#32) (IntOp.divsi .host x 64#32)
theorem chunkWord_eq : ∀ r : Fin 2048, chunkWord (BitVec.ofNat 32 r.val) = BitVec.ofNat 32 (r.val / 64) := by decide +kernel
theorem sle_chunk : ∀ a b : Fin 32, IntOp.cmpi CmpIPredicate.sle (BitVec.ofNat 32 a.val) (BitVec.ofNat 32 b.val) = if a.val ≤ b.val then 1#1 else 0#1 := by decide +kernel

theorem chunk_apply (r : Fin 2048) : val_main_v14 (F := Ideal) (ix1 r) = BitVec.ofNat 32 (r.val / 64) := by
  rw [← chunkWord_eq]
  rw [val_main_v14_apply, val_main_call0_v11_apply, val_main_call0_v13_apply, val_main_call0_v6_apply, val_main_call0_v10_apply,
    val_main_call0_v2_apply, val_main_call0_v8_apply, val_main_call0_v1_apply, val_main_call0_v7_apply, val_main_call0_v9_apply,
    val_main_call0_v12_apply, val_main_call0_v5_apply]
  rfl

variable (x0 x1 : (⟨S4096x4096, .bf16⟩ : BufTy).Contents (Elt Ideal)) (x2 : (⟨S4096x128, .bf16⟩ : BufTy).Contents (Elt Ideal))
  (b : Fin 2) (h : Fin 16) (r k : Fin 2048)

theorem mask_apply : val_main_v19 (F := Ideal) (ix2 r k) = if k.val / 64 ≤ r.val / 64 then 1#1 else 0#1 := by
  have hC := chunk_apply
  unfold val_main_v19 val_main_v18 val_main_v17 val_main_v16 val_main_v15
  generalize val_main_v14 (F := Ideal) = C at hC
  pointwise
  rw [hC, hC, sle_chunk ⟨k.val / 64, by omega⟩ ⟨r.val / 64, by omega⟩]

theorem own_apply : val_main_v8 x0 x1 (ix4 b h r k) = ∑ d : Fin 128, x0 (ix2 (qr b r) (cc h (lo d))) * x1 (ix2 (qr b k) (cc h (lo d))) := by
  pointwise [val_main_v8, val_main_v7, val_main_v4, val_main_v3, val_main_v2, val_main_v1, val_main_v0]
  rfl

theorem shared_apply : val_main_v11 x0 x2 (ix4 b h r k) = ∑ d : Fin 128, x0 (ix2 (qr b r) (cc h (hi d))) * x2 (ix2 (qr b k) d) := by
  pointwise [val_main_v11, val_main_v10, val_main_v9, val_main_v6, val_main_v5, val_main_v1, val_main_v0]
  exact Finset.sum_congr rfl fun d _ => mul_comm _ _

/-- A row of masked scores. -/
def rowA : Fin 2048 → EReal := fun k => if k.val / 64 ≤ r.val / 64 then scoreA x0 x1 x2 b h r k else ⊥

theorem score_apply : val_main_v23 x0 x1 x2 (ix4 b h r k) = rowA x0 x1 x2 b h r k := by
  have h8 := own_apply x0 x1 b h r k
  have h11 := shared_apply x0 x2 b h r k
  have hM := mask_apply r k
  unfold val_main_v23 val_main_v22 val_main_v12 val_main_call1_v1 val_main_v20
  generalize val_main_v8 x0 x1 = S8 at h8
  generalize val_main_v11 x0 x2 = S11 at h11
  generalize val_main_v19 (F := Ideal) = M at hM
  pointwise [val_main_v21, val_main_cst, val_main_call1_v2, val_main_call1_v0, val_main_cst_0]
  rw [h8, h11, hM]
  show Scalar.select _ _ (Ideal.ofBits .f32 0xFF800000#32) = if _ then _ else _
  rw [negInf_word]
  split
  · rfl
  · rfl

/-! ## The softmax -/

theorem max_apply : val_main_v24 x0 x1 x2 (ix3 b h r) = top (rowA x0 x1 x2 b h r) := by
  refine Eq.trans (HostMax.apply_r4 _ _ (val_main_v23 x0 x1 x2) _ b h r) ?_
  simp only [score_apply]
  show Finset.fold max (Ideal.ofBits .f32 0xFF800000#32) _ _ = _
  rw [negInf_word]
  rfl
theorem max41_apply : val_main_v41 x0 x1 x2 (ix3 b h r) = top (rowA x0 x1 x2 b h r) := max_apply x0 x1 x2 b h r
theorem max26_apply : val_main_v26 x0 x1 x2 (ix3 b h r) = top (rowA x0 x1 x2 b h r) := by
  rw [val_main_v26_apply, max_apply, val_main_v25_apply, Ideal.maximumf_eq_max]
  show max (Ideal.ofBits .f32 0xFF800000#32) _ = _
  rw [negInf_word, max_eq_right bot_le]

/-- The exponentials. -/
def ex : EReal := Ideal.exp (rowA x0 x1 x2 b h r k - top (rowA x0 x1 x2 b h r))

theorem exp_apply : val_main_v30 x0 x1 x2 (ix4 b h r k) = ex x0 x1 x2 b h r k := by
  have hM := max26_apply x0 x1 x2 b h r
  have hS := score_apply x0 x1 x2 b h r k
  unfold val_main_v30 val_main_v29 val_main_v28 val_main_v27
  generalize val_main_v26 x0 x1 x2 = M at hM
  generalize val_main_v23 x0 x1 x2 = S at hS
  pointwise []
  rw [hM, hS]
  rfl

theorem exp45_apply : val_main_v45 x0 x1 x2 (ix4 b h r k) = ex x0 x1 x2 b h r k := by
  have hM := max41_apply x0 x1 x2 b h r
  have hS := score_apply x0 x1 x2 b h r k
  unfold val_main_v45 val_main_v44 val_main_v43 val_main_v42
  generalize val_main_v41 x0 x1 x2 = M at hM
  generalize val_main_v23 x0 x1 x2 = S at hS
  pointwise []
  rw [hM, hS]
  rfl

theorem prob_apply : val_main_v34 x0 x1 x2 (ix4 b h r k) = Ideal.div (ex x0 x1 x2 b h r k) (∑ i : Fin 2048, ex x0 x1 x2 b h r i) := by
  have hE := exp_apply x0 x1 x2 b h r
  unfold val_main_v34 val_main_v33 val_main_v32 val_main_v31
  generalize val_main_v30 x0 x1 x2 = E at hE
  generalize ex x0 x1 x2 b h r = e at hE ⊢
  pointwise [val_main_cst_3]
  simp only [hE]

/-- The sum of the exponentials, as the normaliser's own stage. -/
theorem sum46_apply : val_main_v46 x0 x1 x2 (ix3 b h r) = ∑ i : Fin 2048, ex x0 x1 x2 b h r i := by
  have hE := exp45_apply x0 x1 x2 b h r
  unfold val_main_v46
  generalize val_main_v45 x0 x1 x2 = E at hE
  generalize ex x0 x1 x2 b h r = e at hE ⊢
  pointwise [val_main_cst_5]
  simp only [hE]

theorem norm48_apply : val_main_v48 x0 x1 x2 (ix3 b h r) = top (rowA x0 x1 x2 b h r) + Ideal.log (∑ i : Fin 2048, ex x0 x1 x2 b h r i) := by
  have hM := max41_apply x0 x1 x2 b h r
  have hS := sum46_apply x0 x1 x2 b h r
  generalize top (rowA x0 x1 x2 b h r) = T at hM ⊢
  generalize (∑ i : Fin 2048, ex x0 x1 x2 b h r i) = L at hS ⊢
  rw [val_main_v48_apply, val_main_v47_apply, hM, hS]
  rfl

/-! ## The results -/

theorem qr_div (p) : (⟨(qr b r).val / 2048, p⟩ : Fin 2) = b := Fin.ext (by show (b.val * 2048 + r.val) / 2048 = b.val; omega)
theorem qr_mod (p) : (⟨(qr b r).val % 2048, p⟩ : Fin 2048) = r := Fin.ext (by show (b.val * 2048 + r.val) % 2048 = r.val; omega)
theorem oc_div (d : Fin 128) (p) : (⟨(oc h d).val / 128, p⟩ : Fin 16) = h := Fin.ext (by show (h.val * 128 + d.val) / 128 = h.val; omega)
theorem oc_mod (d : Fin 128) (p) : (⟨(oc h d).val % 128, p⟩ : Fin 128) = d := Fin.ext (by show (h.val * 128 + d.val) % 128 = d.val; omega)

theorem mix_apply (d : Fin 128) : val_main_v38 x0 x1 x2 (ix4 b h d r)
    = ∑ k : Fin 2048, Ideal.div (ex x0 x1 x2 b h r k) (∑ i : Fin 2048, ex x0 x1 x2 b h r i) * x1 (ix2 (qr b k) (cc h (hi d))) := by
  have hP := prob_apply x0 x1 x2 b h r
  unfold val_main_v38
  generalize val_main_v34 x0 x1 x2 = P at hP
  pointwise [val_main_v37, val_main_v36, val_main_v35]
  simp only [hP]
  exact Finset.sum_congr rfl fun k _ => mul_comm _ _

/-- The averages of the values. -/
theorem avg_apply (d : Fin 128) : val_main_v49 x0 x1 x2 (ix2 (qr b r) (oc h d))
    = ∑ k : Fin 2048, Ideal.div (ex x0 x1 x2 b h r k) (∑ i : Fin 2048, ex x0 x1 x2 b h r i) * x1 (ix2 (qr b k) (cc h (hi d))) := by
  have hX := mix_apply x0 x1 x2 b h r d
  unfold val_main_v49 val_main_v40 val_main_v39
  generalize val_main_v38 x0 x1 x2 = X at hX
  pointwise []
  simp only [qr_div, qr_mod, oc_div, oc_mod, hX]

/-- The logarithms of the sums of exponentials. -/
theorem norm_apply : val_main_v51 x0 x1 x2 (ix3 h (qr b r) (0 : Fin 1))
    = top (rowA x0 x1 x2 b h r) + Ideal.log (∑ i : Fin 2048, ex x0 x1 x2 b h r i) := by
  have hN := norm48_apply x0 x1 x2 b h r
  rw [val_main_v51_apply, val_main_v50_apply]
  refine Eq.trans (congrArg _ (funext fun a => Fin.ext ?_)) hN
  have hh := h.isLt; have hb := b.isLt; have hr := r.isLt
  match a with
  | ⟨0, _⟩ => show ((h.val * 4096 + (b.val * 2048 + r.val)) * 1 + 0) / 2048 % 2 = b.val; omega
  | ⟨1, _⟩ => show ((h.val * 4096 + (b.val * 2048 + r.val)) * 1 + 0) / 4096 = h.val; omega
  | ⟨2, _⟩ => show ((h.val * 4096 + (b.val * 2048 + r.val)) * 1 + 0) % 2048 = r.val; omega

end Cert.MlafRef

end
-- ==== Proof.Mlaf.Outs.lean ====
/- What the body of the forward attention leaves in its two output blocks at a grid point, as the payloads of the point's
   input blocks: at the first half of a sequence one block of keys, met through the mask; at the second half one block of keys
   met whole and then one through the mask. -/
module

public import proofs.«01_k».proof.Proof.Gen.MlafKernelIdeal.Value
public import Idealize.ShloMosaic.Lib.Tactic

@[expose] public section

noncomputable section

namespace Cert.MlafValue

open Cert.MlafKernelIdeal Cert.MlafKernelIdeal.Gen Idealize.ShloMosaic Idealize.ShloMosaic.TcCoe Idealize.SL.Sem

variable {F : FTy → Type} [FloatOps F] [Named F]

theorem hz : (![0, 0] : Fin 2 → Nat) = fun _ => 0 := funext fun a => by fin_cases a <;> rfl
theorem hz3 : (![0, 0, 0] : Fin 3 → Nat) = fun _ => 0 := funext fun a => by fin_cases a <;> rfl

/-- The keys as the body keeps them: each head's own lanes beside those all heads share. -/
def keys (x1 : Vec F S2048x256 .bf16) (x2 : Vec F S2048x128 .bf16) : Vec F S2048x256 .bf16 :=
  View.canon [⟨Rect.unit (s := S2048x256) ![0, 128] S2048x128.size inb_S2048x256_S2048x128_0_128, k0_pay5 x2⟩,
    ⟨Rect.unit (s := S2048x256) ![0, 0] S2048x128.size inb_S2048x256_S2048x128_0_0,
      k0_pay4 (View.ld x1 (Rect.unit (s := S2048x256) ![0, 0] S2048x128.size inb_S2048x256_S2048x128_0_0))⟩]

/-- The block of keys on the diagonal and its values; -/
def keysD (i : grid0.Coords) (kc : Vec F S2048x256 .bf16) : Vec F S1024x256 .bf16 :=
  View.ld kc (Rect.unit (s := S2048x256) (k0_off5 i) S1024x256.size (k0_off5_inb i))
def valsD (i : grid0.Coords) (x1 : Vec F S2048x256 .bf16) : Vec F S1024x128 .bf16 :=
  View.ld x1 (Rect.unit (s := S2048x256) (k0_off6 i) S1024x128.size (k0_off6_inb i))
/-- the block of keys before it and its values. -/
def keysL (i : grid0.Coords) (k : Fin (k0_t1_loop i).trips) (kc : Vec F S2048x256 .bf16) : Vec F S1024x256 .bf16 :=
  View.ld kc (Rect.unit (s := S2048x256) (k0_off1 i k) S1024x256.size (k0_off1_inb i k))
def valsL (i : grid0.Coords) (k : Fin (k0_t1_loop i).trips) (x1 : Vec F S2048x256 .bf16) : Vec F S1024x128 .bf16 :=
  View.ld x1 (Rect.unit (s := S2048x256) (k0_off2 i k) S1024x128.size (k0_off2_inb i k))

/-- The output block from what the keys before the diagonal left: their largest score, their sum and their weighted values. -/
def outO (m l : FVec F S1024x1 .f32) (a : FVec F S1024x128 .f32) (q K : Vec F S1024x256 .bf16) (V : Vec F S1024x128 .bf16) : FVec F S1024x128 .bf16 :=
  k0_pay2 a (k0_pay26 m (k0_pay21 q K) (iota .tc S1024x1024 32 [0] iota_S1024x1024_d0_w32) 64#32 k0_pay22 k0_pay23 1#32) (k0_pay27 m (k0_pay21 q K) (iota .tc S1024x1024 32 [0] iota_S1024x1024_d0_w32) 64#32 k0_pay22 k0_pay23 1#32) (k0_pay28 m l (k0_pay21 q K) (iota .tc S1024x1024 32 [0] iota_S1024x1024_d0_w32) 64#32 k0_pay22 k0_pay23 1#32) (k0_pay29 m (k0_pay21 q K) (iota .tc S1024x1024 32 [0] iota_S1024x1024_d0_w32) 64#32 k0_pay22 k0_pay23 1#32) V
/-- The rows' normalisers likewise. -/
def outL (m l : FVec F S1024x1 .f32) (q K : Vec F S1024x256 .bf16) : FVec F S1x1024x1 .f32 :=
  k0_pay3 (k0_pay25 m (k0_pay21 q K) (iota .tc S1024x1024 32 [0] iota_S1024x1024_d0_w32) 64#32 k0_pay22 k0_pay23 1#32) (k0_pay28 m l (k0_pay21 q K) (iota .tc S1024x1024 32 [0] iota_S1024x1024_d0_w32) 64#32 k0_pay22 k0_pay23 1#32) (k0_pay29 m (k0_pay21 q K) (iota .tc S1024x1024 32 [0] iota_S1024x1024_d0_w32) 64#32 k0_pay22 k0_pay23 1#32)

section
variable (i : grid0.Coords)
theorem trips1_zero (h : (i 2).val = 0) : Scf.trips (0#32) (Scalar.addi (0#32) (Scalar.muli (Scalar.divsi (Scalar.subi (BitVec.ofNat 32 (i 2).val) 0#32) 1#32) 1#32)) 1#32 = 0 := by rw [h]; decide
theorem trips1_one (h : (i 2).val = 1) : Scf.trips (0#32) (Scalar.addi (0#32) (Scalar.muli (Scalar.divsi (Scalar.subi (BitVec.ofNat 32 (i 2).val) 0#32) 1#32) 1#32)) 1#32 = 1 := by rw [h]; decide
theorem trips2_zero (h : (i 2).val = 0) : Scf.trips (Scalar.addi (0#32) (Scalar.muli (Scalar.divsi (Scalar.subi (BitVec.ofNat 32 (i 2).val) 0#32) 1#32) 1#32)) (Scalar.addi (0#32) (Scalar.subi (BitVec.ofNat 32 (i 2).val) 0#32)) 1#32 = 0 := by rw [h]; decide
theorem trips2_one (h : (i 2).val = 1) : Scf.trips (Scalar.addi (0#32) (Scalar.muli (Scalar.divsi (Scalar.subi (BitVec.ofNat 32 (i 2).val) 0#32) 1#32) 1#32)) (Scalar.addi (0#32) (Scalar.subi (BitVec.ofNat 32 (i 2).val) 0#32)) 1#32 = 0 := by rw [h]; decide
theorem trip_lt (h : (i 2).val = 1) : 0 < (k0_t1_loop i).trips := Nat.lt_of_lt_of_eq Nat.zero_lt_one (trips1_one i h).symm
end

/-- What one trip of the loop over the earlier blocks carries on. -/
theorem trip_eq (𝒱 : Variants) (c : Dev nD) (bd : Option 𝒱.V) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1x1024x1 .f32) (harg7 : arg7.IsWhole) (arg8 : Memref sig .tc .vmem S2048x256 .bf16) (harg8 : arg8.IsWhole) (v3 : Vec F S1024x256 .bf16) (x1 xs0 : Vec F S2048x256 .bf16) (k : Fin (k0_t1_loop i).trips) (acc) :
    (trip_k0_t1 (F := F) 𝒱 c bd i arg3 harg3 arg4 harg4 arg5 harg5 arg6 harg6 arg7 harg7 arg8 harg8 v3 (harg4.unread x1) (harg8.unread xs0) k).1 acc
      = (k0_pay10 v3 acc.1 (keysL i k xs0), k0_pay13 v3 acc.1 acc.2.1 (keysL i k xs0), k0_pay14 v3 acc.1 acc.2.2 (keysL i k xs0) (valsL i k x1)) := by
  unfold trip_k0_t1
  dsimp only
  simp only [View.readAt_eq_ld, harg4.read_unread, harg8.read_unread]
  rfl

/-- The carried value after the only trip. -/
theorem st_one (𝒱 : Variants) (c : Dev nD) (bd : Option 𝒱.V) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1x1024x1 .f32) (harg7 : arg7.IsWhole) (arg8 : Memref sig .tc .vmem S2048x256 .bf16) (harg8 : arg8.IsWhole) (v3 : Vec F S1024x256 .bf16) (x1 xs0 : Vec F S2048x256 .bf16) (h : (i 2).val = 1) (acc) :
    st_k0_t1 (F := F) 𝒱 c bd i arg3 harg3 arg4 harg4 arg5 harg5 arg6 harg6 arg7 harg7 arg8 harg8 v3 (harg4.unread x1) (harg8.unread xs0) acc 1
      = (k0_pay10 v3 acc.1 (keysL i ⟨0, trip_lt i h⟩ xs0), k0_pay13 v3 acc.1 acc.2.1 (keysL i ⟨0, trip_lt i h⟩ xs0), k0_pay14 v3 acc.1 acc.2.2 (keysL i ⟨0, trip_lt i h⟩ xs0) (valsL i ⟨0, trip_lt i h⟩ x1)) :=
  (st_k0_t1_succ (F := F) 𝒱 c bd i arg3 harg3 arg4 harg4 arg5 harg5 arg6 harg6 arg7 harg7 arg8 harg8 v3 (harg4.unread x1) (harg8.unread xs0) acc ⟨0, trip_lt i h⟩).trans
    (trip_eq 𝒱 c bd i arg3 harg3 arg4 harg4 arg5 harg5 arg6 harg6 arg7 harg7 arg8 harg8 v3 x1 xs0 ⟨0, trip_lt i h⟩ acc)

/-- The output block of a first half. -/
theorem out0_A_3_eq (c : Dev nD) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1x1024x1 .f32) (harg7 : arg7.IsWhole) (arg8 : Memref sig .tc .vmem S2048x256 .bf16) (harg8 : arg8.IsWhole) (hc0 : cond0_0 i)
    (x0 : Vec F S1024x256 .bf16) (x1 : Vec F S2048x256 .bf16) (x2 : Vec F S2048x128 .bf16) (h : (i 2).val = 0) :
    out0_A_3 c i arg3 harg3 arg4 harg4 arg5 harg5 arg6 harg6 arg7 harg7 arg8 harg8 hc0 x0 x1 x2 = outO k0_pay6 k0_pay7 k0_pay8 x0 (keysD i (keys x1 x2)) (valsD i x1) := by
  unfold out0_A_3
  rw [View.read_writes_eq_canon _ _ _ (cover0_A_3 c i arg3 harg3 arg4 harg4 arg5 harg5 arg6 harg6 arg7 harg7 arg8 harg8 hc0 x0 x1 x2)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, harg7.read_unread, harg8.read_unread, View.ld_unit_zero (S := S1024x256) hz, View.ld_unit_zero (S := S2048x128) hz, View.read_writes_junk_eq_canon]
  rw [trips1_zero i h, trips2_zero i h]
  simp only [st_k0_t1_zero, st_k0_t2_zero]
  unfold outO keysD valsD keys
  rfl

/-- Its normalisers. -/
theorem out0_A_4_eq (c : Dev nD) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1x1024x1 .f32) (harg7 : arg7.IsWhole) (arg8 : Memref sig .tc .vmem S2048x256 .bf16) (harg8 : arg8.IsWhole) (hc0 : cond0_0 i)
    (x0 : Vec F S1024x256 .bf16) (x1 : Vec F S2048x256 .bf16) (x2 : Vec F S2048x128 .bf16) (h : (i 2).val = 0) :
    out0_A_4 c i arg3 harg3 arg4 harg4 arg5 harg5 arg6 harg6 arg7 harg7 arg8 harg8 hc0 x0 x1 x2 = outL k0_pay6 k0_pay7 x0 (keysD i (keys x1 x2)) := by
  unfold out0_A_4
  rw [View.read_writes_eq_canon _ _ _ (cover0_A_4 c i arg3 harg3 arg4 harg4 arg5 harg5 arg6 harg6 arg7 harg7 arg8 harg8 hc0 x0 x1 x2)]
  unfold kernelRun0_A
  dsimp only
  sl_unfold_words
  first | rw [View.canon_unit_zero hz3] | rw [View.canon_cons_unit_zero hz3]
  simp only [View.readAt_eq_ld, harg3.read_unread, harg4.read_unread, harg5.read_unread, harg6.read_unread, harg7.read_unread, harg8.read_unread, View.ld_unit_zero (S := S1024x256) hz, View.ld_unit_zero (S := S2048x128) hz, View.read_writes_junk_eq_canon]
  rw [trips1_zero i h, trips2_zero i h]
  simp only [st_k0_t1_zero, st_k0_t2_zero]
  unfold outL keysD keys
  rfl

/-- The output block of a second half. -/
theorem out0_B_3_eq (c : Dev nD) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1x1024x1 .f32) (harg7 : arg7.IsWhole) (arg8 : Memref sig .tc .vmem S2048x256 .bf16) (harg8 : arg8.IsWhole) (hc0 : ¬ cond0_0 i)
    (x0 : Vec F S1024x256 .bf16) (x1 : Vec F S2048x256 .bf16) (x2 : Vec F S2048x128 .bf16) (xs0 : Vec F S2048x256 .bf16) (h : (i 2).val = 1) :
    out0_B_3 c i arg3 harg3 arg4 harg4 arg5 harg5 arg6 harg6 arg7 harg7 arg8 harg8 hc0 x0 x1 x2 xs0 = outO (k0_pay10 x0 k0_pay6 (keysL i ⟨0, trip_lt i h⟩ xs0)) (k0_pay13 x0 k0_pay6 k0_pay7 (keysL i ⟨0, trip_lt i h⟩ xs0)) (k0_pay14 x0 k0_pay6 k0_pay8 (keysL i ⟨0, trip_lt i h⟩ xs0) (valsL i ⟨0, trip_lt i h⟩ x1)) x0 (keysD i xs0) (valsD i x1) := by
  unfold out0_B_3
  rw [View.read_writes_eq_canon _ _ _ (cover0_B_3 c i arg3 harg3 arg4 harg4 arg5 harg5 arg6 harg6 arg7 harg7 arg8 harg8 hc0 x0 x1 x2 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, harg7.read_unread, harg8.read_unread, View.ld_unit_zero (S := S1024x256) hz, View.ld_unit_zero (S := S2048x128) hz, View.read_writes_junk_eq_canon]
  rw [trips1_one i h, trips2_one i h]
  simp only [st_k0_t2_zero, st_one _ _ _ _ arg3 harg3 arg4 harg4 arg5 harg5 arg6 harg6 arg7 harg7 arg8 harg8 _ _ _ h]
  rfl

/-- Its normalisers. -/
theorem out0_B_4_eq (c : Dev nD) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1x1024x1 .f32) (harg7 : arg7.IsWhole) (arg8 : Memref sig .tc .vmem S2048x256 .bf16) (harg8 : arg8.IsWhole) (hc0 : ¬ cond0_0 i)
    (x0 : Vec F S1024x256 .bf16) (x1 : Vec F S2048x256 .bf16) (x2 : Vec F S2048x128 .bf16) (xs0 : Vec F S2048x256 .bf16) (h : (i 2).val = 1) :
    out0_B_4 c i arg3 harg3 arg4 harg4 arg5 harg5 arg6 harg6 arg7 harg7 arg8 harg8 hc0 x0 x1 x2 xs0 = outL (k0_pay10 x0 k0_pay6 (keysL i ⟨0, trip_lt i h⟩ xs0)) (k0_pay13 x0 k0_pay6 k0_pay7 (keysL i ⟨0, trip_lt i h⟩ xs0)) x0 (keysD i xs0) := by
  unfold out0_B_4
  rw [View.read_writes_eq_canon _ _ _ (cover0_B_4 c i arg3 harg3 arg4 harg4 arg5 harg5 arg6 harg6 arg7 harg7 arg8 harg8 hc0 x0 x1 x2 xs0)]
  unfold kernelRun0_B
  dsimp only
  sl_unfold_words
  first | rw [View.canon_unit_zero hz3] | rw [View.canon_cons_unit_zero hz3]
  simp only [View.readAt_eq_ld, harg3.read_unread, harg4.read_unread, harg5.read_unread, harg6.read_unread, harg7.read_unread, harg8.read_unread, View.ld_unit_zero (S := S1024x256) hz, View.ld_unit_zero (S := S2048x128) hz, View.read_writes_junk_eq_canon]
  rw [trips1_one i h, trips2_one i h]
  simp only [st_k0_t2_zero, st_one _ _ _ _ arg3 harg3 arg4 harg4 arg5 harg5 arg6 harg6 arg7 harg7 arg8 harg8 _ _ _ h]
  rfl

/-- What a first half keeps of the keys for the second. -/
theorem sout0_A_0_eq (c : Dev nD) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1x1024x1 .f32) (harg7 : arg7.IsWhole) (arg8 : Memref sig .tc .vmem S2048x256 .bf16) (harg8 : arg8.IsWhole) (hc0 : cond0_0 i)
    (x0 : Vec F S1024x256 .bf16) (x1 : Vec F S2048x256 .bf16) (x2 : Vec F S2048x128 .bf16) :
    sout0_A_0 c i arg3 harg3 arg4 harg4 arg5 harg5 arg6 harg6 arg7 harg7 arg8 harg8 hc0 x0 x1 x2 = keys x1 x2 := by
  unfold sout0_A_0
  rw [View.read_writes_eq_canon _ _ _ (scover0_A_0 c i arg3 harg3 arg4 harg4 arg5 harg5 arg6 harg6 arg7 harg7 arg8 harg8 hc0 x0 x1 x2)]
  unfold kernelRun0_A
  dsimp only
  sl_unfold_words
  simp only [View.readAt_eq_ld, harg3.read_unread, harg4.read_unread, harg5.read_unread, harg6.read_unread, harg7.read_unread, harg8.read_unread, View.ld_unit_zero (S := S1024x256) hz, View.ld_unit_zero (S := S2048x128) hz, View.read_writes_junk_eq_canon]
  rfl

end Cert.MlafValue
end
-- ==== Proof.Mlaf.Point.lean ====
/- The payloads of the forward attention read at an index, over the extended reals: the scores, the mask, and the running
   largest score, sum and weighted values. -/
module

public import proofs.«01_k».proof.Proof.Mlaf.Outs
public import proofs.«01_k».proof.Proof.Mlaf.Rows
public import Idealize.ShloMosaic.Lib.Pointwise
public import Idealize.ShloMosaic.Lib.ValueLayout

@[expose] public section

noncomputable section

namespace Cert.MlafValue

open Cert.MlafKernelIdeal Cert.MlafKernelIdeal.Gen Cert.Softmax Cert.MlafRows Idealize.ShloMosaic
open scoped BigOperators

/-- The word of the maximum's start is minus infinity, and the named constant is too. -/
theorem negInf_word : Ideal.ofBits .f32 0xFF800000#32 = ⊥ := by simp [Ideal.ofBits, Ideal.ieee]
theorem mask_word : Named.named (F := Ideal) κ "mask" (φ := .f32) 0xF149F2CA#32 = ⊥ :=
  IdealRules.named_const.ideal_named_scalar _ _ _ _ rfl

/-- The scores of query row `r` against a block of keys. -/
def scoreRow (q K : Vec Ideal S1024x256 .bf16) (r : Fin 1024) (j : Fin 1024) : EReal :=
  (∑ d : Fin 256, q (ix2 r d) * K (ix2 j d)) * sc
/-- The scores of the block on the diagonal, those of later chunks left out. -/
def scoreDiag (q K : Vec Ideal S1024x256 .bf16) (r : Fin 1024) (j : Fin 1024) : EReal :=
  if j.val / 64 ≤ r.val / 64 then scoreRow q K r j else ⊥

theorem pay21_apply (q K : Vec Ideal S1024x256 .bf16) (r j : Fin 1024) : k0_pay21 (F := Ideal) q K (ix2 r j) = scoreRow q K r j := by
  unfold k0_pay21
  pointwise
  rfl
theorem pay9_apply (q K : Vec Ideal S1024x256 .bf16) (r j : Fin 1024) : k0_pay9 (F := Ideal) q K (ix2 r j) = scoreRow q K r j := by
  unfold k0_pay9
  pointwise
  rfl

/-- The quotient by the chunk length as the body computes it, rounding down; -/
def chunkWord (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        1#32)
      (IntOp.cmpi CmpIPredicate.ne (IntOp.remsi ArithUnit.vector x 64#32) 0#32))
    (IntOp.subi (IntOp.divsi ArithUnit.vector x 64#32) 1#32)
    (IntOp.divsi ArithUnit.vector x 64#32)
/-- of an index it is the index's chunk. -/
theorem chunkWord_eq : ∀ r : Fin 1024, chunkWord (BitVec.ofNat 32 r.val) = BitVec.ofNat 32 (r.val / 64) := by decide +kernel
/-- Chunks compare as their numbers. -/
theorem sle_chunk : ∀ a b : Fin 32, IntOp.cmpi CmpIPredicate.sle (BitVec.ofNat 32 a.val) (BitVec.ofNat 32 b.val) = if a.val ≤ b.val then 1#1 else 0#1 := by decide +kernel

abbrev masks (x : FVec Ideal S1024x1024 .f32) : FVec Ideal S1024x1024 .f32 :=
  k0_pay24 (F := Ideal) x (iota .tc S1024x1024 32 [0] iota_S1024x1024_d0_w32) 64#32 k0_pay22 k0_pay23 1#32

theorem pay24_apply (x : FVec Ideal S1024x1024 .f32) (r j : Fin 1024) :
    masks x (ix2 r j) = if j.val / 64 ≤ r.val / 64 then x (ix2 r j) else ⊥ := by
  unfold masks k0_pay24 k0_pay22 k0_pay23
  pointwise
  rw [mask_word]
  show Scalar.select (IntOp.cmpi CmpIPredicate.sle (chunkWord (BitVec.ofNat 32 j.val)) (chunkWord (BitVec.ofNat 32 r.val))) _ _ = _
  rw [chunkWord_eq, chunkWord_eq, sle_chunk ⟨j.val / 64, by omega⟩ ⟨r.val / 64, by omega⟩]
  split <;> rfl

theorem diag_apply (q K : Vec Ideal S1024x256 .bf16) (r j : Fin 1024) : masks (k0_pay21 q K) (ix2 r j) = scoreDiag q K r j := by
  rw [pay24_apply, pay21_apply]; rfl

theorem pay6_apply (i : S1024x1.Idx) : k0_pay6 (F := Ideal) i = ⊥ := mask_word
theorem pay7_apply (i : S1024x1.Idx) : k0_pay7 (F := Ideal) i = 0 := by
  unfold k0_pay7; simp [broadcast, Scalar.ofBits, Ideal.ofBits, Ideal.ieee]
theorem pay8_apply (i : S1024x128.Idx) : k0_pay8 (F := Ideal) i = 0 := by
  unfold k0_pay8; simp [broadcast, Scalar.ofBits, Ideal.ofBits, Ideal.ieee]

/-! The shape operations the body composes, each read at an index. -/

theorem maxRow (S : FVec Ideal S1024x1024 .f32) (r : Fin 1024) :
    multiReduction .maximumf [1] S1024 S 0xFF800000#32 reduces_S1024x1024_S1024 (.inl rfl) rfl (ix1 r) = top (fun j => S (ix2 r j)) := by
  pointwise
  rw [negInf_word]
  rfl
theorem sumRow (S : FVec Ideal S1024x1024 .f32) (r : Fin 1024) :
    multiReduction .add [1] S1024 S 0x00000000#32 reduces_S1024x1024_S1024 (.inl rfl) rfl (ix1 r) = ∑ j : Fin 1024, S (ix2 r j) := by
  pointwise
theorem column (S : FVec Ideal S1024 .f32) (r : Fin 1024) (u : Fin 1) : shapeCast S1024x1 S shapeCasts_S1024_S1024x1 (ix2 r u) = S (ix1 r) := by
  pointwise
theorem spread (x : FVec Ideal S1024x1 .f32) (r j : Fin 1024) : broadcastTo S1024x1024 x broadcasts_S1024x1_S1024x1024 (ix2 r j) = x (ix2 r 0) := by
  pointwise
theorem spread' (x : FVec Ideal S1024x1 .f32) (r : Fin 1024) (d : Fin 128) : broadcastTo S1024x128 x broadcasts_S1024x1_S1024x128 (ix2 r d) = x (ix2 r 0) := by
  pointwise
theorem product (p : FVec Ideal S1024x1024 .bf16) (V : FVec Ideal S1024x128 .bf16) (r : Fin 1024) (d : Fin 128) :
    matmul dot_S1024x1024_S1024x128_S1024x128_1_0_0_1_n_n none p V (constant S1024x128 .f32 0x00000000#32) (ix2 r d)
      = ∑ j : Fin 1024, p (ix2 r j) * V (ix2 j d) := by
  pointwise
theorem plane (x : FVec Ideal S1024x1 .f32) (r : Fin 1024) : shapeCast S1x1024x1 x shapeCasts_S1024x1_S1x1024x1 (ix3 0 r 0) = x (ix2 r 0) :=
  ValueIdx.shapeCast_ab_1ab_apply x _ _ _ _

section
variable (q K : Vec Ideal S1024x256 .bf16) (m l : FVec Ideal S1024x1 .f32) (a : FVec Ideal S1024x128 .f32) (V : Vec Ideal S1024x128 .bf16)
  (r : Fin 1024) (d : Fin 128)

/-! One block of keys met whole. -/

theorem pay10_apply : k0_pay10 (F := Ideal) q m K (ix2 r 0) = nmax (m (ix2 r 0)) (scoreRow q K r) := by
  unfold k0_pay10
  refine congrArg (max (m (ix2 r 0))) ((column _ r 0).trans ((maxRow _ r).trans ?_))
  simp only [pay9_apply]
theorem pay12_apply (j : Fin 1024) : k0_pay12 (F := Ideal) q m K (ix2 r j) = Ideal.exp (scoreRow q K r j - nmax (m (ix2 r 0)) (scoreRow q K r)) :=
  congrArg Ideal.exp (congrArg₂ (· - ·) (pay9_apply q K r j) ((spread _ r j).trans (pay10_apply q K m r)))
theorem pay11_apply : k0_pay11 (F := Ideal) q m K (ix2 r 0) = Ideal.exp (m (ix2 r 0) - nmax (m (ix2 r 0)) (scoreRow q K r)) :=
  congrArg Ideal.exp (congrArg (m (ix2 r 0) - ·) (pay10_apply q K m r))
theorem pay13_apply : k0_pay13 (F := Ideal) q m l K (ix2 r 0) = nsum (m (ix2 r 0)) (l (ix2 r 0)) (scoreRow q K r) := by
  unfold k0_pay13 nsum
  refine congrArg₂ (· + ·) (congrArg (· * l (ix2 r 0)) (pay11_apply q K m r)) ((column _ r 0).trans ((sumRow _ r).trans ?_))
  simp only [pay12_apply]
theorem pay14_apply : k0_pay14 (F := Ideal) q m a K V (ix2 r d) = nacc (m (ix2 r 0)) (a (ix2 r d)) (scoreRow q K r) (fun j => V (ix2 j d)) := by
  unfold k0_pay14 nacc
  refine congrArg₂ (· + ·) (congrArg (· * a (ix2 r d)) ((spread' _ r d).trans (pay11_apply q K m r))) ((product _ _ r d).trans ?_)
  exact Finset.sum_congr rfl fun j _ => congrArg (· * V (ix2 j d)) (pay12_apply q K m r j)

/-! The block on the diagonal, and the results. -/

abbrev M' : FVec Ideal S1024x1024 .f32 := k0_pay21 q K
abbrev I' : IVec S1024x1024 32 := iota .tc S1024x1024 32 [0] iota_S1024x1024_d0_w32

theorem pay25_apply : k0_pay25 (F := Ideal) m (M' q K) I' 64#32 k0_pay22 k0_pay23 1#32 (ix2 r 0) = nmax (m (ix2 r 0)) (scoreDiag q K r) := by
  unfold k0_pay25
  refine congrArg (max (m (ix2 r 0))) ((column _ r 0).trans ((maxRow _ r).trans ?_))
  simp only [diag_apply]
theorem pay26_apply : k0_pay26 (F := Ideal) m (M' q K) I' 64#32 k0_pay22 k0_pay23 1#32 (ix2 r 0) = Ideal.exp (m (ix2 r 0) - nmax (m (ix2 r 0)) (scoreDiag q K r)) :=
  congrArg Ideal.exp (congrArg (m (ix2 r 0) - ·) (pay25_apply q K m r))
theorem pay27_apply (j : Fin 1024) : k0_pay27 (F := Ideal) m (M' q K) I' 64#32 k0_pay22 k0_pay23 1#32 (ix2 r j) = Ideal.exp (scoreDiag q K r j - nmax (m (ix2 r 0)) (scoreDiag q K r)) :=
  congrArg Ideal.exp (congrArg₂ (· - ·) (diag_apply q K r j) ((spread _ r j).trans (pay25_apply q K m r)))
theorem pay28_apply : k0_pay28 (F := Ideal) m l (M' q K) I' 64#32 k0_pay22 k0_pay23 1#32 (ix2 r 0) = Ideal.exp (m (ix2 r 0) - nmax (m (ix2 r 0)) (scoreDiag q K r)) * l (ix2 r 0) :=
  congrArg (· * l (ix2 r 0)) (pay26_apply q K m r)
theorem pay29_apply : k0_pay29 (F := Ideal) m (M' q K) I' 64#32 k0_pay22 k0_pay23 1#32 (ix1 r) = ∑ j : Fin 1024, Ideal.exp (scoreDiag q K r j - nmax (m (ix2 r 0)) (scoreDiag q K r)) := by
  unfold k0_pay29
  refine (sumRow _ r).trans ?_
  simp only [pay27_apply]

theorem pay1_apply (x : FVec Ideal S1024x1 .f32) (y : FVec Ideal S1024 .f32) : k0_pay1 (F := Ideal) x y (ix2 r 0) = x (ix2 r 0) + y (ix1 r) :=
  congrArg (x (ix2 r 0) + ·) (column y r 0)
theorem pay2_apply (α : FVec Ideal S1024x1 .f32) (p : FVec Ideal S1024x1024 .f32) (x : FVec Ideal S1024x1 .f32) (y : FVec Ideal S1024 .f32) :
    k0_pay2 (F := Ideal) a α p x y V (ix2 r d)
      = Ideal.div (α (ix2 r 0) * a (ix2 r d) + ∑ j : Fin 1024, p (ix2 r j) * V (ix2 j d)) (x (ix2 r 0) + y (ix1 r)) :=
  congrArg₂ Ideal.div (congrArg₂ (· + ·) (congrArg (· * a (ix2 r d)) (spread' α r d)) (product _ _ r d)) ((spread' _ r d).trans (pay1_apply r x y))
theorem pay3_apply (x z : FVec Ideal S1024x1 .f32) (y : FVec Ideal S1024 .f32) :
    k0_pay3 (F := Ideal) z x y (ix3 0 r 0) = z (ix2 r 0) + Ideal.log (x (ix2 r 0) + y (ix1 r)) := by
  unfold k0_pay3
  exact (plane _ r).trans (congrArg (z (ix2 r 0) + ·) (congrArg Ideal.log (pay1_apply r x y)))

theorem outO_apply : outO (F := Ideal) m l a q K V (ix2 r d)
    = Ideal.div (nacc (m (ix2 r 0)) (a (ix2 r d)) (scoreDiag q K r) (fun j => V (ix2 j d))) (nsum (m (ix2 r 0)) (l (ix2 r 0)) (scoreDiag q K r)) := by
  refine (pay2_apply a V r d _ _ _ _).trans ?_
  exact congrArg₂ Ideal.div
    (congrArg₂ (· + ·) (congrArg (· * a (ix2 r d)) (pay26_apply q K m r)) (Finset.sum_congr rfl fun j _ => congrArg (· * V (ix2 j d)) (pay27_apply q K m r j)))
    (congrArg₂ (· + ·) (pay28_apply q K m l r) (pay29_apply q K m r))
theorem outL_apply : outL (F := Ideal) m l q K (ix3 0 r 0)
    = nmax (m (ix2 r 0)) (scoreDiag q K r) + Ideal.log (nsum (m (ix2 r 0)) (l (ix2 r 0)) (scoreDiag q K r)) := by
  refine (pay3_apply r _ _ _).trans ?_
  exact congrArg₂ (· + ·) (pay25_apply q K m r) (congrArg Ideal.log (congrArg₂ (· + ·) (pay28_apply q K m l r) (pay29_apply q K m r)))
end

end Cert.MlafValue

end
-- ==== Proof.Mlaf.Arrays.lean ====
/- What the two result arrays of the forward attention hold after the run, entry by entry, for scores and values that are
   reals: the average of the values, and the logarithm of the sum of weights. -/
module

public import proofs.«01_k».proof.Proof.Mlaf.Point
public import Idealize.ShloMosaic.Lib.Pipeline.ValueKit.Tiles

@[expose] public section

noncomputable section

namespace Cert.MlafValue

open Cert.MlafKernelIdeal Cert.MlafKernelIdeal.Gen Cert.Softmax Cert.MlafRows Idealize.ShloMosaic Idealize.ShloMosaic.TcCoe Idealize.SL.Sem
open Idealize.ShloMosaic.Pipeline (Dat)
open scoped BigOperators

/-! ## The kept keys -/

theorem keys_hi (x1 : Vec Ideal S2048x256 .bf16) (x2 : Vec Ideal S2048x128 .bf16) (k : Fin 2048) (d : Fin 128) :
    keys x1 x2 (ix2 k (hi d)) = x2 (ix2 k d) := by
  have e : (Rect.unit (s := S2048x256) ![0, 128] S2048x128.size inb_S2048x256_S2048x128_0_128).emb (ix2 k d) = ix2 k (hi d) := by
    funext a
    apply Fin.ext
    match a with
    | ⟨0, _⟩ => show 0 + 1 * k.val = k.val; omega
    | ⟨1, _⟩ => show 128 + 1 * d.val = 128 + d.val; omega
  unfold keys
  refine (congrArg _ e.symm).trans ((View.canon_cons_emb _ _ _ _).trans ?_)
  unfold k0_pay5
  exact congrFun (shapeCast_self _ _) _

/-- Where the left lanes of a row sit. -/
theorem left_emb (k : Fin 2048) (d : Fin 128) :
    (Rect.unit (s := S2048x256) ![0, 0] S2048x128.size inb_S2048x256_S2048x128_0_0).emb (ix2 k d) = ix2 k (lo d) := by
  funext a
  apply Fin.ext
  match a with
  | ⟨0, _⟩ => show 0 + 1 * k.val = k.val; omega
  | ⟨1, _⟩ => show 0 + 1 * d.val = d.val; omega

theorem canon_lo (w : FVec Ideal S2048x128 .bf16) (k : Fin 2048) (d : Fin 128) :
    View.canon (Val := Elt Ideal) (e := .bf16) [⟨Rect.unit (s := S2048x256) ![0, 0] S2048x128.size inb_S2048x256_S2048x128_0_0, w⟩] (ix2 k (lo d)) = w (ix2 k d) := by
  rw [← left_emb]
  exact View.canon_cons_emb _ _ _ _

/-- The right lanes' piece says nothing of the left lanes. -/
theorem canon_skip (w : FVec Ideal S2048x128 .bf16) (L : List (View.Piece (Elt Ideal) S2048x256 .bf16)) (k : Fin 2048) (d : Fin 128) :
    View.canon (Val := Elt Ideal) (e := .bf16) (⟨Rect.unit (s := S2048x256) ![0, 128] S2048x128.size inb_S2048x256_S2048x128_0_128, w⟩ :: L) (ix2 k (lo d))
      = View.canon L (ix2 k (lo d)) := by
  have hn : ix2 k (lo d) ∉ (Rect.unit (s := S2048x256) ![0, 128] S2048x128.size inb_S2048x256_S2048x128_0_128).set := fun hm => by
    obtain ⟨x, hx⟩ := (Rect.unit (s := S2048x256) ![0, 128] S2048x128.size inb_S2048x256_S2048x128_0_128).exists_idx_of_mem hm
    have h1 : (128 + 1 * (x 1).val : ℕ) = d.val := congrArg (fun y : S2048x256.Idx => (y 1).val) hx
    omega
  exact View.canon_cons_of_not_mem _ _ hn

theorem keys_lo (x1 : Vec Ideal S2048x256 .bf16) (x2 : Vec Ideal S2048x128 .bf16) (k : Fin 2048) (d : Fin 128) :
    keys x1 x2 (ix2 k (lo d)) = x1 (ix2 k (lo d)) := by
  unfold keys
  refine (canon_skip _ _ k d).trans ?_
  refine (canon_lo _ k d).trans ?_
  unfold k0_pay4
  refine (congrFun (shapeCast_self _ _) _).trans ?_
  exact congrArg x1 (left_emb k d)

/-! ## The blocks -/

variable (m : (ℓ : Loc nD τ sig) → Buf (Elt Ideal) ℓ) (c : Dev nD)

abbrev argQ : Wide := m ((c : Thread nD τ).loc main_arg0)
abbrev argKV : Wide := m ((c : Thread nD τ).loc main_arg1)
abbrev argKR : Slim := m ((c : Thread nD τ).loc main_arg2)

/-- The grid point of sequence `b`, head `h` and half `i` of the query rows. -/
def pt (b : Fin 2) (h : Fin 16) (i : Fin 2) : Fin cfg0.N :=
  ⟨(b.val * 16 + h.val) * 2 + i.val, lt_of_lt_of_eq (by omega : _ < 64) N_0.symm⟩

theorem idx : ∀ (b : Fin 2) (h : Fin 16) (i : Fin 2), win0_0.index (pt b h i) = ![b.val * 2 + i.val, h.val]
    ∧ win0_1.index (pt b h i) = ![b.val, h.val] ∧ win0_2.index (pt b h i) = ![b.val, 0]
    ∧ win0_3.index (pt b h i) = ![b.val * 2 + i.val, h.val] ∧ win0_4.index (pt b h i) = ![h.val, b.val * 2 + i.val, 0] := by decide +kernel

theorem offs : ∀ (b : Fin 2) (h : Fin 16) (i : Fin 2), (grid0.coords (pt b h i) 2).val = i.val
    ∧ k0_off5 (grid0.coords (pt b h i)) = ![i.val * 1024, 0] ∧ k0_off6 (grid0.coords (pt b h i)) = ![i.val * 1024, 128] := by decide +kernel

theorem blk0 (b : Fin 2) (h : Fin 16) (i : Fin 2) (r : Fin 1024) (d : Fin 256) :
    (iblk m c 0 (pt b h i) : Vec Ideal S1024x256 .bf16) (ix2 r d) = argQ m c (ix2 (qr b (half i r)) (cc h d)) := by
  have e := (idx b h i).1
  show (V m c (Pipeline.arrRef spec0 0)) (((cfg0.win 0).blk (pt b h i)).view.emb (ix2 r d)) = _
  refine Eq.trans (congrFun (V_main_arg0 m c) _) (congrArg (argQ m c) ?_)
  funext a
  apply Fin.ext
  match a with
  | ⟨0, _⟩ =>
    show win0_0.index (pt b h i) (0 : Fin 2) * 1024 + 1 * r.val = b.val * 2048 + (i.val * 1024 + r.val)
    rw [e]; show (b.val * 2 + i.val) * 1024 + 1 * r.val = _; omega
  | ⟨1, _⟩ =>
    show win0_0.index (pt b h i) (1 : Fin 2) * 256 + 1 * d.val = h.val * 256 + d.val
    rw [e]; show h.val * 256 + 1 * d.val = _; omega

theorem blk1 (b : Fin 2) (h : Fin 16) (i : Fin 2) (k : Fin 2048) (d : Fin 256) :
    (iblk m c 1 (pt b h i) : Vec Ideal S2048x256 .bf16) (ix2 k d) = argKV m c (ix2 (qr b k) (cc h d)) := by
  have e := (idx b h i).2.1
  show (V m c (Pipeline.arrRef spec0 1)) (((cfg0.win 1).blk (pt b h i)).view.emb (ix2 k d)) = _
  refine Eq.trans (congrFun (V_main_arg1 m c) _) (congrArg (argKV m c) ?_)
  funext a
  apply Fin.ext
  match a with
  | ⟨0, _⟩ =>
    show win0_1.index (pt b h i) (0 : Fin 2) * 2048 + 1 * k.val = b.val * 2048 + k.val
    rw [e]; show b.val * 2048 + 1 * k.val = _; omega
  | ⟨1, _⟩ =>
    show win0_1.index (pt b h i) (1 : Fin 2) * 256 + 1 * d.val = h.val * 256 + d.val
    rw [e]; show h.val * 256 + 1 * d.val = _; omega

theorem blk2 (b : Fin 2) (h : Fin 16) (i : Fin 2) (k : Fin 2048) (d : Fin 128) :
    (iblk m c 2 (pt b h i) : Vec Ideal S2048x128 .bf16) (ix2 k d) = argKR m c (ix2 (qr b k) d) := by
  have e := (idx b h i).2.2.1
  show (V m c (Pipeline.arrRef spec0 2)) (((cfg0.win 2).blk (pt b h i)).view.emb (ix2 k d)) = _
  refine Eq.trans (congrFun (V_main_arg2 m c) _) (congrArg (argKR m c) ?_)
  funext a
  apply Fin.ext
  match a with
  | ⟨0, _⟩ =>
    show win0_2.index (pt b h i) (0 : Fin 2) * 2048 + 1 * k.val = b.val * 2048 + k.val
    rw [e]; show b.val * 2048 + 1 * k.val = _; omega
  | ⟨1, _⟩ =>
    show win0_2.index (pt b h i) (1 : Fin 2) * 128 + 1 * d.val = d.val
    rw [e]; show 0 * 128 + 1 * d.val = _; omega

theorem emb3 (b : Fin 2) (h : Fin 16) (i : Fin 2) (r : Fin 1024) (d : Fin 128) :
    ((cfg0.win 3).blk (pt b h i)).view.emb (ix2 r d) = ix2 (qr b (half i r)) (oc h d) := by
  have e := (idx b h i).2.2.2.1
  funext a
  apply Fin.ext
  match a with
  | ⟨0, _⟩ =>
    show win0_3.index (pt b h i) (0 : Fin 2) * 1024 + 1 * r.val = b.val * 2048 + (i.val * 1024 + r.val)
    rw [e]; show (b.val * 2 + i.val) * 1024 + 1 * r.val = _; omega
  | ⟨1, _⟩ =>
    show win0_3.index (pt b h i) (1 : Fin 2) * 128 + 1 * d.val = h.val * 128 + d.val
    rw [e]; show h.val * 128 + 1 * d.val = _; omega

theorem emb4 (b : Fin 2) (h : Fin 16) (i : Fin 2) (r : Fin 1024) :
    ((cfg0.win 4).blk (pt b h i)).view.emb (ix3 (0 : Fin 1) r (0 : Fin 1)) = ix3 h (qr b (half i r)) (0 : Fin 1) := by
  have e := (idx b h i).2.2.2.2
  funext a
  apply Fin.ext
  match a with
  | ⟨0, _⟩ =>
    show win0_4.index (pt b h i) (0 : Fin 3) * 1 + 1 * 0 = h.val
    rw [e]; show h.val * 1 + 1 * 0 = _; omega
  | ⟨1, _⟩ =>
    show win0_4.index (pt b h i) (1 : Fin 3) * 1024 + 1 * r.val = b.val * 2048 + (i.val * 1024 + r.val)
    rw [e]; show (b.val * 2 + i.val) * 1024 + 1 * r.val = _; omega
  | ⟨2, _⟩ =>
    show win0_4.index (pt b h i) (2 : Fin 3) * 1 + 1 * 0 = 0
    rw [e]; rfl

/-! ## The keys and values a point reads -/

/-- The keys kept for sequence `b` and head `h`. -/
abbrev kept (b : Fin 2) (h : Fin 16) : Vec Ideal S2048x256 .bf16 := keys (iblk m c 1 (pt b h 0)) (iblk m c 2 (pt b h 0))

theorem kept_lo (b : Fin 2) (h : Fin 16) (k : Fin 2048) (d : Fin 128) : kept m c b h (ix2 k (lo d)) = argKV m c (ix2 (qr b k) (cc h (lo d))) :=
  (keys_lo _ _ k d).trans (blk1 m c b h 0 k (lo d))
theorem kept_hi (b : Fin 2) (h : Fin 16) (k : Fin 2048) (d : Fin 128) : kept m c b h (ix2 k (hi d)) = argKR m c (ix2 (qr b k) d) :=
  (keys_hi _ _ k d).trans (blk2 m c b h 0 k d)

theorem keysD_apply (b : Fin 2) (h : Fin 16) (i : Fin 2) (kc : Vec Ideal S2048x256 .bf16) (j : Fin 1024) (d : Fin 256) :
    keysD (grid0.coords (pt b h i)) kc (ix2 j d) = kc (ix2 (half i j) d) := by
  have e := (offs b h i).2.1
  refine View.ld_unit_apply_of _ _ _ _ _ _ fun a => ?_
  refine Eq.trans ?_ (congrArg (· + _) (congrFun e a).symm)
  match a with
  | ⟨0, _⟩ => rfl
  | ⟨1, _⟩ => show d.val = 0 + d.val; omega
theorem valsD_apply (b : Fin 2) (h : Fin 16) (i : Fin 2) (x1 : Vec Ideal S2048x256 .bf16) (j : Fin 1024) (d : Fin 128) :
    valsD (grid0.coords (pt b h i)) x1 (ix2 j d) = x1 (ix2 (half i j) (hi d)) := by
  have e := (offs b h i).2.2
  refine View.ld_unit_apply_of _ _ _ _ _ _ fun a => ?_
  refine Eq.trans ?_ (congrArg (· + _) (congrFun e a).symm)
  match a with
  | ⟨0, _⟩ => rfl
  | ⟨1, _⟩ => rfl
theorem keysL_apply (i : grid0.Coords) (hk) (kc : Vec Ideal S2048x256 .bf16) (j : Fin 1024) (d : Fin 256) :
    keysL i ⟨0, hk⟩ kc (ix2 j d) = kc (ix2 (half 0 j) d) := by
  refine View.ld_unit_apply_of _ _ _ _ _ _ fun a => ?_
  match a with
  | ⟨0, _⟩ => rfl
  | ⟨1, _⟩ => show d.val = 0 + d.val; omega
theorem valsL_apply (i : grid0.Coords) (hk) (x1 : Vec Ideal S2048x256 .bf16) (j : Fin 1024) (d : Fin 128) :
    valsL i ⟨0, hk⟩ x1 (ix2 j d) = x1 (ix2 (half 0 j) (hi d)) := by
  refine View.ld_unit_apply_of _ _ _ _ _ _ fun a => ?_
  match a with
  | ⟨0, _⟩ => rfl
  | ⟨1, _⟩ => rfl

/-- The scores a point meets are those over the argument arrays. -/
theorem scores (b : Fin 2) (h : Fin 16) (i i' : Fin 2) (K : Vec Ideal S1024x256 .bf16) (hK : ∀ j d, K (ix2 j d) = kept m c b h (ix2 (half i' j) d))
    (r j : Fin 1024) : scoreRow (iblk m c 0 (pt b h i)) K r j = scoreA (argQ m c) (argKV m c) (argKR m c) b h (half i r) (half i' j) := by
  unfold scoreRow scoreA
  rw [sum_lanes]
  simp only [hK, kept_lo, kept_hi, blk0]

section
variable (b : Fin 2) (h : Fin 16) (s : Fin 2048 → Fin 2048 → ℝ)
  (hs : ∀ r k, scoreA (argQ m c) (argKV m c) (argKR m c) b h r k = (s r k : EReal))
  (v : Fin 2048 → Fin 128 → ℝ) (hv : ∀ k d, argKV m c (ix2 (qr b k) (cc h (hi d))) = (v k d : EReal))
include hs

theorem rows_diag (i : Fin 2) (r : Fin 1024) :
    scoreDiag (iblk m c 0 (pt b h i)) (keysD (grid0.coords (pt b h i)) (kept m c b h)) r = diag s r i := by
  funext j
  unfold scoreDiag
  rw [scores m c b h i i _ (keysD_apply b h i _), hs]
  rfl
theorem rows_left (hk) (r : Fin 1024) :
    scoreRow (iblk m c 0 (pt b h 1)) (keysL (grid0.coords (pt b h 1)) ⟨0, hk⟩ (kept m c b h)) r = left s r := by
  funext j
  rw [scores m c b h 1 0 _ (keysL_apply _ hk _), hs]
  exact (if_pos trivial).symm
omit hs

include hv
theorem vals_diag (i : Fin 2) (d : Fin 128) :
    (fun j => valsD (grid0.coords (pt b h i)) (iblk m c 1 (pt b h i)) (ix2 j d)) = fun j => ((v (half i j) d : ℝ) : EReal) := by
  funext j
  rw [valsD_apply, blk1, hv]
theorem vals_left (hk) (d : Fin 128) :
    (fun j => valsL (grid0.coords (pt b h 1)) ⟨0, hk⟩ (iblk m c 1 (pt b h 1)) (ix2 j d)) = fun j => ((v (half 0 j) d : ℝ) : EReal) := by
  funext j
  rw [valsL_apply, blk1, hv]
omit hv
end

/-! ## The two results -/

section
variable (b : Fin 2) (h : Fin 16)

theorem even : (pt b h 0).val % 2 = 0 := by show ((b.val * 16 + h.val) * 2 + 0) % 2 = 0; omega
theorem odd : ¬ (pt b h 1).val % 2 = 0 := by show ¬ ((b.val * 16 + h.val) * 2 + 1) % 2 = 0; omega

theorem out_first : (outsAt0 m c (pt b h 0).val (pt b h 0).isLt)
    = (outO k0_pay6 k0_pay7 k0_pay8 (iblk m c 0 (pt b h 0)) (keysD (grid0.coords (pt b h 0)) (kept m c b h)) (valsD (grid0.coords (pt b h 0)) (iblk m c 1 (pt b h 0))),
      outL k0_pay6 k0_pay7 (iblk m c 0 (pt b h 0)) (keysD (grid0.coords (pt b h 0)) (kept m c b h)), kept m c b h) := by
  rw [outsAt0_A m c (pt b h 0) (even b h), out0_A_3_eq (h := (offs b h 0).1), out0_A_4_eq (h := (offs b h 0).1), sout0_A_0_eq]

/-- The loop's one trip at a second half. -/
theorem one_trip : 0 < (k0_t1_loop (grid0.coords (pt b h 1))).trips := trip_lt _ (offs b h 1).1
abbrev K1 : Vec Ideal S1024x256 .bf16 := keysL (grid0.coords (pt b h 1)) ⟨0, one_trip b h⟩ (kept m c b h)
abbrev V1 : Vec Ideal S1024x128 .bf16 := valsL (grid0.coords (pt b h 1)) ⟨0, one_trip b h⟩ (iblk m c 1 (pt b h 1))

theorem before : (outsAt0 m c ((pt b h 1).val - 1) (Nat.lt_of_le_of_lt (Nat.sub_le _ _) (pt b h 1).isLt)).2.2 = kept m c b h := by
  have hp : outsAt0 m c ((pt b h 1).val - 1) (Nat.lt_of_le_of_lt (Nat.sub_le _ _) (pt b h 1).isLt) = outsAt0 m c (pt b h 0).val (pt b h 0).isLt := rfl
  rw [hp, out_first]

theorem out_second3 : (outsAt0 m c (pt b h 1).val (pt b h 1).isLt).1
    = outO (k0_pay10 (iblk m c 0 (pt b h 1)) k0_pay6 (K1 m c b h)) (k0_pay13 (iblk m c 0 (pt b h 1)) k0_pay6 k0_pay7 (K1 m c b h))
        (k0_pay14 (iblk m c 0 (pt b h 1)) k0_pay6 k0_pay8 (K1 m c b h) (V1 m c b h))
        (iblk m c 0 (pt b h 1)) (keysD (grid0.coords (pt b h 1)) (kept m c b h)) (valsD (grid0.coords (pt b h 1)) (iblk m c 1 (pt b h 1))) := by
  rw [outsAt0_B m c (pt b h 1) (odd b h), before]
  dsimp only
  rw [out0_B_3_eq (h := (offs b h 1).1)]
theorem out_second4 : (outsAt0 m c (pt b h 1).val (pt b h 1).isLt).2.1
    = outL (k0_pay10 (iblk m c 0 (pt b h 1)) k0_pay6 (K1 m c b h)) (k0_pay13 (iblk m c 0 (pt b h 1)) k0_pay6 k0_pay7 (K1 m c b h))
        (iblk m c 0 (pt b h 1)) (keysD (grid0.coords (pt b h 1)) (kept m c b h)) := by
  rw [outsAt0_B m c (pt b h 1) (odd b h), before]
  dsimp only
  rw [out0_B_4_eq (h := (offs b h 1).1)]
end

section
variable (b : Fin 2) (h : Fin 16) (s : Fin 2048 → Fin 2048 → ℝ)
  (hs : ∀ r k, scoreA (argQ m c) (argKV m c) (argKR m c) b h r k = (s r k : EReal))
  (v : Fin 2048 → Fin 128 → ℝ) (hv : ∀ k d, argKV m c (ix2 (qr b k) (cc h (hi d))) = (v k d : EReal))
include hs hv

theorem average : ∀ (i : Fin 2) (r : Fin 1024) (d : Fin 128), (outsAt0 m c (pt b h i).val (pt b h i).isLt).1 (ix2 r d)
    = ((weighted s (fun k => v k d) (half i r) / total s (half i r) : ℝ) : EReal)
  | 0, r, d => by
    rw [out_first]
    refine (outO_apply _ _ _ _ _ _ r d).trans ?_
    rw [rows_diag m c b h s hs, vals_diag m c b h v hv, pay6_apply, pay7_apply, pay8_apply]
    exact (carry_first s (fun k => v k d) r).avg (total_pos _ _)
  | 1, r, d => by
    rw [out_second3]
    refine (outO_apply _ _ _ _ _ _ r d).trans ?_
    rw [pay10_apply, pay13_apply, pay14_apply, rows_diag m c b h s hs, rows_left m c b h s hs, vals_diag m c b h v hv, vals_left m c b h v hv,
      pay6_apply, pay7_apply, pay8_apply]
    exact (carry_second s (fun k => v k d) r).avg (total_pos _ _)
omit hv
theorem normaliser : ∀ (i : Fin 2) (r : Fin 1024), (outsAt0 m c (pt b h i).val (pt b h i).isLt).2.1 (ix3 0 r 0)
    = ((Real.log (total s (half i r)) : ℝ) : EReal)
  | 0, r => by
    rw [out_first]
    refine (outL_apply _ _ _ _ r).trans ?_
    rw [rows_diag m c b h s hs, pay6_apply, pay7_apply]
    exact (carry_first s (fun _ => 0) r).norm (total_pos _ _)
  | 1, r => by
    rw [out_second4]
    refine (outL_apply _ _ _ _ r).trans ?_
    rw [pay10_apply, pay13_apply, rows_diag m c b h s hs, rows_left m c b h s hs, pay6_apply, pay7_apply]
    exact (carry_second s (fun _ => 0) r).norm (total_pos _ _)
include hv

/-- The averages' array, -/
theorem final3 (i : Fin 2) (r : Fin 1024) (d : Fin 128) : (dats m 0 c).arrAt 3 cfg0.N (ix2 (qr b (half i r)) (oc h d))
    = ((weighted s (fun k => v k d) (half i r) / total s (half i r) : ℝ) : EReal) := by
  refine Eq.trans (congrArg ((dats m 0 c).arrAt 3 cfg0.N) (emb3 b h i r d).symm) ?_
  refine Eq.trans ((dats m 0 c).arrAt_emb_eq_flushed 3 Value.disjoint3 (pt b h i) (flush0_3 _) (ix2 r d)) ?_
  refine Eq.trans (cast_eq _ _) ?_
  rw [Value.flushed3]
  exact average m c b h s hs v hv i r d
omit hv
/-- and the normalisers'. -/
theorem final4 (i : Fin 2) (r : Fin 1024) : (dats m 0 c).arrAt 4 cfg0.N (ix3 h (qr b (half i r)) (0 : Fin 1))
    = ((Real.log (total s (half i r)) : ℝ) : EReal) := by
  refine Eq.trans (congrArg ((dats m 0 c).arrAt 4 cfg0.N) (emb4 b h i r).symm) ?_
  refine Eq.trans ((dats m 0 c).arrAt_emb_eq_flushed 4 Value.disjoint4 (pt b h i) (flush0_4 _) (ix3 (0 : Fin 1) r (0 : Fin 1))) ?_
  refine Eq.trans (cast_eq _ _) ?_
  rw [Value.flushed4]
  exact normaliser m c b h s hs i r
end

end Cert.MlafValue

end
-- ==== Proof.Mlaf.Claims.lean ====
/- The claims of the forward attention: the frames, that only the mask's large negative number is read as −∞, and that for
   finite arguments the kernel's averages and normalisers are the reference's. -/
module

public import proofs.«01_k».proof.Proof.Mlaf.Ref
public import proofs.«01_k».proof.Proof.Mlaf.Arrays
public import proofs.«01_k».proof.Proof.Lib.Finite
public import proofs.«01_k».proof.Proof.Gen.MlafKernel.Frame
public import proofs.«01_k».proof.Proof.Gen.Pre_mlaf_finite
public import proofs.«01_k».proof.Defs

@[expose] public section

noncomputable section

namespace Cert.MlafClaims

open Cert.MlafRows Cert.MlafValue Cert.Softmax Cert.Finite Idealize.ShloMosaic Idealize.SL.Sem
open scoped BigOperators

/-! ## Frames -/

theorem frame_kernel : Cert.quiescent_MlafKernel := fun m ρ _ => Cert.MlafKernel.Gen.frame m ρ
theorem frame_ideal : Cert.quiescent_MlafKernelIdeal := fun m ρ _ => Cert.MlafKernelIdeal.Gen.frame m ρ
theorem frame_ideal_pre : Cert.quiescent_MlafKernelIdeal_pre_mlaf_finite := fun m ρ _ => Cert.MlafKernelIdeal.Gen.frame m ρ
theorem frame_reference : Cert.quiescent_MlafReferenceIdeal := fun m ρ _ =>
  (θ_run Cert.MlafReferenceIdeal.defs _ _).mono (fun r h => ⟨fun c => (h c).2.2, sem_eq_zero_of_no_sems (by decide) r.2⟩)
    (Cert.MlafReferenceIdeal.Value.run (F := Ideal) m ρ)
theorem frame_reference_pre : Cert.quiescent_MlafReferenceIdeal_pre_mlaf_finite := fun m ρ _ => frame_reference m ρ trivial

/-- The mask's number is the one constant read otherwise. -/
theorem preserves : Cert.preserves_MlafKernel_MlafKernelIdeal :=
  IdealRules.named_const.statement Cert.MlafKernelIdeal.κ "mask" .f32 0xF149F2CA#32 ⊥ rfl

/-! ## Values -/

/-- An index of the averages is a sequence, a half and row of it, a head and a lane; -/
theorem split_o (x : Cert.MlafKernelIdeal.S4096x2048.Idx) :
    ∃ (b : Fin 2) (h : Fin 16) (i : Fin 2) (r : Fin 1024) (d : Fin 128), x = ix2 (qr b (half i r)) (oc h d) := by
  have h0 : (x 0).val < 4096 := (x 0).isLt
  have h1 : (x 1).val < 2048 := (x 1).isLt
  refine ⟨⟨(x 0).val / 2048, by omega⟩, ⟨(x 1).val / 128, by omega⟩,
    ⟨(x 0).val % 2048 / 1024, by omega⟩, ⟨(x 0).val % 1024, by omega⟩, ⟨(x 1).val % 128, by omega⟩, ?_⟩
  funext a
  apply Fin.ext
  match a with
  | ⟨0, _⟩ => show (x 0).val = (x 0).val / 2048 * 2048 + ((x 0).val % 2048 / 1024 * 1024 + (x 0).val % 1024); omega
  | ⟨1, _⟩ => show (x 1).val = (x 1).val / 128 * 128 + (x 1).val % 128; omega
/-- one of the normalisers is a head, a sequence, and a half and row of it. -/
theorem split_l (x : Cert.MlafKernelIdeal.S16x4096x1.Idx) :
    ∃ (b : Fin 2) (h : Fin 16) (i : Fin 2) (r : Fin 1024), x = ix3 h (qr b (half i r)) (0 : Fin 1) := by
  have h0 : (x 0).val < 16 := (x 0).isLt
  have h1 : (x 1).val < 4096 := (x 1).isLt
  have h2 : (x 2).val < 1 := (x 2).isLt
  refine ⟨⟨(x 1).val / 2048, by omega⟩, ⟨(x 0).val, h0⟩, ⟨(x 1).val % 2048 / 1024, by omega⟩, ⟨(x 1).val % 1024, by omega⟩, ?_⟩
  funext a
  apply Fin.ext
  match a with
  | ⟨0, _⟩ => rfl
  | ⟨1, _⟩ => show (x 1).val = (x 1).val / 2048 * 2048 + ((x 1).val % 2048 / 1024 * 1024 + (x 1).val % 1024); omega
  | ⟨2, _⟩ => show (x 2).val = 0; omega

section
variable {q kv : Wide} {kr : Slim}

/-- Finite arguments have real scores -/
theorem real_scores (hq : ∀ i, Fin' (q i)) (hkv : ∀ i, Fin' (kv i)) (hkr : ∀ i, Fin' (kr i)) (b : Fin 2) (h : Fin 16) :
    ∃ s : Fin 2048 → Fin 2048 → ℝ, ∀ r k, scoreA q kv kr b h r k = (s r k : EReal) := by
  have H : ∀ r k, Fin' (scoreA q kv kr b h r k) := fun r k =>
    ((Fin'.sum _ fun d => (hq _).mul (hkv _)).add (Fin'.sum _ fun d => (hq _).mul (hkr _))).mul sc_real
  choose s hs using H
  exact ⟨s, hs⟩
/-- and real values. -/
theorem real_values (hkv : ∀ i, Fin' (kv i)) (b : Fin 2) (h : Fin 16) :
    ∃ v : Fin 2048 → Fin 128 → ℝ, ∀ k d, kv (ix2 (qr b k) (cc h (hi d))) = (v k d : EReal) := by
  choose v hv using fun (k : Fin 2048) (d : Fin 128) => hkv (ix2 (qr b k) (cc h (hi d)))
  exact ⟨v, hv⟩

/-- A row of the reference's masked scores, for real scores. -/
theorem row_real {b : Fin 2} {h : Fin 16} {s : Fin 2048 → Fin 2048 → ℝ} (hs : ∀ r k, scoreA q kv kr b h r k = (s r k : EReal))
    (r : Fin 2048) : Cert.MlafRef.rowA q kv kr b h r = masked (ok r) (s r) := by
  funext k
  unfold Cert.MlafRef.rowA masked
  rw [hs]

/-- The reference's averages -/
theorem reference_avg {b : Fin 2} {h : Fin 16} {s : Fin 2048 → Fin 2048 → ℝ} {v : Fin 2048 → Fin 128 → ℝ}
    (hs : ∀ r k, scoreA q kv kr b h r k = (s r k : EReal)) (hv : ∀ k d, kv (ix2 (qr b k) (cc h (hi d))) = (v k d : EReal))
    (r : Fin 2048) (d : Fin 128) :
    Cert.MlafReferenceIdeal.Read.val_main_v49 (F := Ideal) q kv kr (ix2 (qr b r) (oc h d))
      = ((weighted s (fun k => v k d) r / total s r : ℝ) : EReal) := by
  refine (Cert.MlafRef.avg_apply q kv kr b h r d).trans ?_
  simp only [Cert.MlafRef.ex, row_real hs, hv]
  exact whole_avg (ok r) (s r) (fun k => v k d) r le_rfl
/-- and normalisers. -/
theorem reference_norm {b : Fin 2} {h : Fin 16} {s : Fin 2048 → Fin 2048 → ℝ}
    (hs : ∀ r k, scoreA q kv kr b h r k = (s r k : EReal)) (r : Fin 2048) :
    Cert.MlafReferenceIdeal.Read.val_main_v51 (F := Ideal) q kv kr (ix3 h (qr b r) (0 : Fin 1)) = ((Real.log (total s r) : ℝ) : EReal) := by
  refine (Cert.MlafRef.norm_apply q kv kr b h r).trans ?_
  simp only [Cert.MlafRef.ex, row_real hs]
  exact whole_norm (ok r) (s r) r le_rfl
end

/-- The kernel's two results are the reference's, for finite arguments. -/
theorem algebraic : Cert.algebraic_MlafKernelIdeal_MlafReferenceIdeal_pre_mlaf_finite := by
  intro m ρ m' ρ' hpre hagree
  refine ⟨_, _, Cert.MlafKernelIdeal.Value.run_blocks (F := Ideal) m ρ, ?_⟩
  refine (θ_run Cert.MlafReferenceIdeal.defs _ _).mono (fun _ h c => ?_) (Cert.MlafReferenceIdeal.Value.run (F := Ideal) m' ρ')
  obtain ⟨h0, h1, hrest⟩ := h c
  obtain ⟨e0, e1, e2⟩ := hagree c
  obtain ⟨p0, p1, p2⟩ := hpre c
  have hq : ∀ i, Fin' (argQ m c i) := fun i => of_abs_lt (congrFun p0 i)
  have hkv : ∀ i, Fin' (argKV m c i) := fun i => of_abs_lt (congrFun p1 i)
  have hkr : ∀ i, Fin' (argKR m c i) := fun i => of_abs_lt (congrFun p2 i)
  refine ⟨?_, ?_, hrest⟩
  · refine h0.trans ?_
    rw [Cert.MlafReferenceIdeal.Read.val_main_v49_eq, e0, e1, e2]
    funext x
    obtain ⟨b, h, i, r, d, rfl⟩ := split_o x
    obtain ⟨s, hs⟩ := real_scores hq hkv hkr b h
    obtain ⟨v, hv⟩ := real_values hkv b h
    exact (reference_avg hs hv (half i r) d).trans (final3 m c b h s hs v hv i r d).symm
  · refine h1.trans ?_
    rw [Cert.MlafReferenceIdeal.Read.val_main_v51_eq, e0, e1, e2]
    funext x
    obtain ⟨b, h, i, r, rfl⟩ := split_l x
    obtain ⟨s, hs⟩ := real_scores hq hkv hkr b h
    obtain ⟨v, hv⟩ := real_values hkv b h
    exact (reference_norm hs (half i r)).trans (final4 m c b h s hs i r).symm

end Cert.MlafClaims

end
-- ==== Proof.Mlab.Outs.lean ====
/- What the body of the backward attention leaves at a grid point, as the payloads of the point's input blocks: the block of
   the queries' derivative, the kept keys, and the running derivatives of keys and values. A first half of a sequence meets one
   block of keys through the mask; a second half one block of keys met whole and then one through the mask. -/
module

public import proofs.«01_k».proof.Proof.Gen.MlabKernelIdeal.Value
public import Idealize.ShloMosaic.Lib.VecWindow
public import Idealize.ShloMosaic.Lib.Tactic

@[expose] public section

noncomputable section

namespace Cert.MlabValue

open Cert.MlabKernelIdeal Cert.MlabKernelIdeal.Gen Idealize.ShloMosaic Idealize.ShloMosaic.TcCoe Idealize.SL.Sem

variable {F : FTy → Type} [FloatOps F] [Named F]

theorem hz : (![0, 0] : Fin 2 → Nat) = fun _ => 0 := funext fun a => by fin_cases a <;> rfl
theorem hz3 : (![0, 0, 0] : Fin 3 → Nat) = fun _ => 0 := funext fun a => by fin_cases a <;> rfl

/-- The keys as the body keeps them: each head's own lanes beside those all heads share. -/
def keys (x1 : Vec F S2048x256 .bf16) (x2 : Vec F S2048x128 .bf16) : Vec F S2048x256 .bf16 :=
  View.canon [⟨Rect.unit (s := S2048x256) ![0, 128] S2048x128.size inb_S2048x256_S2048x128_0_128, k0_pay6 x2⟩,
    ⟨Rect.unit (s := S2048x256) ![0, 0] S2048x128.size inb_S2048x256_S2048x128_0_0,
      k0_pay5 (View.ld x1 (Rect.unit (s := S2048x256) ![0, 0] S2048x128.size inb_S2048x256_S2048x128_0_0))⟩]

/-- The block of keys on the diagonal and its values; -/
def keysD (i : grid0.Coords) (kc : Vec F S2048x256 .bf16) : Vec F S1024x256 .bf16 :=
  View.ld kc (Rect.unit (s := S2048x256) (k0_off7 i) S1024x256.size (k0_off7_inb i))
def valsD (i : grid0.Coords) (x1 : Vec F S2048x256 .bf16) : Vec F S1024x128 .bf16 :=
  View.ld x1 (Rect.unit (s := S2048x256) (k0_off8 i) S1024x128.size (k0_off8_inb i))
/-- the block of keys before it and its values. -/
def keysL (i : grid0.Coords) (k : Fin (k0_t1_loop i).trips) (kc : Vec F S2048x256 .bf16) : Vec F S1024x256 .bf16 :=
  View.ld kc (Rect.unit (s := S2048x256) (k0_off1 i k) S1024x256.size (k0_off1_inb i k))
def valsL (i : grid0.Coords) (k : Fin (k0_t1_loop i).trips) (x1 : Vec F S2048x256 .bf16) : Vec F S1024x128 .bf16 :=
  View.ld x1 (Rect.unit (s := S2048x256) (k0_off2 i k) S1024x128.size (k0_off2_inb i k))

/-- The queries' derivative from what the keys before the diagonal left of it: the first lanes as they are, the others turned back. -/
def outQ (a : FVec F S1024x256 .f32) (q : Vec F S1024x256 .bf16) (g o : Vec F S1024x128 .bf16) (l : Vec F S1x1024x1 .f32) (c u v : Vec F S1024x128 .f32)
    (K : Vec F S1024x256 .bf16) (V : Vec F S1024x128 .bf16) : Vec F S1024x256 .bf16 :=
  View.canon [⟨Rect.unit (s := S1024x256) ![0, 128] S1024x128.size inb_S1024x256_S1024x128_0_128,
      k0_pay1 (k0_pay33 g (k0_pay10 l) (k0_pay11 g o) a K (k0_pay24 (k0_pay23 q K)) k0_pay25 k0_pay26 k0_pay27 k0_pay28 0#32 V) c u v⟩,
    ⟨Rect.unit (s := S1024x256) ![0, 0] S1024x128.size inb_S1024x256_S1024x128_0_0,
      k0_pay34 g (k0_pay10 l) (k0_pay11 g o) a K (k0_pay24 (k0_pay23 q K)) k0_pay25 k0_pay26 k0_pay27 k0_pay28 0#32 V⟩]

section
variable (i : grid0.Coords)
theorem trips1_zero (h : (i 2).val = 0) : Scf.trips (0#32) (Scalar.addi (0#32) (Scalar.muli (Scalar.divsi (Scalar.subi (BitVec.ofNat 32 (i 2).val) 0#32) 1#32) 1#32)) 1#32 = 0 := by rw [h]; decide
theorem trips1_one (h : (i 2).val = 1) : Scf.trips (0#32) (Scalar.addi (0#32) (Scalar.muli (Scalar.divsi (Scalar.subi (BitVec.ofNat 32 (i 2).val) 0#32) 1#32) 1#32)) 1#32 = 1 := by rw [h]; decide
theorem trips2_zero (h : (i 2).val = 0) : Scf.trips (Scalar.addi (0#32) (Scalar.muli (Scalar.divsi (Scalar.subi (BitVec.ofNat 32 (i 2).val) 0#32) 1#32) 1#32)) (Scalar.addi (0#32) (Scalar.subi (BitVec.ofNat 32 (i 2).val) 0#32)) 1#32 = 0 := by rw [h]; decide
theorem trips2_one (h : (i 2).val = 1) : Scf.trips (Scalar.addi (0#32) (Scalar.muli (Scalar.divsi (Scalar.subi (BitVec.ofNat 32 (i 2).val) 0#32) 1#32) 1#32)) (Scalar.addi (0#32) (Scalar.subi (BitVec.ofNat 32 (i 2).val) 0#32)) 1#32 = 0 := by rw [h]; decide
theorem trip_lt (h : (i 2).val = 1) : 0 < (k0_t1_loop i).trips := Nat.lt_of_lt_of_eq Nat.zero_lt_one (trips1_one i h).symm
end

section
variable (𝒱 : Variants) (c : Dev nD) (bd : Option 𝒱.V) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .bf16) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x256 .bf16) (harg15 : arg15.IsWhole) (arg16 : Memref sig .tc .vmem S2048x256 .f32) (harg16 : arg16.IsWhole) (arg17 : Memref sig .tc .vmem S2048x128 .f32) (harg17 : arg17.IsWhole)
  (v8 : Vec F S1024x256 .bf16) (v9 : Vec F S1024x128 .bf16) (v10 : Vec F S1x1024x1 .f32) (v13 : Vec F S1024x128 .bf16) (x1 xs0 : Vec F S2048x256 .bf16)

/-- What one trip of the loop over the earlier blocks carries on. -/
theorem trip_eq (k : Fin (k0_t1_loop i).trips) (acc) (f16 f17) :
    tripR_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v9 v10 v13 (harg4.unread x1) (harg15.unread xs0) k acc f16 f17
      = k0_pay17 v8 v9 v10 v13 acc (keysL i k xs0) (valsL i k x1) := by
  unfold tripR_k0_t1 trip_k0_t1
  dsimp only
  simp only [View.readAt_eq_ld, harg4.read_unread, harg15.read_unread]
  rfl

/-- The carried value after the only trip. -/
theorem st_one (h : (i 2).val = 1) (acc) (f16 f17) :
    (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v9 v10 v13 (harg4.unread x1) (harg15.unread xs0) f16 f17 acc 1).1
      = k0_pay17 v8 v9 v10 v13 acc (keysL i ⟨0, trip_lt i h⟩ xs0) (valsL i ⟨0, trip_lt i h⟩ x1) :=
  (congrArg Prod.fst (st_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v9 v10 v13 (harg4.unread x1) (harg15.unread xs0) f16 f17 acc ⟨0, trip_lt i h⟩)).trans
    (trip_eq 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v9 v10 v13 x1 xs0 ⟨0, trip_lt i h⟩ acc _ _)
end

section
variable (c : Dev nD) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .bf16) (harg12 : arg12.IsWhole) (arg13 : Memref sig .tc .vmem S2048x256 .bf16) (harg13 : arg13.IsWhole) (arg14 : Memref sig .tc .vmem S2048x128 .f32) (harg14 : arg14.IsWhole) (arg15 : Memref sig .tc .vmem S2048x256 .bf16) (harg15 : arg15.IsWhole) (arg16 : Memref sig .tc .vmem S2048x256 .f32) (harg16 : arg16.IsWhole) (arg17 : Memref sig .tc .vmem S2048x128 .f32) (harg17 : arg17.IsWhole)

/-- The queries' derivative at a sequence's first half, for its first head -/
theorem out0_A_9_eq (hc0 : cond0_0 i) (hc1 : cond0_1 i) (hc2 : ¬ cond0_2 i) (x0 : Vec F S1024x256 .bf16) (x1 : Vec F S2048x256 .bf16) (x2 : Vec F S2048x128 .bf16) (x3 x4 : Vec F S1024x128 .bf16) (x5 : Vec F S1x1024x1 .f32) (x6 x7 x8 : Vec F S1024x128 .f32) (h : (i 2).val = 0) :
    out0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 = outQ k0_pay12 x0 x3 x4 x5 x6 x7 x8 (keysD i (keys x1 x2)) (valsD i x1) := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x256) hz, View.ld_unit_zero (S := S1024x128) hz, View.ld_unit_zero (S := S1x1024x1) hz3, View.ld_unit_zero (S := S2048x128) hz, View.read_writes_junk_eq_canon]
  rw [trips1_zero i h, trips2_zero i h]
  simp only [st_k0_t1_zero, st_k0_t2_zero]
  unfold outQ keysD valsD keys
  rfl

/-- and for the others; what a second half leaves of it. -/
theorem out0_C_9_eq (hc0 : cond0_0 i) (hc1 : ¬ cond0_1 i) (hc2 : ¬ cond0_2 i) (x0 : Vec F S1024x256 .bf16) (x1 : Vec F S2048x256 .bf16) (x2 : Vec F S2048x128 .bf16) (x3 x4 : Vec F S1024x128 .bf16) (x5 : Vec F S1x1024x1 .f32) (x6 x7 x8 : Vec F S1024x128 .f32) (h : (i 2).val = 0) :
    out0_C_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 = outQ k0_pay12 x0 x3 x4 x5 x6 x7 x8 (keysD i (keys x1 x2)) (valsD i x1) := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)]
  unfold kernelRun0_C
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x256) hz, View.ld_unit_zero (S := S1024x128) hz, View.ld_unit_zero (S := S1x1024x1) hz3, View.ld_unit_zero (S := S2048x128) hz, View.read_writes_junk_eq_canon]
  rw [trips1_zero i h, trips2_zero i h]
  simp only [st_k0_t1_zero, st_k0_t2_zero]
  unfold outQ keysD valsD keys
  rfl

/-- The same at a second half. -/
theorem out0_B_9_eq (hc0 : ¬ cond0_0 i) (hc1 : ¬ cond0_1 i) (hc2 : cond0_2 i) (x0 : Vec F S1024x256 .bf16) (x1 : Vec F S2048x256 .bf16) (x2 : Vec F S2048x128 .bf16) (x3 x4 : Vec F S1024x128 .bf16) (x5 : Vec F S1x1024x1 .f32) (x6 x7 x8 : Vec F S1024x128 .f32) (xo11 : Vec F S2048x128 .f32) (xs0 : Vec F S2048x256 .bf16) (xs1 : Vec F S2048x256 .f32) (xs2 : Vec F S2048x128 .f32) (h : (i 2).val = 1) :
    out0_B_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xs0 xs1 xs2 = outQ (k0_pay17 x0 x3 x5 x4 k0_pay12 (keysL i ⟨0, trip_lt i h⟩ xs0) (valsL i ⟨0, trip_lt i h⟩ x1)) x0 x3 x4 x5 x6 x7 x8 (keysD i xs0) (valsD i x1) := by
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xs0 xs1 xs2)]
  unfold kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x256) hz, View.ld_unit_zero (S := S1024x128) hz, View.ld_unit_zero (S := S1x1024x1) hz3, View.ld_unit_zero (S := S2048x128) hz, View.read_writes_junk_eq_canon]
  rw [trips1_one i h, trips2_one i h]
  simp only [st_k0_t2_zero, st_one _ _ _ _ arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ h]
  rfl

/-! What a first half keeps of the keys for the second. -/

theorem sout0_A_0_eq (hc0 : cond0_0 i) (hc1 : cond0_1 i) (hc2 : ¬ cond0_2 i) (x0 : Vec F S1024x256 .bf16) (x1 : Vec F S2048x256 .bf16) (x2 : Vec F S2048x128 .bf16) (x3 x4 : Vec F S1024x128 .bf16) (x5 : Vec F S1x1024x1 .f32) (x6 x7 x8 : Vec F S1024x128 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 = keys x1 x2 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x256) hz, View.ld_unit_zero (S := S1024x128) hz, View.ld_unit_zero (S := S1x1024x1) hz3, View.ld_unit_zero (S := S2048x128) hz, View.read_writes_junk_eq_canon]
  rfl

theorem sout0_C_0_eq (hc0 : cond0_0 i) (hc1 : ¬ cond0_1 i) (hc2 : ¬ cond0_2 i) (x0 : Vec F S1024x256 .bf16) (x1 : Vec F S2048x256 .bf16) (x2 : Vec F S2048x128 .bf16) (x3 x4 : Vec F S1024x128 .bf16) (x5 : Vec F S1x1024x1 .f32) (x6 x7 x8 : Vec F S1024x128 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 = keys x1 x2 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)]
  unfold kernelRun0_C
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x256) hz, View.ld_unit_zero (S := S1024x128) hz, View.ld_unit_zero (S := S1x1024x1) hz3, View.ld_unit_zero (S := S2048x128) hz, View.read_writes_junk_eq_canon]
  rfl
end

end Cert.MlabValue
end
-- ==== Proof.Mlab.Prelude.lean ====
/- What the backward attention's kernel finds in the arrays the host filled: the forward attention's averages and normalisers,
   and the tables that turn the queries' derivative back. -/
module

public import proofs.«01_k».proof.Proof.Gen.MlabKernelIdeal.Value
public import proofs.«01_k».proof.Proof.Gen.MlafReferenceIdeal.Read
public import Idealize.ShloMosaic.Lib.StableHlo.RunRead
public import Idealize.ShloMosaic.Lib.Pointwise

@[expose] public section

noncomputable section

namespace Cert.MlabValue

open Cert.MlabKernelIdeal Cert.MlabKernelIdeal.Gen Idealize.ShloMosaic Idealize.ShloMosaic.TcCoe Idealize.SL.Sem

variable (m : (ℓ : Loc nD τ sig) → Buf (Elt Ideal) ℓ) (c : Dev nD)

abbrev inQ : (⟨S4096x4096, .bf16⟩ : BufTy).Contents (Elt Ideal) := m ((c : Thread nD τ).loc main_arg0)
abbrev inKV : (⟨S4096x4096, .bf16⟩ : BufTy).Contents (Elt Ideal) := m ((c : Thread nD τ).loc main_arg1)
abbrev inKR : (⟨S4096x128, .bf16⟩ : BufTy).Contents (Elt Ideal) := m ((c : Thread nD τ).loc main_arg2)

theorem V_o : V m c main_v49 = Cert.MlafReferenceIdeal.Read.val_main_v49 (F := Ideal) (inQ m c) (inKV m c) (inKR m c) := by
  simp only [V, List.flatten_cons, List.flatten_nil, List.append_nil]
  after_reads_simp
  rfl
theorem V_l : V m c main_v51 = Cert.MlafReferenceIdeal.Read.val_main_v51 (F := Ideal) (inQ m c) (inKV m c) (inKR m c) := by
  simp only [V, List.flatten_cons, List.flatten_nil, List.append_nil]
  after_reads_simp
  rfl

abbrev inC : (⟨S4096x32, .f32⟩ : BufTy).Contents (Elt Ideal) := m ((c : Thread nD τ).loc main_arg4)
abbrev inS : (⟨S4096x32, .f32⟩ : BufTy).Contents (Elt Ideal) := m ((c : Thread nD τ).loc main_arg5)
/-- The zeros the tables are filled with. -/
abbrev zeros : (⟨S4096x32, .f32⟩ : BufTy).Contents (Elt Ideal) := broadcastInDim S4096x32 ![] bcast_S_S4096x32 (constant (F := Ideal) S_ .f32 0x00000000#32)
/-- Four tables of 32 lanes side by side. -/
abbrev four (a b d e : (⟨S4096x32, .f32⟩ : BufTy).Contents (Elt Ideal)) : (⟨S4096x128, .f32⟩ : BufTy).Contents (Elt Ideal) :=
  concatenate S4096x128 1 [⟨S4096x32, a⟩, ⟨S4096x32, b⟩, ⟨S4096x32, d⟩, ⟨S4096x32, e⟩] concatenates_S4096x32_S4096x32_S4096x32_S4096x32_S4096x128_d1

theorem V_rc : V m c main_v53 = four (inC m c) (inC m c) zeros zeros := by
  simp only [V, List.flatten_cons, List.flatten_nil, List.append_nil]
  after_reads_simp
  rfl
theorem V_s1 : V m c main_v55 = four (Host.negf (inS m c : FVec Ideal S4096x32 .f32) : FVec Ideal S4096x32 .f32) zeros zeros zeros := by
  simp only [V, List.flatten_cons, List.flatten_nil, List.append_nil]
  after_reads_simp
  rfl
theorem V_s2 : V m c main_v56 = four zeros (inS m c) zeros zeros := by
  simp only [V, List.flatten_cons, List.flatten_nil, List.append_nil]
  after_reads_simp
  rfl

section
variable (a b d e : (⟨S4096x32, .f32⟩ : BufTy).Contents (Elt Ideal)) (R : Fin 4096)
theorem four_apply (j : Fin 128) : four a b d e (ix2 R j)
    = if h : j.val < 32 then a (ix2 R ⟨j.val, h⟩) else if h : j.val - 32 < 32 then b (ix2 R ⟨j.val - 32, h⟩)
      else if h : j.val - 32 - 32 < 32 then d (ix2 R ⟨j.val - 32 - 32, h⟩) else e (ix2 R ⟨j.val - 32 - 32 - 32, by omega⟩) := by
  unfold four
  pointwise
theorem four_0 (j : Fin 128) (n : Fin 32) (h : j.val = n.val) : four a b d e (ix2 R j) = a (ix2 R n) := by
  have e1 : (⟨j.val, by omega⟩ : Fin 32) = n := Fin.ext h
  rw [four_apply, dif_pos (by omega), e1]
theorem four_1 (j : Fin 128) (n : Fin 32) (h : j.val = 32 + n.val) : four a b d e (ix2 R j) = b (ix2 R n) := by
  have e1 : (⟨j.val - 32, by omega⟩ : Fin 32) = n := Fin.ext (by show j.val - 32 = n.val; omega)
  rw [four_apply, dif_neg (by omega), dif_pos (by omega), e1]
theorem zeros_apply (n : Fin 32) : zeros (ix2 R n) = 0 := by
  unfold zeros
  pointwise
theorem four_pad (j : Fin 128) (h : 64 ≤ j.val) : four a b zeros zeros (ix2 R j) = 0 := by
  rw [four_apply, dif_neg (by omega), dif_neg (by omega)]
  split <;> exact zeros_apply _ _
theorem four_pad' (j : Fin 128) (h : 32 ≤ j.val) : four a zeros zeros zeros (ix2 R j) = 0 := by
  rw [four_apply, dif_neg (by omega)]
  split
  · exact zeros_apply _ _
  · split <;> exact zeros_apply _ _
theorem four_skip (j : Fin 128) (h : j.val < 32) : four zeros b zeros zeros (ix2 R j) = 0 := by
  rw [four_apply, dif_pos h]
  exact zeros_apply _ _
end

end Cert.MlabValue
end
-- ==== Proof.Mlab.Ref.lean ====
/- The backward attention's reference read at an index, over the extended reals: the softmax and the scores' derivatives, and
   the derivatives of queries, keys and values as sums over them. The scores and their exponentials are the stages the forward
   attention's reference has. -/
module

public import proofs.«01_k».proof.Proof.Gen.MlabReferenceIdeal.Read
public import proofs.«01_k».proof.Proof.Mlaf.Ref

@[expose] public section

noncomputable section

namespace Cert.MlabRef

open Cert.MlabReferenceIdeal Cert.MlabReferenceIdeal.Gen Cert.MlabReferenceIdeal.Read Cert.Softmax Cert.MlafRows Idealize.ShloMosaic
open Cert.MlafRef (rowA ex qr_div qr_mod oc_div oc_mod)
open scoped BigOperators

variable (x0 x1 : (⟨S4096x4096, .bf16⟩ : BufTy).Contents (Elt Ideal)) (x2 : (⟨S4096x128, .bf16⟩ : BufTy).Contents (Elt Ideal))
  (x3 : (⟨S4096x2048, .bf16⟩ : BufTy).Contents (Elt Ideal)) (x4 x5 : (⟨S4096x32, .f32⟩ : BufTy).Contents (Elt Ideal))
  (b : Fin 2) (h : Fin 16) (r k : Fin 2048)

/-! ## The stages shared with the forward attention -/

theorem score_eq : val_main_v24_0 (F := Ideal) x0 x1 x2 = Cert.MlafReferenceIdeal.Read.val_main_v23 x0 x1 x2 := rfl
theorem exp_eq : val_main_v45 (F := Ideal) x0 x1 x2 = Cert.MlafReferenceIdeal.Read.val_main_v30 x0 x1 x2 := rfl
theorem prob_eq : val_main_v49 (F := Ideal) x0 x1 x2 = Cert.MlafReferenceIdeal.Read.val_main_v34 x0 x1 x2 := rfl
theorem mask_eq : val_main_v20 (F := Ideal) = Cert.MlafReferenceIdeal.Read.val_main_v19 := rfl

/-- The sum of a row's exponentials. -/
abbrev tot : EReal := ∑ i : Fin 2048, ex x0 x1 x2 b h r i

theorem exp_apply : val_main_v45 x0 x1 x2 (ix4 b h r k) = ex x0 x1 x2 b h r k := by
  rw [exp_eq]; exact Cert.MlafRef.exp_apply x0 x1 x2 b h r k
theorem prob_apply : val_main_v49 x0 x1 x2 (ix4 b h r k) = Ideal.div (ex x0 x1 x2 b h r k) (tot x0 x1 x2 b h r) := by
  rw [prob_eq]; exact Cert.MlafRef.prob_apply x0 x1 x2 b h r k
theorem mask_apply : val_main_v24_1 (F := Ideal) (ix4 b h r k) = if k.val / 64 ≤ r.val / 64 then 1#1 else 0#1 := by
  have hM := Cert.MlafRef.mask_apply r k
  rw [← mask_eq] at hM
  unfold val_main_v24_1 val_main_v21
  generalize val_main_v20 (F := Ideal) = M at hM
  pointwise
  exact hM

/-! ## The scores' derivatives -/

theorem tot_apply : val_main_v46 x0 x1 x2 (ix3 b h r) = tot x0 x1 x2 b h r := by
  have hE := exp_apply x0 x1 x2 b h r
  unfold val_main_v46 tot
  generalize val_main_v45 x0 x1 x2 = E at hE
  generalize ex x0 x1 x2 b h r = e at hE ⊢
  pointwise [val_main_cst_9]
  simp only [hE]

/-- The derivative of a probability: the product of the result's derivative and the key's value. -/
def dprob : EReal := ∑ d : Fin 128, x3 (ix2 (qr b r) (oc h d)) * x1 (ix2 (qr b k) (cc h (hi d)))

theorem dprob_apply : val_main_v60 x1 x3 (ix4 b h r k) = dprob x1 x3 b h r k := by
  pointwise [val_main_v60, val_main_v59, val_main_v58, val_main_v54, val_main_v53, val_main_v3, val_main_v1]
  rfl

theorem inv_apply (u : Fin 1) : val_main_v52 x0 x1 x2 (ix4 b h r u) = Ideal.div 1 (tot x0 x1 x2 b h r * tot x0 x1 x2 b h r) := by
  have hT := tot_apply x0 x1 x2 b h r
  unfold val_main_v52 val_main_v51 val_main_v50 val_main_v47
  generalize tot x0 x1 x2 b h r = T at hT ⊢
  generalize val_main_v46 x0 x1 x2 = S at hT
  pointwise [val_main_cst_10]
  rw [hT]

/-- The part of the derivative all scores of a row share. -/
def share : EReal := ∑ i : Fin 2048, dprob x1 x3 b h r i * Ideal.div 1 (tot x0 x1 x2 b h r * tot x0 x1 x2 b h r) * ex x0 x1 x2 b h r i

theorem share_apply : val_main_v68 x0 x1 x2 x3 (ix3 b h r) = share x0 x1 x2 x3 b h r := by
  have hE := exp_apply x0 x1 x2 b h r
  have hD := dprob_apply x1 x3 b h r
  have hI := inv_apply x0 x1 x2 b h r
  unfold val_main_v68 val_main_v67 val_main_v66 val_main_v65 share
  generalize val_main_v45 x0 x1 x2 = E at hE
  generalize val_main_v60 x1 x3 = D at hD
  generalize val_main_v52 x0 x1 x2 = I at hI
  generalize ex x0 x1 x2 b h r = e at hE ⊢
  generalize dprob x1 x3 b h r = p at hD ⊢
  generalize Ideal.div 1 (tot x0 x1 x2 b h r * tot x0 x1 x2 b h r) = t at hI ⊢
  pointwise [val_main_cst_12]
  simp only [hE, hD, hI]

theorem negshare_apply : val_main_v73 x0 x1 x2 x3 (ix3 b h r) = - share x0 x1 x2 x3 b h r := by
  have hS := share_apply x0 x1 x2 x3 b h r
  unfold val_main_v73 val_main_v70 val_main_v69
  generalize share x0 x1 x2 x3 b h r = s at hS ⊢
  generalize val_main_v68 x0 x1 x2 x3 = S at hS
  pointwise [val_main_cst_13]
  simp [hS]

/-- The derivative of a score; -/
def dscoreR : EReal :=
  (if k.val / 64 ≤ r.val / 64 then (Ideal.div (dprob x1 x3 b h r k) (tot x0 x1 x2 b h r) + - share x0 x1 x2 x3 b h r) * ex x0 x1 x2 b h r k else 0) * sc

theorem quot_apply : val_main_v72 x0 x1 x2 x3 (ix4 b h r k) = Ideal.div (dprob x1 x3 b h r k) (tot x0 x1 x2 b h r) := by
  have hT := tot_apply x0 x1 x2 b h r
  have hD := dprob_apply x1 x3 b h r k
  unfold val_main_v72 val_main_v71 val_main_v47
  generalize tot x0 x1 x2 b h r = T at hT ⊢
  generalize val_main_v46 x0 x1 x2 = S at hT
  generalize val_main_v60 x1 x3 = D at hD
  pointwise
  rw [hD, hT]

theorem dscore_apply : val_main_v79 x0 x1 x2 x3 (ix4 b h r k) = dscoreR x0 x1 x2 x3 b h r k := by
  have hQ := quot_apply x0 x1 x2 x3 b h r k
  have hN := negshare_apply x0 x1 x2 x3 b h r
  have hE := exp_apply x0 x1 x2 b h r k
  have hM := mask_apply b h r k
  unfold val_main_v79 val_main_v78 val_main_v77 val_main_v76 val_main_v75 val_main_v74 dscoreR
  generalize val_main_v72 x0 x1 x2 x3 = Q at hQ
  generalize val_main_v73 x0 x1 x2 x3 = N at hN
  generalize val_main_v45 x0 x1 x2 = E at hE
  generalize val_main_v24_1 (F := Ideal) = M at hM
  generalize Ideal.div (dprob x1 x3 b h r k) (tot x0 x1 x2 b h r) = u at hQ ⊢
  generalize share x0 x1 x2 x3 b h r = w at hN ⊢
  generalize ex x0 x1 x2 b h r k = e at hE ⊢
  pointwise [val_main_cst_14, val_main_call2_v0, val_main_call2_cst]
  rw [hQ, hN, hE, hM]
  split
  · rfl
  · exact (zero_mul sc).symm

/-! ## The sums -/

theorem dqlo_apply (d : Fin 128) : val_main_v87 x0 x1 x2 x3 (ix4 b r h d) = ∑ k : Fin 2048, dscoreR x0 x1 x2 x3 b h r k * x1 (ix2 (qr b k) (cc h (lo d))) := by
  have hX := dscore_apply x0 x1 x2 x3 b h r
  unfold val_main_v87 val_main_v86
  generalize val_main_v79 x0 x1 x2 x3 = D at hX
  generalize dscoreR x0 x1 x2 x3 b h r = e at hX ⊢
  pointwise [val_main_v6, val_main_v5, val_main_v1]
  simp only [hX]
  rfl
theorem dqhi_apply (d : Fin 128) : val_main_v81 x0 x1 x2 x3 (ix4 b r h d) = ∑ k : Fin 2048, dscoreR x0 x1 x2 x3 b h r k * x2 (ix2 (qr b k) d) := by
  have hX := dscore_apply x0 x1 x2 x3 b h r
  unfold val_main_v81 val_main_v80
  generalize val_main_v79 x0 x1 x2 x3 = D at hX
  generalize dscoreR x0 x1 x2 x3 b h r = e at hX ⊢
  pointwise [val_main_v7, val_main_v2]
  simp only [hX]
  rfl
theorem dklo_apply (d : Fin 128) : val_main_v85 x0 x1 x2 x3 (ix4 b k h d) = ∑ r : Fin 2048, dscoreR x0 x1 x2 x3 b h r k * x0 (ix2 (qr b r) (cc h (lo d))) := by
  have hX := fun r => dscore_apply x0 x1 x2 x3 b h r k
  unfold val_main_v85 val_main_v84
  generalize val_main_v79 x0 x1 x2 x3 = D at hX
  generalize dscoreR x0 x1 x2 x3 b h = e at hX ⊢
  pointwise [val_main_v8, val_main_v4, val_main_v0]
  simp only [hX]
  rfl
theorem dv_apply (d : Fin 128) : val_main_v62 x0 x1 x2 x3 (ix4 b k h d)
    = ∑ r : Fin 2048, Ideal.div (ex x0 x1 x2 b h r k) (tot x0 x1 x2 b h r) * x3 (ix2 (qr b r) (oc h d)) := by
  have hX := fun r => prob_apply x0 x1 x2 b h r k
  unfold val_main_v62 val_main_v61
  generalize val_main_v49 x0 x1 x2 = D at hX
  generalize (fun r => Ideal.div (ex x0 x1 x2 b h r k) (tot x0 x1 x2 b h r)) = e at hX ⊢
  pointwise [val_main_v59, val_main_v58, val_main_v3]
  simp only [hX]
  exact Finset.sum_congr rfl fun r _ => mul_comm _ _
theorem dkr_apply (d : Fin 128) : val_main_v82 x0 x1 x2 x3 (ix3 b k d)
    = ∑ h : Fin 16, ∑ r : Fin 2048, dscoreR x0 x1 x2 x3 b h r k * x0 (ix2 (qr b r) (cc h (hi d))) := by
  have hX := fun h r => dscore_apply x0 x1 x2 x3 b h r k
  unfold val_main_v82 val_main_v80
  generalize val_main_v79 x0 x1 x2 x3 = D at hX
  generalize dscoreR x0 x1 x2 x3 b = e at hX ⊢
  pointwise [val_main_v10, val_main_v4, val_main_v0]
  simp only [hX]
  exact Finset.sum_comm

end Cert.MlabRef
-- ==== Proof.Mlab.Ref2.lean ====
/- The backward attention's reference read at an index of its results. -/
module

public import proofs.«01_k».proof.Proof.Mlab.Ref

@[expose] public section

noncomputable section

namespace Cert.MlabRef

open Cert.MlabReferenceIdeal Cert.MlabReferenceIdeal.Gen Cert.MlabReferenceIdeal.Read Cert.Softmax Cert.MlafRows Idealize.ShloMosaic
open Cert.MlafRef (rowA ex qr_div qr_mod oc_div oc_mod)
open scoped BigOperators

variable (x0 x1 : (⟨S4096x4096, .bf16⟩ : BufTy).Contents (Elt Ideal)) (x2 : (⟨S4096x128, .bf16⟩ : BufTy).Contents (Elt Ideal))
  (x3 : (⟨S4096x2048, .bf16⟩ : BufTy).Contents (Elt Ideal)) (x4 x5 : (⟨S4096x32, .f32⟩ : BufTy).Contents (Elt Ideal))
  (b : Fin 2) (h : Fin 16) (r k : Fin 2048)

theorem cc_div (d : Fin 256) (p) : (⟨(cc h d).val / 256, p⟩ : Fin 16) = h := Fin.ext (by show (h.val * 256 + d.val) / 256 = h.val; omega)
theorem cc_mod (d : Fin 256) : (cc h d).val % 256 = d.val := by show (h.val * 256 + d.val) % 256 = d.val; omega
theorem cc_lt (d : Fin 256) : (cc h d).val / 256 < 16 := by have := (cc h d).isLt; omega
theorem lo_val (d : Fin 128) : (lo d).val = d.val := rfl
theorem hi_val (d : Fin 128) : (hi d).val = 128 + d.val := rfl
theorem qr_two : (qr b k).val / 2048 < 2 := by have := (qr b k).isLt; omega
theorem qr_lt : (qr b k).val % 2048 < 2048 := by omega

/-- The derivative of the queries before they were turned: -/
theorem v117_lo (d : Fin 128) : val_main_v117 x0 x1 x2 x3 (ix3 (qr b r) h (lo d)) = ∑ k : Fin 2048, dscoreR x0 x1 x2 x3 b h r k * x1 (ix2 (qr b k) (cc h (lo d))) := by
  have hX := dqlo_apply x0 x1 x2 x3 b h r d
  unfold val_main_v117 val_main_v94 val_main_v89 val_main_v83 val_main_v88
  generalize val_main_v87 x0 x1 x2 x3 = D at hX
  generalize val_main_v81 x0 x1 x2 x3 = D2
  pointwise [val_main_cst_15, val_main_cst_16]
  simp only [qr_div, qr_mod]
  have h1 := qr_two b r
  have hl := lo_val d
  have hd := d.isLt
  split_ifs
  all_goals try (exfalso; omega)
  exact (zero_add _).trans hX
theorem v117_hi (d : Fin 128) : val_main_v117 x0 x1 x2 x3 (ix3 (qr b r) h (hi d)) = ∑ k : Fin 2048, dscoreR x0 x1 x2 x3 b h r k * x2 (ix2 (qr b k) d) := by
  have hX := dqhi_apply x0 x1 x2 x3 b h r d
  have hX' : ∀ n hn, n = d.val → val_main_v81 x0 x1 x2 x3 (ix4 b r h ⟨n, hn⟩) = _ := fun n hn e => by subst e; exact hX
  unfold val_main_v117 val_main_v94 val_main_v89 val_main_v83 val_main_v88
  generalize val_main_v81 x0 x1 x2 x3 = D at hX'
  generalize val_main_v87 x0 x1 x2 x3 = D2
  pointwise [val_main_cst_15, val_main_cst_16]
  simp only [qr_div, qr_mod]
  have h1 := qr_two b r
  have hl := hi_val d
  have hd := d.isLt
  split_ifs
  all_goals try (exfalso; omega)
  exact (add_zero _).trans (hX' _ _ (by omega))

/-- the lanes no angle turns; -/
theorem out_dq_lo (d : Fin 128) : val_main_v141 x0 x1 x2 x3 x4 x5 (ix2 (qr b r) (cc h (lo d))) = ∑ k : Fin 2048, dscoreR x0 x1 x2 x3 b h r k * x1 (ix2 (qr b k) (cc h (lo d))) := by
  have hX := v117_lo x0 x1 x2 x3 b h r d
  unfold val_main_v141 val_main_v140 val_main_v139 val_main_v121 val_main_v138 val_main_v118
  generalize val_main_v117 x0 x1 x2 x3 = D at hX
  generalize val_main_v137 x0 x1 x2 x3 x4 x5 = D2
  pointwise [val_main_cst_20, val_main_cst_23]
  have hm := cc_mod h (lo d)
  have hq := cc_lt h (lo d)
  have hl := lo_val d
  have hd := d.isLt
  simp only [cc_div, hm]
  split_ifs
  all_goals try (exfalso; omega)
  exact (add_zero _).trans hX

/-- the others: a lane of the first half with the lane 32 above it, one of the second with the lane 32 below, and none. -/
def early (n : Fin 32) : Fin 128 := ⟨n.val, by omega⟩
def late (n : Fin 32) : Fin 128 := ⟨32 + n.val, by omega⟩
theorem early_val (n : Fin 32) : (early n).val = n.val := rfl
theorem late_val (n : Fin 32) : (late n).val = 32 + n.val := rfl

/-- A lane's part of the scores' product with the shared keys. -/
abbrev gq (d : Fin 128) : EReal := ∑ k : Fin 2048, dscoreR x0 x1 x2 x3 b h r k * x2 (ix2 (qr b k) d)

theorem entry (x : (⟨S4096x32, .f32⟩ : BufTy).Contents (Elt Ideal)) (R : Fin 4096) (n : Fin 32) : ∀ m hm, m = n.val → x (ix2 R ⟨m, hm⟩) = x (ix2 R n) :=
  fun m hm e => by subst e; rfl

section
variable (j : Fin 64) (n : Fin 32)

theorem v137_early (hj : j.val = n.val) : val_main_v137 x0 x1 x2 x3 x4 x5 (ix3 (qr b r) h j)
    = gq x0 x1 x2 x3 b h r (late n) * x5 (ix2 (qr b r) n) + gq x0 x1 x2 x3 b h r (early n) * x4 (ix2 (qr b r) n) := by
  have hX := v117_hi x0 x1 x2 x3 b h r
  replace hX : ∀ (d : Fin 128) n hn, n = 128 + d.val → val_main_v117 x0 x1 x2 x3 (ix3 (qr b r) h ⟨n, hn⟩) = gq x0 x1 x2 x3 b h r d := fun d n hn hh => by
    subst hh; exact hX d
  unfold val_main_v137 val_main_v136 val_main_v135 val_main_v134 val_main_v133
    val_main_v132 val_main_v131 val_main_v130 val_main_v129 val_main_v128 val_main_v127 val_main_v126 val_main_v125 val_main_v124 val_main_v123
    val_main_v122 val_main_v119 val_main_v98 val_main_v97
  generalize val_main_v117 x0 x1 x2 x3 = D at hX
  generalize gq x0 x1 x2 x3 b h r = e at hX ⊢
  pointwise [val_main_cst_21, val_main_cst_22]
  have hh := h.isLt
  have hn := n.isLt
  rw [dif_neg (by omega), dif_pos (by omega), zero_add]
  exact congrArg₂ (· + ·) (congrArg₂ (· * ·) (hX (late n) _ _ (by rw [late_val]; omega)) (entry x5 _ n _ _ hj))
    (congrArg₂ (· * ·) (hX (early n) _ _ (by rw [early_val]; omega)) (entry x4 _ n _ _ hj))
theorem v137_late (hj : j.val = 32 + n.val) : val_main_v137 x0 x1 x2 x3 x4 x5 (ix3 (qr b r) h j)
    = gq x0 x1 x2 x3 b h r (late n) * x4 (ix2 (qr b r) n) + - gq x0 x1 x2 x3 b h r (early n) * x5 (ix2 (qr b r) n) := by
  have hX := v117_hi x0 x1 x2 x3 b h r
  replace hX : ∀ (d : Fin 128) n hn, n = 128 + d.val → val_main_v117 x0 x1 x2 x3 (ix3 (qr b r) h ⟨n, hn⟩) = gq x0 x1 x2 x3 b h r d := fun d n hn hh => by
    subst hh; exact hX d
  unfold val_main_v137 val_main_v136 val_main_v135 val_main_v134 val_main_v133
    val_main_v132 val_main_v131 val_main_v130 val_main_v129 val_main_v128 val_main_v127 val_main_v126 val_main_v125 val_main_v124 val_main_v123
    val_main_v122 val_main_v119 val_main_v98 val_main_v97
  generalize val_main_v117 x0 x1 x2 x3 = D at hX
  generalize gq x0 x1 x2 x3 b h r = e at hX ⊢
  pointwise [val_main_cst_21, val_main_cst_22]
  have hh := h.isLt
  have hn := n.isLt
  rw [dif_pos (by omega), dif_neg (by omega), add_zero]
  exact congrArg₂ (· + ·) (congrArg₂ (· * ·) (hX (late n) _ _ (by rw [late_val]; omega)) (entry x4 _ n _ _ (by omega)))
    (congrArg₂ (· * ·) (congrArg Neg.neg (hX (early n) _ _ (by rw [early_val]; omega))) (entry x5 _ n _ _ (by omega)))
end

/-- A lane beyond the first is what the turning back left there, -/
theorem v141_hi (d : Fin 128) (j : Fin 64) (hj : j.val = d.val) : val_main_v141 x0 x1 x2 x3 x4 x5 (ix2 (qr b r) (cc h (hi d)))
    = val_main_v137 x0 x1 x2 x3 x4 x5 (ix3 (qr b r) h j) := by
  have hX : ∀ m hm, m = j.val → val_main_v137 x0 x1 x2 x3 x4 x5 (ix3 (qr b r) h ⟨m, hm⟩) = val_main_v137 x0 x1 x2 x3 x4 x5 (ix3 (qr b r) h j) :=
    fun m hm e => by subst e; rfl
  unfold val_main_v141 val_main_v140 val_main_v139 val_main_v121 val_main_v138 val_main_v118
  generalize val_main_v117 x0 x1 x2 x3 = D
  generalize val_main_v137 x0 x1 x2 x3 x4 x5 = D2 at hX ⊢
  have hm := cc_mod h (hi d)
  have hq := cc_lt h (hi d)
  have hl := hi_val d
  have hd := j.isLt
  pointwise [val_main_cst_20, val_main_cst_23]
  simp only [cc_div]
  rw [dif_neg (by omega), dif_pos (by omega), zero_add]
  exact hX _ _ (by omega)
/-- or nothing. -/
theorem v141_pad (d : Fin 128) (hj : 64 ≤ d.val) : val_main_v141 x0 x1 x2 x3 x4 x5 (ix2 (qr b r) (cc h (hi d))) = 0 := by
  unfold val_main_v141 val_main_v140 val_main_v139 val_main_v121 val_main_v138 val_main_v118
  generalize val_main_v117 x0 x1 x2 x3 = D
  generalize val_main_v137 x0 x1 x2 x3 x4 x5 = D2
  have hm := cc_mod h (hi d)
  have hq := cc_lt h (hi d)
  have hl := hi_val d
  have hd := d.isLt
  pointwise [val_main_cst_20, val_main_cst_23]
  rw [dif_neg (by omega), dif_neg (by omega), zero_add]

end Cert.MlabRef
-- ==== Proof.Mlab.Point.lean ====
/- The payloads of the backward attention read at an index, over the extended reals: the weights recomputed from the saved
   normalisers, the scores' derivatives, and the products that make up the derivatives of queries, keys and values. -/
module

public import proofs.«01_k».proof.Proof.Gen.MlabKernelIdeal.Skeleton
public import proofs.«01_k».proof.Proof.Mlaf.Point

@[expose] public section

noncomputable section

namespace Cert.MlabValue

open Cert.MlabKernelIdeal Cert.MlabKernelIdeal.Gen Cert.Softmax Cert.MlafRows Idealize.ShloMosaic
open Cert.MlafValue (chunkWord chunkWord_eq sle_chunk)
open scoped BigOperators

theorem mask_word : Named.named (F := Ideal) κ "mask" (φ := .f32) 0xF149F2CA#32 = ⊥ :=
  IdealRules.named_const.ideal_named_scalar _ _ _ _ rfl

/-- The score of query row `r` against row `j` of a block of keys; on the diagonal, later chunks left out. -/
def scoreRow (q K : Vec Ideal S1024x256 .bf16) (r j : Fin 1024) : EReal := (∑ d : Fin 256, q (ix2 r d) * K (ix2 j d)) * sc
def scoreDiag (q K : Vec Ideal S1024x256 .bf16) (r j : Fin 1024) : EReal := if j.val / 64 ≤ r.val / 64 then scoreRow q K r j else ⊥
/-- The row's product of the result and its derivative; -/
def delta (g o : Vec Ideal S1024x128 .bf16) (r : Fin 1024) : EReal := ∑ d : Fin 128, g (ix2 r d) * o (ix2 r d)
/-- the derivative of a score of weight `p`. -/
def dscore (p : EReal) (g o V : Vec Ideal S1024x128 .bf16) (r j : Fin 1024) : EReal :=
  p * ((∑ d : Fin 128, g (ix2 r d) * V (ix2 j d)) - delta g o r) * sc

/-! The shape operations the body composes, each read at an index. -/

theorem spread (x : FVec Ideal S1024x1 .f32) (r j : Fin 1024) : broadcastTo S1024x1024 x broadcasts_S1024x1_S1024x1024 (ix2 r j) = x (ix2 r 0) := by
  pointwise
theorem column (S : FVec Ideal S1024 .f32) (r : Fin 1024) (u : Fin 1) : shapeCast S1024x1 S shapeCasts_S1024_S1024x1 (ix2 r u) = S (ix1 r) := by
  pointwise
theorem sumRow (S : FVec Ideal S1024x128 .f32) (r : Fin 1024) :
    multiReduction .add [1] S1024 S 0x00000000#32 reduces_S1024x128_S1024 (.inl rfl) rfl (ix1 r) = ∑ d : Fin 128, S (ix2 r d) := by
  pointwise
theorem pay10_apply (l : Vec Ideal S1x1024x1 .f32) (r : Fin 1024) : k0_pay10 (F := Ideal) l (ix2 r 0) = l (ix3 0 r 0) :=
  ValueIdx.shapeCast_1ab_ab_apply l _ _ _
theorem pay11_apply (g o : Vec Ideal S1024x128 .bf16) (r : Fin 1024) : k0_pay11 (F := Ideal) g o (ix2 r 0) = delta g o r := by
  unfold k0_pay11
  refine (column _ r 0).trans ((sumRow _ r).trans ?_)
  refine Finset.sum_congr rfl fun d _ => ?_
  pointwise
theorem pay12_apply (r : Fin 1024) (d : Fin 256) : k0_pay12 (F := Ideal) (ix2 r d) = 0 := by
  unfold k0_pay12; simp [broadcast, Scalar.ofBits, Ideal.ofBits, Ideal.ieee]
theorem scores (q K : FVec Ideal S1024x256 .bf16) (r j : Fin 1024) :
    matmul dot_S1024x256_S1024x256_S1024x1024_1_1_0_0_n_n none q K (constant S1024x1024 .f32 0x00000000#32) (ix2 r j) = ∑ d : Fin 256, q (ix2 r d) * K (ix2 j d) := by
  pointwise
theorem values (g V : FVec Ideal S1024x128 .bf16) (r j : Fin 1024) :
    matmul dot_S1024x128_S1024x128_S1024x1024_1_1_0_0_n_n none g V (constant S1024x1024 .f32 0x00000000#32) (ix2 r j) = ∑ d : Fin 128, g (ix2 r d) * V (ix2 j d) := by
  pointwise
theorem toKeys (p : FVec Ideal S1024x1024 .bf16) (q : FVec Ideal S1024x256 .bf16) (j : Fin 1024) (d : Fin 256) :
    matmul dot_S1024x1024_S1024x256_S1024x256_0_0_1_1_n_n none p q (constant S1024x256 .f32 0x00000000#32) (ix2 j d) = ∑ r : Fin 1024, p (ix2 r j) * q (ix2 r d) := by
  pointwise
theorem toValues (p : FVec Ideal S1024x1024 .bf16) (g : FVec Ideal S1024x128 .bf16) (j : Fin 1024) (d : Fin 128) :
    matmul dot_S1024x1024_S1024x128_S1024x128_0_0_1_1_n_n none p g (constant S1024x128 .f32 0x00000000#32) (ix2 j d) = ∑ r : Fin 1024, p (ix2 r j) * g (ix2 r d) := by
  pointwise
theorem toQueries (p : FVec Ideal S1024x1024 .bf16) (K : FVec Ideal S1024x256 .bf16) (r : Fin 1024) (d : Fin 256) :
    matmul dot_S1024x1024_S1024x256_S1024x256_1_0_0_1_n_n none p K (constant S1024x256 .f32 0x00000000#32) (ix2 r d) = ∑ j : Fin 1024, p (ix2 r j) * K (ix2 j d) := by
  pointwise
theorem sameWide (x : FVec Ideal S1024x256 .f32) : shapeCast S1024x256 x shapeCasts_S1024x256_S1024x256 = x := shapeCast_id x _
theorem sameSlim (x : FVec Ideal S1024x128 .f32) : shapeCast S1024x128 x shapeCasts_S1024x128_S1024x128 = x := shapeCast_id x _

section
variable (q K : Vec Ideal S1024x256 .bf16) (l : Vec Ideal S1x1024x1 .f32) (g o V : Vec Ideal S1024x128 .bf16) (r j : Fin 1024)

/-! One block of keys met whole. -/

theorem pay13_apply : k0_pay13 (F := Ideal) q l K (ix2 r j) = Ideal.exp (scoreRow q K r j - l (ix3 0 r 0)) :=
  congrArg Ideal.exp (congrArg₂ (· - ·) (congrArg (· * sc) (scores q K r j)) ((spread _ r j).trans (pay10_apply l r)))
theorem pay14_apply : k0_pay14 (F := Ideal) q g l o K V (ix2 r j) = dscore (Ideal.exp (scoreRow q K r j - l (ix3 0 r 0))) g o V r j :=
  congrArg (· * sc) (congrArg₂ (· * ·) (pay13_apply q K l r j) (congrArg₂ (· - ·) (values g V r j) ((spread _ r j).trans (pay11_apply g o r))))
theorem pay15_apply (a : Vec Ideal S1024x256 .f32) (d : Fin 256) : k0_pay15 (F := Ideal) q g l o K V a (ix2 j d)
    = a (ix2 j d) + ∑ r : Fin 1024, dscore (Ideal.exp (scoreRow q K r j - l (ix3 0 r 0))) g o V r j * q (ix2 r d) := by
  unfold k0_pay15
  rw [sameWide]
  exact congrArg (a (ix2 j d) + ·) ((toKeys _ q j d).trans (Finset.sum_congr rfl fun r _ => congrArg (· * q (ix2 r d)) (pay14_apply q K l g o V r j)))
theorem pay16_apply (a : Vec Ideal S1024x128 .f32) (d : Fin 128) : k0_pay16 (F := Ideal) q g l K a (ix2 j d)
    = a (ix2 j d) + ∑ r : Fin 1024, Ideal.exp (scoreRow q K r j - l (ix3 0 r 0)) * g (ix2 r d) := by
  unfold k0_pay16
  rw [sameSlim]
  exact congrArg (a (ix2 j d) + ·) ((toValues _ g j d).trans (Finset.sum_congr rfl fun r _ => congrArg (· * g (ix2 r d)) (pay13_apply q K l r j)))
theorem pay17_apply (a : FVec Ideal S1024x256 .f32) (d : Fin 256) : k0_pay17 (F := Ideal) q g l o a K V (ix2 r d)
    = a (ix2 r d) + ∑ j : Fin 1024, dscore (Ideal.exp (scoreRow q K r j - l (ix3 0 r 0))) g o V r j * K (ix2 j d) :=
  congrArg (a (ix2 r d) + ·) ((toQueries _ K r d).trans (Finset.sum_congr rfl fun j _ => congrArg (· * K (ix2 j d)) (pay14_apply q K l g o V r j)))

/-! The block on the diagonal. -/

abbrev S' : FVec Ideal S1024x1024 .f32 := k0_pay24 (k0_pay23 q K)

theorem pay24_apply : S' q K (ix2 r j) = scoreRow q K r j := congrArg (· * sc) (scores q K r j)

theorem masked_apply (x : FVec Ideal S1024x1024 .f32) (z : FVec Ideal S1024x1 .f32) :
    k0_pay29 (F := Ideal) z x k0_pay25 k0_pay26 k0_pay27 k0_pay28 0#32 (ix2 r j)
      = Ideal.exp ((if j.val / 64 ≤ r.val / 64 then x (ix2 r j) else ⊥) - z (ix2 r 0)) := by
  unfold k0_pay29 k0_pay25 k0_pay26 k0_pay27 k0_pay28
  pointwise
  rw [mask_word]
  refine congrArg Ideal.exp (congrArg (· - z (ix2 r 0)) ?_)
  show Scalar.select (IntOp.cmpi CmpIPredicate.sle (chunkWord (BitVec.ofNat 32 j.val)) (chunkWord (BitVec.ofNat 32 r.val))) _ _ = _
  rw [chunkWord_eq, chunkWord_eq, sle_chunk ⟨j.val / 64, by omega⟩ ⟨r.val / 64, by omega⟩]
  split <;> rfl

abbrev P' : FVec Ideal S1024x1024 .f32 := k0_pay29 (k0_pay10 l) (S' q K) k0_pay25 k0_pay26 k0_pay27 k0_pay28 0#32

theorem pay29_apply : P' q K l (ix2 r j) = Ideal.exp (scoreDiag q K r j - l (ix3 0 r 0)) := by
  rw [P', masked_apply, pay10_apply, pay24_apply]; rfl
theorem pay30_apply : k0_pay30 (F := Ideal) g (k0_pay10 l) (k0_pay11 g o) (S' q K) k0_pay25 k0_pay26 k0_pay27 k0_pay28 0#32 V (ix2 r j)
    = dscore (Ideal.exp (scoreDiag q K r j - l (ix3 0 r 0))) g o V r j :=
  congrArg (· * sc) (congrArg₂ (· * ·) (pay29_apply q K l r j) (congrArg₂ (· - ·) (values g V r j) ((spread _ r j).trans (pay11_apply g o r))))
theorem pay31_apply (a : Vec Ideal S1024x256 .f32) (d : Fin 256) :
    k0_pay31 (F := Ideal) q g (k0_pay10 l) (k0_pay11 g o) (S' q K) k0_pay25 k0_pay26 k0_pay27 k0_pay28 0#32 V a (ix2 j d)
      = a (ix2 j d) + ∑ r : Fin 1024, dscore (Ideal.exp (scoreDiag q K r j - l (ix3 0 r 0))) g o V r j * q (ix2 r d) := by
  unfold k0_pay31
  rw [sameWide]
  exact congrArg (a (ix2 j d) + ·) ((toKeys _ q j d).trans (Finset.sum_congr rfl fun r _ => congrArg (· * q (ix2 r d)) (pay30_apply q K l g o V r j)))
theorem pay32_apply (a : Vec Ideal S1024x128 .f32) (d : Fin 128) :
    k0_pay32 (F := Ideal) g (k0_pay10 l) (S' q K) k0_pay25 k0_pay26 k0_pay27 k0_pay28 0#32 a (ix2 j d)
      = a (ix2 j d) + ∑ r : Fin 1024, Ideal.exp (scoreDiag q K r j - l (ix3 0 r 0)) * g (ix2 r d) := by
  unfold k0_pay32
  rw [sameSlim]
  exact congrArg (a (ix2 j d) + ·) ((toValues _ g j d).trans (Finset.sum_congr rfl fun r _ => congrArg (· * g (ix2 r d)) (pay29_apply q K l r j)))
theorem pay33_apply (a : FVec Ideal S1024x256 .f32) (d : Fin 256) :
    k0_pay33 (F := Ideal) g (k0_pay10 l) (k0_pay11 g o) a K (S' q K) k0_pay25 k0_pay26 k0_pay27 k0_pay28 0#32 V (ix2 r d)
      = a (ix2 r d) + ∑ j : Fin 1024, dscore (Ideal.exp (scoreDiag q K r j - l (ix3 0 r 0))) g o V r j * K (ix2 j d) :=
  congrArg (a (ix2 r d) + ·) ((toQueries _ K r d).trans (Finset.sum_congr rfl fun j _ => congrArg (· * K (ix2 j d)) (pay30_apply q K l g o V r j)))
theorem slice_lo (x : FVec Ideal S1024x256 .f32) (d : Fin 128) : extractStridedSlice S1024x128 ![0, 0] x slices_S1024x256_o0_0_S1024x128 (ix2 r d) = x (ix2 r (lo d)) := by
  pointwise
  rfl
theorem slice_hi (x : FVec Ideal S1024x256 .f32) (d : Fin 128) : extractStridedSlice S1024x128 ![0, 128] x slices_S1024x256_o0_128_S1024x128 (ix2 r d) = x (ix2 r (hi d)) := by
  pointwise
  rfl
theorem pay34_apply (a : FVec Ideal S1024x256 .f32) (d : Fin 128) :
    k0_pay34 (F := Ideal) g (k0_pay10 l) (k0_pay11 g o) a K (S' q K) k0_pay25 k0_pay26 k0_pay27 k0_pay28 0#32 V (ix2 r d)
      = a (ix2 r (lo d)) + ∑ j : Fin 1024, dscore (Ideal.exp (scoreDiag q K r j - l (ix3 0 r 0))) g o V r j * K (ix2 j (lo d)) := by
  unfold k0_pay34
  exact (slice_lo r _ d).trans (pay33_apply q K l g o V r a (lo d))
end

/-! The second loop's payloads are the first's. -/

theorem pay2_apply (x : Vec Ideal S2048x128 .f32) (i : S2048x128.Idx) : k0_pay2 (F := Ideal) x i = x i := rfl
theorem pay3_apply (x : Vec Ideal S2048x128 .f32) (i : S2048x128.Idx) : k0_pay3 (F := Ideal) x i = x i := rfl
theorem pay4_apply (x y : Vec Ideal S2048x128 .f32) (i : S2048x128.Idx) : k0_pay4 (F := Ideal) x y i = x i + y i := by
  unfold k0_pay4
  exact congrArg (· + y i) (congrFun (shapeCast_id x _) i)
theorem pay5_apply (x : Vec Ideal S2048x128 .bf16) : k0_pay5 (F := Ideal) x = x := shapeCast_id x _
theorem pay6_apply (x : Vec Ideal S2048x128 .bf16) : k0_pay6 (F := Ideal) x = x := shapeCast_id x _
theorem pay7_apply (i : S2048x256.Idx) : k0_pay7 (F := Ideal) i = 0 := by
  unfold k0_pay7; rw [shapeCast_id]; simp [broadcast, Scalar.ofBits, Ideal.ofBits, Ideal.ieee]
theorem pay8_apply (i : S2048x128.Idx) : k0_pay8 (F := Ideal) i = 0 := by
  unfold k0_pay8; rw [shapeCast_id]; simp [broadcast, Scalar.ofBits, Ideal.ofBits, Ideal.ieee]
theorem pay9_apply (i : S2048x128.Idx) : k0_pay9 (F := Ideal) i = 0 := by
  unfold k0_pay9; simp [broadcast, Scalar.ofBits, Ideal.ofBits, Ideal.ieee]

/-- The last lanes turned back: the lane's own multiple, the multiple of the lane 32 places before it, and of the lane 96 places before. -/
theorem pay1_apply (x : FVec Ideal S1024x256 .f32) (u v w : Vec Ideal S1024x128 .f32) (r : Fin 1024) (d : Fin 128) :
    k0_pay1 (F := Ideal) x u v w (ix2 r d)
      = x (ix2 r (hi d)) * u (ix2 r d)
        + x (ix2 r (hi ⟨(d.val + 96) % 128, Nat.mod_lt _ (by decide)⟩)) * v (ix2 r ⟨(d.val + 96) % 128, Nat.mod_lt _ (by decide)⟩)
        + x (ix2 r (hi ⟨(d.val + 32) % 128, Nat.mod_lt _ (by decide)⟩)) * w (ix2 r ⟨(d.val + 32) % 128, Nat.mod_lt _ (by decide)⟩) := by
  unfold k0_pay1
  simp only [sameSlim]
  pointwise
  simp only [show d.val + 128 - 32 = d.val + 96 from rfl, show d.val + 128 - 96 = d.val + 32 from rfl]
  rfl

end Cert.MlabValue
end
-- ==== Proof.Mlab.Rows.lean ====
/- The derivative of a score as a real number, met both ways: from the exponentials under the row's largest score, as the
   reference has it, and from the saved normaliser and average, as the kernel has it. -/
module

public import proofs.«01_k».proof.Proof.Mlab.Ref2
public import proofs.«01_k».proof.Proof.Mlab.Point
public import proofs.«01_k».proof.Proof.Mlaf.Claims

@[expose] public section

noncomputable section

namespace Cert.MlabRows

open Cert.MlabRef Cert.MlafRef Cert.MlafRows Cert.Softmax Cert.MlafClaims Idealize.ShloMosaic
open Cert.MlabValue (delta dscore)
open scoped BigOperators

section
variable (s : Fin 2048 → Fin 2048 → ℝ) (p : Fin 2048 → Fin 2048 → ℝ) (σ : ℝ) (r k : Fin 2048)

/-- The row's mean of the probabilities' derivatives, -/
def mean : ℝ := (∑ i : Fin 2048, wt (ok r) (s r) i * p r i) / total s r
/-- and the derivative of a score. -/
def ds : ℝ := wt (ok r) (s r) k / total s r * (p r k - mean s p r) * σ
end

/-- A key of the second half is later than a query of the first. -/
theorem ds_right (s p : Fin 2048 → Fin 2048 → ℝ) (σ : ℝ) (r j : Fin 1024) : ds s p σ (half 0 r) (half 1 j) = 0 := by
  unfold ds
  rw [wt_right, zero_div, zero_mul, zero_mul]

section
variable {x0 x1 : Wide} {x2 : Slim} {x3 : (⟨2, ![4096, 2048]⟩ : Shape).Idx → EReal} {b : Fin 2} {h : Fin 16} {s p : Fin 2048 → Fin 2048 → ℝ} {σ : ℝ}
  (hs : ∀ r k, scoreA x0 x1 x2 b h r k = (s r k : EReal)) (hp : ∀ r k, dprob x1 x3 b h r k = (p r k : EReal)) (hσ : sc = (σ : EReal))
include hs hp hσ

/-- The reference's derivative of a score. -/
theorem reference_ds (r k : Fin 2048) : dscoreR x0 x1 x2 x3 b h r k = ((ds s p σ r k : ℝ) : EReal) := by
  obtain ⟨μ, hμ⟩ := top_real (ok r) (s r) r le_rfl
  have he : ∀ i, ex x0 x1 x2 b h r i = ((wt (ok r) (s r) i * Real.exp (-μ) : ℝ) : EReal) := fun i => by
    unfold ex
    rw [row_real hs, hμ]
    exact exp_sub (ok r) (s r) μ i
  have hE : 0 < Real.exp (-μ) := Real.exp_pos _
  have hT : 0 < total s r := total_pos s r
  have ht : tot x0 x1 x2 b h r = ((total s r * Real.exp (-μ) : ℝ) : EReal) := by
    unfold tot total
    simp only [he]
    rw [← coe_sum, Finset.sum_mul]
  have hsh : share x0 x1 x2 x3 b h r = ((mean s p r / (total s r * Real.exp (-μ)) : ℝ) : EReal) := by
    unfold share
    simp only [he, hp, ht]
    rw [← EReal.coe_mul, show (1 : EReal) = ((1 : ℝ) : EReal) from rfl, Ideal.div_coe (mul_pos (mul_pos hT hE) (mul_pos hT hE)).ne']
    simp only [← EReal.coe_mul]
    rw [← coe_sum]
    refine congrArg _ ?_
    unfold mean
    rw [div_div, Finset.sum_div]
    refine Finset.sum_congr rfl fun i _ => ?_
    field_simp
  unfold dscoreR ds
  rw [hsh, hp, ht, he, hσ]
  by_cases hk : k.val / 64 ≤ r.val / 64
  · rw [if_pos hk, Ideal.div_coe (mul_pos hT hE).ne', ← EReal.coe_neg, ← EReal.coe_mul, ← EReal.coe_add, ← EReal.coe_mul, ← EReal.coe_mul]
    refine congrArg _ ?_
    field_simp
    ring
  · rw [if_neg hk, show wt (ok r) (s r) k = 0 from if_neg hk, zero_div, zero_mul, zero_mul, zero_mul]
    rfl
end

section
variable {s p : Fin 2048 → Fin 2048 → ℝ} {σ : ℝ} (hσ : sc = (σ : EReal)) (R : Fin 2048)

/-- A weight from the saved normaliser. -/
theorem kernel_weight (k : Fin 2048) : Ideal.exp (masked (ok R) (s R) k - ((Real.log (total s R) : ℝ) : EReal)) = ((wt (ok R) (s R) k / total s R : ℝ) : EReal) := by
  rw [exp_sub, Real.exp_neg, Real.exp_log (total_pos s R)]
  rfl

/-- The row's product of the average and its derivative is the mean. -/
theorem kernel_mean (g : Fin 128 → ℝ) (v : Fin 2048 → Fin 128 → ℝ) (hp : ∀ k, p R k = ∑ d : Fin 128, g d * v k d) :
    (∑ d : Fin 128, ((g d : ℝ) : EReal) * ((weighted s (fun k => v k d) R / total s R : ℝ) : EReal)) = ((mean s p R : ℝ) : EReal) := by
  simp only [← EReal.coe_mul]
  rw [← coe_sum]
  refine congrArg _ ?_
  unfold mean weighted
  simp only [hp, Finset.mul_sum, Finset.sum_div]
  rw [Finset.sum_comm]
  refine Finset.sum_congr rfl fun k _ => Finset.sum_congr rfl fun d _ => ?_
  ring

include hσ
/-- The kernel's derivative of a score. -/
theorem kernel_ds {g o V : Vec Ideal ⟨2, ![1024, 128]⟩ .bf16} {r j : Fin 1024} {w : EReal} {k : Fin 2048}
    (hw : w = ((wt (ok R) (s R) k / total s R : ℝ) : EReal)) (hV : (∑ d : Fin 128, g (ix2 r d) * V (ix2 j d)) = (p R k : EReal))
    (hd : delta g o r = ((mean s p R : ℝ) : EReal)) : dscore w g o V r j = ((ds s p σ R k : ℝ) : EReal) := by
  unfold dscore ds
  rw [hw, hV, hd, hσ, ← EReal.coe_sub, ← EReal.coe_mul, ← EReal.coe_mul]
end

end Cert.MlabRows

end
-- ==== Proof.Mlab.Blocks.lean ====
/- What the array of the queries' derivatives holds after the run, entry by entry, for real arguments. -/
module

public import proofs.«01_k».proof.Proof.Mlab.Outs
public import proofs.«01_k».proof.Proof.Mlab.Prelude
public import proofs.«01_k».proof.Proof.Mlab.Rows
public import Idealize.ShloMosaic.Lib.Pipeline.ValueKit.Tiles

@[expose] public section

noncomputable section

namespace Cert.MlabValue

open Cert.MlabKernelIdeal Cert.MlabKernelIdeal.Gen Cert.Softmax Cert.MlafRows Cert.MlabRows Idealize.ShloMosaic Idealize.ShloMosaic.TcCoe Idealize.SL.Sem
open Cert.MlabRef (dprob early late early_val late_val)
open Cert.MlafClaims (reference_avg reference_norm)
open Idealize.ShloMosaic.Pipeline (Dat)
open scoped BigOperators

/-! ## The kept keys -/

theorem keys_hi (x1 : Vec Ideal S2048x256 .bf16) (x2 : Vec Ideal S2048x128 .bf16) (k : Fin 2048) (d : Fin 128) :
    keys x1 x2 (ix2 k (hi d)) = x2 (ix2 k d) := by
  have e : (Rect.unit (s := S2048x256) ![0, 128] S2048x128.size inb_S2048x256_S2048x128_0_128).emb (ix2 k d) = ix2 k (hi d) := by
    funext a
    apply Fin.ext
    match a with
    | ⟨0, _⟩ => show 0 + 1 * k.val = k.val; omega
    | ⟨1, _⟩ => show 128 + 1 * d.val = 128 + d.val; omega
  unfold keys
  refine (congrArg _ e.symm).trans ((View.canon_cons_emb _ _ _ _).trans ?_)
  exact congrFun (pay6_apply _) _

theorem keys_lo (x1 : Vec Ideal S2048x256 .bf16) (x2 : Vec Ideal S2048x128 .bf16) (k : Fin 2048) (d : Fin 128) :
    keys x1 x2 (ix2 k (lo d)) = x1 (ix2 k (lo d)) := by
  unfold keys
  refine (Cert.MlafValue.canon_skip _ _ k d).trans ?_
  refine (Cert.MlafValue.canon_lo _ k d).trans ?_
  refine (congrFun (pay5_apply _) _).trans ?_
  exact congrArg x1 (Cert.MlafValue.left_emb k d)

/-! ## The result's two lane halves -/

section
variable (a : FVec Ideal S1024x256 .f32) (q K : Vec Ideal S1024x256 .bf16) (g o V : Vec Ideal S1024x128 .bf16) (l : Vec Ideal S1x1024x1 .f32)
  (c u v : Vec Ideal S1024x128 .f32) (r : Fin 1024)

/-- The row's sum over the keys, lane by lane. -/
def acc (e : Fin 256) : EReal := a (ix2 r e) + ∑ j : Fin 1024, dscore (Ideal.exp (scoreDiag q K r j - l (ix3 0 r 0))) g o V r j * K (ix2 j e)

theorem hi_emb (d : Fin 128) : (Rect.unit (s := S1024x256) ![0, 128] S1024x128.size inb_S1024x256_S1024x128_0_128).emb (ix2 r d) = ix2 r (hi d) := by
  funext a
  apply Fin.ext
  match a with
  | ⟨0, _⟩ => show 0 + 1 * r.val = r.val; omega
  | ⟨1, _⟩ => show 128 + 1 * d.val = 128 + d.val; omega
theorem lo_emb (d : Fin 128) : (Rect.unit (s := S1024x256) ![0, 0] S1024x128.size inb_S1024x256_S1024x128_0_0).emb (ix2 r d) = ix2 r (lo d) := by
  funext a
  apply Fin.ext
  match a with
  | ⟨0, _⟩ => show 0 + 1 * r.val = r.val; omega
  | ⟨1, _⟩ => show 0 + 1 * d.val = d.val; omega

theorem outQ_hi (d : Fin 128) : outQ a q g o l c u v K V (ix2 r (hi d))
    = acc a q K g o V l r (hi d) * c (ix2 r d)
      + acc a q K g o V l r (hi ⟨(d.val + 96) % 128, Nat.mod_lt _ (by decide)⟩) * u (ix2 r ⟨(d.val + 96) % 128, Nat.mod_lt _ (by decide)⟩)
      + acc a q K g o V l r (hi ⟨(d.val + 32) % 128, Nat.mod_lt _ (by decide)⟩) * v (ix2 r ⟨(d.val + 32) % 128, Nat.mod_lt _ (by decide)⟩) := by
  unfold outQ
  refine (congrArg _ (hi_emb r d).symm).trans ((View.canon_cons_emb _ _ _ _).trans ((pay1_apply _ _ _ _ r d).trans ?_))
  rw [pay33_apply, pay33_apply, pay33_apply]
  rfl
/-- The right lanes' piece says nothing of the left lanes; -/
theorem skip (w : FVec Ideal S1024x128 .bf16) (L : List (View.Piece (Elt Ideal) S1024x256 .bf16)) (x : S1024x256.Idx)
    (hn : x ∉ (Rect.unit (s := S1024x256) ![0, 128] S1024x128.size inb_S1024x256_S1024x128_0_128).set) :
    View.canon (Val := Elt Ideal) (e := .bf16) (⟨Rect.unit (s := S1024x256) ![0, 128] S1024x128.size inb_S1024x256_S1024x128_0_128, w⟩ :: L) x = View.canon L x :=
  View.canon_cons_of_not_mem _ _ hn
/-- the left lanes' piece holds them. -/
theorem lead (w : FVec Ideal S1024x128 .bf16) (d : Fin 128) :
    View.canon (Val := Elt Ideal) (e := .bf16) [⟨Rect.unit (s := S1024x256) ![0, 0] S1024x128.size inb_S1024x256_S1024x128_0_0, w⟩] (ix2 r (lo d)) = w (ix2 r d) := by
  exact (congrArg _ (lo_emb r d).symm).trans (View.canon_cons_emb _ _ _ _)
theorem outQ_lo (d : Fin 128) : outQ a q g o l c u v K V (ix2 r (lo d)) = acc a q K g o V l r (lo d) := by
  have hn : ix2 r (lo d) ∉ (Rect.unit (s := S1024x256) ![0, 128] S1024x128.size inb_S1024x256_S1024x128_0_128).set := fun hm => by
    obtain ⟨x, hx⟩ := (Rect.unit (s := S1024x256) ![0, 128] S1024x128.size inb_S1024x256_S1024x128_0_128).exists_idx_of_mem hm
    have h1 : (128 + 1 * (x 1).val : ℕ) = d.val := congrArg (fun y : S1024x256.Idx => (y 1).val) hx
    omega
  unfold outQ
  rw [skip _ _ _ hn, lead, pay34_apply]
  rfl
end

/-! ## The blocks -/

variable (m : (ℓ : Loc nD τ sig) → Buf (Elt Ideal) ℓ) (c : Dev nD)

abbrev inG : (⟨S4096x2048, .bf16⟩ : BufTy).Contents (Elt Ideal) := m ((c : Thread nD τ).loc main_arg3)

/-- The grid point of sequence `b`, head `h` and half `i` of the query rows. -/
def pt (b : Fin 2) (h : Fin 16) (i : Fin 2) : Fin cfg0.N :=
  ⟨(b.val * 16 + h.val) * 2 + i.val, lt_of_lt_of_eq (by omega : _ < 64) N_0.symm⟩

/-- A window over a half's rows and a head's columns, one over a head's columns of the whole sequence, and one over a half's rows. -/
theorem idx : ∀ (b : Fin 2) (h : Fin 16) (i : Fin 2), win0_0.index (pt b h i) = ![b.val * 2 + i.val, h.val]
    ∧ win0_1.index (pt b h i) = ![b.val, h.val] ∧ win0_2.index (pt b h i) = ![b.val, 0]
    ∧ win0_3.index (pt b h i) = ![b.val * 2 + i.val, h.val] ∧ win0_4.index (pt b h i) = ![b.val * 2 + i.val, h.val]
    ∧ win0_5.index (pt b h i) = ![h.val, b.val * 2 + i.val, 0] := by decide +kernel
theorem idx' : ∀ (b : Fin 2) (h : Fin 16) (i : Fin 2), win0_6.index (pt b h i) = ![b.val * 2 + i.val, 0]
    ∧ win0_7.index (pt b h i) = ![b.val * 2 + i.val, 0] ∧ win0_8.index (pt b h i) = ![b.val * 2 + i.val, 0]
    ∧ win0_9.index (pt b h i) = ![b.val * 2 + i.val, h.val] := by decide +kernel

theorem offs : ∀ (b : Fin 2) (h : Fin 16) (i : Fin 2), (grid0.coords (pt b h i) 2).val = i.val
    ∧ k0_off7 (grid0.coords (pt b h i)) = ![i.val * 1024, 0] ∧ k0_off8 (grid0.coords (pt b h i)) = ![i.val * 1024, 128] := by decide +kernel

theorem half_row (b i : Fin 2) (r : Fin 1024) : (b.val * 2 + i.val) * 1024 + 1 * r.val = b.val * 2048 + (i.val * 1024 + r.val) := by omega

theorem blk0 (b : Fin 2) (h : Fin 16) (i : Fin 2) (r : Fin 1024) (d : Fin 256) :
    (iblk m c 0 (pt b h i) : Vec Ideal S1024x256 .bf16) (ix2 r d) = inQ m c (ix2 (qr b (half i r)) (cc h d)) := by
  have e := (idx b h i).1
  show (V m c (Pipeline.arrRef spec0 0)) (((cfg0.win 0).blk (pt b h i)).view.emb (ix2 r d)) = _
  refine Eq.trans (congrFun (V_main_arg0 m c) _) (congrArg (inQ m c) ?_)
  funext a
  apply Fin.ext
  match a with
  | ⟨0, _⟩ =>
    show win0_0.index (pt b h i) (0 : Fin 2) * 1024 + 1 * r.val = b.val * 2048 + (i.val * 1024 + r.val)
    rw [e]; exact half_row b i r
  | ⟨1, _⟩ =>
    show win0_0.index (pt b h i) (1 : Fin 2) * 256 + 1 * d.val = h.val * 256 + d.val
    rw [e]; show h.val * 256 + 1 * d.val = _; omega

theorem blk1 (b : Fin 2) (h : Fin 16) (i : Fin 2) (k : Fin 2048) (d : Fin 256) :
    (iblk m c 1 (pt b h i) : Vec Ideal S2048x256 .bf16) (ix2 k d) = inKV m c (ix2 (qr b k) (cc h d)) := by
  have e := (idx b h i).2.1
  show (V m c (Pipeline.arrRef spec0 1)) (((cfg0.win 1).blk (pt b h i)).view.emb (ix2 k d)) = _
  refine Eq.trans (congrFun (V_main_arg1 m c) _) (congrArg (inKV m c) ?_)
  funext a
  apply Fin.ext
  match a with
  | ⟨0, _⟩ =>
    show win0_1.index (pt b h i) (0 : Fin 2) * 2048 + 1 * k.val = b.val * 2048 + k.val
    rw [e]; show b.val * 2048 + 1 * k.val = _; omega
  | ⟨1, _⟩ =>
    show win0_1.index (pt b h i) (1 : Fin 2) * 256 + 1 * d.val = h.val * 256 + d.val
    rw [e]; show h.val * 256 + 1 * d.val = _; omega

theorem blk2 (b : Fin 2) (h : Fin 16) (i : Fin 2) (k : Fin 2048) (d : Fin 128) :
    (iblk m c 2 (pt b h i) : Vec Ideal S2048x128 .bf16) (ix2 k d) = inKR m c (ix2 (qr b k) d) := by
  have e := (idx b h i).2.2.1
  show (V m c (Pipeline.arrRef spec0 2)) (((cfg0.win 2).blk (pt b h i)).view.emb (ix2 k d)) = _
  refine Eq.trans (congrFun (V_main_arg2 m c) _) (congrArg (inKR m c) ?_)
  funext a
  apply Fin.ext
  match a with
  | ⟨0, _⟩ =>
    show win0_2.index (pt b h i) (0 : Fin 2) * 2048 + 1 * k.val = b.val * 2048 + k.val
    rw [e]; show b.val * 2048 + 1 * k.val = _; omega
  | ⟨1, _⟩ =>
    show win0_2.index (pt b h i) (1 : Fin 2) * 128 + 1 * d.val = d.val
    rw [e]; show 0 * 128 + 1 * d.val = _; omega

theorem emb3 (b : Fin 2) (h : Fin 16) (i : Fin 2) (r : Fin 1024) (d : Fin 128) :
    ((cfg0.win 3).blk (pt b h i)).view.emb (ix2 r d) = ix2 (qr b (half i r)) (oc h d) := by
  have e := (idx b h i).2.2.2.1
  funext a
  apply Fin.ext
  match a with
  | ⟨0, _⟩ =>
    show win0_3.index (pt b h i) (0 : Fin 2) * 1024 + 1 * r.val = b.val * 2048 + (i.val * 1024 + r.val)
    rw [e]; exact half_row b i r
  | ⟨1, _⟩ =>
    show win0_3.index (pt b h i) (1 : Fin 2) * 128 + 1 * d.val = h.val * 128 + d.val
    rw [e]; show h.val * 128 + 1 * d.val = _; omega
theorem blk3 (b : Fin 2) (h : Fin 16) (i : Fin 2) (r : Fin 1024) (d : Fin 128) :
    (iblk m c 3 (pt b h i) : Vec Ideal S1024x128 .bf16) (ix2 r d) = inG m c (ix2 (qr b (half i r)) (oc h d)) := by
  show (V m c (Pipeline.arrRef spec0 3)) (((cfg0.win 3).blk (pt b h i)).view.emb (ix2 r d)) = _
  exact Eq.trans (congrFun (V_main_arg3 m c) _) (congrArg (inG m c) (emb3 b h i r d))
theorem emb4 (b : Fin 2) (h : Fin 16) (i : Fin 2) (r : Fin 1024) (d : Fin 128) :
    ((cfg0.win 4).blk (pt b h i)).view.emb (ix2 r d) = ix2 (qr b (half i r)) (oc h d) := by
  have e := (idx b h i).2.2.2.2.1
  funext a
  apply Fin.ext
  match a with
  | ⟨0, _⟩ =>
    show win0_4.index (pt b h i) (0 : Fin 2) * 1024 + 1 * r.val = b.val * 2048 + (i.val * 1024 + r.val)
    rw [e]; exact half_row b i r
  | ⟨1, _⟩ =>
    show win0_4.index (pt b h i) (1 : Fin 2) * 128 + 1 * d.val = h.val * 128 + d.val
    rw [e]; show h.val * 128 + 1 * d.val = _; omega
theorem blk4 (b : Fin 2) (h : Fin 16) (i : Fin 2) (r : Fin 1024) (d : Fin 128) :
    (iblk m c 4 (pt b h i) : Vec Ideal S1024x128 .bf16) (ix2 r d)
      = Cert.MlafReferenceIdeal.Read.val_main_v49 (F := Ideal) (inQ m c) (inKV m c) (inKR m c) (ix2 (qr b (half i r)) (oc h d)) := by
  show (V m c (Pipeline.arrRef spec0 4)) (((cfg0.win 4).blk (pt b h i)).view.emb (ix2 r d)) = _
  exact Eq.trans (congrFun (V_o m c) _) (congrArg _ (emb4 b h i r d))
theorem emb5 (b : Fin 2) (h : Fin 16) (i : Fin 2) (r : Fin 1024) :
    ((cfg0.win 5).blk (pt b h i)).view.emb (ix3 (0 : Fin 1) r (0 : Fin 1)) = ix3 h (qr b (half i r)) (0 : Fin 1) := by
  have e := (idx b h i).2.2.2.2.2
  funext a
  apply Fin.ext
  match a with
  | ⟨0, _⟩ =>
    show win0_5.index (pt b h i) (0 : Fin 3) * 1 + 1 * 0 = h.val
    rw [e]; show h.val * 1 + 1 * 0 = _; omega
  | ⟨1, _⟩ =>
    show win0_5.index (pt b h i) (1 : Fin 3) * 1024 + 1 * r.val = b.val * 2048 + (i.val * 1024 + r.val)
    rw [e]; exact half_row b i r
  | ⟨2, _⟩ =>
    show win0_5.index (pt b h i) (2 : Fin 3) * 1 + 1 * 0 = 0
    rw [e]; rfl
theorem blk5_read (t : Fin cfg0.N) (x : S1x1024x1.Idx) (A : (⟨S16x4096x1, .f32⟩ : BufTy).Contents (Elt Ideal))
    (hA : V m c (Pipeline.arrRef spec0 5) = A) : (iblk m c 5 t : Vec Ideal S1x1024x1 .f32) x = A (((cfg0.win 5).blk t).view.emb x) := by
  unfold iblk
  rw [hA]
  rfl
/-- The saved normalisers. -/
abbrev saved : (⟨S16x4096x1, .f32⟩ : BufTy).Contents (Elt Ideal) := Cert.MlafReferenceIdeal.Read.val_main_v51 (F := Ideal) (inQ m c) (inKV m c) (inKR m c)
theorem blk5 (b : Fin 2) (h : Fin 16) (i : Fin 2) (r : Fin 1024) :
    (iblk m c 5 (pt b h i) : Vec Ideal S1x1024x1 .f32) (ix3 (0 : Fin 1) r (0 : Fin 1)) = saved m c (ix3 h (qr b (half i r)) (0 : Fin 1)) :=
  (blk5_read m c (pt b h i) _ (saved m c) (V_l m c)).trans (congrArg (saved m c) (emb5 b h i r))
theorem blk6 (b : Fin 2) (h : Fin 16) (i : Fin 2) (r : Fin 1024) (d : Fin 128) :
    (iblk m c 6 (pt b h i) : Vec Ideal S1024x128 .f32) (ix2 r d) = four (inC m c) (inC m c) zeros zeros (ix2 (qr b (half i r)) d) := by
  have e := (idx' b h i).1
  show (V m c (Pipeline.arrRef spec0 6)) (((cfg0.win 6).blk (pt b h i)).view.emb (ix2 r d)) = _
  refine Eq.trans (congrFun (V_rc m c) _) (congrArg (four (inC m c) (inC m c) zeros zeros) ?_)
  funext a
  apply Fin.ext
  match a with
  | ⟨0, _⟩ =>
    show win0_6.index (pt b h i) (0 : Fin 2) * 1024 + 1 * r.val = b.val * 2048 + (i.val * 1024 + r.val)
    rw [e]; exact half_row b i r
  | ⟨1, _⟩ =>
    show win0_6.index (pt b h i) (1 : Fin 2) * 128 + 1 * d.val = d.val
    rw [e]; show 0 * 128 + 1 * d.val = _; omega
/-- The multiples of the lane before: minus the sines, in the first 32 lanes. -/
abbrev turn1 : (⟨S4096x128, .f32⟩ : BufTy).Contents (Elt Ideal) := four (Host.negf (inS m c : FVec Ideal S4096x32 .f32) : FVec Ideal S4096x32 .f32) zeros zeros zeros
theorem blk7 (b : Fin 2) (h : Fin 16) (i : Fin 2) (r : Fin 1024) (d : Fin 128) :
    (iblk m c 7 (pt b h i) : Vec Ideal S1024x128 .f32) (ix2 r d) = turn1 m c (ix2 (qr b (half i r)) d) := by
  have e := (idx' b h i).2.1
  show (V m c (Pipeline.arrRef spec0 7)) (((cfg0.win 7).blk (pt b h i)).view.emb (ix2 r d)) = _
  refine Eq.trans (congrFun (V_s1 m c) _) (congrArg (turn1 m c) ?_)
  funext a
  apply Fin.ext
  match a with
  | ⟨0, _⟩ =>
    show win0_7.index (pt b h i) (0 : Fin 2) * 1024 + 1 * r.val = b.val * 2048 + (i.val * 1024 + r.val)
    rw [e]; exact half_row b i r
  | ⟨1, _⟩ =>
    show win0_7.index (pt b h i) (1 : Fin 2) * 128 + 1 * d.val = d.val
    rw [e]; show 0 * 128 + 1 * d.val = _; omega
theorem blk8 (b : Fin 2) (h : Fin 16) (i : Fin 2) (r : Fin 1024) (d : Fin 128) :
    (iblk m c 8 (pt b h i) : Vec Ideal S1024x128 .f32) (ix2 r d) = four zeros (inS m c) zeros zeros (ix2 (qr b (half i r)) d) := by
  have e := (idx' b h i).2.2.1
  show (V m c (Pipeline.arrRef spec0 8)) (((cfg0.win 8).blk (pt b h i)).view.emb (ix2 r d)) = _
  refine Eq.trans (congrFun (V_s2 m c) _) (congrArg (four zeros (inS m c) zeros zeros) ?_)
  funext a
  apply Fin.ext
  match a with
  | ⟨0, _⟩ =>
    show win0_8.index (pt b h i) (0 : Fin 2) * 1024 + 1 * r.val = b.val * 2048 + (i.val * 1024 + r.val)
    rw [e]; exact half_row b i r
  | ⟨1, _⟩ =>
    show win0_8.index (pt b h i) (1 : Fin 2) * 128 + 1 * d.val = d.val
    rw [e]; show 0 * 128 + 1 * d.val = _; omega
theorem emb9 (b : Fin 2) (h : Fin 16) (i : Fin 2) (r : Fin 1024) (d : Fin 256) :
    ((cfg0.win 9).blk (pt b h i)).view.emb (ix2 r d) = ix2 (qr b (half i r)) (cc h d) := by
  have e := (idx' b h i).2.2.2
  funext a
  apply Fin.ext
  match a with
  | ⟨0, _⟩ =>
    show win0_9.index (pt b h i) (0 : Fin 2) * 1024 + 1 * r.val = b.val * 2048 + (i.val * 1024 + r.val)
    rw [e]; exact half_row b i r
  | ⟨1, _⟩ =>
    show win0_9.index (pt b h i) (1 : Fin 2) * 256 + 1 * d.val = h.val * 256 + d.val
    rw [e]; show h.val * 256 + 1 * d.val = _; omega

/-! ## The keys and values a point reads -/

/-- The keys kept for sequence `b` and head `h`. -/
abbrev kept (b : Fin 2) (h : Fin 16) : Vec Ideal S2048x256 .bf16 := keys (iblk m c 1 (pt b h 0)) (iblk m c 2 (pt b h 0))

theorem kept_lo (b : Fin 2) (h : Fin 16) (k : Fin 2048) (d : Fin 128) : kept m c b h (ix2 k (lo d)) = inKV m c (ix2 (qr b k) (cc h (lo d))) :=
  (keys_lo _ _ k d).trans (blk1 m c b h 0 k (lo d))
theorem kept_hi (b : Fin 2) (h : Fin 16) (k : Fin 2048) (d : Fin 128) : kept m c b h (ix2 k (hi d)) = inKR m c (ix2 (qr b k) d) :=
  (keys_hi _ _ k d).trans (blk2 m c b h 0 k d)

theorem keysD_apply (b : Fin 2) (h : Fin 16) (i : Fin 2) (kc : Vec Ideal S2048x256 .bf16) (j : Fin 1024) (d : Fin 256) :
    keysD (grid0.coords (pt b h i)) kc (ix2 j d) = kc (ix2 (half i j) d) := by
  have e := (offs b h i).2.1
  refine View.ld_unit_apply_of _ _ _ _ _ _ fun a => ?_
  refine Eq.trans ?_ (congrArg (· + _) (congrFun e a).symm)
  match a with
  | ⟨0, _⟩ => rfl
  | ⟨1, _⟩ => show d.val = 0 + d.val; omega
theorem valsD_apply (b : Fin 2) (h : Fin 16) (i : Fin 2) (x1 : Vec Ideal S2048x256 .bf16) (j : Fin 1024) (d : Fin 128) :
    valsD (grid0.coords (pt b h i)) x1 (ix2 j d) = x1 (ix2 (half i j) (hi d)) := by
  have e := (offs b h i).2.2
  refine View.ld_unit_apply_of _ _ _ _ _ _ fun a => ?_
  refine Eq.trans ?_ (congrArg (· + _) (congrFun e a).symm)
  match a with
  | ⟨0, _⟩ => rfl
  | ⟨1, _⟩ => rfl
theorem keysL_apply (i : grid0.Coords) (hk) (kc : Vec Ideal S2048x256 .bf16) (j : Fin 1024) (d : Fin 256) :
    keysL i ⟨0, hk⟩ kc (ix2 j d) = kc (ix2 (half 0 j) d) := by
  refine View.ld_unit_apply_of _ _ _ _ _ _ fun a => ?_
  match a with
  | ⟨0, _⟩ => rfl
  | ⟨1, _⟩ => show d.val = 0 + d.val; omega
theorem valsL_apply (i : grid0.Coords) (hk) (x1 : Vec Ideal S2048x256 .bf16) (j : Fin 1024) (d : Fin 128) :
    valsL i ⟨0, hk⟩ x1 (ix2 j d) = x1 (ix2 (half 0 j) (hi d)) := by
  refine View.ld_unit_apply_of _ _ _ _ _ _ fun a => ?_
  match a with
  | ⟨0, _⟩ => rfl
  | ⟨1, _⟩ => rfl

/-- The scores a point meets are those over the argument arrays. -/
theorem scores_met (b : Fin 2) (h : Fin 16) (i i' : Fin 2) (K : Vec Ideal S1024x256 .bf16) (hK : ∀ j d, K (ix2 j d) = kept m c b h (ix2 (half i' j) d))
    (r j : Fin 1024) : scoreRow (iblk m c 0 (pt b h i)) K r j = scoreA (inQ m c) (inKV m c) (inKR m c) b h (half i r) (half i' j) := by
  unfold scoreRow scoreA
  rw [sum_lanes]
  simp only [hK, kept_lo, kept_hi, blk0]

end Cert.MlabValue

end
-- ==== Proof.Mlab.Points.lean ====
/- What the array of the queries' derivatives holds after the run, entry by entry, for real arguments. -/
module

public import proofs.«01_k».proof.Proof.Mlab.Outs
public import proofs.«01_k».proof.Proof.Mlab.Prelude
public import proofs.«01_k».proof.Proof.Mlab.Rows
public import Idealize.ShloMosaic.Lib.Pipeline.ValueKit.Tiles
public import proofs.«01_k».proof.Proof.Mlab.Blocks

@[expose] public section

noncomputable section

namespace Cert.MlabValue

open Cert.MlabKernelIdeal Cert.MlabKernelIdeal.Gen Cert.Softmax Cert.MlafRows Cert.MlabRows Idealize.ShloMosaic Idealize.ShloMosaic.TcCoe Idealize.SL.Sem
open Cert.MlabRef (dprob early late early_val late_val)
open Cert.MlafClaims (reference_avg reference_norm)
open Idealize.ShloMosaic.Pipeline (Dat)
open scoped BigOperators

variable (m : (ℓ : Loc nD τ sig) → Buf (Elt Ideal) ℓ) (c : Dev nD)

/-! ## The points' results -/

section
variable (b : Fin 2) (h : Fin 16)

theorem even : (pt b h 0).val % 2 = 0 := by show ((b.val * 16 + h.val) * 2 + 0) % 2 = 0; omega
theorem even' : ¬ (pt b h 0).val % 2 = 1 := by show ¬ ((b.val * 16 + h.val) * 2 + 0) % 2 = 1; omega
theorem odd : ¬ (pt b h 1).val % 2 = 0 := by show ¬ ((b.val * 16 + h.val) * 2 + 1) % 2 = 0; omega
theorem odd' : (pt b h 1).val % 2 = 1 := by show ((b.val * 16 + h.val) * 2 + 1) % 2 = 1; omega
theorem odd'' : ¬ (pt b h 1).val % 32 = 0 := by show ¬ ((b.val * 16 + h.val) * 2 + 1) % 32 = 0; omega

theorem out_first : (outsAt0 m c (pt b h 0).val (pt b h 0).isLt).1
    = outQ k0_pay12 (iblk m c 0 (pt b h 0)) (iblk m c 3 (pt b h 0)) (iblk m c 4 (pt b h 0)) (iblk m c 5 (pt b h 0)) (iblk m c 6 (pt b h 0))
        (iblk m c 7 (pt b h 0)) (iblk m c 8 (pt b h 0)) (keysD (grid0.coords (pt b h 0)) (kept m c b h)) (valsD (grid0.coords (pt b h 0)) (iblk m c 1 (pt b h 0))) := by
  by_cases h1 : (pt b h 0).val % 32 = 0
  · rw [outsAt0_A m c (pt b h 0) (even b h) h1 (even' b h)]
    dsimp only
    rw [out0_A_9_eq (h := (offs b h 0).1)]
  · rw [outsAt0_C m c (pt b h 0) (even b h) h1 (even' b h)]
    dsimp only
    rw [out0_C_9_eq (h := (offs b h 0).1)]

theorem kept_first : (outsAt0 m c (pt b h 0).val (pt b h 0).isLt).2.2.2.1 = kept m c b h := by
  by_cases h1 : (pt b h 0).val % 32 = 0
  · rw [outsAt0_A m c (pt b h 0) (even b h) h1 (even' b h)]
    dsimp only
    rw [sout0_A_0_eq]
  · rw [outsAt0_C m c (pt b h 0) (even b h) h1 (even' b h)]
    dsimp only
    rw [sout0_C_0_eq]

/-- The loop's one trip at a second half. -/
theorem one_trip : 0 < (k0_t1_loop (grid0.coords (pt b h 1))).trips := trip_lt _ (offs b h 1).1
abbrev K1 : Vec Ideal S1024x256 .bf16 := keysL (grid0.coords (pt b h 1)) ⟨0, one_trip b h⟩ (kept m c b h)
abbrev V1 : Vec Ideal S1024x128 .bf16 := valsL (grid0.coords (pt b h 1)) ⟨0, one_trip b h⟩ (iblk m c 1 (pt b h 1))

theorem before : (outsAt0 m c ((pt b h 1).val - 1) (Nat.lt_of_le_of_lt (Nat.sub_le _ _) (pt b h 1).isLt)).2.2.2.1 = kept m c b h := by
  have hp : outsAt0 m c ((pt b h 1).val - 1) (Nat.lt_of_le_of_lt (Nat.sub_le _ _) (pt b h 1).isLt) = outsAt0 m c (pt b h 0).val (pt b h 0).isLt := rfl
  rw [hp, kept_first]

theorem out_second : (outsAt0 m c (pt b h 1).val (pt b h 1).isLt).1
    = outQ (k0_pay17 (iblk m c 0 (pt b h 1)) (iblk m c 3 (pt b h 1)) (iblk m c 5 (pt b h 1)) (iblk m c 4 (pt b h 1)) k0_pay12 (K1 m c b h) (V1 m c b h))
        (iblk m c 0 (pt b h 1)) (iblk m c 3 (pt b h 1)) (iblk m c 4 (pt b h 1)) (iblk m c 5 (pt b h 1)) (iblk m c 6 (pt b h 1))
        (iblk m c 7 (pt b h 1)) (iblk m c 8 (pt b h 1)) (keysD (grid0.coords (pt b h 1)) (kept m c b h)) (valsD (grid0.coords (pt b h 1)) (iblk m c 1 (pt b h 1))) := by
  rw [outsAt0_B m c (pt b h 1) (odd b h) (odd'' b h) (odd' b h), before]
  dsimp only
  rw [out0_B_9_eq (h := (offs b h 1).1)]
end

end Cert.MlabValue

end
-- ==== Proof.Mlab.Arrays.lean ====
/- What the array of the queries' derivatives holds after the run, entry by entry, for real arguments. -/
module

public import proofs.«01_k».proof.Proof.Mlab.Outs
public import proofs.«01_k».proof.Proof.Mlab.Prelude
public import proofs.«01_k».proof.Proof.Mlab.Rows
public import Idealize.ShloMosaic.Lib.Pipeline.ValueKit.Tiles
public import proofs.«01_k».proof.Proof.Mlab.Points

@[expose] public section

noncomputable section

namespace Cert.MlabValue

open Cert.MlabKernelIdeal Cert.MlabKernelIdeal.Gen Cert.Softmax Cert.MlafRows Cert.MlabRows Idealize.ShloMosaic Idealize.ShloMosaic.TcCoe Idealize.SL.Sem
open Cert.MlabRef (dprob early late early_val late_val)
open Cert.MlafClaims (reference_avg reference_norm)
open Idealize.ShloMosaic.Pipeline (Dat)
open scoped BigOperators

variable (m : (ℓ : Loc nD τ sig) → Buf (Elt Ideal) ℓ) (c : Dev nD)

/-- A point's blocks of the result's derivative and of the saved normalisers. -/
abbrev bG (b : Fin 2) (h : Fin 16) (i : Fin 2) : Vec Ideal S1024x128 .bf16 := iblk m c 3 (pt b h i)
abbrev bL (b : Fin 2) (h : Fin 16) (i : Fin 2) : Vec Ideal S1x1024x1 .f32 := iblk m c 5 (pt b h i)

/-! ## Real arguments -/

/-- What the derivatives of one head of one sequence are made of, as reals: scores, values, the result's derivative, the
    probabilities' derivatives, the scale. -/
structure Reals (b : Fin 2) (h : Fin 16) (s p : Fin 2048 → Fin 2048 → ℝ) (v g : Fin 2048 → Fin 128 → ℝ) (σ : ℝ) : Prop where
  hs : ∀ r k, scoreA (inQ m c) (inKV m c) (inKR m c) b h r k = (s r k : EReal)
  hv : ∀ k d, inKV m c (ix2 (qr b k) (cc h (hi d))) = (v k d : EReal)
  hg : ∀ r d, inG m c (ix2 (qr b r) (oc h d)) = (g r d : EReal)
  hp : ∀ r k, p r k = ∑ d : Fin 128, g r d * v k d
  hσ : sc = (σ : EReal)

section
variable {m c} {b : Fin 2} {h : Fin 16} {s p : Fin 2048 → Fin 2048 → ℝ} {v g : Fin 2048 → Fin 128 → ℝ} {σ : ℝ} (H : Reals m c b h s p v g σ)
include H

theorem mean_met (i : Fin 2) (r : Fin 1024) : delta (bG m c b h i) (iblk m c 4 (pt b h i)) r = ((mean s p (half i r) : ℝ) : EReal) := by
  unfold delta
  simp only [blk3, blk4, H.hg, reference_avg H.hs H.hv]
  exact kernel_mean (half i r) (g (half i r)) v (H.hp (half i r))

theorem norm_met (i : Fin 2) (r : Fin 1024) : bL m c b h i (ix3 (0 : Fin 1) r (0 : Fin 1)) = ((Real.log (total s (half i r)) : ℝ) : EReal) :=
  (blk5 m c b h i r).trans (reference_norm H.hs (half i r))

theorem prob_met (i i' : Fin 2) (V : Vec Ideal S1024x128 .bf16) (hV : ∀ j d, V (ix2 j d) = inKV m c (ix2 (qr b (half i' j)) (cc h (hi d)))) (r j : Fin 1024) :
    (∑ d : Fin 128, bG m c b h i (ix2 r d) * V (ix2 j d)) = ((p (half i r) (half i' j) : ℝ) : EReal) := by
  have e : ∀ d : Fin 128, bG m c b h i (ix2 r d) * V (ix2 j d) = ((g (half i r) d * v (half i' j) d : ℝ) : EReal) := fun d => by
    have e3 : bG m c b h i (ix2 r d) = inG m c (ix2 (qr b (half i r)) (oc h d)) := blk3 m c b h i r d
    rw [e3, hV, H.hg, H.hv, EReal.coe_mul]
  simp only [e]
  rw [← coe_sum, H.hp]

/-- On the diagonal the derivatives of the scores are the reals' ones. -/
theorem ds_diag (i : Fin 2) (r j : Fin 1024) :
    dscore (Ideal.exp (scoreDiag (iblk m c 0 (pt b h i)) (keysD (grid0.coords (pt b h i)) (kept m c b h)) r j - bL m c b h i (ix3 (0 : Fin 1) r (0 : Fin 1))))
      (bG m c b h i) (iblk m c 4 (pt b h i)) (valsD (grid0.coords (pt b h i)) (iblk m c 1 (pt b h i))) r j
      = ((ds s p σ (half i r) (half i j) : ℝ) : EReal) := by
  refine kernel_ds H.hσ (half i r) ?_ (prob_met H i i _ (fun j d => (valsD_apply b h i _ j d).trans (blk1 m c b h i _ _)) r j) (mean_met H i r)
  rw [norm_met H]
  have hm : scoreDiag (iblk m c 0 (pt b h i)) (keysD (grid0.coords (pt b h i)) (kept m c b h)) r j = masked (ok (half i r)) (s (half i r)) (half i j) := by
    unfold scoreDiag masked
    rw [scores_met m c b h i i _ (keysD_apply b h i _), H.hs]
    refine if_congr ?_ rfl rfl
    show _ ↔ (i.val * 1024 + j.val) / 64 ≤ (i.val * 1024 + r.val) / 64
    omega
  rw [hm]
  exact kernel_weight _ _
/-- So they are in the block before it. -/
theorem ds_left (r j : Fin 1024) :
    dscore (Ideal.exp (scoreRow (iblk m c 0 (pt b h 1)) (K1 m c b h) r j - bL m c b h 1 (ix3 (0 : Fin 1) r (0 : Fin 1))))
      (bG m c b h 1) (iblk m c 4 (pt b h 1)) (V1 m c b h) r j
      = ((ds s p σ (half 1 r) (half 0 j) : ℝ) : EReal) := by
  refine kernel_ds H.hσ (half 1 r) ?_ (prob_met H 1 0 _ (fun j d => (valsL_apply _ _ _ j d).trans (blk1 m c b h 1 _ _)) r j) (mean_met H 1 r)
  rw [norm_met H]
  have hm : scoreRow (iblk m c 0 (pt b h 1)) (K1 m c b h) r j = masked (ok (half 1 r)) (s (half 1 r)) (half 0 j) := by
    unfold masked
    rw [scores_met m c b h 1 0 _ (keysL_apply _ _ _), H.hs]
    refine (if_pos ?_).symm
    show (0 * 1024 + j.val) / 64 ≤ (1 * 1024 + r.val) / 64
    omega
  rw [hm]
  exact kernel_weight _ _

/-- The sum over all keys of a row. -/
abbrev whole (m : (ℓ : Loc nD τ sig) → Buf (Elt Ideal) ℓ) (c : Dev nD) (b : Fin 2) (h : Fin 16) (s p : Fin 2048 → Fin 2048 → ℝ) (σ : ℝ) (r : Fin 2048) (e : Fin 256) : EReal :=
  ∑ k : Fin 2048, ((ds s p σ r k : ℝ) : EReal) * kept m c b h (ix2 k e)

theorem acc_first (r : Fin 1024) (e : Fin 256) :
    acc k0_pay12 (iblk m c 0 (pt b h 0)) (keysD (grid0.coords (pt b h 0)) (kept m c b h)) (iblk m c 3 (pt b h 0)) (iblk m c 4 (pt b h 0))
      (valsD (grid0.coords (pt b h 0)) (iblk m c 1 (pt b h 0))) (iblk m c 5 (pt b h 0)) r e = whole m c b h s p σ (half 0 r) e := by
  unfold acc whole
  rw [sum_halves, pay12_apply, zero_add]
  simp only [ds_diag H, keysD_apply, ds_right, EReal.coe_zero, zero_mul, Finset.sum_const_zero, add_zero]
theorem acc_second (r : Fin 1024) (e : Fin 256) :
    acc (k0_pay17 (iblk m c 0 (pt b h 1)) (iblk m c 3 (pt b h 1)) (iblk m c 5 (pt b h 1)) (iblk m c 4 (pt b h 1)) k0_pay12 (K1 m c b h) (V1 m c b h))
      (iblk m c 0 (pt b h 1)) (keysD (grid0.coords (pt b h 1)) (kept m c b h)) (iblk m c 3 (pt b h 1)) (iblk m c 4 (pt b h 1))
      (valsD (grid0.coords (pt b h 1)) (iblk m c 1 (pt b h 1))) (iblk m c 5 (pt b h 1)) r e = whole m c b h s p σ (half 1 r) e := by
  unfold acc whole
  rw [sum_halves, pay17_apply, pay12_apply, zero_add]
  simp only [ds_diag H, ds_left H, keysD_apply, keysL_apply]

/-- The array of the queries' derivatives: the lanes that were not turned, -/
theorem final_lo (i : Fin 2) (r : Fin 1024) (d : Fin 128) : (dats m 0 c).arrAt 9 cfg0.N (ix2 (qr b (half i r)) (cc h (lo d)))
    = whole m c b h s p σ (half i r) (lo d) := by
  refine Eq.trans (congrArg ((dats m 0 c).arrAt 9 cfg0.N) (emb9 b h i r (lo d)).symm) ?_
  refine Eq.trans ((dats m 0 c).arrAt_emb_eq_flushed 9 Value.disjoint9 (pt b h i) (flush0_9 _) (ix2 r (lo d))) ?_
  refine Eq.trans (cast_eq _ _) ?_
  rw [Value.flushed9]
  show (outsAt0 m c (pt b h i).val (pt b h i).isLt).1 (ix2 r (lo d)) = _
  match i with
  | 0 => rw [out_first, outQ_lo]; exact acc_first H r _
  | 1 => rw [out_second, outQ_lo]; exact acc_second H r _
/-- and those turned back. -/
theorem final_hi (i : Fin 2) (r : Fin 1024) (d : Fin 128) : (dats m 0 c).arrAt 9 cfg0.N (ix2 (qr b (half i r)) (cc h (hi d)))
    = whole m c b h s p σ (half i r) (hi d) * four (inC m c) (inC m c) zeros zeros (ix2 (qr b (half i r)) d)
      + whole m c b h s p σ (half i r) (hi ⟨(d.val + 96) % 128, Nat.mod_lt _ (by decide)⟩) * turn1 m c (ix2 (qr b (half i r)) ⟨(d.val + 96) % 128, Nat.mod_lt _ (by decide)⟩)
      + whole m c b h s p σ (half i r) (hi ⟨(d.val + 32) % 128, Nat.mod_lt _ (by decide)⟩) * four zeros (inS m c) zeros zeros (ix2 (qr b (half i r)) ⟨(d.val + 32) % 128, Nat.mod_lt _ (by decide)⟩) := by
  refine Eq.trans (congrArg ((dats m 0 c).arrAt 9 cfg0.N) (emb9 b h i r (hi d)).symm) ?_
  refine Eq.trans ((dats m 0 c).arrAt_emb_eq_flushed 9 Value.disjoint9 (pt b h i) (flush0_9 _) (ix2 r (hi d))) ?_
  refine Eq.trans (cast_eq _ _) ?_
  rw [Value.flushed9]
  show (outsAt0 m c (pt b h i).val (pt b h i).isLt).1 (ix2 r (hi d)) = _
  match i with
  | 0 =>
    rw [out_first, outQ_hi, acc_first H, acc_first H, acc_first H, blk6, blk7, blk8]
  | 1 =>
    rw [out_second, outQ_hi, acc_second H, acc_second H, acc_second H, blk6, blk7, blk8]
end

end Cert.MlabValue

end
-- ==== Proof.Mlab.Claims.lean ====
/- The claims of the backward attention's derivative of the queries: the frames, that only the mask's large negative number is
   read as −∞, and that for finite queries, keys, values and result's derivative the kernel's array is the reference's. -/
module

public import proofs.«01_k».proof.Proof.Mlab.Arrays
public import proofs.«01_k».proof.Proof.Gen.MlabReferenceIdeal.Run
public import proofs.«01_k».proof.Proof.Gen.MlabKernel.Frame
public import proofs.«01_k».proof.Proof.Gen.Pre_mlab_finite
public import proofs.«01_k».proof.Defs

@[expose] public section

noncomputable section

namespace Cert.MlabClaims

open Cert.MlafRows Cert.MlabRows Cert.MlabRef Cert.MlabValue Cert.Softmax Cert.Finite Cert.MlafClaims Idealize.ShloMosaic Idealize.SL.Sem
open scoped BigOperators

/-! ## Frames -/

theorem frame_kernel : Cert.quiescent_MlabKernel := fun m ρ _ => Cert.MlabKernel.Gen.frame m ρ
theorem frame_ideal : Cert.quiescent_MlabKernelIdeal := fun m ρ _ => Cert.MlabKernelIdeal.Gen.frame m ρ
theorem frame_ideal_pre : Cert.quiescent_MlabKernelIdeal_pre_mlab_finite := fun m ρ _ => Cert.MlabKernelIdeal.Gen.frame m ρ
theorem frame_reference : Cert.quiescent_MlabReferenceIdeal := fun m ρ _ =>
  (θ_run Cert.MlabReferenceIdeal.defs _ _).mono (fun r h => ⟨fun c => (h c).2, sem_eq_zero_of_no_sems (by decide) r.2⟩)
    (Cert.MlabReferenceIdeal.Value.run (F := Ideal) m ρ)
theorem frame_reference_pre : Cert.quiescent_MlabReferenceIdeal_pre_mlab_finite := fun m ρ _ => frame_reference m ρ trivial

/-- The mask's number is the one constant read otherwise. -/
theorem preserves : Cert.preserves_MlabKernel_MlabKernelIdeal :=
  IdealRules.named_const.statement Cert.MlabKernelIdeal.κ "mask" .f32 0xF149F2CA#32 ⊥ rfl

/-! ## Values -/

/-- An index of the queries' derivatives is a sequence, a half and row of it, a head and a lane of its first or second half. -/
theorem split_q (x : Cert.MlabKernelIdeal.S4096x4096.Idx) :
    ∃ (b : Fin 2) (h : Fin 16) (i : Fin 2) (r : Fin 1024) (d : Fin 128), x = ix2 (qr b (half i r)) (cc h (lo d)) ∨ x = ix2 (qr b (half i r)) (cc h (hi d)) := by
  have h0 : (x 0).val < 4096 := (x 0).isLt
  have h1 : (x 1).val < 4096 := (x 1).isLt
  refine ⟨⟨(x 0).val / 2048, by omega⟩, ⟨(x 1).val / 256, by omega⟩,
    ⟨(x 0).val % 2048 / 1024, by omega⟩, ⟨(x 0).val % 1024, by omega⟩, ⟨(x 1).val % 128, by omega⟩, ?_⟩
  by_cases hx : (x 1).val % 256 < 128
  · left
    funext a
    apply Fin.ext
    match a with
    | ⟨0, _⟩ => show (x 0).val = (x 0).val / 2048 * 2048 + ((x 0).val % 2048 / 1024 * 1024 + (x 0).val % 1024); omega
    | ⟨1, _⟩ => show (x 1).val = (x 1).val / 256 * 256 + (x 1).val % 128; omega
  · right
    funext a
    apply Fin.ext
    match a with
    | ⟨0, _⟩ => show (x 0).val = (x 0).val / 2048 * 2048 + ((x 0).val % 2048 / 1024 * 1024 + (x 0).val % 1024); omega
    | ⟨1, _⟩ => show (x 1).val = (x 1).val / 256 * 256 + (128 + (x 1).val % 128); omega

section
open Cert.MlabKernelIdeal Cert.MlabReferenceIdeal.Read
variable (m : (ℓ : Loc nD τ sig) → Buf (Elt Ideal) ℓ) (c : Dev nD)

/-- Finite arguments are real ones. -/
theorem reals (hq : ∀ i, Fin' (inQ m c i)) (hkv : ∀ i, Fin' (inKV m c i)) (hkr : ∀ i, Fin' (inKR m c i)) (hg : ∀ i, Fin' (inG m c i))
    (b : Fin 2) (h : Fin 16) : ∃ s p v g σ, Reals m c b h s p v g σ := by
  obtain ⟨s, hs⟩ := real_scores hq hkv hkr b h
  obtain ⟨v, hv⟩ := real_values hkv b h
  obtain ⟨σ, hσ⟩ := sc_real
  choose g hg' using fun (r : Fin 2048) (d : Fin 128) => hg (ix2 (qr b r) (oc h d))
  exact ⟨s, fun r k => ∑ d : Fin 128, g r d * v k d, v, g, σ, hs, hv, hg', fun _ _ => rfl, hσ⟩

variable {m c} {b : Fin 2} {h : Fin 16} {s p : Fin 2048 → Fin 2048 → ℝ} {v g : Fin 2048 → Fin 128 → ℝ} {σ : ℝ} (H : Reals m c b h s p v g σ)
include H

theorem dprob_met (r k : Fin 2048) : dprob (inKV m c) (inG m c) b h r k = (p r k : EReal) := by
  unfold dprob
  simp only [H.hg, H.hv, ← EReal.coe_mul]
  rw [← coe_sum, H.hp]

theorem ds_met (r k : Fin 2048) : dscoreR (inQ m c) (inKV m c) (inKR m c) (inG m c) b h r k = ((ds s p σ r k : ℝ) : EReal) :=
  reference_ds H.hs (dprob_met H) H.hσ r k

/-- The reference's sum over the keys, before it is turned, is the kernel's. -/
theorem turned_met (r : Fin 2048) (d : Fin 128) : gq (inQ m c) (inKV m c) (inKR m c) (inG m c) b h r d = whole m c b h s p σ r (hi d) := by
  unfold gq whole
  simp only [ds_met H, kept_hi]

theorem lanes_lo (i : Fin 2) (r : Fin 1024) (d : Fin 128) :
    val_main_v141 (inQ m c) (inKV m c) (inKR m c) (inG m c) (inC m c) (inS m c) (ix2 (qr b (half i r)) (cc h (lo d)))
      = (Cert.MlabKernelIdeal.Gen.dats m 0 c).arrAt 9 Cert.MlabKernelIdeal.cfg0.N (ix2 (qr b (half i r)) (cc h (lo d))) := by
  rw [final_lo H]
  refine (out_dq_lo _ _ _ _ _ _ b h (half i r) d).trans ?_
  unfold whole
  simp only [ds_met H, kept_lo]

omit H in
theorem add_neg_swap (x y z : EReal) : x + -y * z = x + y * -z := by rw [neg_mul, mul_neg]
omit H in
theorem turn1_pad (R : Fin 4096) (d : Fin 128) (hd : 32 ≤ d.val) : turn1 m c (ix2 R d) = 0 := four_pad' _ _ d hd
omit H in
theorem turn1_early (R : Fin 4096) (n : Fin 32) : turn1 m c (ix2 R (early n)) = - (inS m c (ix2 R n) : EReal) := four_0 _ _ _ _ R (early n) n rfl

theorem lanes_hi (i : Fin 2) (r : Fin 1024) (d : Fin 128) :
    val_main_v141 (inQ m c) (inKV m c) (inKR m c) (inG m c) (inC m c) (inS m c) (ix2 (qr b (half i r)) (cc h (hi d)))
      = (Cert.MlabKernelIdeal.Gen.dats m 0 c).arrAt 9 Cert.MlabKernelIdeal.cfg0.N (ix2 (qr b (half i r)) (cc h (hi d))) := by
  rw [final_hi H]
  let up : Fin 128 := ⟨(d.val + 96) % 128, Nat.mod_lt _ (by decide)⟩
  let dn : Fin 128 := ⟨(d.val + 32) % 128, Nat.mod_lt _ (by decide)⟩
  let R := qr b (half i r)
  change _ = _ + whole m c b h s p σ (half i r) (hi up) * turn1 m c (ix2 R up) + whole m c b h s p σ (half i r) (hi dn) * four zeros (inS m c) zeros zeros (ix2 R dn)
  by_cases hd : 64 ≤ d.val
  · have z2 : turn1 m c (ix2 R up) = 0 := turn1_pad R up (by show 32 ≤ (d.val + 96) % 128; omega)
    have z3 : four zeros (inS m c) zeros zeros (ix2 R dn) = 0 := by
      by_cases hd' : 96 ≤ d.val
      · exact four_skip _ R dn (by show (d.val + 32) % 128 < 32; omega)
      · exact four_pad _ _ R dn (by show 64 ≤ (d.val + 32) % 128; omega)
    rw [z2, z3, four_pad _ _ _ d hd, mul_zero, mul_zero, mul_zero, add_zero, add_zero]
    exact v141_pad _ _ _ _ _ _ _ _ _ _ hd
  · by_cases hd' : d.val < 32
    · obtain ⟨n, rfl⟩ : ∃ n : Fin 32, d = early n := ⟨⟨d.val, hd'⟩, rfl⟩
      have e1 : dn = late n := Fin.ext (by show (n.val + 32) % 128 = 32 + n.val; omega)
      have z2 : turn1 m c (ix2 R up) = 0 := turn1_pad R up (by show 32 ≤ (n.val + 96) % 128; omega)
      have z3 : four zeros (inS m c) zeros zeros (ix2 R (late n)) = inS m c (ix2 R n) := four_1 _ _ _ _ R (late n) n rfl
      have z1 : four (inC m c) (inC m c) zeros zeros (ix2 (qr b (half i r)) (early n)) = inC m c (ix2 R n) := four_0 _ _ _ _ R (early n) n rfl
      rw [z2, e1, z3, z1, mul_zero, add_zero]
      refine (v141_hi _ _ _ _ _ _ b h (half i r) (early n) ⟨n.val, by omega⟩ rfl).trans ((v137_early _ _ _ _ _ _ b h (half i r) _ n rfl).trans ?_)
      rw [turned_met H, turned_met H]
      exact add_comm _ _
    · obtain ⟨n, rfl⟩ : ∃ n : Fin 32, d = late n := ⟨⟨d.val - 32, by omega⟩, Fin.ext (by show d.val = 32 + (d.val - 32); omega)⟩
      have e1 : up = early n := Fin.ext (by show (32 + n.val + 96) % 128 = n.val; omega)
      have z3 : four zeros (inS m c) zeros zeros (ix2 R dn) = 0 := four_pad _ _ R dn (by show 64 ≤ (32 + n.val + 32) % 128; omega)
      have z1 : four (inC m c) (inC m c) zeros zeros (ix2 (qr b (half i r)) (late n)) = inC m c (ix2 R n) := four_1 _ _ _ _ R (late n) n rfl
      rw [e1, turn1_early, z3, z1, mul_zero, add_zero]
      refine (v141_hi _ _ _ _ _ _ b h (half i r) (late n) ⟨32 + n.val, by omega⟩ rfl).trans ((v137_late _ _ _ _ _ _ b h (half i r) _ n rfl).trans ?_)
      rw [turned_met H, turned_met H]
      exact add_neg_swap _ _ _

end

/-- The kernel's derivative of the queries is the reference's, for finite queries, keys, values and result's derivative. -/
theorem algebraic : Cert.algebraic_MlabKernelIdeal_MlabReferenceIdeal_pre_mlab_finite := by
  intro m ρ m' ρ' hpre hagree
  refine ⟨_, (θ_run Cert.MlabKernelIdeal.defs _ _).mono (fun _ h c => ⟨(h c).1, (h c).2.2.2⟩) (Cert.MlabKernelIdeal.Value.run_blocks (F := Ideal) m ρ), ?_⟩
  refine (θ_run Cert.MlabReferenceIdeal.defs _ _).mono (fun _ h c => ?_) (Cert.MlabReferenceIdeal.Value.run (F := Ideal) m' ρ')
  obtain ⟨h0, hrest⟩ := h c
  obtain ⟨e0, e1, e2, e3, e4, e5⟩ := hagree c
  obtain ⟨p0, p1, p2, p3⟩ := hpre c
  have hq : ∀ i, Fin' (inQ m c i) := fun i => of_abs_lt (congrFun p0 i)
  have hkv : ∀ i, Fin' (inKV m c i) := fun i => of_abs_lt (congrFun p1 i)
  have hkr : ∀ i, Fin' (inKR m c i) := fun i => of_abs_lt (congrFun p2 i)
  have hg : ∀ i, Fin' (inG m c i) := fun i => of_abs_lt (congrFun p3 i)
  refine ⟨?_, hrest⟩
  refine h0.trans ?_
  have f0 : StableHlo.launchContents m' c (Proc.tc.devRef Cert.MlabReferenceIdeal.main_arg0) = inQ m c := e0
  have f1 : StableHlo.launchContents m' c (Proc.tc.devRef Cert.MlabReferenceIdeal.main_arg1) = inKV m c := e1
  have f2 : StableHlo.launchContents m' c (Proc.tc.devRef Cert.MlabReferenceIdeal.main_arg2) = inKR m c := e2
  have f3 : StableHlo.launchContents m' c (Proc.tc.devRef Cert.MlabReferenceIdeal.main_arg3) = inG m c := e3
  have f4 : StableHlo.launchContents m' c (Proc.tc.devRef Cert.MlabReferenceIdeal.main_arg4) = inC m c := e4
  have f5 : StableHlo.launchContents m' c (Proc.tc.devRef Cert.MlabReferenceIdeal.main_arg5) = inS m c := e5
  rw [Cert.MlabReferenceIdeal.Read.val_main_v141_eq, f0, f1, f2, f3, f4, f5]
  funext x
  obtain ⟨b, h, i, r, d, hx⟩ := split_q x
  obtain ⟨s, p, v, g, σ, H⟩ := reals m c hq hkv hkr hg b h
  rcases hx with rfl | rfl
  · exact lanes_lo H i r d
  · exact lanes_hi H i r d

end Cert.MlabClaims

end
-- ==== Proof.Mm.Ab.lean ====
/- The first mixer's input product.
   What each grid point computes, what the result array holds after the run, what the reference computes, and the
   claims. -/
module

public import proofs.«01_k».proof.Proof.Gen.AbKernelIdeal.Value
public import proofs.«01_k».proof.Proof.Gen.AbKernel.Frame
public import proofs.«01_k».proof.Proof.Gen.AbReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.AbValue

open Cert.AbKernelIdeal Cert.AbKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_3_eq (x0 : Vec F S1024x2048 .bf16) (x1 : Vec F S2048x1024 .bf16) (x2 : Vec F S8x128 .f32) : out0_3 x0 x1 x2 = k0_pay1 x0 x1 := by
  unfold out0_3
  rw [View.canon_unit_zero hz]
  simp only [View.ld_unit_zero (S := S1024x1024) hz, View.ld_unit_zero (S := S1024x2048) hz, View.ld_unit_zero (S := S2048x1024) hz, View.ld_unit_zero (S := S8x128) hz]

end

theorem last0_apply (x0 : Vec Ideal S1024x2048 .bf16) (x1 : Vec Ideal S2048x1024 .bf16) (p : Fin 1024) (q : Fin 1024) :
    k0_pay1 x0 x1 (ix2 p q) = (∑ t : Fin 2048, x0 (ix2 (p) (t)) * x1 (ix2 (t) (q))) := by
  pointwise [k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 5) (q : Fin 1024) : Fin 5120 := Cert.Mm.tile (by decide) j q
abbrev mid (s : Fin 1) (t : Fin 2048) : Fin 2048 := Cert.Mm.tile (by decide) s t

/-- The grid point of the tiles. -/
def pt (i : Fin 4) (j : Fin 5) (s : Fin 1) : Fin cfg0.N :=
  ⟨(i.val * 5 + j.val) * 1 + s.val, lt_of_lt_of_eq (by omega : _ < 20) N_0.symm⟩

theorem idx : ∀ (i : Fin 4) (j : Fin 5) (s : Fin 1), win0_0.index (pt i j s) = ![i.val, s.val] ∧ win0_1.index (pt i j s) = ![s.val, j.val] ∧ win0_3.index (pt i j s) = ![i.val, j.val] := by
  decide +kernel

variable (m : (ℓ : Loc nD τ sig) → Buf (Elt Ideal) ℓ) (c : Dev nD)

abbrev arg0 : S4096x2048.Idx → EReal := m ((c : Thread nD τ).loc main_arg0)
abbrev arg1 : S2048x5120.Idx → EReal := m ((c : Thread nD τ).loc main_arg1)

theorem blk0 (i : Fin 4) (j : Fin 5) (s : Fin 1) (p : Fin 1024) (t : Fin 2048) :
    (iblk m c 0 (pt i j s) : Vec Ideal S1024x2048 .bf16) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 2048 + 1 * t.val = _; rw [e]; rfl

theorem blk1 (i : Fin 4) (j : Fin 5) (s : Fin 1) (t : Fin 2048) (q : Fin 1024) :
    (iblk m c 1 (pt i j s) : Vec Ideal S2048x1024 .bf16) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 1024 + 1 * q.val = _; rw [e]; rfl

theorem emb3 (i : Fin 4) (j : Fin 5) (s : Fin 1) (p : Fin 1024) (q : Fin 1024) :
    ((cfg0.win 3).blk (pt i j s)).view.emb (ix2 p q) = ix2 (row i p) (col j q) := by
  have e := (idx i j s).2.2
  refine Cert.Mm.idx_tile ?_ ?_
  · show win0_3.index (pt i j s) 0 * 1024 + 1 * p.val = _; rw [e]; rfl
  · show win0_3.index (pt i j s) 1 * 1024 + 1 * q.val = _; rw [e]; rfl

/-- The result array after the run. -/
theorem final3 (i : Fin 4) (j : Fin 5) (p : Fin 1024) (q : Fin 1024) :
    (dats m 0 c).arrAt 3 cfg0.N (ix2 (row i p) (col j q)) = (∑ k : Fin 2048, arg0 m c (ix2 (row i p) (k)) * arg1 m c (ix2 (k) (col j q))) := by
  refine Eq.trans (congrArg ((dats m 0 c).arrAt 3 cfg0.N) (emb3 i j 0 p q).symm) ?_
  refine Eq.trans ((dats m 0 c).arrAt_emb_eq_flushed 3 Value.disjoint3 (pt i j 0) (flush0_3 _) (ix2 p q)) ?_
  refine Eq.trans (cast_eq _ _) ?_
  rw [Value.flushed3, out0_3_eq]
  show k0_pay1 (F := Ideal) (iblk m c 0 (pt i j 0)) (iblk m c 1 (pt i j 0)) (ix2 p q) = _
  rw [last0_apply]
  simp only [blk0, blk1, Cert.Mm.tile_one]

end Cert.AbValue

/-! ## The reference -/

namespace Cert.AbRef

open Cert.AbReferenceIdeal Cert.AbReferenceIdeal.Gen Cert.AbReferenceIdeal.Read Cert.EReals Idealize.ShloMosaic
open scoped BigOperators

theorem ref0_apply (x0 : (⟨S4096x2048, .bf16⟩ : BufTy).Contents (Elt Ideal)) (x1 : (⟨S2048x5120, .bf16⟩ : BufTy).Contents (Elt Ideal)) (r : Fin 4096) (s : Fin 5120) :
    val_main_v2 x0 x1 (ix2 r s) = (∑ k : Fin 2048, x0 (ix2 (r) (k)) * x1 (ix2 (k) (s))) := by
  pointwise [val_main_v2, val_main_v0, val_main_v1]

end Cert.AbRef

/-! ## The claims -/

namespace Cert.AbClaims

open Cert.AbValue Idealize.ShloMosaic Idealize.SL.Sem

theorem frame_kernel : Cert.quiescent_AbKernel := fun m ρ _ => Cert.AbKernel.Gen.frame m ρ
theorem frame_ideal : Cert.quiescent_AbKernelIdeal := fun m ρ _ => Cert.AbKernelIdeal.Gen.frame m ρ
theorem frame_reference : Cert.quiescent_AbReferenceIdeal := fun m ρ _ =>
  (θ_run Cert.AbReferenceIdeal.defs _ _).mono (fun r h => ⟨fun c => (h c).2, sem_eq_zero_of_no_sems (by decide) r.2⟩)
    (Cert.AbReferenceIdeal.Value.run (F := Ideal) m ρ)

/-- The kernel's result is the reference's, on all extended reals. -/
theorem algebraic : Cert.algebraic_AbKernelIdeal_AbReferenceIdeal := by
  intro m ρ m' ρ' _ hagree
  refine ⟨_, Cert.AbKernelIdeal.Value.run_blocks (F := Ideal) m ρ, ?_⟩
  refine (θ_run Cert.AbReferenceIdeal.defs _ _).mono (fun _ h c => ?_) (Cert.AbReferenceIdeal.Value.run (F := Ideal) m' ρ')
  obtain ⟨h0, hrest⟩ := h c
  obtain ⟨e0, e1, e2⟩ := hagree c
  refine ⟨?_, hrest⟩
  · refine h0.trans ?_
    rw [e0, e1]
    refine Eq.trans (Cert.AbReferenceIdeal.Read.val_main_v2_eq _ _) ?_
    funext x
    obtain ⟨i, j, p, q, rfl⟩ := Cert.Mm.exists_idx_tile (a0 := 4) (a1 := 5) (t0 := 1024) (t1 := 1024) (by decide) (by decide) x
    exact (Cert.AbRef.ref0_apply _ _ (row i p) (col j q)).trans (final3 m c i j p q).symm

end Cert.AbClaims

end
-- ==== Proof.Mm.Abdw.lean ====
/- The gradient of the first mixer's input weight.
   What each grid point computes, what the result array holds after the run, what the reference computes, and the
   claims. -/
module

public import proofs.«01_k».proof.Proof.Gen.AbdwKernelIdeal.Value
public import proofs.«01_k».proof.Proof.Gen.AbdwKernel.Frame
public import proofs.«01_k».proof.Proof.Gen.AbdwReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.AbdwValue

open Cert.AbdwKernelIdeal Cert.AbdwKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The first step along the contracted axis stores its product; -/
theorem sout0_A_0_eq (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec F S2048x1024 .bf16) (x1 : Vec F S2048x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz, View.ld_unit_zero (S := S2048x1024) hz, View.readCov_unit_zero (S := S2048x1024) _ hz]

/-- the last one writes the sum out. -/
theorem out0_B_2_eq (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (hc2 : cond0_2 i)
    (x0 : Vec F S2048x1024 .bf16) (x1 : Vec F S2048x1024 .bf16) (xs0 : Vec F S1024x1024 .f32) :
    out0_B_2 c i arg3 harg3 arg4 harg4 arg5 harg5 arg6 harg6 hc0 hc1 hc2 x0 x1 xs0 = k0_pay4 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz, View.ld_unit_zero (S := S2048x1024) hz, View.readCov_unit_zero (S := S2048x1024) _ hz]

end

theorem first_apply (x0 : Vec Ideal S2048x1024 .bf16) (x1 : Vec Ideal S2048x1024 .bf16) (p : Fin 1024) (q : Fin 1024) :
    k0_pay2 x0 x1 (ix2 p q) = ∑ t : Fin 2048, x0 (ix2 (t) (p)) * x1 (ix2 (t) (q)) := by
  pointwise [k0_pay2, k0_pay1]

theorem last0_apply (x0 : Vec Ideal S2048x1024 .bf16) (x1 : Vec Ideal S2048x1024 .bf16) (xs0 : Vec Ideal S1024x1024 .f32) (p : Fin 1024) (q : Fin 1024) :
    k0_pay4 x0 x1 xs0 (ix2 p q) = ((xs0 (ix2 p q) + ∑ t : Fin 2048, x0 (ix2 (t) (p)) * x1 (ix2 (t) (q)))) := by
  pointwise [k0_pay4, k0_pay1]

/-! ## The arrays -/

/-- Row `p` of row tile `i`, column `q` of column tile `j`, place `t` of tile `s` of the contracted axis. -/
abbrev row (i : Fin 2) (p : Fin 1024) : Fin 2048 := Cert.Mm.tile (by decide) i p
abbrev col (j : Fin 5) (q : Fin 1024) : Fin 5120 := Cert.Mm.tile (by decide) j q
abbrev mid (s : Fin 2) (t : Fin 2048) : Fin 4096 := Cert.Mm.tile (by decide) s t

/-- The grid point of the tiles. -/
def pt (i : Fin 2) (j : Fin 5) (s : Fin 2) : Fin cfg0.N :=
  ⟨(i.val * 5 + j.val) * 2 + s.val, lt_of_lt_of_eq (by omega : _ < 20) N_0.symm⟩

theorem idx : ∀ (i : Fin 2) (j : Fin 5) (s : Fin 2), win0_0.index (pt i j s) = ![s.val, i.val] ∧ win0_1.index (pt i j s) = ![s.val, j.val] ∧ win0_2.index (pt i j s) = ![i.val, j.val] := by
  decide +kernel

variable (m : (ℓ : Loc nD τ sig) → Buf (Elt Ideal) ℓ) (c : Dev nD)

abbrev arg0 : S4096x2048.Idx → EReal := m ((c : Thread nD τ).loc main_arg0)
abbrev arg1 : S4096x5120.Idx → EReal := m ((c : Thread nD τ).loc main_arg1)

theorem blk0 (i : Fin 2) (j : Fin 5) (s : Fin 2) (t : Fin 2048) (p : Fin 1024) :
    (iblk m c 0 (pt i j s) : Vec Ideal S2048x1024 .bf16) (ix2 t p) = arg0 m c (ix2 (mid s t) (row i p)) := by
  have e := (idx i j s).1
  show (V m c (Pipeline.arrRef spec0 0)) (((cfg0.win 0).blk (pt i j s)).view.emb (ix2 t p)) = _
  refine Eq.trans (congrFun (V_main_arg0 m c) _) (congrArg (arg0 m c) (Cert.Mm.idx_tile ?_ ?_))
  · show win0_0.index (pt i j s) 0 * 2048 + 1 * t.val = _; rw [e]; rfl
  · show win0_0.index (pt i j s) 1 * 1024 + 1 * p.val = _; rw [e]; rfl

theorem blk1 (i : Fin 2) (j : Fin 5) (s : Fin 2) (t : Fin 2048) (q : Fin 1024) :
    (iblk m c 1 (pt i j s) : Vec Ideal S2048x1024 .bf16) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 1024 + 1 * q.val = _; rw [e]; rfl

theorem emb2 (i : Fin 2) (j : Fin 5) (s : Fin 2) (p : Fin 1024) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 1024 + 1 * q.val = _; rw [e]; rfl

theorem acc0 (i : Fin 2) (j : Fin 5) : (outsAt0 m c (pt i j 0).val (pt i j 0).isLt).2
    = k0_pay2 (F := Ideal) (iblk m c 0 (pt i j 0)) (iblk m c 1 (pt i j 0)) := by
  have hv : (pt i j 0).val % 2 = 0 := by show ((i.val * 5 + j.val) * 2 + 0) % 2 = 0; omega
  rw [outsAt0_A m c (pt i j 0) (by omega) (by omega)]
  dsimp only
  rw [sout0_A_0_eq]

theorem disjoint2 : ∀ t t' : Fin cfg0.N, (cfg0.win 2).flush t = true → (cfg0.win 2).flush t' = true → t ≠ t' →
    Disjoint ((cfg0.win 2).blk t).view.set ((cfg0.win 2).blk t').view.set :=
  fun t t' f f' hne => (cfg0.win 2).disjoint_blk fun h => hne
    ((by decide +kernel : ∀ t t' : Fin grid0.N, t.val % 2 = 1 → t'.val % 2 = 1 → win0_2.index t = win0_2.index t' → t = t') t t'
      ((flush0_2 t).mp f) ((flush0_2 t').mp f') h)

/-- The result array after the run. -/
theorem final2 (i : Fin 2) (j : Fin 5) (p : Fin 1024) (q : Fin 1024) :
    (dats m 0 c).arrAt 2 cfg0.N (ix2 (row i p) (col j q)) = (∑ k : Fin 4096, arg0 m c (ix2 (k) (row i p)) * arg1 m c (ix2 (k) (col j q))) := by
  refine Eq.trans (congrArg ((dats m 0 c).arrAt 2 cfg0.N) (emb2 i j 1 p q).symm) ?_
  have hv : (pt i j 1).val % 2 = 1 := by show ((i.val * 5 + j.val) * 2 + 1) % 2 = 1; omega
  have hp : outsAt0 m c ((pt i j 1).val - 1) (Nat.lt_of_le_of_lt (Nat.sub_le _ _) (pt i j 1).isLt) = outsAt0 m c (pt i j 0).val (pt i j 0).isLt := rfl
  refine Eq.trans ((dats m 0 c).arrAt_emb_eq_flushed 2 disjoint2 (pt i j 1) ((flush0_2 _).mpr hv) (ix2 p q)) ?_
  refine Eq.trans (cast_eq _ _) ?_
  rw [Value.flushed2]
  show (outsAt0 m c (pt i j 1).val (pt i j 1).isLt).1 (ix2 p q) = _
  rw [outsAt0_B m c (pt i j 1) (by omega) (by omega), hp]
  dsimp only
  rw [out0_B_2_eq, acc0, last0_apply, first_apply]
  simp only [blk0, blk1]
  rw [Cert.Mm.sum_two_tiles (n := 4096) (t := 2048) (by decide)]

end Cert.AbdwValue

/-! ## The reference -/

namespace Cert.AbdwRef

open Cert.AbdwReferenceIdeal Cert.AbdwReferenceIdeal.Gen Cert.AbdwReferenceIdeal.Read Cert.EReals Idealize.ShloMosaic
open scoped BigOperators

theorem ref0_apply (x0 : (⟨S4096x2048, .bf16⟩ : BufTy).Contents (Elt Ideal)) (x1 : (⟨S4096x5120, .bf16⟩ : BufTy).Contents (Elt Ideal)) (r : Fin 2048) (s : Fin 5120) :
    val_main_v6 x0 x1 (ix2 r s) = (∑ k : Fin 4096, x0 (ix2 (k) (r)) * x1 (ix2 (k) (s))) := by
  pointwise [val_main_v6, val_main_v5, val_main_v4, val_main_v1, val_main_v0]
  exact Finset.sum_congr rfl fun k _ => mul_comm _ _

end Cert.AbdwRef

/-! ## The claims -/

namespace Cert.AbdwClaims

open Cert.AbdwValue Idealize.ShloMosaic Idealize.SL.Sem

theorem frame_kernel : Cert.quiescent_AbdwKernel := fun m ρ _ => Cert.AbdwKernel.Gen.frame m ρ
theorem frame_ideal : Cert.quiescent_AbdwKernelIdeal := fun m ρ _ => Cert.AbdwKernelIdeal.Gen.frame m ρ
theorem frame_reference : Cert.quiescent_AbdwReferenceIdeal := fun m ρ _ =>
  (θ_run Cert.AbdwReferenceIdeal.defs _ _).mono (fun r h => ⟨fun c => (h c).2, sem_eq_zero_of_no_sems (by decide) r.2⟩)
    (Cert.AbdwReferenceIdeal.Value.run (F := Ideal) m ρ)

/-- The kernel's result is the reference's, on all extended reals. -/
theorem algebraic : Cert.algebraic_AbdwKernelIdeal_AbdwReferenceIdeal := by
  intro m ρ m' ρ' _ hagree
  refine ⟨_, Cert.AbdwKernelIdeal.Value.run_blocks (F := Ideal) m ρ, ?_⟩
  refine (θ_run Cert.AbdwReferenceIdeal.defs _ _).mono (fun _ h c => ?_) (Cert.AbdwReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.AbdwReferenceIdeal.Read.val_main_v6_eq _ _) ?_
    funext x
    obtain ⟨i, j, p, q, rfl⟩ := Cert.Mm.exists_idx_tile (a0 := 2) (a1 := 5) (t0 := 1024) (t1 := 1024) (by decide) (by decide) x
    exact (Cert.AbdwRef.ref0_apply _ _ (row i p) (col j q)).trans (final2 m c i j p q).symm

end Cert.AbdwClaims

end
-- ==== Proof.Mm.Abdx.lean ====
/- The gradient of the first mixer's input product's argument.
   What each grid point computes, what the result array holds after the run, what the reference computes, and the
   claims. -/
module

public import proofs.«01_k».proof.Proof.Gen.AbdxKernelIdeal.Value
public import proofs.«01_k».proof.Proof.Gen.AbdxKernel.Frame
public import proofs.«01_k».proof.Proof.Gen.AbdxReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.AbdxValue

open Cert.AbdxKernelIdeal Cert.AbdxKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The first step along the contracted axis stores its product; -/
theorem sout0_A_0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec F S1024x1024 .bf16) (x1 : Vec F S1024x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz]

/-- a middle one adds its product to what is there; -/
theorem sout0_B_0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec F S1024x1024 .bf16) (x1 : Vec F S1024x1024 .bf16) (xs0 : Vec F S1024x1024 .f32) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz]

/-- the last one writes the sum out. -/
theorem out0_C_2_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (hc2 : cond0_2 i)
    (x0 : Vec F S1024x1024 .bf16) (x1 : Vec F S1024x1024 .bf16) (xs0 : Vec F S1024x1024 .f32) :
    out0_C_2 c i arg3 harg3 arg4 harg4 arg5 harg5 arg6 harg6 hc0 hc1 hc2 x0 x1 xs0 = k0_pay4 x0 x1 xs0 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz]

end

theorem first_apply (x0 : Vec Ideal S1024x1024 .bf16) (x1 : Vec Ideal S1024x1024 .bf16) (p : Fin 1024) (q : Fin 1024) :
    k0_pay2 x0 x1 (ix2 p q) = ∑ t : Fin 1024, x0 (ix2 (p) (t)) * x1 (ix2 (q) (t)) := by
  pointwise [k0_pay2, k0_pay1]

theorem mid_apply (x0 : Vec Ideal S1024x1024 .bf16) (x1 : Vec Ideal S1024x1024 .bf16) (xs0 : Vec Ideal S1024x1024 .f32) (p : Fin 1024) (q : Fin 1024) :
    k0_pay3 x0 x1 xs0 (ix2 p q) = xs0 (ix2 p q) + ∑ t : Fin 1024, x0 (ix2 (p) (t)) * x1 (ix2 (q) (t)) := by
  pointwise [k0_pay3, k0_pay1]

theorem last0_apply (x0 : Vec Ideal S1024x1024 .bf16) (x1 : Vec Ideal S1024x1024 .bf16) (xs0 : Vec Ideal S1024x1024 .f32) (p : Fin 1024) (q : Fin 1024) :
    k0_pay4 x0 x1 xs0 (ix2 p q) = ((xs0 (ix2 p q) + ∑ t : Fin 1024, x0 (ix2 (p) (t)) * x1 (ix2 (q) (t)))) := by
  pointwise [k0_pay4, k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 2) (q : Fin 1024) : Fin 2048 := Cert.Mm.tile (by decide) j q
abbrev mid (s : Fin 5) (t : Fin 1024) : Fin 5120 := Cert.Mm.tile (by decide) s t

/-- The grid point of the tiles. -/
def pt (i : Fin 4) (j : Fin 2) (s : Fin 5) : Fin cfg0.N :=
  ⟨(i.val * 2 + j.val) * 5 + s.val, lt_of_lt_of_eq (by omega : _ < 40) N_0.symm⟩

theorem idx : ∀ (i : Fin 4) (j : Fin 2) (s : Fin 5), win0_0.index (pt i j s) = ![i.val, s.val] ∧ win0_1.index (pt i j s) = ![j.val, s.val] ∧ win0_2.index (pt i j s) = ![i.val, j.val] := by
  decide +kernel

variable (m : (ℓ : Loc nD τ sig) → Buf (Elt Ideal) ℓ) (c : Dev nD)

abbrev arg0 : S4096x5120.Idx → EReal := m ((c : Thread nD τ).loc main_arg0)
abbrev arg1 : S2048x5120.Idx → EReal := m ((c : Thread nD τ).loc main_arg1)

theorem blk0 (i : Fin 4) (j : Fin 2) (s : Fin 5) (p : Fin 1024) (t : Fin 1024) :
    (iblk m c 0 (pt i j s) : Vec Ideal S1024x1024 .bf16) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 1024 + 1 * t.val = _; rw [e]; rfl

theorem blk1 (i : Fin 4) (j : Fin 2) (s : Fin 5) (q : Fin 1024) (t : Fin 1024) :
    (iblk m c 1 (pt i j s) : Vec Ideal S1024x1024 .bf16) (ix2 q t) = arg1 m c (ix2 (col j q) (mid s t)) := by
  have e := (idx i j s).2.1
  show (V m c (Pipeline.arrRef spec0 1)) (((cfg0.win 1).blk (pt i j s)).view.emb (ix2 q t)) = _
  refine Eq.trans (congrFun (V_main_arg1 m c) _) (congrArg (arg1 m c) (Cert.Mm.idx_tile ?_ ?_))
  · show win0_1.index (pt i j s) 0 * 1024 + 1 * q.val = _; rw [e]; rfl
  · show win0_1.index (pt i j s) 1 * 1024 + 1 * t.val = _; rw [e]; rfl

theorem emb2 (i : Fin 4) (j : Fin 2) (s : Fin 5) (p : Fin 1024) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 1024 + 1 * q.val = _; rw [e]; rfl

theorem acc0 (i : Fin 4) (j : Fin 2) : (outsAt0 m c (pt i j 0).val (pt i j 0).isLt).2
    = k0_pay2 (F := Ideal) (iblk m c 0 (pt i j 0)) (iblk m c 1 (pt i j 0)) := by
  have hv : (pt i j 0).val % 5 = 0 := by show ((i.val * 2 + j.val) * 5 + 0) % 5 = 0; omega
  rw [outsAt0_A m c (pt i j 0) (by omega) (by omega) (by omega)]
  dsimp only
  rw [sout0_A_0_eq]

theorem acc1 (i : Fin 4) (j : Fin 2) : (outsAt0 m c (pt i j 1).val (pt i j 1).isLt).2
    = k0_pay3 (F := Ideal) (iblk m c 0 (pt i j 1)) (iblk m c 1 (pt i j 1)) (outsAt0 m c (pt i j 0).val (pt i j 0).isLt).2 := by
  have hv : (pt i j 1).val % 5 = 1 := by show ((i.val * 2 + j.val) * 5 + 1) % 5 = 1; omega
  have hp : outsAt0 m c ((pt i j 1).val - 1) (Nat.lt_of_le_of_lt (Nat.sub_le _ _) (pt i j 1).isLt) = outsAt0 m c (pt i j 0).val (pt i j 0).isLt := rfl
  rw [outsAt0_B m c (pt i j 1) (by omega) (by omega) (by omega), hp]
  dsimp only
  rw [sout0_B_0_eq]

theorem acc2 (i : Fin 4) (j : Fin 2) : (outsAt0 m c (pt i j 2).val (pt i j 2).isLt).2
    = k0_pay3 (F := Ideal) (iblk m c 0 (pt i j 2)) (iblk m c 1 (pt i j 2)) (outsAt0 m c (pt i j 1).val (pt i j 1).isLt).2 := by
  have hv : (pt i j 2).val % 5 = 2 := by show ((i.val * 2 + j.val) * 5 + 2) % 5 = 2; omega
  have hp : outsAt0 m c ((pt i j 2).val - 1) (Nat.lt_of_le_of_lt (Nat.sub_le _ _) (pt i j 2).isLt) = outsAt0 m c (pt i j 1).val (pt i j 1).isLt := rfl
  rw [outsAt0_B m c (pt i j 2) (by omega) (by omega) (by omega), hp]
  dsimp only
  rw [sout0_B_0_eq]

theorem acc3 (i : Fin 4) (j : Fin 2) : (outsAt0 m c (pt i j 3).val (pt i j 3).isLt).2
    = k0_pay3 (F := Ideal) (iblk m c 0 (pt i j 3)) (iblk m c 1 (pt i j 3)) (outsAt0 m c (pt i j 2).val (pt i j 2).isLt).2 := by
  have hv : (pt i j 3).val % 5 = 3 := by show ((i.val * 2 + j.val) * 5 + 3) % 5 = 3; omega
  have hp : outsAt0 m c ((pt i j 3).val - 1) (Nat.lt_of_le_of_lt (Nat.sub_le _ _) (pt i j 3).isLt) = outsAt0 m c (pt i j 2).val (pt i j 2).isLt := rfl
  rw [outsAt0_B m c (pt i j 3) (by omega) (by omega) (by omega), hp]
  dsimp only
  rw [sout0_B_0_eq]

theorem disjoint2 : ∀ t t' : Fin cfg0.N, (cfg0.win 2).flush t = true → (cfg0.win 2).flush t' = true → t ≠ t' →
    Disjoint ((cfg0.win 2).blk t).view.set ((cfg0.win 2).blk t').view.set :=
  fun t t' f f' hne => (cfg0.win 2).disjoint_blk fun h => hne
    ((by decide +kernel : ∀ t t' : Fin grid0.N, t.val % 5 = 4 → t'.val % 5 = 4 → win0_2.index t = win0_2.index t' → t = t') t t'
      ((flush0_2 t).mp f) ((flush0_2 t').mp f') h)

/-- The result array after the run. -/
theorem final2 (i : Fin 4) (j : Fin 2) (p : Fin 1024) (q : Fin 1024) :
    (dats m 0 c).arrAt 2 cfg0.N (ix2 (row i p) (col j q)) = (∑ k : Fin 5120, arg0 m c (ix2 (row i p) (k)) * arg1 m c (ix2 (col j q) (k))) := by
  refine Eq.trans (congrArg ((dats m 0 c).arrAt 2 cfg0.N) (emb2 i j 4 p q).symm) ?_
  have hv : (pt i j 4).val % 5 = 4 := by show ((i.val * 2 + j.val) * 5 + 4) % 5 = 4; omega
  have hp : outsAt0 m c ((pt i j 4).val - 1) (Nat.lt_of_le_of_lt (Nat.sub_le _ _) (pt i j 4).isLt) = outsAt0 m c (pt i j 3).val (pt i j 3).isLt := rfl
  refine Eq.trans ((dats m 0 c).arrAt_emb_eq_flushed 2 disjoint2 (pt i j 4) ((flush0_2 _).mpr hv) (ix2 p q)) ?_
  refine Eq.trans (cast_eq _ _) ?_
  rw [Value.flushed2]
  show (outsAt0 m c (pt i j 4).val (pt i j 4).isLt).1 (ix2 p q) = _
  rw [outsAt0_C m c (pt i j 4) (by omega) (by omega) (by omega), hp]
  dsimp only
  rw [out0_C_2_eq, acc3, acc2, acc1, acc0, last0_apply, mid_apply, mid_apply, mid_apply, first_apply]
  simp only [blk0, blk1]
  rw [Cert.Mm.sum_five_tiles (n := 5120) (t := 1024) (by decide)]

end Cert.AbdxValue

/-! ## The reference -/

namespace Cert.AbdxRef

open Cert.AbdxReferenceIdeal Cert.AbdxReferenceIdeal.Gen Cert.AbdxReferenceIdeal.Read Cert.EReals Idealize.ShloMosaic
open scoped BigOperators

theorem ref0_apply (x0 : (⟨S4096x5120, .bf16⟩ : BufTy).Contents (Elt Ideal)) (x1 : (⟨S2048x5120, .bf16⟩ : BufTy).Contents (Elt Ideal)) (r : Fin 4096) (s : Fin 2048) :
    val_main_v5 x0 x1 (ix2 r s) = (∑ k : Fin 5120, x0 (ix2 (r) (k)) * x1 (ix2 (s) (k))) := by
  pointwise [val_main_v5, val_main_v4, val_main_v1, val_main_v0]

end Cert.AbdxRef

/-! ## The claims -/

namespace Cert.AbdxClaims

open Cert.AbdxValue Idealize.ShloMosaic Idealize.SL.Sem

theorem frame_kernel : Cert.quiescent_AbdxKernel := fun m ρ _ => Cert.AbdxKernel.Gen.frame m ρ
theorem frame_ideal : Cert.quiescent_AbdxKernelIdeal := fun m ρ _ => Cert.AbdxKernelIdeal.Gen.frame m ρ
theorem frame_reference : Cert.quiescent_AbdxReferenceIdeal := fun m ρ _ =>
  (θ_run Cert.AbdxReferenceIdeal.defs _ _).mono (fun r h => ⟨fun c => (h c).2, sem_eq_zero_of_no_sems (by decide) r.2⟩)
    (Cert.AbdxReferenceIdeal.Value.run (F := Ideal) m ρ)

/-- The kernel's result is the reference's, on all extended reals. -/
theorem algebraic : Cert.algebraic_AbdxKernelIdeal_AbdxReferenceIdeal := by
  intro m ρ m' ρ' _ hagree
  refine ⟨_, Cert.AbdxKernelIdeal.Value.run_blocks (F := Ideal) m ρ, ?_⟩
  refine (θ_run Cert.AbdxReferenceIdeal.defs _ _).mono (fun _ h c => ?_) (Cert.AbdxReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.AbdxReferenceIdeal.Read.val_main_v5_eq _ _) ?_
    funext x
    obtain ⟨i, j, p, q, rfl⟩ := Cert.Mm.exists_idx_tile (a0 := 4) (a1 := 2) (t0 := 1024) (t1 := 1024) (by decide) (by decide) x
    exact (Cert.AbdxRef.ref0_apply _ _ (row i p) (col j q)).trans (final2 m c i j p q).symm

end Cert.AbdxClaims

end
-- ==== Proof.Mm.C.lean ====
/- The latent attention's input product.
   What each grid point computes, what the result array holds after the run, what the reference computes, and the
   claims. -/
module

public import proofs.«01_k».proof.Proof.Gen.CKernelIdeal.Value
public import proofs.«01_k».proof.Proof.Gen.CKernel.Frame
public import proofs.«01_k».proof.Proof.Gen.CReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.CValue

open Cert.CKernelIdeal Cert.CKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_3_eq (x0 : Vec F S1024x2048 .bf16) (x1 : Vec F S2048x832 .bf16) (x2 : Vec F S8x128 .f32) : out0_3 x0 x1 x2 = k0_pay1 x0 x1 := by
  unfold out0_3
  rw [View.canon_unit_zero hz]
  simp only [View.ld_unit_zero (S := S1024x2048) hz, View.ld_unit_zero (S := S1024x832) hz, View.ld_unit_zero (S := S2048x832) hz, View.ld_unit_zero (S := S8x128) hz]

end

theorem last0_apply (x0 : Vec Ideal S1024x2048 .bf16) (x1 : Vec Ideal S2048x832 .bf16) (p : Fin 1024) (q : Fin 832) :
    k0_pay1 x0 x1 (ix2 p q) = (∑ t : Fin 2048, x0 (ix2 (p) (t)) * x1 (ix2 (t) (q))) := by
  pointwise [k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 1) (q : Fin 832) : Fin 832 := Cert.Mm.tile (by decide) j q
abbrev mid (s : Fin 1) (t : Fin 2048) : Fin 2048 := Cert.Mm.tile (by decide) s t

/-- The grid point of the tiles. -/
def pt (i : Fin 4) (j : Fin 1) (s : Fin 1) : Fin cfg0.N :=
  ⟨(i.val * 1 + j.val) * 1 + s.val, lt_of_lt_of_eq (by omega : _ < 4) N_0.symm⟩

theorem idx : ∀ (i : Fin 4) (j : Fin 1) (s : Fin 1), win0_0.index (pt i j s) = ![i.val, s.val] ∧ win0_1.index (pt i j s) = ![s.val, j.val] ∧ win0_3.index (pt i j s) = ![i.val, j.val] := by
  decide +kernel

variable (m : (ℓ : Loc nD τ sig) → Buf (Elt Ideal) ℓ) (c : Dev nD)

abbrev arg0 : S4096x2048.Idx → EReal := m ((c : Thread nD τ).loc main_arg0)
abbrev arg1 : S2048x832.Idx → EReal := m ((c : Thread nD τ).loc main_arg1)

theorem blk0 (i : Fin 4) (j : Fin 1) (s : Fin 1) (p : Fin 1024) (t : Fin 2048) :
    (iblk m c 0 (pt i j s) : Vec Ideal S1024x2048 .bf16) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 2048 + 1 * t.val = _; rw [e]; rfl

theorem blk1 (i : Fin 4) (j : Fin 1) (s : Fin 1) (t : Fin 2048) (q : Fin 832) :
    (iblk m c 1 (pt i j s) : Vec Ideal S2048x832 .bf16) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 832 + 1 * q.val = _; rw [e]; rfl

theorem emb3 (i : Fin 4) (j : Fin 1) (s : Fin 1) (p : Fin 1024) (q : Fin 832) :
    ((cfg0.win 3).blk (pt i j s)).view.emb (ix2 p q) = ix2 (row i p) (col j q) := by
  have e := (idx i j s).2.2
  refine Cert.Mm.idx_tile ?_ ?_
  · show win0_3.index (pt i j s) 0 * 1024 + 1 * p.val = _; rw [e]; rfl
  · show win0_3.index (pt i j s) 1 * 832 + 1 * q.val = _; rw [e]; rfl

/-- The result array after the run. -/
theorem final3 (i : Fin 4) (j : Fin 1) (p : Fin 1024) (q : Fin 832) :
    (dats m 0 c).arrAt 3 cfg0.N (ix2 (row i p) (col j q)) = (∑ k : Fin 2048, arg0 m c (ix2 (row i p) (k)) * arg1 m c (ix2 (k) (col j q))) := by
  refine Eq.trans (congrArg ((dats m 0 c).arrAt 3 cfg0.N) (emb3 i j 0 p q).symm) ?_
  refine Eq.trans ((dats m 0 c).arrAt_emb_eq_flushed 3 Value.disjoint3 (pt i j 0) (flush0_3 _) (ix2 p q)) ?_
  refine Eq.trans (cast_eq _ _) ?_
  rw [Value.flushed3, out0_3_eq]
  show k0_pay1 (F := Ideal) (iblk m c 0 (pt i j 0)) (iblk m c 1 (pt i j 0)) (ix2 p q) = _
  rw [last0_apply]
  simp only [blk0, blk1, Cert.Mm.tile_one]

end Cert.CValue

/-! ## The reference -/

namespace Cert.CRef

open Cert.CReferenceIdeal Cert.CReferenceIdeal.Gen Cert.CReferenceIdeal.Read Cert.EReals Idealize.ShloMosaic
open scoped BigOperators

theorem ref0_apply (x0 : (⟨S4096x2048, .bf16⟩ : BufTy).Contents (Elt Ideal)) (x1 : (⟨S2048x832, .bf16⟩ : BufTy).Contents (Elt Ideal)) (r : Fin 4096) (s : Fin 832) :
    val_main_v2 x0 x1 (ix2 r s) = (∑ k : Fin 2048, x0 (ix2 (r) (k)) * x1 (ix2 (k) (s))) := by
  pointwise [val_main_v2, val_main_v0, val_main_v1]

end Cert.CRef

/-! ## The claims -/

namespace Cert.CClaims

open Cert.CValue Idealize.ShloMosaic Idealize.SL.Sem

theorem frame_kernel : Cert.quiescent_CKernel := fun m ρ _ => Cert.CKernel.Gen.frame m ρ
theorem frame_ideal : Cert.quiescent_CKernelIdeal := fun m ρ _ => Cert.CKernelIdeal.Gen.frame m ρ
theorem frame_reference : Cert.quiescent_CReferenceIdeal := fun m ρ _ =>
  (θ_run Cert.CReferenceIdeal.defs _ _).mono (fun r h => ⟨fun c => (h c).2, sem_eq_zero_of_no_sems (by decide) r.2⟩)
    (Cert.CReferenceIdeal.Value.run (F := Ideal) m ρ)

/-- The kernel's result is the reference's, on all extended reals. -/
theorem algebraic : Cert.algebraic_CKernelIdeal_CReferenceIdeal := by
  intro m ρ m' ρ' _ hagree
  refine ⟨_, Cert.CKernelIdeal.Value.run_blocks (F := Ideal) m ρ, ?_⟩
  refine (θ_run Cert.CReferenceIdeal.defs _ _).mono (fun _ h c => ?_) (Cert.CReferenceIdeal.Value.run (F := Ideal) m' ρ')
  obtain ⟨h0, hrest⟩ := h c
  obtain ⟨e0, e1, e2⟩ := hagree c
  refine ⟨?_, hrest⟩
  · refine h0.trans ?_
    rw [e0, e1]
    refine Eq.trans (Cert.CReferenceIdeal.Read.val_main_v2_eq _ _) ?_
    funext x
    obtain ⟨i, j, p, q, rfl⟩ := Cert.Mm.exists_idx_tile (a0 := 4) (a1 := 1) (t0 := 1024) (t1 := 832) (by decide) (by decide) x
    exact (Cert.CRef.ref0_apply _ _ (row i p) (col j q)).trans (final3 m c i j p q).symm

end Cert.CClaims

end
-- ==== Proof.Mm.Cdw.lean ====
/- The gradient of the latent attention's input weight.
   What each grid point computes, what the result array holds after the run, what the reference computes, and the
   claims. -/
module

public import proofs.«01_k».proof.Proof.Gen.CdwKernelIdeal.Value
public import proofs.«01_k».proof.Proof.Gen.CdwKernel.Frame
public import proofs.«01_k».proof.Proof.Gen.CdwReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.CdwValue

open Cert.CdwKernelIdeal Cert.CdwKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The first step along the contracted axis stores its product; -/
theorem sout0_A_0_eq (c : Dev nD) (i : grid0.Coords) (arg3 : Memref sig .tc .vmem S2048x1024 .bf16) (harg3 : arg3.IsWhole) (arg4 : Memref sig .tc .vmem S2048x832 .f32) (harg4 : arg4.IsWhole) (arg5 : Memref sig .tc .vmem S1024x832 .bf16) (harg5 : arg5.IsWhole) (arg6 : Memref sig .tc .vmem S1024x832 .f32) (harg6 : arg6.IsWhole) (hc0 : cond0_0 i) (hc1 : ¬cond0_1 i) (hc2 : ¬cond0_2 i)
    (x0 : Vec F S2048x1024 .bf16) (x1 : Vec F S2048x832 .f32) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x832) hz, View.readCov_unit_zero (S := S1024x832) _ hz, View.ld_unit_zero (S := S2048x1024) hz, View.readCov_unit_zero (S := S2048x1024) _ hz, View.ld_unit_zero (S := S2048x832) hz, View.readCov_unit_zero (S := S2048x832) _ hz]

/-- the last one writes the sum out. -/
theorem out0_B_2_eq (c : Dev nD) (i : grid0.Coords) (arg3 : Memref sig .tc .vmem S2048x1024 .bf16) (harg3 : arg3.IsWhole) (arg4 : Memref sig .tc .vmem S2048x832 .f32) (harg4 : arg4.IsWhole) (arg5 : Memref sig .tc .vmem S1024x832 .bf16) (harg5 : arg5.IsWhole) (arg6 : Memref sig .tc .vmem S1024x832 .f32) (harg6 : arg6.IsWhole) (hc0 : ¬cond0_0 i) (hc1 : ¬cond0_1 i) (hc2 : cond0_2 i)
    (x0 : Vec F S2048x1024 .bf16) (x1 : Vec F S2048x832 .f32) (xs0 : Vec F S1024x832 .f32) :
    out0_B_2 c i arg3 harg3 arg4 harg4 arg5 harg5 arg6 harg6 hc0 hc1 hc2 x0 x1 xs0 = k0_pay4 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x832) hz, View.readCov_unit_zero (S := S1024x832) _ hz, View.ld_unit_zero (S := S2048x1024) hz, View.readCov_unit_zero (S := S2048x1024) _ hz, View.ld_unit_zero (S := S2048x832) hz, View.readCov_unit_zero (S := S2048x832) _ hz]

end

theorem first_apply (x0 : Vec Ideal S2048x1024 .bf16) (x1 : Vec Ideal S2048x832 .f32) (p : Fin 1024) (q : Fin 832) :
    k0_pay2 x0 x1 (ix2 p q) = ∑ t : Fin 2048, x0 (ix2 (t) (p)) * x1 (ix2 (t) (q)) := by
  pointwise [k0_pay2, k0_pay1]

theorem last0_apply (x0 : Vec Ideal S2048x1024 .bf16) (x1 : Vec Ideal S2048x832 .f32) (xs0 : Vec Ideal S1024x832 .f32) (p : Fin 1024) (q : Fin 832) :
    k0_pay4 x0 x1 xs0 (ix2 p q) = ((xs0 (ix2 p q) + ∑ t : Fin 2048, x0 (ix2 (t) (p)) * x1 (ix2 (t) (q)))) := by
  pointwise [k0_pay4, k0_pay1]

/-! ## The arrays -/

/-- Row `p` of row tile `i`, column `q` of column tile `j`, place `t` of tile `s` of the contracted axis. -/
abbrev row (i : Fin 2) (p : Fin 1024) : Fin 2048 := Cert.Mm.tile (by decide) i p
abbrev col (j : Fin 1) (q : Fin 832) : Fin 832 := Cert.Mm.tile (by decide) j q
abbrev mid (s : Fin 2) (t : Fin 2048) : Fin 4096 := Cert.Mm.tile (by decide) s t

/-- The grid point of the tiles. -/
def pt (i : Fin 2) (j : Fin 1) (s : Fin 2) : Fin cfg0.N :=
  ⟨(i.val * 1 + j.val) * 2 + s.val, lt_of_lt_of_eq (by omega : _ < 4) N_0.symm⟩

theorem idx : ∀ (i : Fin 2) (j : Fin 1) (s : Fin 2), win0_0.index (pt i j s) = ![s.val, i.val] ∧ win0_1.index (pt i j s) = ![s.val, j.val] ∧ win0_2.index (pt i j s) = ![i.val, j.val] := by
  decide +kernel

variable (m : (ℓ : Loc nD τ sig) → Buf (Elt Ideal) ℓ) (c : Dev nD)

abbrev arg0 : S4096x2048.Idx → EReal := m ((c : Thread nD τ).loc main_arg0)
abbrev arg1 : S4096x832.Idx → EReal := m ((c : Thread nD τ).loc main_arg1)

theorem blk0 (i : Fin 2) (j : Fin 1) (s : Fin 2) (t : Fin 2048) (p : Fin 1024) :
    (iblk m c 0 (pt i j s) : Vec Ideal S2048x1024 .bf16) (ix2 t p) = arg0 m c (ix2 (mid s t) (row i p)) := by
  have e := (idx i j s).1
  show (V m c (Pipeline.arrRef spec0 0)) (((cfg0.win 0).blk (pt i j s)).view.emb (ix2 t p)) = _
  refine Eq.trans (congrFun (V_main_arg0 m c) _) (congrArg (arg0 m c) (Cert.Mm.idx_tile ?_ ?_))
  · show win0_0.index (pt i j s) 0 * 2048 + 1 * t.val = _; rw [e]; rfl
  · show win0_0.index (pt i j s) 1 * 1024 + 1 * p.val = _; rw [e]; rfl

theorem blk1 (i : Fin 2) (j : Fin 1) (s : Fin 2) (t : Fin 2048) (q : Fin 832) :
    (iblk m c 1 (pt i j s) : Vec Ideal S2048x832 .f32) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 832 + 1 * q.val = _; rw [e]; rfl

theorem emb2 (i : Fin 2) (j : Fin 1) (s : Fin 2) (p : Fin 1024) (q : Fin 832) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 832 + 1 * q.val = _; rw [e]; rfl

theorem acc0 (i : Fin 2) (j : Fin 1) : (outsAt0 m c (pt i j 0).val (pt i j 0).isLt).2
    = k0_pay2 (F := Ideal) (iblk m c 0 (pt i j 0)) (iblk m c 1 (pt i j 0)) := by
  have hv : (pt i j 0).val % 2 = 0 := by show ((i.val * 1 + j.val) * 2 + 0) % 2 = 0; omega
  rw [outsAt0_A m c (pt i j 0) (by omega) (by omega)]
  dsimp only
  rw [sout0_A_0_eq]

theorem disjoint2 : ∀ t t' : Fin cfg0.N, (cfg0.win 2).flush t = true → (cfg0.win 2).flush t' = true → t ≠ t' →
    Disjoint ((cfg0.win 2).blk t).view.set ((cfg0.win 2).blk t').view.set :=
  fun t t' f f' hne => (cfg0.win 2).disjoint_blk fun h => hne
    ((by decide +kernel : ∀ t t' : Fin grid0.N, t.val % 2 = 1 → t'.val % 2 = 1 → win0_2.index t = win0_2.index t' → t = t') t t'
      ((flush0_2 t).mp f) ((flush0_2 t').mp f') h)

/-- The result array after the run. -/
theorem final2 (i : Fin 2) (j : Fin 1) (p : Fin 1024) (q : Fin 832) :
    (dats m 0 c).arrAt 2 cfg0.N (ix2 (row i p) (col j q)) = (∑ k : Fin 4096, arg0 m c (ix2 (k) (row i p)) * arg1 m c (ix2 (k) (col j q))) := by
  refine Eq.trans (congrArg ((dats m 0 c).arrAt 2 cfg0.N) (emb2 i j 1 p q).symm) ?_
  have hv : (pt i j 1).val % 2 = 1 := by show ((i.val * 1 + j.val) * 2 + 1) % 2 = 1; omega
  have hp : outsAt0 m c ((pt i j 1).val - 1) (Nat.lt_of_le_of_lt (Nat.sub_le _ _) (pt i j 1).isLt) = outsAt0 m c (pt i j 0).val (pt i j 0).isLt := rfl
  refine Eq.trans ((dats m 0 c).arrAt_emb_eq_flushed 2 disjoint2 (pt i j 1) ((flush0_2 _).mpr hv) (ix2 p q)) ?_
  refine Eq.trans (cast_eq _ _) ?_
  rw [Value.flushed2]
  show (outsAt0 m c (pt i j 1).val (pt i j 1).isLt).1 (ix2 p q) = _
  rw [outsAt0_B m c (pt i j 1) (by omega) (by omega), hp]
  dsimp only
  rw [out0_B_2_eq, acc0, last0_apply, first_apply]
  simp only [blk0, blk1]
  rw [Cert.Mm.sum_two_tiles (n := 4096) (t := 2048) (by decide)]

end Cert.CdwValue

/-! ## The reference -/

namespace Cert.CdwRef

open Cert.CdwReferenceIdeal Cert.CdwReferenceIdeal.Gen Cert.CdwReferenceIdeal.Read Cert.EReals Idealize.ShloMosaic
open scoped BigOperators

theorem ref0_apply (x0 : (⟨S4096x2048, .bf16⟩ : BufTy).Contents (Elt Ideal)) (x1 : (⟨S4096x832, .f32⟩ : BufTy).Contents (Elt Ideal)) (r : Fin 2048) (s : Fin 832) :
    val_main_v5 x0 x1 (ix2 r s) = (∑ k : Fin 4096, x0 (ix2 (k) (r)) * x1 (ix2 (k) (s))) := by
  pointwise [val_main_v5, val_main_v4, val_main_v3, val_main_v0]
  exact Finset.sum_congr rfl fun k _ => mul_comm _ _

end Cert.CdwRef

/-! ## The claims -/

namespace Cert.CdwClaims

open Cert.CdwValue Idealize.ShloMosaic Idealize.SL.Sem

theorem frame_kernel : Cert.quiescent_CdwKernel := fun m ρ _ => Cert.CdwKernel.Gen.frame m ρ
theorem frame_ideal : Cert.quiescent_CdwKernelIdeal := fun m ρ _ => Cert.CdwKernelIdeal.Gen.frame m ρ
theorem frame_reference : Cert.quiescent_CdwReferenceIdeal := fun m ρ _ =>
  (θ_run Cert.CdwReferenceIdeal.defs _ _).mono (fun r h => ⟨fun c => (h c).2, sem_eq_zero_of_no_sems (by decide) r.2⟩)
    (Cert.CdwReferenceIdeal.Value.run (F := Ideal) m ρ)

/-- The kernel's result is the reference's, on all extended reals. -/
theorem algebraic : Cert.algebraic_CdwKernelIdeal_CdwReferenceIdeal := by
  intro m ρ m' ρ' _ hagree
  refine ⟨_, Cert.CdwKernelIdeal.Value.run_blocks (F := Ideal) m ρ, ?_⟩
  refine (θ_run Cert.CdwReferenceIdeal.defs _ _).mono (fun _ h c => ?_) (Cert.CdwReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.CdwReferenceIdeal.Read.val_main_v5_eq _ _) ?_
    funext x
    obtain ⟨i, j, p, q, rfl⟩ := Cert.Mm.exists_idx_tile (a0 := 2) (a1 := 1) (t0 := 1024) (t1 := 832) (by decide) (by decide) x
    exact (Cert.CdwRef.ref0_apply _ _ (row i p) (col j q)).trans (final2 m c i j p q).symm

end Cert.CdwClaims

end
-- ==== Proof.Mm.Cdx.lean ====
/- The gradient of the latent attention's input product's argument.
   What each grid point computes, what the result array holds after the run, what the reference computes, and the
   claims. -/
module

public import proofs.«01_k».proof.Proof.Gen.CdxKernelIdeal.Value
public import proofs.«01_k».proof.Proof.Gen.CdxKernel.Frame
public import proofs.«01_k».proof.Proof.Gen.CdxReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.CdxValue

open Cert.CdxKernelIdeal Cert.CdxKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_2_eq (x0 : Vec F S1024x832 .f32) (x1 : Vec F S1024x832 .bf16) : out0_2 x0 x1 = k0_pay1 x0 x1 := by
  unfold out0_2
  rw [View.canon_unit_zero hz]
  simp only [View.ld_unit_zero (S := S1024x1024) hz, View.ld_unit_zero (S := S1024x832) hz]

end

theorem last0_apply (x0 : Vec Ideal S1024x832 .f32) (x1 : Vec Ideal S1024x832 .bf16) (p : Fin 1024) (q : Fin 1024) :
    k0_pay1 x0 x1 (ix2 p q) = (∑ t : Fin 832, x0 (ix2 (p) (t)) * x1 (ix2 (q) (t))) := by
  pointwise [k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 2) (q : Fin 1024) : Fin 2048 := Cert.Mm.tile (by decide) j q
abbrev mid (s : Fin 1) (t : Fin 832) : Fin 832 := Cert.Mm.tile (by decide) s t

/-- The grid point of the tiles. -/
def pt (i : Fin 4) (j : Fin 2) (s : Fin 1) : Fin cfg0.N :=
  ⟨(i.val * 2 + j.val) * 1 + s.val, lt_of_lt_of_eq (by omega : _ < 8) N_0.symm⟩

theorem idx : ∀ (i : Fin 4) (j : Fin 2) (s : Fin 1), win0_0.index (pt i j s) = ![i.val, s.val] ∧ win0_1.index (pt i j s) = ![j.val, s.val] ∧ win0_2.index (pt i j s) = ![i.val, j.val] := by
  decide +kernel

variable (m : (ℓ : Loc nD τ sig) → Buf (Elt Ideal) ℓ) (c : Dev nD)

abbrev arg0 : S4096x832.Idx → EReal := m ((c : Thread nD τ).loc main_arg0)
abbrev arg1 : S2048x832.Idx → EReal := m ((c : Thread nD τ).loc main_arg1)

theorem blk0 (i : Fin 4) (j : Fin 2) (s : Fin 1) (p : Fin 1024) (t : Fin 832) :
    (iblk m c 0 (pt i j s) : Vec Ideal S1024x832 .f32) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 832 + 1 * t.val = _; rw [e]; rfl

theorem blk1 (i : Fin 4) (j : Fin 2) (s : Fin 1) (q : Fin 1024) (t : Fin 832) :
    (iblk m c 1 (pt i j s) : Vec Ideal S1024x832 .bf16) (ix2 q t) = arg1 m c (ix2 (col j q) (mid s t)) := by
  have e := (idx i j s).2.1
  show (V m c (Pipeline.arrRef spec0 1)) (((cfg0.win 1).blk (pt i j s)).view.emb (ix2 q t)) = _
  refine Eq.trans (congrFun (V_main_arg1 m c) _) (congrArg (arg1 m c) (Cert.Mm.idx_tile ?_ ?_))
  · show win0_1.index (pt i j s) 0 * 1024 + 1 * q.val = _; rw [e]; rfl
  · show win0_1.index (pt i j s) 1 * 832 + 1 * t.val = _; rw [e]; rfl

theorem emb2 (i : Fin 4) (j : Fin 2) (s : Fin 1) (p : Fin 1024) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 1024 + 1 * q.val = _; rw [e]; rfl

/-- The result array after the run. -/
theorem final2 (i : Fin 4) (j : Fin 2) (p : Fin 1024) (q : Fin 1024) :
    (dats m 0 c).arrAt 2 cfg0.N (ix2 (row i p) (col j q)) = (∑ k : Fin 832, arg0 m c (ix2 (row i p) (k)) * arg1 m c (ix2 (col j q) (k))) := by
  refine Eq.trans (congrArg ((dats m 0 c).arrAt 2 cfg0.N) (emb2 i j 0 p q).symm) ?_
  refine Eq.trans ((dats m 0 c).arrAt_emb_eq_flushed 2 Value.disjoint2 (pt i j 0) (flush0_2 _) (ix2 p q)) ?_
  refine Eq.trans (cast_eq _ _) ?_
  rw [Value.flushed2, out0_2_eq]
  show k0_pay1 (F := Ideal) (iblk m c 0 (pt i j 0)) (iblk m c 1 (pt i j 0)) (ix2 p q) = _
  rw [last0_apply]
  simp only [blk0, blk1, Cert.Mm.tile_one]

end Cert.CdxValue

/-! ## The reference -/

namespace Cert.CdxRef

open Cert.CdxReferenceIdeal Cert.CdxReferenceIdeal.Gen Cert.CdxReferenceIdeal.Read Cert.EReals Idealize.ShloMosaic
open scoped BigOperators

theorem ref0_apply (x0 : (⟨S4096x832, .f32⟩ : BufTy).Contents (Elt Ideal)) (x1 : (⟨S2048x832, .bf16⟩ : BufTy).Contents (Elt Ideal)) (r : Fin 4096) (s : Fin 2048) :
    val_main_v4 x0 x1 (ix2 r s) = (∑ k : Fin 832, x0 (ix2 (r) (k)) * x1 (ix2 (s) (k))) := by
  pointwise [val_main_v4, val_main_v3, val_main_v0]

end Cert.CdxRef

/-! ## The claims -/

namespace Cert.CdxClaims

open Cert.CdxValue Idealize.ShloMosaic Idealize.SL.Sem

theorem frame_kernel : Cert.quiescent_CdxKernel := fun m ρ _ => Cert.CdxKernel.Gen.frame m ρ
theorem frame_ideal : Cert.quiescent_CdxKernelIdeal := fun m ρ _ => Cert.CdxKernelIdeal.Gen.frame m ρ
theorem frame_reference : Cert.quiescent_CdxReferenceIdeal := fun m ρ _ =>
  (θ_run Cert.CdxReferenceIdeal.defs _ _).mono (fun r h => ⟨fun c => (h c).2, sem_eq_zero_of_no_sems (by decide) r.2⟩)
    (Cert.CdxReferenceIdeal.Value.run (F := Ideal) m ρ)

/-- The kernel's result is the reference's, on all extended reals. -/
theorem algebraic : Cert.algebraic_CdxKernelIdeal_CdxReferenceIdeal := by
  intro m ρ m' ρ' _ hagree
  refine ⟨_, Cert.CdxKernelIdeal.Value.run_blocks (F := Ideal) m ρ, ?_⟩
  refine (θ_run Cert.CdxReferenceIdeal.defs _ _).mono (fun _ h c => ?_) (Cert.CdxReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.CdxReferenceIdeal.Read.val_main_v4_eq _ _) ?_
    funext x
    obtain ⟨i, j, p, q, rfl⟩ := Cert.Mm.exists_idx_tile (a0 := 4) (a1 := 2) (t0 := 1024) (t1 := 1024) (by decide) (by decide) x
    exact (Cert.CdxRef.ref0_apply _ _ (row i p) (col j q)).trans (final2 m c i j p q).symm

end Cert.CdxClaims

end
-- ==== Proof.Mm.Ckv.lean ====
/- The latent attention's key and value up-projection.
   What each grid point computes, what the result array holds after the run, what the reference computes, and the
   claims. -/
module

public import proofs.«01_k».proof.Proof.Gen.CkvKernelIdeal.Value
public import proofs.«01_k».proof.Proof.Gen.CkvKernel.Frame
public import proofs.«01_k».proof.Proof.Gen.CkvReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.CkvValue

open Cert.CkvKernelIdeal Cert.CkvKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_2_eq (x0 : Vec F S1024x256 .bf16) (x1 : Vec F S256x1024 .bf16) : out0_2 x0 x1 = k0_pay1 x0 x1 := by
  unfold out0_2
  rw [View.canon_unit_zero hz]
  simp only [View.ld_unit_zero (S := S1024x1024) hz, View.ld_unit_zero (S := S1024x256) hz, View.ld_unit_zero (S := S256x1024) hz]

end

theorem last0_apply (x0 : Vec Ideal S1024x256 .bf16) (x1 : Vec Ideal S256x1024 .bf16) (p : Fin 1024) (q : Fin 1024) :
    k0_pay1 x0 x1 (ix2 p q) = (∑ t : Fin 256, x0 (ix2 (p) (t)) * x1 (ix2 (t) (q))) := by
  pointwise [k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 4) (q : Fin 1024) : Fin 4096 := Cert.Mm.tile (by decide) j q
abbrev mid (s : Fin 1) (t : Fin 256) : Fin 256 := Cert.Mm.tile (by decide) s t

/-- The grid point of the tiles. -/
def pt (i : Fin 4) (j : Fin 4) (s : Fin 1) : Fin cfg0.N :=
  ⟨(i.val * 4 + j.val) * 1 + s.val, lt_of_lt_of_eq (by omega : _ < 16) N_0.symm⟩

theorem idx : ∀ (i : Fin 4) (j : Fin 4) (s : Fin 1), win0_0.index (pt i j s) = ![i.val, s.val] ∧ win0_1.index (pt i j s) = ![s.val, j.val] ∧ win0_2.index (pt i j s) = ![i.val, j.val] := by
  decide +kernel

variable (m : (ℓ : Loc nD τ sig) → Buf (Elt Ideal) ℓ) (c : Dev nD)

abbrev arg0 : S4096x256.Idx → EReal := m ((c : Thread nD τ).loc main_arg0)
abbrev arg1 : S256x4096.Idx → EReal := m ((c : Thread nD τ).loc main_arg1)

theorem blk0 (i : Fin 4) (j : Fin 4) (s : Fin 1) (p : Fin 1024) (t : Fin 256) :
    (iblk m c 0 (pt i j s) : Vec Ideal S1024x256 .bf16) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 256 + 1 * t.val = _; rw [e]; rfl

theorem blk1 (i : Fin 4) (j : Fin 4) (s : Fin 1) (t : Fin 256) (q : Fin 1024) :
    (iblk m c 1 (pt i j s) : Vec Ideal S256x1024 .bf16) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 256 + 1 * t.val = _; rw [e]; rfl
  · show win0_1.index (pt i j s) 1 * 1024 + 1 * q.val = _; rw [e]; rfl

theorem emb2 (i : Fin 4) (j : Fin 4) (s : Fin 1) (p : Fin 1024) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 1024 + 1 * q.val = _; rw [e]; rfl

/-- The result array after the run. -/
theorem final2 (i : Fin 4) (j : Fin 4) (p : Fin 1024) (q : Fin 1024) :
    (dats m 0 c).arrAt 2 cfg0.N (ix2 (row i p) (col j q)) = (∑ k : Fin 256, arg0 m c (ix2 (row i p) (k)) * arg1 m c (ix2 (k) (col j q))) := by
  refine Eq.trans (congrArg ((dats m 0 c).arrAt 2 cfg0.N) (emb2 i j 0 p q).symm) ?_
  refine Eq.trans ((dats m 0 c).arrAt_emb_eq_flushed 2 Value.disjoint2 (pt i j 0) (flush0_2 _) (ix2 p q)) ?_
  refine Eq.trans (cast_eq _ _) ?_
  rw [Value.flushed2, out0_2_eq]
  show k0_pay1 (F := Ideal) (iblk m c 0 (pt i j 0)) (iblk m c 1 (pt i j 0)) (ix2 p q) = _
  rw [last0_apply]
  simp only [blk0, blk1, Cert.Mm.tile_one]

end Cert.CkvValue

/-! ## The reference -/

namespace Cert.CkvRef

open Cert.CkvReferenceIdeal Cert.CkvReferenceIdeal.Gen Cert.CkvReferenceIdeal.Read Cert.EReals Idealize.ShloMosaic
open scoped BigOperators

theorem ref0_apply (x0 : (⟨S4096x256, .bf16⟩ : BufTy).Contents (Elt Ideal)) (x1 : (⟨S256x4096, .bf16⟩ : BufTy).Contents (Elt Ideal)) (r : Fin 4096) (s : Fin 4096) :
    val_main_v3 x0 x1 (ix2 r s) = (∑ k : Fin 256, x0 (ix2 (r) (k)) * x1 (ix2 (k) (s))) := by
  pointwise [val_main_v3, val_main_v2, val_main_v0, val_main_v1]

end Cert.CkvRef

/-! ## The claims -/

namespace Cert.CkvClaims

open Cert.CkvValue Idealize.ShloMosaic Idealize.SL.Sem

theorem frame_kernel : Cert.quiescent_CkvKernel := fun m ρ _ => Cert.CkvKernel.Gen.frame m ρ
theorem frame_ideal : Cert.quiescent_CkvKernelIdeal := fun m ρ _ => Cert.CkvKernelIdeal.Gen.frame m ρ
theorem frame_reference : Cert.quiescent_CkvReferenceIdeal := fun m ρ _ =>
  (θ_run Cert.CkvReferenceIdeal.defs _ _).mono (fun r h => ⟨fun c => (h c).2, sem_eq_zero_of_no_sems (by decide) r.2⟩)
    (Cert.CkvReferenceIdeal.Value.run (F := Ideal) m ρ)

/-- The kernel's result is the reference's, on all extended reals. -/
theorem algebraic : Cert.algebraic_CkvKernelIdeal_CkvReferenceIdeal := by
  intro m ρ m' ρ' _ hagree
  refine ⟨_, Cert.CkvKernelIdeal.Value.run_blocks (F := Ideal) m ρ, ?_⟩
  refine (θ_run Cert.CkvReferenceIdeal.defs _ _).mono (fun _ h c => ?_) (Cert.CkvReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.CkvReferenceIdeal.Read.val_main_v3_eq _ _) ?_
    funext x
    obtain ⟨i, j, p, q, rfl⟩ := Cert.Mm.exists_idx_tile (a0 := 4) (a1 := 4) (t0 := 1024) (t1 := 1024) (by decide) (by decide) x
    exact (Cert.CkvRef.ref0_apply _ _ (row i p) (col j q)).trans (final2 m c i j p q).symm

end Cert.CkvClaims

end
-- ==== Proof.Mm.Cukvdw.lean ====
/- The gradient of the latent attention's key and value up-projection weight.
   What each grid point computes, what the result array holds after the run, what the reference computes, and the
   claims. -/
module

public import proofs.«01_k».proof.Proof.Gen.CukvdwKernelIdeal.Value
public import proofs.«01_k».proof.Proof.Gen.CukvdwKernel.Frame
public import proofs.«01_k».proof.Proof.Gen.CukvdwReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.CukvdwValue

open Cert.CukvdwKernelIdeal Cert.CukvdwKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The first step along the contracted axis stores its product; -/
theorem sout0_A_0_eq (c : Dev nD) (i : grid0.Coords) (arg3 : Memref sig .tc .vmem S2048x256 .bf16) (harg3 : arg3.IsWhole) (arg4 : Memref sig .tc .vmem S2048x1024 .bf16) (harg4 : arg4.IsWhole) (arg5 : Memref sig .tc .vmem S256x1024 .bf16) (harg5 : arg5.IsWhole) (arg6 : Memref sig .tc .vmem S256x1024 .f32) (harg6 : arg6.IsWhole) (hc0 : cond0_0 i) (hc1 : ¬cond0_1 i) (hc2 : ¬cond0_2 i)
    (x0 : Vec F S2048x256 .bf16) (x1 : Vec F S2048x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S2048x1024) hz, View.readCov_unit_zero (S := S2048x1024) _ hz, View.ld_unit_zero (S := S2048x256) hz, View.readCov_unit_zero (S := S2048x256) _ hz, View.ld_unit_zero (S := S256x1024) hz, View.readCov_unit_zero (S := S256x1024) _ hz]

/-- the last one writes the sum out. -/
theorem out0_B_2_eq (c : Dev nD) (i : grid0.Coords) (arg3 : Memref sig .tc .vmem S2048x256 .bf16) (harg3 : arg3.IsWhole) (arg4 : Memref sig .tc .vmem S2048x1024 .bf16) (harg4 : arg4.IsWhole) (arg5 : Memref sig .tc .vmem S256x1024 .bf16) (harg5 : arg5.IsWhole) (arg6 : Memref sig .tc .vmem S256x1024 .f32) (harg6 : arg6.IsWhole) (hc0 : ¬cond0_0 i) (hc1 : ¬cond0_1 i) (hc2 : cond0_2 i)
    (x0 : Vec F S2048x256 .bf16) (x1 : Vec F S2048x1024 .bf16) (xs0 : Vec F S256x1024 .f32) :
    out0_B_2 c i arg3 harg3 arg4 harg4 arg5 harg5 arg6 harg6 hc0 hc1 hc2 x0 x1 xs0 = k0_pay4 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S2048x1024) hz, View.readCov_unit_zero (S := S2048x1024) _ hz, View.ld_unit_zero (S := S2048x256) hz, View.readCov_unit_zero (S := S2048x256) _ hz, View.ld_unit_zero (S := S256x1024) hz, View.readCov_unit_zero (S := S256x1024) _ hz]

end

theorem first_apply (x0 : Vec Ideal S2048x256 .bf16) (x1 : Vec Ideal S2048x1024 .bf16) (p : Fin 256) (q : Fin 1024) :
    k0_pay2 x0 x1 (ix2 p q) = ∑ t : Fin 2048, x0 (ix2 (t) (p)) * x1 (ix2 (t) (q)) := by
  pointwise [k0_pay2, k0_pay1]

theorem last0_apply (x0 : Vec Ideal S2048x256 .bf16) (x1 : Vec Ideal S2048x1024 .bf16) (xs0 : Vec Ideal S256x1024 .f32) (p : Fin 256) (q : Fin 1024) :
    k0_pay4 x0 x1 xs0 (ix2 p q) = ((xs0 (ix2 p q) + ∑ t : Fin 2048, x0 (ix2 (t) (p)) * x1 (ix2 (t) (q)))) := by
  pointwise [k0_pay4, k0_pay1]

/-! ## The arrays -/

/-- Row `p` of row tile `i`, column `q` of column tile `j`, place `t` of tile `s` of the contracted axis. -/
abbrev row (i : Fin 1) (p : Fin 256) : Fin 256 := Cert.Mm.tile (by decide) i p
abbrev col (j : Fin 4) (q : Fin 1024) : Fin 4096 := Cert.Mm.tile (by decide) j q
abbrev mid (s : Fin 2) (t : Fin 2048) : Fin 4096 := Cert.Mm.tile (by decide) s t

/-- The grid point of the tiles. -/
def pt (i : Fin 1) (j : Fin 4) (s : Fin 2) : Fin cfg0.N :=
  ⟨(i.val * 4 + j.val) * 2 + s.val, lt_of_lt_of_eq (by omega : _ < 8) N_0.symm⟩

theorem idx : ∀ (i : Fin 1) (j : Fin 4) (s : Fin 2), win0_0.index (pt i j s) = ![s.val, i.val] ∧ win0_1.index (pt i j s) = ![s.val, j.val] ∧ win0_2.index (pt i j s) = ![i.val, j.val] := by
  decide +kernel

variable (m : (ℓ : Loc nD τ sig) → Buf (Elt Ideal) ℓ) (c : Dev nD)

abbrev arg0 : S4096x256.Idx → EReal := m ((c : Thread nD τ).loc main_arg0)
abbrev arg1 : S4096x4096.Idx → EReal := m ((c : Thread nD τ).loc main_arg1)

theorem blk0 (i : Fin 1) (j : Fin 4) (s : Fin 2) (t : Fin 2048) (p : Fin 256) :
    (iblk m c 0 (pt i j s) : Vec Ideal S2048x256 .bf16) (ix2 t p) = arg0 m c (ix2 (mid s t) (row i p)) := by
  have e := (idx i j s).1
  show (V m c (Pipeline.arrRef spec0 0)) (((cfg0.win 0).blk (pt i j s)).view.emb (ix2 t p)) = _
  refine Eq.trans (congrFun (V_main_arg0 m c) _) (congrArg (arg0 m c) (Cert.Mm.idx_tile ?_ ?_))
  · show win0_0.index (pt i j s) 0 * 2048 + 1 * t.val = _; rw [e]; rfl
  · show win0_0.index (pt i j s) 1 * 256 + 1 * p.val = _; rw [e]; rfl

theorem blk1 (i : Fin 1) (j : Fin 4) (s : Fin 2) (t : Fin 2048) (q : Fin 1024) :
    (iblk m c 1 (pt i j s) : Vec Ideal S2048x1024 .bf16) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 1024 + 1 * q.val = _; rw [e]; rfl

theorem emb2 (i : Fin 1) (j : Fin 4) (s : Fin 2) (p : Fin 256) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 256 + 1 * p.val = _; rw [e]; rfl
  · show win0_2.index (pt i j s) 1 * 1024 + 1 * q.val = _; rw [e]; rfl

theorem acc0 (i : Fin 1) (j : Fin 4) : (outsAt0 m c (pt i j 0).val (pt i j 0).isLt).2
    = k0_pay2 (F := Ideal) (iblk m c 0 (pt i j 0)) (iblk m c 1 (pt i j 0)) := by
  have hv : (pt i j 0).val % 2 = 0 := by show ((i.val * 4 + j.val) * 2 + 0) % 2 = 0; omega
  rw [outsAt0_A m c (pt i j 0) (by omega) (by omega)]
  dsimp only
  rw [sout0_A_0_eq]

theorem disjoint2 : ∀ t t' : Fin cfg0.N, (cfg0.win 2).flush t = true → (cfg0.win 2).flush t' = true → t ≠ t' →
    Disjoint ((cfg0.win 2).blk t).view.set ((cfg0.win 2).blk t').view.set :=
  fun t t' f f' hne => (cfg0.win 2).disjoint_blk fun h => hne
    ((by decide +kernel : ∀ t t' : Fin grid0.N, t.val % 2 = 1 → t'.val % 2 = 1 → win0_2.index t = win0_2.index t' → t = t') t t'
      ((flush0_2 t).mp f) ((flush0_2 t').mp f') h)

/-- The result array after the run. -/
theorem final2 (i : Fin 1) (j : Fin 4) (p : Fin 256) (q : Fin 1024) :
    (dats m 0 c).arrAt 2 cfg0.N (ix2 (row i p) (col j q)) = (∑ k : Fin 4096, arg0 m c (ix2 (k) (row i p)) * arg1 m c (ix2 (k) (col j q))) := by
  refine Eq.trans (congrArg ((dats m 0 c).arrAt 2 cfg0.N) (emb2 i j 1 p q).symm) ?_
  have hv : (pt i j 1).val % 2 = 1 := by show ((i.val * 4 + j.val) * 2 + 1) % 2 = 1; omega
  have hp : outsAt0 m c ((pt i j 1).val - 1) (Nat.lt_of_le_of_lt (Nat.sub_le _ _) (pt i j 1).isLt) = outsAt0 m c (pt i j 0).val (pt i j 0).isLt := rfl
  refine Eq.trans ((dats m 0 c).arrAt_emb_eq_flushed 2 disjoint2 (pt i j 1) ((flush0_2 _).mpr hv) (ix2 p q)) ?_
  refine Eq.trans (cast_eq _ _) ?_
  rw [Value.flushed2]
  show (outsAt0 m c (pt i j 1).val (pt i j 1).isLt).1 (ix2 p q) = _
  rw [outsAt0_B m c (pt i j 1) (by omega) (by omega), hp]
  dsimp only
  rw [out0_B_2_eq, acc0, last0_apply, first_apply]
  simp only [blk0, blk1]
  rw [Cert.Mm.sum_two_tiles (n := 4096) (t := 2048) (by decide)]

end Cert.CukvdwValue

/-! ## The reference -/

namespace Cert.CukvdwRef

open Cert.CukvdwReferenceIdeal Cert.CukvdwReferenceIdeal.Gen Cert.CukvdwReferenceIdeal.Read Cert.EReals Idealize.ShloMosaic
open scoped BigOperators

theorem ref0_apply (x0 : (⟨S4096x256, .bf16⟩ : BufTy).Contents (Elt Ideal)) (x1 : (⟨S4096x4096, .bf16⟩ : BufTy).Contents (Elt Ideal)) (r : Fin 256) (s : Fin 4096) :
    val_main_v6 x0 x1 (ix2 r s) = (∑ k : Fin 4096, x0 (ix2 (k) (r)) * x1 (ix2 (k) (s))) := by
  pointwise [val_main_v6, val_main_v5, val_main_v4, val_main_v1, val_main_v0]
  exact Finset.sum_congr rfl fun k _ => mul_comm _ _

end Cert.CukvdwRef

/-! ## The claims -/

namespace Cert.CukvdwClaims

open Cert.CukvdwValue Idealize.ShloMosaic Idealize.SL.Sem

theorem frame_kernel : Cert.quiescent_CukvdwKernel := fun m ρ _ => Cert.CukvdwKernel.Gen.frame m ρ
theorem frame_ideal : Cert.quiescent_CukvdwKernelIdeal := fun m ρ _ => Cert.CukvdwKernelIdeal.Gen.frame m ρ
theorem frame_reference : Cert.quiescent_CukvdwReferenceIdeal := fun m ρ _ =>
  (θ_run Cert.CukvdwReferenceIdeal.defs _ _).mono (fun r h => ⟨fun c => (h c).2, sem_eq_zero_of_no_sems (by decide) r.2⟩)
    (Cert.CukvdwReferenceIdeal.Value.run (F := Ideal) m ρ)

/-- The kernel's result is the reference's, on all extended reals. -/
theorem algebraic : Cert.algebraic_CukvdwKernelIdeal_CukvdwReferenceIdeal := by
  intro m ρ m' ρ' _ hagree
  refine ⟨_, Cert.CukvdwKernelIdeal.Value.run_blocks (F := Ideal) m ρ, ?_⟩
  refine (θ_run Cert.CukvdwReferenceIdeal.defs _ _).mono (fun _ h c => ?_) (Cert.CukvdwReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.CukvdwReferenceIdeal.Read.val_main_v6_eq _ _) ?_
    funext x
    obtain ⟨i, j, p, q, rfl⟩ := Cert.Mm.exists_idx_tile (a0 := 1) (a1 := 4) (t0 := 256) (t1 := 1024) (by decide) (by decide) x
    exact (Cert.CukvdwRef.ref0_apply _ _ (row i p) (col j q)).trans (final2 m c i j p q).symm

end Cert.CukvdwClaims

end
-- ==== Proof.Mm.Cukvdx.lean ====
/- The gradient of the latent attention's key and value up-projection argument.
   What each grid point computes, what the result array holds after the run, what the reference computes, and the
   claims. -/
module

public import proofs.«01_k».proof.Proof.Gen.CukvdxKernelIdeal.Value
public import proofs.«01_k».proof.Proof.Gen.CukvdxKernel.Frame
public import proofs.«01_k».proof.Proof.Gen.CukvdxReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.CukvdxValue

open Cert.CukvdxKernelIdeal Cert.CukvdxKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The first step along the contracted axis stores its product; -/
theorem sout0_A_0_eq (c : Dev nD) (i : grid0.Coords) (arg3 : Memref sig .tc .vmem S1024x2048 .bf16) (harg3 : arg3.IsWhole) (arg4 : Memref sig .tc .vmem S256x2048 .bf16) (harg4 : arg4.IsWhole) (arg5 : Memref sig .tc .vmem S1024x256 .bf16) (harg5 : arg5.IsWhole) (arg6 : Memref sig .tc .vmem S1024x256 .f32) (harg6 : arg6.IsWhole) (hc0 : cond0_0 i) (hc1 : ¬cond0_1 i) (hc2 : ¬cond0_2 i)
    (x0 : Vec F S1024x2048 .bf16) (x1 : Vec F S256x2048 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x2048) hz, View.readCov_unit_zero (S := S1024x2048) _ hz, View.ld_unit_zero (S := S1024x256) hz, View.readCov_unit_zero (S := S1024x256) _ hz, View.ld_unit_zero (S := S256x2048) hz, View.readCov_unit_zero (S := S256x2048) _ hz]

/-- the last one writes the sum out. -/
theorem out0_B_2_eq (c : Dev nD) (i : grid0.Coords) (arg3 : Memref sig .tc .vmem S1024x2048 .bf16) (harg3 : arg3.IsWhole) (arg4 : Memref sig .tc .vmem S256x2048 .bf16) (harg4 : arg4.IsWhole) (arg5 : Memref sig .tc .vmem S1024x256 .bf16) (harg5 : arg5.IsWhole) (arg6 : Memref sig .tc .vmem S1024x256 .f32) (harg6 : arg6.IsWhole) (hc0 : ¬cond0_0 i) (hc1 : ¬cond0_1 i) (hc2 : cond0_2 i)
    (x0 : Vec F S1024x2048 .bf16) (x1 : Vec F S256x2048 .bf16) (xs0 : Vec F S1024x256 .f32) :
    out0_B_2 c i arg3 harg3 arg4 harg4 arg5 harg5 arg6 harg6 hc0 hc1 hc2 x0 x1 xs0 = k0_pay4 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x2048) hz, View.readCov_unit_zero (S := S1024x2048) _ hz, View.ld_unit_zero (S := S1024x256) hz, View.readCov_unit_zero (S := S1024x256) _ hz, View.ld_unit_zero (S := S256x2048) hz, View.readCov_unit_zero (S := S256x2048) _ hz]

end

theorem first_apply (x0 : Vec Ideal S1024x2048 .bf16) (x1 : Vec Ideal S256x2048 .bf16) (p : Fin 1024) (q : Fin 256) :
    k0_pay2 x0 x1 (ix2 p q) = ∑ t : Fin 2048, x0 (ix2 (p) (t)) * x1 (ix2 (q) (t)) := by
  pointwise [k0_pay2, k0_pay1]

theorem last0_apply (x0 : Vec Ideal S1024x2048 .bf16) (x1 : Vec Ideal S256x2048 .bf16) (xs0 : Vec Ideal S1024x256 .f32) (p : Fin 1024) (q : Fin 256) :
    k0_pay4 x0 x1 xs0 (ix2 p q) = ((xs0 (ix2 p q) + ∑ t : Fin 2048, x0 (ix2 (p) (t)) * x1 (ix2 (q) (t)))) := by
  pointwise [k0_pay4, k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 1) (q : Fin 256) : Fin 256 := Cert.Mm.tile (by decide) j q
abbrev mid (s : Fin 2) (t : Fin 2048) : Fin 4096 := Cert.Mm.tile (by decide) s t

/-- The grid point of the tiles. -/
def pt (i : Fin 4) (j : Fin 1) (s : Fin 2) : Fin cfg0.N :=
  ⟨(i.val * 1 + j.val) * 2 + s.val, lt_of_lt_of_eq (by omega : _ < 8) N_0.symm⟩

theorem idx : ∀ (i : Fin 4) (j : Fin 1) (s : Fin 2), win0_0.index (pt i j s) = ![i.val, s.val] ∧ win0_1.index (pt i j s) = ![j.val, s.val] ∧ win0_2.index (pt i j s) = ![i.val, j.val] := by
  decide +kernel

variable (m : (ℓ : Loc nD τ sig) → Buf (Elt Ideal) ℓ) (c : Dev nD)

abbrev arg0 : S4096x4096.Idx → EReal := m ((c : Thread nD τ).loc main_arg0)
abbrev arg1 : S256x4096.Idx → EReal := m ((c : Thread nD τ).loc main_arg1)

theorem blk0 (i : Fin 4) (j : Fin 1) (s : Fin 2) (p : Fin 1024) (t : Fin 2048) :
    (iblk m c 0 (pt i j s) : Vec Ideal S1024x2048 .bf16) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 2048 + 1 * t.val = _; rw [e]; rfl

theorem blk1 (i : Fin 4) (j : Fin 1) (s : Fin 2) (q : Fin 256) (t : Fin 2048) :
    (iblk m c 1 (pt i j s) : Vec Ideal S256x2048 .bf16) (ix2 q t) = arg1 m c (ix2 (col j q) (mid s t)) := by
  have e := (idx i j s).2.1
  show (V m c (Pipeline.arrRef spec0 1)) (((cfg0.win 1).blk (pt i j s)).view.emb (ix2 q t)) = _
  refine Eq.trans (congrFun (V_main_arg1 m c) _) (congrArg (arg1 m c) (Cert.Mm.idx_tile ?_ ?_))
  · show win0_1.index (pt i j s) 0 * 256 + 1 * q.val = _; rw [e]; rfl
  · show win0_1.index (pt i j s) 1 * 2048 + 1 * t.val = _; rw [e]; rfl

theorem emb2 (i : Fin 4) (j : Fin 1) (s : Fin 2) (p : Fin 1024) (q : Fin 256) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 256 + 1 * q.val = _; rw [e]; rfl

theorem acc0 (i : Fin 4) (j : Fin 1) : (outsAt0 m c (pt i j 0).val (pt i j 0).isLt).2
    = k0_pay2 (F := Ideal) (iblk m c 0 (pt i j 0)) (iblk m c 1 (pt i j 0)) := by
  have hv : (pt i j 0).val % 2 = 0 := by show ((i.val * 1 + j.val) * 2 + 0) % 2 = 0; omega
  rw [outsAt0_A m c (pt i j 0) (by omega) (by omega)]
  dsimp only
  rw [sout0_A_0_eq]

theorem disjoint2 : ∀ t t' : Fin cfg0.N, (cfg0.win 2).flush t = true → (cfg0.win 2).flush t' = true → t ≠ t' →
    Disjoint ((cfg0.win 2).blk t).view.set ((cfg0.win 2).blk t').view.set :=
  fun t t' f f' hne => (cfg0.win 2).disjoint_blk fun h => hne
    ((by decide +kernel : ∀ t t' : Fin grid0.N, t.val % 2 = 1 → t'.val % 2 = 1 → win0_2.index t = win0_2.index t' → t = t') t t'
      ((flush0_2 t).mp f) ((flush0_2 t').mp f') h)

/-- The result array after the run. -/
theorem final2 (i : Fin 4) (j : Fin 1) (p : Fin 1024) (q : Fin 256) :
    (dats m 0 c).arrAt 2 cfg0.N (ix2 (row i p) (col j q)) = (∑ k : Fin 4096, arg0 m c (ix2 (row i p) (k)) * arg1 m c (ix2 (col j q) (k))) := by
  refine Eq.trans (congrArg ((dats m 0 c).arrAt 2 cfg0.N) (emb2 i j 1 p q).symm) ?_
  have hv : (pt i j 1).val % 2 = 1 := by show ((i.val * 1 + j.val) * 2 + 1) % 2 = 1; omega
  have hp : outsAt0 m c ((pt i j 1).val - 1) (Nat.lt_of_le_of_lt (Nat.sub_le _ _) (pt i j 1).isLt) = outsAt0 m c (pt i j 0).val (pt i j 0).isLt := rfl
  refine Eq.trans ((dats m 0 c).arrAt_emb_eq_flushed 2 disjoint2 (pt i j 1) ((flush0_2 _).mpr hv) (ix2 p q)) ?_
  refine Eq.trans (cast_eq _ _) ?_
  rw [Value.flushed2]
  show (outsAt0 m c (pt i j 1).val (pt i j 1).isLt).1 (ix2 p q) = _
  rw [outsAt0_B m c (pt i j 1) (by omega) (by omega), hp]
  dsimp only
  rw [out0_B_2_eq, acc0, last0_apply, first_apply]
  simp only [blk0, blk1]
  rw [Cert.Mm.sum_two_tiles (n := 4096) (t := 2048) (by decide)]

end Cert.CukvdxValue

/-! ## The reference -/

namespace Cert.CukvdxRef

open Cert.CukvdxReferenceIdeal Cert.CukvdxReferenceIdeal.Gen Cert.CukvdxReferenceIdeal.Read Cert.EReals Idealize.ShloMosaic
open scoped BigOperators

theorem ref0_apply (x0 : (⟨S4096x4096, .bf16⟩ : BufTy).Contents (Elt Ideal)) (x1 : (⟨S256x4096, .bf16⟩ : BufTy).Contents (Elt Ideal)) (r : Fin 4096) (s : Fin 256) :
    val_main_v5 x0 x1 (ix2 r s) = (∑ k : Fin 4096, x0 (ix2 (r) (k)) * x1 (ix2 (s) (k))) := by
  pointwise [val_main_v5, val_main_v4, val_main_v1, val_main_v0]

end Cert.CukvdxRef

/-! ## The claims -/

namespace Cert.CukvdxClaims

open Cert.CukvdxValue Idealize.ShloMosaic Idealize.SL.Sem

theorem frame_kernel : Cert.quiescent_CukvdxKernel := fun m ρ _ => Cert.CukvdxKernel.Gen.frame m ρ
theorem frame_ideal : Cert.quiescent_CukvdxKernelIdeal := fun m ρ _ => Cert.CukvdxKernelIdeal.Gen.frame m ρ
theorem frame_reference : Cert.quiescent_CukvdxReferenceIdeal := fun m ρ _ =>
  (θ_run Cert.CukvdxReferenceIdeal.defs _ _).mono (fun r h => ⟨fun c => (h c).2, sem_eq_zero_of_no_sems (by decide) r.2⟩)
    (Cert.CukvdxReferenceIdeal.Value.run (F := Ideal) m ρ)

/-- The kernel's result is the reference's, on all extended reals. -/
theorem algebraic : Cert.algebraic_CukvdxKernelIdeal_CukvdxReferenceIdeal := by
  intro m ρ m' ρ' _ hagree
  refine ⟨_, Cert.CukvdxKernelIdeal.Value.run_blocks (F := Ideal) m ρ, ?_⟩
  refine (θ_run Cert.CukvdxReferenceIdeal.defs _ _).mono (fun _ h c => ?_) (Cert.CukvdxReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.CukvdxReferenceIdeal.Read.val_main_v5_eq _ _) ?_
    funext x
    obtain ⟨i, j, p, q, rfl⟩ := Cert.Mm.exists_idx_tile (a0 := 4) (a1 := 1) (t0 := 1024) (t1 := 256) (by decide) (by decide) x
    exact (Cert.CukvdxRef.ref0_apply _ _ (row i p) (col j q)).trans (final2 m c i j p q).symm

end Cert.CukvdxClaims

end
-- ==== Proof.Mm.Cuqdw.lean ====
/- The gradient of the latent attention's query up-projection weight.
   What each grid point computes, what the result array holds after the run, what the reference computes, and the
   claims. -/
module

public import proofs.«01_k».proof.Proof.Gen.CuqdwKernelIdeal.Value
public import proofs.«01_k».proof.Proof.Gen.CuqdwKernel.Frame
public import proofs.«01_k».proof.Proof.Gen.CuqdwReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.CuqdwValue

open Cert.CuqdwKernelIdeal Cert.CuqdwKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The first step along the contracted axis stores its product; -/
theorem sout0_A_0_eq (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .f32) (harg6 : arg6.IsWhole) (hc0 : cond0_0 i) (hc1 : ¬cond0_1 i) (hc2 : ¬cond0_2 i)
    (x0 : Vec F S2048x512 .bf16) (x1 : Vec F S2048x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S2048x1024) hz, View.readCov_unit_zero (S := S2048x1024) _ hz, View.ld_unit_zero (S := S2048x512) hz, View.readCov_unit_zero (S := S2048x512) _ hz, View.ld_unit_zero (S := S512x1024) hz, View.readCov_unit_zero (S := S512x1024) _ hz]

/-- the last one writes the sum out. -/
theorem out0_B_2_eq (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : ¬cond0_1 i) (hc2 : cond0_2 i)
    (x0 : Vec F S2048x512 .bf16) (x1 : Vec F S2048x1024 .bf16) (xs0 : Vec F S512x1024 .f32) :
    out0_B_2 c i arg3 harg3 arg4 harg4 arg5 harg5 arg6 harg6 hc0 hc1 hc2 x0 x1 xs0 = k0_pay4 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S2048x1024) hz, View.readCov_unit_zero (S := S2048x1024) _ hz, View.ld_unit_zero (S := S2048x512) hz, View.readCov_unit_zero (S := S2048x512) _ hz, View.ld_unit_zero (S := S512x1024) hz, View.readCov_unit_zero (S := S512x1024) _ hz]

end

theorem first_apply (x0 : Vec Ideal S2048x512 .bf16) (x1 : Vec Ideal S2048x1024 .bf16) (p : Fin 512) (q : Fin 1024) :
    k0_pay2 x0 x1 (ix2 p q) = ∑ t : Fin 2048, x0 (ix2 (t) (p)) * x1 (ix2 (t) (q)) := by
  pointwise [k0_pay2, k0_pay1]

theorem last0_apply (x0 : Vec Ideal S2048x512 .bf16) (x1 : Vec Ideal S2048x1024 .bf16) (xs0 : Vec Ideal S512x1024 .f32) (p : Fin 512) (q : Fin 1024) :
    k0_pay4 x0 x1 xs0 (ix2 p q) = ((xs0 (ix2 p q) + ∑ t : Fin 2048, x0 (ix2 (t) (p)) * x1 (ix2 (t) (q)))) := by
  pointwise [k0_pay4, k0_pay1]

/-! ## The arrays -/

/-- Row `p` of row tile `i`, column `q` of column tile `j`, place `t` of tile `s` of the contracted axis. -/
abbrev row (i : Fin 1) (p : Fin 512) : Fin 512 := Cert.Mm.tile (by decide) i p
abbrev col (j : Fin 4) (q : Fin 1024) : Fin 4096 := Cert.Mm.tile (by decide) j q
abbrev mid (s : Fin 2) (t : Fin 2048) : Fin 4096 := Cert.Mm.tile (by decide) s t

/-- The grid point of the tiles. -/
def pt (i : Fin 1) (j : Fin 4) (s : Fin 2) : Fin cfg0.N :=
  ⟨(i.val * 4 + j.val) * 2 + s.val, lt_of_lt_of_eq (by omega : _ < 8) N_0.symm⟩

theorem idx : ∀ (i : Fin 1) (j : Fin 4) (s : Fin 2), win0_0.index (pt i j s) = ![s.val, i.val] ∧ win0_1.index (pt i j s) = ![s.val, j.val] ∧ win0_2.index (pt i j s) = ![i.val, j.val] := by
  decide +kernel

variable (m : (ℓ : Loc nD τ sig) → Buf (Elt Ideal) ℓ) (c : Dev nD)

abbrev arg0 : S4096x512.Idx → EReal := m ((c : Thread nD τ).loc main_arg0)
abbrev arg1 : S4096x4096.Idx → EReal := m ((c : Thread nD τ).loc main_arg1)

theorem blk0 (i : Fin 1) (j : Fin 4) (s : Fin 2) (t : Fin 2048) (p : Fin 512) :
    (iblk m c 0 (pt i j s) : Vec Ideal S2048x512 .bf16) (ix2 t p) = arg0 m c (ix2 (mid s t) (row i p)) := by
  have e := (idx i j s).1
  show (V m c (Pipeline.arrRef spec0 0)) (((cfg0.win 0).blk (pt i j s)).view.emb (ix2 t p)) = _
  refine Eq.trans (congrFun (V_main_arg0 m c) _) (congrArg (arg0 m c) (Cert.Mm.idx_tile ?_ ?_))
  · show win0_0.index (pt i j s) 0 * 2048 + 1 * t.val = _; rw [e]; rfl
  · show win0_0.index (pt i j s) 1 * 512 + 1 * p.val = _; rw [e]; rfl

theorem blk1 (i : Fin 1) (j : Fin 4) (s : Fin 2) (t : Fin 2048) (q : Fin 1024) :
    (iblk m c 1 (pt i j s) : Vec Ideal S2048x1024 .bf16) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 1024 + 1 * q.val = _; rw [e]; rfl

theorem emb2 (i : Fin 1) (j : Fin 4) (s : Fin 2) (p : Fin 512) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 512 + 1 * p.val = _; rw [e]; rfl
  · show win0_2.index (pt i j s) 1 * 1024 + 1 * q.val = _; rw [e]; rfl

theorem acc0 (i : Fin 1) (j : Fin 4) : (outsAt0 m c (pt i j 0).val (pt i j 0).isLt).2
    = k0_pay2 (F := Ideal) (iblk m c 0 (pt i j 0)) (iblk m c 1 (pt i j 0)) := by
  have hv : (pt i j 0).val % 2 = 0 := by show ((i.val * 4 + j.val) * 2 + 0) % 2 = 0; omega
  rw [outsAt0_A m c (pt i j 0) (by omega) (by omega)]
  dsimp only
  rw [sout0_A_0_eq]

theorem disjoint2 : ∀ t t' : Fin cfg0.N, (cfg0.win 2).flush t = true → (cfg0.win 2).flush t' = true → t ≠ t' →
    Disjoint ((cfg0.win 2).blk t).view.set ((cfg0.win 2).blk t').view.set :=
  fun t t' f f' hne => (cfg0.win 2).disjoint_blk fun h => hne
    ((by decide +kernel : ∀ t t' : Fin grid0.N, t.val % 2 = 1 → t'.val % 2 = 1 → win0_2.index t = win0_2.index t' → t = t') t t'
      ((flush0_2 t).mp f) ((flush0_2 t').mp f') h)

/-- The result array after the run. -/
theorem final2 (i : Fin 1) (j : Fin 4) (p : Fin 512) (q : Fin 1024) :
    (dats m 0 c).arrAt 2 cfg0.N (ix2 (row i p) (col j q)) = (∑ k : Fin 4096, arg0 m c (ix2 (k) (row i p)) * arg1 m c (ix2 (k) (col j q))) := by
  refine Eq.trans (congrArg ((dats m 0 c).arrAt 2 cfg0.N) (emb2 i j 1 p q).symm) ?_
  have hv : (pt i j 1).val % 2 = 1 := by show ((i.val * 4 + j.val) * 2 + 1) % 2 = 1; omega
  have hp : outsAt0 m c ((pt i j 1).val - 1) (Nat.lt_of_le_of_lt (Nat.sub_le _ _) (pt i j 1).isLt) = outsAt0 m c (pt i j 0).val (pt i j 0).isLt := rfl
  refine Eq.trans ((dats m 0 c).arrAt_emb_eq_flushed 2 disjoint2 (pt i j 1) ((flush0_2 _).mpr hv) (ix2 p q)) ?_
  refine Eq.trans (cast_eq _ _) ?_
  rw [Value.flushed2]
  show (outsAt0 m c (pt i j 1).val (pt i j 1).isLt).1 (ix2 p q) = _
  rw [outsAt0_B m c (pt i j 1) (by omega) (by omega), hp]
  dsimp only
  rw [out0_B_2_eq, acc0, last0_apply, first_apply]
  simp only [blk0, blk1]
  rw [Cert.Mm.sum_two_tiles (n := 4096) (t := 2048) (by decide)]

end Cert.CuqdwValue

/-! ## The reference -/

namespace Cert.CuqdwRef

open Cert.CuqdwReferenceIdeal Cert.CuqdwReferenceIdeal.Gen Cert.CuqdwReferenceIdeal.Read Cert.EReals Idealize.ShloMosaic
open scoped BigOperators

theorem ref0_apply (x0 : (⟨S4096x512, .bf16⟩ : BufTy).Contents (Elt Ideal)) (x1 : (⟨S4096x4096, .bf16⟩ : BufTy).Contents (Elt Ideal)) (r : Fin 512) (s : Fin 4096) :
    val_main_v6 x0 x1 (ix2 r s) = (∑ k : Fin 4096, x0 (ix2 (k) (r)) * x1 (ix2 (k) (s))) := by
  pointwise [val_main_v6, val_main_v5, val_main_v4, val_main_v1, val_main_v0]
  exact Finset.sum_congr rfl fun k _ => mul_comm _ _

end Cert.CuqdwRef

/-! ## The claims -/

namespace Cert.CuqdwClaims

open Cert.CuqdwValue Idealize.ShloMosaic Idealize.SL.Sem

theorem frame_kernel : Cert.quiescent_CuqdwKernel := fun m ρ _ => Cert.CuqdwKernel.Gen.frame m ρ
theorem frame_ideal : Cert.quiescent_CuqdwKernelIdeal := fun m ρ _ => Cert.CuqdwKernelIdeal.Gen.frame m ρ
theorem frame_reference : Cert.quiescent_CuqdwReferenceIdeal := fun m ρ _ =>
  (θ_run Cert.CuqdwReferenceIdeal.defs _ _).mono (fun r h => ⟨fun c => (h c).2, sem_eq_zero_of_no_sems (by decide) r.2⟩)
    (Cert.CuqdwReferenceIdeal.Value.run (F := Ideal) m ρ)

/-- The kernel's result is the reference's, on all extended reals. -/
theorem algebraic : Cert.algebraic_CuqdwKernelIdeal_CuqdwReferenceIdeal := by
  intro m ρ m' ρ' _ hagree
  refine ⟨_, Cert.CuqdwKernelIdeal.Value.run_blocks (F := Ideal) m ρ, ?_⟩
  refine (θ_run Cert.CuqdwReferenceIdeal.defs _ _).mono (fun _ h c => ?_) (Cert.CuqdwReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.CuqdwReferenceIdeal.Read.val_main_v6_eq _ _) ?_
    funext x
    obtain ⟨i, j, p, q, rfl⟩ := Cert.Mm.exists_idx_tile (a0 := 1) (a1 := 4) (t0 := 512) (t1 := 1024) (by decide) (by decide) x
    exact (Cert.CuqdwRef.ref0_apply _ _ (row i p) (col j q)).trans (final2 m c i j p q).symm

end Cert.CuqdwClaims

end
-- ==== Proof.Mm.Cuqdx.lean ====
/- The gradient of the latent attention's query up-projection argument.
   What each grid point computes, what the result array holds after the run, what the reference computes, and the
   claims. -/
module

public import proofs.«01_k».proof.Proof.Gen.CuqdxKernelIdeal.Value
public import proofs.«01_k».proof.Proof.Gen.CuqdxKernel.Frame
public import proofs.«01_k».proof.Proof.Gen.CuqdxReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.CuqdxValue

open Cert.CuqdxKernelIdeal Cert.CuqdxKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The first step along the contracted axis stores its product; -/
theorem sout0_A_0_eq (c : Dev nD) (i : grid0.Coords) (arg3 : Memref sig .tc .vmem S1024x2048 .bf16) (harg3 : arg3.IsWhole) (arg4 : Memref sig .tc .vmem S512x2048 .bf16) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i) (hc2 : ¬cond0_2 i)
    (x0 : Vec F S1024x2048 .bf16) (x1 : Vec F S512x2048 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x2048) hz, View.readCov_unit_zero (S := S1024x2048) _ hz, View.ld_unit_zero (S := S1024x512) hz, View.readCov_unit_zero (S := S1024x512) _ hz, View.ld_unit_zero (S := S512x2048) hz, View.readCov_unit_zero (S := S512x2048) _ hz]

/-- the last one writes the sum out. -/
theorem out0_B_2_eq (c : Dev nD) (i : grid0.Coords) (arg3 : Memref sig .tc .vmem S1024x2048 .bf16) (harg3 : arg3.IsWhole) (arg4 : Memref sig .tc .vmem S512x2048 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : ¬cond0_1 i) (hc2 : cond0_2 i)
    (x0 : Vec F S1024x2048 .bf16) (x1 : Vec F S512x2048 .bf16) (xs0 : Vec F S1024x512 .f32) :
    out0_B_2 c i arg3 harg3 arg4 harg4 arg5 harg5 arg6 harg6 hc0 hc1 hc2 x0 x1 xs0 = k0_pay4 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x2048) hz, View.readCov_unit_zero (S := S1024x2048) _ hz, View.ld_unit_zero (S := S1024x512) hz, View.readCov_unit_zero (S := S1024x512) _ hz, View.ld_unit_zero (S := S512x2048) hz, View.readCov_unit_zero (S := S512x2048) _ hz]

end

theorem first_apply (x0 : Vec Ideal S1024x2048 .bf16) (x1 : Vec Ideal S512x2048 .bf16) (p : Fin 1024) (q : Fin 512) :
    k0_pay2 x0 x1 (ix2 p q) = ∑ t : Fin 2048, x0 (ix2 (p) (t)) * x1 (ix2 (q) (t)) := by
  pointwise [k0_pay2, k0_pay1]

theorem last0_apply (x0 : Vec Ideal S1024x2048 .bf16) (x1 : Vec Ideal S512x2048 .bf16) (xs0 : Vec Ideal S1024x512 .f32) (p : Fin 1024) (q : Fin 512) :
    k0_pay4 x0 x1 xs0 (ix2 p q) = ((xs0 (ix2 p q) + ∑ t : Fin 2048, x0 (ix2 (p) (t)) * x1 (ix2 (q) (t)))) := by
  pointwise [k0_pay4, k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 1) (q : Fin 512) : Fin 512 := Cert.Mm.tile (by decide) j q
abbrev mid (s : Fin 2) (t : Fin 2048) : Fin 4096 := Cert.Mm.tile (by decide) s t

/-- The grid point of the tiles. -/
def pt (i : Fin 4) (j : Fin 1) (s : Fin 2) : Fin cfg0.N :=
  ⟨(i.val * 1 + j.val) * 2 + s.val, lt_of_lt_of_eq (by omega : _ < 8) N_0.symm⟩

theorem idx : ∀ (i : Fin 4) (j : Fin 1) (s : Fin 2), win0_0.index (pt i j s) = ![i.val, s.val] ∧ win0_1.index (pt i j s) = ![j.val, s.val] ∧ win0_2.index (pt i j s) = ![i.val, j.val] := by
  decide +kernel

variable (m : (ℓ : Loc nD τ sig) → Buf (Elt Ideal) ℓ) (c : Dev nD)

abbrev arg0 : S4096x4096.Idx → EReal := m ((c : Thread nD τ).loc main_arg0)
abbrev arg1 : S512x4096.Idx → EReal := m ((c : Thread nD τ).loc main_arg1)

theorem blk0 (i : Fin 4) (j : Fin 1) (s : Fin 2) (p : Fin 1024) (t : Fin 2048) :
    (iblk m c 0 (pt i j s) : Vec Ideal S1024x2048 .bf16) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 2048 + 1 * t.val = _; rw [e]; rfl

theorem blk1 (i : Fin 4) (j : Fin 1) (s : Fin 2) (q : Fin 512) (t : Fin 2048) :
    (iblk m c 1 (pt i j s) : Vec Ideal S512x2048 .bf16) (ix2 q t) = arg1 m c (ix2 (col j q) (mid s t)) := by
  have e := (idx i j s).2.1
  show (V m c (Pipeline.arrRef spec0 1)) (((cfg0.win 1).blk (pt i j s)).view.emb (ix2 q t)) = _
  refine Eq.trans (congrFun (V_main_arg1 m c) _) (congrArg (arg1 m c) (Cert.Mm.idx_tile ?_ ?_))
  · show win0_1.index (pt i j s) 0 * 512 + 1 * q.val = _; rw [e]; rfl
  · show win0_1.index (pt i j s) 1 * 2048 + 1 * t.val = _; rw [e]; rfl

theorem emb2 (i : Fin 4) (j : Fin 1) (s : Fin 2) (p : Fin 1024) (q : Fin 512) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 512 + 1 * q.val = _; rw [e]; rfl

theorem acc0 (i : Fin 4) (j : Fin 1) : (outsAt0 m c (pt i j 0).val (pt i j 0).isLt).2
    = k0_pay2 (F := Ideal) (iblk m c 0 (pt i j 0)) (iblk m c 1 (pt i j 0)) := by
  have hv : (pt i j 0).val % 2 = 0 := by show ((i.val * 1 + j.val) * 2 + 0) % 2 = 0; omega
  rw [outsAt0_A m c (pt i j 0) (by omega) (by omega)]
  dsimp only
  rw [sout0_A_0_eq]

theorem disjoint2 : ∀ t t' : Fin cfg0.N, (cfg0.win 2).flush t = true → (cfg0.win 2).flush t' = true → t ≠ t' →
    Disjoint ((cfg0.win 2).blk t).view.set ((cfg0.win 2).blk t').view.set :=
  fun t t' f f' hne => (cfg0.win 2).disjoint_blk fun h => hne
    ((by decide +kernel : ∀ t t' : Fin grid0.N, t.val % 2 = 1 → t'.val % 2 = 1 → win0_2.index t = win0_2.index t' → t = t') t t'
      ((flush0_2 t).mp f) ((flush0_2 t').mp f') h)

/-- The result array after the run. -/
theorem final2 (i : Fin 4) (j : Fin 1) (p : Fin 1024) (q : Fin 512) :
    (dats m 0 c).arrAt 2 cfg0.N (ix2 (row i p) (col j q)) = (∑ k : Fin 4096, arg0 m c (ix2 (row i p) (k)) * arg1 m c (ix2 (col j q) (k))) := by
  refine Eq.trans (congrArg ((dats m 0 c).arrAt 2 cfg0.N) (emb2 i j 1 p q).symm) ?_
  have hv : (pt i j 1).val % 2 = 1 := by show ((i.val * 1 + j.val) * 2 + 1) % 2 = 1; omega
  have hp : outsAt0 m c ((pt i j 1).val - 1) (Nat.lt_of_le_of_lt (Nat.sub_le _ _) (pt i j 1).isLt) = outsAt0 m c (pt i j 0).val (pt i j 0).isLt := rfl
  refine Eq.trans ((dats m 0 c).arrAt_emb_eq_flushed 2 disjoint2 (pt i j 1) ((flush0_2 _).mpr hv) (ix2 p q)) ?_
  refine Eq.trans (cast_eq _ _) ?_
  rw [Value.flushed2]
  show (outsAt0 m c (pt i j 1).val (pt i j 1).isLt).1 (ix2 p q) = _
  rw [outsAt0_B m c (pt i j 1) (by omega) (by omega), hp]
  dsimp only
  rw [out0_B_2_eq, acc0, last0_apply, first_apply]
  simp only [blk0, blk1]
  rw [Cert.Mm.sum_two_tiles (n := 4096) (t := 2048) (by decide)]

end Cert.CuqdxValue

/-! ## The reference -/

namespace Cert.CuqdxRef

open Cert.CuqdxReferenceIdeal Cert.CuqdxReferenceIdeal.Gen Cert.CuqdxReferenceIdeal.Read Cert.EReals Idealize.ShloMosaic
open scoped BigOperators

theorem ref0_apply (x0 : (⟨S4096x4096, .bf16⟩ : BufTy).Contents (Elt Ideal)) (x1 : (⟨S512x4096, .bf16⟩ : BufTy).Contents (Elt Ideal)) (r : Fin 4096) (s : Fin 512) :
    val_main_v5 x0 x1 (ix2 r s) = (∑ k : Fin 4096, x0 (ix2 (r) (k)) * x1 (ix2 (s) (k))) := by
  pointwise [val_main_v5, val_main_v4, val_main_v1, val_main_v0]

end Cert.CuqdxRef

/-! ## The claims -/

namespace Cert.CuqdxClaims

open Cert.CuqdxValue Idealize.ShloMosaic Idealize.SL.Sem

theorem frame_kernel : Cert.quiescent_CuqdxKernel := fun m ρ _ => Cert.CuqdxKernel.Gen.frame m ρ
theorem frame_ideal : Cert.quiescent_CuqdxKernelIdeal := fun m ρ _ => Cert.CuqdxKernelIdeal.Gen.frame m ρ
theorem frame_reference : Cert.quiescent_CuqdxReferenceIdeal := fun m ρ _ =>
  (θ_run Cert.CuqdxReferenceIdeal.defs _ _).mono (fun r h => ⟨fun c => (h c).2, sem_eq_zero_of_no_sems (by decide) r.2⟩)
    (Cert.CuqdxReferenceIdeal.Value.run (F := Ideal) m ρ)

/-- The kernel's result is the reference's, on all extended reals. -/
theorem algebraic : Cert.algebraic_CuqdxKernelIdeal_CuqdxReferenceIdeal := by
  intro m ρ m' ρ' _ hagree
  refine ⟨_, Cert.CuqdxKernelIdeal.Value.run_blocks (F := Ideal) m ρ, ?_⟩
  refine (θ_run Cert.CuqdxReferenceIdeal.defs _ _).mono (fun _ h c => ?_) (Cert.CuqdxReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.CuqdxReferenceIdeal.Read.val_main_v5_eq _ _) ?_
    funext x
    obtain ⟨i, j, p, q, rfl⟩ := Cert.Mm.exists_idx_tile (a0 := 4) (a1 := 1) (t0 := 1024) (t1 := 512) (by decide) (by decide) x
    exact (Cert.CuqdxRef.ref0_apply _ _ (row i p) (col j q)).trans (final2 m c i j p q).symm

end Cert.CuqdxClaims

end
-- ==== Proof.Mm.F1.lean ====
/- The first feed-forward product and its squared positive part.
   What each grid point computes, what the result array holds after the run, what the reference computes, and the
   claims. -/
module

public import proofs.«01_k».proof.Proof.Gen.F1KernelIdeal.Value
public import proofs.«01_k».proof.Proof.Gen.F1Kernel.Frame
public import proofs.«01_k».proof.Proof.Gen.F1ReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.F1Value

open Cert.F1KernelIdeal Cert.F1KernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_3_eq (x0 : Vec F S1024x2048 .bf16) (x1 : Vec F S2048x1024 .bf16) (x2 : Vec F S8x128 .f32) : out0_3 x0 x1 x2 = k0_pay2 x0 x1 := by
  unfold out0_3
  rw [View.canon_unit_zero hz]
  simp only [View.ld_unit_zero (S := S1024x1024) hz, View.ld_unit_zero (S := S1024x2048) hz, View.ld_unit_zero (S := S2048x1024) hz, View.ld_unit_zero (S := S8x128) hz]

theorem out0_4_eq (x0 : Vec F S1024x2048 .bf16) (x1 : Vec F S2048x1024 .bf16) (x2 : Vec F S8x128 .f32) : out0_4 x0 x1 x2 = k0_pay3 x0 x1 := by
  unfold out0_4
  rw [View.canon_unit_zero hz]
  simp only [View.ld_unit_zero (S := S1024x1024) hz, View.ld_unit_zero (S := S1024x2048) hz, View.ld_unit_zero (S := S2048x1024) hz, View.ld_unit_zero (S := S8x128) hz]

end

theorem last0_apply (x0 : Vec Ideal S1024x2048 .bf16) (x1 : Vec Ideal S2048x1024 .bf16) (p : Fin 1024) (q : Fin 1024) :
    k0_pay2 x0 x1 (ix2 p q) = (∑ t : Fin 2048, x0 (ix2 (p) (t)) * x1 (ix2 (t) (q))) := by
  pointwise [k0_pay2, k0_pay1]

theorem last1_apply (x0 : Vec Ideal S1024x2048 .bf16) (x1 : Vec Ideal S2048x1024 .bf16) (p : Fin 1024) (q : Fin 1024) :
    k0_pay3 x0 x1 (ix2 p q) = max (∑ t : Fin 2048, x0 (ix2 (p) (t)) * x1 (ix2 (t) (q))) 0 * max (∑ t : Fin 2048, x0 (ix2 (p) (t)) * x1 (ix2 (t) (q))) 0 := by
  pointwise [k0_pay3, k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 8) (q : Fin 1024) : Fin 8192 := Cert.Mm.tile (by decide) j q
abbrev mid (s : Fin 1) (t : Fin 2048) : Fin 2048 := Cert.Mm.tile (by decide) s t

/-- The grid point of the tiles. -/
def pt (i : Fin 4) (j : Fin 8) (s : Fin 1) : Fin cfg0.N :=
  ⟨(i.val * 8 + j.val) * 1 + s.val, lt_of_lt_of_eq (by omega : _ < 32) N_0.symm⟩

theorem idx : ∀ (i : Fin 4) (j : Fin 8) (s : Fin 1), win0_0.index (pt i j s) = ![i.val, s.val] ∧ win0_1.index (pt i j s) = ![s.val, j.val] ∧ win0_3.index (pt i j s) = ![i.val, j.val] ∧ win0_4.index (pt i j s) = ![i.val, j.val] := by
  decide +kernel

variable (m : (ℓ : Loc nD τ sig) → Buf (Elt Ideal) ℓ) (c : Dev nD)

abbrev arg0 : S4096x2048.Idx → EReal := m ((c : Thread nD τ).loc main_arg0)
abbrev arg1 : S2048x8192.Idx → EReal := m ((c : Thread nD τ).loc main_arg1)

theorem blk0 (i : Fin 4) (j : Fin 8) (s : Fin 1) (p : Fin 1024) (t : Fin 2048) :
    (iblk m c 0 (pt i j s) : Vec Ideal S1024x2048 .bf16) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 2048 + 1 * t.val = _; rw [e]; rfl

theorem blk1 (i : Fin 4) (j : Fin 8) (s : Fin 1) (t : Fin 2048) (q : Fin 1024) :
    (iblk m c 1 (pt i j s) : Vec Ideal S2048x1024 .bf16) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 1024 + 1 * q.val = _; rw [e]; rfl

theorem emb3 (i : Fin 4) (j : Fin 8) (s : Fin 1) (p : Fin 1024) (q : Fin 1024) :
    ((cfg0.win 3).blk (pt i j s)).view.emb (ix2 p q) = ix2 (row i p) (col j q) := by
  have e := (idx i j s).2.2.1
  refine Cert.Mm.idx_tile ?_ ?_
  · show win0_3.index (pt i j s) 0 * 1024 + 1 * p.val = _; rw [e]; rfl
  · show win0_3.index (pt i j s) 1 * 1024 + 1 * q.val = _; rw [e]; rfl

theorem emb4 (i : Fin 4) (j : Fin 8) (s : Fin 1) (p : Fin 1024) (q : Fin 1024) :
    ((cfg0.win 4).blk (pt i j s)).view.emb (ix2 p q) = ix2 (row i p) (col j q) := by
  have e := (idx i j s).2.2.2
  refine Cert.Mm.idx_tile ?_ ?_
  · show win0_4.index (pt i j s) 0 * 1024 + 1 * p.val = _; rw [e]; rfl
  · show win0_4.index (pt i j s) 1 * 1024 + 1 * q.val = _; rw [e]; rfl

/-- The result array after the run. -/
theorem final3 (i : Fin 4) (j : Fin 8) (p : Fin 1024) (q : Fin 1024) :
    (dats m 0 c).arrAt 3 cfg0.N (ix2 (row i p) (col j q)) = (∑ k : Fin 2048, arg0 m c (ix2 (row i p) (k)) * arg1 m c (ix2 (k) (col j q))) := by
  refine Eq.trans (congrArg ((dats m 0 c).arrAt 3 cfg0.N) (emb3 i j 0 p q).symm) ?_
  refine Eq.trans ((dats m 0 c).arrAt_emb_eq_flushed 3 Value.disjoint3 (pt i j 0) (flush0_3 _) (ix2 p q)) ?_
  refine Eq.trans (cast_eq _ _) ?_
  rw [Value.flushed3, out0_3_eq]
  show k0_pay2 (F := Ideal) (iblk m c 0 (pt i j 0)) (iblk m c 1 (pt i j 0)) (ix2 p q) = _
  rw [last0_apply]
  simp only [blk0, blk1, Cert.Mm.tile_one]

/-- The result array after the run. -/
theorem final4 (i : Fin 4) (j : Fin 8) (p : Fin 1024) (q : Fin 1024) :
    (dats m 0 c).arrAt 4 cfg0.N (ix2 (row i p) (col j q)) = max (∑ k : Fin 2048, arg0 m c (ix2 (row i p) (k)) * arg1 m c (ix2 (k) (col j q))) 0 * max (∑ k : Fin 2048, arg0 m c (ix2 (row i p) (k)) * arg1 m c (ix2 (k) (col j q))) 0 := by
  refine Eq.trans (congrArg ((dats m 0 c).arrAt 4 cfg0.N) (emb4 i j 0 p q).symm) ?_
  refine Eq.trans ((dats m 0 c).arrAt_emb_eq_flushed 4 Value.disjoint4 (pt i j 0) (flush0_4 _) (ix2 p q)) ?_
  refine Eq.trans (cast_eq _ _) ?_
  rw [Value.flushed4, out0_4_eq]
  show k0_pay3 (F := Ideal) (iblk m c 0 (pt i j 0)) (iblk m c 1 (pt i j 0)) (ix2 p q) = _
  rw [last1_apply]
  simp only [blk0, blk1, Cert.Mm.tile_one]

end Cert.F1Value

/-! ## The reference -/

namespace Cert.F1Ref

open Cert.F1ReferenceIdeal Cert.F1ReferenceIdeal.Gen Cert.F1ReferenceIdeal.Read Cert.EReals Idealize.ShloMosaic
open scoped BigOperators

theorem ref0_apply (x0 : (⟨S4096x2048, .bf16⟩ : BufTy).Contents (Elt Ideal)) (x1 : (⟨S2048x8192, .bf16⟩ : BufTy).Contents (Elt Ideal)) (r : Fin 4096) (s : Fin 8192) :
    val_main_v4 x0 x1 (ix2 r s) = (∑ k : Fin 2048, x0 (ix2 (r) (k)) * x1 (ix2 (k) (s))) := by
  pointwise [val_main_v4, val_main_v2, val_main_v0, val_main_v1]

theorem ref1_apply (x0 : (⟨S4096x2048, .bf16⟩ : BufTy).Contents (Elt Ideal)) (x1 : (⟨S2048x8192, .bf16⟩ : BufTy).Contents (Elt Ideal)) (r : Fin 4096) (s : Fin 8192) :
    val_main_v6 x0 x1 (ix2 r s) = max (∑ k : Fin 2048, x0 (ix2 (r) (k)) * x1 (ix2 (k) (s))) 0 * max (∑ k : Fin 2048, x0 (ix2 (r) (k)) * x1 (ix2 (k) (s))) 0 := by
  pointwise [val_main_v6, val_main_v5, val_main_v3, val_main_v2, val_main_call0_v0, val_main_v0, val_main_v1, val_main_call0_cst]

end Cert.F1Ref

/-! ## The claims -/

namespace Cert.F1Claims

open Cert.F1Value Idealize.ShloMosaic Idealize.SL.Sem

theorem frame_kernel : Cert.quiescent_F1Kernel := fun m ρ _ => Cert.F1Kernel.Gen.frame m ρ
theorem frame_ideal : Cert.quiescent_F1KernelIdeal := fun m ρ _ => Cert.F1KernelIdeal.Gen.frame m ρ
theorem frame_reference : Cert.quiescent_F1ReferenceIdeal := fun m ρ _ =>
  (θ_run Cert.F1ReferenceIdeal.defs _ _).mono (fun r h => ⟨fun c => (h c).2.2, sem_eq_zero_of_no_sems (by decide) r.2⟩)
    (Cert.F1ReferenceIdeal.Value.run (F := Ideal) m ρ)

/-- The kernel's result is the reference's, on all extended reals. -/
theorem algebraic : Cert.algebraic_F1KernelIdeal_F1ReferenceIdeal := by
  intro m ρ m' ρ' _ hagree
  refine ⟨_, _, Cert.F1KernelIdeal.Value.run_blocks (F := Ideal) m ρ, ?_⟩
  refine (θ_run Cert.F1ReferenceIdeal.defs _ _).mono (fun _ h c => ?_) (Cert.F1ReferenceIdeal.Value.run (F := Ideal) m' ρ')
  obtain ⟨h0, h1, hrest⟩ := h c
  obtain ⟨e0, e1, e2⟩ := hagree c
  refine ⟨?_, ?_, hrest⟩
  · refine h0.trans ?_
    rw [e0, e1]
    refine Eq.trans (Cert.F1ReferenceIdeal.Read.val_main_v4_eq _ _) ?_
    funext x
    obtain ⟨i, j, p, q, rfl⟩ := Cert.Mm.exists_idx_tile (a0 := 4) (a1 := 8) (t0 := 1024) (t1 := 1024) (by decide) (by decide) x
    exact (Cert.F1Ref.ref0_apply _ _ (row i p) (col j q)).trans (final3 m c i j p q).symm
  · refine h1.trans ?_
    rw [e0, e1]
    refine Eq.trans (Cert.F1ReferenceIdeal.Read.val_main_v6_eq _ _) ?_
    funext x
    obtain ⟨i, j, p, q, rfl⟩ := Cert.Mm.exists_idx_tile (a0 := 4) (a1 := 8) (t0 := 1024) (t1 := 1024) (by decide) (by decide) x
    exact (Cert.F1Ref.ref1_apply _ _ (row i p) (col j q)).trans (final4 m c i j p q).symm

end Cert.F1Claims

end
-- ==== Proof.Mm.F1dw.lean ====
/- The gradient of the first feed-forward weight.
   What each grid point computes, what the result array holds after the run, what the reference computes, and the
   claims. -/
module

public import proofs.«01_k».proof.Proof.Gen.F1dwKernelIdeal.Value
public import proofs.«01_k».proof.Proof.Gen.F1dwKernel.Frame
public import proofs.«01_k».proof.Proof.Gen.F1dwReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.F1dwValue

open Cert.F1dwKernelIdeal Cert.F1dwKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The first step along the contracted axis stores its product; -/
theorem sout0_A_0_eq (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec F S2048x1024 .bf16) (x1 : Vec F S2048x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz, View.ld_unit_zero (S := S2048x1024) hz, View.readCov_unit_zero (S := S2048x1024) _ hz]

/-- the last one writes the sum out. -/
theorem out0_B_2_eq (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (hc2 : cond0_2 i)
    (x0 : Vec F S2048x1024 .bf16) (x1 : Vec F S2048x1024 .bf16) (xs0 : Vec F S1024x1024 .f32) :
    out0_B_2 c i arg3 harg3 arg4 harg4 arg5 harg5 arg6 harg6 hc0 hc1 hc2 x0 x1 xs0 = k0_pay4 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz, View.ld_unit_zero (S := S2048x1024) hz, View.readCov_unit_zero (S := S2048x1024) _ hz]

end

theorem first_apply (x0 : Vec Ideal S2048x1024 .bf16) (x1 : Vec Ideal S2048x1024 .bf16) (p : Fin 1024) (q : Fin 1024) :
    k0_pay2 x0 x1 (ix2 p q) = ∑ t : Fin 2048, x0 (ix2 (t) (p)) * x1 (ix2 (t) (q)) := by
  pointwise [k0_pay2, k0_pay1]

theorem last0_apply (x0 : Vec Ideal S2048x1024 .bf16) (x1 : Vec Ideal S2048x1024 .bf16) (xs0 : Vec Ideal S1024x1024 .f32) (p : Fin 1024) (q : Fin 1024) :
    k0_pay4 x0 x1 xs0 (ix2 p q) = ((xs0 (ix2 p q) + ∑ t : Fin 2048, x0 (ix2 (t) (p)) * x1 (ix2 (t) (q)))) := by
  pointwise [k0_pay4, k0_pay1]

/-! ## The arrays -/

/-- Row `p` of row tile `i`, column `q` of column tile `j`, place `t` of tile `s` of the contracted axis. -/
abbrev row (i : Fin 2) (p : Fin 1024) : Fin 2048 := Cert.Mm.tile (by decide) i p
abbrev col (j : Fin 8) (q : Fin 1024) : Fin 8192 := Cert.Mm.tile (by decide) j q
abbrev mid (s : Fin 2) (t : Fin 2048) : Fin 4096 := Cert.Mm.tile (by decide) s t

/-- The grid point of the tiles. -/
def pt (i : Fin 2) (j : Fin 8) (s : Fin 2) : Fin cfg0.N :=
  ⟨(i.val * 8 + j.val) * 2 + s.val, lt_of_lt_of_eq (by omega : _ < 32) N_0.symm⟩

theorem idx : ∀ (i : Fin 2) (j : Fin 8) (s : Fin 2), win0_0.index (pt i j s) = ![s.val, i.val] ∧ win0_1.index (pt i j s) = ![s.val, j.val] ∧ win0_2.index (pt i j s) = ![i.val, j.val] := by
  decide +kernel

variable (m : (ℓ : Loc nD τ sig) → Buf (Elt Ideal) ℓ) (c : Dev nD)

abbrev arg0 : S4096x2048.Idx → EReal := m ((c : Thread nD τ).loc main_arg0)
abbrev arg1 : S4096x8192.Idx → EReal := m ((c : Thread nD τ).loc main_arg1)

theorem blk0 (i : Fin 2) (j : Fin 8) (s : Fin 2) (t : Fin 2048) (p : Fin 1024) :
    (iblk m c 0 (pt i j s) : Vec Ideal S2048x1024 .bf16) (ix2 t p) = arg0 m c (ix2 (mid s t) (row i p)) := by
  have e := (idx i j s).1
  show (V m c (Pipeline.arrRef spec0 0)) (((cfg0.win 0).blk (pt i j s)).view.emb (ix2 t p)) = _
  refine Eq.trans (congrFun (V_main_arg0 m c) _) (congrArg (arg0 m c) (Cert.Mm.idx_tile ?_ ?_))
  · show win0_0.index (pt i j s) 0 * 2048 + 1 * t.val = _; rw [e]; rfl
  · show win0_0.index (pt i j s) 1 * 1024 + 1 * p.val = _; rw [e]; rfl

theorem blk1 (i : Fin 2) (j : Fin 8) (s : Fin 2) (t : Fin 2048) (q : Fin 1024) :
    (iblk m c 1 (pt i j s) : Vec Ideal S2048x1024 .bf16) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 1024 + 1 * q.val = _; rw [e]; rfl

theorem emb2 (i : Fin 2) (j : Fin 8) (s : Fin 2) (p : Fin 1024) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 1024 + 1 * q.val = _; rw [e]; rfl

theorem acc0 (i : Fin 2) (j : Fin 8) : (outsAt0 m c (pt i j 0).val (pt i j 0).isLt).2
    = k0_pay2 (F := Ideal) (iblk m c 0 (pt i j 0)) (iblk m c 1 (pt i j 0)) := by
  have hv : (pt i j 0).val % 2 = 0 := by show ((i.val * 8 + j.val) * 2 + 0) % 2 = 0; omega
  rw [outsAt0_A m c (pt i j 0) (by omega) (by omega)]
  dsimp only
  rw [sout0_A_0_eq]

theorem disjoint2 : ∀ t t' : Fin cfg0.N, (cfg0.win 2).flush t = true → (cfg0.win 2).flush t' = true → t ≠ t' →
    Disjoint ((cfg0.win 2).blk t).view.set ((cfg0.win 2).blk t').view.set :=
  fun t t' f f' hne => (cfg0.win 2).disjoint_blk fun h => hne
    ((by decide +kernel : ∀ t t' : Fin grid0.N, t.val % 2 = 1 → t'.val % 2 = 1 → win0_2.index t = win0_2.index t' → t = t') t t'
      ((flush0_2 t).mp f) ((flush0_2 t').mp f') h)

/-- The result array after the run. -/
theorem final2 (i : Fin 2) (j : Fin 8) (p : Fin 1024) (q : Fin 1024) :
    (dats m 0 c).arrAt 2 cfg0.N (ix2 (row i p) (col j q)) = (∑ k : Fin 4096, arg0 m c (ix2 (k) (row i p)) * arg1 m c (ix2 (k) (col j q))) := by
  refine Eq.trans (congrArg ((dats m 0 c).arrAt 2 cfg0.N) (emb2 i j 1 p q).symm) ?_
  have hv : (pt i j 1).val % 2 = 1 := by show ((i.val * 8 + j.val) * 2 + 1) % 2 = 1; omega
  have hp : outsAt0 m c ((pt i j 1).val - 1) (Nat.lt_of_le_of_lt (Nat.sub_le _ _) (pt i j 1).isLt) = outsAt0 m c (pt i j 0).val (pt i j 0).isLt := rfl
  refine Eq.trans ((dats m 0 c).arrAt_emb_eq_flushed 2 disjoint2 (pt i j 1) ((flush0_2 _).mpr hv) (ix2 p q)) ?_
  refine Eq.trans (cast_eq _ _) ?_
  rw [Value.flushed2]
  show (outsAt0 m c (pt i j 1).val (pt i j 1).isLt).1 (ix2 p q) = _
  rw [outsAt0_B m c (pt i j 1) (by omega) (by omega), hp]
  dsimp only
  rw [out0_B_2_eq, acc0, last0_apply, first_apply]
  simp only [blk0, blk1]
  rw [Cert.Mm.sum_two_tiles (n := 4096) (t := 2048) (by decide)]

end Cert.F1dwValue

/-! ## The reference -/

namespace Cert.F1dwRef

open Cert.F1dwReferenceIdeal Cert.F1dwReferenceIdeal.Gen Cert.F1dwReferenceIdeal.Read Cert.EReals Idealize.ShloMosaic
open scoped BigOperators

theorem ref0_apply (x0 : (⟨S4096x2048, .bf16⟩ : BufTy).Contents (Elt Ideal)) (x1 : (⟨S4096x8192, .bf16⟩ : BufTy).Contents (Elt Ideal)) (r : Fin 2048) (s : Fin 8192) :
    val_main_v6 x0 x1 (ix2 r s) = (∑ k : Fin 4096, x0 (ix2 (k) (r)) * x1 (ix2 (k) (s))) := by
  pointwise [val_main_v6, val_main_v5, val_main_v4, val_main_v1, val_main_v0]
  exact Finset.sum_congr rfl fun k _ => mul_comm _ _

end Cert.F1dwRef

/-! ## The claims -/

namespace Cert.F1dwClaims

open Cert.F1dwValue Idealize.ShloMosaic Idealize.SL.Sem

theorem frame_kernel : Cert.quiescent_F1dwKernel := fun m ρ _ => Cert.F1dwKernel.Gen.frame m ρ
theorem frame_ideal : Cert.quiescent_F1dwKernelIdeal := fun m ρ _ => Cert.F1dwKernelIdeal.Gen.frame m ρ
theorem frame_reference : Cert.quiescent_F1dwReferenceIdeal := fun m ρ _ =>
  (θ_run Cert.F1dwReferenceIdeal.defs _ _).mono (fun r h => ⟨fun c => (h c).2, sem_eq_zero_of_no_sems (by decide) r.2⟩)
    (Cert.F1dwReferenceIdeal.Value.run (F := Ideal) m ρ)

/-- The kernel's result is the reference's, on all extended reals. -/
theorem algebraic : Cert.algebraic_F1dwKernelIdeal_F1dwReferenceIdeal := by
  intro m ρ m' ρ' _ hagree
  refine ⟨_, Cert.F1dwKernelIdeal.Value.run_blocks (F := Ideal) m ρ, ?_⟩
  refine (θ_run Cert.F1dwReferenceIdeal.defs _ _).mono (fun _ h c => ?_) (Cert.F1dwReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.F1dwReferenceIdeal.Read.val_main_v6_eq _ _) ?_
    funext x
    obtain ⟨i, j, p, q, rfl⟩ := Cert.Mm.exists_idx_tile (a0 := 2) (a1 := 8) (t0 := 1024) (t1 := 1024) (by decide) (by decide) x
    exact (Cert.F1dwRef.ref0_apply _ _ (row i p) (col j q)).trans (final2 m c i j p q).symm

end Cert.F1dwClaims

end
-- ==== Proof.Mm.F1dx.lean ====
/- The gradient of the first feed-forward product's argument.
   What each grid point computes, what the result array holds after the run, what the reference computes, and the
   claims. -/
module

public import proofs.«01_k».proof.Proof.Gen.F1dxKernelIdeal.Value
public import proofs.«01_k».proof.Proof.Gen.F1dxKernel.Frame
public import proofs.«01_k».proof.Proof.Gen.F1dxReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.F1dxValue

open Cert.F1dxKernelIdeal Cert.F1dxKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The first step along the contracted axis stores its product; -/
theorem sout0_A_0_eq (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec F S1024x2048 .bf16) (x1 : Vec F S1024x2048 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz, View.ld_unit_zero (S := S1024x2048) hz, View.readCov_unit_zero (S := S1024x2048) _ hz]

/-- a middle one adds its product to what is there; -/
theorem sout0_B_0_eq (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec F S1024x2048 .bf16) (x1 : Vec F S1024x2048 .bf16) (xs0 : Vec F S1024x1024 .f32) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz, View.ld_unit_zero (S := S1024x2048) hz, View.readCov_unit_zero (S := S1024x2048) _ hz]

/-- the last one writes the sum out. -/
theorem out0_C_2_eq (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (hc2 : cond0_2 i)
    (x0 : Vec F S1024x2048 .bf16) (x1 : Vec F S1024x2048 .bf16) (xs0 : Vec F S1024x1024 .f32) :
    out0_C_2 c i arg3 harg3 arg4 harg4 arg5 harg5 arg6 harg6 hc0 hc1 hc2 x0 x1 xs0 = k0_pay4 x0 x1 xs0 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz, View.ld_unit_zero (S := S1024x2048) hz, View.readCov_unit_zero (S := S1024x2048) _ hz]

end

theorem first_apply (x0 : Vec Ideal S1024x2048 .bf16) (x1 : Vec Ideal S1024x2048 .bf16) (p : Fin 1024) (q : Fin 1024) :
    k0_pay2 x0 x1 (ix2 p q) = ∑ t : Fin 2048, x0 (ix2 (p) (t)) * x1 (ix2 (q) (t)) := by
  pointwise [k0_pay2, k0_pay1]

theorem mid_apply (x0 : Vec Ideal S1024x2048 .bf16) (x1 : Vec Ideal S1024x2048 .bf16) (xs0 : Vec Ideal S1024x1024 .f32) (p : Fin 1024) (q : Fin 1024) :
    k0_pay3 x0 x1 xs0 (ix2 p q) = xs0 (ix2 p q) + ∑ t : Fin 2048, x0 (ix2 (p) (t)) * x1 (ix2 (q) (t)) := by
  pointwise [k0_pay3, k0_pay1]

theorem last0_apply (x0 : Vec Ideal S1024x2048 .bf16) (x1 : Vec Ideal S1024x2048 .bf16) (xs0 : Vec Ideal S1024x1024 .f32) (p : Fin 1024) (q : Fin 1024) :
    k0_pay4 x0 x1 xs0 (ix2 p q) = ((xs0 (ix2 p q) + ∑ t : Fin 2048, x0 (ix2 (p) (t)) * x1 (ix2 (q) (t)))) := by
  pointwise [k0_pay4, k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 2) (q : Fin 1024) : Fin 2048 := Cert.Mm.tile (by decide) j q
abbrev mid (s : Fin 4) (t : Fin 2048) : Fin 8192 := Cert.Mm.tile (by decide) s t

/-- The grid point of the tiles. -/
def pt (i : Fin 4) (j : Fin 2) (s : Fin 4) : Fin cfg0.N :=
  ⟨(i.val * 2 + j.val) * 4 + s.val, lt_of_lt_of_eq (by omega : _ < 32) N_0.symm⟩

theorem idx : ∀ (i : Fin 4) (j : Fin 2) (s : Fin 4), win0_0.index (pt i j s) = ![i.val, s.val] ∧ win0_1.index (pt i j s) = ![j.val, s.val] ∧ win0_2.index (pt i j s) = ![i.val, j.val] := by
  decide +kernel

variable (m : (ℓ : Loc nD τ sig) → Buf (Elt Ideal) ℓ) (c : Dev nD)

abbrev arg0 : S4096x8192.Idx → EReal := m ((c : Thread nD τ).loc main_arg0)
abbrev arg1 : S2048x8192.Idx → EReal := m ((c : Thread nD τ).loc main_arg1)

theorem blk0 (i : Fin 4) (j : Fin 2) (s : Fin 4) (p : Fin 1024) (t : Fin 2048) :
    (iblk m c 0 (pt i j s) : Vec Ideal S1024x2048 .bf16) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 2048 + 1 * t.val = _; rw [e]; rfl

theorem blk1 (i : Fin 4) (j : Fin 2) (s : Fin 4) (q : Fin 1024) (t : Fin 2048) :
    (iblk m c 1 (pt i j s) : Vec Ideal S1024x2048 .bf16) (ix2 q t) = arg1 m c (ix2 (col j q) (mid s t)) := by
  have e := (idx i j s).2.1
  show (V m c (Pipeline.arrRef spec0 1)) (((cfg0.win 1).blk (pt i j s)).view.emb (ix2 q t)) = _
  refine Eq.trans (congrFun (V_main_arg1 m c) _) (congrArg (arg1 m c) (Cert.Mm.idx_tile ?_ ?_))
  · show win0_1.index (pt i j s) 0 * 1024 + 1 * q.val = _; rw [e]; rfl
  · show win0_1.index (pt i j s) 1 * 2048 + 1 * t.val = _; rw [e]; rfl

theorem emb2 (i : Fin 4) (j : Fin 2) (s : Fin 4) (p : Fin 1024) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 1024 + 1 * q.val = _; rw [e]; rfl

theorem acc0 (i : Fin 4) (j : Fin 2) : (outsAt0 m c (pt i j 0).val (pt i j 0).isLt).2
    = k0_pay2 (F := Ideal) (iblk m c 0 (pt i j 0)) (iblk m c 1 (pt i j 0)) := by
  have hv : (pt i j 0).val % 4 = 0 := by show ((i.val * 2 + j.val) * 4 + 0) % 4 = 0; omega
  rw [outsAt0_A m c (pt i j 0) (by omega) (by omega) (by omega)]
  dsimp only
  rw [sout0_A_0_eq]

theorem acc1 (i : Fin 4) (j : Fin 2) : (outsAt0 m c (pt i j 1).val (pt i j 1).isLt).2
    = k0_pay3 (F := Ideal) (iblk m c 0 (pt i j 1)) (iblk m c 1 (pt i j 1)) (outsAt0 m c (pt i j 0).val (pt i j 0).isLt).2 := by
  have hv : (pt i j 1).val % 4 = 1 := by show ((i.val * 2 + j.val) * 4 + 1) % 4 = 1; omega
  have hp : outsAt0 m c ((pt i j 1).val - 1) (Nat.lt_of_le_of_lt (Nat.sub_le _ _) (pt i j 1).isLt) = outsAt0 m c (pt i j 0).val (pt i j 0).isLt := rfl
  rw [outsAt0_B m c (pt i j 1) (by omega) (by omega) (by omega), hp]
  dsimp only
  rw [sout0_B_0_eq]

theorem acc2 (i : Fin 4) (j : Fin 2) : (outsAt0 m c (pt i j 2).val (pt i j 2).isLt).2
    = k0_pay3 (F := Ideal) (iblk m c 0 (pt i j 2)) (iblk m c 1 (pt i j 2)) (outsAt0 m c (pt i j 1).val (pt i j 1).isLt).2 := by
  have hv : (pt i j 2).val % 4 = 2 := by show ((i.val * 2 + j.val) * 4 + 2) % 4 = 2; omega
  have hp : outsAt0 m c ((pt i j 2).val - 1) (Nat.lt_of_le_of_lt (Nat.sub_le _ _) (pt i j 2).isLt) = outsAt0 m c (pt i j 1).val (pt i j 1).isLt := rfl
  rw [outsAt0_B m c (pt i j 2) (by omega) (by omega) (by omega), hp]
  dsimp only
  rw [sout0_B_0_eq]

theorem disjoint2 : ∀ t t' : Fin cfg0.N, (cfg0.win 2).flush t = true → (cfg0.win 2).flush t' = true → t ≠ t' →
    Disjoint ((cfg0.win 2).blk t).view.set ((cfg0.win 2).blk t').view.set :=
  fun t t' f f' hne => (cfg0.win 2).disjoint_blk fun h => hne
    ((by decide +kernel : ∀ t t' : Fin grid0.N, t.val % 4 = 3 → t'.val % 4 = 3 → win0_2.index t = win0_2.index t' → t = t') t t'
      ((flush0_2 t).mp f) ((flush0_2 t').mp f') h)

/-- The result array after the run. -/
theorem final2 (i : Fin 4) (j : Fin 2) (p : Fin 1024) (q : Fin 1024) :
    (dats m 0 c).arrAt 2 cfg0.N (ix2 (row i p) (col j q)) = (∑ k : Fin 8192, arg0 m c (ix2 (row i p) (k)) * arg1 m c (ix2 (col j q) (k))) := by
  refine Eq.trans (congrArg ((dats m 0 c).arrAt 2 cfg0.N) (emb2 i j 3 p q).symm) ?_
  have hv : (pt i j 3).val % 4 = 3 := by show ((i.val * 2 + j.val) * 4 + 3) % 4 = 3; omega
  have hp : outsAt0 m c ((pt i j 3).val - 1) (Nat.lt_of_le_of_lt (Nat.sub_le _ _) (pt i j 3).isLt) = outsAt0 m c (pt i j 2).val (pt i j 2).isLt := rfl
  refine Eq.trans ((dats m 0 c).arrAt_emb_eq_flushed 2 disjoint2 (pt i j 3) ((flush0_2 _).mpr hv) (ix2 p q)) ?_
  refine Eq.trans (cast_eq _ _) ?_
  rw [Value.flushed2]
  show (outsAt0 m c (pt i j 3).val (pt i j 3).isLt).1 (ix2 p q) = _
  rw [outsAt0_C m c (pt i j 3) (by omega) (by omega) (by omega), hp]
  dsimp only
  rw [out0_C_2_eq, acc2, acc1, acc0, last0_apply, mid_apply, mid_apply, first_apply]
  simp only [blk0, blk1]
  rw [Cert.Mm.sum_four_tiles (n := 8192) (t := 2048) (by decide)]

end Cert.F1dxValue

/-! ## The reference -/

namespace Cert.F1dxRef

open Cert.F1dxReferenceIdeal Cert.F1dxReferenceIdeal.Gen Cert.F1dxReferenceIdeal.Read Cert.EReals Idealize.ShloMosaic
open scoped BigOperators

theorem ref0_apply (x0 : (⟨S4096x8192, .bf16⟩ : BufTy).Contents (Elt Ideal)) (x1 : (⟨S2048x8192, .bf16⟩ : BufTy).Contents (Elt Ideal)) (r : Fin 4096) (s : Fin 2048) :
    val_main_v5 x0 x1 (ix2 r s) = (∑ k : Fin 8192, x0 (ix2 (r) (k)) * x1 (ix2 (s) (k))) := by
  pointwise [val_main_v5, val_main_v4, val_main_v1, val_main_v0]

end Cert.F1dxRef

/-! ## The claims -/

namespace Cert.F1dxClaims

open Cert.F1dxValue Idealize.ShloMosaic Idealize.SL.Sem

theorem frame_kernel : Cert.quiescent_F1dxKernel := fun m ρ _ => Cert.F1dxKernel.Gen.frame m ρ
theorem frame_ideal : Cert.quiescent_F1dxKernelIdeal := fun m ρ _ => Cert.F1dxKernelIdeal.Gen.frame m ρ
theorem frame_reference : Cert.quiescent_F1dxReferenceIdeal := fun m ρ _ =>
  (θ_run Cert.F1dxReferenceIdeal.defs _ _).mono (fun r h => ⟨fun c => (h c).2, sem_eq_zero_of_no_sems (by decide) r.2⟩)
    (Cert.F1dxReferenceIdeal.Value.run (F := Ideal) m ρ)

/-- The kernel's result is the reference's, on all extended reals. -/
theorem algebraic : Cert.algebraic_F1dxKernelIdeal_F1dxReferenceIdeal := by
  intro m ρ m' ρ' _ hagree
  refine ⟨_, Cert.F1dxKernelIdeal.Value.run_blocks (F := Ideal) m ρ, ?_⟩
  refine (θ_run Cert.F1dxReferenceIdeal.defs _ _).mono (fun _ h c => ?_) (Cert.F1dxReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.F1dxReferenceIdeal.Read.val_main_v5_eq _ _) ?_
    funext x
    obtain ⟨i, j, p, q, rfl⟩ := Cert.Mm.exists_idx_tile (a0 := 4) (a1 := 2) (t0 := 1024) (t1 := 1024) (by decide) (by decide) x
    exact (Cert.F1dxRef.ref0_apply _ _ (row i p) (col j q)).trans (final2 m c i j p q).symm

end Cert.F1dxClaims

end
-- ==== Proof.Mm.F2.lean ====
/- The second feed-forward product, added to the residual stream.
   What each grid point computes, what the result array holds after the run, what the reference computes, and the
   claims. -/
module

public import proofs.«01_k».proof.Proof.Gen.F2KernelIdeal.Value
public import proofs.«01_k».proof.Proof.Gen.F2Kernel.Frame
public import proofs.«01_k».proof.Proof.Gen.F2ReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.F2Value

open Cert.F2KernelIdeal Cert.F2KernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The first step along the contracted axis stores its product; -/
theorem sout0_A_0_eq (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S1024x2048 .bf16) (x1 : Vec F S2048x1024 .bf16) (x2 : Vec F S1024x1024 .f32) :
    sout0_A_0 c i arg3 harg3 arg4 harg4 arg5 harg5 arg6 harg6 arg7 harg7 hc0 hc1 hc2 x0 x1 x2 = k0_pay2 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, harg7.read_unread, View.ld_unit_zero (S := S1024x1024) hz, View.readCov_unit_zero (S := S1024x1024) _ hz, View.ld_unit_zero (S := S1024x2048) hz, View.readCov_unit_zero (S := S1024x2048) _ hz, View.ld_unit_zero (S := S2048x1024) hz, View.readCov_unit_zero (S := S2048x1024) _ hz]

/-- a middle one adds its product to what is there; -/
theorem sout0_B_0_eq (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S1024x2048 .bf16) (x1 : Vec F S2048x1024 .bf16) (x2 : Vec F S1024x1024 .f32) (xs0 : Vec F S1024x1024 .f32) :
    sout0_B_0 c i arg3 harg3 arg4 harg4 arg5 harg5 arg6 harg6 arg7 harg7 hc0 hc1 hc2 x0 x1 x2 xs0 = k0_pay3 x0 x1 xs0 := by
  unfold sout0_B_0
  rw [View.read_writes_eq_canon _ _ _ (scover0_B_0 c i arg3 harg3 arg4 harg4 arg5 harg5 arg6 harg6 arg7 harg7 hc0 hc1 hc2 x0 x1 x2 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, harg7.read_unread, View.ld_unit_zero (S := S1024x1024) hz, View.readCov_unit_zero (S := S1024x1024) _ hz, View.ld_unit_zero (S := S1024x2048) hz, View.readCov_unit_zero (S := S1024x2048) _ hz, View.ld_unit_zero (S := S2048x1024) hz, View.readCov_unit_zero (S := S2048x1024) _ hz]

/-- the last one writes the sum out. -/
theorem out0_C_3_eq (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i) (hc2 : cond0_2 i)
    (x0 : Vec F S1024x2048 .bf16) (x1 : Vec F S2048x1024 .bf16) (x2 : Vec F S1024x1024 .f32) (xs0 : Vec F S1024x1024 .f32) :
    out0_C_3 c i arg3 harg3 arg4 harg4 arg5 harg5 arg6 harg6 arg7 harg7 hc0 hc1 hc2 x0 x1 x2 xs0 = k0_pay4 x0 x1 xs0 x2 := by
  unfold out0_C_3
  rw [View.read_writes_eq_canon _ _ _ (cover0_C_3 c i arg3 harg3 arg4 harg4 arg5 harg5 arg6 harg6 arg7 harg7 hc0 hc1 hc2 x0 x1 x2 xs0)]
  unfold kernelRun0_C
  dsimp only
  sl_unfold_words
  first | rw [View.canon_unit_zero hz] | rw [View.canon_cons_unit_zero hz]
  simp only [View.readAt_eq_ld, harg3.read_unread, harg4.read_unread, harg5.read_unread, harg6.read_unread, harg7.read_unread, View.ld_unit_zero (S := S1024x1024) hz, View.readCov_unit_zero (S := S1024x1024) _ hz, View.ld_unit_zero (S := S1024x2048) hz, View.readCov_unit_zero (S := S1024x2048) _ hz, View.ld_unit_zero (S := S2048x1024) hz, View.readCov_unit_zero (S := S2048x1024) _ hz]

end

theorem first_apply (x0 : Vec Ideal S1024x2048 .bf16) (x1 : Vec Ideal S2048x1024 .bf16) (p : Fin 1024) (q : Fin 1024) :
    k0_pay2 x0 x1 (ix2 p q) = ∑ t : Fin 2048, x0 (ix2 (p) (t)) * x1 (ix2 (t) (q)) := by
  pointwise [k0_pay2, k0_pay1]

theorem mid_apply (x0 : Vec Ideal S1024x2048 .bf16) (x1 : Vec Ideal S2048x1024 .bf16) (xs0 : Vec Ideal S1024x1024 .f32) (p : Fin 1024) (q : Fin 1024) :
    k0_pay3 x0 x1 xs0 (ix2 p q) = xs0 (ix2 p q) + ∑ t : Fin 2048, x0 (ix2 (p) (t)) * x1 (ix2 (t) (q)) := by
  pointwise [k0_pay3, k0_pay1]

theorem last0_apply (x0 : Vec Ideal S1024x2048 .bf16) (x1 : Vec Ideal S2048x1024 .bf16) (xs0 : Vec Ideal S1024x1024 .f32) (x2 : Vec Ideal S1024x1024 .f32) (p : Fin 1024) (q : Fin 1024) :
    k0_pay4 x0 x1 xs0 x2 (ix2 p q) = ((xs0 (ix2 p q) + ∑ t : Fin 2048, x0 (ix2 (p) (t)) * x1 (ix2 (t) (q)))) + x2 (ix2 p q) := by
  pointwise [k0_pay4, k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 2) (q : Fin 1024) : Fin 2048 := Cert.Mm.tile (by decide) j q
abbrev mid (s : Fin 4) (t : Fin 2048) : Fin 8192 := Cert.Mm.tile (by decide) s t

/-- The grid point of the tiles. -/
def pt (i : Fin 4) (j : Fin 2) (s : Fin 4) : Fin cfg0.N :=
  ⟨(i.val * 2 + j.val) * 4 + s.val, lt_of_lt_of_eq (by omega : _ < 32) N_0.symm⟩

theorem idx : ∀ (i : Fin 4) (j : Fin 2) (s : Fin 4), win0_0.index (pt i j s) = ![i.val, s.val] ∧ win0_1.index (pt i j s) = ![s.val, j.val] ∧ win0_2.index (pt i j s) = ![i.val, j.val] ∧ win0_3.index (pt i j s) = ![i.val, j.val] := by
  decide +kernel

variable (m : (ℓ : Loc nD τ sig) → Buf (Elt Ideal) ℓ) (c : Dev nD)

abbrev arg0 : S4096x8192.Idx → EReal := m ((c : Thread nD τ).loc main_arg0)
abbrev arg1 : S8192x2048.Idx → EReal := m ((c : Thread nD τ).loc main_arg1)
abbrev arg2 : S4096x2048.Idx → EReal := m ((c : Thread nD τ).loc main_arg2)

theorem blk0 (i : Fin 4) (j : Fin 2) (s : Fin 4) (p : Fin 1024) (t : Fin 2048) :
    (iblk m c 0 (pt i j s) : Vec Ideal S1024x2048 .bf16) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 2048 + 1 * t.val = _; rw [e]; rfl

theorem blk1 (i : Fin 4) (j : Fin 2) (s : Fin 4) (t : Fin 2048) (q : Fin 1024) :
    (iblk m c 1 (pt i j s) : Vec Ideal S2048x1024 .bf16) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 1024 + 1 * q.val = _; rw [e]; rfl

theorem blk2 (i : Fin 4) (j : Fin 2) (s : Fin 4) (p : Fin 1024) (q : Fin 1024) :
    (iblk m c 2 (pt i j s) : Vec Ideal S1024x1024 .f32) (ix2 p q) = arg2 m c (ix2 (row i p) (col j q)) := by
  have e := (idx i j s).2.2.1
  show (V m c (Pipeline.arrRef spec0 2)) (((cfg0.win 2).blk (pt i j s)).view.emb (ix2 p q)) = _
  refine Eq.trans (congrFun (V_main_arg2 m c) _) (congrArg (arg2 m c) (Cert.Mm.idx_tile ?_ ?_))
  · show win0_2.index (pt i j s) 0 * 1024 + 1 * p.val = _; rw [e]; rfl
  · show win0_2.index (pt i j s) 1 * 1024 + 1 * q.val = _; rw [e]; rfl

theorem emb3 (i : Fin 4) (j : Fin 2) (s : Fin 4) (p : Fin 1024) (q : Fin 1024) :
    ((cfg0.win 3).blk (pt i j s)).view.emb (ix2 p q) = ix2 (row i p) (col j q) := by
  have e := (idx i j s).2.2.2
  refine Cert.Mm.idx_tile ?_ ?_
  · show win0_3.index (pt i j s) 0 * 1024 + 1 * p.val = _; rw [e]; rfl
  · show win0_3.index (pt i j s) 1 * 1024 + 1 * q.val = _; rw [e]; rfl

theorem acc0 (i : Fin 4) (j : Fin 2) : (outsAt0 m c (pt i j 0).val (pt i j 0).isLt).2
    = k0_pay2 (F := Ideal) (iblk m c 0 (pt i j 0)) (iblk m c 1 (pt i j 0)) := by
  have hv : (pt i j 0).val % 4 = 0 := by show ((i.val * 2 + j.val) * 4 + 0) % 4 = 0; omega
  rw [outsAt0_A m c (pt i j 0) (by omega) (by omega) (by omega)]
  dsimp only
  rw [sout0_A_0_eq]

theorem acc1 (i : Fin 4) (j : Fin 2) : (outsAt0 m c (pt i j 1).val (pt i j 1).isLt).2
    = k0_pay3 (F := Ideal) (iblk m c 0 (pt i j 1)) (iblk m c 1 (pt i j 1)) (outsAt0 m c (pt i j 0).val (pt i j 0).isLt).2 := by
  have hv : (pt i j 1).val % 4 = 1 := by show ((i.val * 2 + j.val) * 4 + 1) % 4 = 1; omega
  have hp : outsAt0 m c ((pt i j 1).val - 1) (Nat.lt_of_le_of_lt (Nat.sub_le _ _) (pt i j 1).isLt) = outsAt0 m c (pt i j 0).val (pt i j 0).isLt := rfl
  rw [outsAt0_B m c (pt i j 1) (by omega) (by omega) (by omega), hp]
  dsimp only
  rw [sout0_B_0_eq]

theorem acc2 (i : Fin 4) (j : Fin 2) : (outsAt0 m c (pt i j 2).val (pt i j 2).isLt).2
    = k0_pay3 (F := Ideal) (iblk m c 0 (pt i j 2)) (iblk m c 1 (pt i j 2)) (outsAt0 m c (pt i j 1).val (pt i j 1).isLt).2 := by
  have hv : (pt i j 2).val % 4 = 2 := by show ((i.val * 2 + j.val) * 4 + 2) % 4 = 2; omega
  have hp : outsAt0 m c ((pt i j 2).val - 1) (Nat.lt_of_le_of_lt (Nat.sub_le _ _) (pt i j 2).isLt) = outsAt0 m c (pt i j 1).val (pt i j 1).isLt := rfl
  rw [outsAt0_B m c (pt i j 2) (by omega) (by omega) (by omega), hp]
  dsimp only
  rw [sout0_B_0_eq]

theorem disjoint3 : ∀ t t' : Fin cfg0.N, (cfg0.win 3).flush t = true → (cfg0.win 3).flush t' = true → t ≠ t' →
    Disjoint ((cfg0.win 3).blk t).view.set ((cfg0.win 3).blk t').view.set :=
  fun t t' f f' hne => (cfg0.win 3).disjoint_blk fun h => hne
    ((by decide +kernel : ∀ t t' : Fin grid0.N, t.val % 4 = 3 → t'.val % 4 = 3 → win0_3.index t = win0_3.index t' → t = t') t t'
      ((flush0_3 t).mp f) ((flush0_3 t').mp f') h)

/-- The result array after the run. -/
theorem final3 (i : Fin 4) (j : Fin 2) (p : Fin 1024) (q : Fin 1024) :
    (dats m 0 c).arrAt 3 cfg0.N (ix2 (row i p) (col j q)) = (∑ k : Fin 8192, arg0 m c (ix2 (row i p) (k)) * arg1 m c (ix2 (k) (col j q))) + arg2 m c (ix2 (row i p) (col j q)) := by
  refine Eq.trans (congrArg ((dats m 0 c).arrAt 3 cfg0.N) (emb3 i j 3 p q).symm) ?_
  have hv : (pt i j 3).val % 4 = 3 := by show ((i.val * 2 + j.val) * 4 + 3) % 4 = 3; omega
  have hp : outsAt0 m c ((pt i j 3).val - 1) (Nat.lt_of_le_of_lt (Nat.sub_le _ _) (pt i j 3).isLt) = outsAt0 m c (pt i j 2).val (pt i j 2).isLt := rfl
  refine Eq.trans ((dats m 0 c).arrAt_emb_eq_flushed 3 disjoint3 (pt i j 3) ((flush0_3 _).mpr hv) (ix2 p q)) ?_
  refine Eq.trans (cast_eq _ _) ?_
  rw [Value.flushed3]
  show (outsAt0 m c (pt i j 3).val (pt i j 3).isLt).1 (ix2 p q) = _
  rw [outsAt0_C m c (pt i j 3) (by omega) (by omega) (by omega), hp]
  dsimp only
  rw [out0_C_3_eq, acc2, acc1, acc0, last0_apply, mid_apply, mid_apply, first_apply]
  simp only [blk0, blk1, blk2]
  rw [Cert.Mm.sum_four_tiles (n := 8192) (t := 2048) (by decide)]

end Cert.F2Value

/-! ## The reference -/

namespace Cert.F2Ref

open Cert.F2ReferenceIdeal Cert.F2ReferenceIdeal.Gen Cert.F2ReferenceIdeal.Read Cert.EReals Idealize.ShloMosaic
open scoped BigOperators

theorem ref0_apply (x0 : (⟨S4096x8192, .bf16⟩ : BufTy).Contents (Elt Ideal)) (x1 : (⟨S8192x2048, .bf16⟩ : BufTy).Contents (Elt Ideal)) (x2 : (⟨S4096x2048, .f32⟩ : BufTy).Contents (Elt Ideal)) (r : Fin 4096) (s : Fin 2048) :
    val_main_v3 x0 x1 x2 (ix2 r s) = (∑ k : Fin 8192, x0 (ix2 (r) (k)) * x1 (ix2 (k) (s))) + x2 (ix2 r s) := by
  pointwise [val_main_v3, val_main_v2, val_main_v0, val_main_v1]
  exact add_comm _ _

end Cert.F2Ref

/-! ## The claims -/

namespace Cert.F2Claims

open Cert.F2Value Idealize.ShloMosaic Idealize.SL.Sem

theorem frame_kernel : Cert.quiescent_F2Kernel := fun m ρ _ => Cert.F2Kernel.Gen.frame m ρ
theorem frame_ideal : Cert.quiescent_F2KernelIdeal := fun m ρ _ => Cert.F2KernelIdeal.Gen.frame m ρ
theorem frame_reference : Cert.quiescent_F2ReferenceIdeal := fun m ρ _ =>
  (θ_run Cert.F2ReferenceIdeal.defs _ _).mono (fun r h => ⟨fun c => (h c).2, sem_eq_zero_of_no_sems (by decide) r.2⟩)
    (Cert.F2ReferenceIdeal.Value.run (F := Ideal) m ρ)

/-- The kernel's result is the reference's, on all extended reals. -/
theorem algebraic : Cert.algebraic_F2KernelIdeal_F2ReferenceIdeal := by
  intro m ρ m' ρ' _ hagree
  refine ⟨_, Cert.F2KernelIdeal.Value.run_blocks (F := Ideal) m ρ, ?_⟩
  refine (θ_run Cert.F2ReferenceIdeal.defs _ _).mono (fun _ h c => ?_) (Cert.F2ReferenceIdeal.Value.run (F := Ideal) m' ρ')
  obtain ⟨h0, hrest⟩ := h c
  obtain ⟨e0, e1, e2⟩ := hagree c
  refine ⟨?_, hrest⟩
  · refine h0.trans ?_
    rw [e0, e1, e2]
    refine Eq.trans (Cert.F2ReferenceIdeal.Read.val_main_v3_eq _ _ _) ?_
    funext x
    obtain ⟨i, j, p, q, rfl⟩ := Cert.Mm.exists_idx_tile (a0 := 4) (a1 := 2) (t0 := 1024) (t1 := 1024) (by decide) (by decide) x
    exact (Cert.F2Ref.ref0_apply _ _ _ (row i p) (col j q)).trans (final3 m c i j p q).symm

end Cert.F2Claims

end
-- ==== Proof.Mm.F2dw.lean ====
/- The gradient of the second feed-forward weight: a product contracted over the tokens.
   What each grid point computes, what the result array holds after the run, what the reference computes, and the
   claims. -/
module

public import proofs.«01_k».proof.Proof.Gen.F2dwKernelIdeal.Value
public import proofs.«01_k».proof.Proof.Gen.F2dwKernel.Frame
public import proofs.«01_k».proof.Proof.Gen.F2dwReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.F2dwValue

open Cert.F2dwKernelIdeal Cert.F2dwKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The first step along the contracted axis stores its product; -/
theorem sout0_A_0_eq (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec F S2048x1024 .bf16) (x1 : Vec F S2048x1024 .f32) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz, View.ld_unit_zero (S := S2048x1024) hz, View.readCov_unit_zero (S := S2048x1024) _ hz]

/-- the last one writes the sum out. -/
theorem out0_B_2_eq (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (hc2 : cond0_2 i)
    (x0 : Vec F S2048x1024 .bf16) (x1 : Vec F S2048x1024 .f32) (xs0 : Vec F S1024x1024 .f32) :
    out0_B_2 c i arg3 harg3 arg4 harg4 arg5 harg5 arg6 harg6 hc0 hc1 hc2 x0 x1 xs0 = k0_pay4 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz, View.ld_unit_zero (S := S2048x1024) hz, View.readCov_unit_zero (S := S2048x1024) _ hz]

end

theorem first_apply (x0 : Vec Ideal S2048x1024 .bf16) (x1 : Vec Ideal S2048x1024 .f32) (p : Fin 1024) (q : Fin 1024) :
    k0_pay2 x0 x1 (ix2 p q) = ∑ t : Fin 2048, x0 (ix2 (t) (p)) * x1 (ix2 (t) (q)) := by
  pointwise [k0_pay2, k0_pay1]

theorem last0_apply (x0 : Vec Ideal S2048x1024 .bf16) (x1 : Vec Ideal S2048x1024 .f32) (xs0 : Vec Ideal S1024x1024 .f32) (p : Fin 1024) (q : Fin 1024) :
    k0_pay4 x0 x1 xs0 (ix2 p q) = ((xs0 (ix2 p q) + ∑ t : Fin 2048, x0 (ix2 (t) (p)) * x1 (ix2 (t) (q)))) := by
  pointwise [k0_pay4, k0_pay1]

/-! ## The arrays -/

/-- Row `p` of row tile `i`, column `q` of column tile `j`, place `t` of tile `s` of the contracted axis. -/
abbrev row (i : Fin 8) (p : Fin 1024) : Fin 8192 := Cert.Mm.tile (by decide) i p
abbrev col (j : Fin 2) (q : Fin 1024) : Fin 2048 := Cert.Mm.tile (by decide) j q
abbrev mid (s : Fin 2) (t : Fin 2048) : Fin 4096 := Cert.Mm.tile (by decide) s t

/-- The grid point of the tiles. -/
def pt (i : Fin 8) (j : Fin 2) (s : Fin 2) : Fin cfg0.N :=
  ⟨(i.val * 2 + j.val) * 2 + s.val, lt_of_lt_of_eq (by omega : _ < 32) N_0.symm⟩

theorem idx : ∀ (i : Fin 8) (j : Fin 2) (s : Fin 2), win0_0.index (pt i j s) = ![s.val, i.val] ∧ win0_1.index (pt i j s) = ![s.val, j.val] ∧ win0_2.index (pt i j s) = ![i.val, j.val] := by
  decide +kernel

variable (m : (ℓ : Loc nD τ sig) → Buf (Elt Ideal) ℓ) (c : Dev nD)

abbrev arg0 : S4096x8192.Idx → EReal := m ((c : Thread nD τ).loc main_arg0)
abbrev arg1 : S4096x2048.Idx → EReal := m ((c : Thread nD τ).loc main_arg1)

theorem blk0 (i : Fin 8) (j : Fin 2) (s : Fin 2) (t : Fin 2048) (p : Fin 1024) :
    (iblk m c 0 (pt i j s) : Vec Ideal S2048x1024 .bf16) (ix2 t p) = arg0 m c (ix2 (mid s t) (row i p)) := by
  have e := (idx i j s).1
  show (V m c (Pipeline.arrRef spec0 0)) (((cfg0.win 0).blk (pt i j s)).view.emb (ix2 t p)) = _
  refine Eq.trans (congrFun (V_main_arg0 m c) _) (congrArg (arg0 m c) (Cert.Mm.idx_tile ?_ ?_))
  · show win0_0.index (pt i j s) 0 * 2048 + 1 * t.val = _; rw [e]; rfl
  · show win0_0.index (pt i j s) 1 * 1024 + 1 * p.val = _; rw [e]; rfl

theorem blk1 (i : Fin 8) (j : Fin 2) (s : Fin 2) (t : Fin 2048) (q : Fin 1024) :
    (iblk m c 1 (pt i j s) : Vec Ideal S2048x1024 .f32) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 1024 + 1 * q.val = _; rw [e]; rfl

theorem emb2 (i : Fin 8) (j : Fin 2) (s : Fin 2) (p : Fin 1024) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 1024 + 1 * q.val = _; rw [e]; rfl

theorem acc0 (i : Fin 8) (j : Fin 2) : (outsAt0 m c (pt i j 0).val (pt i j 0).isLt).2
    = k0_pay2 (F := Ideal) (iblk m c 0 (pt i j 0)) (iblk m c 1 (pt i j 0)) := by
  have hv : (pt i j 0).val % 2 = 0 := by show ((i.val * 2 + j.val) * 2 + 0) % 2 = 0; omega
  rw [outsAt0_A m c (pt i j 0) (by omega) (by omega)]
  dsimp only
  rw [sout0_A_0_eq]

theorem disjoint2 : ∀ t t' : Fin cfg0.N, (cfg0.win 2).flush t = true → (cfg0.win 2).flush t' = true → t ≠ t' →
    Disjoint ((cfg0.win 2).blk t).view.set ((cfg0.win 2).blk t').view.set :=
  fun t t' f f' hne => (cfg0.win 2).disjoint_blk fun h => hne
    ((by decide +kernel : ∀ t t' : Fin grid0.N, t.val % 2 = 1 → t'.val % 2 = 1 → win0_2.index t = win0_2.index t' → t = t') t t'
      ((flush0_2 t).mp f) ((flush0_2 t').mp f') h)

/-- The result array after the run. -/
theorem final2 (i : Fin 8) (j : Fin 2) (p : Fin 1024) (q : Fin 1024) :
    (dats m 0 c).arrAt 2 cfg0.N (ix2 (row i p) (col j q)) = (∑ k : Fin 4096, arg0 m c (ix2 (k) (row i p)) * arg1 m c (ix2 (k) (col j q))) := by
  refine Eq.trans (congrArg ((dats m 0 c).arrAt 2 cfg0.N) (emb2 i j 1 p q).symm) ?_
  have hv : (pt i j 1).val % 2 = 1 := by show ((i.val * 2 + j.val) * 2 + 1) % 2 = 1; omega
  have hp : outsAt0 m c ((pt i j 1).val - 1) (Nat.lt_of_le_of_lt (Nat.sub_le _ _) (pt i j 1).isLt) = outsAt0 m c (pt i j 0).val (pt i j 0).isLt := rfl
  refine Eq.trans ((dats m 0 c).arrAt_emb_eq_flushed 2 disjoint2 (pt i j 1) ((flush0_2 _).mpr hv) (ix2 p q)) ?_
  refine Eq.trans (cast_eq _ _) ?_
  rw [Value.flushed2]
  show (outsAt0 m c (pt i j 1).val (pt i j 1).isLt).1 (ix2 p q) = _
  rw [outsAt0_B m c (pt i j 1) (by omega) (by omega), hp]
  dsimp only
  rw [out0_B_2_eq, acc0, last0_apply, first_apply]
  simp only [blk0, blk1]
  rw [Cert.Mm.sum_two_tiles (n := 4096) (t := 2048) (by decide)]

end Cert.F2dwValue

/-! ## The reference -/

namespace Cert.F2dwRef

open Cert.F2dwReferenceIdeal Cert.F2dwReferenceIdeal.Gen Cert.F2dwReferenceIdeal.Read Cert.EReals Idealize.ShloMosaic
open scoped BigOperators

theorem ref0_apply (x0 : (⟨S4096x8192, .bf16⟩ : BufTy).Contents (Elt Ideal)) (x1 : (⟨S4096x2048, .f32⟩ : BufTy).Contents (Elt Ideal)) (r : Fin 8192) (s : Fin 2048) :
    val_main_v5 x0 x1 (ix2 r s) = (∑ k : Fin 4096, x0 (ix2 (k) (r)) * x1 (ix2 (k) (s))) := by
  pointwise [val_main_v5, val_main_v4, val_main_v3, val_main_v0]
  exact Finset.sum_congr rfl fun k _ => mul_comm _ _

end Cert.F2dwRef

/-! ## The claims -/

namespace Cert.F2dwClaims

open Cert.F2dwValue Idealize.ShloMosaic Idealize.SL.Sem

theorem frame_kernel : Cert.quiescent_F2dwKernel := fun m ρ _ => Cert.F2dwKernel.Gen.frame m ρ
theorem frame_ideal : Cert.quiescent_F2dwKernelIdeal := fun m ρ _ => Cert.F2dwKernelIdeal.Gen.frame m ρ
theorem frame_reference : Cert.quiescent_F2dwReferenceIdeal := fun m ρ _ =>
  (θ_run Cert.F2dwReferenceIdeal.defs _ _).mono (fun r h => ⟨fun c => (h c).2, sem_eq_zero_of_no_sems (by decide) r.2⟩)
    (Cert.F2dwReferenceIdeal.Value.run (F := Ideal) m ρ)

/-- The kernel's result is the reference's, on all extended reals. -/
theorem algebraic : Cert.algebraic_F2dwKernelIdeal_F2dwReferenceIdeal := by
  intro m ρ m' ρ' _ hagree
  refine ⟨_, Cert.F2dwKernelIdeal.Value.run_blocks (F := Ideal) m ρ, ?_⟩
  refine (θ_run Cert.F2dwReferenceIdeal.defs _ _).mono (fun _ h c => ?_) (Cert.F2dwReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.F2dwReferenceIdeal.Read.val_main_v5_eq _ _) ?_
    funext x
    obtain ⟨i, j, p, q, rfl⟩ := Cert.Mm.exists_idx_tile (a0 := 8) (a1 := 2) (t0 := 1024) (t1 := 1024) (by decide) (by decide) x
    exact (Cert.F2dwRef.ref0_apply _ _ (row i p) (col j q)).trans (final2 m c i j p q).symm

end Cert.F2dwClaims

end
-- ==== Proof.Mm.F2dx.lean ====
/- The gradient of the second feed-forward product's argument, through the squared positive part.
   What each grid point computes, what the result array holds after the run, what the reference computes, and the
   claims. -/
module

public import proofs.«01_k».proof.Proof.Gen.F2dxKernelIdeal.Value
public import proofs.«01_k».proof.Proof.Gen.F2dxKernel.Frame
public import proofs.«01_k».proof.Proof.Gen.F2dxReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.F2dxValue

open Cert.F2dxKernelIdeal Cert.F2dxKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_4_eq (x0 : Vec F S1024x2048 .f32) (x1 : Vec F S1024x2048 .bf16) (x2 : Vec F S1024x1024 .bf16) (x3 : Vec F S8x128 .f32) : out0_4 x0 x1 x2 x3 = k0_pay1 x0 x1 x2 := by
  unfold out0_4
  rw [View.canon_unit_zero hz]
  simp only [View.ld_unit_zero (S := S1024x1024) hz, View.ld_unit_zero (S := S1024x2048) hz, View.ld_unit_zero (S := S8x128) hz]

end

theorem last0_apply (x0 : Vec Ideal S1024x2048 .f32) (x1 : Vec Ideal S1024x2048 .bf16) (x2 : Vec Ideal S1024x1024 .bf16) (p : Fin 1024) (q : Fin 1024) :
    k0_pay1 x0 x1 x2 (ix2 p q) = drelu2 (∑ t : Fin 2048, x0 (ix2 (p) (t)) * x1 (ix2 (q) (t))) (x2 (ix2 p q)) := by
  pointwise [k0_pay1]
  rw [two_word]
  rfl

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 8) (q : Fin 1024) : Fin 8192 := Cert.Mm.tile (by decide) j q
abbrev mid (s : Fin 1) (t : Fin 2048) : Fin 2048 := Cert.Mm.tile (by decide) s t

/-- The grid point of the tiles. -/
def pt (i : Fin 4) (j : Fin 8) (s : Fin 1) : Fin cfg0.N :=
  ⟨(i.val * 8 + j.val) * 1 + s.val, lt_of_lt_of_eq (by omega : _ < 32) N_0.symm⟩

theorem idx : ∀ (i : Fin 4) (j : Fin 8) (s : Fin 1), win0_0.index (pt i j s) = ![i.val, s.val] ∧ win0_1.index (pt i j s) = ![j.val, s.val] ∧ win0_2.index (pt i j s) = ![i.val, j.val] ∧ win0_4.index (pt i j s) = ![i.val, j.val] := by
  decide +kernel

variable (m : (ℓ : Loc nD τ sig) → Buf (Elt Ideal) ℓ) (c : Dev nD)

abbrev arg0 : S4096x2048.Idx → EReal := m ((c : Thread nD τ).loc main_arg0)
abbrev arg1 : S8192x2048.Idx → EReal := m ((c : Thread nD τ).loc main_arg1)
abbrev arg2 : S4096x8192.Idx → EReal := m ((c : Thread nD τ).loc main_arg2)

theorem blk0 (i : Fin 4) (j : Fin 8) (s : Fin 1) (p : Fin 1024) (t : Fin 2048) :
    (iblk m c 0 (pt i j s) : Vec Ideal S1024x2048 .f32) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 2048 + 1 * t.val = _; rw [e]; rfl

theorem blk1 (i : Fin 4) (j : Fin 8) (s : Fin 1) (q : Fin 1024) (t : Fin 2048) :
    (iblk m c 1 (pt i j s) : Vec Ideal S1024x2048 .bf16) (ix2 q t) = arg1 m c (ix2 (col j q) (mid s t)) := by
  have e := (idx i j s).2.1
  show (V m c (Pipeline.arrRef spec0 1)) (((cfg0.win 1).blk (pt i j s)).view.emb (ix2 q t)) = _
  refine Eq.trans (congrFun (V_main_arg1 m c) _) (congrArg (arg1 m c) (Cert.Mm.idx_tile ?_ ?_))
  · show win0_1.index (pt i j s) 0 * 1024 + 1 * q.val = _; rw [e]; rfl
  · show win0_1.index (pt i j s) 1 * 2048 + 1 * t.val = _; rw [e]; rfl

theorem blk2 (i : Fin 4) (j : Fin 8) (s : Fin 1) (p : Fin 1024) (q : Fin 1024) :
    (iblk m c 2 (pt i j s) : Vec Ideal S1024x1024 .bf16) (ix2 p q) = arg2 m c (ix2 (row i p) (col j q)) := by
  have e := (idx i j s).2.2.1
  show (V m c (Pipeline.arrRef spec0 2)) (((cfg0.win 2).blk (pt i j s)).view.emb (ix2 p q)) = _
  refine Eq.trans (congrFun (V_main_arg2 m c) _) (congrArg (arg2 m c) (Cert.Mm.idx_tile ?_ ?_))
  · show win0_2.index (pt i j s) 0 * 1024 + 1 * p.val = _; rw [e]; rfl
  · show win0_2.index (pt i j s) 1 * 1024 + 1 * q.val = _; rw [e]; rfl

theorem emb4 (i : Fin 4) (j : Fin 8) (s : Fin 1) (p : Fin 1024) (q : Fin 1024) :
    ((cfg0.win 4).blk (pt i j s)).view.emb (ix2 p q) = ix2 (row i p) (col j q) := by
  have e := (idx i j s).2.2.2
  refine Cert.Mm.idx_tile ?_ ?_
  · show win0_4.index (pt i j s) 0 * 1024 + 1 * p.val = _; rw [e]; rfl
  · show win0_4.index (pt i j s) 1 * 1024 + 1 * q.val = _; rw [e]; rfl

/-- The result array after the run. -/
theorem final4 (i : Fin 4) (j : Fin 8) (p : Fin 1024) (q : Fin 1024) :
    (dats m 0 c).arrAt 4 cfg0.N (ix2 (row i p) (col j q)) = drelu2 (∑ k : Fin 2048, arg0 m c (ix2 (row i p) (k)) * arg1 m c (ix2 (col j q) (k))) (arg2 m c (ix2 (row i p) (col j q))) := by
  refine Eq.trans (congrArg ((dats m 0 c).arrAt 4 cfg0.N) (emb4 i j 0 p q).symm) ?_
  refine Eq.trans ((dats m 0 c).arrAt_emb_eq_flushed 4 Value.disjoint4 (pt i j 0) (flush0_4 _) (ix2 p q)) ?_
  refine Eq.trans (cast_eq _ _) ?_
  rw [Value.flushed4, out0_4_eq]
  show k0_pay1 (F := Ideal) (iblk m c 0 (pt i j 0)) (iblk m c 1 (pt i j 0)) (iblk m c 2 (pt i j 0)) (ix2 p q) = _
  rw [last0_apply]
  simp only [blk0, blk1, blk2, Cert.Mm.tile_one]

end Cert.F2dxValue

/-! ## The reference -/

namespace Cert.F2dxRef

open Cert.F2dxReferenceIdeal Cert.F2dxReferenceIdeal.Gen Cert.F2dxReferenceIdeal.Read Cert.EReals Idealize.ShloMosaic
open scoped BigOperators

theorem ref0_apply (x0 : (⟨S4096x2048, .f32⟩ : BufTy).Contents (Elt Ideal)) (x1 : (⟨S8192x2048, .bf16⟩ : BufTy).Contents (Elt Ideal)) (x2 : (⟨S4096x8192, .bf16⟩ : BufTy).Contents (Elt Ideal)) (r : Fin 4096) (s : Fin 8192) :
    val_main_v14 x0 x1 x2 (ix2 r s) = drelu2 (∑ k : Fin 2048, x0 (ix2 (r) (k)) * x1 (ix2 (s) (k))) (x2 (ix2 r s)) := by
  pointwise [val_main_v14, val_main_v13, val_main_v4, val_main_v11, val_main_v12, val_main_v1, val_main_v3, val_main_v9, val_main_v10, val_main_cst_1, val_main_cst, val_main_v2, val_main_v8, val_main_call0_v0, val_main_v0, val_main_call0_cst]
  split_ifs with h
  · exact drelu2_eq _ _ h
  · exact drelu2_zero _ _ h

end Cert.F2dxRef

/-! ## The claims -/

namespace Cert.F2dxClaims

open Cert.F2dxValue Idealize.ShloMosaic Idealize.SL.Sem

theorem frame_kernel : Cert.quiescent_F2dxKernel := fun m ρ _ => Cert.F2dxKernel.Gen.frame m ρ
theorem frame_ideal : Cert.quiescent_F2dxKernelIdeal := fun m ρ _ => Cert.F2dxKernelIdeal.Gen.frame m ρ
theorem frame_reference : Cert.quiescent_F2dxReferenceIdeal := fun m ρ _ =>
  (θ_run Cert.F2dxReferenceIdeal.defs _ _).mono (fun r h => ⟨fun c => (h c).2, sem_eq_zero_of_no_sems (by decide) r.2⟩)
    (Cert.F2dxReferenceIdeal.Value.run (F := Ideal) m ρ)

/-- The kernel's result is the reference's, on all extended reals. -/
theorem algebraic : Cert.algebraic_F2dxKernelIdeal_F2dxReferenceIdeal := by
  intro m ρ m' ρ' _ hagree
  refine ⟨_, Cert.F2dxKernelIdeal.Value.run_blocks (F := Ideal) m ρ, ?_⟩
  refine (θ_run Cert.F2dxReferenceIdeal.defs _ _).mono (fun _ h c => ?_) (Cert.F2dxReferenceIdeal.Value.run (F := Ideal) m' ρ')
  obtain ⟨h0, hrest⟩ := h c
  obtain ⟨e0, e1, e2, e3⟩ := hagree c
  refine ⟨?_, hrest⟩
  · refine h0.trans ?_
    rw [e0, e1, e2]
    refine Eq.trans (Cert.F2dxReferenceIdeal.Read.val_main_v14_eq _ _ _) ?_
    funext x
    obtain ⟨i, j, p, q, rfl⟩ := Cert.Mm.exists_idx_tile (a0 := 4) (a1 := 8) (t0 := 1024) (t1 := 1024) (by decide) (by decide) x
    exact (Cert.F2dxRef.ref0_apply _ _ _ (row i p) (col j q)).trans (final4 m c i j p q).symm

end Cert.F2dxClaims

end
-- ==== Proof.Mm.K.lean ====
/- The memory key product, and the memory value product.
   What each grid point computes, what the result array holds after the run, what the reference computes, and the
   claims. -/
module

public import proofs.«01_k».proof.Proof.Gen.KKernelIdeal.Value
public import proofs.«01_k».proof.Proof.Gen.KKernel.Frame
public import proofs.«01_k».proof.Proof.Gen.KReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.KValue

open Cert.KKernelIdeal Cert.KKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_2_eq (x0 : Vec F S512x2048 .bf16) (x1 : Vec F S2048x1024 .bf16) : out0_2 x0 x1 = k0_pay1 x0 x1 := by
  unfold out0_2
  rw [View.canon_unit_zero hz]
  simp only [View.ld_unit_zero (S := S2048x1024) hz, View.ld_unit_zero (S := S512x1024) hz, View.ld_unit_zero (S := S512x2048) hz]

end

theorem last0_apply (x0 : Vec Ideal S512x2048 .bf16) (x1 : Vec Ideal S2048x1024 .bf16) (p : Fin 512) (q : Fin 1024) :
    k0_pay1 x0 x1 (ix2 p q) = (∑ t : Fin 2048, x0 (ix2 (p) (t)) * x1 (ix2 (t) (q))) := by
  pointwise [k0_pay1]

/-! ## The arrays -/

/-- Row `p` of row tile `i`, column `q` of column tile `j`, place `t` of tile `s` of the contracted axis. -/
abbrev row (i : Fin 1) (p : Fin 512) : Fin 512 := Cert.Mm.tile (by decide) i p
abbrev col (j : Fin 2) (q : Fin 1024) : Fin 2048 := Cert.Mm.tile (by decide) j q
abbrev mid (s : Fin 1) (t : Fin 2048) : Fin 2048 := Cert.Mm.tile (by decide) s t

/-- The grid point of the tiles. -/
def pt (i : Fin 1) (j : Fin 2) (s : Fin 1) : Fin cfg0.N :=
  ⟨(i.val * 2 + j.val) * 1 + s.val, lt_of_lt_of_eq (by omega : _ < 2) N_0.symm⟩

theorem idx : ∀ (i : Fin 1) (j : Fin 2) (s : Fin 1), win0_0.index (pt i j s) = ![i.val, s.val] ∧ win0_1.index (pt i j s) = ![s.val, j.val] ∧ win0_2.index (pt i j s) = ![i.val, j.val] := by
  decide +kernel

variable (m : (ℓ : Loc nD τ sig) → Buf (Elt Ideal) ℓ) (c : Dev nD)

abbrev arg0 : S512x2048.Idx → EReal := m ((c : Thread nD τ).loc main_arg0)
abbrev arg1 : S2048x2048.Idx → EReal := m ((c : Thread nD τ).loc main_arg1)

theorem blk0 (i : Fin 1) (j : Fin 2) (s : Fin 1) (p : Fin 512) (t : Fin 2048) :
    (iblk m c 0 (pt i j s) : Vec Ideal S512x2048 .bf16) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 512 + 1 * p.val = _; rw [e]; rfl
  · show win0_0.index (pt i j s) 1 * 2048 + 1 * t.val = _; rw [e]; rfl

theorem blk1 (i : Fin 1) (j : Fin 2) (s : Fin 1) (t : Fin 2048) (q : Fin 1024) :
    (iblk m c 1 (pt i j s) : Vec Ideal S2048x1024 .bf16) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 1024 + 1 * q.val = _; rw [e]; rfl

theorem emb2 (i : Fin 1) (j : Fin 2) (s : Fin 1) (p : Fin 512) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 512 + 1 * p.val = _; rw [e]; rfl
  · show win0_2.index (pt i j s) 1 * 1024 + 1 * q.val = _; rw [e]; rfl

/-- The result array after the run. -/
theorem final2 (i : Fin 1) (j : Fin 2) (p : Fin 512) (q : Fin 1024) :
    (dats m 0 c).arrAt 2 cfg0.N (ix2 (row i p) (col j q)) = (∑ k : Fin 2048, arg0 m c (ix2 (row i p) (k)) * arg1 m c (ix2 (k) (col j q))) := by
  refine Eq.trans (congrArg ((dats m 0 c).arrAt 2 cfg0.N) (emb2 i j 0 p q).symm) ?_
  refine Eq.trans ((dats m 0 c).arrAt_emb_eq_flushed 2 Value.disjoint2 (pt i j 0) (flush0_2 _) (ix2 p q)) ?_
  refine Eq.trans (cast_eq _ _) ?_
  rw [Value.flushed2, out0_2_eq]
  show k0_pay1 (F := Ideal) (iblk m c 0 (pt i j 0)) (iblk m c 1 (pt i j 0)) (ix2 p q) = _
  rw [last0_apply]
  simp only [blk0, blk1, Cert.Mm.tile_one]

end Cert.KValue

/-! ## The reference -/

namespace Cert.KRef

open Cert.KReferenceIdeal Cert.KReferenceIdeal.Gen Cert.KReferenceIdeal.Read Cert.EReals Idealize.ShloMosaic
open scoped BigOperators

theorem ref0_apply (x0 : (⟨S512x2048, .bf16⟩ : BufTy).Contents (Elt Ideal)) (x1 : (⟨S2048x2048, .bf16⟩ : BufTy).Contents (Elt Ideal)) (r : Fin 512) (s : Fin 2048) :
    val_main_v3 x0 x1 (ix2 r s) = (∑ k : Fin 2048, x0 (ix2 (r) (k)) * x1 (ix2 (k) (s))) := by
  pointwise [val_main_v3, val_main_v2, val_main_v0, val_main_v1]

end Cert.KRef

/-! ## The claims -/

namespace Cert.KClaims

open Cert.KValue Idealize.ShloMosaic Idealize.SL.Sem

theorem frame_kernel : Cert.quiescent_KKernel := fun m ρ _ => Cert.KKernel.Gen.frame m ρ
theorem frame_ideal : Cert.quiescent_KKernelIdeal := fun m ρ _ => Cert.KKernelIdeal.Gen.frame m ρ
theorem frame_reference : Cert.quiescent_KReferenceIdeal := fun m ρ _ =>
  (θ_run Cert.KReferenceIdeal.defs _ _).mono (fun r h => ⟨fun c => (h c).2, sem_eq_zero_of_no_sems (by decide) r.2⟩)
    (Cert.KReferenceIdeal.Value.run (F := Ideal) m ρ)

/-- The kernel's result is the reference's, on all extended reals. -/
theorem algebraic : Cert.algebraic_KKernelIdeal_KReferenceIdeal := by
  intro m ρ m' ρ' _ hagree
  refine ⟨_, Cert.KKernelIdeal.Value.run_blocks (F := Ideal) m ρ, ?_⟩
  refine (θ_run Cert.KReferenceIdeal.defs _ _).mono (fun _ h c => ?_) (Cert.KReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.KReferenceIdeal.Read.val_main_v3_eq _ _) ?_
    funext x
    obtain ⟨i, j, p, q, rfl⟩ := Cert.Mm.exists_idx_tile (a0 := 1) (a1 := 2) (t0 := 512) (t1 := 1024) (by decide) (by decide) x
    exact (Cert.KRef.ref0_apply _ _ (row i p) (col j q)).trans (final2 m c i j p q).symm

end Cert.KClaims

end
-- ==== Proof.Mm.Kdw.lean ====
/- The gradient of the memory key's weight, and of the memory value's.
   What each grid point computes, what the result array holds after the run, what the reference computes, and the
   claims. -/
module

public import proofs.«01_k».proof.Proof.Gen.KdwKernelIdeal.Value
public import proofs.«01_k».proof.Proof.Gen.KdwKernel.Frame
public import proofs.«01_k».proof.Proof.Gen.KdwReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.KdwValue

open Cert.KdwKernelIdeal Cert.KdwKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_2_eq (x0 : Vec F S512x1024 .bf16) (x1 : Vec F S512x1024 .f32) : out0_2 x0 x1 = k0_pay1 x0 x1 := by
  unfold out0_2
  rw [View.canon_unit_zero hz]
  simp only [View.ld_unit_zero (S := S1024x1024) hz, View.ld_unit_zero (S := S512x1024) hz]

end

theorem last0_apply (x0 : Vec Ideal S512x1024 .bf16) (x1 : Vec Ideal S512x1024 .f32) (p : Fin 1024) (q : Fin 1024) :
    k0_pay1 x0 x1 (ix2 p q) = (∑ t : Fin 512, x0 (ix2 (t) (p)) * x1 (ix2 (t) (q))) := by
  pointwise [k0_pay1]

/-! ## The arrays -/

/-- Row `p` of row tile `i`, column `q` of column tile `j`, place `t` of tile `s` of the contracted axis. -/
abbrev row (i : Fin 2) (p : Fin 1024) : Fin 2048 := Cert.Mm.tile (by decide) i p
abbrev col (j : Fin 2) (q : Fin 1024) : Fin 2048 := Cert.Mm.tile (by decide) j q
abbrev mid (s : Fin 1) (t : Fin 512) : Fin 512 := Cert.Mm.tile (by decide) s t

/-- The grid point of the tiles. -/
def pt (i : Fin 2) (j : Fin 2) (s : Fin 1) : Fin cfg0.N :=
  ⟨(i.val * 2 + j.val) * 1 + s.val, lt_of_lt_of_eq (by omega : _ < 4) N_0.symm⟩

theorem idx : ∀ (i : Fin 2) (j : Fin 2) (s : Fin 1), win0_0.index (pt i j s) = ![s.val, i.val] ∧ win0_1.index (pt i j s) = ![s.val, j.val] ∧ win0_2.index (pt i j s) = ![i.val, j.val] := by
  decide +kernel

variable (m : (ℓ : Loc nD τ sig) → Buf (Elt Ideal) ℓ) (c : Dev nD)

abbrev arg0 : S512x2048.Idx → EReal := m ((c : Thread nD τ).loc main_arg0)
abbrev arg1 : S512x2048.Idx → EReal := m ((c : Thread nD τ).loc main_arg1)

theorem blk0 (i : Fin 2) (j : Fin 2) (s : Fin 1) (t : Fin 512) (p : Fin 1024) :
    (iblk m c 0 (pt i j s) : Vec Ideal S512x1024 .bf16) (ix2 t p) = arg0 m c (ix2 (mid s t) (row i p)) := by
  have e := (idx i j s).1
  show (V m c (Pipeline.arrRef spec0 0)) (((cfg0.win 0).blk (pt i j s)).view.emb (ix2 t p)) = _
  refine Eq.trans (congrFun (V_main_arg0 m c) _) (congrArg (arg0 m c) (Cert.Mm.idx_tile ?_ ?_))
  · show win0_0.index (pt i j s) 0 * 512 + 1 * t.val = _; rw [e]; rfl
  · show win0_0.index (pt i j s) 1 * 1024 + 1 * p.val = _; rw [e]; rfl

theorem blk1 (i : Fin 2) (j : Fin 2) (s : Fin 1) (t : Fin 512) (q : Fin 1024) :
    (iblk m c 1 (pt i j s) : Vec Ideal S512x1024 .f32) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 512 + 1 * t.val = _; rw [e]; rfl
  · show win0_1.index (pt i j s) 1 * 1024 + 1 * q.val = _; rw [e]; rfl

theorem emb2 (i : Fin 2) (j : Fin 2) (s : Fin 1) (p : Fin 1024) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 1024 + 1 * q.val = _; rw [e]; rfl

/-- The result array after the run. -/
theorem final2 (i : Fin 2) (j : Fin 2) (p : Fin 1024) (q : Fin 1024) :
    (dats m 0 c).arrAt 2 cfg0.N (ix2 (row i p) (col j q)) = (∑ k : Fin 512, arg0 m c (ix2 (k) (row i p)) * arg1 m c (ix2 (k) (col j q))) := by
  refine Eq.trans (congrArg ((dats m 0 c).arrAt 2 cfg0.N) (emb2 i j 0 p q).symm) ?_
  refine Eq.trans ((dats m 0 c).arrAt_emb_eq_flushed 2 Value.disjoint2 (pt i j 0) (flush0_2 _) (ix2 p q)) ?_
  refine Eq.trans (cast_eq _ _) ?_
  rw [Value.flushed2, out0_2_eq]
  show k0_pay1 (F := Ideal) (iblk m c 0 (pt i j 0)) (iblk m c 1 (pt i j 0)) (ix2 p q) = _
  rw [last0_apply]
  simp only [blk0, blk1, Cert.Mm.tile_one]

end Cert.KdwValue

/-! ## The reference -/

namespace Cert.KdwRef

open Cert.KdwReferenceIdeal Cert.KdwReferenceIdeal.Gen Cert.KdwReferenceIdeal.Read Cert.EReals Idealize.ShloMosaic
open scoped BigOperators

theorem ref0_apply (x0 : (⟨S512x2048, .bf16⟩ : BufTy).Contents (Elt Ideal)) (x1 : (⟨S512x2048, .f32⟩ : BufTy).Contents (Elt Ideal)) (r : Fin 2048) (s : Fin 2048) :
    val_main_v5 x0 x1 (ix2 r s) = (∑ k : Fin 512, x0 (ix2 (k) (r)) * x1 (ix2 (k) (s))) := by
  pointwise [val_main_v5, val_main_v4, val_main_v3, val_main_v0]
  exact Finset.sum_congr rfl fun k _ => mul_comm _ _

end Cert.KdwRef

/-! ## The claims -/

namespace Cert.KdwClaims

open Cert.KdwValue Idealize.ShloMosaic Idealize.SL.Sem

theorem frame_kernel : Cert.quiescent_KdwKernel := fun m ρ _ => Cert.KdwKernel.Gen.frame m ρ
theorem frame_ideal : Cert.quiescent_KdwKernelIdeal := fun m ρ _ => Cert.KdwKernelIdeal.Gen.frame m ρ
theorem frame_reference : Cert.quiescent_KdwReferenceIdeal := fun m ρ _ =>
  (θ_run Cert.KdwReferenceIdeal.defs _ _).mono (fun r h => ⟨fun c => (h c).2, sem_eq_zero_of_no_sems (by decide) r.2⟩)
    (Cert.KdwReferenceIdeal.Value.run (F := Ideal) m ρ)

/-- The kernel's result is the reference's, on all extended reals. -/
theorem algebraic : Cert.algebraic_KdwKernelIdeal_KdwReferenceIdeal := by
  intro m ρ m' ρ' _ hagree
  refine ⟨_, Cert.KdwKernelIdeal.Value.run_blocks (F := Ideal) m ρ, ?_⟩
  refine (θ_run Cert.KdwReferenceIdeal.defs _ _).mono (fun _ h c => ?_) (Cert.KdwReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.KdwReferenceIdeal.Read.val_main_v5_eq _ _) ?_
    funext x
    obtain ⟨i, j, p, q, rfl⟩ := Cert.Mm.exists_idx_tile (a0 := 2) (a1 := 2) (t0 := 1024) (t1 := 1024) (by decide) (by decide) x
    exact (Cert.KdwRef.ref0_apply _ _ (row i p) (col j q)).trans (final2 m c i j p q).symm

end Cert.KdwClaims

end
-- ==== Proof.Mm.Kdx.lean ====
/- The gradient of the memory key product's argument.
   What each grid point computes, what the result array holds after the run, what the reference computes, and the
   claims. -/
module

public import proofs.«01_k».proof.Proof.Gen.KdxKernelIdeal.Value
public import proofs.«01_k».proof.Proof.Gen.KdxKernel.Frame
public import proofs.«01_k».proof.Proof.Gen.KdxReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.KdxValue

open Cert.KdxKernelIdeal Cert.KdxKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_2_eq (x0 : Vec F S512x2048 .f32) (x1 : Vec F S1024x2048 .bf16) : out0_2 x0 x1 = k0_pay1 x0 x1 := by
  unfold out0_2
  rw [View.canon_unit_zero hz]
  simp only [View.ld_unit_zero (S := S1024x2048) hz, View.ld_unit_zero (S := S512x1024) hz, View.ld_unit_zero (S := S512x2048) hz]

end

theorem last0_apply (x0 : Vec Ideal S512x2048 .f32) (x1 : Vec Ideal S1024x2048 .bf16) (p : Fin 512) (q : Fin 1024) :
    k0_pay1 x0 x1 (ix2 p q) = (∑ t : Fin 2048, x0 (ix2 (p) (t)) * x1 (ix2 (q) (t))) := by
  pointwise [k0_pay1]

/-! ## The arrays -/

/-- Row `p` of row tile `i`, column `q` of column tile `j`, place `t` of tile `s` of the contracted axis. -/
abbrev row (i : Fin 1) (p : Fin 512) : Fin 512 := Cert.Mm.tile (by decide) i p
abbrev col (j : Fin 2) (q : Fin 1024) : Fin 2048 := Cert.Mm.tile (by decide) j q
abbrev mid (s : Fin 1) (t : Fin 2048) : Fin 2048 := Cert.Mm.tile (by decide) s t

/-- The grid point of the tiles. -/
def pt (i : Fin 1) (j : Fin 2) (s : Fin 1) : Fin cfg0.N :=
  ⟨(i.val * 2 + j.val) * 1 + s.val, lt_of_lt_of_eq (by omega : _ < 2) N_0.symm⟩

theorem idx : ∀ (i : Fin 1) (j : Fin 2) (s : Fin 1), win0_0.index (pt i j s) = ![i.val, s.val] ∧ win0_1.index (pt i j s) = ![j.val, s.val] ∧ win0_2.index (pt i j s) = ![i.val, j.val] := by
  decide +kernel

variable (m : (ℓ : Loc nD τ sig) → Buf (Elt Ideal) ℓ) (c : Dev nD)

abbrev arg0 : S512x2048.Idx → EReal := m ((c : Thread nD τ).loc main_arg0)
abbrev arg1 : S2048x2048.Idx → EReal := m ((c : Thread nD τ).loc main_arg1)

theorem blk0 (i : Fin 1) (j : Fin 2) (s : Fin 1) (p : Fin 512) (t : Fin 2048) :
    (iblk m c 0 (pt i j s) : Vec Ideal S512x2048 .f32) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 512 + 1 * p.val = _; rw [e]; rfl
  · show win0_0.index (pt i j s) 1 * 2048 + 1 * t.val = _; rw [e]; rfl

theorem blk1 (i : Fin 1) (j : Fin 2) (s : Fin 1) (q : Fin 1024) (t : Fin 2048) :
    (iblk m c 1 (pt i j s) : Vec Ideal S1024x2048 .bf16) (ix2 q t) = arg1 m c (ix2 (col j q) (mid s t)) := by
  have e := (idx i j s).2.1
  show (V m c (Pipeline.arrRef spec0 1)) (((cfg0.win 1).blk (pt i j s)).view.emb (ix2 q t)) = _
  refine Eq.trans (congrFun (V_main_arg1 m c) _) (congrArg (arg1 m c) (Cert.Mm.idx_tile ?_ ?_))
  · show win0_1.index (pt i j s) 0 * 1024 + 1 * q.val = _; rw [e]; rfl
  · show win0_1.index (pt i j s) 1 * 2048 + 1 * t.val = _; rw [e]; rfl

theorem emb2 (i : Fin 1) (j : Fin 2) (s : Fin 1) (p : Fin 512) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 512 + 1 * p.val = _; rw [e]; rfl
  · show win0_2.index (pt i j s) 1 * 1024 + 1 * q.val = _; rw [e]; rfl

/-- The result array after the run. -/
theorem final2 (i : Fin 1) (j : Fin 2) (p : Fin 512) (q : Fin 1024) :
    (dats m 0 c).arrAt 2 cfg0.N (ix2 (row i p) (col j q)) = (∑ k : Fin 2048, arg0 m c (ix2 (row i p) (k)) * arg1 m c (ix2 (col j q) (k))) := by
  refine Eq.trans (congrArg ((dats m 0 c).arrAt 2 cfg0.N) (emb2 i j 0 p q).symm) ?_
  refine Eq.trans ((dats m 0 c).arrAt_emb_eq_flushed 2 Value.disjoint2 (pt i j 0) (flush0_2 _) (ix2 p q)) ?_
  refine Eq.trans (cast_eq _ _) ?_
  rw [Value.flushed2, out0_2_eq]
  show k0_pay1 (F := Ideal) (iblk m c 0 (pt i j 0)) (iblk m c 1 (pt i j 0)) (ix2 p q) = _
  rw [last0_apply]
  simp only [blk0, blk1, Cert.Mm.tile_one]

end Cert.KdxValue

/-! ## The reference -/

namespace Cert.KdxRef

open Cert.KdxReferenceIdeal Cert.KdxReferenceIdeal.Gen Cert.KdxReferenceIdeal.Read Cert.EReals Idealize.ShloMosaic
open scoped BigOperators

theorem ref0_apply (x0 : (⟨S512x2048, .f32⟩ : BufTy).Contents (Elt Ideal)) (x1 : (⟨S2048x2048, .bf16⟩ : BufTy).Contents (Elt Ideal)) (r : Fin 512) (s : Fin 2048) :
    val_main_v3 x0 x1 (ix2 r s) = (∑ k : Fin 2048, x0 (ix2 (r) (k)) * x1 (ix2 (s) (k))) := by
  pointwise [val_main_v3, val_main_v0]

end Cert.KdxRef

/-! ## The claims -/

namespace Cert.KdxClaims

open Cert.KdxValue Idealize.ShloMosaic Idealize.SL.Sem

theorem frame_kernel : Cert.quiescent_KdxKernel := fun m ρ _ => Cert.KdxKernel.Gen.frame m ρ
theorem frame_ideal : Cert.quiescent_KdxKernelIdeal := fun m ρ _ => Cert.KdxKernelIdeal.Gen.frame m ρ
theorem frame_reference : Cert.quiescent_KdxReferenceIdeal := fun m ρ _ =>
  (θ_run Cert.KdxReferenceIdeal.defs _ _).mono (fun r h => ⟨fun c => (h c).2, sem_eq_zero_of_no_sems (by decide) r.2⟩)
    (Cert.KdxReferenceIdeal.Value.run (F := Ideal) m ρ)

/-- The kernel's result is the reference's, on all extended reals. -/
theorem algebraic : Cert.algebraic_KdxKernelIdeal_KdxReferenceIdeal := by
  intro m ρ m' ρ' _ hagree
  refine ⟨_, Cert.KdxKernelIdeal.Value.run_blocks (F := Ideal) m ρ, ?_⟩
  refine (θ_run Cert.KdxReferenceIdeal.defs _ _).mono (fun _ h c => ?_) (Cert.KdxReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.KdxReferenceIdeal.Read.val_main_v3_eq _ _) ?_
    funext x
    obtain ⟨i, j, p, q, rfl⟩ := Cert.Mm.exists_idx_tile (a0 := 1) (a1 := 2) (t0 := 512) (t1 := 1024) (by decide) (by decide) x
    exact (Cert.KdxRef.ref0_apply _ _ (row i p) (col j q)).trans (final2 m c i j p q).symm

end Cert.KdxClaims

end
-- ==== Proof.Mm.O.lean ====
/- An output product, added to the residual stream: the memory attention's, and the two mixers'.
   What each grid point computes, what the result array holds after the run, what the reference computes, and the
   claims. -/
module

public import proofs.«01_k».proof.Proof.Gen.OKernelIdeal.Value
public import proofs.«01_k».proof.Proof.Gen.OKernel.Frame
public import proofs.«01_k».proof.Proof.Gen.OReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.OValue

open Cert.OKernelIdeal Cert.OKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_3_eq (x0 : Vec F S1024x2048 .bf16) (x1 : Vec F S2048x1024 .bf16) (x2 : Vec F S1024x1024 .f32) : out0_3 x0 x1 x2 = k0_pay1 x0 x1 x2 := by
  unfold out0_3
  rw [View.canon_unit_zero hz]
  simp only [View.ld_unit_zero (S := S1024x1024) hz, View.ld_unit_zero (S := S1024x2048) hz, View.ld_unit_zero (S := S2048x1024) hz]

end

theorem last0_apply (x0 : Vec Ideal S1024x2048 .bf16) (x1 : Vec Ideal S2048x1024 .bf16) (x2 : Vec Ideal S1024x1024 .f32) (p : Fin 1024) (q : Fin 1024) :
    k0_pay1 x0 x1 x2 (ix2 p q) = (∑ t : Fin 2048, x0 (ix2 (p) (t)) * x1 (ix2 (t) (q))) + x2 (ix2 p q) := by
  pointwise [k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 2) (q : Fin 1024) : Fin 2048 := Cert.Mm.tile (by decide) j q
abbrev mid (s : Fin 1) (t : Fin 2048) : Fin 2048 := Cert.Mm.tile (by decide) s t

/-- The grid point of the tiles. -/
def pt (i : Fin 4) (j : Fin 2) (s : Fin 1) : Fin cfg0.N :=
  ⟨(i.val * 2 + j.val) * 1 + s.val, lt_of_lt_of_eq (by omega : _ < 8) N_0.symm⟩

theorem idx : ∀ (i : Fin 4) (j : Fin 2) (s : Fin 1), win0_0.index (pt i j s) = ![i.val, s.val] ∧ win0_1.index (pt i j s) = ![s.val, j.val] ∧ win0_2.index (pt i j s) = ![i.val, j.val] ∧ win0_3.index (pt i j s) = ![i.val, j.val] := by
  decide +kernel

variable (m : (ℓ : Loc nD τ sig) → Buf (Elt Ideal) ℓ) (c : Dev nD)

abbrev arg0 : S4096x2048.Idx → EReal := m ((c : Thread nD τ).loc main_arg0)
abbrev arg1 : S2048x2048.Idx → EReal := m ((c : Thread nD τ).loc main_arg1)
abbrev arg2 : S4096x2048.Idx → EReal := m ((c : Thread nD τ).loc main_arg2)

theorem blk0 (i : Fin 4) (j : Fin 2) (s : Fin 1) (p : Fin 1024) (t : Fin 2048) :
    (iblk m c 0 (pt i j s) : Vec Ideal S1024x2048 .bf16) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 2048 + 1 * t.val = _; rw [e]; rfl

theorem blk1 (i : Fin 4) (j : Fin 2) (s : Fin 1) (t : Fin 2048) (q : Fin 1024) :
    (iblk m c 1 (pt i j s) : Vec Ideal S2048x1024 .bf16) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 1024 + 1 * q.val = _; rw [e]; rfl

theorem blk2 (i : Fin 4) (j : Fin 2) (s : Fin 1) (p : Fin 1024) (q : Fin 1024) :
    (iblk m c 2 (pt i j s) : Vec Ideal S1024x1024 .f32) (ix2 p q) = arg2 m c (ix2 (row i p) (col j q)) := by
  have e := (idx i j s).2.2.1
  show (V m c (Pipeline.arrRef spec0 2)) (((cfg0.win 2).blk (pt i j s)).view.emb (ix2 p q)) = _
  refine Eq.trans (congrFun (V_main_arg2 m c) _) (congrArg (arg2 m c) (Cert.Mm.idx_tile ?_ ?_))
  · show win0_2.index (pt i j s) 0 * 1024 + 1 * p.val = _; rw [e]; rfl
  · show win0_2.index (pt i j s) 1 * 1024 + 1 * q.val = _; rw [e]; rfl

theorem emb3 (i : Fin 4) (j : Fin 2) (s : Fin 1) (p : Fin 1024) (q : Fin 1024) :
    ((cfg0.win 3).blk (pt i j s)).view.emb (ix2 p q) = ix2 (row i p) (col j q) := by
  have e := (idx i j s).2.2.2
  refine Cert.Mm.idx_tile ?_ ?_
  · show win0_3.index (pt i j s) 0 * 1024 + 1 * p.val = _; rw [e]; rfl
  · show win0_3.index (pt i j s) 1 * 1024 + 1 * q.val = _; rw [e]; rfl

/-- The result array after the run. -/
theorem final3 (i : Fin 4) (j : Fin 2) (p : Fin 1024) (q : Fin 1024) :
    (dats m 0 c).arrAt 3 cfg0.N (ix2 (row i p) (col j q)) = (∑ k : Fin 2048, arg0 m c (ix2 (row i p) (k)) * arg1 m c (ix2 (k) (col j q))) + arg2 m c (ix2 (row i p) (col j q)) := by
  refine Eq.trans (congrArg ((dats m 0 c).arrAt 3 cfg0.N) (emb3 i j 0 p q).symm) ?_
  refine Eq.trans ((dats m 0 c).arrAt_emb_eq_flushed 3 Value.disjoint3 (pt i j 0) (flush0_3 _) (ix2 p q)) ?_
  refine Eq.trans (cast_eq _ _) ?_
  rw [Value.flushed3, out0_3_eq]
  show k0_pay1 (F := Ideal) (iblk m c 0 (pt i j 0)) (iblk m c 1 (pt i j 0)) (iblk m c 2 (pt i j 0)) (ix2 p q) = _
  rw [last0_apply]
  simp only [blk0, blk1, blk2, Cert.Mm.tile_one]

end Cert.OValue

/-! ## The reference -/

namespace Cert.ORef

open Cert.OReferenceIdeal Cert.OReferenceIdeal.Gen Cert.OReferenceIdeal.Read Cert.EReals Idealize.ShloMosaic
open scoped BigOperators

theorem ref0_apply (x0 : (⟨S4096x2048, .bf16⟩ : BufTy).Contents (Elt Ideal)) (x1 : (⟨S2048x2048, .bf16⟩ : BufTy).Contents (Elt Ideal)) (x2 : (⟨S4096x2048, .f32⟩ : BufTy).Contents (Elt Ideal)) (r : Fin 4096) (s : Fin 2048) :
    val_main_v3 x0 x1 x2 (ix2 r s) = (∑ k : Fin 2048, x0 (ix2 (r) (k)) * x1 (ix2 (k) (s))) + x2 (ix2 r s) := by
  pointwise [val_main_v3, val_main_v2, val_main_v0, val_main_v1]
  exact add_comm _ _

end Cert.ORef

/-! ## The claims -/

namespace Cert.OClaims

open Cert.OValue Idealize.ShloMosaic Idealize.SL.Sem

theorem frame_kernel : Cert.quiescent_OKernel := fun m ρ _ => Cert.OKernel.Gen.frame m ρ
theorem frame_ideal : Cert.quiescent_OKernelIdeal := fun m ρ _ => Cert.OKernelIdeal.Gen.frame m ρ
theorem frame_reference : Cert.quiescent_OReferenceIdeal := fun m ρ _ =>
  (θ_run Cert.OReferenceIdeal.defs _ _).mono (fun r h => ⟨fun c => (h c).2, sem_eq_zero_of_no_sems (by decide) r.2⟩)
    (Cert.OReferenceIdeal.Value.run (F := Ideal) m ρ)

/-- The kernel's result is the reference's, on all extended reals. -/
theorem algebraic : Cert.algebraic_OKernelIdeal_OReferenceIdeal := by
  intro m ρ m' ρ' _ hagree
  refine ⟨_, Cert.OKernelIdeal.Value.run_blocks (F := Ideal) m ρ, ?_⟩
  refine (θ_run Cert.OReferenceIdeal.defs _ _).mono (fun _ h c => ?_) (Cert.OReferenceIdeal.Value.run (F := Ideal) m' ρ')
  obtain ⟨h0, hrest⟩ := h c
  obtain ⟨e0, e1, e2⟩ := hagree c
  refine ⟨?_, hrest⟩
  · refine h0.trans ?_
    rw [e0, e1, e2]
    refine Eq.trans (Cert.OReferenceIdeal.Read.val_main_v3_eq _ _ _) ?_
    funext x
    obtain ⟨i, j, p, q, rfl⟩ := Cert.Mm.exists_idx_tile (a0 := 4) (a1 := 2) (t0 := 1024) (t1 := 1024) (by decide) (by decide) x
    exact (Cert.ORef.ref0_apply _ _ _ (row i p) (col j q)).trans (final3 m c i j p q).symm

end Cert.OClaims

end
-- ==== Proof.Mm.Odw.lean ====
/- The gradient of an output product's weight: the memory attention's, and the two mixers'.
   What each grid point computes, what the result array holds after the run, what the reference computes, and the
   claims. -/
module

public import proofs.«01_k».proof.Proof.Gen.OdwKernelIdeal.Value
public import proofs.«01_k».proof.Proof.Gen.OdwKernel.Frame
public import proofs.«01_k».proof.Proof.Gen.OdwReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.OdwValue

open Cert.OdwKernelIdeal Cert.OdwKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The first step along the contracted axis stores its product; -/
theorem sout0_A_0_eq (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec F S2048x1024 .bf16) (x1 : Vec F S2048x1024 .f32) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz, View.ld_unit_zero (S := S2048x1024) hz, View.readCov_unit_zero (S := S2048x1024) _ hz]

/-- the last one writes the sum out. -/
theorem out0_B_2_eq (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (hc2 : cond0_2 i)
    (x0 : Vec F S2048x1024 .bf16) (x1 : Vec F S2048x1024 .f32) (xs0 : Vec F S1024x1024 .f32) :
    out0_B_2 c i arg3 harg3 arg4 harg4 arg5 harg5 arg6 harg6 hc0 hc1 hc2 x0 x1 xs0 = k0_pay4 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz, View.ld_unit_zero (S := S2048x1024) hz, View.readCov_unit_zero (S := S2048x1024) _ hz]

end

theorem first_apply (x0 : Vec Ideal S2048x1024 .bf16) (x1 : Vec Ideal S2048x1024 .f32) (p : Fin 1024) (q : Fin 1024) :
    k0_pay2 x0 x1 (ix2 p q) = ∑ t : Fin 2048, x0 (ix2 (t) (p)) * x1 (ix2 (t) (q)) := by
  pointwise [k0_pay2, k0_pay1]

theorem last0_apply (x0 : Vec Ideal S2048x1024 .bf16) (x1 : Vec Ideal S2048x1024 .f32) (xs0 : Vec Ideal S1024x1024 .f32) (p : Fin 1024) (q : Fin 1024) :
    k0_pay4 x0 x1 xs0 (ix2 p q) = ((xs0 (ix2 p q) + ∑ t : Fin 2048, x0 (ix2 (t) (p)) * x1 (ix2 (t) (q)))) := by
  pointwise [k0_pay4, k0_pay1]

/-! ## The arrays -/

/-- Row `p` of row tile `i`, column `q` of column tile `j`, place `t` of tile `s` of the contracted axis. -/
abbrev row (i : Fin 2) (p : Fin 1024) : Fin 2048 := Cert.Mm.tile (by decide) i p
abbrev col (j : Fin 2) (q : Fin 1024) : Fin 2048 := Cert.Mm.tile (by decide) j q
abbrev mid (s : Fin 2) (t : Fin 2048) : Fin 4096 := Cert.Mm.tile (by decide) s t

/-- The grid point of the tiles. -/
def pt (i : Fin 2) (j : Fin 2) (s : Fin 2) : Fin cfg0.N :=
  ⟨(i.val * 2 + j.val) * 2 + s.val, lt_of_lt_of_eq (by omega : _ < 8) N_0.symm⟩

theorem idx : ∀ (i : Fin 2) (j : Fin 2) (s : Fin 2), win0_0.index (pt i j s) = ![s.val, i.val] ∧ win0_1.index (pt i j s) = ![s.val, j.val] ∧ win0_2.index (pt i j s) = ![i.val, j.val] := by
  decide +kernel

variable (m : (ℓ : Loc nD τ sig) → Buf (Elt Ideal) ℓ) (c : Dev nD)

abbrev arg0 : S4096x2048.Idx → EReal := m ((c : Thread nD τ).loc main_arg0)
abbrev arg1 : S4096x2048.Idx → EReal := m ((c : Thread nD τ).loc main_arg1)

theorem blk0 (i : Fin 2) (j : Fin 2) (s : Fin 2) (t : Fin 2048) (p : Fin 1024) :
    (iblk m c 0 (pt i j s) : Vec Ideal S2048x1024 .bf16) (ix2 t p) = arg0 m c (ix2 (mid s t) (row i p)) := by
  have e := (idx i j s).1
  show (V m c (Pipeline.arrRef spec0 0)) (((cfg0.win 0).blk (pt i j s)).view.emb (ix2 t p)) = _
  refine Eq.trans (congrFun (V_main_arg0 m c) _) (congrArg (arg0 m c) (Cert.Mm.idx_tile ?_ ?_))
  · show win0_0.index (pt i j s) 0 * 2048 + 1 * t.val = _; rw [e]; rfl
  · show win0_0.index (pt i j s) 1 * 1024 + 1 * p.val = _; rw [e]; rfl

theorem blk1 (i : Fin 2) (j : Fin 2) (s : Fin 2) (t : Fin 2048) (q : Fin 1024) :
    (iblk m c 1 (pt i j s) : Vec Ideal S2048x1024 .f32) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 1024 + 1 * q.val = _; rw [e]; rfl

theorem emb2 (i : Fin 2) (j : Fin 2) (s : Fin 2) (p : Fin 1024) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 1024 + 1 * q.val = _; rw [e]; rfl

theorem acc0 (i : Fin 2) (j : Fin 2) : (outsAt0 m c (pt i j 0).val (pt i j 0).isLt).2
    = k0_pay2 (F := Ideal) (iblk m c 0 (pt i j 0)) (iblk m c 1 (pt i j 0)) := by
  have hv : (pt i j 0).val % 2 = 0 := by show ((i.val * 2 + j.val) * 2 + 0) % 2 = 0; omega
  rw [outsAt0_A m c (pt i j 0) (by omega) (by omega)]
  dsimp only
  rw [sout0_A_0_eq]

theorem disjoint2 : ∀ t t' : Fin cfg0.N, (cfg0.win 2).flush t = true → (cfg0.win 2).flush t' = true → t ≠ t' →
    Disjoint ((cfg0.win 2).blk t).view.set ((cfg0.win 2).blk t').view.set :=
  fun t t' f f' hne => (cfg0.win 2).disjoint_blk fun h => hne
    ((by decide +kernel : ∀ t t' : Fin grid0.N, t.val % 2 = 1 → t'.val % 2 = 1 → win0_2.index t = win0_2.index t' → t = t') t t'
      ((flush0_2 t).mp f) ((flush0_2 t').mp f') h)

/-- The result array after the run. -/
theorem final2 (i : Fin 2) (j : Fin 2) (p : Fin 1024) (q : Fin 1024) :
    (dats m 0 c).arrAt 2 cfg0.N (ix2 (row i p) (col j q)) = (∑ k : Fin 4096, arg0 m c (ix2 (k) (row i p)) * arg1 m c (ix2 (k) (col j q))) := by
  refine Eq.trans (congrArg ((dats m 0 c).arrAt 2 cfg0.N) (emb2 i j 1 p q).symm) ?_
  have hv : (pt i j 1).val % 2 = 1 := by show ((i.val * 2 + j.val) * 2 + 1) % 2 = 1; omega
  have hp : outsAt0 m c ((pt i j 1).val - 1) (Nat.lt_of_le_of_lt (Nat.sub_le _ _) (pt i j 1).isLt) = outsAt0 m c (pt i j 0).val (pt i j 0).isLt := rfl
  refine Eq.trans ((dats m 0 c).arrAt_emb_eq_flushed 2 disjoint2 (pt i j 1) ((flush0_2 _).mpr hv) (ix2 p q)) ?_
  refine Eq.trans (cast_eq _ _) ?_
  rw [Value.flushed2]
  show (outsAt0 m c (pt i j 1).val (pt i j 1).isLt).1 (ix2 p q) = _
  rw [outsAt0_B m c (pt i j 1) (by omega) (by omega), hp]
  dsimp only
  rw [out0_B_2_eq, acc0, last0_apply, first_apply]
  simp only [blk0, blk1]
  rw [Cert.Mm.sum_two_tiles (n := 4096) (t := 2048) (by decide)]

end Cert.OdwValue

/-! ## The reference -/

namespace Cert.OdwRef

open Cert.OdwReferenceIdeal Cert.OdwReferenceIdeal.Gen Cert.OdwReferenceIdeal.Read Cert.EReals Idealize.ShloMosaic
open scoped BigOperators

theorem ref0_apply (x0 : (⟨S4096x2048, .bf16⟩ : BufTy).Contents (Elt Ideal)) (x1 : (⟨S4096x2048, .f32⟩ : BufTy).Contents (Elt Ideal)) (r : Fin 2048) (s : Fin 2048) :
    val_main_v5 x0 x1 (ix2 r s) = (∑ k : Fin 4096, x0 (ix2 (k) (r)) * x1 (ix2 (k) (s))) := by
  pointwise [val_main_v5, val_main_v4, val_main_v3, val_main_v0]
  exact Finset.sum_congr rfl fun k _ => mul_comm _ _

end Cert.OdwRef

/-! ## The claims -/

namespace Cert.OdwClaims

open Cert.OdwValue Idealize.ShloMosaic Idealize.SL.Sem

theorem frame_kernel : Cert.quiescent_OdwKernel := fun m ρ _ => Cert.OdwKernel.Gen.frame m ρ
theorem frame_ideal : Cert.quiescent_OdwKernelIdeal := fun m ρ _ => Cert.OdwKernelIdeal.Gen.frame m ρ
theorem frame_reference : Cert.quiescent_OdwReferenceIdeal := fun m ρ _ =>
  (θ_run Cert.OdwReferenceIdeal.defs _ _).mono (fun r h => ⟨fun c => (h c).2, sem_eq_zero_of_no_sems (by decide) r.2⟩)
    (Cert.OdwReferenceIdeal.Value.run (F := Ideal) m ρ)

/-- The kernel's result is the reference's, on all extended reals. -/
theorem algebraic : Cert.algebraic_OdwKernelIdeal_OdwReferenceIdeal := by
  intro m ρ m' ρ' _ hagree
  refine ⟨_, Cert.OdwKernelIdeal.Value.run_blocks (F := Ideal) m ρ, ?_⟩
  refine (θ_run Cert.OdwReferenceIdeal.defs _ _).mono (fun _ h c => ?_) (Cert.OdwReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.OdwReferenceIdeal.Read.val_main_v5_eq _ _) ?_
    funext x
    obtain ⟨i, j, p, q, rfl⟩ := Cert.Mm.exists_idx_tile (a0 := 2) (a1 := 2) (t0 := 1024) (t1 := 1024) (by decide) (by decide) x
    exact (Cert.OdwRef.ref0_apply _ _ (row i p) (col j q)).trans (final2 m c i j p q).symm

end Cert.OdwClaims

end
-- ==== Proof.Mm.Odx.lean ====
/- The gradient of an output product's argument: the memory attention's, and the two mixers'.
   What each grid point computes, what the result array holds after the run, what the reference computes, and the
   claims. -/
module

public import proofs.«01_k».proof.Proof.Gen.OdxKernelIdeal.Value
public import proofs.«01_k».proof.Proof.Gen.OdxKernel.Frame
public import proofs.«01_k».proof.Proof.Gen.OdxReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.OdxValue

open Cert.OdxKernelIdeal Cert.OdxKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_3_eq (x0 : Vec F S1024x2048 .f32) (x1 : Vec F S1024x2048 .bf16) (x2 : Vec F S8x128 .f32) : out0_3 x0 x1 x2 = k0_pay1 x0 x1 := by
  unfold out0_3
  rw [View.canon_unit_zero hz]
  simp only [View.ld_unit_zero (S := S1024x1024) hz, View.ld_unit_zero (S := S1024x2048) hz, View.ld_unit_zero (S := S8x128) hz]

end

theorem last0_apply (x0 : Vec Ideal S1024x2048 .f32) (x1 : Vec Ideal S1024x2048 .bf16) (p : Fin 1024) (q : Fin 1024) :
    k0_pay1 x0 x1 (ix2 p q) = (∑ t : Fin 2048, x0 (ix2 (p) (t)) * x1 (ix2 (q) (t))) := by
  pointwise [k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 2) (q : Fin 1024) : Fin 2048 := Cert.Mm.tile (by decide) j q
abbrev mid (s : Fin 1) (t : Fin 2048) : Fin 2048 := Cert.Mm.tile (by decide) s t

/-- The grid point of the tiles. -/
def pt (i : Fin 4) (j : Fin 2) (s : Fin 1) : Fin cfg0.N :=
  ⟨(i.val * 2 + j.val) * 1 + s.val, lt_of_lt_of_eq (by omega : _ < 8) N_0.symm⟩

theorem idx : ∀ (i : Fin 4) (j : Fin 2) (s : Fin 1), win0_0.index (pt i j s) = ![i.val, s.val] ∧ win0_1.index (pt i j s) = ![j.val, s.val] ∧ win0_3.index (pt i j s) = ![i.val, j.val] := by
  decide +kernel

variable (m : (ℓ : Loc nD τ sig) → Buf (Elt Ideal) ℓ) (c : Dev nD)

abbrev arg0 : S4096x2048.Idx → EReal := m ((c : Thread nD τ).loc main_arg0)
abbrev arg1 : S2048x2048.Idx → EReal := m ((c : Thread nD τ).loc main_arg1)

theorem blk0 (i : Fin 4) (j : Fin 2) (s : Fin 1) (p : Fin 1024) (t : Fin 2048) :
    (iblk m c 0 (pt i j s) : Vec Ideal S1024x2048 .f32) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 2048 + 1 * t.val = _; rw [e]; rfl

theorem blk1 (i : Fin 4) (j : Fin 2) (s : Fin 1) (q : Fin 1024) (t : Fin 2048) :
    (iblk m c 1 (pt i j s) : Vec Ideal S1024x2048 .bf16) (ix2 q t) = arg1 m c (ix2 (col j q) (mid s t)) := by
  have e := (idx i j s).2.1
  show (V m c (Pipeline.arrRef spec0 1)) (((cfg0.win 1).blk (pt i j s)).view.emb (ix2 q t)) = _
  refine Eq.trans (congrFun (V_main_arg1 m c) _) (congrArg (arg1 m c) (Cert.Mm.idx_tile ?_ ?_))
  · show win0_1.index (pt i j s) 0 * 1024 + 1 * q.val = _; rw [e]; rfl
  · show win0_1.index (pt i j s) 1 * 2048 + 1 * t.val = _; rw [e]; rfl

theorem emb3 (i : Fin 4) (j : Fin 2) (s : Fin 1) (p : Fin 1024) (q : Fin 1024) :
    ((cfg0.win 3).blk (pt i j s)).view.emb (ix2 p q) = ix2 (row i p) (col j q) := by
  have e := (idx i j s).2.2
  refine Cert.Mm.idx_tile ?_ ?_
  · show win0_3.index (pt i j s) 0 * 1024 + 1 * p.val = _; rw [e]; rfl
  · show win0_3.index (pt i j s) 1 * 1024 + 1 * q.val = _; rw [e]; rfl

/-- The result array after the run. -/
theorem final3 (i : Fin 4) (j : Fin 2) (p : Fin 1024) (q : Fin 1024) :
    (dats m 0 c).arrAt 3 cfg0.N (ix2 (row i p) (col j q)) = (∑ k : Fin 2048, arg0 m c (ix2 (row i p) (k)) * arg1 m c (ix2 (col j q) (k))) := by
  refine Eq.trans (congrArg ((dats m 0 c).arrAt 3 cfg0.N) (emb3 i j 0 p q).symm) ?_
  refine Eq.trans ((dats m 0 c).arrAt_emb_eq_flushed 3 Value.disjoint3 (pt i j 0) (flush0_3 _) (ix2 p q)) ?_
  refine Eq.trans (cast_eq _ _) ?_
  rw [Value.flushed3, out0_3_eq]
  show k0_pay1 (F := Ideal) (iblk m c 0 (pt i j 0)) (iblk m c 1 (pt i j 0)) (ix2 p q) = _
  rw [last0_apply]
  simp only [blk0, blk1, Cert.Mm.tile_one]

end Cert.OdxValue

/-! ## The reference -/

namespace Cert.OdxRef

open Cert.OdxReferenceIdeal Cert.OdxReferenceIdeal.Gen Cert.OdxReferenceIdeal.Read Cert.EReals Idealize.ShloMosaic
open scoped BigOperators

theorem ref0_apply (x0 : (⟨S4096x2048, .f32⟩ : BufTy).Contents (Elt Ideal)) (x1 : (⟨S2048x2048, .bf16⟩ : BufTy).Contents (Elt Ideal)) (r : Fin 4096) (s : Fin 2048) :
    val_main_v4 x0 x1 (ix2 r s) = (∑ k : Fin 2048, x0 (ix2 (r) (k)) * x1 (ix2 (s) (k))) := by
  pointwise [val_main_v4, val_main_v3, val_main_v0]

end Cert.OdxRef

/-! ## The claims -/

namespace Cert.OdxClaims

open Cert.OdxValue Idealize.ShloMosaic Idealize.SL.Sem

theorem frame_kernel : Cert.quiescent_OdxKernel := fun m ρ _ => Cert.OdxKernel.Gen.frame m ρ
theorem frame_ideal : Cert.quiescent_OdxKernelIdeal := fun m ρ _ => Cert.OdxKernelIdeal.Gen.frame m ρ
theorem frame_reference : Cert.quiescent_OdxReferenceIdeal := fun m ρ _ =>
  (θ_run Cert.OdxReferenceIdeal.defs _ _).mono (fun r h => ⟨fun c => (h c).2, sem_eq_zero_of_no_sems (by decide) r.2⟩)
    (Cert.OdxReferenceIdeal.Value.run (F := Ideal) m ρ)

/-- The kernel's result is the reference's, on all extended reals. -/
theorem algebraic : Cert.algebraic_OdxKernelIdeal_OdxReferenceIdeal := by
  intro m ρ m' ρ' _ hagree
  refine ⟨_, Cert.OdxKernelIdeal.Value.run_blocks (F := Ideal) m ρ, ?_⟩
  refine (θ_run Cert.OdxReferenceIdeal.defs _ _).mono (fun _ h c => ?_) (Cert.OdxReferenceIdeal.Value.run (F := Ideal) m' ρ')
  obtain ⟨h0, hrest⟩ := h c
  obtain ⟨e0, e1, e2⟩ := hagree c
  refine ⟨?_, hrest⟩
  · refine h0.trans ?_
    rw [e0, e1]
    refine Eq.trans (Cert.OdxReferenceIdeal.Read.val_main_v4_eq _ _) ?_
    funext x
    obtain ⟨i, j, p, q, rfl⟩ := Cert.Mm.exists_idx_tile (a0 := 4) (a1 := 2) (t0 := 1024) (t1 := 1024) (by decide) (by decide) x
    exact (Cert.OdxRef.ref0_apply _ _ (row i p) (col j q)).trans (final3 m c i j p q).symm

end Cert.OdxClaims

end
-- ==== Proof.Mm.Q.lean ====
/- The memory query product.
   What each grid point computes, what the result array holds after the run, what the reference computes, and the
   claims. -/
module

public import proofs.«01_k».proof.Proof.Gen.QKernelIdeal.Value
public import proofs.«01_k».proof.Proof.Gen.QKernel.Frame
public import proofs.«01_k».proof.Proof.Gen.QReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.QValue

open Cert.QKernelIdeal Cert.QKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_3_eq (x0 : Vec F S1024x2048 .bf16) (x1 : Vec F S2048x1024 .bf16) (x2 : Vec F S8x128 .f32) : out0_3 x0 x1 x2 = k0_pay1 x0 x1 := by
  unfold out0_3
  rw [View.canon_unit_zero hz]
  simp only [View.ld_unit_zero (S := S1024x1024) hz, View.ld_unit_zero (S := S1024x2048) hz, View.ld_unit_zero (S := S2048x1024) hz, View.ld_unit_zero (S := S8x128) hz]

end

theorem last0_apply (x0 : Vec Ideal S1024x2048 .bf16) (x1 : Vec Ideal S2048x1024 .bf16) (p : Fin 1024) (q : Fin 1024) :
    k0_pay1 x0 x1 (ix2 p q) = (∑ t : Fin 2048, x0 (ix2 (p) (t)) * x1 (ix2 (t) (q))) := by
  pointwise [k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 2) (q : Fin 1024) : Fin 2048 := Cert.Mm.tile (by decide) j q
abbrev mid (s : Fin 1) (t : Fin 2048) : Fin 2048 := Cert.Mm.tile (by decide) s t

/-- The grid point of the tiles. -/
def pt (i : Fin 4) (j : Fin 2) (s : Fin 1) : Fin cfg0.N :=
  ⟨(i.val * 2 + j.val) * 1 + s.val, lt_of_lt_of_eq (by omega : _ < 8) N_0.symm⟩

theorem idx : ∀ (i : Fin 4) (j : Fin 2) (s : Fin 1), win0_0.index (pt i j s) = ![i.val, s.val] ∧ win0_1.index (pt i j s) = ![s.val, j.val] ∧ win0_3.index (pt i j s) = ![i.val, j.val] := by
  decide +kernel

variable (m : (ℓ : Loc nD τ sig) → Buf (Elt Ideal) ℓ) (c : Dev nD)

abbrev arg0 : S4096x2048.Idx → EReal := m ((c : Thread nD τ).loc main_arg0)
abbrev arg1 : S2048x2048.Idx → EReal := m ((c : Thread nD τ).loc main_arg1)

theorem blk0 (i : Fin 4) (j : Fin 2) (s : Fin 1) (p : Fin 1024) (t : Fin 2048) :
    (iblk m c 0 (pt i j s) : Vec Ideal S1024x2048 .bf16) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 2048 + 1 * t.val = _; rw [e]; rfl

theorem blk1 (i : Fin 4) (j : Fin 2) (s : Fin 1) (t : Fin 2048) (q : Fin 1024) :
    (iblk m c 1 (pt i j s) : Vec Ideal S2048x1024 .bf16) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 1024 + 1 * q.val = _; rw [e]; rfl

theorem emb3 (i : Fin 4) (j : Fin 2) (s : Fin 1) (p : Fin 1024) (q : Fin 1024) :
    ((cfg0.win 3).blk (pt i j s)).view.emb (ix2 p q) = ix2 (row i p) (col j q) := by
  have e := (idx i j s).2.2
  refine Cert.Mm.idx_tile ?_ ?_
  · show win0_3.index (pt i j s) 0 * 1024 + 1 * p.val = _; rw [e]; rfl
  · show win0_3.index (pt i j s) 1 * 1024 + 1 * q.val = _; rw [e]; rfl

/-- The result array after the run. -/
theorem final3 (i : Fin 4) (j : Fin 2) (p : Fin 1024) (q : Fin 1024) :
    (dats m 0 c).arrAt 3 cfg0.N (ix2 (row i p) (col j q)) = (∑ k : Fin 2048, arg0 m c (ix2 (row i p) (k)) * arg1 m c (ix2 (k) (col j q))) := by
  refine Eq.trans (congrArg ((dats m 0 c).arrAt 3 cfg0.N) (emb3 i j 0 p q).symm) ?_
  refine Eq.trans ((dats m 0 c).arrAt_emb_eq_flushed 3 Value.disjoint3 (pt i j 0) (flush0_3 _) (ix2 p q)) ?_
  refine Eq.trans (cast_eq _ _) ?_
  rw [Value.flushed3, out0_3_eq]
  show k0_pay1 (F := Ideal) (iblk m c 0 (pt i j 0)) (iblk m c 1 (pt i j 0)) (ix2 p q) = _
  rw [last0_apply]
  simp only [blk0, blk1, Cert.Mm.tile_one]

end Cert.QValue

/-! ## The reference -/

namespace Cert.QRef

open Cert.QReferenceIdeal Cert.QReferenceIdeal.Gen Cert.QReferenceIdeal.Read Cert.EReals Idealize.ShloMosaic
open scoped BigOperators

theorem ref0_apply (x0 : (⟨S4096x2048, .bf16⟩ : BufTy).Contents (Elt Ideal)) (x1 : (⟨S2048x2048, .bf16⟩ : BufTy).Contents (Elt Ideal)) (r : Fin 4096) (s : Fin 2048) :
    val_main_v3 x0 x1 (ix2 r s) = (∑ k : Fin 2048, x0 (ix2 (r) (k)) * x1 (ix2 (k) (s))) := by
  pointwise [val_main_v3, val_main_v2, val_main_v0, val_main_v1]

end Cert.QRef

/-! ## The claims -/

namespace Cert.QClaims

open Cert.QValue Idealize.ShloMosaic Idealize.SL.Sem

theorem frame_kernel : Cert.quiescent_QKernel := fun m ρ _ => Cert.QKernel.Gen.frame m ρ
theorem frame_ideal : Cert.quiescent_QKernelIdeal := fun m ρ _ => Cert.QKernelIdeal.Gen.frame m ρ
theorem frame_reference : Cert.quiescent_QReferenceIdeal := fun m ρ _ =>
  (θ_run Cert.QReferenceIdeal.defs _ _).mono (fun r h => ⟨fun c => (h c).2, sem_eq_zero_of_no_sems (by decide) r.2⟩)
    (Cert.QReferenceIdeal.Value.run (F := Ideal) m ρ)

/-- The kernel's result is the reference's, on all extended reals. -/
theorem algebraic : Cert.algebraic_QKernelIdeal_QReferenceIdeal := by
  intro m ρ m' ρ' _ hagree
  refine ⟨_, Cert.QKernelIdeal.Value.run_blocks (F := Ideal) m ρ, ?_⟩
  refine (θ_run Cert.QReferenceIdeal.defs _ _).mono (fun _ h c => ?_) (Cert.QReferenceIdeal.Value.run (F := Ideal) m' ρ')
  obtain ⟨h0, hrest⟩ := h c
  obtain ⟨e0, e1, e2⟩ := hagree c
  refine ⟨?_, hrest⟩
  · refine h0.trans ?_
    rw [e0, e1]
    refine Eq.trans (Cert.QReferenceIdeal.Read.val_main_v3_eq _ _) ?_
    funext x
    obtain ⟨i, j, p, q, rfl⟩ := Cert.Mm.exists_idx_tile (a0 := 4) (a1 := 2) (t0 := 1024) (t1 := 1024) (by decide) (by decide) x
    exact (Cert.QRef.ref0_apply _ _ (row i p) (col j q)).trans (final3 m c i j p q).symm

end Cert.QClaims

end
-- ==== Proof.Mm.Qdw.lean ====
/- The gradient of the memory query's weight.
   What each grid point computes, what the result array holds after the run, what the reference computes, and the
   claims. -/
module

public import proofs.«01_k».proof.Proof.Gen.QdwKernelIdeal.Value
public import proofs.«01_k».proof.Proof.Gen.QdwKernel.Frame
public import proofs.«01_k».proof.Proof.Gen.QdwReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.QdwValue

open Cert.QdwKernelIdeal Cert.QdwKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

/-- The first step along the contracted axis stores its product; -/
theorem sout0_A_0_eq (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec F S2048x1024 .bf16) (x1 : Vec F S2048x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz, View.ld_unit_zero (S := S2048x1024) hz, View.readCov_unit_zero (S := S2048x1024) _ hz]

/-- the last one writes the sum out. -/
theorem out0_B_2_eq (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (hc2 : cond0_2 i)
    (x0 : Vec F S2048x1024 .bf16) (x1 : Vec F S2048x1024 .bf16) (xs0 : Vec F S1024x1024 .f32) :
    out0_B_2 c i arg3 harg3 arg4 harg4 arg5 harg5 arg6 harg6 hc0 hc1 hc2 x0 x1 xs0 = k0_pay4 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  first | rw [View.canon_unit_zero hz] | rw [View.canon_cons_unit_zero hz]
  simp only [View.readAt_eq_ld, harg3.read_unread, harg4.read_unread, harg5.read_unread, harg6.read_unread, View.ld_unit_zero (S := S1024x1024) hz, View.readCov_unit_zero (S := S1024x1024) _ hz, View.ld_unit_zero (S := S2048x1024) hz, View.readCov_unit_zero (S := S2048x1024) _ hz]

end

theorem first_apply (x0 : Vec Ideal S2048x1024 .bf16) (x1 : Vec Ideal S2048x1024 .bf16) (p : Fin 1024) (q : Fin 1024) :
    k0_pay2 x0 x1 (ix2 p q) = ∑ t : Fin 2048, x0 (ix2 (t) (p)) * x1 (ix2 (t) (q)) := by
  pointwise [k0_pay2, k0_pay1]

theorem last0_apply (x0 : Vec Ideal S2048x1024 .bf16) (x1 : Vec Ideal S2048x1024 .bf16) (xs0 : Vec Ideal S1024x1024 .f32) (p : Fin 1024) (q : Fin 1024) :
    k0_pay4 x0 x1 xs0 (ix2 p q) = ((xs0 (ix2 p q) + ∑ t : Fin 2048, x0 (ix2 (t) (p)) * x1 (ix2 (t) (q)))) := by
  pointwise [k0_pay4, k0_pay1]

/-! ## The arrays -/

/-- Row `p` of row tile `i`, column `q` of column tile `j`, place `t` of tile `s` of the contracted axis. -/
abbrev row (i : Fin 2) (p : Fin 1024) : Fin 2048 := Cert.Mm.tile (by decide) i p
abbrev col (j : Fin 2) (q : Fin 1024) : Fin 2048 := Cert.Mm.tile (by decide) j q
abbrev mid (s : Fin 2) (t : Fin 2048) : Fin 4096 := Cert.Mm.tile (by decide) s t

/-- The grid point of the tiles. -/
def pt (i : Fin 2) (j : Fin 2) (s : Fin 2) : Fin cfg0.N :=
  ⟨(i.val * 2 + j.val) * 2 + s.val, lt_of_lt_of_eq (by omega : _ < 8) N_0.symm⟩

theorem idx : ∀ (i : Fin 2) (j : Fin 2) (s : Fin 2), win0_0.index (pt i j s) = ![s.val, i.val] ∧ win0_1.index (pt i j s) = ![s.val, j.val] ∧ win0_2.index (pt i j s) = ![i.val, j.val] := by
  decide +kernel

variable (m : (ℓ : Loc nD τ sig) → Buf (Elt Ideal) ℓ) (c : Dev nD)

abbrev arg0 : S4096x2048.Idx → EReal := m ((c : Thread nD τ).loc main_arg0)
abbrev arg1 : S4096x2048.Idx → EReal := m ((c : Thread nD τ).loc main_arg1)

theorem blk0 (i : Fin 2) (j : Fin 2) (s : Fin 2) (t : Fin 2048) (p : Fin 1024) :
    (iblk m c 0 (pt i j s) : Vec Ideal S2048x1024 .bf16) (ix2 t p) = arg0 m c (ix2 (mid s t) (row i p)) := by
  have e := (idx i j s).1
  show (V m c (Pipeline.arrRef spec0 0)) (((cfg0.win 0).blk (pt i j s)).view.emb (ix2 t p)) = _
  refine Eq.trans (congrFun (V_main_arg0 m c) _) (congrArg (arg0 m c) (Cert.Mm.idx_tile ?_ ?_))
  · show win0_0.index (pt i j s) 0 * 2048 + 1 * t.val = _; rw [e]; rfl
  · show win0_0.index (pt i j s) 1 * 1024 + 1 * p.val = _; rw [e]; rfl

theorem blk1 (i : Fin 2) (j : Fin 2) (s : Fin 2) (t : Fin 2048) (q : Fin 1024) :
    (iblk m c 1 (pt i j s) : Vec Ideal S2048x1024 .bf16) (ix2 t q) = arg1 m c (ix2 (mid s t) (col j q)) := by
  have e := (idx i j s).2.1
  show (V m c (Pipeline.arrRef spec0 1)) (((cfg0.win 1).blk (pt i j s)).view.emb (ix2 t q)) = _
  refine Eq.trans (congrFun (V_main_arg1 m c) _) (congrArg (arg1 m c) (Cert.Mm.idx_tile ?_ ?_))
  · show win0_1.index (pt i j s) 0 * 2048 + 1 * t.val = _; rw [e]; rfl
  · show win0_1.index (pt i j s) 1 * 1024 + 1 * q.val = _; rw [e]; rfl

theorem emb2 (i : Fin 2) (j : Fin 2) (s : Fin 2) (p : Fin 1024) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 1024 + 1 * q.val = _; rw [e]; rfl

theorem acc0 (i : Fin 2) (j : Fin 2) : (outsAt0 m c (pt i j 0).val (pt i j 0).isLt).2
    = k0_pay2 (F := Ideal) (iblk m c 0 (pt i j 0)) (iblk m c 1 (pt i j 0)) := by
  have hv : (pt i j 0).val % 2 = 0 := by show ((i.val * 2 + j.val) * 2 + 0) % 2 = 0; omega
  rw [outsAt0_A m c (pt i j 0) (by omega) (by omega)]
  dsimp only
  rw [sout0_A_0_eq]

theorem disjoint2 : ∀ t t' : Fin cfg0.N, (cfg0.win 2).flush t = true → (cfg0.win 2).flush t' = true → t ≠ t' →
    Disjoint ((cfg0.win 2).blk t).view.set ((cfg0.win 2).blk t').view.set :=
  fun t t' f f' hne => (cfg0.win 2).disjoint_blk fun h => hne
    ((by decide +kernel : ∀ t t' : Fin grid0.N, t.val % 2 = 1 → t'.val % 2 = 1 → win0_2.index t = win0_2.index t' → t = t') t t'
      ((flush0_2 t).mp f) ((flush0_2 t').mp f') h)

/-- The result array after the run. -/
theorem final2 (i : Fin 2) (j : Fin 2) (p : Fin 1024) (q : Fin 1024) :
    (dats m 0 c).arrAt 2 cfg0.N (ix2 (row i p) (col j q)) = (∑ k : Fin 4096, arg0 m c (ix2 (k) (row i p)) * arg1 m c (ix2 (k) (col j q))) := by
  refine Eq.trans (congrArg ((dats m 0 c).arrAt 2 cfg0.N) (emb2 i j 1 p q).symm) ?_
  have hv : (pt i j 1).val % 2 = 1 := by show ((i.val * 2 + j.val) * 2 + 1) % 2 = 1; omega
  have hp : outsAt0 m c ((pt i j 1).val - 1) (Nat.lt_of_le_of_lt (Nat.sub_le _ _) (pt i j 1).isLt) = outsAt0 m c (pt i j 0).val (pt i j 0).isLt := rfl
  refine Eq.trans ((dats m 0 c).arrAt_emb_eq_flushed 2 disjoint2 (pt i j 1) ((flush0_2 _).mpr hv) (ix2 p q)) ?_
  refine Eq.trans (cast_eq _ _) ?_
  rw [Value.flushed2]
  show (outsAt0 m c (pt i j 1).val (pt i j 1).isLt).1 (ix2 p q) = _
  rw [outsAt0_B m c (pt i j 1) (by omega) (by omega), hp]
  dsimp only
  rw [out0_B_2_eq, acc0, last0_apply, first_apply]
  simp only [blk0, blk1]
  rw [Cert.Mm.sum_two_tiles (n := 4096) (t := 2048) (by decide)]

end Cert.QdwValue

/-! ## The reference -/

namespace Cert.QdwRef

open Cert.QdwReferenceIdeal Cert.QdwReferenceIdeal.Gen Cert.QdwReferenceIdeal.Read Cert.EReals Idealize.ShloMosaic
open scoped BigOperators

theorem ref0_apply (x0 x1 : (⟨S4096x2048, .bf16⟩ : BufTy).Contents (Elt Ideal)) (r : Fin 2048) (s : Fin 2048) :
    val_main_v6 x0 x1 (ix2 r s) = (∑ k : Fin 4096, x0 (ix2 (k) (r)) * x1 (ix2 (k) (s))) := by
  pointwise [val_main_v6, val_main_v5, val_main_v4, val_main_v1, val_main_v0]
  exact Finset.sum_congr rfl fun k _ => mul_comm _ _

end Cert.QdwRef

/-! ## The claims -/

namespace Cert.QdwClaims

open Cert.QdwValue Idealize.ShloMosaic Idealize.SL.Sem

theorem frame_kernel : Cert.quiescent_QdwKernel := fun m ρ _ => Cert.QdwKernel.Gen.frame m ρ
theorem frame_ideal : Cert.quiescent_QdwKernelIdeal := fun m ρ _ => Cert.QdwKernelIdeal.Gen.frame m ρ
theorem frame_reference : Cert.quiescent_QdwReferenceIdeal := fun m ρ _ =>
  (θ_run Cert.QdwReferenceIdeal.defs _ _).mono (fun r h => ⟨fun c => (h c).2, sem_eq_zero_of_no_sems (by decide) r.2⟩)
    (Cert.QdwReferenceIdeal.Value.run (F := Ideal) m ρ)

/-- The kernel's result is the reference's, on all extended reals. -/
theorem algebraic : Cert.algebraic_QdwKernelIdeal_QdwReferenceIdeal := by
  intro m ρ m' ρ' _ hagree
  refine ⟨_, Cert.QdwKernelIdeal.Value.run_blocks (F := Ideal) m ρ, ?_⟩
  refine (θ_run Cert.QdwReferenceIdeal.defs _ _).mono (fun _ h c => ?_) (Cert.QdwReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.QdwReferenceIdeal.Read.val_main_v6_eq _ _) ?_
    funext x
    obtain ⟨i, j, p, q, rfl⟩ := Cert.Mm.exists_idx_tile (a0 := 2) (a1 := 2) (t0 := 1024) (t1 := 1024) (by decide) (by decide) x
    exact (Cert.QdwRef.ref0_apply _ _ (row i p) (col j q)).trans (final2 m c i j p q).symm

end Cert.QdwClaims

end
-- ==== Proof.Mm.Qdx.lean ====
/- The gradient of the memory query product's argument.
   What each grid point computes, what the result array holds after the run, what the reference computes, and the
   claims. -/
module

public import proofs.«01_k».proof.Proof.Gen.QdxKernelIdeal.Value
public import proofs.«01_k».proof.Proof.Gen.QdxKernel.Frame
public import proofs.«01_k».proof.Proof.Gen.QdxReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.QdxValue

open Cert.QdxKernelIdeal Cert.QdxKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_2_eq (x0 : Vec F S1024x2048 .bf16) (x1 : Vec F S1024x2048 .bf16) : out0_2 x0 x1 = k0_pay1 x0 x1 := by
  unfold out0_2
  rw [View.canon_unit_zero hz]
  simp only [View.ld_unit_zero (S := S1024x1024) hz, View.ld_unit_zero (S := S1024x2048) hz]

end

theorem last0_apply (x0 : Vec Ideal S1024x2048 .bf16) (x1 : Vec Ideal S1024x2048 .bf16) (p : Fin 1024) (q : Fin 1024) :
    k0_pay1 x0 x1 (ix2 p q) = (∑ t : Fin 2048, x0 (ix2 (p) (t)) * x1 (ix2 (q) (t))) := by
  pointwise [k0_pay1]

/-! ## The arrays -/

/-- Row `p` of row tile `i`, column `q` of column tile `j`, place `t` of tile `s` of the contracted axis. -/
abbrev row (i : Fin 4) (p : Fin 1024) : Fin 4096 := Cert.Mm.tile (by decide) i p
abbrev col (j : Fin 2) (q : Fin 1024) : Fin 2048 := Cert.Mm.tile (by decide) j q
abbrev mid (s : Fin 1) (t : Fin 2048) : Fin 2048 := Cert.Mm.tile (by decide) s t

/-- The grid point of the tiles. -/
def pt (i : Fin 4) (j : Fin 2) (s : Fin 1) : Fin cfg0.N :=
  ⟨(i.val * 2 + j.val) * 1 + s.val, lt_of_lt_of_eq (by omega : _ < 8) N_0.symm⟩

theorem idx : ∀ (i : Fin 4) (j : Fin 2) (s : Fin 1), win0_0.index (pt i j s) = ![i.val, s.val] ∧ win0_1.index (pt i j s) = ![j.val, s.val] ∧ win0_2.index (pt i j s) = ![i.val, j.val] := by
  decide +kernel

variable (m : (ℓ : Loc nD τ sig) → Buf (Elt Ideal) ℓ) (c : Dev nD)

abbrev arg0 : S4096x2048.Idx → EReal := m ((c : Thread nD τ).loc main_arg0)
abbrev arg1 : S2048x2048.Idx → EReal := m ((c : Thread nD τ).loc main_arg1)

theorem blk0 (i : Fin 4) (j : Fin 2) (s : Fin 1) (p : Fin 1024) (t : Fin 2048) :
    (iblk m c 0 (pt i j s) : Vec Ideal S1024x2048 .bf16) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 1024 + 1 * p.val = _; rw [e]; rfl
  · show win0_0.index (pt i j s) 1 * 2048 + 1 * t.val = _; rw [e]; rfl

theorem blk1 (i : Fin 4) (j : Fin 2) (s : Fin 1) (q : Fin 1024) (t : Fin 2048) :
    (iblk m c 1 (pt i j s) : Vec Ideal S1024x2048 .bf16) (ix2 q t) = arg1 m c (ix2 (col j q) (mid s t)) := by
  have e := (idx i j s).2.1
  show (V m c (Pipeline.arrRef spec0 1)) (((cfg0.win 1).blk (pt i j s)).view.emb (ix2 q t)) = _
  refine Eq.trans (congrFun (V_main_arg1 m c) _) (congrArg (arg1 m c) (Cert.Mm.idx_tile ?_ ?_))
  · show win0_1.index (pt i j s) 0 * 1024 + 1 * q.val = _; rw [e]; rfl
  · show win0_1.index (pt i j s) 1 * 2048 + 1 * t.val = _; rw [e]; rfl

theorem emb2 (i : Fin 4) (j : Fin 2) (s : Fin 1) (p : Fin 1024) (q : Fin 1024) :
    ((cfg0.win 2).blk (pt i j s)).view.emb (ix2 p q) = ix2 (row i p) (col j q) := by
  have e := (idx i j s).2.2
  refine Cert.Mm.idx_tile ?_ ?_
  · show win0_2.index (pt i j s) 0 * 1024 + 1 * p.val = _; rw [e]; rfl
  · show win0_2.index (pt i j s) 1 * 1024 + 1 * q.val = _; rw [e]; rfl

/-- The result array after the run. -/
theorem final2 (i : Fin 4) (j : Fin 2) (p : Fin 1024) (q : Fin 1024) :
    (dats m 0 c).arrAt 2 cfg0.N (ix2 (row i p) (col j q)) = (∑ k : Fin 2048, arg0 m c (ix2 (row i p) (k)) * arg1 m c (ix2 (col j q) (k))) := by
  refine Eq.trans (congrArg ((dats m 0 c).arrAt 2 cfg0.N) (emb2 i j 0 p q).symm) ?_
  refine Eq.trans ((dats m 0 c).arrAt_emb_eq_flushed 2 Value.disjoint2 (pt i j 0) (flush0_2 _) (ix2 p q)) ?_
  refine Eq.trans (cast_eq _ _) ?_
  rw [Value.flushed2, out0_2_eq]
  show k0_pay1 (F := Ideal) (iblk m c 0 (pt i j 0)) (iblk m c 1 (pt i j 0)) (ix2 p q) = _
  rw [last0_apply]
  simp only [blk0, blk1, Cert.Mm.tile_one]

end Cert.QdxValue

/-! ## The reference -/

namespace Cert.QdxRef

open Cert.QdxReferenceIdeal Cert.QdxReferenceIdeal.Gen Cert.QdxReferenceIdeal.Read Cert.EReals Idealize.ShloMosaic
open scoped BigOperators

theorem ref0_apply (x0 : (⟨S4096x2048, .bf16⟩ : BufTy).Contents (Elt Ideal)) (x1 : (⟨S2048x2048, .bf16⟩ : BufTy).Contents (Elt Ideal)) (r : Fin 4096) (s : Fin 2048) :
    val_main_v5 x0 x1 (ix2 r s) = (∑ k : Fin 2048, x0 (ix2 (r) (k)) * x1 (ix2 (s) (k))) := by
  pointwise [val_main_v5, val_main_v4, val_main_v1, val_main_v0]

end Cert.QdxRef

/-! ## The claims -/

namespace Cert.QdxClaims

open Cert.QdxValue Idealize.ShloMosaic Idealize.SL.Sem

theorem frame_kernel : Cert.quiescent_QdxKernel := fun m ρ _ => Cert.QdxKernel.Gen.frame m ρ
theorem frame_ideal : Cert.quiescent_QdxKernelIdeal := fun m ρ _ => Cert.QdxKernelIdeal.Gen.frame m ρ
theorem frame_reference : Cert.quiescent_QdxReferenceIdeal := fun m ρ _ =>
  (θ_run Cert.QdxReferenceIdeal.defs _ _).mono (fun r h => ⟨fun c => (h c).2, sem_eq_zero_of_no_sems (by decide) r.2⟩)
    (Cert.QdxReferenceIdeal.Value.run (F := Ideal) m ρ)

/-- The kernel's result is the reference's, on all extended reals. -/
theorem algebraic : Cert.algebraic_QdxKernelIdeal_QdxReferenceIdeal := by
  intro m ρ m' ρ' _ hagree
  refine ⟨_, Cert.QdxKernelIdeal.Value.run_blocks (F := Ideal) m ρ, ?_⟩
  refine (θ_run Cert.QdxReferenceIdeal.defs _ _).mono (fun _ h c => ?_) (Cert.QdxReferenceIdeal.Value.run (F := Ideal) m' ρ')
  obtain ⟨h0, hrest⟩ := h c
  obtain ⟨e0, e1⟩ := hagree c
  refine ⟨?_, hrest⟩
  · refine h0.trans ?_
    rw [e0, e1]
    refine Eq.trans (Cert.QdxReferenceIdeal.Read.val_main_v5_eq _ _) ?_
    funext x
    obtain ⟨i, j, p, q, rfl⟩ := Cert.Mm.exists_idx_tile (a0 := 4) (a1 := 2) (t0 := 1024) (t1 := 1024) (by decide) (by decide) x
    exact (Cert.QdxRef.ref0_apply _ _ (row i p) (col j q)).trans (final2 m c i j p q).symm

end Cert.QdxClaims

end
-- ==== Proof.Mm.Vdx.lean ====
/- The gradient of the memory value product's argument, added to the key's.
   What each grid point computes, what the result array holds after the run, what the reference computes, and the
   claims. -/
module

public import proofs.«01_k».proof.Proof.Gen.VdxKernelIdeal.Value
public import proofs.«01_k».proof.Proof.Gen.VdxKernel.Frame
public import proofs.«01_k».proof.Proof.Gen.VdxReferenceIdeal.Read
public import proofs.«01_k».proof.Proof.Lib.Mm
public import proofs.«01_k».proof.Proof.Lib.EReal
public import proofs.«01_k».proof.Defs
public import Idealize.ShloMosaic.Lib.Tactic

@[expose] public section

noncomputable section

namespace Cert.VdxValue

open Cert.VdxKernelIdeal Cert.VdxKernelIdeal.Gen Cert.EReals Idealize.ShloMosaic Idealize.ShloMosaic.TcCoe Idealize.SL.Sem
open Idealize.ShloMosaic.Pipeline (Dat)
open scoped BigOperators

/-! ## The body -/

section
variable {F : FTy → Type} [FloatOps F]

theorem hz : (![0, 0] : Fin 2 → Nat) = fun _ => 0 := funext fun a => by fin_cases a <;> rfl

theorem out0_3_eq (x0 : Vec F S512x2048 .f32) (x1 : Vec F S1024x2048 .bf16) (x2 : Vec F S512x1024 .f32) : out0_3 x0 x1 x2 = k0_pay1 x0 x1 x2 := by
  unfold out0_3
  rw [View.canon_unit_zero hz]
  simp only [View.ld_unit_zero (S := S1024x2048) hz, View.ld_unit_zero (S := S512x1024) hz, View.ld_unit_zero (S := S512x2048) hz]

end

theorem last0_apply (x0 : Vec Ideal S512x2048 .f32) (x1 : Vec Ideal S1024x2048 .bf16) (x2 : Vec Ideal S512x1024 .f32) (p : Fin 512) (q : Fin 1024) :
    k0_pay1 x0 x1 x2 (ix2 p q) = (∑ t : Fin 2048, x0 (ix2 (p) (t)) * x1 (ix2 (q) (t))) + x2 (ix2 p q) := by
  pointwise [k0_pay1]

/-! ## The arrays -/

/-- Row `p` of row tile `i`, column `q` of column tile `j`, place `t` of tile `s` of the contracted axis. -/
abbrev row (i : Fin 1) (p : Fin 512) : Fin 512 := Cert.Mm.tile (by decide) i p
abbrev col (j : Fin 2) (q : Fin 1024) : Fin 2048 := Cert.Mm.tile (by decide) j q
abbrev mid (s : Fin 1) (t : Fin 2048) : Fin 2048 := Cert.Mm.tile (by decide) s t

/-- The grid point of the tiles. -/
def pt (i : Fin 1) (j : Fin 2) (s : Fin 1) : Fin cfg0.N :=
  ⟨(i.val * 2 + j.val) * 1 + s.val, lt_of_lt_of_eq (by omega : _ < 2) N_0.symm⟩

theorem idx : ∀ (i : Fin 1) (j : Fin 2) (s : Fin 1), win0_0.index (pt i j s) = ![i.val, s.val] ∧ win0_1.index (pt i j s) = ![j.val, s.val] ∧ win0_2.index (pt i j s) = ![i.val, j.val] ∧ win0_3.index (pt i j s) = ![i.val, j.val] := by
  decide +kernel

variable (m : (ℓ : Loc nD τ sig) → Buf (Elt Ideal) ℓ) (c : Dev nD)

abbrev arg0 : S512x2048.Idx → EReal := m ((c : Thread nD τ).loc main_arg0)
abbrev arg1 : S2048x2048.Idx → EReal := m ((c : Thread nD τ).loc main_arg1)
abbrev arg2 : S512x2048.Idx → EReal := m ((c : Thread nD τ).loc main_arg2)

theorem blk0 (i : Fin 1) (j : Fin 2) (s : Fin 1) (p : Fin 512) (t : Fin 2048) :
    (iblk m c 0 (pt i j s) : Vec Ideal S512x2048 .f32) (ix2 p t) = arg0 m c (ix2 (row i p) (mid s t)) := by
  have e := (idx i j s).1
  show (V m c (Pipeline.arrRef spec0 0)) (((cfg0.win 0).blk (pt i j s)).view.emb (ix2 p t)) = _
  refine Eq.trans (congrFun (V_main_arg0 m c) _) (congrArg (arg0 m c) (Cert.Mm.idx_tile ?_ ?_))
  · show win0_0.index (pt i j s) 0 * 512 + 1 * p.val = _; rw [e]; rfl
  · show win0_0.index (pt i j s) 1 * 2048 + 1 * t.val = _; rw [e]; rfl

theorem blk1 (i : Fin 1) (j : Fin 2) (s : Fin 1) (q : Fin 1024) (t : Fin 2048) :
    (iblk m c 1 (pt i j s) : Vec Ideal S1024x2048 .bf16) (ix2 q t) = arg1 m c (ix2 (col j q) (mid s t)) := by
  have e := (idx i j s).2.1
  show (V m c (Pipeline.arrRef spec0 1)) (((cfg0.win 1).blk (pt i j s)).view.emb (ix2 q t)) = _
  refine Eq.trans (congrFun (V_main_arg1 m c) _) (congrArg (arg1 m c) (Cert.Mm.idx_tile ?_ ?_))
  · show win0_1.index (pt i j s) 0 * 1024 + 1 * q.val = _; rw [e]; rfl
  · show win0_1.index (pt i j s) 1 * 2048 + 1 * t.val = _; rw [e]; rfl

theorem blk2 (i : Fin 1) (j : Fin 2) (s : Fin 1) (p : Fin 512) (q : Fin 1024) :
    (iblk m c 2 (pt i j s) : Vec Ideal S512x1024 .f32) (ix2 p q) = arg2 m c (ix2 (row i p) (col j q)) := by
  have e := (idx i j s).2.2.1
  show (V m c (Pipeline.arrRef spec0 2)) (((cfg0.win 2).blk (pt i j s)).view.emb (ix2 p q)) = _
  refine Eq.trans (congrFun (V_main_arg2 m c) _) (congrArg (arg2 m c) (Cert.Mm.idx_tile ?_ ?_))
  · show win0_2.index (pt i j s) 0 * 512 + 1 * p.val = _; rw [e]; rfl
  · show win0_2.index (pt i j s) 1 * 1024 + 1 * q.val = _; rw [e]; rfl

theorem emb3 (i : Fin 1) (j : Fin 2) (s : Fin 1) (p : Fin 512) (q : Fin 1024) :
    ((cfg0.win 3).blk (pt i j s)).view.emb (ix2 p q) = ix2 (row i p) (col j q) := by
  have e := (idx i j s).2.2.2
  refine Cert.Mm.idx_tile ?_ ?_
  · show win0_3.index (pt i j s) 0 * 512 + 1 * p.val = _; rw [e]; rfl
  · show win0_3.index (pt i j s) 1 * 1024 + 1 * q.val = _; rw [e]; rfl

/-- The result array after the run. -/
theorem final3 (i : Fin 1) (j : Fin 2) (p : Fin 512) (q : Fin 1024) :
    (dats m 0 c).arrAt 3 cfg0.N (ix2 (row i p) (col j q)) = (∑ k : Fin 2048, arg0 m c (ix2 (row i p) (k)) * arg1 m c (ix2 (col j q) (k))) + arg2 m c (ix2 (row i p) (col j q)) := by
  refine Eq.trans (congrArg ((dats m 0 c).arrAt 3 cfg0.N) (emb3 i j 0 p q).symm) ?_
  refine Eq.trans ((dats m 0 c).arrAt_emb_eq_flushed 3 Value.disjoint3 (pt i j 0) (flush0_3 _) (ix2 p q)) ?_
  refine Eq.trans (cast_eq _ _) ?_
  rw [Value.flushed3, out0_3_eq]
  show k0_pay1 (F := Ideal) (iblk m c 0 (pt i j 0)) (iblk m c 1 (pt i j 0)) (iblk m c 2 (pt i j 0)) (ix2 p q) = _
  rw [last0_apply]
  simp only [blk0, blk1, blk2, Cert.Mm.tile_one]

end Cert.VdxValue

/-! ## The reference -/

namespace Cert.VdxRef

open Cert.VdxReferenceIdeal Cert.VdxReferenceIdeal.Gen Cert.VdxReferenceIdeal.Read Cert.EReals Idealize.ShloMosaic
open scoped BigOperators

theorem ref0_apply (x0 : (⟨S512x2048, .f32⟩ : BufTy).Contents (Elt Ideal)) (x1 : (⟨S2048x2048, .bf16⟩ : BufTy).Contents (Elt Ideal)) (x2 : (⟨S512x2048, .f32⟩ : BufTy).Contents (Elt Ideal)) (r : Fin 512) (s : Fin 2048) :
    val_main_v4 x0 x1 x2 (ix2 r s) = (∑ k : Fin 2048, x0 (ix2 (r) (k)) * x1 (ix2 (s) (k))) + x2 (ix2 r s) := by
  pointwise [val_main_v4, val_main_v3, val_main_v0]

end Cert.VdxRef

/-! ## The claims -/

namespace Cert.VdxClaims

open Cert.VdxValue Idealize.ShloMosaic Idealize.SL.Sem

theorem frame_kernel : Cert.quiescent_VdxKernel := fun m ρ _ => Cert.VdxKernel.Gen.frame m ρ
theorem frame_ideal : Cert.quiescent_VdxKernelIdeal := fun m ρ _ => Cert.VdxKernelIdeal.Gen.frame m ρ
theorem frame_reference : Cert.quiescent_VdxReferenceIdeal := fun m ρ _ =>
  (θ_run Cert.VdxReferenceIdeal.defs _ _).mono (fun r h => ⟨fun c => (h c).2, sem_eq_zero_of_no_sems (by decide) r.2⟩)
    (Cert.VdxReferenceIdeal.Value.run (F := Ideal) m ρ)

/-- The kernel's result is the reference's, on all extended reals. -/
theorem algebraic : Cert.algebraic_VdxKernelIdeal_VdxReferenceIdeal := by
  intro m ρ m' ρ' _ hagree
  refine ⟨_, Cert.VdxKernelIdeal.Value.run_blocks (F := Ideal) m ρ, ?_⟩
  refine (θ_run Cert.VdxReferenceIdeal.defs _ _).mono (fun _ h c => ?_) (Cert.VdxReferenceIdeal.Value.run (F := Ideal) m' ρ')
  obtain ⟨h0, hrest⟩ := h c
  obtain ⟨e0, e1, e2⟩ := hagree c
  refine ⟨?_, hrest⟩
  · refine h0.trans ?_
    rw [e0, e1, e2]
    refine Eq.trans (Cert.VdxReferenceIdeal.Read.val_main_v4_eq _ _ _) ?_
    funext x
    obtain ⟨i, j, p, q, rfl⟩ := Cert.Mm.exists_idx_tile (a0 := 1) (a1 := 2) (t0 := 512) (t1 := 1024) (by decide) (by decide) x
    exact (Cert.VdxRef.ref0_apply _ _ _ (row i p) (col j q)).trans (final3 m c i j p q).symm

end Cert.VdxClaims

end
-- ==== Proof.lean ====
/- The claims about the calls of the training step, put together: for each call the frames of the kernel, of its
   idealized form and of the reference, and the equation of their results. Each is proved in a module of its own. -/
module

public import proofs.«01_k».proof.Defs
public import proofs.«01_k».proof.Proof.Gen.MemKernel
public import proofs.«01_k».proof.Proof.Gen.MemKernel.Skeleton
public import proofs.«01_k».proof.Proof.Gen.MemKernel.Launch
public import proofs.«01_k».proof.Proof.Gen.MemKernel.Points
public import proofs.«01_k».proof.Proof.Gen.MemKernel.Frame
public import proofs.«01_k».proof.Proof.Gen.MemKernelIdeal
public import proofs.«01_k».proof.Proof.Gen.MemKernelIdeal.Skeleton
public import proofs.«01_k».proof.Proof.Gen.MemKernelIdeal.Launch
public import proofs.«01_k».proof.Proof.Gen.MemKernelIdeal.Points
public import proofs.«01_k».proof.Proof.Gen.MemKernelIdeal.Frame
public import proofs.«01_k».proof.Proof.Gen.MemReferenceIdeal
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.F2dxKernel
public import proofs.«01_k».proof.Proof.Gen.F2dxKernel.Skeleton
public import proofs.«01_k».proof.Proof.Gen.F2dxKernel.Launch
public import proofs.«01_k».proof.Proof.Gen.F2dxKernel.Points
public import proofs.«01_k».proof.Proof.Gen.F2dxKernel.Frame
public import proofs.«01_k».proof.Proof.Gen.F2dxKernelIdeal
public import proofs.«01_k».proof.Proof.Gen.F2dxKernelIdeal.Skeleton
public import proofs.«01_k».proof.Proof.Gen.F2dxKernelIdeal.Launch
public import proofs.«01_k».proof.Proof.Gen.F2dxKernelIdeal.Points
public import proofs.«01_k».proof.Proof.Gen.F2dxKernelIdeal.Frame
public import proofs.«01_k».proof.Proof.Gen.F2dxReferenceIdeal
public import proofs.«01_k».proof.Proof.Gen.F2dwKernel
public import proofs.«01_k».proof.Proof.Gen.F2dwKernel.Skeleton
public import proofs.«01_k».proof.Proof.Gen.F2dwKernel.Launch
public import proofs.«01_k».proof.Proof.Gen.F2dwKernel.Points
public import proofs.«01_k».proof.Proof.Gen.F2dwKernel.Frame
public import proofs.«01_k».proof.Proof.Gen.F2dwKernelIdeal
public import proofs.«01_k».proof.Proof.Gen.F2dwKernelIdeal.Skeleton
public import proofs.«01_k».proof.Proof.Gen.F2dwKernelIdeal.Launch
public import proofs.«01_k».proof.Proof.Gen.F2dwKernelIdeal.Points
public import proofs.«01_k».proof.Proof.Gen.F2dwKernelIdeal.Frame
public import proofs.«01_k».proof.Proof.Gen.F2dwReferenceIdeal
public import proofs.«01_k».proof.Proof.Gen.F1dwKernel
public import proofs.«01_k».proof.Proof.Gen.F1dwKernel.Skeleton
public import proofs.«01_k».proof.Proof.Gen.F1dwKernel.Launch
public import proofs.«01_k».proof.Proof.Gen.F1dwKernel.Points
public import proofs.«01_k».proof.Proof.Gen.F1dwKernel.Frame
public import proofs.«01_k».proof.Proof.Gen.F1dwKernelIdeal
public import proofs.«01_k».proof.Proof.Gen.F1dwKernelIdeal.Skeleton
public import proofs.«01_k».proof.Proof.Gen.F1dwKernelIdeal.Launch
public import proofs.«01_k».proof.Proof.Gen.F1dwKernelIdeal.Points
public import proofs.«01_k».proof.Proof.Gen.F1dwKernelIdeal.Frame
public import proofs.«01_k».proof.Proof.Gen.F1dwReferenceIdeal
public import proofs.«01_k».proof.Proof.Gen.F1dxKernel
public import proofs.«01_k».proof.Proof.Gen.F1dxKernel.Skeleton
public import proofs.«01_k».proof.Proof.Gen.F1dxKernel.Launch
public import proofs.«01_k».proof.Proof.Gen.F1dxKernel.Points
public import proofs.«01_k».proof.Proof.Gen.F1dxKernel.Frame
public import proofs.«01_k».proof.Proof.Gen.F1dxKernelIdeal
public import proofs.«01_k».proof.Proof.Gen.F1dxKernelIdeal.Skeleton
public import proofs.«01_k».proof.Proof.Gen.F1dxKernelIdeal.Launch
public import proofs.«01_k».proof.Proof.Gen.F1dxKernelIdeal.Points
public import proofs.«01_k».proof.Proof.Gen.F1dxKernelIdeal.Frame
public import proofs.«01_k».proof.Proof.Gen.F1dxReferenceIdeal
public import proofs.«01_k».proof.Proof.Gen.OdxKernel
public import proofs.«01_k».proof.Proof.Gen.OdxKernel.Skeleton
public import proofs.«01_k».proof.Proof.Gen.OdxKernel.Launch
public import proofs.«01_k».proof.Proof.Gen.OdxKernel.Points
public import proofs.«01_k».proof.Proof.Gen.OdxKernel.Frame
public import proofs.«01_k».proof.Proof.Gen.OdxKernelIdeal
public import proofs.«01_k».proof.Proof.Gen.OdxKernelIdeal.Skeleton
public import proofs.«01_k».proof.Proof.Gen.OdxKernelIdeal.Launch
public import proofs.«01_k».proof.Proof.Gen.OdxKernelIdeal.Points
public import proofs.«01_k».proof.Proof.Gen.OdxKernelIdeal.Frame
public import proofs.«01_k».proof.Proof.Gen.OdxReferenceIdeal
public import proofs.«01_k».proof.Proof.Gen.OdwKernel
public import proofs.«01_k».proof.Proof.Gen.OdwKernel.Skeleton
public import proofs.«01_k».proof.Proof.Gen.OdwKernel.Launch
public import proofs.«01_k».proof.Proof.Gen.OdwKernel.Points
public import proofs.«01_k».proof.Proof.Gen.OdwKernel.Frame
public import proofs.«01_k».proof.Proof.Gen.OdwKernelIdeal
public import proofs.«01_k».proof.Proof.Gen.OdwKernelIdeal.Skeleton
public import proofs.«01_k».proof.Proof.Gen.OdwKernelIdeal.Launch
public import proofs.«01_k».proof.Proof.Gen.OdwKernelIdeal.Points
public import proofs.«01_k».proof.Proof.Gen.OdwKernelIdeal.Frame
public import proofs.«01_k».proof.Proof.Gen.OdwReferenceIdeal
public import proofs.«01_k».proof.Proof.Gen.QdwKernel
public import proofs.«01_k».proof.Proof.Gen.QdwKernel.Skeleton
public import proofs.«01_k».proof.Proof.Gen.QdwKernel.Launch
public import proofs.«01_k».proof.Proof.Gen.QdwKernel.Points
public import proofs.«01_k».proof.Proof.Gen.QdwKernel.Frame
public import proofs.«01_k».proof.Proof.Gen.QdwKernelIdeal
public import proofs.«01_k».proof.Proof.Gen.QdwKernelIdeal.Skeleton
public import proofs.«01_k».proof.Proof.Gen.QdwKernelIdeal.Launch
public import proofs.«01_k».proof.Proof.Gen.QdwKernelIdeal.Points
public import proofs.«01_k».proof.Proof.Gen.QdwKernelIdeal.Frame
public import proofs.«01_k».proof.Proof.Gen.QdwReferenceIdeal
public import proofs.«01_k».proof.Proof.Gen.QdxKernel
public import proofs.«01_k».proof.Proof.Gen.QdxKernel.Skeleton
public import proofs.«01_k».proof.Proof.Gen.QdxKernel.Launch
public import proofs.«01_k».proof.Proof.Gen.QdxKernel.Points
public import proofs.«01_k».proof.Proof.Gen.QdxKernel.Frame
public import proofs.«01_k».proof.Proof.Gen.QdxKernelIdeal
public import proofs.«01_k».proof.Proof.Gen.QdxKernelIdeal.Skeleton
public import proofs.«01_k».proof.Proof.Gen.QdxKernelIdeal.Launch
public import proofs.«01_k».proof.Proof.Gen.QdxKernelIdeal.Points
public import proofs.«01_k».proof.Proof.Gen.QdxKernelIdeal.Frame
public import proofs.«01_k».proof.Proof.Gen.QdxReferenceIdeal
public import proofs.«01_k».proof.Proof.Gen.KdwKernel
public import proofs.«01_k».proof.Proof.Gen.KdwKernel.Skeleton
public import proofs.«01_k».proof.Proof.Gen.KdwKernel.Launch
public import proofs.«01_k».proof.Proof.Gen.KdwKernel.Points
public import proofs.«01_k».proof.Proof.Gen.KdwKernel.Frame
public import proofs.«01_k».proof.Proof.Gen.KdwKernelIdeal
public import proofs.«01_k».proof.Proof.Gen.KdwKernelIdeal.Skeleton
public import proofs.«01_k».proof.Proof.Gen.KdwKernelIdeal.Launch
public import proofs.«01_k».proof.Proof.Gen.KdwKernelIdeal.Points
public import proofs.«01_k».proof.Proof.Gen.KdwKernelIdeal.Frame
public import proofs.«01_k».proof.Proof.Gen.KdwReferenceIdeal
public import proofs.«01_k».proof.Proof.Gen.KdxKernel
public import proofs.«01_k».proof.Proof.Gen.KdxKernel.Skeleton
public import proofs.«01_k».proof.Proof.Gen.KdxKernel.Launch
public import proofs.«01_k».proof.Proof.Gen.KdxKernel.Points
public import proofs.«01_k».proof.Proof.Gen.KdxKernel.Frame
public import proofs.«01_k».proof.Proof.Gen.KdxKernelIdeal
public import proofs.«01_k».proof.Proof.Gen.KdxKernelIdeal.Skeleton
public import proofs.«01_k».proof.Proof.Gen.KdxKernelIdeal.Launch
public import proofs.«01_k».proof.Proof.Gen.KdxKernelIdeal.Points
public import proofs.«01_k».proof.Proof.Gen.KdxKernelIdeal.Frame
public import proofs.«01_k».proof.Proof.Gen.KdxReferenceIdeal
public import proofs.«01_k».proof.Proof.Gen.VdxKernel
public import proofs.«01_k».proof.Proof.Gen.VdxKernel.Skeleton
public import proofs.«01_k».proof.Proof.Gen.VdxKernel.Launch
public import proofs.«01_k».proof.Proof.Gen.VdxKernel.Points
public import proofs.«01_k».proof.Proof.Gen.VdxKernel.Frame
public import proofs.«01_k».proof.Proof.Gen.VdxKernelIdeal
public import proofs.«01_k».proof.Proof.Gen.VdxKernelIdeal.Skeleton
public import proofs.«01_k».proof.Proof.Gen.VdxKernelIdeal.Launch
public import proofs.«01_k».proof.Proof.Gen.VdxKernelIdeal.Points
public import proofs.«01_k».proof.Proof.Gen.VdxKernelIdeal.Frame
public import proofs.«01_k».proof.Proof.Gen.VdxReferenceIdeal
public import proofs.«01_k».proof.Proof.Gen.AbdwKernel
public import proofs.«01_k».proof.Proof.Gen.AbdwKernel.Skeleton
public import proofs.«01_k».proof.Proof.Gen.AbdwKernel.Launch
public import proofs.«01_k».proof.Proof.Gen.AbdwKernel.Points
public import proofs.«01_k».proof.Proof.Gen.AbdwKernel.Frame
public import proofs.«01_k».proof.Proof.Gen.AbdwKernelIdeal
public import proofs.«01_k».proof.Proof.Gen.AbdwKernelIdeal.Skeleton
public import proofs.«01_k».proof.Proof.Gen.AbdwKernelIdeal.Launch
public import proofs.«01_k».proof.Proof.Gen.AbdwKernelIdeal.Points
public import proofs.«01_k».proof.Proof.Gen.AbdwKernelIdeal.Frame
public import proofs.«01_k».proof.Proof.Gen.AbdwReferenceIdeal
public import proofs.«01_k».proof.Proof.Gen.AbdxKernel
public import proofs.«01_k».proof.Proof.Gen.AbdxKernel.Skeleton
public import proofs.«01_k».proof.Proof.Gen.AbdxKernel.Launch
public import proofs.«01_k».proof.Proof.Gen.AbdxKernel.Points
public import proofs.«01_k».proof.Proof.Gen.AbdxKernel.Frame
public import proofs.«01_k».proof.Proof.Gen.AbdxKernelIdeal
public import proofs.«01_k».proof.Proof.Gen.AbdxKernelIdeal.Skeleton
public import proofs.«01_k».proof.Proof.Gen.AbdxKernelIdeal.Launch
public import proofs.«01_k».proof.Proof.Gen.AbdxKernelIdeal.Points
public import proofs.«01_k».proof.Proof.Gen.AbdxKernelIdeal.Frame
public import proofs.«01_k».proof.Proof.Gen.AbdxReferenceIdeal
public import proofs.«01_k».proof.Proof.Gen.CdwKernel
public import proofs.«01_k».proof.Proof.Gen.CdwKernel.Skeleton
public import proofs.«01_k».proof.Proof.Gen.CdwKernel.Launch
public import proofs.«01_k».proof.Proof.Gen.CdwKernel.Points
public import proofs.«01_k».proof.Proof.Gen.CdwKernel.Frame
public import proofs.«01_k».proof.Proof.Gen.CdwKernelIdeal
public import proofs.«01_k».proof.Proof.Gen.CdwKernelIdeal.Skeleton
public import proofs.«01_k».proof.Proof.Gen.CdwKernelIdeal.Launch
public import proofs.«01_k».proof.Proof.Gen.CdwKernelIdeal.Points
public import proofs.«01_k».proof.Proof.Gen.CdwKernelIdeal.Frame
public import proofs.«01_k».proof.Proof.Gen.CdwReferenceIdeal
public import proofs.«01_k».proof.Proof.Gen.CdxKernel
public import proofs.«01_k».proof.Proof.Gen.CdxKernel.Skeleton
public import proofs.«01_k».proof.Proof.Gen.CdxKernel.Launch
public import proofs.«01_k».proof.Proof.Gen.CdxKernel.Points
public import proofs.«01_k».proof.Proof.Gen.CdxKernel.Frame
public import proofs.«01_k».proof.Proof.Gen.CdxKernelIdeal
public import proofs.«01_k».proof.Proof.Gen.CdxKernelIdeal.Skeleton
public import proofs.«01_k».proof.Proof.Gen.CdxKernelIdeal.Launch
public import proofs.«01_k».proof.Proof.Gen.CdxKernelIdeal.Points
public import proofs.«01_k».proof.Proof.Gen.CdxKernelIdeal.Frame
public import proofs.«01_k».proof.Proof.Gen.CdxReferenceIdeal
public import proofs.«01_k».proof.Proof.Gen.CuqdwKernel
public import proofs.«01_k».proof.Proof.Gen.CuqdwKernel.Skeleton
public import proofs.«01_k».proof.Proof.Gen.CuqdwKernel.Launch
public import proofs.«01_k».proof.Proof.Gen.CuqdwKernel.Points
public import proofs.«01_k».proof.Proof.Gen.CuqdwKernel.Frame
public import proofs.«01_k».proof.Proof.Gen.CuqdwKernelIdeal
public import proofs.«01_k».proof.Proof.Gen.CuqdwKernelIdeal.Skeleton
public import proofs.«01_k».proof.Proof.Gen.CuqdwKernelIdeal.Launch
public import proofs.«01_k».proof.Proof.Gen.CuqdwKernelIdeal.Points
public import proofs.«01_k».proof.Proof.Gen.CuqdwKernelIdeal.Frame
public import proofs.«01_k».proof.Proof.Gen.CuqdwReferenceIdeal
public import proofs.«01_k».proof.Proof.Gen.CuqdxKernel
public import proofs.«01_k».proof.Proof.Gen.CuqdxKernel.Skeleton
public import proofs.«01_k».proof.Proof.Gen.CuqdxKernel.Launch
public import proofs.«01_k».proof.Proof.Gen.CuqdxKernel.Points
public import proofs.«01_k».proof.Proof.Gen.CuqdxKernel.Frame
public import proofs.«01_k».proof.Proof.Gen.CuqdxKernelIdeal
public import proofs.«01_k».proof.Proof.Gen.CuqdxKernelIdeal.Skeleton
public import proofs.«01_k».proof.Proof.Gen.CuqdxKernelIdeal.Launch
public import proofs.«01_k».proof.Proof.Gen.CuqdxKernelIdeal.Points
public import proofs.«01_k».proof.Proof.Gen.CuqdxKernelIdeal.Frame
public import proofs.«01_k».proof.Proof.Gen.CuqdxReferenceIdeal
public import proofs.«01_k».proof.Proof.Gen.CukvdwKernel
public import proofs.«01_k».proof.Proof.Gen.CukvdwKernel.Skeleton
public import proofs.«01_k».proof.Proof.Gen.CukvdwKernel.Launch
public import proofs.«01_k».proof.Proof.Gen.CukvdwKernel.Points
public import proofs.«01_k».proof.Proof.Gen.CukvdwKernel.Frame
public import proofs.«01_k».proof.Proof.Gen.CukvdwKernelIdeal
public import proofs.«01_k».proof.Proof.Gen.CukvdwKernelIdeal.Skeleton
public import proofs.«01_k».proof.Proof.Gen.CukvdwKernelIdeal.Launch
public import proofs.«01_k».proof.Proof.Gen.CukvdwKernelIdeal.Points
public import proofs.«01_k».proof.Proof.Gen.CukvdwKernelIdeal.Frame
public import proofs.«01_k».proof.Proof.Gen.CukvdwReferenceIdeal
public import proofs.«01_k».proof.Proof.Gen.CukvdxKernel
public import proofs.«01_k».proof.Proof.Gen.CukvdxKernel.Skeleton
public import proofs.«01_k».proof.Proof.Gen.CukvdxKernel.Launch
public import proofs.«01_k».proof.Proof.Gen.CukvdxKernel.Points
public import proofs.«01_k».proof.Proof.Gen.CukvdxKernel.Frame
public import proofs.«01_k».proof.Proof.Gen.CukvdxKernelIdeal
public import proofs.«01_k».proof.Proof.Gen.CukvdxKernelIdeal.Skeleton
public import proofs.«01_k».proof.Proof.Gen.CukvdxKernelIdeal.Launch
public import proofs.«01_k».proof.Proof.Gen.CukvdxKernelIdeal.Points
public import proofs.«01_k».proof.Proof.Gen.CukvdxKernelIdeal.Frame
public import proofs.«01_k».proof.Proof.Gen.CukvdxReferenceIdeal
public import proofs.«01_k».proof.Proof.Gen.F1Kernel
public import proofs.«01_k».proof.Proof.Gen.F1Kernel.Skeleton
public import proofs.«01_k».proof.Proof.Gen.F1Kernel.Launch
public import proofs.«01_k».proof.Proof.Gen.F1Kernel.Points
public import proofs.«01_k».proof.Proof.Gen.F1Kernel.Frame
public import proofs.«01_k».proof.Proof.Gen.F1KernelIdeal
public import proofs.«01_k».proof.Proof.Gen.F1KernelIdeal.Skeleton
public import proofs.«01_k».proof.Proof.Gen.F1KernelIdeal.Launch
public import proofs.«01_k».proof.Proof.Gen.F1KernelIdeal.Points
public import proofs.«01_k».proof.Proof.Gen.F1KernelIdeal.Frame
public import proofs.«01_k».proof.Proof.Gen.F1ReferenceIdeal
public import proofs.«01_k».proof.Proof.Gen.F2Kernel
public import proofs.«01_k».proof.Proof.Gen.F2Kernel.Skeleton
public import proofs.«01_k».proof.Proof.Gen.F2Kernel.Launch
public import proofs.«01_k».proof.Proof.Gen.F2Kernel.Points
public import proofs.«01_k».proof.Proof.Gen.F2Kernel.Frame
public import proofs.«01_k».proof.Proof.Gen.F2KernelIdeal
public import proofs.«01_k».proof.Proof.Gen.F2KernelIdeal.Skeleton
public import proofs.«01_k».proof.Proof.Gen.F2KernelIdeal.Launch
public import proofs.«01_k».proof.Proof.Gen.F2KernelIdeal.Points
public import proofs.«01_k».proof.Proof.Gen.F2KernelIdeal.Frame
public import proofs.«01_k».proof.Proof.Gen.F2ReferenceIdeal
public import proofs.«01_k».proof.Proof.Gen.OKernel
public import proofs.«01_k».proof.Proof.Gen.OKernel.Skeleton
public import proofs.«01_k».proof.Proof.Gen.OKernel.Launch
public import proofs.«01_k».proof.Proof.Gen.OKernel.Points
public import proofs.«01_k».proof.Proof.Gen.OKernel.Frame
public import proofs.«01_k».proof.Proof.Gen.OKernelIdeal
public import proofs.«01_k».proof.Proof.Gen.OKernelIdeal.Skeleton
public import proofs.«01_k».proof.Proof.Gen.OKernelIdeal.Launch
public import proofs.«01_k».proof.Proof.Gen.OKernelIdeal.Points
public import proofs.«01_k».proof.Proof.Gen.OKernelIdeal.Frame
public import proofs.«01_k».proof.Proof.Gen.OReferenceIdeal
public import proofs.«01_k».proof.Proof.Gen.QKernel
public import proofs.«01_k».proof.Proof.Gen.QKernel.Skeleton
public import proofs.«01_k».proof.Proof.Gen.QKernel.Launch
public import proofs.«01_k».proof.Proof.Gen.QKernel.Points
public import proofs.«01_k».proof.Proof.Gen.QKernel.Frame
public import proofs.«01_k».proof.Proof.Gen.QKernelIdeal
public import proofs.«01_k».proof.Proof.Gen.QKernelIdeal.Skeleton
public import proofs.«01_k».proof.Proof.Gen.QKernelIdeal.Launch
public import proofs.«01_k».proof.Proof.Gen.QKernelIdeal.Points
public import proofs.«01_k».proof.Proof.Gen.QKernelIdeal.Frame
public import proofs.«01_k».proof.Proof.Gen.QReferenceIdeal
public import proofs.«01_k».proof.Proof.Gen.KKernel
public import proofs.«01_k».proof.Proof.Gen.KKernel.Skeleton
public import proofs.«01_k».proof.Proof.Gen.KKernel.Launch
public import proofs.«01_k».proof.Proof.Gen.KKernel.Points
public import proofs.«01_k».proof.Proof.Gen.KKernel.Frame
public import proofs.«01_k».proof.Proof.Gen.KKernelIdeal
public import proofs.«01_k».proof.Proof.Gen.KKernelIdeal.Skeleton
public import proofs.«01_k».proof.Proof.Gen.KKernelIdeal.Launch
public import proofs.«01_k».proof.Proof.Gen.KKernelIdeal.Points
public import proofs.«01_k».proof.Proof.Gen.KKernelIdeal.Frame
public import proofs.«01_k».proof.Proof.Gen.KReferenceIdeal
public import proofs.«01_k».proof.Proof.Gen.AbKernel
public import proofs.«01_k».proof.Proof.Gen.AbKernel.Skeleton
public import proofs.«01_k».proof.Proof.Gen.AbKernel.Launch
public import proofs.«01_k».proof.Proof.Gen.AbKernel.Points
public import proofs.«01_k».proof.Proof.Gen.AbKernel.Frame
public import proofs.«01_k».proof.Proof.Gen.AbKernelIdeal
public import proofs.«01_k».proof.Proof.Gen.AbKernelIdeal.Skeleton
public import proofs.«01_k».proof.Proof.Gen.AbKernelIdeal.Launch
public import proofs.«01_k».proof.Proof.Gen.AbKernelIdeal.Points
public import proofs.«01_k».proof.Proof.Gen.AbKernelIdeal.Frame
public import proofs.«01_k».proof.Proof.Gen.AbReferenceIdeal
public import proofs.«01_k».proof.Proof.Gen.CKernel
public import proofs.«01_k».proof.Proof.Gen.CKernel.Skeleton
public import proofs.«01_k».proof.Proof.Gen.CKernel.Launch
public import proofs.«01_k».proof.Proof.Gen.CKernel.Points
public import proofs.«01_k».proof.Proof.Gen.CKernel.Frame
public import proofs.«01_k».proof.Proof.Gen.CKernelIdeal
public import proofs.«01_k».proof.Proof.Gen.CKernelIdeal.Skeleton
public import proofs.«01_k».proof.Proof.Gen.CKernelIdeal.Launch
public import proofs.«01_k».proof.Proof.Gen.CKernelIdeal.Points
public import proofs.«01_k».proof.Proof.Gen.CKernelIdeal.Frame
public import proofs.«01_k».proof.Proof.Gen.CReferenceIdeal
public import proofs.«01_k».proof.Proof.Gen.CkvKernel
public import proofs.«01_k».proof.Proof.Gen.CkvKernel.Skeleton
public import proofs.«01_k».proof.Proof.Gen.CkvKernel.Launch
public import proofs.«01_k».proof.Proof.Gen.CkvKernel.Points
public import proofs.«01_k».proof.Proof.Gen.CkvKernel.Frame
public import proofs.«01_k».proof.Proof.Gen.CkvKernelIdeal
public import proofs.«01_k».proof.Proof.Gen.CkvKernelIdeal.Skeleton
public import proofs.«01_k».proof.Proof.Gen.CkvKernelIdeal.Launch
public import proofs.«01_k».proof.Proof.Gen.CkvKernelIdeal.Points
public import proofs.«01_k».proof.Proof.Gen.CkvKernelIdeal.Frame
public import proofs.«01_k».proof.Proof.Gen.CkvReferenceIdeal
public import proofs.«01_k».proof.Proof.Gen.MemFKernel
public import proofs.«01_k».proof.Proof.Gen.MemFKernel.Skeleton
public import proofs.«01_k».proof.Proof.Gen.MemFKernel.Launch
public import proofs.«01_k».proof.Proof.Gen.MemFKernel.Points
public import proofs.«01_k».proof.Proof.Gen.MemFKernel.Frame
public import proofs.«01_k».proof.Proof.Gen.MemFKernelIdeal
public import proofs.«01_k».proof.Proof.Gen.MemFKernelIdeal.Skeleton
public import proofs.«01_k».proof.Proof.Gen.MemFKernelIdeal.Launch
public import proofs.«01_k».proof.Proof.Gen.MemFKernelIdeal.Points
public import proofs.«01_k».proof.Proof.Gen.MemFKernelIdeal.Frame
public import proofs.«01_k».proof.Proof.Gen.MemFReferenceIdeal
public import proofs.«01_k».proof.Proof.Gen.NormFKernel
public import proofs.«01_k».proof.Proof.Gen.NormFKernel.Skeleton
public import proofs.«01_k».proof.Proof.Gen.NormFKernel.Launch
public import proofs.«01_k».proof.Proof.Gen.NormFKernel.Points
public import proofs.«01_k».proof.Proof.Gen.NormFKernel.Frame
public import proofs.«01_k».proof.Proof.Gen.NormFKernelIdeal
public import proofs.«01_k».proof.Proof.Gen.NormFKernelIdeal.Skeleton
public import proofs.«01_k».proof.Proof.Gen.NormFKernelIdeal.Launch
public import proofs.«01_k».proof.Proof.Gen.NormFKernelIdeal.Points
public import proofs.«01_k».proof.Proof.Gen.NormFKernelIdeal.Frame
public import proofs.«01_k».proof.Proof.Gen.NormFReferenceIdeal
public import proofs.«01_k».proof.Proof.Gen.MlafKernel
public import proofs.«01_k».proof.Proof.Gen.MlafKernel.Skeleton
public import proofs.«01_k».proof.Proof.Gen.MlafKernel.Loops
public import proofs.«01_k».proof.Proof.Gen.MlafKernel.Launch
public import proofs.«01_k».proof.Proof.Gen.MlafKernel.Points
public import proofs.«01_k».proof.Proof.Gen.MlafKernel.Frame
public import proofs.«01_k».proof.Proof.Gen.MlafKernelIdeal
public import proofs.«01_k».proof.Proof.Gen.MlafKernelIdeal.Skeleton
public import proofs.«01_k».proof.Proof.Gen.MlafKernelIdeal.Loops
public import proofs.«01_k».proof.Proof.Gen.MlafKernelIdeal.Launch
public import proofs.«01_k».proof.Proof.Gen.MlafKernelIdeal.Points
public import proofs.«01_k».proof.Proof.Gen.MlafKernelIdeal.Frame
public import proofs.«01_k».proof.Proof.Gen.MlafReferenceIdeal
public import proofs.«01_k».proof.Proof.Gen.MlabKernel
public import proofs.«01_k».proof.Proof.Gen.MlabKernel.Skeleton
public import proofs.«01_k».proof.Proof.Gen.MlabKernel.Loops
public import proofs.«01_k».proof.Proof.Gen.MlabKernel.Launch
public import proofs.«01_k».proof.Proof.Gen.MlabKernel.Points
public import proofs.«01_k».proof.Proof.Gen.MlabKernel.Frame
public import proofs.«01_k».proof.Proof.Gen.MlabKernelIdeal
public import proofs.«01_k».proof.Proof.Gen.MlabKernelIdeal.Skeleton
public import proofs.«01_k».proof.Proof.Gen.MlabKernelIdeal.Loops
public import proofs.«01_k».proof.Proof.Gen.MlabKernelIdeal.Launch
public import proofs.«01_k».proof.Proof.Gen.MlabKernelIdeal.Points
public import proofs.«01_k».proof.Proof.Gen.MlabKernelIdeal.Frame
public import proofs.«01_k».proof.Proof.Gen.MlabReferenceIdeal
public import proofs.«01_k».proof.Proof.Gen.Pre_mem_finite
public import proofs.«01_k».proof.Proof.Gen.Pre_norm_finite
public import proofs.«01_k».proof.Proof.Gen.Pre_mlaf_finite
public import proofs.«01_k».proof.Proof.Gen.Pre_mlab_finite
public import proofs.«01_k».proof.Proof.Gen.MemKernelIdeal.Value
public import proofs.«01_k».proof.Proof.Gen.MemReferenceIdeal.Run
public import proofs.«01_k».proof.Proof.Gen.MemReferenceIdeal.Read
public import proofs.«01_k».proof.Proof.Gen.NormKernelIdeal.Value
public import proofs.«01_k».proof.Proof.Gen.NormReferenceIdeal.Run
public import proofs.«01_k».proof.Proof.Gen.NormReferenceIdeal.Read
public import proofs.«01_k».proof.Proof.Gen.F2dxKernelIdeal.Value
public import proofs.«01_k».proof.Proof.Gen.F2dxReferenceIdeal.Run
public import proofs.«01_k».proof.Proof.Gen.F2dxReferenceIdeal.Read
public import proofs.«01_k».proof.Proof.Gen.F2dwKernelIdeal.Value
public import proofs.«01_k».proof.Proof.Gen.F2dwReferenceIdeal.Run
public import proofs.«01_k».proof.Proof.Gen.F2dwReferenceIdeal.Read
public import proofs.«01_k».proof.Proof.Gen.F1dwKernelIdeal.Value
public import proofs.«01_k».proof.Proof.Gen.F1dwReferenceIdeal.Run
public import proofs.«01_k».proof.Proof.Gen.F1dwReferenceIdeal.Read
public import proofs.«01_k».proof.Proof.Gen.F1dxKernelIdeal.Value
public import proofs.«01_k».proof.Proof.Gen.F1dxReferenceIdeal.Run
public import proofs.«01_k».proof.Proof.Gen.F1dxReferenceIdeal.Read
public import proofs.«01_k».proof.Proof.Gen.OdxKernelIdeal.Value
public import proofs.«01_k».proof.Proof.Gen.OdxReferenceIdeal.Run
public import proofs.«01_k».proof.Proof.Gen.OdxReferenceIdeal.Read
public import proofs.«01_k».proof.Proof.Gen.OdwKernelIdeal.Value
public import proofs.«01_k».proof.Proof.Gen.OdwReferenceIdeal.Run
public import proofs.«01_k».proof.Proof.Gen.OdwReferenceIdeal.Read
public import proofs.«01_k».proof.Proof.Gen.QdwKernelIdeal.Value
public import proofs.«01_k».proof.Proof.Gen.QdwReferenceIdeal.Run
public import proofs.«01_k».proof.Proof.Gen.QdwReferenceIdeal.Read
public import proofs.«01_k».proof.Proof.Gen.QdxKernelIdeal.Value
public import proofs.«01_k».proof.Proof.Gen.QdxReferenceIdeal.Run
public import proofs.«01_k».proof.Proof.Gen.QdxReferenceIdeal.Read
public import proofs.«01_k».proof.Proof.Gen.KdwKernelIdeal.Value
public import proofs.«01_k».proof.Proof.Gen.KdwReferenceIdeal.Run
public import proofs.«01_k».proof.Proof.Gen.KdwReferenceIdeal.Read
public import proofs.«01_k».proof.Proof.Gen.KdxKernelIdeal.Value
public import proofs.«01_k».proof.Proof.Gen.KdxReferenceIdeal.Run
public import proofs.«01_k».proof.Proof.Gen.KdxReferenceIdeal.Read
public import proofs.«01_k».proof.Proof.Gen.VdxKernelIdeal.Value
public import proofs.«01_k».proof.Proof.Gen.VdxReferenceIdeal.Run
public import proofs.«01_k».proof.Proof.Gen.VdxReferenceIdeal.Read
public import proofs.«01_k».proof.Proof.Gen.AbdwKernelIdeal.Value
public import proofs.«01_k».proof.Proof.Gen.AbdwReferenceIdeal.Run
public import proofs.«01_k».proof.Proof.Gen.AbdwReferenceIdeal.Read
public import proofs.«01_k».proof.Proof.Gen.AbdxKernelIdeal.Value
public import proofs.«01_k».proof.Proof.Gen.AbdxReferenceIdeal.Run
public import proofs.«01_k».proof.Proof.Gen.AbdxReferenceIdeal.Read
public import proofs.«01_k».proof.Proof.Gen.CdwKernelIdeal.Value
public import proofs.«01_k».proof.Proof.Gen.CdwReferenceIdeal.Run
public import proofs.«01_k».proof.Proof.Gen.CdwReferenceIdeal.Read
public import proofs.«01_k».proof.Proof.Gen.CdxKernelIdeal.Value
public import proofs.«01_k».proof.Proof.Gen.CdxReferenceIdeal.Run
public import proofs.«01_k».proof.Proof.Gen.CdxReferenceIdeal.Read
public import proofs.«01_k».proof.Proof.Gen.CuqdwKernelIdeal.Value
public import proofs.«01_k».proof.Proof.Gen.CuqdwReferenceIdeal.Run
public import proofs.«01_k».proof.Proof.Gen.CuqdwReferenceIdeal.Read
public import proofs.«01_k».proof.Proof.Gen.CuqdxKernelIdeal.Value
public import proofs.«01_k».proof.Proof.Gen.CuqdxReferenceIdeal.Run
public import proofs.«01_k».proof.Proof.Gen.CuqdxReferenceIdeal.Read
public import proofs.«01_k».proof.Proof.Gen.CukvdwKernelIdeal.Value
public import proofs.«01_k».proof.Proof.Gen.CukvdwReferenceIdeal.Run
public import proofs.«01_k».proof.Proof.Gen.CukvdwReferenceIdeal.Read
public import proofs.«01_k».proof.Proof.Gen.CukvdxKernelIdeal.Value
public import proofs.«01_k».proof.Proof.Gen.CukvdxReferenceIdeal.Run
public import proofs.«01_k».proof.Proof.Gen.CukvdxReferenceIdeal.Read
public import proofs.«01_k».proof.Proof.Gen.F1KernelIdeal.Value
public import proofs.«01_k».proof.Proof.Gen.F1ReferenceIdeal.Run
public import proofs.«01_k».proof.Proof.Gen.F1ReferenceIdeal.Read
public import proofs.«01_k».proof.Proof.Gen.F2KernelIdeal.Value
public import proofs.«01_k».proof.Proof.Gen.F2ReferenceIdeal.Run
public import proofs.«01_k».proof.Proof.Gen.F2ReferenceIdeal.Read
public import proofs.«01_k».proof.Proof.Gen.OKernelIdeal.Value
public import proofs.«01_k».proof.Proof.Gen.OReferenceIdeal.Run
public import proofs.«01_k».proof.Proof.Gen.OReferenceIdeal.Read
public import proofs.«01_k».proof.Proof.Gen.QKernelIdeal.Value
public import proofs.«01_k».proof.Proof.Gen.QReferenceIdeal.Run
public import proofs.«01_k».proof.Proof.Gen.QReferenceIdeal.Read
public import proofs.«01_k».proof.Proof.Gen.KKernelIdeal.Value
public import proofs.«01_k».proof.Proof.Gen.KReferenceIdeal.Run
public import proofs.«01_k».proof.Proof.Gen.KReferenceIdeal.Read
public import proofs.«01_k».proof.Proof.Gen.AbKernelIdeal.Value
public import proofs.«01_k».proof.Proof.Gen.AbReferenceIdeal.Run
public import proofs.«01_k».proof.Proof.Gen.AbReferenceIdeal.Read
public import proofs.«01_k».proof.Proof.Gen.CKernelIdeal.Value
public import proofs.«01_k».proof.Proof.Gen.CReferenceIdeal.Run
public import proofs.«01_k».proof.Proof.Gen.CReferenceIdeal.Read
public import proofs.«01_k».proof.Proof.Gen.CkvKernelIdeal.Value
public import proofs.«01_k».proof.Proof.Gen.CkvReferenceIdeal.Run
public import proofs.«01_k».proof.Proof.Gen.CkvReferenceIdeal.Read
public import proofs.«01_k».proof.Proof.Gen.MemFKernelIdeal.Value
public import proofs.«01_k».proof.Proof.Gen.MemFReferenceIdeal.Run
public import proofs.«01_k».proof.Proof.Gen.MemFReferenceIdeal.Read
public import proofs.«01_k».proof.Proof.Gen.NormFKernelIdeal.Value
public import proofs.«01_k».proof.Proof.Gen.NormFReferenceIdeal.Run
public import proofs.«01_k».proof.Proof.Gen.NormFReferenceIdeal.Read
public import proofs.«01_k».proof.Proof.Gen.MlafKernelIdeal.Value
public import proofs.«01_k».proof.Proof.Gen.MlafReferenceIdeal.Run
public import proofs.«01_k».proof.Proof.Gen.MlafReferenceIdeal.Read
public import proofs.«01_k».proof.Proof.Gen.MlabKernelIdeal.Value
public import proofs.«01_k».proof.Proof.Gen.MlabReferenceIdeal.Run
public import proofs.«01_k».proof.Proof.Gen.MlabReferenceIdeal.Read
public import Idealize.ShloMosaic.Adequacy
public import Idealize.ShloMosaic.Init
public import proofs.«01_k».proof.Proof.Mem.Claims
public import proofs.«01_k».proof.Proof.Mem.Forward
public import proofs.«01_k».proof.Proof.Norm.Claims
public import proofs.«01_k».proof.Proof.Norm.Forward
public import proofs.«01_k».proof.Proof.Mlaf.Claims
public import proofs.«01_k».proof.Proof.Mlab.Claims
public import proofs.«01_k».proof.Proof.Mm.Ab
public import proofs.«01_k».proof.Proof.Mm.Abdw
public import proofs.«01_k».proof.Proof.Mm.Abdx
public import proofs.«01_k».proof.Proof.Mm.C
public import proofs.«01_k».proof.Proof.Mm.Cdw
public import proofs.«01_k».proof.Proof.Mm.Cdx
public import proofs.«01_k».proof.Proof.Mm.Ckv
public import proofs.«01_k».proof.Proof.Mm.Cukvdw
public import proofs.«01_k».proof.Proof.Mm.Cukvdx
public import proofs.«01_k».proof.Proof.Mm.Cuqdw
public import proofs.«01_k».proof.Proof.Mm.Cuqdx
public import proofs.«01_k».proof.Proof.Mm.F1
public import proofs.«01_k».proof.Proof.Mm.F1dw
public import proofs.«01_k».proof.Proof.Mm.F1dx
public import proofs.«01_k».proof.Proof.Mm.F2
public import proofs.«01_k».proof.Proof.Mm.F2dw
public import proofs.«01_k».proof.Proof.Mm.F2dx
public import proofs.«01_k».proof.Proof.Mm.K
public import proofs.«01_k».proof.Proof.Mm.Kdw
public import proofs.«01_k».proof.Proof.Mm.Kdx
public import proofs.«01_k».proof.Proof.Mm.O
public import proofs.«01_k».proof.Proof.Mm.Odw
public import proofs.«01_k».proof.Proof.Mm.Odx
public import proofs.«01_k».proof.Proof.Mm.Q
public import proofs.«01_k».proof.Proof.Mm.Qdw
public import proofs.«01_k».proof.Proof.Mm.Qdx
public import proofs.«01_k».proof.Proof.Mm.Vdx

@[expose] public section

noncomputable section

namespace Cert.Proof

open Idealize.ShloMosaic Idealize.SL.Sem

/-- Every claim: first the programs' stated facts, then the frames call by call, then what is preserved and computed. -/
theorem claim : Cert.Claim := ⟨
  Cert.MemKernel.Gen.facts, Cert.MemKernelIdeal.Gen.facts, Cert.MemReferenceIdeal.Gen.facts,
  Cert.NormKernel.Gen.facts, Cert.NormKernelIdeal.Gen.facts, Cert.NormReferenceIdeal.Gen.facts,
  Cert.F2dxKernel.Gen.facts, Cert.F2dxKernelIdeal.Gen.facts, Cert.F2dxReferenceIdeal.Gen.facts,
  Cert.F2dwKernel.Gen.facts, Cert.F2dwKernelIdeal.Gen.facts, Cert.F2dwReferenceIdeal.Gen.facts,
  Cert.F1dwKernel.Gen.facts, Cert.F1dwKernelIdeal.Gen.facts, Cert.F1dwReferenceIdeal.Gen.facts,
  Cert.F1dxKernel.Gen.facts, Cert.F1dxKernelIdeal.Gen.facts, Cert.F1dxReferenceIdeal.Gen.facts,
  Cert.OdxKernel.Gen.facts, Cert.OdxKernelIdeal.Gen.facts, Cert.OdxReferenceIdeal.Gen.facts,
  Cert.OdwKernel.Gen.facts, Cert.OdwKernelIdeal.Gen.facts, Cert.OdwReferenceIdeal.Gen.facts,
  Cert.QdwKernel.Gen.facts, Cert.QdwKernelIdeal.Gen.facts, Cert.QdwReferenceIdeal.Gen.facts,
  Cert.QdxKernel.Gen.facts, Cert.QdxKernelIdeal.Gen.facts, Cert.QdxReferenceIdeal.Gen.facts,
  Cert.KdwKernel.Gen.facts, Cert.KdwKernelIdeal.Gen.facts, Cert.KdwReferenceIdeal.Gen.facts,
  Cert.KdxKernel.Gen.facts, Cert.KdxKernelIdeal.Gen.facts, Cert.KdxReferenceIdeal.Gen.facts,
  Cert.VdxKernel.Gen.facts, Cert.VdxKernelIdeal.Gen.facts, Cert.VdxReferenceIdeal.Gen.facts,
  Cert.AbdwKernel.Gen.facts, Cert.AbdwKernelIdeal.Gen.facts, Cert.AbdwReferenceIdeal.Gen.facts,
  Cert.AbdxKernel.Gen.facts, Cert.AbdxKernelIdeal.Gen.facts, Cert.AbdxReferenceIdeal.Gen.facts,
  Cert.CdwKernel.Gen.facts, Cert.CdwKernelIdeal.Gen.facts, Cert.CdwReferenceIdeal.Gen.facts,
  Cert.CdxKernel.Gen.facts, Cert.CdxKernelIdeal.Gen.facts, Cert.CdxReferenceIdeal.Gen.facts,
  Cert.CuqdwKernel.Gen.facts, Cert.CuqdwKernelIdeal.Gen.facts, Cert.CuqdwReferenceIdeal.Gen.facts,
  Cert.CuqdxKernel.Gen.facts, Cert.CuqdxKernelIdeal.Gen.facts, Cert.CuqdxReferenceIdeal.Gen.facts,
  Cert.CukvdwKernel.Gen.facts, Cert.CukvdwKernelIdeal.Gen.facts, Cert.CukvdwReferenceIdeal.Gen.facts,
  Cert.CukvdxKernel.Gen.facts, Cert.CukvdxKernelIdeal.Gen.facts, Cert.CukvdxReferenceIdeal.Gen.facts,
  Cert.F1Kernel.Gen.facts, Cert.F1KernelIdeal.Gen.facts, Cert.F1ReferenceIdeal.Gen.facts, Cert.F2Kernel.Gen.facts,
  Cert.F2KernelIdeal.Gen.facts, Cert.F2ReferenceIdeal.Gen.facts, Cert.OKernel.Gen.facts, Cert.OKernelIdeal.Gen.facts,
  Cert.OReferenceIdeal.Gen.facts, Cert.QKernel.Gen.facts, Cert.QKernelIdeal.Gen.facts,
  Cert.QReferenceIdeal.Gen.facts, Cert.KKernel.Gen.facts, Cert.KKernelIdeal.Gen.facts,
  Cert.KReferenceIdeal.Gen.facts, Cert.AbKernel.Gen.facts, Cert.AbKernelIdeal.Gen.facts,
  Cert.AbReferenceIdeal.Gen.facts, Cert.CKernel.Gen.facts, Cert.CKernelIdeal.Gen.facts,
  Cert.CReferenceIdeal.Gen.facts, Cert.CkvKernel.Gen.facts, Cert.CkvKernelIdeal.Gen.facts,
  Cert.CkvReferenceIdeal.Gen.facts, Cert.MemFKernel.Gen.facts, Cert.MemFKernelIdeal.Gen.facts,
  Cert.MemFReferenceIdeal.Gen.facts, Cert.NormFKernel.Gen.facts, Cert.NormFKernelIdeal.Gen.facts,
  Cert.NormFReferenceIdeal.Gen.facts, Cert.MlafKernel.Gen.facts, Cert.MlafKernelIdeal.Gen.facts,
  Cert.MlafReferenceIdeal.Gen.facts, Cert.MlabKernel.Gen.facts, Cert.MlabKernelIdeal.Gen.facts,
  Cert.MlabReferenceIdeal.Gen.facts, Cert.Pre_mem_finite.Gen.facts, Cert.Pre_norm_finite.Gen.facts,
  Cert.Pre_mlaf_finite.Gen.facts, Cert.Pre_mlab_finite.Gen.facts,
  Cert.MemClaims.frame_kernel, Cert.MemClaims.frame_ideal, Cert.MemClaims.frame_ideal_pre,
  Cert.MemClaims.frame_reference, Cert.MemClaims.frame_reference_pre, Cert.NormClaims.frame_kernel,
  Cert.NormClaims.frame_ideal, Cert.NormClaims.frame_ideal_pre, Cert.NormClaims.frame_reference,
  Cert.NormClaims.frame_reference_pre, Cert.F2dxClaims.frame_kernel, Cert.F2dxClaims.frame_ideal,
  Cert.F2dxClaims.frame_reference, Cert.F2dwClaims.frame_kernel, Cert.F2dwClaims.frame_ideal,
  Cert.F2dwClaims.frame_reference, Cert.F1dwClaims.frame_kernel, Cert.F1dwClaims.frame_ideal,
  Cert.F1dwClaims.frame_reference, Cert.F1dxClaims.frame_kernel, Cert.F1dxClaims.frame_ideal,
  Cert.F1dxClaims.frame_reference, Cert.OdxClaims.frame_kernel, Cert.OdxClaims.frame_ideal,
  Cert.OdxClaims.frame_reference, Cert.OdwClaims.frame_kernel, Cert.OdwClaims.frame_ideal,
  Cert.OdwClaims.frame_reference, Cert.QdwClaims.frame_kernel, Cert.QdwClaims.frame_ideal,
  Cert.QdwClaims.frame_reference, Cert.QdxClaims.frame_kernel, Cert.QdxClaims.frame_ideal,
  Cert.QdxClaims.frame_reference, Cert.KdwClaims.frame_kernel, Cert.KdwClaims.frame_ideal,
  Cert.KdwClaims.frame_reference, Cert.KdxClaims.frame_kernel, Cert.KdxClaims.frame_ideal,
  Cert.KdxClaims.frame_reference, Cert.VdxClaims.frame_kernel, Cert.VdxClaims.frame_ideal,
  Cert.VdxClaims.frame_reference, Cert.AbdwClaims.frame_kernel, Cert.AbdwClaims.frame_ideal,
  Cert.AbdwClaims.frame_reference, Cert.AbdxClaims.frame_kernel, Cert.AbdxClaims.frame_ideal,
  Cert.AbdxClaims.frame_reference, Cert.CdwClaims.frame_kernel, Cert.CdwClaims.frame_ideal,
  Cert.CdwClaims.frame_reference, Cert.CdxClaims.frame_kernel, Cert.CdxClaims.frame_ideal,
  Cert.CdxClaims.frame_reference, Cert.CuqdwClaims.frame_kernel, Cert.CuqdwClaims.frame_ideal,
  Cert.CuqdwClaims.frame_reference, Cert.CuqdxClaims.frame_kernel, Cert.CuqdxClaims.frame_ideal,
  Cert.CuqdxClaims.frame_reference, Cert.CukvdwClaims.frame_kernel, Cert.CukvdwClaims.frame_ideal,
  Cert.CukvdwClaims.frame_reference, Cert.CukvdxClaims.frame_kernel, Cert.CukvdxClaims.frame_ideal,
  Cert.CukvdxClaims.frame_reference, Cert.F1Claims.frame_kernel, Cert.F1Claims.frame_ideal,
  Cert.F1Claims.frame_reference, Cert.F2Claims.frame_kernel, Cert.F2Claims.frame_ideal,
  Cert.F2Claims.frame_reference, Cert.OClaims.frame_kernel, Cert.OClaims.frame_ideal, Cert.OClaims.frame_reference,
  Cert.QClaims.frame_kernel, Cert.QClaims.frame_ideal, Cert.QClaims.frame_reference, Cert.KClaims.frame_kernel,
  Cert.KClaims.frame_ideal, Cert.KClaims.frame_reference, Cert.AbClaims.frame_kernel, Cert.AbClaims.frame_ideal,
  Cert.AbClaims.frame_reference, Cert.CClaims.frame_kernel, Cert.CClaims.frame_ideal, Cert.CClaims.frame_reference,
  Cert.CkvClaims.frame_kernel, Cert.CkvClaims.frame_ideal, Cert.CkvClaims.frame_reference,
  Cert.MemFClaims.frame_kernel, Cert.MemFClaims.frame_ideal, Cert.MemFClaims.frame_reference,
  Cert.NormFClaims.frame_kernel, Cert.NormFClaims.frame_ideal, Cert.NormFClaims.frame_reference,
  Cert.MlafClaims.frame_kernel, Cert.MlafClaims.frame_ideal, Cert.MlafClaims.frame_ideal_pre,
  Cert.MlafClaims.frame_reference, Cert.MlafClaims.frame_reference_pre, Cert.MlabClaims.frame_kernel,
  Cert.MlabClaims.frame_ideal, Cert.MlabClaims.frame_ideal_pre, Cert.MlabClaims.frame_reference,
  Cert.MlabClaims.frame_reference_pre, trivial, Cert.MemClaims.algebraic, trivial, Cert.NormClaims.algebraic,
  trivial, Cert.F2dxClaims.algebraic, trivial, Cert.F2dwClaims.algebraic, trivial, Cert.F1dwClaims.algebraic,
  trivial, Cert.F1dxClaims.algebraic, trivial, Cert.OdxClaims.algebraic, trivial, Cert.OdwClaims.algebraic, trivial,
  Cert.QdwClaims.algebraic, trivial, Cert.QdxClaims.algebraic, trivial, Cert.KdwClaims.algebraic, trivial,
  Cert.KdxClaims.algebraic, trivial, Cert.VdxClaims.algebraic, trivial, Cert.AbdwClaims.algebraic, trivial,
  Cert.AbdxClaims.algebraic, trivial, Cert.CdwClaims.algebraic, trivial, Cert.CdxClaims.algebraic, trivial,
  Cert.CuqdwClaims.algebraic, trivial, Cert.CuqdxClaims.algebraic, trivial, Cert.CukvdwClaims.algebraic, trivial,
  Cert.CukvdxClaims.algebraic, trivial, Cert.F1Claims.algebraic, trivial, Cert.F2Claims.algebraic, trivial,
  Cert.OClaims.algebraic, trivial, Cert.QClaims.algebraic, trivial, Cert.KClaims.algebraic, trivial,
  Cert.AbClaims.algebraic, trivial, Cert.CClaims.algebraic, trivial, Cert.CkvClaims.algebraic, trivial,
  Cert.MemFClaims.algebraic, trivial, Cert.NormFClaims.algebraic, Cert.MlafClaims.preserves,
  Cert.MlafClaims.algebraic, Cert.MlabClaims.preserves, Cert.MlabClaims.algebraic⟩

end Cert.Proof

end
